-- ==== Defs.lean ====
def Pre_SumAdamFfn (m : (ℓ : Loc Cert.SumAdamFfn.nD Cert.SumAdamFfn.τ Cert.SumAdamFfn.sig) → Buf (Elt Bits) ℓ) : Prop :=
  True

def Pre_SumAdamFfnIdeal (m : (ℓ : Loc Cert.SumAdamFfnIdeal.nD Cert.SumAdamFfnIdeal.τ Cert.SumAdamFfnIdeal.sig) → Buf (Elt Ideal) ℓ) : Prop :=
  True

def Pre_SumAdamFfnRefIdeal (m : (ℓ : Loc Cert.SumAdamFfnRefIdeal.nD Cert.SumAdamFfnRefIdeal.τ Cert.SumAdamFfnRefIdeal.sig) → Buf (Elt Ideal) ℓ) : Prop :=
  True

def Pre_SumAdamSquare (m : (ℓ : Loc Cert.SumAdamSquare.nD Cert.SumAdamSquare.τ Cert.SumAdamSquare.sig) → Buf (Elt Bits) ℓ) : Prop :=
  True

def Pre_SumAdamSquareIdeal (m : (ℓ : Loc Cert.SumAdamSquareIdeal.nD Cert.SumAdamSquareIdeal.τ Cert.SumAdamSquareIdeal.sig) → Buf (Elt Ideal) ℓ) : Prop :=
  True

def Pre_SumAdamSquareRefIdeal (m : (ℓ : Loc Cert.SumAdamSquareRefIdeal.nD Cert.SumAdamSquareRefIdeal.τ Cert.SumAdamSquareRefIdeal.sig) → Buf (Elt Ideal) ℓ) : Prop :=
  True

def Pre_SumAdamWin (m : (ℓ : Loc Cert.SumAdamWin.nD Cert.SumAdamWin.τ Cert.SumAdamWin.sig) → Buf (Elt Bits) ℓ) : Prop :=
  True

def Pre_SumAdamWinIdeal (m : (ℓ : Loc Cert.SumAdamWinIdeal.nD Cert.SumAdamWinIdeal.τ Cert.SumAdamWinIdeal.sig) → Buf (Elt Ideal) ℓ) : Prop :=
  True

def Pre_SumAdamWinRefIdeal (m : (ℓ : Loc Cert.SumAdamWinRefIdeal.nD Cert.SumAdamWinRefIdeal.τ Cert.SumAdamWinRefIdeal.sig) → Buf (Elt Ideal) ℓ) : Prop :=
  True

def Pre_SmallAdam (m : (ℓ : Loc Cert.SmallAdam.nD Cert.SmallAdam.τ Cert.SmallAdam.sig) → Buf (Elt Bits) ℓ) : Prop :=
  True

def Pre_SmallAdamIdeal (m : (ℓ : Loc Cert.SmallAdamIdeal.nD Cert.SmallAdamIdeal.τ Cert.SmallAdamIdeal.sig) → Buf (Elt Ideal) ℓ) : Prop :=
  True

def Pre_SmallAdamRefIdeal (m : (ℓ : Loc Cert.SmallAdamRefIdeal.nD Cert.SmallAdamRefIdeal.τ Cert.SmallAdamRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradWdRefIdeal (m : (ℓ : Loc Cert.GradWdRefIdeal.nD Cert.GradWdRefIdeal.τ Cert.GradWdRefIdeal.sig) → Buf (Elt Ideal) ℓ) : Prop :=
  True

def Pre_GradWgRefIdeal (m : (ℓ : Loc Cert.GradWgRefIdeal.nD Cert.GradWgRefIdeal.τ Cert.GradWgRefIdeal.sig) → Buf (Elt Ideal) ℓ) : Prop :=
  True

def Pre_GradSquare (m : (ℓ : Loc Cert.GradSquare.nD Cert.GradSquare.τ Cert.GradSquare.sig) → Buf (Elt Bits) ℓ) : Prop :=
  True

def Pre_GradSquareIdeal (m : (ℓ : Loc Cert.GradSquareIdeal.nD Cert.GradSquareIdeal.τ Cert.GradSquareIdeal.sig) → Buf (Elt Ideal) ℓ) : Prop :=
  True

def Pre_GradSquareRefIdeal (m : (ℓ : Loc Cert.GradSquareRefIdeal.nD Cert.GradSquareRefIdeal.τ Cert.GradSquareRefIdeal.sig) → Buf (Elt Ideal) ℓ) : Prop :=
  True

def Pre_GradWin (m : (ℓ : Loc Cert.GradWin.nD Cert.GradWin.τ Cert.GradWin.sig) → Buf (Elt Bits) ℓ) : Prop :=
  True

def Pre_GradWinIdeal (m : (ℓ : Loc Cert.GradWinIdeal.nD Cert.GradWinIdeal.τ Cert.GradWinIdeal.sig) → Buf (Elt Ideal) ℓ) : Prop :=
  True

def Pre_GradWinRefIdeal (m : (ℓ : Loc Cert.GradWinRefIdeal.nD Cert.GradWinRefIdeal.τ Cert.GradWinRefIdeal.sig) → Buf (Elt Ideal) ℓ) : Prop :=
  True

def Pre_MmInBwd (m : (ℓ : Loc Cert.MmInBwd.nD Cert.MmInBwd.τ Cert.MmInBwd.sig) → Buf (Elt Bits) ℓ) : Prop :=
  True

def Pre_MmInBwdIdeal (m : (ℓ : Loc Cert.MmInBwdIdeal.nD Cert.MmInBwdIdeal.τ Cert.MmInBwdIdeal.sig) → Buf (Elt Ideal) ℓ) : Prop :=
  True

def Pre_MmInBwdRefIdeal (m : (ℓ : Loc Cert.MmInBwdRefIdeal.nD Cert.MmInBwdRefIdeal.τ Cert.MmInBwdRefIdeal.sig) → Buf (Elt Ideal) ℓ) : Prop :=
  True

def Pre_Lnmod (m : (ℓ : Loc Cert.Lnmod.nD Cert.Lnmod.τ Cert.Lnmod.sig) → Buf (Elt Bits) ℓ) : Prop :=
  True

def Pre_LnmodIdeal (m : (ℓ : Loc Cert.LnmodIdeal.nD Cert.LnmodIdeal.τ Cert.LnmodIdeal.sig) → Buf (Elt Ideal) ℓ) : Prop :=
  True

def Pre_LnmodRefIdeal (m : (ℓ : Loc Cert.LnmodRefIdeal.nD Cert.LnmodRefIdeal.τ Cert.LnmodRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnBwd2 (m : (ℓ : Loc Cert.FfnBwd2.nD Cert.FfnBwd2.τ Cert.FfnBwd2.sig) → Buf (Elt Bits) ℓ) : Prop :=
  True

def Pre_FfnBwd2Ideal (m : (ℓ : Loc Cert.FfnBwd2Ideal.nD Cert.FfnBwd2Ideal.τ Cert.FfnBwd2Ideal.sig) → Buf (Elt Ideal) ℓ) : Prop :=
  True

def Pre_FfnBwd2Ideal_finite_ffn [hPre_finite_ffn : Cert.Pre_finite_ffn.Facts] (m : (ℓ : Loc Cert.FfnBwd2Ideal.nD Cert.FfnBwd2Ideal.τ Cert.FfnBwd2Ideal.sig) → Buf (Elt Ideal) ℓ) : Prop :=
  ∀ c : Dev Cert.FfnBwd2Ideal.nD,
    (Cert.Pre_finite_ffn.fn (F := Ideal) (m ((c.tc : Thread Cert.FfnBwd2Ideal.nD Cert.FfnBwd2Ideal.τ).loc Cert.FfnBwd2Ideal.main_arg0)) (m ((c.tc : Thread Cert.FfnBwd2Ideal.nD Cert.FfnBwd2Ideal.τ).loc Cert.FfnBwd2Ideal.main_arg1)) (m ((c.tc : Thread Cert.FfnBwd2Ideal.nD Cert.FfnBwd2Ideal.τ).loc Cert.FfnBwd2Ideal.main_arg2)) (m ((c.tc : Thread Cert.FfnBwd2Ideal.nD Cert.FfnBwd2Ideal.τ).loc Cert.FfnBwd2Ideal.main_arg3)) (m ((c.tc : Thread Cert.FfnBwd2Ideal.nD Cert.FfnBwd2Ideal.τ).loc Cert.FfnBwd2Ideal.main_arg4)) (m ((c.tc : Thread Cert.FfnBwd2Ideal.nD Cert.FfnBwd2Ideal.τ).loc Cert.FfnBwd2Ideal.main_arg5)) (m ((c.tc : Thread Cert.FfnBwd2Ideal.nD Cert.FfnBwd2Ideal.τ).loc Cert.FfnBwd2Ideal.main_arg6)) (m ((c.tc : Thread Cert.FfnBwd2Ideal.nD Cert.FfnBwd2Ideal.τ).loc Cert.FfnBwd2Ideal.main_arg7)) (m ((c.tc : Thread Cert.FfnBwd2Ideal.nD Cert.FfnBwd2Ideal.τ).loc Cert.FfnBwd2Ideal.main_arg8))).1 = (fun _ => 1#1)
    ∧ (Cert.Pre_finite_ffn.fn (F := Ideal) (m ((c.tc : Thread Cert.FfnBwd2Ideal.nD Cert.FfnBwd2Ideal.τ).loc Cert.FfnBwd2Ideal.main_arg0)) (m ((c.tc : Thread Cert.FfnBwd2Ideal.nD Cert.FfnBwd2Ideal.τ).loc Cert.FfnBwd2Ideal.main_arg1)) (m ((c.tc : Thread Cert.FfnBwd2Ideal.nD Cert.FfnBwd2Ideal.τ).loc Cert.FfnBwd2Ideal.main_arg2)) (m ((c.tc : Thread Cert.FfnBwd2Ideal.nD Cert.FfnBwd2Ideal.τ).loc Cert.FfnBwd2Ideal.main_arg3)) (m ((c.tc : Thread Cert.FfnBwd2Ideal.nD Cert.FfnBwd2Ideal.τ).loc Cert.FfnBwd2Ideal.main_arg4)) (m ((c.tc : Thread Cert.FfnBwd2Ideal.nD Cert.FfnBwd2Ideal.τ).loc Cert.FfnBwd2Ideal.main_arg5)) (m ((c.tc : Thread Cert.FfnBwd2Ideal.nD Cert.FfnBwd2Ideal.τ).loc Cert.FfnBwd2Ideal.main_arg6)) (m ((c.tc : Thread Cert.FfnBwd2Ideal.nD Cert.FfnBwd2Ideal.τ).loc Cert.FfnBwd2Ideal.main_arg7)) (m ((c.tc : Thread Cert.FfnBwd2Ideal.nD Cert.FfnBwd2Ideal.τ).loc Cert.FfnBwd2Ideal.main_arg8))).2.1 = (fun _ => 1#1)
    ∧ (Cert.Pre_finite_ffn.fn (F := Ideal) (m ((c.tc : Thread Cert.FfnBwd2Ideal.nD Cert.FfnBwd2Ideal.τ).loc Cert.FfnBwd2Ideal.main_arg0)) (m ((c.tc : Thread Cert.FfnBwd2Ideal.nD Cert.FfnBwd2Ideal.τ).loc Cert.FfnBwd2Ideal.main_arg1)) (m ((c.tc : Thread Cert.FfnBwd2Ideal.nD Cert.FfnBwd2Ideal.τ).loc Cert.FfnBwd2Ideal.main_arg2)) (m ((c.tc : Thread Cert.FfnBwd2Ideal.nD Cert.FfnBwd2Ideal.τ).loc Cert.FfnBwd2Ideal.main_arg3)) (m ((c.tc : Thread Cert.FfnBwd2Ideal.nD Cert.FfnBwd2Ideal.τ).loc Cert.FfnBwd2Ideal.main_arg4)) (m ((c.tc : Thread Cert.FfnBwd2Ideal.nD Cert.FfnBwd2Ideal.τ).loc Cert.FfnBwd2Ideal.main_arg5)) (m ((c.tc : Thread Cert.FfnBwd2Ideal.nD Cert.FfnBwd2Ideal.τ).loc Cert.FfnBwd2Ideal.main_arg6)) (m ((c.tc : Thread Cert.FfnBwd2Ideal.nD Cert.FfnBwd2Ideal.τ).loc Cert.FfnBwd2Ideal.main_arg7)) (m ((c.tc : Thread Cert.FfnBwd2Ideal.nD Cert.FfnBwd2Ideal.τ).loc Cert.FfnBwd2Ideal.main_arg8))).2.2.1 = (fun _ => 1#1)
    ∧ (Cert.Pre_finite_ffn.fn (F := Ideal) (m ((c.tc : Thread Cert.FfnBwd2Ideal.nD Cert.FfnBwd2Ideal.τ).loc Cert.FfnBwd2Ideal.main_arg0)) (m ((c.tc : Thread Cert.FfnBwd2Ideal.nD Cert.FfnBwd2Ideal.τ).loc Cert.FfnBwd2Ideal.main_arg1)) (m ((c.tc : Thread Cert.FfnBwd2Ideal.nD Cert.FfnBwd2Ideal.τ).loc Cert.FfnBwd2Ideal.main_arg2)) (m ((c.tc : Thread Cert.FfnBwd2Ideal.nD Cert.FfnBwd2Ideal.τ).loc Cert.FfnBwd2Ideal.main_arg3)) (m ((c.tc : Thread Cert.FfnBwd2Ideal.nD Cert.FfnBwd2Ideal.τ).loc Cert.FfnBwd2Ideal.main_arg4)) (m ((c.tc : Thread Cert.FfnBwd2Ideal.nD Cert.FfnBwd2Ideal.τ).loc Cert.FfnBwd2Ideal.main_arg5)) (m ((c.tc : Thread Cert.FfnBwd2Ideal.nD Cert.FfnBwd2Ideal.τ).loc Cert.FfnBwd2Ideal.main_arg6)) (m ((c.tc : Thread Cert.FfnBwd2Ideal.nD Cert.FfnBwd2Ideal.τ).loc Cert.FfnBwd2Ideal.main_arg7)) (m ((c.tc : Thread Cert.FfnBwd2Ideal.nD Cert.FfnBwd2Ideal.τ).loc Cert.FfnBwd2Ideal.main_arg8))).2.2.2.1 = (fun _ => 1#1)
    ∧ (Cert.Pre_finite_ffn.fn (F := Ideal) (m ((c.tc : Thread Cert.FfnBwd2Ideal.nD Cert.FfnBwd2Ideal.τ).loc Cert.FfnBwd2Ideal.main_arg0)) (m ((c.tc : Thread Cert.FfnBwd2Ideal.nD Cert.FfnBwd2Ideal.τ).loc Cert.FfnBwd2Ideal.main_arg1)) (m ((c.tc : Thread Cert.FfnBwd2Ideal.nD Cert.FfnBwd2Ideal.τ).loc Cert.FfnBwd2Ideal.main_arg2)) (m ((c.tc : Thread Cert.FfnBwd2Ideal.nD Cert.FfnBwd2Ideal.τ).loc Cert.FfnBwd2Ideal.main_arg3)) (m ((c.tc : Thread Cert.FfnBwd2Ideal.nD Cert.FfnBwd2Ideal.τ).loc Cert.FfnBwd2Ideal.main_arg4)) (m ((c.tc : Thread Cert.FfnBwd2Ideal.nD Cert.FfnBwd2Ideal.τ).loc Cert.FfnBwd2Ideal.main_arg5)) (m ((c.tc : Thread Cert.FfnBwd2Ideal.nD Cert.FfnBwd2Ideal.τ).loc Cert.FfnBwd2Ideal.main_arg6)) (m ((c.tc : Thread Cert.FfnBwd2Ideal.nD Cert.FfnBwd2Ideal.τ).loc Cert.FfnBwd2Ideal.main_arg7)) (m ((c.tc : Thread Cert.FfnBwd2Ideal.nD Cert.FfnBwd2Ideal.τ).loc Cert.FfnBwd2Ideal.main_arg8))).2.2.2.2.1 = (fun _ => 1#1)
    ∧ (Cert.Pre_finite_ffn.fn (F := Ideal) (m ((c.tc : Thread Cert.FfnBwd2Ideal.nD Cert.FfnBwd2Ideal.τ).loc Cert.FfnBwd2Ideal.main_arg0)) (m ((c.tc : Thread Cert.FfnBwd2Ideal.nD Cert.FfnBwd2Ideal.τ).loc Cert.FfnBwd2Ideal.main_arg1)) (m ((c.tc : Thread Cert.FfnBwd2Ideal.nD Cert.FfnBwd2Ideal.τ).loc Cert.FfnBwd2Ideal.main_arg2)) (m ((c.tc : Thread Cert.FfnBwd2Ideal.nD Cert.FfnBwd2Ideal.τ).loc Cert.FfnBwd2Ideal.main_arg3)) (m ((c.tc : Thread Cert.FfnBwd2Ideal.nD Cert.FfnBwd2Ideal.τ).loc Cert.FfnBwd2Ideal.main_arg4)) (m ((c.tc : Thread Cert.FfnBwd2Ideal.nD Cert.FfnBwd2Ideal.τ).loc Cert.FfnBwd2Ideal.main_arg5)) (m ((c.tc : Thread Cert.FfnBwd2Ideal.nD Cert.FfnBwd2Ideal.τ).loc Cert.FfnBwd2Ideal.main_arg6)) (m ((c.tc : Thread Cert.FfnBwd2Ideal.nD Cert.FfnBwd2Ideal.τ).loc Cert.FfnBwd2Ideal.main_arg7)) (m ((c.tc : Thread Cert.FfnBwd2Ideal.nD Cert.FfnBwd2Ideal.τ).loc Cert.FfnBwd2Ideal.main_arg8))).2.2.2.2.2.1 = (fun _ => 1#1)
    ∧ (Cert.Pre_finite_ffn.fn (F := Ideal) (m ((c.tc : Thread Cert.FfnBwd2Ideal.nD Cert.FfnBwd2Ideal.τ).loc Cert.FfnBwd2Ideal.main_arg0)) (m ((c.tc : Thread Cert.FfnBwd2Ideal.nD Cert.FfnBwd2Ideal.τ).loc Cert.FfnBwd2Ideal.main_arg1)) (m ((c.tc : Thread Cert.FfnBwd2Ideal.nD Cert.FfnBwd2Ideal.τ).loc Cert.FfnBwd2Ideal.main_arg2)) (m ((c.tc : Thread Cert.FfnBwd2Ideal.nD Cert.FfnBwd2Ideal.τ).loc Cert.FfnBwd2Ideal.main_arg3)) (m ((c.tc : Thread Cert.FfnBwd2Ideal.nD Cert.FfnBwd2Ideal.τ).loc Cert.FfnBwd2Ideal.main_arg4)) (m ((c.tc : Thread Cert.FfnBwd2Ideal.nD Cert.FfnBwd2Ideal.τ).loc Cert.FfnBwd2Ideal.main_arg5)) (m ((c.tc : Thread Cert.FfnBwd2Ideal.nD Cert.FfnBwd2Ideal.τ).loc Cert.FfnBwd2Ideal.main_arg6)) (m ((c.tc : Thread Cert.FfnBwd2Ideal.nD Cert.FfnBwd2Ideal.τ).loc Cert.FfnBwd2Ideal.main_arg7)) (m ((c.tc : Thread Cert.FfnBwd2Ideal.nD Cert.FfnBwd2Ideal.τ).loc Cert.FfnBwd2Ideal.main_arg8))).2.2.2.2.2.2 = (fun _ => 1#1)

def Pre_FfnBwd2RefIdeal (m : (ℓ : Loc Cert.FfnBwd2RefIdeal.nD Cert.FfnBwd2RefIdeal.τ Cert.FfnBwd2RefIdeal.sig) → Buf (Elt Ideal) ℓ) : Prop :=
  True

def Pre_FfnBwd2RefIdeal_finite_ffn [hPre_finite_ffn : Cert.Pre_finite_ffn.Facts] (m : (ℓ : Loc Cert.FfnBwd2RefIdeal.nD Cert.FfnBwd2RefIdeal.τ Cert.FfnBwd2RefIdeal.sig) → Buf (Elt Ideal) ℓ) : Prop :=
  ∀ c : Dev Cert.FfnBwd2RefIdeal.nD,
    (Cert.Pre_finite_ffn.fn (F := Ideal) (m ((c.tc : Thread Cert.FfnBwd2RefIdeal.nD Cert.FfnBwd2RefIdeal.τ).loc Cert.FfnBwd2RefIdeal.main_arg0)) (m ((c.tc : Thread Cert.FfnBwd2RefIdeal.nD Cert.FfnBwd2RefIdeal.τ).loc Cert.FfnBwd2RefIdeal.main_arg1)) (m ((c.tc : Thread Cert.FfnBwd2RefIdeal.nD Cert.FfnBwd2RefIdeal.τ).loc Cert.FfnBwd2RefIdeal.main_arg2)) (m ((c.tc : Thread Cert.FfnBwd2RefIdeal.nD Cert.FfnBwd2RefIdeal.τ).loc Cert.FfnBwd2RefIdeal.main_arg3)) (m ((c.tc : Thread Cert.FfnBwd2RefIdeal.nD Cert.FfnBwd2RefIdeal.τ).loc Cert.FfnBwd2RefIdeal.main_arg4)) (m ((c.tc : Thread Cert.FfnBwd2RefIdeal.nD Cert.FfnBwd2RefIdeal.τ).loc Cert.FfnBwd2RefIdeal.main_arg5)) (m ((c.tc : Thread Cert.FfnBwd2RefIdeal.nD Cert.FfnBwd2RefIdeal.τ).loc Cert.FfnBwd2RefIdeal.main_arg6)) (m ((c.tc : Thread Cert.FfnBwd2RefIdeal.nD Cert.FfnBwd2RefIdeal.τ).loc Cert.FfnBwd2RefIdeal.main_arg7)) (m ((c.tc : Thread Cert.FfnBwd2RefIdeal.nD Cert.FfnBwd2RefIdeal.τ).loc Cert.FfnBwd2RefIdeal.main_arg8))).1 = (fun _ => 1#1)
    ∧ (Cert.Pre_finite_ffn.fn (F := Ideal) (m ((c.tc : Thread Cert.FfnBwd2RefIdeal.nD Cert.FfnBwd2RefIdeal.τ).loc Cert.FfnBwd2RefIdeal.main_arg0)) (m ((c.tc : Thread Cert.FfnBwd2RefIdeal.nD Cert.FfnBwd2RefIdeal.τ).loc Cert.FfnBwd2RefIdeal.main_arg1)) (m ((c.tc : Thread Cert.FfnBwd2RefIdeal.nD Cert.FfnBwd2RefIdeal.τ).loc Cert.FfnBwd2RefIdeal.main_arg2)) (m ((c.tc : Thread Cert.FfnBwd2RefIdeal.nD Cert.FfnBwd2RefIdeal.τ).loc Cert.FfnBwd2RefIdeal.main_arg3)) (m ((c.tc : Thread Cert.FfnBwd2RefIdeal.nD Cert.FfnBwd2RefIdeal.τ).loc Cert.FfnBwd2RefIdeal.main_arg4)) (m ((c.tc : Thread Cert.FfnBwd2RefIdeal.nD Cert.FfnBwd2RefIdeal.τ).loc Cert.FfnBwd2RefIdeal.main_arg5)) (m ((c.tc : Thread Cert.FfnBwd2RefIdeal.nD Cert.FfnBwd2RefIdeal.τ).loc Cert.FfnBwd2RefIdeal.main_arg6)) (m ((c.tc : Thread Cert.FfnBwd2RefIdeal.nD Cert.FfnBwd2RefIdeal.τ).loc Cert.FfnBwd2RefIdeal.main_arg7)) (m ((c.tc : Thread Cert.FfnBwd2RefIdeal.nD Cert.FfnBwd2RefIdeal.τ).loc Cert.FfnBwd2RefIdeal.main_arg8))).2.1 = (fun _ => 1#1)
    ∧ (Cert.Pre_finite_ffn.fn (F := Ideal) (m ((c.tc : Thread Cert.FfnBwd2RefIdeal.nD Cert.FfnBwd2RefIdeal.τ).loc Cert.FfnBwd2RefIdeal.main_arg0)) (m ((c.tc : Thread Cert.FfnBwd2RefIdeal.nD Cert.FfnBwd2RefIdeal.τ).loc Cert.FfnBwd2RefIdeal.main_arg1)) (m ((c.tc : Thread Cert.FfnBwd2RefIdeal.nD Cert.FfnBwd2RefIdeal.τ).loc Cert.FfnBwd2RefIdeal.main_arg2)) (m ((c.tc : Thread Cert.FfnBwd2RefIdeal.nD Cert.FfnBwd2RefIdeal.τ).loc Cert.FfnBwd2RefIdeal.main_arg3)) (m ((c.tc : Thread Cert.FfnBwd2RefIdeal.nD Cert.FfnBwd2RefIdeal.τ).loc Cert.FfnBwd2RefIdeal.main_arg4)) (m ((c.tc : Thread Cert.FfnBwd2RefIdeal.nD Cert.FfnBwd2RefIdeal.τ).loc Cert.FfnBwd2RefIdeal.main_arg5)) (m ((c.tc : Thread Cert.FfnBwd2RefIdeal.nD Cert.FfnBwd2RefIdeal.τ).loc Cert.FfnBwd2RefIdeal.main_arg6)) (m ((c.tc : Thread Cert.FfnBwd2RefIdeal.nD Cert.FfnBwd2RefIdeal.τ).loc Cert.FfnBwd2RefIdeal.main_arg7)) (m ((c.tc : Thread Cert.FfnBwd2RefIdeal.nD Cert.FfnBwd2RefIdeal.τ).loc Cert.FfnBwd2RefIdeal.main_arg8))).2.2.1 = (fun _ => 1#1)
    ∧ (Cert.Pre_finite_ffn.fn (F := Ideal) (m ((c.tc : Thread Cert.FfnBwd2RefIdeal.nD Cert.FfnBwd2RefIdeal.τ).loc Cert.FfnBwd2RefIdeal.main_arg0)) (m ((c.tc : Thread Cert.FfnBwd2RefIdeal.nD Cert.FfnBwd2RefIdeal.τ).loc Cert.FfnBwd2RefIdeal.main_arg1)) (m ((c.tc : Thread Cert.FfnBwd2RefIdeal.nD Cert.FfnBwd2RefIdeal.τ).loc Cert.FfnBwd2RefIdeal.main_arg2)) (m ((c.tc : Thread Cert.FfnBwd2RefIdeal.nD Cert.FfnBwd2RefIdeal.τ).loc Cert.FfnBwd2RefIdeal.main_arg3)) (m ((c.tc : Thread Cert.FfnBwd2RefIdeal.nD Cert.FfnBwd2RefIdeal.τ).loc Cert.FfnBwd2RefIdeal.main_arg4)) (m ((c.tc : Thread Cert.FfnBwd2RefIdeal.nD Cert.FfnBwd2RefIdeal.τ).loc Cert.FfnBwd2RefIdeal.main_arg5)) (m ((c.tc : Thread Cert.FfnBwd2RefIdeal.nD Cert.FfnBwd2RefIdeal.τ).loc Cert.FfnBwd2RefIdeal.main_arg6)) (m ((c.tc : Thread Cert.FfnBwd2RefIdeal.nD Cert.FfnBwd2RefIdeal.τ).loc Cert.FfnBwd2RefIdeal.main_arg7)) (m ((c.tc : Thread Cert.FfnBwd2RefIdeal.nD Cert.FfnBwd2RefIdeal.τ).loc Cert.FfnBwd2RefIdeal.main_arg8))).2.2.2.1 = (fun _ => 1#1)
    ∧ (Cert.Pre_finite_ffn.fn (F := Ideal) (m ((c.tc : Thread Cert.FfnBwd2RefIdeal.nD Cert.FfnBwd2RefIdeal.τ).loc Cert.FfnBwd2RefIdeal.main_arg0)) (m ((c.tc : Thread Cert.FfnBwd2RefIdeal.nD Cert.FfnBwd2RefIdeal.τ).loc Cert.FfnBwd2RefIdeal.main_arg1)) (m ((c.tc : Thread Cert.FfnBwd2RefIdeal.nD Cert.FfnBwd2RefIdeal.τ).loc Cert.FfnBwd2RefIdeal.main_arg2)) (m ((c.tc : Thread Cert.FfnBwd2RefIdeal.nD Cert.FfnBwd2RefIdeal.τ).loc Cert.FfnBwd2RefIdeal.main_arg3)) (m ((c.tc : Thread Cert.FfnBwd2RefIdeal.nD Cert.FfnBwd2RefIdeal.τ).loc Cert.FfnBwd2RefIdeal.main_arg4)) (m ((c.tc : Thread Cert.FfnBwd2RefIdeal.nD Cert.FfnBwd2RefIdeal.τ).loc Cert.FfnBwd2RefIdeal.main_arg5)) (m ((c.tc : Thread Cert.FfnBwd2RefIdeal.nD Cert.FfnBwd2RefIdeal.τ).loc Cert.FfnBwd2RefIdeal.main_arg6)) (m ((c.tc : Thread Cert.FfnBwd2RefIdeal.nD Cert.FfnBwd2RefIdeal.τ).loc Cert.FfnBwd2RefIdeal.main_arg7)) (m ((c.tc : Thread Cert.FfnBwd2RefIdeal.nD Cert.FfnBwd2RefIdeal.τ).loc Cert.FfnBwd2RefIdeal.main_arg8))).2.2.2.2.1 = (fun _ => 1#1)
    ∧ (Cert.Pre_finite_ffn.fn (F := Ideal) (m ((c.tc : Thread Cert.FfnBwd2RefIdeal.nD Cert.FfnBwd2RefIdeal.τ).loc Cert.FfnBwd2RefIdeal.main_arg0)) (m ((c.tc : Thread Cert.FfnBwd2RefIdeal.nD Cert.FfnBwd2RefIdeal.τ).loc Cert.FfnBwd2RefIdeal.main_arg1)) (m ((c.tc : Thread Cert.FfnBwd2RefIdeal.nD Cert.FfnBwd2RefIdeal.τ).loc Cert.FfnBwd2RefIdeal.main_arg2)) (m ((c.tc : Thread Cert.FfnBwd2RefIdeal.nD Cert.FfnBwd2RefIdeal.τ).loc Cert.FfnBwd2RefIdeal.main_arg3)) (m ((c.tc : Thread Cert.FfnBwd2RefIdeal.nD Cert.FfnBwd2RefIdeal.τ).loc Cert.FfnBwd2RefIdeal.main_arg4)) (m ((c.tc : Thread Cert.FfnBwd2RefIdeal.nD Cert.FfnBwd2RefIdeal.τ).loc Cert.FfnBwd2RefIdeal.main_arg5)) (m ((c.tc : Thread Cert.FfnBwd2RefIdeal.nD Cert.FfnBwd2RefIdeal.τ).loc Cert.FfnBwd2RefIdeal.main_arg6)) (m ((c.tc : Thread Cert.FfnBwd2RefIdeal.nD Cert.FfnBwd2RefIdeal.τ).loc Cert.FfnBwd2RefIdeal.main_arg7)) (m ((c.tc : Thread Cert.FfnBwd2RefIdeal.nD Cert.FfnBwd2RefIdeal.τ).loc Cert.FfnBwd2RefIdeal.main_arg8))).2.2.2.2.2.1 = (fun _ => 1#1)
    ∧ (Cert.Pre_finite_ffn.fn (F := Ideal) (m ((c.tc : Thread Cert.FfnBwd2RefIdeal.nD Cert.FfnBwd2RefIdeal.τ).loc Cert.FfnBwd2RefIdeal.main_arg0)) (m ((c.tc : Thread Cert.FfnBwd2RefIdeal.nD Cert.FfnBwd2RefIdeal.τ).loc Cert.FfnBwd2RefIdeal.main_arg1)) (m ((c.tc : Thread Cert.FfnBwd2RefIdeal.nD Cert.FfnBwd2RefIdeal.τ).loc Cert.FfnBwd2RefIdeal.main_arg2)) (m ((c.tc : Thread Cert.FfnBwd2RefIdeal.nD Cert.FfnBwd2RefIdeal.τ).loc Cert.FfnBwd2RefIdeal.main_arg3)) (m ((c.tc : Thread Cert.FfnBwd2RefIdeal.nD Cert.FfnBwd2RefIdeal.τ).loc Cert.FfnBwd2RefIdeal.main_arg4)) (m ((c.tc : Thread Cert.FfnBwd2RefIdeal.nD Cert.FfnBwd2RefIdeal.τ).loc Cert.FfnBwd2RefIdeal.main_arg5)) (m ((c.tc : Thread Cert.FfnBwd2RefIdeal.nD Cert.FfnBwd2RefIdeal.τ).loc Cert.FfnBwd2RefIdeal.main_arg6)) (m ((c.tc : Thread Cert.FfnBwd2RefIdeal.nD Cert.FfnBwd2RefIdeal.τ).loc Cert.FfnBwd2RefIdeal.main_arg7)) (m ((c.tc : Thread Cert.FfnBwd2RefIdeal.nD Cert.FfnBwd2RefIdeal.τ).loc Cert.FfnBwd2RefIdeal.main_arg8))).2.2.2.2.2.2 = (fun _ => 1#1)

def Pre_LnmodBwd (m : (ℓ : Loc Cert.LnmodBwd.nD Cert.LnmodBwd.τ Cert.LnmodBwd.sig) → Buf (Elt Bits) ℓ) : Prop :=
  True

def Pre_LnmodBwdIdeal (m : (ℓ : Loc Cert.LnmodBwdIdeal.nD Cert.LnmodBwdIdeal.τ Cert.LnmodBwdIdeal.sig) → Buf (Elt Ideal) ℓ) : Prop :=
  True

def Pre_LnmodBwdIdeal_finite_norm [hPre_finite_norm : Cert.Pre_finite_norm.Facts] (m : (ℓ : Loc Cert.LnmodBwdIdeal.nD Cert.LnmodBwdIdeal.τ Cert.LnmodBwdIdeal.sig) → Buf (Elt Ideal) ℓ) : Prop :=
  ∀ c : Dev Cert.LnmodBwdIdeal.nD,
    (Cert.Pre_finite_norm.fn (F := Ideal) (m ((c.tc : Thread Cert.LnmodBwdIdeal.nD Cert.LnmodBwdIdeal.τ).loc Cert.LnmodBwdIdeal.main_arg0)) (m ((c.tc : Thread Cert.LnmodBwdIdeal.nD Cert.LnmodBwdIdeal.τ).loc Cert.LnmodBwdIdeal.main_arg1)) (m ((c.tc : Thread Cert.LnmodBwdIdeal.nD Cert.LnmodBwdIdeal.τ).loc Cert.LnmodBwdIdeal.main_arg2)) (m ((c.tc : Thread Cert.LnmodBwdIdeal.nD Cert.LnmodBwdIdeal.τ).loc Cert.LnmodBwdIdeal.main_arg3)) (m ((c.tc : Thread Cert.LnmodBwdIdeal.nD Cert.LnmodBwdIdeal.τ).loc Cert.LnmodBwdIdeal.main_arg4)) (m ((c.tc : Thread Cert.LnmodBwdIdeal.nD Cert.LnmodBwdIdeal.τ).loc Cert.LnmodBwdIdeal.main_arg5))).1 = (fun _ => 1#1)
    ∧ (Cert.Pre_finite_norm.fn (F := Ideal) (m ((c.tc : Thread Cert.LnmodBwdIdeal.nD Cert.LnmodBwdIdeal.τ).loc Cert.LnmodBwdIdeal.main_arg0)) (m ((c.tc : Thread Cert.LnmodBwdIdeal.nD Cert.LnmodBwdIdeal.τ).loc Cert.LnmodBwdIdeal.main_arg1)) (m ((c.tc : Thread Cert.LnmodBwdIdeal.nD Cert.LnmodBwdIdeal.τ).loc Cert.LnmodBwdIdeal.main_arg2)) (m ((c.tc : Thread Cert.LnmodBwdIdeal.nD Cert.LnmodBwdIdeal.τ).loc Cert.LnmodBwdIdeal.main_arg3)) (m ((c.tc : Thread Cert.LnmodBwdIdeal.nD Cert.LnmodBwdIdeal.τ).loc Cert.LnmodBwdIdeal.main_arg4)) (m ((c.tc : Thread Cert.LnmodBwdIdeal.nD Cert.LnmodBwdIdeal.τ).loc Cert.LnmodBwdIdeal.main_arg5))).2.1 = (fun _ => 1#1)
    ∧ (Cert.Pre_finite_norm.fn (F := Ideal) (m ((c.tc : Thread Cert.LnmodBwdIdeal.nD Cert.LnmodBwdIdeal.τ).loc Cert.LnmodBwdIdeal.main_arg0)) (m ((c.tc : Thread Cert.LnmodBwdIdeal.nD Cert.LnmodBwdIdeal.τ).loc Cert.LnmodBwdIdeal.main_arg1)) (m ((c.tc : Thread Cert.LnmodBwdIdeal.nD Cert.LnmodBwdIdeal.τ).loc Cert.LnmodBwdIdeal.main_arg2)) (m ((c.tc : Thread Cert.LnmodBwdIdeal.nD Cert.LnmodBwdIdeal.τ).loc Cert.LnmodBwdIdeal.main_arg3)) (m ((c.tc : Thread Cert.LnmodBwdIdeal.nD Cert.LnmodBwdIdeal.τ).loc Cert.LnmodBwdIdeal.main_arg4)) (m ((c.tc : Thread Cert.LnmodBwdIdeal.nD Cert.LnmodBwdIdeal.τ).loc Cert.LnmodBwdIdeal.main_arg5))).2.2.1 = (fun _ => 1#1)
    ∧ (Cert.Pre_finite_norm.fn (F := Ideal) (m ((c.tc : Thread Cert.LnmodBwdIdeal.nD Cert.LnmodBwdIdeal.τ).loc Cert.LnmodBwdIdeal.main_arg0)) (m ((c.tc : Thread Cert.LnmodBwdIdeal.nD Cert.LnmodBwdIdeal.τ).loc Cert.LnmodBwdIdeal.main_arg1)) (m ((c.tc : Thread Cert.LnmodBwdIdeal.nD Cert.LnmodBwdIdeal.τ).loc Cert.LnmodBwdIdeal.main_arg2)) (m ((c.tc : Thread Cert.LnmodBwdIdeal.nD Cert.LnmodBwdIdeal.τ).loc Cert.LnmodBwdIdeal.main_arg3)) (m ((c.tc : Thread Cert.LnmodBwdIdeal.nD Cert.LnmodBwdIdeal.τ).loc Cert.LnmodBwdIdeal.main_arg4)) (m ((c.tc : Thread Cert.LnmodBwdIdeal.nD Cert.LnmodBwdIdeal.τ).loc Cert.LnmodBwdIdeal.main_arg5))).2.2.2 = (fun _ => 1#1)

def Pre_LnmodBwdRefIdeal (m : (ℓ : Loc Cert.LnmodBwdRefIdeal.nD Cert.LnmodBwdRefIdeal.τ Cert.LnmodBwdRefIdeal.sig) → Buf (Elt Ideal) ℓ) : Prop :=
  True

def Pre_LnmodBwdRefIdeal_finite_norm [hPre_finite_norm : Cert.Pre_finite_norm.Facts] (m : (ℓ : Loc Cert.LnmodBwdRefIdeal.nD Cert.LnmodBwdRefIdeal.τ Cert.LnmodBwdRefIdeal.sig) → Buf (Elt Ideal) ℓ) : Prop :=
  ∀ c : Dev Cert.LnmodBwdRefIdeal.nD,
    (Cert.Pre_finite_norm.fn (F := Ideal) (m ((c.tc : Thread Cert.LnmodBwdRefIdeal.nD Cert.LnmodBwdRefIdeal.τ).loc Cert.LnmodBwdRefIdeal.main_arg0)) (m ((c.tc : Thread Cert.LnmodBwdRefIdeal.nD Cert.LnmodBwdRefIdeal.τ).loc Cert.LnmodBwdRefIdeal.main_arg1)) (m ((c.tc : Thread Cert.LnmodBwdRefIdeal.nD Cert.LnmodBwdRefIdeal.τ).loc Cert.LnmodBwdRefIdeal.main_arg2)) (m ((c.tc : Thread Cert.LnmodBwdRefIdeal.nD Cert.LnmodBwdRefIdeal.τ).loc Cert.LnmodBwdRefIdeal.main_arg3)) (m ((c.tc : Thread Cert.LnmodBwdRefIdeal.nD Cert.LnmodBwdRefIdeal.τ).loc Cert.LnmodBwdRefIdeal.main_arg4)) (m ((c.tc : Thread Cert.LnmodBwdRefIdeal.nD Cert.LnmodBwdRefIdeal.τ).loc Cert.LnmodBwdRefIdeal.main_arg5))).1 = (fun _ => 1#1)
    ∧ (Cert.Pre_finite_norm.fn (F := Ideal) (m ((c.tc : Thread Cert.LnmodBwdRefIdeal.nD Cert.LnmodBwdRefIdeal.τ).loc Cert.LnmodBwdRefIdeal.main_arg0)) (m ((c.tc : Thread Cert.LnmodBwdRefIdeal.nD Cert.LnmodBwdRefIdeal.τ).loc Cert.LnmodBwdRefIdeal.main_arg1)) (m ((c.tc : Thread Cert.LnmodBwdRefIdeal.nD Cert.LnmodBwdRefIdeal.τ).loc Cert.LnmodBwdRefIdeal.main_arg2)) (m ((c.tc : Thread Cert.LnmodBwdRefIdeal.nD Cert.LnmodBwdRefIdeal.τ).loc Cert.LnmodBwdRefIdeal.main_arg3)) (m ((c.tc : Thread Cert.LnmodBwdRefIdeal.nD Cert.LnmodBwdRefIdeal.τ).loc Cert.LnmodBwdRefIdeal.main_arg4)) (m ((c.tc : Thread Cert.LnmodBwdRefIdeal.nD Cert.LnmodBwdRefIdeal.τ).loc Cert.LnmodBwdRefIdeal.main_arg5))).2.1 = (fun _ => 1#1)
    ∧ (Cert.Pre_finite_norm.fn (F := Ideal) (m ((c.tc : Thread Cert.LnmodBwdRefIdeal.nD Cert.LnmodBwdRefIdeal.τ).loc Cert.LnmodBwdRefIdeal.main_arg0)) (m ((c.tc : Thread Cert.LnmodBwdRefIdeal.nD Cert.LnmodBwdRefIdeal.τ).loc Cert.LnmodBwdRefIdeal.main_arg1)) (m ((c.tc : Thread Cert.LnmodBwdRefIdeal.nD Cert.LnmodBwdRefIdeal.τ).loc Cert.LnmodBwdRefIdeal.main_arg2)) (m ((c.tc : Thread Cert.LnmodBwdRefIdeal.nD Cert.LnmodBwdRefIdeal.τ).loc Cert.LnmodBwdRefIdeal.main_arg3)) (m ((c.tc : Thread Cert.LnmodBwdRefIdeal.nD Cert.LnmodBwdRefIdeal.τ).loc Cert.LnmodBwdRefIdeal.main_arg4)) (m ((c.tc : Thread Cert.LnmodBwdRefIdeal.nD Cert.LnmodBwdRefIdeal.τ).loc Cert.LnmodBwdRefIdeal.main_arg5))).2.2.1 = (fun _ => 1#1)
    ∧ (Cert.Pre_finite_norm.fn (F := Ideal) (m ((c.tc : Thread Cert.LnmodBwdRefIdeal.nD Cert.LnmodBwdRefIdeal.τ).loc Cert.LnmodBwdRefIdeal.main_arg0)) (m ((c.tc : Thread Cert.LnmodBwdRefIdeal.nD Cert.LnmodBwdRefIdeal.τ).loc Cert.LnmodBwdRefIdeal.main_arg1)) (m ((c.tc : Thread Cert.LnmodBwdRefIdeal.nD Cert.LnmodBwdRefIdeal.τ).loc Cert.LnmodBwdRefIdeal.main_arg2)) (m ((c.tc : Thread Cert.LnmodBwdRefIdeal.nD Cert.LnmodBwdRefIdeal.τ).loc Cert.LnmodBwdRefIdeal.main_arg3)) (m ((c.tc : Thread Cert.LnmodBwdRefIdeal.nD Cert.LnmodBwdRefIdeal.τ).loc Cert.LnmodBwdRefIdeal.main_arg4)) (m ((c.tc : Thread Cert.LnmodBwdRefIdeal.nD Cert.LnmodBwdRefIdeal.τ).loc Cert.LnmodBwdRefIdeal.main_arg5))).2.2.2 = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def quiescent_SumAdamFfn [hSumAdamFfn : Cert.SumAdamFfn.Facts] : Prop :=
  ∀ (m : (ℓ : Loc Cert.SumAdamFfn.nD Cert.SumAdamFfn.τ Cert.SumAdamFfn.sig) → Buf (Elt Bits) ℓ) (g : Dev Cert.SumAdamFfn.nD → PrngReg), Pre_SumAdamFfn m →
    θ_run (Cert.SumAdamFfn.defs (F := Bits)) (onTc (τ := Cert.SumAdamFfn.τ) (Cert.SumAdamFfn.main (F := Bits))) ⟨m, fun _ => 0, g⟩ (fun r => (∀ c : Dev Cert.SumAdamFfn.nD,
      r.2.mem ((c.tc : Thread Cert.SumAdamFfn.nD Cert.SumAdamFfn.τ).loc Cert.SumAdamFfn.main_arg0) = m ((c.tc : Thread Cert.SumAdamFfn.nD Cert.SumAdamFfn.τ).loc Cert.SumAdamFfn.main_arg0)
      ∧ r.2.mem ((c.tc : Thread Cert.SumAdamFfn.nD Cert.SumAdamFfn.τ).loc Cert.SumAdamFfn.main_arg1) = m ((c.tc : Thread Cert.SumAdamFfn.nD Cert.SumAdamFfn.τ).loc Cert.SumAdamFfn.main_arg1)
      ∧ r.2.mem ((c.tc : Thread Cert.SumAdamFfn.nD Cert.SumAdamFfn.τ).loc Cert.SumAdamFfn.main_arg2) = m ((c.tc : Thread Cert.SumAdamFfn.nD Cert.SumAdamFfn.τ).loc Cert.SumAdamFfn.main_arg2)
      ∧ r.2.mem ((c.tc : Thread Cert.SumAdamFfn.nD Cert.SumAdamFfn.τ).loc Cert.SumAdamFfn.main_arg3) = m ((c.tc : Thread Cert.SumAdamFfn.nD Cert.SumAdamFfn.τ).loc Cert.SumAdamFfn.main_arg3)
      ∧ r.2.mem ((c.tc : Thread Cert.SumAdamFfn.nD Cert.SumAdamFfn.τ).loc Cert.SumAdamFfn.main_arg4) = m ((c.tc : Thread Cert.SumAdamFfn.nD Cert.SumAdamFfn.τ).loc Cert.SumAdamFfn.main_arg4))
      ∧ r.2.sem = fun _ => 0)

def quiescent_SumAdamFfnIdeal [hSumAdamFfnIdeal : Cert.SumAdamFfnIdeal.Facts] : Prop :=
  ∀ (m : (ℓ : Loc Cert.SumAdamFfnIdeal.nD Cert.SumAdamFfnIdeal.τ Cert.SumAdamFfnIdeal.sig) → Buf (Elt Ideal) ℓ) (g : Dev Cert.SumAdamFfnIdeal.nD → PrngReg), Pre_SumAdamFfnIdeal m →
    θ_run (Cert.SumAdamFfnIdeal.defs (F := Ideal)) (onTc (τ := Cert.SumAdamFfnIdeal.τ) (Cert.SumAdamFfnIdeal.main (F := Ideal))) ⟨m, fun _ => 0, g⟩ (fun r => (∀ c : Dev Cert.SumAdamFfnIdeal.nD,
      r.2.mem ((c.tc : Thread Cert.SumAdamFfnIdeal.nD Cert.SumAdamFfnIdeal.τ).loc Cert.SumAdamFfnIdeal.main_arg0) = m ((c.tc : Thread Cert.SumAdamFfnIdeal.nD Cert.SumAdamFfnIdeal.τ).loc Cert.SumAdamFfnIdeal.main_arg0)
      ∧ r.2.mem ((c.tc : Thread Cert.SumAdamFfnIdeal.nD Cert.SumAdamFfnIdeal.τ).loc Cert.SumAdamFfnIdeal.main_arg1) = m ((c.tc : Thread Cert.SumAdamFfnIdeal.nD Cert.SumAdamFfnIdeal.τ).loc Cert.SumAdamFfnIdeal.main_arg1)
      ∧ r.2.mem ((c.tc : Thread Cert.SumAdamFfnIdeal.nD Cert.SumAdamFfnIdeal.τ).loc Cert.SumAdamFfnIdeal.main_arg2) = m ((c.tc : Thread Cert.SumAdamFfnIdeal.nD Cert.SumAdamFfnIdeal.τ).loc Cert.SumAdamFfnIdeal.main_arg2)
      ∧ r.2.mem ((c.tc : Thread Cert.SumAdamFfnIdeal.nD Cert.SumAdamFfnIdeal.τ).loc Cert.SumAdamFfnIdeal.main_arg3) = m ((c.tc : Thread Cert.SumAdamFfnIdeal.nD Cert.SumAdamFfnIdeal.τ).loc Cert.SumAdamFfnIdeal.main_arg3)
      ∧ r.2.mem ((c.tc : Thread Cert.SumAdamFfnIdeal.nD Cert.SumAdamFfnIdeal.τ).loc Cert.SumAdamFfnIdeal.main_arg4) = m ((c.tc : Thread Cert.SumAdamFfnIdeal.nD Cert.SumAdamFfnIdeal.τ).loc Cert.SumAdamFfnIdeal.main_arg4))
      ∧ r.2.sem = fun _ => 0)

def quiescent_SumAdamFfnRefIdeal [hSumAdamFfnRefIdeal : Cert.SumAdamFfnRefIdeal.Facts] : Prop :=
  ∀ (m : (ℓ : Loc Cert.SumAdamFfnRefIdeal.nD Cert.SumAdamFfnRefIdeal.τ Cert.SumAdamFfnRefIdeal.sig) → Buf (Elt Ideal) ℓ) (g : Dev Cert.SumAdamFfnRefIdeal.nD → PrngReg), Pre_SumAdamFfnRefIdeal m →
    θ_run (Cert.SumAdamFfnRefIdeal.defs (F := Ideal)) (onTc (τ := Cert.SumAdamFfnRefIdeal.τ) (Cert.SumAdamFfnRefIdeal.main (F := Ideal))) ⟨m, fun _ => 0, g⟩ (fun r => (∀ c : Dev Cert.SumAdamFfnRefIdeal.nD,
      r.2.mem ((c.tc : Thread Cert.SumAdamFfnRefIdeal.nD Cert.SumAdamFfnRefIdeal.τ).loc Cert.SumAdamFfnRefIdeal.main_arg0) = m ((c.tc : Thread Cert.SumAdamFfnRefIdeal.nD Cert.SumAdamFfnRefIdeal.τ).loc Cert.SumAdamFfnRefIdeal.main_arg0)
      ∧ r.2.mem ((c.tc : Thread Cert.SumAdamFfnRefIdeal.nD Cert.SumAdamFfnRefIdeal.τ).loc Cert.SumAdamFfnRefIdeal.main_arg1) = m ((c.tc : Thread Cert.SumAdamFfnRefIdeal.nD Cert.SumAdamFfnRefIdeal.τ).loc Cert.SumAdamFfnRefIdeal.main_arg1)
      ∧ r.2.mem ((c.tc : Thread Cert.SumAdamFfnRefIdeal.nD Cert.SumAdamFfnRefIdeal.τ).loc Cert.SumAdamFfnRefIdeal.main_arg2) = m ((c.tc : Thread Cert.SumAdamFfnRefIdeal.nD Cert.SumAdamFfnRefIdeal.τ).loc Cert.SumAdamFfnRefIdeal.main_arg2)
      ∧ r.2.mem ((c.tc : Thread Cert.SumAdamFfnRefIdeal.nD Cert.SumAdamFfnRefIdeal.τ).loc Cert.SumAdamFfnRefIdeal.main_arg3) = m ((c.tc : Thread Cert.SumAdamFfnRefIdeal.nD Cert.SumAdamFfnRefIdeal.τ).loc Cert.SumAdamFfnRefIdeal.main_arg3)
      ∧ r.2.mem ((c.tc : Thread Cert.SumAdamFfnRefIdeal.nD Cert.SumAdamFfnRefIdeal.τ).loc Cert.SumAdamFfnRefIdeal.main_arg4) = m ((c.tc : Thread Cert.SumAdamFfnRefIdeal.nD Cert.SumAdamFfnRefIdeal.τ).loc Cert.SumAdamFfnRefIdeal.main_arg4))
      ∧ r.2.sem = fun _ => 0)

def quiescent_SumAdamSquare [hSumAdamSquare : Cert.SumAdamSquare.Facts] : Prop :=
  ∀ (m : (ℓ : Loc Cert.SumAdamSquare.nD Cert.SumAdamSquare.τ Cert.SumAdamSquare.sig) → Buf (Elt Bits) ℓ) (g : Dev Cert.SumAdamSquare.nD → PrngReg), Pre_SumAdamSquare m →
    θ_run (Cert.SumAdamSquare.defs (F := Bits)) (onTc (τ := Cert.SumAdamSquare.τ) (Cert.SumAdamSquare.main (F := Bits))) ⟨m, fun _ => 0, g⟩ (fun r => (∀ c : Dev Cert.SumAdamSquare.nD,
      r.2.mem ((c.tc : Thread Cert.SumAdamSquare.nD Cert.SumAdamSquare.τ).loc Cert.SumAdamSquare.main_arg0) = m ((c.tc : Thread Cert.SumAdamSquare.nD Cert.SumAdamSquare.τ).loc Cert.SumAdamSquare.main_arg0)
      ∧ r.2.mem ((c.tc : Thread Cert.SumAdamSquare.nD Cert.SumAdamSquare.τ).loc Cert.SumAdamSquare.main_arg1) = m ((c.tc : Thread Cert.SumAdamSquare.nD Cert.SumAdamSquare.τ).loc Cert.SumAdamSquare.main_arg1)
      ∧ r.2.mem ((c.tc : Thread Cert.SumAdamSquare.nD Cert.SumAdamSquare.τ).loc Cert.SumAdamSquare.main_arg2) = m ((c.tc : Thread Cert.SumAdamSquare.nD Cert.SumAdamSquare.τ).loc Cert.SumAdamSquare.main_arg2)
      ∧ r.2.mem ((c.tc : Thread Cert.SumAdamSquare.nD Cert.SumAdamSquare.τ).loc Cert.SumAdamSquare.main_arg3) = m ((c.tc : Thread Cert.SumAdamSquare.nD Cert.SumAdamSquare.τ).loc Cert.SumAdamSquare.main_arg3)
      ∧ r.2.mem ((c.tc : Thread Cert.SumAdamSquare.nD Cert.SumAdamSquare.τ).loc Cert.SumAdamSquare.main_arg4) = m ((c.tc : Thread Cert.SumAdamSquare.nD Cert.SumAdamSquare.τ).loc Cert.SumAdamSquare.main_arg4))
      ∧ r.2.sem = fun _ => 0)

def quiescent_SumAdamSquareIdeal [hSumAdamSquareIdeal : Cert.SumAdamSquareIdeal.Facts] : Prop :=
  ∀ (m : (ℓ : Loc Cert.SumAdamSquareIdeal.nD Cert.SumAdamSquareIdeal.τ Cert.SumAdamSquareIdeal.sig) → Buf (Elt Ideal) ℓ) (g : Dev Cert.SumAdamSquareIdeal.nD → PrngReg), Pre_SumAdamSquareIdeal m →
    θ_run (Cert.SumAdamSquareIdeal.defs (F := Ideal)) (onTc (τ := Cert.SumAdamSquareIdeal.τ) (Cert.SumAdamSquareIdeal.main (F := Ideal))) ⟨m, fun _ => 0, g⟩ (fun r => (∀ c : Dev Cert.SumAdamSquareIdeal.nD,
      r.2.mem ((c.tc : Thread Cert.SumAdamSquareIdeal.nD Cert.SumAdamSquareIdeal.τ).loc Cert.SumAdamSquareIdeal.main_arg0) = m ((c.tc : Thread Cert.SumAdamSquareIdeal.nD Cert.SumAdamSquareIdeal.τ).loc Cert.SumAdamSquareIdeal.main_arg0)
      ∧ r.2.mem ((c.tc : Thread Cert.SumAdamSquareIdeal.nD Cert.SumAdamSquareIdeal.τ).loc Cert.SumAdamSquareIdeal.main_arg1) = m ((c.tc : Thread Cert.SumAdamSquareIdeal.nD Cert.SumAdamSquareIdeal.τ).loc Cert.SumAdamSquareIdeal.main_arg1)
      ∧ r.2.mem ((c.tc : Thread Cert.SumAdamSquareIdeal.nD Cert.SumAdamSquareIdeal.τ).loc Cert.SumAdamSquareIdeal.main_arg2) = m ((c.tc : Thread Cert.SumAdamSquareIdeal.nD Cert.SumAdamSquareIdeal.τ).loc Cert.SumAdamSquareIdeal.main_arg2)
      ∧ r.2.mem ((c.tc : Thread Cert.SumAdamSquareIdeal.nD Cert.SumAdamSquareIdeal.τ).loc Cert.SumAdamSquareIdeal.main_arg3) = m ((c.tc : Thread Cert.SumAdamSquareIdeal.nD Cert.SumAdamSquareIdeal.τ).loc Cert.SumAdamSquareIdeal.main_arg3)
      ∧ r.2.mem ((c.tc : Thread Cert.SumAdamSquareIdeal.nD Cert.SumAdamSquareIdeal.τ).loc Cert.SumAdamSquareIdeal.main_arg4) = m ((c.tc : Thread Cert.SumAdamSquareIdeal.nD Cert.SumAdamSquareIdeal.τ).loc Cert.SumAdamSquareIdeal.main_arg4))
      ∧ r.2.sem = fun _ => 0)

def quiescent_SumAdamSquareRefIdeal [hSumAdamSquareRefIdeal : Cert.SumAdamSquareRefIdeal.Facts] : Prop :=
  ∀ (m : (ℓ : Loc Cert.SumAdamSquareRefIdeal.nD Cert.SumAdamSquareRefIdeal.τ Cert.SumAdamSquareRefIdeal.sig) → Buf (Elt Ideal) ℓ) (g : Dev Cert.SumAdamSquareRefIdeal.nD → PrngReg), Pre_SumAdamSquareRefIdeal m →
    θ_run (Cert.SumAdamSquareRefIdeal.defs (F := Ideal)) (onTc (τ := Cert.SumAdamSquareRefIdeal.τ) (Cert.SumAdamSquareRefIdeal.main (F := Ideal))) ⟨m, fun _ => 0, g⟩ (fun r => (∀ c : Dev Cert.SumAdamSquareRefIdeal.nD,
      r.2.mem ((c.tc : Thread Cert.SumAdamSquareRefIdeal.nD Cert.SumAdamSquareRefIdeal.τ).loc Cert.SumAdamSquareRefIdeal.main_arg0) = m ((c.tc : Thread Cert.SumAdamSquareRefIdeal.nD Cert.SumAdamSquareRefIdeal.τ).loc Cert.SumAdamSquareRefIdeal.main_arg0)
      ∧ r.2.mem ((c.tc : Thread Cert.SumAdamSquareRefIdeal.nD Cert.SumAdamSquareRefIdeal.τ).loc Cert.SumAdamSquareRefIdeal.main_arg1) = m ((c.tc : Thread Cert.SumAdamSquareRefIdeal.nD Cert.SumAdamSquareRefIdeal.τ).loc Cert.SumAdamSquareRefIdeal.main_arg1)
      ∧ r.2.mem ((c.tc : Thread Cert.SumAdamSquareRefIdeal.nD Cert.SumAdamSquareRefIdeal.τ).loc Cert.SumAdamSquareRefIdeal.main_arg2) = m ((c.tc : Thread Cert.SumAdamSquareRefIdeal.nD Cert.SumAdamSquareRefIdeal.τ).loc Cert.SumAdamSquareRefIdeal.main_arg2)
      ∧ r.2.mem ((c.tc : Thread Cert.SumAdamSquareRefIdeal.nD Cert.SumAdamSquareRefIdeal.τ).loc Cert.SumAdamSquareRefIdeal.main_arg3) = m ((c.tc : Thread Cert.SumAdamSquareRefIdeal.nD Cert.SumAdamSquareRefIdeal.τ).loc Cert.SumAdamSquareRefIdeal.main_arg3)
      ∧ r.2.mem ((c.tc : Thread Cert.SumAdamSquareRefIdeal.nD Cert.SumAdamSquareRefIdeal.τ).loc Cert.SumAdamSquareRefIdeal.main_arg4) = m ((c.tc : Thread Cert.SumAdamSquareRefIdeal.nD Cert.SumAdamSquareRefIdeal.τ).loc Cert.SumAdamSquareRefIdeal.main_arg4))
      ∧ r.2.sem = fun _ => 0)

def quiescent_SumAdamWin [hSumAdamWin : Cert.SumAdamWin.Facts] : Prop :=
  ∀ (m : (ℓ : Loc Cert.SumAdamWin.nD Cert.SumAdamWin.τ Cert.SumAdamWin.sig) → Buf (Elt Bits) ℓ) (g : Dev Cert.SumAdamWin.nD → PrngReg), Pre_SumAdamWin m →
    θ_run (Cert.SumAdamWin.defs (F := Bits)) (onTc (τ := Cert.SumAdamWin.τ) (Cert.SumAdamWin.main (F := Bits))) ⟨m, fun _ => 0, g⟩ (fun r => (∀ c : Dev Cert.SumAdamWin.nD,
      r.2.mem ((c.tc : Thread Cert.SumAdamWin.nD Cert.SumAdamWin.τ).loc Cert.SumAdamWin.main_arg0) = m ((c.tc : Thread Cert.SumAdamWin.nD Cert.SumAdamWin.τ).loc Cert.SumAdamWin.main_arg0)
      ∧ r.2.mem ((c.tc : Thread Cert.SumAdamWin.nD Cert.SumAdamWin.τ).loc Cert.SumAdamWin.main_arg1) = m ((c.tc : Thread Cert.SumAdamWin.nD Cert.SumAdamWin.τ).loc Cert.SumAdamWin.main_arg1)
      ∧ r.2.mem ((c.tc : Thread Cert.SumAdamWin.nD Cert.SumAdamWin.τ).loc Cert.SumAdamWin.main_arg2) = m ((c.tc : Thread Cert.SumAdamWin.nD Cert.SumAdamWin.τ).loc Cert.SumAdamWin.main_arg2)
      ∧ r.2.mem ((c.tc : Thread Cert.SumAdamWin.nD Cert.SumAdamWin.τ).loc Cert.SumAdamWin.main_arg3) = m ((c.tc : Thread Cert.SumAdamWin.nD Cert.SumAdamWin.τ).loc Cert.SumAdamWin.main_arg3)
      ∧ r.2.mem ((c.tc : Thread Cert.SumAdamWin.nD Cert.SumAdamWin.τ).loc Cert.SumAdamWin.main_arg4) = m ((c.tc : Thread Cert.SumAdamWin.nD Cert.SumAdamWin.τ).loc Cert.SumAdamWin.main_arg4))
      ∧ r.2.sem = fun _ => 0)

def quiescent_SumAdamWinIdeal [hSumAdamWinIdeal : Cert.SumAdamWinIdeal.Facts] : Prop :=
  ∀ (m : (ℓ : Loc Cert.SumAdamWinIdeal.nD Cert.SumAdamWinIdeal.τ Cert.SumAdamWinIdeal.sig) → Buf (Elt Ideal) ℓ) (g : Dev Cert.SumAdamWinIdeal.nD → PrngReg), Pre_SumAdamWinIdeal m →
    θ_run (Cert.SumAdamWinIdeal.defs (F := Ideal)) (onTc (τ := Cert.SumAdamWinIdeal.τ) (Cert.SumAdamWinIdeal.main (F := Ideal))) ⟨m, fun _ => 0, g⟩ (fun r => (∀ c : Dev Cert.SumAdamWinIdeal.nD,
      r.2.mem ((c.tc : Thread Cert.SumAdamWinIdeal.nD Cert.SumAdamWinIdeal.τ).loc Cert.SumAdamWinIdeal.main_arg0) = m ((c.tc : Thread Cert.SumAdamWinIdeal.nD Cert.SumAdamWinIdeal.τ).loc Cert.SumAdamWinIdeal.main_arg0)
      ∧ r.2.mem ((c.tc : Thread Cert.SumAdamWinIdeal.nD Cert.SumAdamWinIdeal.τ).loc Cert.SumAdamWinIdeal.main_arg1) = m ((c.tc : Thread Cert.SumAdamWinIdeal.nD Cert.SumAdamWinIdeal.τ).loc Cert.SumAdamWinIdeal.main_arg1)
      ∧ r.2.mem ((c.tc : Thread Cert.SumAdamWinIdeal.nD Cert.SumAdamWinIdeal.τ).loc Cert.SumAdamWinIdeal.main_arg2) = m ((c.tc : Thread Cert.SumAdamWinIdeal.nD Cert.SumAdamWinIdeal.τ).loc Cert.SumAdamWinIdeal.main_arg2)
      ∧ r.2.mem ((c.tc : Thread Cert.SumAdamWinIdeal.nD Cert.SumAdamWinIdeal.τ).loc Cert.SumAdamWinIdeal.main_arg3) = m ((c.tc : Thread Cert.SumAdamWinIdeal.nD Cert.SumAdamWinIdeal.τ).loc Cert.SumAdamWinIdeal.main_arg3)
      ∧ r.2.mem ((c.tc : Thread Cert.SumAdamWinIdeal.nD Cert.SumAdamWinIdeal.τ).loc Cert.SumAdamWinIdeal.main_arg4) = m ((c.tc : Thread Cert.SumAdamWinIdeal.nD Cert.SumAdamWinIdeal.τ).loc Cert.SumAdamWinIdeal.main_arg4))
      ∧ r.2.sem = fun _ => 0)

def quiescent_SumAdamWinRefIdeal [hSumAdamWinRefIdeal : Cert.SumAdamWinRefIdeal.Facts] : Prop :=
  ∀ (m : (ℓ : Loc Cert.SumAdamWinRefIdeal.nD Cert.SumAdamWinRefIdeal.τ Cert.SumAdamWinRefIdeal.sig) → Buf (Elt Ideal) ℓ) (g : Dev Cert.SumAdamWinRefIdeal.nD → PrngReg), Pre_SumAdamWinRefIdeal m →
    θ_run (Cert.SumAdamWinRefIdeal.defs (F := Ideal)) (onTc (τ := Cert.SumAdamWinRefIdeal.τ) (Cert.SumAdamWinRefIdeal.main (F := Ideal))) ⟨m, fun _ => 0, g⟩ (fun r => (∀ c : Dev Cert.SumAdamWinRefIdeal.nD,
      r.2.mem ((c.tc : Thread Cert.SumAdamWinRefIdeal.nD Cert.SumAdamWinRefIdeal.τ).loc Cert.SumAdamWinRefIdeal.main_arg0) = m ((c.tc : Thread Cert.SumAdamWinRefIdeal.nD Cert.SumAdamWinRefIdeal.τ).loc Cert.SumAdamWinRefIdeal.main_arg0)
      ∧ r.2.mem ((c.tc : Thread Cert.SumAdamWinRefIdeal.nD Cert.SumAdamWinRefIdeal.τ).loc Cert.SumAdamWinRefIdeal.main_arg1) = m ((c.tc : Thread Cert.SumAdamWinRefIdeal.nD Cert.SumAdamWinRefIdeal.τ).loc Cert.SumAdamWinRefIdeal.main_arg1)
      ∧ r.2.mem ((c.tc : Thread Cert.SumAdamWinRefIdeal.nD Cert.SumAdamWinRefIdeal.τ).loc Cert.SumAdamWinRefIdeal.main_arg2) = m ((c.tc : Thread Cert.SumAdamWinRefIdeal.nD Cert.SumAdamWinRefIdeal.τ).loc Cert.SumAdamWinRefIdeal.main_arg2)
      ∧ r.2.mem ((c.tc : Thread Cert.SumAdamWinRefIdeal.nD Cert.SumAdamWinRefIdeal.τ).loc Cert.SumAdamWinRefIdeal.main_arg3) = m ((c.tc : Thread Cert.SumAdamWinRefIdeal.nD Cert.SumAdamWinRefIdeal.τ).loc Cert.SumAdamWinRefIdeal.main_arg3)
      ∧ r.2.mem ((c.tc : Thread Cert.SumAdamWinRefIdeal.nD Cert.SumAdamWinRefIdeal.τ).loc Cert.SumAdamWinRefIdeal.main_arg4) = m ((c.tc : Thread Cert.SumAdamWinRefIdeal.nD Cert.SumAdamWinRefIdeal.τ).loc Cert.SumAdamWinRefIdeal.main_arg4))
      ∧ r.2.sem = fun _ => 0)

def quiescent_SmallAdam [hSmallAdam : Cert.SmallAdam.Facts] : Prop :=
  ∀ (m : (ℓ : Loc Cert.SmallAdam.nD Cert.SmallAdam.τ Cert.SmallAdam.sig) → Buf (Elt Bits) ℓ) (g : Dev Cert.SmallAdam.nD → PrngReg), Pre_SmallAdam m →
    θ_run (Cert.SmallAdam.defs (F := Bits)) (onTc (τ := Cert.SmallAdam.τ) (Cert.SmallAdam.main (F := Bits))) ⟨m, fun _ => 0, g⟩ (fun r => (∀ c : Dev Cert.SmallAdam.nD,
      r.2.mem ((c.tc : Thread Cert.SmallAdam.nD Cert.SmallAdam.τ).loc Cert.SmallAdam.main_arg0) = m ((c.tc : Thread Cert.SmallAdam.nD Cert.SmallAdam.τ).loc Cert.SmallAdam.main_arg0)
      ∧ r.2.mem ((c.tc : Thread Cert.SmallAdam.nD Cert.SmallAdam.τ).loc Cert.SmallAdam.main_arg1) = m ((c.tc : Thread Cert.SmallAdam.nD Cert.SmallAdam.τ).loc Cert.SmallAdam.main_arg1)
      ∧ r.2.mem ((c.tc : Thread Cert.SmallAdam.nD Cert.SmallAdam.τ).loc Cert.SmallAdam.main_arg2) = m ((c.tc : Thread Cert.SmallAdam.nD Cert.SmallAdam.τ).loc Cert.SmallAdam.main_arg2)
      ∧ r.2.mem ((c.tc : Thread Cert.SmallAdam.nD Cert.SmallAdam.τ).loc Cert.SmallAdam.main_arg3) = m ((c.tc : Thread Cert.SmallAdam.nD Cert.SmallAdam.τ).loc Cert.SmallAdam.main_arg3))
      ∧ r.2.sem = fun _ => 0)

def quiescent_SmallAdamIdeal [hSmallAdamIdeal : Cert.SmallAdamIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg), Pre_SmallAdamIdeal m →
    θ_run (Cert.SmallAdamIdeal.defs (F := Ideal)) (onTc (τ := Cert.SmallAdamIdeal.τ) (Cert.SmallAdamIdeal.main (F := Ideal))) ⟨m, fun _ => 0, g⟩ (fun r => (∀ c : Dev Cert.SmallAdamIdeal.nD,
      r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
      ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
      ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
      ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ r.2.sem = fun _ => 0)

def quiescent_SmallAdamRefIdeal [hSmallAdamRefIdeal : Cert.SmallAdamRefIdeal.Facts] : Prop :=
  ∀ (m : (ℓ : Loc Cert.SmallAdamRefIdeal.nD Cert.SmallAdamRefIdeal.τ Cert.SmallAdamRefIdeal.sig) → Buf (Elt Ideal) ℓ) (g : Dev Cert.SmallAdamRefIdeal.nD → PrngReg), Pre_SmallAdamRefIdeal m →
    θ_run (Cert.SmallAdamRefIdeal.defs (F := Ideal)) (onTc (τ := Cert.SmallAdamRefIdeal.τ) (Cert.SmallAdamRefIdeal.main (F := Ideal))) ⟨m, fun _ => 0, g⟩ (fun r => (∀ c : Dev Cert.SmallAdamRefIdeal.nD,
      r.2.mem ((c.tc : Thread Cert.SmallAdamRefIdeal.nD Cert.SmallAdamRefIdeal.τ).loc Cert.SmallAdamRefIdeal.main_arg0) = m ((c.tc : Thread Cert.SmallAdamRefIdeal.nD Cert.SmallAdamRefIdeal.τ).loc Cert.SmallAdamRefIdeal.main_arg0)
      ∧ r.2.mem ((c.tc : Thread Cert.SmallAdamRefIdeal.nD Cert.SmallAdamRefIdeal.τ).loc Cert.SmallAdamRefIdeal.main_arg1) = m ((c.tc : Thread Cert.SmallAdamRefIdeal.nD Cert.SmallAdamRefIdeal.τ).loc Cert.SmallAdamRefIdeal.main_arg1)
      ∧ r.2.mem ((c.tc : Thread Cert.SmallAdamRefIdeal.nD Cert.SmallAdamRefIdeal.τ).loc Cert.SmallAdamRefIdeal.main_arg2) = m ((c.tc : Thread Cert.SmallAdamRefIdeal.nD Cert.SmallAdamRefIdeal.τ).loc Cert.SmallAdamRefIdeal.main_arg2)
      ∧ r.2.mem ((c.tc : Thread Cert.SmallAdamRefIdeal.nD Cert.SmallAdamRefIdeal.τ).loc Cert.SmallAdamRefIdeal.main_arg3) = m ((c.tc : Thread Cert.SmallAdamRefIdeal.nD Cert.SmallAdamRefIdeal.τ).loc Cert.SmallAdamRefIdeal.main_arg3))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1)
      ∧ r.2.mem ((c.tc : Thread Cert.AdaGrad.nD Cert.AdaGrad.τ).loc Cert.AdaGrad.main_arg2) = m ((c.tc : Thread Cert.AdaGrad.nD Cert.AdaGrad.τ).loc Cert.AdaGrad.main_arg2)
      ∧ r.2.mem ((c.tc : Thread Cert.AdaGrad.nD Cert.AdaGrad.τ).loc Cert.AdaGrad.main_arg3) = m ((c.tc : Thread Cert.AdaGrad.nD Cert.AdaGrad.τ).loc Cert.AdaGrad.main_arg3)
      ∧ r.2.mem ((c.tc : Thread Cert.AdaGrad.nD Cert.AdaGrad.τ).loc Cert.AdaGrad.main_arg4) = m ((c.tc : Thread Cert.AdaGrad.nD Cert.AdaGrad.τ).loc Cert.AdaGrad.main_arg4))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1)
      ∧ r.2.mem ((c.tc : Thread Cert.AdaGradIdeal.nD Cert.AdaGradIdeal.τ).loc Cert.AdaGradIdeal.main_arg2) = m ((c.tc : Thread Cert.AdaGradIdeal.nD Cert.AdaGradIdeal.τ).loc Cert.AdaGradIdeal.main_arg2)
      ∧ r.2.mem ((c.tc : Thread Cert.AdaGradIdeal.nD Cert.AdaGradIdeal.τ).loc Cert.AdaGradIdeal.main_arg3) = m ((c.tc : Thread Cert.AdaGradIdeal.nD Cert.AdaGradIdeal.τ).loc Cert.AdaGradIdeal.main_arg3)
      ∧ r.2.mem ((c.tc : Thread Cert.AdaGradIdeal.nD Cert.AdaGradIdeal.τ).loc Cert.AdaGradIdeal.main_arg4) = m ((c.tc : Thread Cert.AdaGradIdeal.nD Cert.AdaGradIdeal.τ).loc Cert.AdaGradIdeal.main_arg4))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1)
      ∧ r.2.mem ((c.tc : Thread Cert.AdaGradRefIdeal.nD Cert.AdaGradRefIdeal.τ).loc Cert.AdaGradRefIdeal.main_arg2) = m ((c.tc : Thread Cert.AdaGradRefIdeal.nD Cert.AdaGradRefIdeal.τ).loc Cert.AdaGradRefIdeal.main_arg2)
      ∧ r.2.mem ((c.tc : Thread Cert.AdaGradRefIdeal.nD Cert.AdaGradRefIdeal.τ).loc Cert.AdaGradRefIdeal.main_arg3) = m ((c.tc : Thread Cert.AdaGradRefIdeal.nD Cert.AdaGradRefIdeal.τ).loc Cert.AdaGradRefIdeal.main_arg3)
      ∧ r.2.mem ((c.tc : Thread Cert.AdaGradRefIdeal.nD Cert.AdaGradRefIdeal.τ).loc Cert.AdaGradRefIdeal.main_arg4) = m ((c.tc : Thread Cert.AdaGradRefIdeal.nD Cert.AdaGradRefIdeal.τ).loc Cert.AdaGradRefIdeal.main_arg4))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ r.2.sem = fun _ => 0)

def quiescent_GradWdRefIdeal [hGradWdRefIdeal : Cert.GradWdRefIdeal.Facts] : Prop :=
  ∀ (m : (ℓ : Loc Cert.GradWdRefIdeal.nD Cert.GradWdRefIdeal.τ Cert.GradWdRefIdeal.sig) → Buf (Elt Ideal) ℓ) (g : Dev Cert.GradWdRefIdeal.nD → PrngReg), Pre_GradWdRefIdeal m →
    θ_run (Cert.GradWdRefIdeal.defs (F := Ideal)) (onTc (τ := Cert.GradWdRefIdeal.τ) (Cert.GradWdRefIdeal.main (F := Ideal))) ⟨m, fun _ => 0, g⟩ (fun r => (∀ c : Dev Cert.GradWdRefIdeal.nD,
      r.2.mem ((c.tc : Thread Cert.GradWdRefIdeal.nD Cert.GradWdRefIdeal.τ).loc Cert.GradWdRefIdeal.main_arg0) = m ((c.tc : Thread Cert.GradWdRefIdeal.nD Cert.GradWdRefIdeal.τ).loc Cert.GradWdRefIdeal.main_arg0)
      ∧ r.2.mem ((c.tc : Thread Cert.GradWdRefIdeal.nD Cert.GradWdRefIdeal.τ).loc Cert.GradWdRefIdeal.main_arg1) = m ((c.tc : Thread Cert.GradWdRefIdeal.nD Cert.GradWdRefIdeal.τ).loc Cert.GradWdRefIdeal.main_arg1))
      ∧ r.2.sem = fun _ => 0)

def quiescent_GradWgRefIdeal [hGradWgRefIdeal : Cert.GradWgRefIdeal.Facts] : Prop :=
  ∀ (m : (ℓ : Loc Cert.GradWgRefIdeal.nD Cert.GradWgRefIdeal.τ Cert.GradWgRefIdeal.sig) → Buf (Elt Ideal) ℓ) (g : Dev Cert.GradWgRefIdeal.nD → PrngReg), Pre_GradWgRefIdeal m →
    θ_run (Cert.GradWgRefIdeal.defs (F := Ideal)) (onTc (τ := Cert.GradWgRefIdeal.τ) (Cert.GradWgRefIdeal.main (F := Ideal))) ⟨m, fun _ => 0, g⟩ (fun r => (∀ c : Dev Cert.GradWgRefIdeal.nD,
      r.2.mem ((c.tc : Thread Cert.GradWgRefIdeal.nD Cert.GradWgRefIdeal.τ).loc Cert.GradWgRefIdeal.main_arg0) = m ((c.tc : Thread Cert.GradWgRefIdeal.nD Cert.GradWgRefIdeal.τ).loc Cert.GradWgRefIdeal.main_arg0)
      ∧ r.2.mem ((c.tc : Thread Cert.GradWgRefIdeal.nD Cert.GradWgRefIdeal.τ).loc Cert.GradWgRefIdeal.main_arg1) = m ((c.tc : Thread Cert.GradWgRefIdeal.nD Cert.GradWgRefIdeal.τ).loc Cert.GradWgRefIdeal.main_arg1))
      ∧ r.2.sem = fun _ => 0)

def quiescent_GradSquare [hGradSquare : Cert.GradSquare.Facts] : Prop :=
  ∀ (m : (ℓ : Loc Cert.GradSquare.nD Cert.GradSquare.τ Cert.GradSquare.sig) → Buf (Elt Bits) ℓ) (g : Dev Cert.GradSquare.nD → PrngReg), Pre_GradSquare m →
    θ_run (Cert.GradSquare.defs (F := Bits)) (onTc (τ := Cert.GradSquare.τ) (Cert.GradSquare.main (F := Bits))) ⟨m, fun _ => 0, g⟩ (fun r => (∀ c : Dev Cert.GradSquare.nD,
      r.2.mem ((c.tc : Thread Cert.GradSquare.nD Cert.GradSquare.τ).loc Cert.GradSquare.main_arg0) = m ((c.tc : Thread Cert.GradSquare.nD Cert.GradSquare.τ).loc Cert.GradSquare.main_arg0)
      ∧ r.2.mem ((c.tc : Thread Cert.GradSquare.nD Cert.GradSquare.τ).loc Cert.GradSquare.main_arg1) = m ((c.tc : Thread Cert.GradSquare.nD Cert.GradSquare.τ).loc Cert.GradSquare.main_arg1))
      ∧ r.2.sem = fun _ => 0)

def quiescent_GradSquareIdeal [hGradSquareIdeal : Cert.GradSquareIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg), Pre_GradSquareIdeal m →
    θ_run (Cert.GradSquareIdeal.defs (F := Ideal)) (onTc (τ := Cert.GradSquareIdeal.τ) (Cert.GradSquareIdeal.main (F := Ideal))) ⟨m, fun _ => 0, g⟩ (fun r => (∀ c : Dev Cert.GradSquareIdeal.nD,
      r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
      ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ r.2.sem = fun _ => 0)

def quiescent_GradSquareRefIdeal [hGradSquareRefIdeal : Cert.GradSquareRefIdeal.Facts] : Prop :=
  ∀ (m : (ℓ : Loc Cert.GradSquareRefIdeal.nD Cert.GradSquareRefIdeal.τ Cert.GradSquareRefIdeal.sig) → Buf (Elt Ideal) ℓ) (g : Dev Cert.GradSquareRefIdeal.nD → PrngReg), Pre_GradSquareRefIdeal m →
    θ_run (Cert.GradSquareRefIdeal.defs (F := Ideal)) (onTc (τ := Cert.GradSquareRefIdeal.τ) (Cert.GradSquareRefIdeal.main (F := Ideal))) ⟨m, fun _ => 0, g⟩ (fun r => (∀ c : Dev Cert.GradSquareRefIdeal.nD,
      r.2.mem ((c.tc : Thread Cert.GradSquareRefIdeal.nD Cert.GradSquareRefIdeal.τ).loc Cert.GradSquareRefIdeal.main_arg0) = m ((c.tc : Thread Cert.GradSquareRefIdeal.nD Cert.GradSquareRefIdeal.τ).loc Cert.GradSquareRefIdeal.main_arg0)
      ∧ r.2.mem ((c.tc : Thread Cert.GradSquareRefIdeal.nD Cert.GradSquareRefIdeal.τ).loc Cert.GradSquareRefIdeal.main_arg1) = m ((c.tc : Thread Cert.GradSquareRefIdeal.nD Cert.GradSquareRefIdeal.τ).loc Cert.GradSquareRefIdeal.main_arg1))
      ∧ r.2.sem = fun _ => 0)

def quiescent_GradWin [hGradWin : Cert.GradWin.Facts] : Prop :=
  ∀ (m : (ℓ : Loc Cert.GradWin.nD Cert.GradWin.τ Cert.GradWin.sig) → Buf (Elt Bits) ℓ) (g : Dev Cert.GradWin.nD → PrngReg), Pre_GradWin m →
    θ_run (Cert.GradWin.defs (F := Bits)) (onTc (τ := Cert.GradWin.τ) (Cert.GradWin.main (F := Bits))) ⟨m, fun _ => 0, g⟩ (fun r => (∀ c : Dev Cert.GradWin.nD,
      r.2.mem ((c.tc : Thread Cert.GradWin.nD Cert.GradWin.τ).loc Cert.GradWin.main_arg0) = m ((c.tc : Thread Cert.GradWin.nD Cert.GradWin.τ).loc Cert.GradWin.main_arg0)
      ∧ r.2.mem ((c.tc : Thread Cert.GradWin.nD Cert.GradWin.τ).loc Cert.GradWin.main_arg1) = m ((c.tc : Thread Cert.GradWin.nD Cert.GradWin.τ).loc Cert.GradWin.main_arg1))
      ∧ r.2.sem = fun _ => 0)

def quiescent_GradWinIdeal [hGradWinIdeal : Cert.GradWinIdeal.Facts] : Prop :=
  ∀ (m : (ℓ : Loc Cert.GradWinIdeal.nD Cert.GradWinIdeal.τ Cert.GradWinIdeal.sig) → Buf (Elt Ideal) ℓ) (g : Dev Cert.GradWinIdeal.nD → PrngReg), Pre_GradWinIdeal m →
    θ_run (Cert.GradWinIdeal.defs (F := Ideal)) (onTc (τ := Cert.GradWinIdeal.τ) (Cert.GradWinIdeal.main (F := Ideal))) ⟨m, fun _ => 0, g⟩ (fun r => (∀ c : Dev Cert.GradWinIdeal.nD,
      r.2.mem ((c.tc : Thread Cert.GradWinIdeal.nD Cert.GradWinIdeal.τ).loc Cert.GradWinIdeal.main_arg0) = m ((c.tc : Thread Cert.GradWinIdeal.nD Cert.GradWinIdeal.τ).loc Cert.GradWinIdeal.main_arg0)
      ∧ r.2.mem ((c.tc : Thread Cert.GradWinIdeal.nD Cert.GradWinIdeal.τ).loc Cert.GradWinIdeal.main_arg1) = m ((c.tc : Thread Cert.GradWinIdeal.nD Cert.GradWinIdeal.τ).loc Cert.GradWinIdeal.main_arg1))
      ∧ r.2.sem = fun _ => 0)

def quiescent_GradWinRefIdeal [hGradWinRefIdeal : Cert.GradWinRefIdeal.Facts] : Prop :=
  ∀ (m : (ℓ : Loc Cert.GradWinRefIdeal.nD Cert.GradWinRefIdeal.τ Cert.GradWinRefIdeal.sig) → Buf (Elt Ideal) ℓ) (g : Dev Cert.GradWinRefIdeal.nD → PrngReg), Pre_GradWinRefIdeal m →
    θ_run (Cert.GradWinRefIdeal.defs (F := Ideal)) (onTc (τ := Cert.GradWinRefIdeal.τ) (Cert.GradWinRefIdeal.main (F := Ideal))) ⟨m, fun _ => 0, g⟩ (fun r => (∀ c : Dev Cert.GradWinRefIdeal.nD,
      r.2.mem ((c.tc : Thread Cert.GradWinRefIdeal.nD Cert.GradWinRefIdeal.τ).loc Cert.GradWinRefIdeal.main_arg0) = m ((c.tc : Thread Cert.GradWinRefIdeal.nD Cert.GradWinRefIdeal.τ).loc Cert.GradWinRefIdeal.main_arg0)
      ∧ r.2.mem ((c.tc : Thread Cert.GradWinRefIdeal.nD Cert.GradWinRefIdeal.τ).loc Cert.GradWinRefIdeal.main_arg1) = m ((c.tc : Thread Cert.GradWinRefIdeal.nD Cert.GradWinRefIdeal.τ).loc Cert.GradWinRefIdeal.main_arg1))
      ∧ r.2.sem = fun _ => 0)

def quiescent_MmInBwd [hMmInBwd : Cert.MmInBwd.Facts] : Prop :=
  ∀ (m : (ℓ : Loc Cert.MmInBwd.nD Cert.MmInBwd.τ Cert.MmInBwd.sig) → Buf (Elt Bits) ℓ) (g : Dev Cert.MmInBwd.nD → PrngReg), Pre_MmInBwd m →
    θ_run (Cert.MmInBwd.defs (F := Bits)) (onTc (τ := Cert.MmInBwd.τ) (Cert.MmInBwd.main (F := Bits))) ⟨m, fun _ => 0, g⟩ (fun r => (∀ c : Dev Cert.MmInBwd.nD,
      r.2.mem ((c.tc : Thread Cert.MmInBwd.nD Cert.MmInBwd.τ).loc Cert.MmInBwd.main_arg0) = m ((c.tc : Thread Cert.MmInBwd.nD Cert.MmInBwd.τ).loc Cert.MmInBwd.main_arg0)
      ∧ r.2.mem ((c.tc : Thread Cert.MmInBwd.nD Cert.MmInBwd.τ).loc Cert.MmInBwd.main_arg1) = m ((c.tc : Thread Cert.MmInBwd.nD Cert.MmInBwd.τ).loc Cert.MmInBwd.main_arg1))
      ∧ r.2.sem = fun _ => 0)

def quiescent_MmInBwdIdeal [hMmInBwdIdeal : Cert.MmInBwdIdeal.Facts] : Prop :=
  ∀ (m : (ℓ : Loc Cert.MmInBwdIdeal.nD Cert.MmInBwdIdeal.τ Cert.MmInBwdIdeal.sig) → Buf (Elt Ideal) ℓ) (g : Dev Cert.MmInBwdIdeal.nD → PrngReg), Pre_MmInBwdIdeal m →
    θ_run (Cert.MmInBwdIdeal.defs (F := Ideal)) (onTc (τ := Cert.MmInBwdIdeal.τ) (Cert.MmInBwdIdeal.main (F := Ideal))) ⟨m, fun _ => 0, g⟩ (fun r => (∀ c : Dev Cert.MmInBwdIdeal.nD,
      r.2.mem ((c.tc : Thread Cert.MmInBwdIdeal.nD Cert.MmInBwdIdeal.τ).loc Cert.MmInBwdIdeal.main_arg0) = m ((c.tc : Thread Cert.MmInBwdIdeal.nD Cert.MmInBwdIdeal.τ).loc Cert.MmInBwdIdeal.main_arg0)
      ∧ r.2.mem ((c.tc : Thread Cert.MmInBwdIdeal.nD Cert.MmInBwdIdeal.τ).loc Cert.MmInBwdIdeal.main_arg1) = m ((c.tc : Thread Cert.MmInBwdIdeal.nD Cert.MmInBwdIdeal.τ).loc Cert.MmInBwdIdeal.main_arg1))
      ∧ r.2.sem = fun _ => 0)

def quiescent_MmInBwdRefIdeal [hMmInBwdRefIdeal : Cert.MmInBwdRefIdeal.Facts] : Prop :=
  ∀ (m : (ℓ : Loc Cert.MmInBwdRefIdeal.nD Cert.MmInBwdRefIdeal.τ Cert.MmInBwdRefIdeal.sig) → Buf (Elt Ideal) ℓ) (g : Dev Cert.MmInBwdRefIdeal.nD → PrngReg), Pre_MmInBwdRefIdeal m →
    θ_run (Cert.MmInBwdRefIdeal.defs (F := Ideal)) (onTc (τ := Cert.MmInBwdRefIdeal.τ) (Cert.MmInBwdRefIdeal.main (F := Ideal))) ⟨m, fun _ => 0, g⟩ (fun r => (∀ c : Dev Cert.MmInBwdRefIdeal.nD,
      r.2.mem ((c.tc : Thread Cert.MmInBwdRefIdeal.nD Cert.MmInBwdRefIdeal.τ).loc Cert.MmInBwdRefIdeal.main_arg0) = m ((c.tc : Thread Cert.MmInBwdRefIdeal.nD Cert.MmInBwdRefIdeal.τ).loc Cert.MmInBwdRefIdeal.main_arg0)
      ∧ r.2.mem ((c.tc : Thread Cert.MmInBwdRefIdeal.nD Cert.MmInBwdRefIdeal.τ).loc Cert.MmInBwdRefIdeal.main_arg1) = m ((c.tc : Thread Cert.MmInBwdRefIdeal.nD Cert.MmInBwdRefIdeal.τ).loc Cert.MmInBwdRefIdeal.main_arg1))
      ∧ r.2.sem = fun _ => 0)

def quiescent_Lnmod [hLnmod : Cert.Lnmod.Facts] : Prop :=
  ∀ (m : (ℓ : Loc Cert.Lnmod.nD Cert.Lnmod.τ Cert.Lnmod.sig) → Buf (Elt Bits) ℓ) (g : Dev Cert.Lnmod.nD → PrngReg), Pre_Lnmod m →
    θ_run (Cert.Lnmod.defs (F := Bits)) (onTc (τ := Cert.Lnmod.τ) (Cert.Lnmod.main (F := Bits))) ⟨m, fun _ => 0, g⟩ (fun r => (∀ c : Dev Cert.Lnmod.nD,
      r.2.mem ((c.tc : Thread Cert.Lnmod.nD Cert.Lnmod.τ).loc Cert.Lnmod.main_arg0) = m ((c.tc : Thread Cert.Lnmod.nD Cert.Lnmod.τ).loc Cert.Lnmod.main_arg0)
      ∧ r.2.mem ((c.tc : Thread Cert.Lnmod.nD Cert.Lnmod.τ).loc Cert.Lnmod.main_arg1) = m ((c.tc : Thread Cert.Lnmod.nD Cert.Lnmod.τ).loc Cert.Lnmod.main_arg1)
      ∧ r.2.mem ((c.tc : Thread Cert.Lnmod.nD Cert.Lnmod.τ).loc Cert.Lnmod.main_arg2) = m ((c.tc : Thread Cert.Lnmod.nD Cert.Lnmod.τ).loc Cert.Lnmod.main_arg2)
      ∧ r.2.mem ((c.tc : Thread Cert.Lnmod.nD Cert.Lnmod.τ).loc Cert.Lnmod.main_arg3) = m ((c.tc : Thread Cert.Lnmod.nD Cert.Lnmod.τ).loc Cert.Lnmod.main_arg3))
      ∧ r.2.sem = fun _ => 0)

def quiescent_LnmodIdeal [hLnmodIdeal : Cert.LnmodIdeal.Facts] : Prop :=
  ∀ (m : (ℓ : Loc Cert.LnmodIdeal.nD Cert.LnmodIdeal.τ Cert.LnmodIdeal.sig) → Buf (Elt Ideal) ℓ) (g : Dev Cert.LnmodIdeal.nD → PrngReg), Pre_LnmodIdeal m →
    θ_run (Cert.LnmodIdeal.defs (F := Ideal)) (onTc (τ := Cert.LnmodIdeal.τ) (Cert.LnmodIdeal.main (F := Ideal))) ⟨m, fun _ => 0, g⟩ (fun r => (∀ c : Dev Cert.LnmodIdeal.nD,
      r.2.mem ((c.tc : Thread Cert.LnmodIdeal.nD Cert.LnmodIdeal.τ).loc Cert.LnmodIdeal.main_arg0) = m ((c.tc : Thread Cert.LnmodIdeal.nD Cert.LnmodIdeal.τ).loc Cert.LnmodIdeal.main_arg0)
      ∧ r.2.mem ((c.tc : Thread Cert.LnmodIdeal.nD Cert.LnmodIdeal.τ).loc Cert.LnmodIdeal.main_arg1) = m ((c.tc : Thread Cert.LnmodIdeal.nD Cert.LnmodIdeal.τ).loc Cert.LnmodIdeal.main_arg1)
      ∧ r.2.mem ((c.tc : Thread Cert.LnmodIdeal.nD Cert.LnmodIdeal.τ).loc Cert.LnmodIdeal.main_arg2) = m ((c.tc : Thread Cert.LnmodIdeal.nD Cert.LnmodIdeal.τ).loc Cert.LnmodIdeal.main_arg2)
      ∧ r.2.mem ((c.tc : Thread Cert.LnmodIdeal.nD Cert.LnmodIdeal.τ).loc Cert.LnmodIdeal.main_arg3) = m ((c.tc : Thread Cert.LnmodIdeal.nD Cert.LnmodIdeal.τ).loc Cert.LnmodIdeal.main_arg3))
      ∧ r.2.sem = fun _ => 0)

def quiescent_LnmodRefIdeal [hLnmodRefIdeal : Cert.LnmodRefIdeal.Facts] : Prop :=
  ∀ (m : (ℓ : Loc Cert.LnmodRefIdeal.nD Cert.LnmodRefIdeal.τ Cert.LnmodRefIdeal.sig) → Buf (Elt Ideal) ℓ) (g : Dev Cert.LnmodRefIdeal.nD → PrngReg), Pre_LnmodRefIdeal m →
    θ_run (Cert.LnmodRefIdeal.defs (F := Ideal)) (onTc (τ := Cert.LnmodRefIdeal.τ) (Cert.LnmodRefIdeal.main (F := Ideal))) ⟨m, fun _ => 0, g⟩ (fun r => (∀ c : Dev Cert.LnmodRefIdeal.nD,
      r.2.mem ((c.tc : Thread Cert.LnmodRefIdeal.nD Cert.LnmodRefIdeal.τ).loc Cert.LnmodRefIdeal.main_arg0) = m ((c.tc : Thread Cert.LnmodRefIdeal.nD Cert.LnmodRefIdeal.τ).loc Cert.LnmodRefIdeal.main_arg0)
      ∧ r.2.mem ((c.tc : Thread Cert.LnmodRefIdeal.nD Cert.LnmodRefIdeal.τ).loc Cert.LnmodRefIdeal.main_arg1) = m ((c.tc : Thread Cert.LnmodRefIdeal.nD Cert.LnmodRefIdeal.τ).loc Cert.LnmodRefIdeal.main_arg1)
      ∧ r.2.mem ((c.tc : Thread Cert.LnmodRefIdeal.nD Cert.LnmodRefIdeal.τ).loc Cert.LnmodRefIdeal.main_arg2) = m ((c.tc : Thread Cert.LnmodRefIdeal.nD Cert.LnmodRefIdeal.τ).loc Cert.LnmodRefIdeal.main_arg2)
      ∧ r.2.mem ((c.tc : Thread Cert.LnmodRefIdeal.nD Cert.LnmodRefIdeal.τ).loc Cert.LnmodRefIdeal.main_arg3) = m ((c.tc : Thread Cert.LnmodRefIdeal.nD Cert.LnmodRefIdeal.τ).loc Cert.LnmodRefIdeal.main_arg3))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnBwd2 [hFfnBwd2 : Cert.FfnBwd2.Facts] : Prop :=
  ∀ (m : (ℓ : Loc Cert.FfnBwd2.nD Cert.FfnBwd2.τ Cert.FfnBwd2.sig) → Buf (Elt Bits) ℓ) (g : Dev Cert.FfnBwd2.nD → PrngReg), Pre_FfnBwd2 m →
    θ_run (Cert.FfnBwd2.defs (F := Bits)) (onTc (τ := Cert.FfnBwd2.τ) (Cert.FfnBwd2.main (F := Bits))) ⟨m, fun _ => 0, g⟩ (fun r => (∀ c : Dev Cert.FfnBwd2.nD,
      r.2.mem ((c.tc : Thread Cert.FfnBwd2.nD Cert.FfnBwd2.τ).loc Cert.FfnBwd2.main_arg0) = m ((c.tc : Thread Cert.FfnBwd2.nD Cert.FfnBwd2.τ).loc Cert.FfnBwd2.main_arg0)
      ∧ r.2.mem ((c.tc : Thread Cert.FfnBwd2.nD Cert.FfnBwd2.τ).loc Cert.FfnBwd2.main_arg1) = m ((c.tc : Thread Cert.FfnBwd2.nD Cert.FfnBwd2.τ).loc Cert.FfnBwd2.main_arg1)
      ∧ r.2.mem ((c.tc : Thread Cert.FfnBwd2.nD Cert.FfnBwd2.τ).loc Cert.FfnBwd2.main_arg2) = m ((c.tc : Thread Cert.FfnBwd2.nD Cert.FfnBwd2.τ).loc Cert.FfnBwd2.main_arg2)
      ∧ r.2.mem ((c.tc : Thread Cert.FfnBwd2.nD Cert.FfnBwd2.τ).loc Cert.FfnBwd2.main_arg3) = m ((c.tc : Thread Cert.FfnBwd2.nD Cert.FfnBwd2.τ).loc Cert.FfnBwd2.main_arg3)
      ∧ r.2.mem ((c.tc : Thread Cert.FfnBwd2.nD Cert.FfnBwd2.τ).loc Cert.FfnBwd2.main_arg4) = m ((c.tc : Thread Cert.FfnBwd2.nD Cert.FfnBwd2.τ).loc Cert.FfnBwd2.main_arg4)
      ∧ r.2.mem ((c.tc : Thread Cert.FfnBwd2.nD Cert.FfnBwd2.τ).loc Cert.FfnBwd2.main_arg5) = m ((c.tc : Thread Cert.FfnBwd2.nD Cert.FfnBwd2.τ).loc Cert.FfnBwd2.main_arg5)
      ∧ r.2.mem ((c.tc : Thread Cert.FfnBwd2.nD Cert.FfnBwd2.τ).loc Cert.FfnBwd2.main_arg6) = m ((c.tc : Thread Cert.FfnBwd2.nD Cert.FfnBwd2.τ).loc Cert.FfnBwd2.main_arg6)
      ∧ r.2.mem ((c.tc : Thread Cert.FfnBwd2.nD Cert.FfnBwd2.τ).loc Cert.FfnBwd2.main_arg7) = m ((c.tc : Thread Cert.FfnBwd2.nD Cert.FfnBwd2.τ).loc Cert.FfnBwd2.main_arg7)
      ∧ r.2.mem ((c.tc : Thread Cert.FfnBwd2.nD Cert.FfnBwd2.τ).loc Cert.FfnBwd2.main_arg8) = m ((c.tc : Thread Cert.FfnBwd2.nD Cert.FfnBwd2.τ).loc Cert.FfnBwd2.main_arg8))
      ∧ r.2.sem = fun _ => 0)

def quiescent_FfnBwd2Ideal [hFfnBwd2Ideal : Cert.FfnBwd2Ideal.Facts] : Prop :=
  ∀ (m : (ℓ : Loc Cert.FfnBwd2Ideal.nD Cert.FfnBwd2Ideal.τ Cert.FfnBwd2Ideal.sig) → Buf (Elt Ideal) ℓ) (g : Dev Cert.FfnBwd2Ideal.nD → PrngReg), Pre_FfnBwd2Ideal m →
    θ_run (Cert.FfnBwd2Ideal.defs (F := Ideal)) (onTc (τ := Cert.FfnBwd2Ideal.τ) (Cert.FfnBwd2Ideal.main (F := Ideal))) ⟨m, fun _ => 0, g⟩ (fun r => (∀ c : Dev Cert.FfnBwd2Ideal.nD,
      r.2.mem ((c.tc : Thread Cert.FfnBwd2Ideal.nD Cert.FfnBwd2Ideal.τ).loc Cert.FfnBwd2Ideal.main_arg0) = m ((c.tc : Thread Cert.FfnBwd2Ideal.nD Cert.FfnBwd2Ideal.τ).loc Cert.FfnBwd2Ideal.main_arg0)
      ∧ r.2.mem ((c.tc : Thread Cert.FfnBwd2Ideal.nD Cert.FfnBwd2Ideal.τ).loc Cert.FfnBwd2Ideal.main_arg1) = m ((c.tc : Thread Cert.FfnBwd2Ideal.nD Cert.FfnBwd2Ideal.τ).loc Cert.FfnBwd2Ideal.main_arg1)
      ∧ r.2.mem ((c.tc : Thread Cert.FfnBwd2Ideal.nD Cert.FfnBwd2Ideal.τ).loc Cert.FfnBwd2Ideal.main_arg2) = m ((c.tc : Thread Cert.FfnBwd2Ideal.nD Cert.FfnBwd2Ideal.τ).loc Cert.FfnBwd2Ideal.main_arg2)
      ∧ r.2.mem ((c.tc : Thread Cert.FfnBwd2Ideal.nD Cert.FfnBwd2Ideal.τ).loc Cert.FfnBwd2Ideal.main_arg3) = m ((c.tc : Thread Cert.FfnBwd2Ideal.nD Cert.FfnBwd2Ideal.τ).loc Cert.FfnBwd2Ideal.main_arg3)
      ∧ r.2.mem ((c.tc : Thread Cert.FfnBwd2Ideal.nD Cert.FfnBwd2Ideal.τ).loc Cert.FfnBwd2Ideal.main_arg4) = m ((c.tc : Thread Cert.FfnBwd2Ideal.nD Cert.FfnBwd2Ideal.τ).loc Cert.FfnBwd2Ideal.main_arg4)
      ∧ r.2.mem ((c.tc : Thread Cert.FfnBwd2Ideal.nD Cert.FfnBwd2Ideal.τ).loc Cert.FfnBwd2Ideal.main_arg5) = m ((c.tc : Thread Cert.FfnBwd2Ideal.nD Cert.FfnBwd2Ideal.τ).loc Cert.FfnBwd2Ideal.main_arg5)
      ∧ r.2.mem ((c.tc : Thread Cert.FfnBwd2Ideal.nD Cert.FfnBwd2Ideal.τ).loc Cert.FfnBwd2Ideal.main_arg6) = m ((c.tc : Thread Cert.FfnBwd2Ideal.nD Cert.FfnBwd2Ideal.τ).loc Cert.FfnBwd2Ideal.main_arg6)
      ∧ r.2.mem ((c.tc : Thread Cert.FfnBwd2Ideal.nD Cert.FfnBwd2Ideal.τ).loc Cert.FfnBwd2Ideal.main_arg7) = m ((c.tc : Thread Cert.FfnBwd2Ideal.nD Cert.FfnBwd2Ideal.τ).loc Cert.FfnBwd2Ideal.main_arg7)
      ∧ r.2.mem ((c.tc : Thread Cert.FfnBwd2Ideal.nD Cert.FfnBwd2Ideal.τ).loc Cert.FfnBwd2Ideal.main_arg8) = m ((c.tc : Thread Cert.FfnBwd2Ideal.nD Cert.FfnBwd2Ideal.τ).loc Cert.FfnBwd2Ideal.main_arg8))
      ∧ r.2.sem = fun _ => 0)

def quiescent_FfnBwd2Ideal_pre_finite_ffn [hFfnBwd2Ideal : Cert.FfnBwd2Ideal.Facts] [hPre_finite_ffn : Cert.Pre_finite_ffn.Facts] : Prop :=
  ∀ (m : (ℓ : Loc Cert.FfnBwd2Ideal.nD Cert.FfnBwd2Ideal.τ Cert.FfnBwd2Ideal.sig) → Buf (Elt Ideal) ℓ) (g : Dev Cert.FfnBwd2Ideal.nD → PrngReg), Pre_FfnBwd2Ideal_finite_ffn m →
    θ_run (Cert.FfnBwd2Ideal.defs (F := Ideal)) (onTc (τ := Cert.FfnBwd2Ideal.τ) (Cert.FfnBwd2Ideal.main (F := Ideal))) ⟨m, fun _ => 0, g⟩ (fun r => (∀ c : Dev Cert.FfnBwd2Ideal.nD,
      r.2.mem ((c.tc : Thread Cert.FfnBwd2Ideal.nD Cert.FfnBwd2Ideal.τ).loc Cert.FfnBwd2Ideal.main_arg0) = m ((c.tc : Thread Cert.FfnBwd2Ideal.nD Cert.FfnBwd2Ideal.τ).loc Cert.FfnBwd2Ideal.main_arg0)
      ∧ r.2.mem ((c.tc : Thread Cert.FfnBwd2Ideal.nD Cert.FfnBwd2Ideal.τ).loc Cert.FfnBwd2Ideal.main_arg1) = m ((c.tc : Thread Cert.FfnBwd2Ideal.nD Cert.FfnBwd2Ideal.τ).loc Cert.FfnBwd2Ideal.main_arg1)
      ∧ r.2.mem ((c.tc : Thread Cert.FfnBwd2Ideal.nD Cert.FfnBwd2Ideal.τ).loc Cert.FfnBwd2Ideal.main_arg2) = m ((c.tc : Thread Cert.FfnBwd2Ideal.nD Cert.FfnBwd2Ideal.τ).loc Cert.FfnBwd2Ideal.main_arg2)
      ∧ r.2.mem ((c.tc : Thread Cert.FfnBwd2Ideal.nD Cert.FfnBwd2Ideal.τ).loc Cert.FfnBwd2Ideal.main_arg3) = m ((c.tc : Thread Cert.FfnBwd2Ideal.nD Cert.FfnBwd2Ideal.τ).loc Cert.FfnBwd2Ideal.main_arg3)
      ∧ r.2.mem ((c.tc : Thread Cert.FfnBwd2Ideal.nD Cert.FfnBwd2Ideal.τ).loc Cert.FfnBwd2Ideal.main_arg4) = m ((c.tc : Thread Cert.FfnBwd2Ideal.nD Cert.FfnBwd2Ideal.τ).loc Cert.FfnBwd2Ideal.main_arg4)
      ∧ r.2.mem ((c.tc : Thread Cert.FfnBwd2Ideal.nD Cert.FfnBwd2Ideal.τ).loc Cert.FfnBwd2Ideal.main_arg5) = m ((c.tc : Thread Cert.FfnBwd2Ideal.nD Cert.FfnBwd2Ideal.τ).loc Cert.FfnBwd2Ideal.main_arg5)
      ∧ r.2.mem ((c.tc : Thread Cert.FfnBwd2Ideal.nD Cert.FfnBwd2Ideal.τ).loc Cert.FfnBwd2Ideal.main_arg6) = m ((c.tc : Thread Cert.FfnBwd2Ideal.nD Cert.FfnBwd2Ideal.τ).loc Cert.FfnBwd2Ideal.main_arg6)
      ∧ r.2.mem ((c.tc : Thread Cert.FfnBwd2Ideal.nD Cert.FfnBwd2Ideal.τ).loc Cert.FfnBwd2Ideal.main_arg7) = m ((c.tc : Thread Cert.FfnBwd2Ideal.nD Cert.FfnBwd2Ideal.τ).loc Cert.FfnBwd2Ideal.main_arg7)
      ∧ r.2.mem ((c.tc : Thread Cert.FfnBwd2Ideal.nD Cert.FfnBwd2Ideal.τ).loc Cert.FfnBwd2Ideal.main_arg8) = m ((c.tc : Thread Cert.FfnBwd2Ideal.nD Cert.FfnBwd2Ideal.τ).loc Cert.FfnBwd2Ideal.main_arg8))
      ∧ r.2.sem = fun _ => 0)

def quiescent_FfnBwd2RefIdeal [hFfnBwd2RefIdeal : Cert.FfnBwd2RefIdeal.Facts] : Prop :=
  ∀ (m : (ℓ : Loc Cert.FfnBwd2RefIdeal.nD Cert.FfnBwd2RefIdeal.τ Cert.FfnBwd2RefIdeal.sig) → Buf (Elt Ideal) ℓ) (g : Dev Cert.FfnBwd2RefIdeal.nD → PrngReg), Pre_FfnBwd2RefIdeal m →
    θ_run (Cert.FfnBwd2RefIdeal.defs (F := Ideal)) (onTc (τ := Cert.FfnBwd2RefIdeal.τ) (Cert.FfnBwd2RefIdeal.main (F := Ideal))) ⟨m, fun _ => 0, g⟩ (fun r => (∀ c : Dev Cert.FfnBwd2RefIdeal.nD,
      r.2.mem ((c.tc : Thread Cert.FfnBwd2RefIdeal.nD Cert.FfnBwd2RefIdeal.τ).loc Cert.FfnBwd2RefIdeal.main_arg0) = m ((c.tc : Thread Cert.FfnBwd2RefIdeal.nD Cert.FfnBwd2RefIdeal.τ).loc Cert.FfnBwd2RefIdeal.main_arg0)
      ∧ r.2.mem ((c.tc : Thread Cert.FfnBwd2RefIdeal.nD Cert.FfnBwd2RefIdeal.τ).loc Cert.FfnBwd2RefIdeal.main_arg1) = m ((c.tc : Thread Cert.FfnBwd2RefIdeal.nD Cert.FfnBwd2RefIdeal.τ).loc Cert.FfnBwd2RefIdeal.main_arg1)
      ∧ r.2.mem ((c.tc : Thread Cert.FfnBwd2RefIdeal.nD Cert.FfnBwd2RefIdeal.τ).loc Cert.FfnBwd2RefIdeal.main_arg2) = m ((c.tc : Thread Cert.FfnBwd2RefIdeal.nD Cert.FfnBwd2RefIdeal.τ).loc Cert.FfnBwd2RefIdeal.main_arg2)
      ∧ r.2.mem ((c.tc : Thread Cert.FfnBwd2RefIdeal.nD Cert.FfnBwd2RefIdeal.τ).loc Cert.FfnBwd2RefIdeal.main_arg3) = m ((c.tc : Thread Cert.FfnBwd2RefIdeal.nD Cert.FfnBwd2RefIdeal.τ).loc Cert.FfnBwd2RefIdeal.main_arg3)
      ∧ r.2.mem ((c.tc : Thread Cert.FfnBwd2RefIdeal.nD Cert.FfnBwd2RefIdeal.τ).loc Cert.FfnBwd2RefIdeal.main_arg4) = m ((c.tc : Thread Cert.FfnBwd2RefIdeal.nD Cert.FfnBwd2RefIdeal.τ).loc Cert.FfnBwd2RefIdeal.main_arg4)
      ∧ r.2.mem ((c.tc : Thread Cert.FfnBwd2RefIdeal.nD Cert.FfnBwd2RefIdeal.τ).loc Cert.FfnBwd2RefIdeal.main_arg5) = m ((c.tc : Thread Cert.FfnBwd2RefIdeal.nD Cert.FfnBwd2RefIdeal.τ).loc Cert.FfnBwd2RefIdeal.main_arg5)
      ∧ r.2.mem ((c.tc : Thread Cert.FfnBwd2RefIdeal.nD Cert.FfnBwd2RefIdeal.τ).loc Cert.FfnBwd2RefIdeal.main_arg6) = m ((c.tc : Thread Cert.FfnBwd2RefIdeal.nD Cert.FfnBwd2RefIdeal.τ).loc Cert.FfnBwd2RefIdeal.main_arg6)
      ∧ r.2.mem ((c.tc : Thread Cert.FfnBwd2RefIdeal.nD Cert.FfnBwd2RefIdeal.τ).loc Cert.FfnBwd2RefIdeal.main_arg7) = m ((c.tc : Thread Cert.FfnBwd2RefIdeal.nD Cert.FfnBwd2RefIdeal.τ).loc Cert.FfnBwd2RefIdeal.main_arg7)
      ∧ r.2.mem ((c.tc : Thread Cert.FfnBwd2RefIdeal.nD Cert.FfnBwd2RefIdeal.τ).loc Cert.FfnBwd2RefIdeal.main_arg8) = m ((c.tc : Thread Cert.FfnBwd2RefIdeal.nD Cert.FfnBwd2RefIdeal.τ).loc Cert.FfnBwd2RefIdeal.main_arg8))
      ∧ r.2.sem = fun _ => 0)

def quiescent_FfnBwd2RefIdeal_pre_finite_ffn [hFfnBwd2RefIdeal : Cert.FfnBwd2RefIdeal.Facts] [hPre_finite_ffn : Cert.Pre_finite_ffn.Facts] : Prop :=
  ∀ (m : (ℓ : Loc Cert.FfnBwd2RefIdeal.nD Cert.FfnBwd2RefIdeal.τ Cert.FfnBwd2RefIdeal.sig) → Buf (Elt Ideal) ℓ) (g : Dev Cert.FfnBwd2RefIdeal.nD → PrngReg), Pre_FfnBwd2RefIdeal_finite_ffn m →
    θ_run (Cert.FfnBwd2RefIdeal.defs (F := Ideal)) (onTc (τ := Cert.FfnBwd2RefIdeal.τ) (Cert.FfnBwd2RefIdeal.main (F := Ideal))) ⟨m, fun _ => 0, g⟩ (fun r => (∀ c : Dev Cert.FfnBwd2RefIdeal.nD,
      r.2.mem ((c.tc : Thread Cert.FfnBwd2RefIdeal.nD Cert.FfnBwd2RefIdeal.τ).loc Cert.FfnBwd2RefIdeal.main_arg0) = m ((c.tc : Thread Cert.FfnBwd2RefIdeal.nD Cert.FfnBwd2RefIdeal.τ).loc Cert.FfnBwd2RefIdeal.main_arg0)
      ∧ r.2.mem ((c.tc : Thread Cert.FfnBwd2RefIdeal.nD Cert.FfnBwd2RefIdeal.τ).loc Cert.FfnBwd2RefIdeal.main_arg1) = m ((c.tc : Thread Cert.FfnBwd2RefIdeal.nD Cert.FfnBwd2RefIdeal.τ).loc Cert.FfnBwd2RefIdeal.main_arg1)
      ∧ r.2.mem ((c.tc : Thread Cert.FfnBwd2RefIdeal.nD Cert.FfnBwd2RefIdeal.τ).loc Cert.FfnBwd2RefIdeal.main_arg2) = m ((c.tc : Thread Cert.FfnBwd2RefIdeal.nD Cert.FfnBwd2RefIdeal.τ).loc Cert.FfnBwd2RefIdeal.main_arg2)
      ∧ r.2.mem ((c.tc : Thread Cert.FfnBwd2RefIdeal.nD Cert.FfnBwd2RefIdeal.τ).loc Cert.FfnBwd2RefIdeal.main_arg3) = m ((c.tc : Thread Cert.FfnBwd2RefIdeal.nD Cert.FfnBwd2RefIdeal.τ).loc Cert.FfnBwd2RefIdeal.main_arg3)
      ∧ r.2.mem ((c.tc : Thread Cert.FfnBwd2RefIdeal.nD Cert.FfnBwd2RefIdeal.τ).loc Cert.FfnBwd2RefIdeal.main_arg4) = m ((c.tc : Thread Cert.FfnBwd2RefIdeal.nD Cert.FfnBwd2RefIdeal.τ).loc Cert.FfnBwd2RefIdeal.main_arg4)
      ∧ r.2.mem ((c.tc : Thread Cert.FfnBwd2RefIdeal.nD Cert.FfnBwd2RefIdeal.τ).loc Cert.FfnBwd2RefIdeal.main_arg5) = m ((c.tc : Thread Cert.FfnBwd2RefIdeal.nD Cert.FfnBwd2RefIdeal.τ).loc Cert.FfnBwd2RefIdeal.main_arg5)
      ∧ r.2.mem ((c.tc : Thread Cert.FfnBwd2RefIdeal.nD Cert.FfnBwd2RefIdeal.τ).loc Cert.FfnBwd2RefIdeal.main_arg6) = m ((c.tc : Thread Cert.FfnBwd2RefIdeal.nD Cert.FfnBwd2RefIdeal.τ).loc Cert.FfnBwd2RefIdeal.main_arg6)
      ∧ r.2.mem ((c.tc : Thread Cert.FfnBwd2RefIdeal.nD Cert.FfnBwd2RefIdeal.τ).loc Cert.FfnBwd2RefIdeal.main_arg7) = m ((c.tc : Thread Cert.FfnBwd2RefIdeal.nD Cert.FfnBwd2RefIdeal.τ).loc Cert.FfnBwd2RefIdeal.main_arg7)
      ∧ r.2.mem ((c.tc : Thread Cert.FfnBwd2RefIdeal.nD Cert.FfnBwd2RefIdeal.τ).loc Cert.FfnBwd2RefIdeal.main_arg8) = m ((c.tc : Thread Cert.FfnBwd2RefIdeal.nD Cert.FfnBwd2RefIdeal.τ).loc Cert.FfnBwd2RefIdeal.main_arg8))
      ∧ r.2.sem = fun _ => 0)

def quiescent_LnmodBwd [hLnmodBwd : Cert.LnmodBwd.Facts] : Prop :=
  ∀ (m : (ℓ : Loc Cert.LnmodBwd.nD Cert.LnmodBwd.τ Cert.LnmodBwd.sig) → Buf (Elt Bits) ℓ) (g : Dev Cert.LnmodBwd.nD → PrngReg), Pre_LnmodBwd m →
    θ_run (Cert.LnmodBwd.defs (F := Bits)) (onTc (τ := Cert.LnmodBwd.τ) (Cert.LnmodBwd.main (F := Bits))) ⟨m, fun _ => 0, g⟩ (fun r => (∀ c : Dev Cert.LnmodBwd.nD,
      r.2.mem ((c.tc : Thread Cert.LnmodBwd.nD Cert.LnmodBwd.τ).loc Cert.LnmodBwd.main_arg0) = m ((c.tc : Thread Cert.LnmodBwd.nD Cert.LnmodBwd.τ).loc Cert.LnmodBwd.main_arg0)
      ∧ r.2.mem ((c.tc : Thread Cert.LnmodBwd.nD Cert.LnmodBwd.τ).loc Cert.LnmodBwd.main_arg1) = m ((c.tc : Thread Cert.LnmodBwd.nD Cert.LnmodBwd.τ).loc Cert.LnmodBwd.main_arg1)
      ∧ r.2.mem ((c.tc : Thread Cert.LnmodBwd.nD Cert.LnmodBwd.τ).loc Cert.LnmodBwd.main_arg2) = m ((c.tc : Thread Cert.LnmodBwd.nD Cert.LnmodBwd.τ).loc Cert.LnmodBwd.main_arg2)
      ∧ r.2.mem ((c.tc : Thread Cert.LnmodBwd.nD Cert.LnmodBwd.τ).loc Cert.LnmodBwd.main_arg3) = m ((c.tc : Thread Cert.LnmodBwd.nD Cert.LnmodBwd.τ).loc Cert.LnmodBwd.main_arg3)
      ∧ r.2.mem ((c.tc : Thread Cert.LnmodBwd.nD Cert.LnmodBwd.τ).loc Cert.LnmodBwd.main_arg4) = m ((c.tc : Thread Cert.LnmodBwd.nD Cert.LnmodBwd.τ).loc Cert.LnmodBwd.main_arg4)
      ∧ r.2.mem ((c.tc : Thread Cert.LnmodBwd.nD Cert.LnmodBwd.τ).loc Cert.LnmodBwd.main_arg5) = m ((c.tc : Thread Cert.LnmodBwd.nD Cert.LnmodBwd.τ).loc Cert.LnmodBwd.main_arg5))
      ∧ r.2.sem = fun _ => 0)

def quiescent_LnmodBwdIdeal [hLnmodBwdIdeal : Cert.LnmodBwdIdeal.Facts] : Prop :=
  ∀ (m : (ℓ : Loc Cert.LnmodBwdIdeal.nD Cert.LnmodBwdIdeal.τ Cert.LnmodBwdIdeal.sig) → Buf (Elt Ideal) ℓ) (g : Dev Cert.LnmodBwdIdeal.nD → PrngReg), Pre_LnmodBwdIdeal m →
    θ_run (Cert.LnmodBwdIdeal.defs (F := Ideal)) (onTc (τ := Cert.LnmodBwdIdeal.τ) (Cert.LnmodBwdIdeal.main (F := Ideal))) ⟨m, fun _ => 0, g⟩ (fun r => (∀ c : Dev Cert.LnmodBwdIdeal.nD,
      r.2.mem ((c.tc : Thread Cert.LnmodBwdIdeal.nD Cert.LnmodBwdIdeal.τ).loc Cert.LnmodBwdIdeal.main_arg0) = m ((c.tc : Thread Cert.LnmodBwdIdeal.nD Cert.LnmodBwdIdeal.τ).loc Cert.LnmodBwdIdeal.main_arg0)
      ∧ r.2.mem ((c.tc : Thread Cert.LnmodBwdIdeal.nD Cert.LnmodBwdIdeal.τ).loc Cert.LnmodBwdIdeal.main_arg1) = m ((c.tc : Thread Cert.LnmodBwdIdeal.nD Cert.LnmodBwdIdeal.τ).loc Cert.LnmodBwdIdeal.main_arg1)
      ∧ r.2.mem ((c.tc : Thread Cert.LnmodBwdIdeal.nD Cert.LnmodBwdIdeal.τ).loc Cert.LnmodBwdIdeal.main_arg2) = m ((c.tc : Thread Cert.LnmodBwdIdeal.nD Cert.LnmodBwdIdeal.τ).loc Cert.LnmodBwdIdeal.main_arg2)
      ∧ r.2.mem ((c.tc : Thread Cert.LnmodBwdIdeal.nD Cert.LnmodBwdIdeal.τ).loc Cert.LnmodBwdIdeal.main_arg3) = m ((c.tc : Thread Cert.LnmodBwdIdeal.nD Cert.LnmodBwdIdeal.τ).loc Cert.LnmodBwdIdeal.main_arg3)
      ∧ r.2.mem ((c.tc : Thread Cert.LnmodBwdIdeal.nD Cert.LnmodBwdIdeal.τ).loc Cert.LnmodBwdIdeal.main_arg4) = m ((c.tc : Thread Cert.LnmodBwdIdeal.nD Cert.LnmodBwdIdeal.τ).loc Cert.LnmodBwdIdeal.main_arg4)
      ∧ r.2.mem ((c.tc : Thread Cert.LnmodBwdIdeal.nD Cert.LnmodBwdIdeal.τ).loc Cert.LnmodBwdIdeal.main_arg5) = m ((c.tc : Thread Cert.LnmodBwdIdeal.nD Cert.LnmodBwdIdeal.τ).loc Cert.LnmodBwdIdeal.main_arg5))
      ∧ r.2.sem = fun _ => 0)

def quiescent_LnmodBwdIdeal_pre_finite_norm [hLnmodBwdIdeal : Cert.LnmodBwdIdeal.Facts] [hPre_finite_norm : Cert.Pre_finite_norm.Facts] : Prop :=
  ∀ (m : (ℓ : Loc Cert.LnmodBwdIdeal.nD Cert.LnmodBwdIdeal.τ Cert.LnmodBwdIdeal.sig) → Buf (Elt Ideal) ℓ) (g : Dev Cert.LnmodBwdIdeal.nD → PrngReg), Pre_LnmodBwdIdeal_finite_norm m →
    θ_run (Cert.LnmodBwdIdeal.defs (F := Ideal)) (onTc (τ := Cert.LnmodBwdIdeal.τ) (Cert.LnmodBwdIdeal.main (F := Ideal))) ⟨m, fun _ => 0, g⟩ (fun r => (∀ c : Dev Cert.LnmodBwdIdeal.nD,
      r.2.mem ((c.tc : Thread Cert.LnmodBwdIdeal.nD Cert.LnmodBwdIdeal.τ).loc Cert.LnmodBwdIdeal.main_arg0) = m ((c.tc : Thread Cert.LnmodBwdIdeal.nD Cert.LnmodBwdIdeal.τ).loc Cert.LnmodBwdIdeal.main_arg0)
      ∧ r.2.mem ((c.tc : Thread Cert.LnmodBwdIdeal.nD Cert.LnmodBwdIdeal.τ).loc Cert.LnmodBwdIdeal.main_arg1) = m ((c.tc : Thread Cert.LnmodBwdIdeal.nD Cert.LnmodBwdIdeal.τ).loc Cert.LnmodBwdIdeal.main_arg1)
      ∧ r.2.mem ((c.tc : Thread Cert.LnmodBwdIdeal.nD Cert.LnmodBwdIdeal.τ).loc Cert.LnmodBwdIdeal.main_arg2) = m ((c.tc : Thread Cert.LnmodBwdIdeal.nD Cert.LnmodBwdIdeal.τ).loc Cert.LnmodBwdIdeal.main_arg2)
      ∧ r.2.mem ((c.tc : Thread Cert.LnmodBwdIdeal.nD Cert.LnmodBwdIdeal.τ).loc Cert.LnmodBwdIdeal.main_arg3) = m ((c.tc : Thread Cert.LnmodBwdIdeal.nD Cert.LnmodBwdIdeal.τ).loc Cert.LnmodBwdIdeal.main_arg3)
      ∧ r.2.mem ((c.tc : Thread Cert.LnmodBwdIdeal.nD Cert.LnmodBwdIdeal.τ).loc Cert.LnmodBwdIdeal.main_arg4) = m ((c.tc : Thread Cert.LnmodBwdIdeal.nD Cert.LnmodBwdIdeal.τ).loc Cert.LnmodBwdIdeal.main_arg4)
      ∧ r.2.mem ((c.tc : Thread Cert.LnmodBwdIdeal.nD Cert.LnmodBwdIdeal.τ).loc Cert.LnmodBwdIdeal.main_arg5) = m ((c.tc : Thread Cert.LnmodBwdIdeal.nD Cert.LnmodBwdIdeal.τ).loc Cert.LnmodBwdIdeal.main_arg5))
      ∧ r.2.sem = fun _ => 0)

def quiescent_LnmodBwdRefIdeal [hLnmodBwdRefIdeal : Cert.LnmodBwdRefIdeal.Facts] : Prop :=
  ∀ (m : (ℓ : Loc Cert.LnmodBwdRefIdeal.nD Cert.LnmodBwdRefIdeal.τ Cert.LnmodBwdRefIdeal.sig) → Buf (Elt Ideal) ℓ) (g : Dev Cert.LnmodBwdRefIdeal.nD → PrngReg), Pre_LnmodBwdRefIdeal m →
    θ_run (Cert.LnmodBwdRefIdeal.defs (F := Ideal)) (onTc (τ := Cert.LnmodBwdRefIdeal.τ) (Cert.LnmodBwdRefIdeal.main (F := Ideal))) ⟨m, fun _ => 0, g⟩ (fun r => (∀ c : Dev Cert.LnmodBwdRefIdeal.nD,
      r.2.mem ((c.tc : Thread Cert.LnmodBwdRefIdeal.nD Cert.LnmodBwdRefIdeal.τ).loc Cert.LnmodBwdRefIdeal.main_arg0) = m ((c.tc : Thread Cert.LnmodBwdRefIdeal.nD Cert.LnmodBwdRefIdeal.τ).loc Cert.LnmodBwdRefIdeal.main_arg0)
      ∧ r.2.mem ((c.tc : Thread Cert.LnmodBwdRefIdeal.nD Cert.LnmodBwdRefIdeal.τ).loc Cert.LnmodBwdRefIdeal.main_arg1) = m ((c.tc : Thread Cert.LnmodBwdRefIdeal.nD Cert.LnmodBwdRefIdeal.τ).loc Cert.LnmodBwdRefIdeal.main_arg1)
      ∧ r.2.mem ((c.tc : Thread Cert.LnmodBwdRefIdeal.nD Cert.LnmodBwdRefIdeal.τ).loc Cert.LnmodBwdRefIdeal.main_arg2) = m ((c.tc : Thread Cert.LnmodBwdRefIdeal.nD Cert.LnmodBwdRefIdeal.τ).loc Cert.LnmodBwdRefIdeal.main_arg2)
      ∧ r.2.mem ((c.tc : Thread Cert.LnmodBwdRefIdeal.nD Cert.LnmodBwdRefIdeal.τ).loc Cert.LnmodBwdRefIdeal.main_arg3) = m ((c.tc : Thread Cert.LnmodBwdRefIdeal.nD Cert.LnmodBwdRefIdeal.τ).loc Cert.LnmodBwdRefIdeal.main_arg3)
      ∧ r.2.mem ((c.tc : Thread Cert.LnmodBwdRefIdeal.nD Cert.LnmodBwdRefIdeal.τ).loc Cert.LnmodBwdRefIdeal.main_arg4) = m ((c.tc : Thread Cert.LnmodBwdRefIdeal.nD Cert.LnmodBwdRefIdeal.τ).loc Cert.LnmodBwdRefIdeal.main_arg4)
      ∧ r.2.mem ((c.tc : Thread Cert.LnmodBwdRefIdeal.nD Cert.LnmodBwdRefIdeal.τ).loc Cert.LnmodBwdRefIdeal.main_arg5) = m ((c.tc : Thread Cert.LnmodBwdRefIdeal.nD Cert.LnmodBwdRefIdeal.τ).loc Cert.LnmodBwdRefIdeal.main_arg5))
      ∧ r.2.sem = fun _ => 0)

def quiescent_LnmodBwdRefIdeal_pre_finite_norm [hLnmodBwdRefIdeal : Cert.LnmodBwdRefIdeal.Facts] [hPre_finite_norm : Cert.Pre_finite_norm.Facts] : Prop :=
  ∀ (m : (ℓ : Loc Cert.LnmodBwdRefIdeal.nD Cert.LnmodBwdRefIdeal.τ Cert.LnmodBwdRefIdeal.sig) → Buf (Elt Ideal) ℓ) (g : Dev Cert.LnmodBwdRefIdeal.nD → PrngReg), Pre_LnmodBwdRefIdeal_finite_norm m →
    θ_run (Cert.LnmodBwdRefIdeal.defs (F := Ideal)) (onTc (τ := Cert.LnmodBwdRefIdeal.τ) (Cert.LnmodBwdRefIdeal.main (F := Ideal))) ⟨m, fun _ => 0, g⟩ (fun r => (∀ c : Dev Cert.LnmodBwdRefIdeal.nD,
      r.2.mem ((c.tc : Thread Cert.LnmodBwdRefIdeal.nD Cert.LnmodBwdRefIdeal.τ).loc Cert.LnmodBwdRefIdeal.main_arg0) = m ((c.tc : Thread Cert.LnmodBwdRefIdeal.nD Cert.LnmodBwdRefIdeal.τ).loc Cert.LnmodBwdRefIdeal.main_arg0)
      ∧ r.2.mem ((c.tc : Thread Cert.LnmodBwdRefIdeal.nD Cert.LnmodBwdRefIdeal.τ).loc Cert.LnmodBwdRefIdeal.main_arg1) = m ((c.tc : Thread Cert.LnmodBwdRefIdeal.nD Cert.LnmodBwdRefIdeal.τ).loc Cert.LnmodBwdRefIdeal.main_arg1)
      ∧ r.2.mem ((c.tc : Thread Cert.LnmodBwdRefIdeal.nD Cert.LnmodBwdRefIdeal.τ).loc Cert.LnmodBwdRefIdeal.main_arg2) = m ((c.tc : Thread Cert.LnmodBwdRefIdeal.nD Cert.LnmodBwdRefIdeal.τ).loc Cert.LnmodBwdRefIdeal.main_arg2)
      ∧ r.2.mem ((c.tc : Thread Cert.LnmodBwdRefIdeal.nD Cert.LnmodBwdRefIdeal.τ).loc Cert.LnmodBwdRefIdeal.main_arg3) = m ((c.tc : Thread Cert.LnmodBwdRefIdeal.nD Cert.LnmodBwdRefIdeal.τ).loc Cert.LnmodBwdRefIdeal.main_arg3)
      ∧ r.2.mem ((c.tc : Thread Cert.LnmodBwdRefIdeal.nD Cert.LnmodBwdRefIdeal.τ).loc Cert.LnmodBwdRefIdeal.main_arg4) = m ((c.tc : Thread Cert.LnmodBwdRefIdeal.nD Cert.LnmodBwdRefIdeal.τ).loc Cert.LnmodBwdRefIdeal.main_arg4)
      ∧ r.2.mem ((c.tc : Thread Cert.LnmodBwdRefIdeal.nD Cert.LnmodBwdRefIdeal.τ).loc Cert.LnmodBwdRefIdeal.main_arg5) = m ((c.tc : Thread Cert.LnmodBwdRefIdeal.nD Cert.LnmodBwdRefIdeal.τ).loc Cert.LnmodBwdRefIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6)
      ∧ r.2.mem ((c.tc : Thread Cert.OutBwd.nD Cert.OutBwd.τ).loc Cert.OutBwd.main_arg7) = m ((c.tc : Thread Cert.OutBwd.nD Cert.OutBwd.τ).loc Cert.OutBwd.main_arg7))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
      ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6)
      ∧ r.2.mem ((c.tc : Thread Cert.OutBwdRefIdeal.nD Cert.OutBwdRefIdeal.τ).loc Cert.OutBwdRefIdeal.main_arg7) = m ((c.tc : Thread Cert.OutBwdRefIdeal.nD Cert.OutBwdRefIdeal.τ).loc Cert.OutBwdRefIdeal.main_arg7))
      ∧ r.2.sem = fun _ => 0)

def preserves_SumAdamFfn_SumAdamFfnIdeal : Prop :=
  True

def algebraic_SumAdamFfnIdeal_SumAdamFfnRefIdeal [hSumAdamFfnIdeal : Cert.SumAdamFfnIdeal.Facts] [hSumAdamFfnRefIdeal : Cert.SumAdamFfnRefIdeal.Facts] : Prop :=
  ∀ (m : (ℓ : Loc Cert.SumAdamFfnIdeal.nD Cert.SumAdamFfnIdeal.τ Cert.SumAdamFfnIdeal.sig) → Buf (Elt Ideal) ℓ) (g : Dev Cert.SumAdamFfnIdeal.nD → PrngReg)
    (m' : (ℓ : Loc Cert.SumAdamFfnRefIdeal.nD Cert.SumAdamFfnRefIdeal.τ Cert.SumAdamFfnRefIdeal.sig) → Buf (Elt Ideal) ℓ) (g' : Dev Cert.SumAdamFfnRefIdeal.nD → PrngReg), Pre_SumAdamFfnIdeal m →
    (∀ c : Dev Cert.SumAdamFfnIdeal.nD,
      m' ((c.tc : Thread Cert.SumAdamFfnRefIdeal.nD Cert.SumAdamFfnRefIdeal.τ).loc Cert.SumAdamFfnRefIdeal.main_arg0) = m ((c.tc : Thread Cert.SumAdamFfnIdeal.nD Cert.SumAdamFfnIdeal.τ).loc Cert.SumAdamFfnIdeal.main_arg0)
      ∧ m' ((c.tc : Thread Cert.SumAdamFfnRefIdeal.nD Cert.SumAdamFfnRefIdeal.τ).loc Cert.SumAdamFfnRefIdeal.main_arg1) = m ((c.tc : Thread Cert.SumAdamFfnIdeal.nD Cert.SumAdamFfnIdeal.τ).loc Cert.SumAdamFfnIdeal.main_arg1)
      ∧ m' ((c.tc : Thread Cert.SumAdamFfnRefIdeal.nD Cert.SumAdamFfnRefIdeal.τ).loc Cert.SumAdamFfnRefIdeal.main_arg2) = m ((c.tc : Thread Cert.SumAdamFfnIdeal.nD Cert.SumAdamFfnIdeal.τ).loc Cert.SumAdamFfnIdeal.main_arg2)
      ∧ m' ((c.tc : Thread Cert.SumAdamFfnRefIdeal.nD Cert.SumAdamFfnRefIdeal.τ).loc Cert.SumAdamFfnRefIdeal.main_arg3) = m ((c.tc : Thread Cert.SumAdamFfnIdeal.nD Cert.SumAdamFfnIdeal.τ).loc Cert.SumAdamFfnIdeal.main_arg3)
      ∧ m' ((c.tc : Thread Cert.SumAdamFfnRefIdeal.nD Cert.SumAdamFfnRefIdeal.τ).loc Cert.SumAdamFfnRefIdeal.main_arg4) = m ((c.tc : Thread Cert.SumAdamFfnIdeal.nD Cert.SumAdamFfnIdeal.τ).loc Cert.SumAdamFfnIdeal.main_arg4)) →
    ∃ (v0 : (c : Dev Cert.SumAdamFfnIdeal.nD) → Buf (Elt Ideal) ((c.tc : Thread Cert.SumAdamFfnIdeal.nD Cert.SumAdamFfnIdeal.τ).loc Cert.SumAdamFfnIdeal.main_v0_0)) (v1 : (c : Dev Cert.SumAdamFfnIdeal.nD) → Buf (Elt Ideal) ((c.tc : Thread Cert.SumAdamFfnIdeal.nD Cert.SumAdamFfnIdeal.τ).loc Cert.SumAdamFfnIdeal.main_v0_1)) (v2 : (c : Dev Cert.SumAdamFfnIdeal.nD) → Buf (Elt Ideal) ((c.tc : Thread Cert.SumAdamFfnIdeal.nD Cert.SumAdamFfnIdeal.τ).loc Cert.SumAdamFfnIdeal.main_v0_2)) (v3 : (c : Dev Cert.SumAdamFfnIdeal.nD) → Buf (Elt Ideal) ((c.tc : Thread Cert.SumAdamFfnIdeal.nD Cert.SumAdamFfnIdeal.τ).loc Cert.SumAdamFfnIdeal.main_v0_3)),
      θ_run (Cert.SumAdamFfnIdeal.defs (F := Ideal)) (onTc (τ := Cert.SumAdamFfnIdeal.τ) (Cert.SumAdamFfnIdeal.main (F := Ideal))) ⟨m, fun _ => 0, g⟩ (fun r => ∀ c : Dev Cert.SumAdamFfnIdeal.nD,
          r.2.mem ((c.tc : Thread Cert.SumAdamFfnIdeal.nD Cert.SumAdamFfnIdeal.τ).loc Cert.SumAdamFfnIdeal.main_v0_0) = v0 c
          ∧ r.2.mem ((c.tc : Thread Cert.SumAdamFfnIdeal.nD Cert.SumAdamFfnIdeal.τ).loc Cert.SumAdamFfnIdeal.main_v0_1) = v1 c
          ∧ r.2.mem ((c.tc : Thread Cert.SumAdamFfnIdeal.nD Cert.SumAdamFfnIdeal.τ).loc Cert.SumAdamFfnIdeal.main_v0_2) = v2 c
          ∧ r.2.mem ((c.tc : Thread Cert.SumAdamFfnIdeal.nD Cert.SumAdamFfnIdeal.τ).loc Cert.SumAdamFfnIdeal.main_v0_3) = v3 c
          ∧ r.2.mem ((c.tc : Thread Cert.SumAdamFfnIdeal.nD Cert.SumAdamFfnIdeal.τ).loc Cert.SumAdamFfnIdeal.main_arg0) = m ((c.tc : Thread Cert.SumAdamFfnIdeal.nD Cert.SumAdamFfnIdeal.τ).loc Cert.SumAdamFfnIdeal.main_arg0)
          ∧ r.2.mem ((c.tc : Thread Cert.SumAdamFfnIdeal.nD Cert.SumAdamFfnIdeal.τ).loc Cert.SumAdamFfnIdeal.main_arg1) = m ((c.tc : Thread Cert.SumAdamFfnIdeal.nD Cert.SumAdamFfnIdeal.τ).loc Cert.SumAdamFfnIdeal.main_arg1)
          ∧ r.2.mem ((c.tc : Thread Cert.SumAdamFfnIdeal.nD Cert.SumAdamFfnIdeal.τ).loc Cert.SumAdamFfnIdeal.main_arg2) = m ((c.tc : Thread Cert.SumAdamFfnIdeal.nD Cert.SumAdamFfnIdeal.τ).loc Cert.SumAdamFfnIdeal.main_arg2)
          ∧ r.2.mem ((c.tc : Thread Cert.SumAdamFfnIdeal.nD Cert.SumAdamFfnIdeal.τ).loc Cert.SumAdamFfnIdeal.main_arg3) = m ((c.tc : Thread Cert.SumAdamFfnIdeal.nD Cert.SumAdamFfnIdeal.τ).loc Cert.SumAdamFfnIdeal.main_arg3)
          ∧ r.2.mem ((c.tc : Thread Cert.SumAdamFfnIdeal.nD Cert.SumAdamFfnIdeal.τ).loc Cert.SumAdamFfnIdeal.main_arg4) = m ((c.tc : Thread Cert.SumAdamFfnIdeal.nD Cert.SumAdamFfnIdeal.τ).loc Cert.SumAdamFfnIdeal.main_arg4))
      ∧ θ_run (Cert.SumAdamFfnRefIdeal.defs (F := Ideal)) (onTc (τ := Cert.SumAdamFfnRefIdeal.τ) (Cert.SumAdamFfnRefIdeal.main (F := Ideal))) ⟨m', fun _ => 0, g'⟩ (fun r => ∀ c : Dev Cert.SumAdamFfnRefIdeal.nD,
          r.2.mem ((c.tc : Thread Cert.SumAdamFfnRefIdeal.nD Cert.SumAdamFfnRefIdeal.τ).loc Cert.SumAdamFfnRefIdeal.main_v6) = v0 c
          ∧ r.2.mem ((c.tc : Thread Cert.SumAdamFfnRefIdeal.nD Cert.SumAdamFfnRefIdeal.τ).loc Cert.SumAdamFfnRefIdeal.main_v30) = v1 c
          ∧ r.2.mem ((c.tc : Thread Cert.SumAdamFfnRefIdeal.nD Cert.SumAdamFfnRefIdeal.τ).loc Cert.SumAdamFfnRefIdeal.main_v11) = v2 c
          ∧ r.2.mem ((c.tc : Thread Cert.SumAdamFfnRefIdeal.nD Cert.SumAdamFfnRefIdeal.τ).loc Cert.SumAdamFfnRefIdeal.main_v17) = v3 c
          ∧ r.2.mem ((c.tc : Thread Cert.SumAdamFfnRefIdeal.nD Cert.SumAdamFfnRefIdeal.τ).loc Cert.SumAdamFfnRefIdeal.main_arg0) = m' ((c.tc : Thread Cert.SumAdamFfnRefIdeal.nD Cert.SumAdamFfnRefIdeal.τ).loc Cert.SumAdamFfnRefIdeal.main_arg0)
          ∧ r.2.mem ((c.tc : Thread Cert.SumAdamFfnRefIdeal.nD Cert.SumAdamFfnRefIdeal.τ).loc Cert.SumAdamFfnRefIdeal.main_arg1) = m' ((c.tc : Thread Cert.SumAdamFfnRefIdeal.nD Cert.SumAdamFfnRefIdeal.τ).loc Cert.SumAdamFfnRefIdeal.main_arg1)
          ∧ r.2.mem ((c.tc : Thread Cert.SumAdamFfnRefIdeal.nD Cert.SumAdamFfnRefIdeal.τ).loc Cert.SumAdamFfnRefIdeal.main_arg2) = m' ((c.tc : Thread Cert.SumAdamFfnRefIdeal.nD Cert.SumAdamFfnRefIdeal.τ).loc Cert.SumAdamFfnRefIdeal.main_arg2)
          ∧ r.2.mem ((c.tc : Thread Cert.SumAdamFfnRefIdeal.nD Cert.SumAdamFfnRefIdeal.τ).loc Cert.SumAdamFfnRefIdeal.main_arg3) = m' ((c.tc : Thread Cert.SumAdamFfnRefIdeal.nD Cert.SumAdamFfnRefIdeal.τ).loc Cert.SumAdamFfnRefIdeal.main_arg3)
          ∧ r.2.mem ((c.tc : Thread Cert.SumAdamFfnRefIdeal.nD Cert.SumAdamFfnRefIdeal.τ).loc Cert.SumAdamFfnRefIdeal.main_arg4) = m' ((c.tc : Thread Cert.SumAdamFfnRefIdeal.nD Cert.SumAdamFfnRefIdeal.τ).loc Cert.SumAdamFfnRefIdeal.main_arg4))

def preserves_SumAdamSquare_SumAdamSquareIdeal : Prop :=
  True

def algebraic_SumAdamSquareIdeal_SumAdamSquareRefIdeal [hSumAdamSquareIdeal : Cert.SumAdamSquareIdeal.Facts] [hSumAdamSquareRefIdeal : Cert.SumAdamSquareRefIdeal.Facts] : Prop :=
  ∀ (m : (ℓ : Loc Cert.SumAdamSquareIdeal.nD Cert.SumAdamSquareIdeal.τ Cert.SumAdamSquareIdeal.sig) → Buf (Elt Ideal) ℓ) (g : Dev Cert.SumAdamSquareIdeal.nD → PrngReg)
    (m' : (ℓ : Loc Cert.SumAdamSquareRefIdeal.nD Cert.SumAdamSquareRefIdeal.τ Cert.SumAdamSquareRefIdeal.sig) → Buf (Elt Ideal) ℓ) (g' : Dev Cert.SumAdamSquareRefIdeal.nD → PrngReg), Pre_SumAdamSquareIdeal m →
    (∀ c : Dev Cert.SumAdamSquareIdeal.nD,
      m' ((c.tc : Thread Cert.SumAdamSquareRefIdeal.nD Cert.SumAdamSquareRefIdeal.τ).loc Cert.SumAdamSquareRefIdeal.main_arg0) = m ((c.tc : Thread Cert.SumAdamSquareIdeal.nD Cert.SumAdamSquareIdeal.τ).loc Cert.SumAdamSquareIdeal.main_arg0)
      ∧ m' ((c.tc : Thread Cert.SumAdamSquareRefIdeal.nD Cert.SumAdamSquareRefIdeal.τ).loc Cert.SumAdamSquareRefIdeal.main_arg1) = m ((c.tc : Thread Cert.SumAdamSquareIdeal.nD Cert.SumAdamSquareIdeal.τ).loc Cert.SumAdamSquareIdeal.main_arg1)
      ∧ m' ((c.tc : Thread Cert.SumAdamSquareRefIdeal.nD Cert.SumAdamSquareRefIdeal.τ).loc Cert.SumAdamSquareRefIdeal.main_arg2) = m ((c.tc : Thread Cert.SumAdamSquareIdeal.nD Cert.SumAdamSquareIdeal.τ).loc Cert.SumAdamSquareIdeal.main_arg2)
      ∧ m' ((c.tc : Thread Cert.SumAdamSquareRefIdeal.nD Cert.SumAdamSquareRefIdeal.τ).loc Cert.SumAdamSquareRefIdeal.main_arg3) = m ((c.tc : Thread Cert.SumAdamSquareIdeal.nD Cert.SumAdamSquareIdeal.τ).loc Cert.SumAdamSquareIdeal.main_arg3)
      ∧ m' ((c.tc : Thread Cert.SumAdamSquareRefIdeal.nD Cert.SumAdamSquareRefIdeal.τ).loc Cert.SumAdamSquareRefIdeal.main_arg4) = m ((c.tc : Thread Cert.SumAdamSquareIdeal.nD Cert.SumAdamSquareIdeal.τ).loc Cert.SumAdamSquareIdeal.main_arg4)) →
    ∃ (v0 : (c : Dev Cert.SumAdamSquareIdeal.nD) → Buf (Elt Ideal) ((c.tc : Thread Cert.SumAdamSquareIdeal.nD Cert.SumAdamSquareIdeal.τ).loc Cert.SumAdamSquareIdeal.main_v0_0)) (v1 : (c : Dev Cert.SumAdamSquareIdeal.nD) → Buf (Elt Ideal) ((c.tc : Thread Cert.SumAdamSquareIdeal.nD Cert.SumAdamSquareIdeal.τ).loc Cert.SumAdamSquareIdeal.main_v0_1)) (v2 : (c : Dev Cert.SumAdamSquareIdeal.nD) → Buf (Elt Ideal) ((c.tc : Thread Cert.SumAdamSquareIdeal.nD Cert.SumAdamSquareIdeal.τ).loc Cert.SumAdamSquareIdeal.main_v0_2)) (v3 : (c : Dev Cert.SumAdamSquareIdeal.nD) → Buf (Elt Ideal) ((c.tc : Thread Cert.SumAdamSquareIdeal.nD Cert.SumAdamSquareIdeal.τ).loc Cert.SumAdamSquareIdeal.main_v0_3)),
      θ_run (Cert.SumAdamSquareIdeal.defs (F := Ideal)) (onTc (τ := Cert.SumAdamSquareIdeal.τ) (Cert.SumAdamSquareIdeal.main (F := Ideal))) ⟨m, fun _ => 0, g⟩ (fun r => ∀ c : Dev Cert.SumAdamSquareIdeal.nD,
          r.2.mem ((c.tc : Thread Cert.SumAdamSquareIdeal.nD Cert.SumAdamSquareIdeal.τ).loc Cert.SumAdamSquareIdeal.main_v0_0) = v0 c
          ∧ r.2.mem ((c.tc : Thread Cert.SumAdamSquareIdeal.nD Cert.SumAdamSquareIdeal.τ).loc Cert.SumAdamSquareIdeal.main_v0_1) = v1 c
          ∧ r.2.mem ((c.tc : Thread Cert.SumAdamSquareIdeal.nD Cert.SumAdamSquareIdeal.τ).loc Cert.SumAdamSquareIdeal.main_v0_2) = v2 c
          ∧ r.2.mem ((c.tc : Thread Cert.SumAdamSquareIdeal.nD Cert.SumAdamSquareIdeal.τ).loc Cert.SumAdamSquareIdeal.main_v0_3) = v3 c
          ∧ r.2.mem ((c.tc : Thread Cert.SumAdamSquareIdeal.nD Cert.SumAdamSquareIdeal.τ).loc Cert.SumAdamSquareIdeal.main_arg0) = m ((c.tc : Thread Cert.SumAdamSquareIdeal.nD Cert.SumAdamSquareIdeal.τ).loc Cert.SumAdamSquareIdeal.main_arg0)
          ∧ r.2.mem ((c.tc : Thread Cert.SumAdamSquareIdeal.nD Cert.SumAdamSquareIdeal.τ).loc Cert.SumAdamSquareIdeal.main_arg1) = m ((c.tc : Thread Cert.SumAdamSquareIdeal.nD Cert.SumAdamSquareIdeal.τ).loc Cert.SumAdamSquareIdeal.main_arg1)
          ∧ r.2.mem ((c.tc : Thread Cert.SumAdamSquareIdeal.nD Cert.SumAdamSquareIdeal.τ).loc Cert.SumAdamSquareIdeal.main_arg2) = m ((c.tc : Thread Cert.SumAdamSquareIdeal.nD Cert.SumAdamSquareIdeal.τ).loc Cert.SumAdamSquareIdeal.main_arg2)
          ∧ r.2.mem ((c.tc : Thread Cert.SumAdamSquareIdeal.nD Cert.SumAdamSquareIdeal.τ).loc Cert.SumAdamSquareIdeal.main_arg3) = m ((c.tc : Thread Cert.SumAdamSquareIdeal.nD Cert.SumAdamSquareIdeal.τ).loc Cert.SumAdamSquareIdeal.main_arg3)
          ∧ r.2.mem ((c.tc : Thread Cert.SumAdamSquareIdeal.nD Cert.SumAdamSquareIdeal.τ).loc Cert.SumAdamSquareIdeal.main_arg4) = m ((c.tc : Thread Cert.SumAdamSquareIdeal.nD Cert.SumAdamSquareIdeal.τ).loc Cert.SumAdamSquareIdeal.main_arg4))
      ∧ θ_run (Cert.SumAdamSquareRefIdeal.defs (F := Ideal)) (onTc (τ := Cert.SumAdamSquareRefIdeal.τ) (Cert.SumAdamSquareRefIdeal.main (F := Ideal))) ⟨m', fun _ => 0, g'⟩ (fun r => ∀ c : Dev Cert.SumAdamSquareRefIdeal.nD,
          r.2.mem ((c.tc : Thread Cert.SumAdamSquareRefIdeal.nD Cert.SumAdamSquareRefIdeal.τ).loc Cert.SumAdamSquareRefIdeal.main_v6) = v0 c
          ∧ r.2.mem ((c.tc : Thread Cert.SumAdamSquareRefIdeal.nD Cert.SumAdamSquareRefIdeal.τ).loc Cert.SumAdamSquareRefIdeal.main_v30) = v1 c
          ∧ r.2.mem ((c.tc : Thread Cert.SumAdamSquareRefIdeal.nD Cert.SumAdamSquareRefIdeal.τ).loc Cert.SumAdamSquareRefIdeal.main_v11) = v2 c
          ∧ r.2.mem ((c.tc : Thread Cert.SumAdamSquareRefIdeal.nD Cert.SumAdamSquareRefIdeal.τ).loc Cert.SumAdamSquareRefIdeal.main_v17) = v3 c
          ∧ r.2.mem ((c.tc : Thread Cert.SumAdamSquareRefIdeal.nD Cert.SumAdamSquareRefIdeal.τ).loc Cert.SumAdamSquareRefIdeal.main_arg0) = m' ((c.tc : Thread Cert.SumAdamSquareRefIdeal.nD Cert.SumAdamSquareRefIdeal.τ).loc Cert.SumAdamSquareRefIdeal.main_arg0)
          ∧ r.2.mem ((c.tc : Thread Cert.SumAdamSquareRefIdeal.nD Cert.SumAdamSquareRefIdeal.τ).loc Cert.SumAdamSquareRefIdeal.main_arg1) = m' ((c.tc : Thread Cert.SumAdamSquareRefIdeal.nD Cert.SumAdamSquareRefIdeal.τ).loc Cert.SumAdamSquareRefIdeal.main_arg1)
          ∧ r.2.mem ((c.tc : Thread Cert.SumAdamSquareRefIdeal.nD Cert.SumAdamSquareRefIdeal.τ).loc Cert.SumAdamSquareRefIdeal.main_arg2) = m' ((c.tc : Thread Cert.SumAdamSquareRefIdeal.nD Cert.SumAdamSquareRefIdeal.τ).loc Cert.SumAdamSquareRefIdeal.main_arg2)
          ∧ r.2.mem ((c.tc : Thread Cert.SumAdamSquareRefIdeal.nD Cert.SumAdamSquareRefIdeal.τ).loc Cert.SumAdamSquareRefIdeal.main_arg3) = m' ((c.tc : Thread Cert.SumAdamSquareRefIdeal.nD Cert.SumAdamSquareRefIdeal.τ).loc Cert.SumAdamSquareRefIdeal.main_arg3)
          ∧ r.2.mem ((c.tc : Thread Cert.SumAdamSquareRefIdeal.nD Cert.SumAdamSquareRefIdeal.τ).loc Cert.SumAdamSquareRefIdeal.main_arg4) = m' ((c.tc : Thread Cert.SumAdamSquareRefIdeal.nD Cert.SumAdamSquareRefIdeal.τ).loc Cert.SumAdamSquareRefIdeal.main_arg4))

def preserves_SumAdamWin_SumAdamWinIdeal : Prop :=
  True

def algebraic_SumAdamWinIdeal_SumAdamWinRefIdeal [hSumAdamWinIdeal : Cert.SumAdamWinIdeal.Facts] [hSumAdamWinRefIdeal : Cert.SumAdamWinRefIdeal.Facts] : Prop :=
  ∀ (m : (ℓ : Loc Cert.SumAdamWinIdeal.nD Cert.SumAdamWinIdeal.τ Cert.SumAdamWinIdeal.sig) → Buf (Elt Ideal) ℓ) (g : Dev Cert.SumAdamWinIdeal.nD → PrngReg)
    (m' : (ℓ : Loc Cert.SumAdamWinRefIdeal.nD Cert.SumAdamWinRefIdeal.τ Cert.SumAdamWinRefIdeal.sig) → Buf (Elt Ideal) ℓ) (g' : Dev Cert.SumAdamWinRefIdeal.nD → PrngReg), Pre_SumAdamWinIdeal m →
    (∀ c : Dev Cert.SumAdamWinIdeal.nD,
      m' ((c.tc : Thread Cert.SumAdamWinRefIdeal.nD Cert.SumAdamWinRefIdeal.τ).loc Cert.SumAdamWinRefIdeal.main_arg0) = m ((c.tc : Thread Cert.SumAdamWinIdeal.nD Cert.SumAdamWinIdeal.τ).loc Cert.SumAdamWinIdeal.main_arg0)
      ∧ m' ((c.tc : Thread Cert.SumAdamWinRefIdeal.nD Cert.SumAdamWinRefIdeal.τ).loc Cert.SumAdamWinRefIdeal.main_arg1) = m ((c.tc : Thread Cert.SumAdamWinIdeal.nD Cert.SumAdamWinIdeal.τ).loc Cert.SumAdamWinIdeal.main_arg1)
      ∧ m' ((c.tc : Thread Cert.SumAdamWinRefIdeal.nD Cert.SumAdamWinRefIdeal.τ).loc Cert.SumAdamWinRefIdeal.main_arg2) = m ((c.tc : Thread Cert.SumAdamWinIdeal.nD Cert.SumAdamWinIdeal.τ).loc Cert.SumAdamWinIdeal.main_arg2)
      ∧ m' ((c.tc : Thread Cert.SumAdamWinRefIdeal.nD Cert.SumAdamWinRefIdeal.τ).loc Cert.SumAdamWinRefIdeal.main_arg3) = m ((c.tc : Thread Cert.SumAdamWinIdeal.nD Cert.SumAdamWinIdeal.τ).loc Cert.SumAdamWinIdeal.main_arg3)
      ∧ m' ((c.tc : Thread Cert.SumAdamWinRefIdeal.nD Cert.SumAdamWinRefIdeal.τ).loc Cert.SumAdamWinRefIdeal.main_arg4) = m ((c.tc : Thread Cert.SumAdamWinIdeal.nD Cert.SumAdamWinIdeal.τ).loc Cert.SumAdamWinIdeal.main_arg4)) →
    ∃ (v0 : (c : Dev Cert.SumAdamWinIdeal.nD) → Buf (Elt Ideal) ((c.tc : Thread Cert.SumAdamWinIdeal.nD Cert.SumAdamWinIdeal.τ).loc Cert.SumAdamWinIdeal.main_v0_0)) (v1 : (c : Dev Cert.SumAdamWinIdeal.nD) → Buf (Elt Ideal) ((c.tc : Thread Cert.SumAdamWinIdeal.nD Cert.SumAdamWinIdeal.τ).loc Cert.SumAdamWinIdeal.main_v0_1)) (v2 : (c : Dev Cert.SumAdamWinIdeal.nD) → Buf (Elt Ideal) ((c.tc : Thread Cert.SumAdamWinIdeal.nD Cert.SumAdamWinIdeal.τ).loc Cert.SumAdamWinIdeal.main_v0_2)) (v3 : (c : Dev Cert.SumAdamWinIdeal.nD) → Buf (Elt Ideal) ((c.tc : Thread Cert.SumAdamWinIdeal.nD Cert.SumAdamWinIdeal.τ).loc Cert.SumAdamWinIdeal.main_v0_3)),
      θ_run (Cert.SumAdamWinIdeal.defs (F := Ideal)) (onTc (τ := Cert.SumAdamWinIdeal.τ) (Cert.SumAdamWinIdeal.main (F := Ideal))) ⟨m, fun _ => 0, g⟩ (fun r => ∀ c : Dev Cert.SumAdamWinIdeal.nD,
          r.2.mem ((c.tc : Thread Cert.SumAdamWinIdeal.nD Cert.SumAdamWinIdeal.τ).loc Cert.SumAdamWinIdeal.main_v0_0) = v0 c
          ∧ r.2.mem ((c.tc : Thread Cert.SumAdamWinIdeal.nD Cert.SumAdamWinIdeal.τ).loc Cert.SumAdamWinIdeal.main_v0_1) = v1 c
          ∧ r.2.mem ((c.tc : Thread Cert.SumAdamWinIdeal.nD Cert.SumAdamWinIdeal.τ).loc Cert.SumAdamWinIdeal.main_v0_2) = v2 c
          ∧ r.2.mem ((c.tc : Thread Cert.SumAdamWinIdeal.nD Cert.SumAdamWinIdeal.τ).loc Cert.SumAdamWinIdeal.main_v0_3) = v3 c
          ∧ r.2.mem ((c.tc : Thread Cert.SumAdamWinIdeal.nD Cert.SumAdamWinIdeal.τ).loc Cert.SumAdamWinIdeal.main_arg0) = m ((c.tc : Thread Cert.SumAdamWinIdeal.nD Cert.SumAdamWinIdeal.τ).loc Cert.SumAdamWinIdeal.main_arg0)
          ∧ r.2.mem ((c.tc : Thread Cert.SumAdamWinIdeal.nD Cert.SumAdamWinIdeal.τ).loc Cert.SumAdamWinIdeal.main_arg1) = m ((c.tc : Thread Cert.SumAdamWinIdeal.nD Cert.SumAdamWinIdeal.τ).loc Cert.SumAdamWinIdeal.main_arg1)
          ∧ r.2.mem ((c.tc : Thread Cert.SumAdamWinIdeal.nD Cert.SumAdamWinIdeal.τ).loc Cert.SumAdamWinIdeal.main_arg2) = m ((c.tc : Thread Cert.SumAdamWinIdeal.nD Cert.SumAdamWinIdeal.τ).loc Cert.SumAdamWinIdeal.main_arg2)
          ∧ r.2.mem ((c.tc : Thread Cert.SumAdamWinIdeal.nD Cert.SumAdamWinIdeal.τ).loc Cert.SumAdamWinIdeal.main_arg3) = m ((c.tc : Thread Cert.SumAdamWinIdeal.nD Cert.SumAdamWinIdeal.τ).loc Cert.SumAdamWinIdeal.main_arg3)
          ∧ r.2.mem ((c.tc : Thread Cert.SumAdamWinIdeal.nD Cert.SumAdamWinIdeal.τ).loc Cert.SumAdamWinIdeal.main_arg4) = m ((c.tc : Thread Cert.SumAdamWinIdeal.nD Cert.SumAdamWinIdeal.τ).loc Cert.SumAdamWinIdeal.main_arg4))
      ∧ θ_run (Cert.SumAdamWinRefIdeal.defs (F := Ideal)) (onTc (τ := Cert.SumAdamWinRefIdeal.τ) (Cert.SumAdamWinRefIdeal.main (F := Ideal))) ⟨m', fun _ => 0, g'⟩ (fun r => ∀ c : Dev Cert.SumAdamWinRefIdeal.nD,
          r.2.mem ((c.tc : Thread Cert.SumAdamWinRefIdeal.nD Cert.SumAdamWinRefIdeal.τ).loc Cert.SumAdamWinRefIdeal.main_v6) = v0 c
          ∧ r.2.mem ((c.tc : Thread Cert.SumAdamWinRefIdeal.nD Cert.SumAdamWinRefIdeal.τ).loc Cert.SumAdamWinRefIdeal.main_v30) = v1 c
          ∧ r.2.mem ((c.tc : Thread Cert.SumAdamWinRefIdeal.nD Cert.SumAdamWinRefIdeal.τ).loc Cert.SumAdamWinRefIdeal.main_v11) = v2 c
          ∧ r.2.mem ((c.tc : Thread Cert.SumAdamWinRefIdeal.nD Cert.SumAdamWinRefIdeal.τ).loc Cert.SumAdamWinRefIdeal.main_v17) = v3 c
          ∧ r.2.mem ((c.tc : Thread Cert.SumAdamWinRefIdeal.nD Cert.SumAdamWinRefIdeal.τ).loc Cert.SumAdamWinRefIdeal.main_arg0) = m' ((c.tc : Thread Cert.SumAdamWinRefIdeal.nD Cert.SumAdamWinRefIdeal.τ).loc Cert.SumAdamWinRefIdeal.main_arg0)
          ∧ r.2.mem ((c.tc : Thread Cert.SumAdamWinRefIdeal.nD Cert.SumAdamWinRefIdeal.τ).loc Cert.SumAdamWinRefIdeal.main_arg1) = m' ((c.tc : Thread Cert.SumAdamWinRefIdeal.nD Cert.SumAdamWinRefIdeal.τ).loc Cert.SumAdamWinRefIdeal.main_arg1)
          ∧ r.2.mem ((c.tc : Thread Cert.SumAdamWinRefIdeal.nD Cert.SumAdamWinRefIdeal.τ).loc Cert.SumAdamWinRefIdeal.main_arg2) = m' ((c.tc : Thread Cert.SumAdamWinRefIdeal.nD Cert.SumAdamWinRefIdeal.τ).loc Cert.SumAdamWinRefIdeal.main_arg2)
          ∧ r.2.mem ((c.tc : Thread Cert.SumAdamWinRefIdeal.nD Cert.SumAdamWinRefIdeal.τ).loc Cert.SumAdamWinRefIdeal.main_arg3) = m' ((c.tc : Thread Cert.SumAdamWinRefIdeal.nD Cert.SumAdamWinRefIdeal.τ).loc Cert.SumAdamWinRefIdeal.main_arg3)
          ∧ r.2.mem ((c.tc : Thread Cert.SumAdamWinRefIdeal.nD Cert.SumAdamWinRefIdeal.τ).loc Cert.SumAdamWinRefIdeal.main_arg4) = m' ((c.tc : Thread Cert.SumAdamWinRefIdeal.nD Cert.SumAdamWinRefIdeal.τ).loc Cert.SumAdamWinRefIdeal.main_arg4))

def preserves_SmallAdam_SmallAdamIdeal : Prop :=
  True

def algebraic_SmallAdamIdeal_SmallAdamRefIdeal [hSmallAdamIdeal : Cert.SmallAdamIdeal.Facts] [hSmallAdamRefIdeal : Cert.SmallAdamRefIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg)
    (m' : (ℓ : Loc Cert.SmallAdamRefIdeal.nD Cert.SmallAdamRefIdeal.τ Cert.SmallAdamRefIdeal.sig) → Buf (Elt Ideal) ℓ) (g' : Dev Cert.SmallAdamRefIdeal.nD → PrngReg), Pre_SmallAdamIdeal m →
    (∀ c : Dev Cert.SmallAdamIdeal.nD,
      m' ((c.tc : Thread Cert.SmallAdamRefIdeal.nD Cert.SmallAdamRefIdeal.τ).loc Cert.SmallAdamRefIdeal.main_arg0) = m ((c.tc : Thread Cert.SmallAdamIdeal.nD Cert.SmallAdamIdeal.τ).loc Cert.SmallAdamIdeal.main_arg0)
      ∧ m' ((c.tc : Thread Cert.SmallAdamRefIdeal.nD Cert.SmallAdamRefIdeal.τ).loc Cert.SmallAdamRefIdeal.main_arg1) = m ((c.tc : Thread Cert.SmallAdamIdeal.nD Cert.SmallAdamIdeal.τ).loc Cert.SmallAdamIdeal.main_arg1)
      ∧ m' ((c.tc : Thread Cert.SmallAdamRefIdeal.nD Cert.SmallAdamRefIdeal.τ).loc Cert.SmallAdamRefIdeal.main_arg2) = m ((c.tc : Thread Cert.SmallAdamIdeal.nD Cert.SmallAdamIdeal.τ).loc Cert.SmallAdamIdeal.main_arg2)
      ∧ m' ((c.tc : Thread Cert.SmallAdamRefIdeal.nD Cert.SmallAdamRefIdeal.τ).loc Cert.SmallAdamRefIdeal.main_arg3) = m ((c.tc : Thread Cert.SmallAdamIdeal.nD Cert.SmallAdamIdeal.τ).loc Cert.SmallAdamIdeal.main_arg3)) →
    ∃ (v0 : (c : Dev Cert.SmallAdamIdeal.nD) → Buf (Elt Ideal) ((c.tc : Thread Cert.SmallAdamIdeal.nD Cert.SmallAdamIdeal.τ).loc Cert.SmallAdamIdeal.main_v5)) (v1 : (c : Dev Cert.SmallAdamIdeal.nD) → Buf (Elt Ideal) ((c.tc : Thread Cert.SmallAdamIdeal.nD Cert.SmallAdamIdeal.τ).loc Cert.SmallAdamIdeal.main_v0_0)) (v2 : (c : Dev Cert.SmallAdamIdeal.nD) → Buf (Elt Ideal) ((c.tc : Thread Cert.SmallAdamIdeal.nD Cert.SmallAdamIdeal.τ).loc Cert.SmallAdamIdeal.main_v0_1)) (v3 : (c : Dev Cert.SmallAdamIdeal.nD) → Buf (Elt Ideal) ((c.tc : Thread Cert.SmallAdamIdeal.nD Cert.SmallAdamIdeal.τ).loc Cert.SmallAdamIdeal.main_v0_2)) (v4 : (c : Dev Cert.SmallAdamIdeal.nD) → Buf (Elt Ideal) ((c.tc : Thread Cert.SmallAdamIdeal.nD Cert.SmallAdamIdeal.τ).loc Cert.SmallAdamIdeal.main_v0_3)),
      θ_run (Cert.SmallAdamIdeal.defs (F := Ideal)) (onTc (τ := Cert.SmallAdamIdeal.τ) (Cert.SmallAdamIdeal.main (F := Ideal))) ⟨m, fun _ => 0, g⟩ (fun r => ∀ c : Dev Cert.SmallAdamIdeal.nD,
          r.2.mem ((c.tc : Thread Cert.SmallAdamIdeal.nD Cert.SmallAdamIdeal.τ).loc Cert.SmallAdamIdeal.main_v5) = v0 c
          ∧ r.2.mem ((c.tc : Thread Cert.SmallAdamIdeal.nD Cert.SmallAdamIdeal.τ).loc Cert.SmallAdamIdeal.main_v0_0) = v1 c
          ∧ r.2.mem ((c.tc : Thread Cert.SmallAdamIdeal.nD Cert.SmallAdamIdeal.τ).loc Cert.SmallAdamIdeal.main_v0_1) = v2 c
          ∧ r.2.mem ((c.tc : Thread Cert.SmallAdamIdeal.nD Cert.SmallAdamIdeal.τ).loc Cert.SmallAdamIdeal.main_v0_2) = v3 c
          ∧ r.2.mem ((c.tc : Thread Cert.SmallAdamIdeal.nD Cert.SmallAdamIdeal.τ).loc Cert.SmallAdamIdeal.main_v0_3) = v4 c
          ∧ r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
          ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
          ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
          ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ θ_run (Cert.SmallAdamRefIdeal.defs (F := Ideal)) (onTc (τ := Cert.SmallAdamRefIdeal.τ) (Cert.SmallAdamRefIdeal.main (F := Ideal))) ⟨m', fun _ => 0, g'⟩ (fun r => ∀ c : Dev Cert.SmallAdamRefIdeal.nD,
          r.2.mem ((c.tc : Thread Cert.SmallAdamRefIdeal.nD Cert.SmallAdamRefIdeal.τ).loc Cert.SmallAdamRefIdeal.main_v5) = v0 c
          ∧ r.2.mem ((c.tc : Thread Cert.SmallAdamRefIdeal.nD Cert.SmallAdamRefIdeal.τ).loc Cert.SmallAdamRefIdeal.main_v6) = v1 c
          ∧ r.2.mem ((c.tc : Thread Cert.SmallAdamRefIdeal.nD Cert.SmallAdamRefIdeal.τ).loc Cert.SmallAdamRefIdeal.main_v30) = v2 c
          ∧ r.2.mem ((c.tc : Thread Cert.SmallAdamRefIdeal.nD Cert.SmallAdamRefIdeal.τ).loc Cert.SmallAdamRefIdeal.main_v11) = v3 c
          ∧ r.2.mem ((c.tc : Thread Cert.SmallAdamRefIdeal.nD Cert.SmallAdamRefIdeal.τ).loc Cert.SmallAdamRefIdeal.main_v17) = v4 c
          ∧ r.2.mem ((c.tc : Thread Cert.SmallAdamRefIdeal.nD Cert.SmallAdamRefIdeal.τ).loc Cert.SmallAdamRefIdeal.main_arg0) = m' ((c.tc : Thread Cert.SmallAdamRefIdeal.nD Cert.SmallAdamRefIdeal.τ).loc Cert.SmallAdamRefIdeal.main_arg0)
          ∧ r.2.mem ((c.tc : Thread Cert.SmallAdamRefIdeal.nD Cert.SmallAdamRefIdeal.τ).loc Cert.SmallAdamRefIdeal.main_arg1) = m' ((c.tc : Thread Cert.SmallAdamRefIdeal.nD Cert.SmallAdamRefIdeal.τ).loc Cert.SmallAdamRefIdeal.main_arg1)
          ∧ r.2.mem ((c.tc : Thread Cert.SmallAdamRefIdeal.nD Cert.SmallAdamRefIdeal.τ).loc Cert.SmallAdamRefIdeal.main_arg2) = m' ((c.tc : Thread Cert.SmallAdamRefIdeal.nD Cert.SmallAdamRefIdeal.τ).loc Cert.SmallAdamRefIdeal.main_arg2)
          ∧ r.2.mem ((c.tc : Thread Cert.SmallAdamRefIdeal.nD Cert.SmallAdamRefIdeal.τ).loc Cert.SmallAdamRefIdeal.main_arg3) = m' ((c.tc : Thread Cert.SmallAdamRefIdeal.nD Cert.SmallAdamRefIdeal.τ).loc Cert.SmallAdamRefIdeal.main_arg3))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)
      ∧ m' ((c.tc : Thread Cert.AdaGradRefIdeal.nD Cert.AdaGradRefIdeal.τ).loc Cert.AdaGradRefIdeal.main_arg2) = m ((c.tc : Thread Cert.AdaGradIdeal.nD Cert.AdaGradIdeal.τ).loc Cert.AdaGradIdeal.main_arg2)
      ∧ m' ((c.tc : Thread Cert.AdaGradRefIdeal.nD Cert.AdaGradRefIdeal.τ).loc Cert.AdaGradRefIdeal.main_arg3) = m ((c.tc : Thread Cert.AdaGradIdeal.nD Cert.AdaGradIdeal.τ).loc Cert.AdaGradIdeal.main_arg3)
      ∧ m' ((c.tc : Thread Cert.AdaGradRefIdeal.nD Cert.AdaGradRefIdeal.τ).loc Cert.AdaGradRefIdeal.main_arg4) = m ((c.tc : Thread Cert.AdaGradIdeal.nD Cert.AdaGradIdeal.τ).loc Cert.AdaGradIdeal.main_arg4)) →
    ∃ (v0 : (c : Dev Cert.AdaGradIdeal.nD) → Buf (Elt Ideal) ((c.tc : Thread Cert.AdaGradIdeal.nD Cert.AdaGradIdeal.τ).loc Cert.AdaGradIdeal.main_v1_0)) (v1 : (c : Dev Cert.AdaGradIdeal.nD) → Buf (Elt Ideal) ((c.tc : Thread Cert.AdaGradIdeal.nD Cert.AdaGradIdeal.τ).loc Cert.AdaGradIdeal.main_v1_1)) (v2 : (c : Dev Cert.AdaGradIdeal.nD) → Buf (Elt Ideal) ((c.tc : Thread Cert.AdaGradIdeal.nD Cert.AdaGradIdeal.τ).loc Cert.AdaGradIdeal.main_v1_2)) (v3 : (c : Dev Cert.AdaGradIdeal.nD) → Buf (Elt Ideal) ((c.tc : Thread Cert.AdaGradIdeal.nD Cert.AdaGradIdeal.τ).loc Cert.AdaGradIdeal.main_v1_3)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v1_0) = v0 c
          ∧ r.2.mem ((c.tc : Thread Cert.AdaGradIdeal.nD Cert.AdaGradIdeal.τ).loc Cert.AdaGradIdeal.main_v1_1) = v1 c
          ∧ r.2.mem ((c.tc : Thread Cert.AdaGradIdeal.nD Cert.AdaGradIdeal.τ).loc Cert.AdaGradIdeal.main_v1_2) = v2 c
          ∧ r.2.mem ((c.tc : Thread Cert.AdaGradIdeal.nD Cert.AdaGradIdeal.τ).loc Cert.AdaGradIdeal.main_v1_3) = v3 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1)
          ∧ r.2.mem ((c.tc : Thread Cert.AdaGradIdeal.nD Cert.AdaGradIdeal.τ).loc Cert.AdaGradIdeal.main_arg2) = m ((c.tc : Thread Cert.AdaGradIdeal.nD Cert.AdaGradIdeal.τ).loc Cert.AdaGradIdeal.main_arg2)
          ∧ r.2.mem ((c.tc : Thread Cert.AdaGradIdeal.nD Cert.AdaGradIdeal.τ).loc Cert.AdaGradIdeal.main_arg3) = m ((c.tc : Thread Cert.AdaGradIdeal.nD Cert.AdaGradIdeal.τ).loc Cert.AdaGradIdeal.main_arg3)
          ∧ r.2.mem ((c.tc : Thread Cert.AdaGradIdeal.nD Cert.AdaGradIdeal.τ).loc Cert.AdaGradIdeal.main_arg4) = m ((c.tc : Thread Cert.AdaGradIdeal.nD Cert.AdaGradIdeal.τ).loc Cert.AdaGradIdeal.main_arg4))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v5) = v0 c
          ∧ r.2.mem ((c.tc : Thread Cert.AdaGradRefIdeal.nD Cert.AdaGradRefIdeal.τ).loc Cert.AdaGradRefIdeal.main_v29) = v1 c
          ∧ r.2.mem ((c.tc : Thread Cert.AdaGradRefIdeal.nD Cert.AdaGradRefIdeal.τ).loc Cert.AdaGradRefIdeal.main_v10) = v2 c
          ∧ r.2.mem ((c.tc : Thread Cert.AdaGradRefIdeal.nD Cert.AdaGradRefIdeal.τ).loc Cert.AdaGradRefIdeal.main_v16) = v3 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1)
          ∧ r.2.mem ((c.tc : Thread Cert.AdaGradRefIdeal.nD Cert.AdaGradRefIdeal.τ).loc Cert.AdaGradRefIdeal.main_arg2) = m' ((c.tc : Thread Cert.AdaGradRefIdeal.nD Cert.AdaGradRefIdeal.τ).loc Cert.AdaGradRefIdeal.main_arg2)
          ∧ r.2.mem ((c.tc : Thread Cert.AdaGradRefIdeal.nD Cert.AdaGradRefIdeal.τ).loc Cert.AdaGradRefIdeal.main_arg3) = m' ((c.tc : Thread Cert.AdaGradRefIdeal.nD Cert.AdaGradRefIdeal.τ).loc Cert.AdaGradRefIdeal.main_arg3)
          ∧ r.2.mem ((c.tc : Thread Cert.AdaGradRefIdeal.nD Cert.AdaGradRefIdeal.τ).loc Cert.AdaGradRefIdeal.main_arg4) = m' ((c.tc : Thread Cert.AdaGradRefIdeal.nD Cert.AdaGradRefIdeal.τ).loc Cert.AdaGradRefIdeal.main_arg4))

def preserves_GradFfn_GradFfnIdeal : Prop :=
  True

def algebraic_GradFfnIdeal_GradWdRefIdeal [hGradFfnIdeal : Cert.GradFfnIdeal.Facts] [hGradWdRefIdeal : Cert.GradWdRefIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradWdRefIdeal.nD Cert.GradWdRefIdeal.τ Cert.GradWdRefIdeal.sig) → Buf (Elt Ideal) ℓ) (g' : Dev Cert.GradWdRefIdeal.nD → PrngReg), Pre_GradFfnIdeal m →
    (∀ c : Dev Cert.GradFfnIdeal.nD,
      m' ((c.tc : Thread Cert.GradWdRefIdeal.nD Cert.GradWdRefIdeal.τ).loc Cert.GradWdRefIdeal.main_arg0) = m ((c.tc : Thread Cert.GradFfnIdeal.nD Cert.GradFfnIdeal.τ).loc Cert.GradFfnIdeal.main_arg0)
      ∧ m' ((c.tc : Thread Cert.GradWdRefIdeal.nD Cert.GradWdRefIdeal.τ).loc Cert.GradWdRefIdeal.main_arg1) = m ((c.tc : Thread Cert.GradFfnIdeal.nD Cert.GradFfnIdeal.τ).loc Cert.GradFfnIdeal.main_arg1)) →
    ∃ (v0 : (c : Dev Cert.GradFfnIdeal.nD) → Buf (Elt Ideal) ((c.tc : Thread Cert.GradFfnIdeal.nD Cert.GradFfnIdeal.τ).loc Cert.GradFfnIdeal.main_v4)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v4) = v0 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ θ_run (Cert.GradWdRefIdeal.defs (F := Ideal)) (onTc (τ := Cert.GradWdRefIdeal.τ) (Cert.GradWdRefIdeal.main (F := Ideal))) ⟨m', fun _ => 0, g'⟩ (fun r => ∀ c : Dev Cert.GradWdRefIdeal.nD,
          r.2.mem ((c.tc : Thread Cert.GradWdRefIdeal.nD Cert.GradWdRefIdeal.τ).loc Cert.GradWdRefIdeal.main_v5) = v0 c
          ∧ r.2.mem ((c.tc : Thread Cert.GradWdRefIdeal.nD Cert.GradWdRefIdeal.τ).loc Cert.GradWdRefIdeal.main_arg0) = m' ((c.tc : Thread Cert.GradWdRefIdeal.nD Cert.GradWdRefIdeal.τ).loc Cert.GradWdRefIdeal.main_arg0)
          ∧ r.2.mem ((c.tc : Thread Cert.GradWdRefIdeal.nD Cert.GradWdRefIdeal.τ).loc Cert.GradWdRefIdeal.main_arg1) = m' ((c.tc : Thread Cert.GradWdRefIdeal.nD Cert.GradWdRefIdeal.τ).loc Cert.GradWdRefIdeal.main_arg1))

def algebraic_GradFfnIdeal_GradWgRefIdeal [hGradFfnIdeal : Cert.GradFfnIdeal.Facts] [hGradWgRefIdeal : Cert.GradWgRefIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradWgRefIdeal.nD Cert.GradWgRefIdeal.τ Cert.GradWgRefIdeal.sig) → Buf (Elt Ideal) ℓ) (g' : Dev Cert.GradWgRefIdeal.nD → PrngReg), Pre_GradFfnIdeal m →
    (∀ c : Dev Cert.GradFfnIdeal.nD,
      m' ((c.tc : Thread Cert.GradWgRefIdeal.nD Cert.GradWgRefIdeal.τ).loc Cert.GradWgRefIdeal.main_arg0) = m ((c.tc : Thread Cert.GradFfnIdeal.nD Cert.GradFfnIdeal.τ).loc Cert.GradFfnIdeal.main_arg0)
      ∧ m' ((c.tc : Thread Cert.GradWgRefIdeal.nD Cert.GradWgRefIdeal.τ).loc Cert.GradWgRefIdeal.main_arg1) = m ((c.tc : Thread Cert.GradFfnIdeal.nD Cert.GradFfnIdeal.τ).loc Cert.GradFfnIdeal.main_arg1)) →
    ∃ (v0 : (c : Dev Cert.GradFfnIdeal.nD) → Buf (Elt Ideal) ((c.tc : Thread Cert.GradFfnIdeal.nD Cert.GradFfnIdeal.τ).loc Cert.GradFfnIdeal.main_v4)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v4) = v0 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ θ_run (Cert.GradWgRefIdeal.defs (F := Ideal)) (onTc (τ := Cert.GradWgRefIdeal.τ) (Cert.GradWgRefIdeal.main (F := Ideal))) ⟨m', fun _ => 0, g'⟩ (fun r => ∀ c : Dev Cert.GradWgRefIdeal.nD,
          r.2.mem ((c.tc : Thread Cert.GradWgRefIdeal.nD Cert.GradWgRefIdeal.τ).loc Cert.GradWgRefIdeal.main_v6) = v0 c
          ∧ r.2.mem ((c.tc : Thread Cert.GradWgRefIdeal.nD Cert.GradWgRefIdeal.τ).loc Cert.GradWgRefIdeal.main_arg0) = m' ((c.tc : Thread Cert.GradWgRefIdeal.nD Cert.GradWgRefIdeal.τ).loc Cert.GradWgRefIdeal.main_arg0)
          ∧ r.2.mem ((c.tc : Thread Cert.GradWgRefIdeal.nD Cert.GradWgRefIdeal.τ).loc Cert.GradWgRefIdeal.main_arg1) = m' ((c.tc : Thread Cert.GradWgRefIdeal.nD Cert.GradWgRefIdeal.τ).loc Cert.GradWgRefIdeal.main_arg1))

def preserves_GradSquare_GradSquareIdeal : Prop :=
  True

def algebraic_GradSquareIdeal_GradSquareRefIdeal [hGradSquareIdeal : Cert.GradSquareIdeal.Facts] [hGradSquareRefIdeal : Cert.GradSquareRefIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg)
    (m' : (ℓ : Loc Cert.GradSquareRefIdeal.nD Cert.GradSquareRefIdeal.τ Cert.GradSquareRefIdeal.sig) → Buf (Elt Ideal) ℓ) (g' : Dev Cert.GradSquareRefIdeal.nD → PrngReg), Pre_GradSquareIdeal m →
    (∀ c : Dev Cert.GradSquareIdeal.nD,
      m' ((c.tc : Thread Cert.GradSquareRefIdeal.nD Cert.GradSquareRefIdeal.τ).loc Cert.GradSquareRefIdeal.main_arg0) = m ((c.tc : Thread Cert.GradSquareIdeal.nD Cert.GradSquareIdeal.τ).loc Cert.GradSquareIdeal.main_arg0)
      ∧ m' ((c.tc : Thread Cert.GradSquareRefIdeal.nD Cert.GradSquareRefIdeal.τ).loc Cert.GradSquareRefIdeal.main_arg1) = m ((c.tc : Thread Cert.GradSquareIdeal.nD Cert.GradSquareIdeal.τ).loc Cert.GradSquareIdeal.main_arg1)) →
    ∃ (v0 : (c : Dev Cert.GradSquareIdeal.nD) → Buf (Elt Ideal) ((c.tc : Thread Cert.GradSquareIdeal.nD Cert.GradSquareIdeal.τ).loc Cert.GradSquareIdeal.main_v2)),
      θ_run (Cert.GradSquareIdeal.defs (F := Ideal)) (onTc (τ := Cert.GradSquareIdeal.τ) (Cert.GradSquareIdeal.main (F := Ideal))) ⟨m, fun _ => 0, g⟩ (fun r => ∀ c : Dev Cert.GradSquareIdeal.nD,
          r.2.mem ((c.tc : Thread Cert.GradSquareIdeal.nD Cert.GradSquareIdeal.τ).loc Cert.GradSquareIdeal.main_v2) = v0 c
          ∧ r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
          ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ θ_run (Cert.GradSquareRefIdeal.defs (F := Ideal)) (onTc (τ := Cert.GradSquareRefIdeal.τ) (Cert.GradSquareRefIdeal.main (F := Ideal))) ⟨m', fun _ => 0, g'⟩ (fun r => ∀ c : Dev Cert.GradSquareRefIdeal.nD,
          r.2.mem ((c.tc : Thread Cert.GradSquareRefIdeal.nD Cert.GradSquareRefIdeal.τ).loc Cert.GradSquareRefIdeal.main_v5) = v0 c
          ∧ r.2.mem ((c.tc : Thread Cert.GradSquareRefIdeal.nD Cert.GradSquareRefIdeal.τ).loc Cert.GradSquareRefIdeal.main_arg0) = m' ((c.tc : Thread Cert.GradSquareRefIdeal.nD Cert.GradSquareRefIdeal.τ).loc Cert.GradSquareRefIdeal.main_arg0)
          ∧ r.2.mem ((c.tc : Thread Cert.GradSquareRefIdeal.nD Cert.GradSquareRefIdeal.τ).loc Cert.GradSquareRefIdeal.main_arg1) = m' ((c.tc : Thread Cert.GradSquareRefIdeal.nD Cert.GradSquareRefIdeal.τ).loc Cert.GradSquareRefIdeal.main_arg1))

def preserves_GradWin_GradWinIdeal : Prop :=
  True

def algebraic_GradWinIdeal_GradWinRefIdeal [hGradWinIdeal : Cert.GradWinIdeal.Facts] [hGradWinRefIdeal : Cert.GradWinRefIdeal.Facts] : Prop :=
  ∀ (m : (ℓ : Loc Cert.GradWinIdeal.nD Cert.GradWinIdeal.τ Cert.GradWinIdeal.sig) → Buf (Elt Ideal) ℓ) (g : Dev Cert.GradWinIdeal.nD → PrngReg)
    (m' : (ℓ : Loc Cert.GradWinRefIdeal.nD Cert.GradWinRefIdeal.τ Cert.GradWinRefIdeal.sig) → Buf (Elt Ideal) ℓ) (g' : Dev Cert.GradWinRefIdeal.nD → PrngReg), Pre_GradWinIdeal m →
    (∀ c : Dev Cert.GradWinIdeal.nD,
      m' ((c.tc : Thread Cert.GradWinRefIdeal.nD Cert.GradWinRefIdeal.τ).loc Cert.GradWinRefIdeal.main_arg0) = m ((c.tc : Thread Cert.GradWinIdeal.nD Cert.GradWinIdeal.τ).loc Cert.GradWinIdeal.main_arg0)
      ∧ m' ((c.tc : Thread Cert.GradWinRefIdeal.nD Cert.GradWinRefIdeal.τ).loc Cert.GradWinRefIdeal.main_arg1) = m ((c.tc : Thread Cert.GradWinIdeal.nD Cert.GradWinIdeal.τ).loc Cert.GradWinIdeal.main_arg1)) →
    ∃ (v0 : (c : Dev Cert.GradWinIdeal.nD) → Buf (Elt Ideal) ((c.tc : Thread Cert.GradWinIdeal.nD Cert.GradWinIdeal.τ).loc Cert.GradWinIdeal.main_v2)),
      θ_run (Cert.GradWinIdeal.defs (F := Ideal)) (onTc (τ := Cert.GradWinIdeal.τ) (Cert.GradWinIdeal.main (F := Ideal))) ⟨m, fun _ => 0, g⟩ (fun r => ∀ c : Dev Cert.GradWinIdeal.nD,
          r.2.mem ((c.tc : Thread Cert.GradWinIdeal.nD Cert.GradWinIdeal.τ).loc Cert.GradWinIdeal.main_v2) = v0 c
          ∧ r.2.mem ((c.tc : Thread Cert.GradWinIdeal.nD Cert.GradWinIdeal.τ).loc Cert.GradWinIdeal.main_arg0) = m ((c.tc : Thread Cert.GradWinIdeal.nD Cert.GradWinIdeal.τ).loc Cert.GradWinIdeal.main_arg0)
          ∧ r.2.mem ((c.tc : Thread Cert.GradWinIdeal.nD Cert.GradWinIdeal.τ).loc Cert.GradWinIdeal.main_arg1) = m ((c.tc : Thread Cert.GradWinIdeal.nD Cert.GradWinIdeal.τ).loc Cert.GradWinIdeal.main_arg1))
      ∧ θ_run (Cert.GradWinRefIdeal.defs (F := Ideal)) (onTc (τ := Cert.GradWinRefIdeal.τ) (Cert.GradWinRefIdeal.main (F := Ideal))) ⟨m', fun _ => 0, g'⟩ (fun r => ∀ c : Dev Cert.GradWinRefIdeal.nD,
          r.2.mem ((c.tc : Thread Cert.GradWinRefIdeal.nD Cert.GradWinRefIdeal.τ).loc Cert.GradWinRefIdeal.main_v6) = v0 c
          ∧ r.2.mem ((c.tc : Thread Cert.GradWinRefIdeal.nD Cert.GradWinRefIdeal.τ).loc Cert.GradWinRefIdeal.main_arg0) = m' ((c.tc : Thread Cert.GradWinRefIdeal.nD Cert.GradWinRefIdeal.τ).loc Cert.GradWinRefIdeal.main_arg0)
          ∧ r.2.mem ((c.tc : Thread Cert.GradWinRefIdeal.nD Cert.GradWinRefIdeal.τ).loc Cert.GradWinRefIdeal.main_arg1) = m' ((c.tc : Thread Cert.GradWinRefIdeal.nD Cert.GradWinRefIdeal.τ).loc Cert.GradWinRefIdeal.main_arg1))

def preserves_MmInBwd_MmInBwdIdeal : Prop :=
  True

def algebraic_MmInBwdIdeal_MmInBwdRefIdeal [hMmInBwdIdeal : Cert.MmInBwdIdeal.Facts] [hMmInBwdRefIdeal : Cert.MmInBwdRefIdeal.Facts] : Prop :=
  ∀ (m : (ℓ : Loc Cert.MmInBwdIdeal.nD Cert.MmInBwdIdeal.τ Cert.MmInBwdIdeal.sig) → Buf (Elt Ideal) ℓ) (g : Dev Cert.MmInBwdIdeal.nD → PrngReg)
    (m' : (ℓ : Loc Cert.MmInBwdRefIdeal.nD Cert.MmInBwdRefIdeal.τ Cert.MmInBwdRefIdeal.sig) → Buf (Elt Ideal) ℓ) (g' : Dev Cert.MmInBwdRefIdeal.nD → PrngReg), Pre_MmInBwdIdeal m →
    (∀ c : Dev Cert.MmInBwdIdeal.nD,
      m' ((c.tc : Thread Cert.MmInBwdRefIdeal.nD Cert.MmInBwdRefIdeal.τ).loc Cert.MmInBwdRefIdeal.main_arg0) = m ((c.tc : Thread Cert.MmInBwdIdeal.nD Cert.MmInBwdIdeal.τ).loc Cert.MmInBwdIdeal.main_arg0)
      ∧ m' ((c.tc : Thread Cert.MmInBwdRefIdeal.nD Cert.MmInBwdRefIdeal.τ).loc Cert.MmInBwdRefIdeal.main_arg1) = m ((c.tc : Thread Cert.MmInBwdIdeal.nD Cert.MmInBwdIdeal.τ).loc Cert.MmInBwdIdeal.main_arg1)) →
    ∃ (v0 : (c : Dev Cert.MmInBwdIdeal.nD) → Buf (Elt Ideal) ((c.tc : Thread Cert.MmInBwdIdeal.nD Cert.MmInBwdIdeal.τ).loc Cert.MmInBwdIdeal.main_v4)),
      θ_run (Cert.MmInBwdIdeal.defs (F := Ideal)) (onTc (τ := Cert.MmInBwdIdeal.τ) (Cert.MmInBwdIdeal.main (F := Ideal))) ⟨m, fun _ => 0, g⟩ (fun r => ∀ c : Dev Cert.MmInBwdIdeal.nD,
          r.2.mem ((c.tc : Thread Cert.MmInBwdIdeal.nD Cert.MmInBwdIdeal.τ).loc Cert.MmInBwdIdeal.main_v4) = v0 c
          ∧ r.2.mem ((c.tc : Thread Cert.MmInBwdIdeal.nD Cert.MmInBwdIdeal.τ).loc Cert.MmInBwdIdeal.main_arg0) = m ((c.tc : Thread Cert.MmInBwdIdeal.nD Cert.MmInBwdIdeal.τ).loc Cert.MmInBwdIdeal.main_arg0)
          ∧ r.2.mem ((c.tc : Thread Cert.MmInBwdIdeal.nD Cert.MmInBwdIdeal.τ).loc Cert.MmInBwdIdeal.main_arg1) = m ((c.tc : Thread Cert.MmInBwdIdeal.nD Cert.MmInBwdIdeal.τ).loc Cert.MmInBwdIdeal.main_arg1))
      ∧ θ_run (Cert.MmInBwdRefIdeal.defs (F := Ideal)) (onTc (τ := Cert.MmInBwdRefIdeal.τ) (Cert.MmInBwdRefIdeal.main (F := Ideal))) ⟨m', fun _ => 0, g'⟩ (fun r => ∀ c : Dev Cert.MmInBwdRefIdeal.nD,
          r.2.mem ((c.tc : Thread Cert.MmInBwdRefIdeal.nD Cert.MmInBwdRefIdeal.τ).loc Cert.MmInBwdRefIdeal.main_v2) = v0 c
          ∧ r.2.mem ((c.tc : Thread Cert.MmInBwdRefIdeal.nD Cert.MmInBwdRefIdeal.τ).loc Cert.MmInBwdRefIdeal.main_arg0) = m' ((c.tc : Thread Cert.MmInBwdRefIdeal.nD Cert.MmInBwdRefIdeal.τ).loc Cert.MmInBwdRefIdeal.main_arg0)
          ∧ r.2.mem ((c.tc : Thread Cert.MmInBwdRefIdeal.nD Cert.MmInBwdRefIdeal.τ).loc Cert.MmInBwdRefIdeal.main_arg1) = m' ((c.tc : Thread Cert.MmInBwdRefIdeal.nD Cert.MmInBwdRefIdeal.τ).loc Cert.MmInBwdRefIdeal.main_arg1))

def preserves_Lnmod_LnmodIdeal : Prop :=
  True

def algebraic_LnmodIdeal_LnmodRefIdeal [hLnmodIdeal : Cert.LnmodIdeal.Facts] [hLnmodRefIdeal : Cert.LnmodRefIdeal.Facts] : Prop :=
  ∀ (m : (ℓ : Loc Cert.LnmodIdeal.nD Cert.LnmodIdeal.τ Cert.LnmodIdeal.sig) → Buf (Elt Ideal) ℓ) (g : Dev Cert.LnmodIdeal.nD → PrngReg)
    (m' : (ℓ : Loc Cert.LnmodRefIdeal.nD Cert.LnmodRefIdeal.τ Cert.LnmodRefIdeal.sig) → Buf (Elt Ideal) ℓ) (g' : Dev Cert.LnmodRefIdeal.nD → PrngReg), Pre_LnmodIdeal m →
    (∀ c : Dev Cert.LnmodIdeal.nD,
      m' ((c.tc : Thread Cert.LnmodRefIdeal.nD Cert.LnmodRefIdeal.τ).loc Cert.LnmodRefIdeal.main_arg0) = m ((c.tc : Thread Cert.LnmodIdeal.nD Cert.LnmodIdeal.τ).loc Cert.LnmodIdeal.main_arg0)
      ∧ m' ((c.tc : Thread Cert.LnmodRefIdeal.nD Cert.LnmodRefIdeal.τ).loc Cert.LnmodRefIdeal.main_arg1) = m ((c.tc : Thread Cert.LnmodIdeal.nD Cert.LnmodIdeal.τ).loc Cert.LnmodIdeal.main_arg1)
      ∧ m' ((c.tc : Thread Cert.LnmodRefIdeal.nD Cert.LnmodRefIdeal.τ).loc Cert.LnmodRefIdeal.main_arg2) = m ((c.tc : Thread Cert.LnmodIdeal.nD Cert.LnmodIdeal.τ).loc Cert.LnmodIdeal.main_arg2)
      ∧ m' ((c.tc : Thread Cert.LnmodRefIdeal.nD Cert.LnmodRefIdeal.τ).loc Cert.LnmodRefIdeal.main_arg3) = m ((c.tc : Thread Cert.LnmodIdeal.nD Cert.LnmodIdeal.τ).loc Cert.LnmodIdeal.main_arg3)) →
    ∃ (v0 : (c : Dev Cert.LnmodIdeal.nD) → Buf (Elt Ideal) ((c.tc : Thread Cert.LnmodIdeal.nD Cert.LnmodIdeal.τ).loc Cert.LnmodIdeal.main_v0)),
      θ_run (Cert.LnmodIdeal.defs (F := Ideal)) (onTc (τ := Cert.LnmodIdeal.τ) (Cert.LnmodIdeal.main (F := Ideal))) ⟨m, fun _ => 0, g⟩ (fun r => ∀ c : Dev Cert.LnmodIdeal.nD,
          r.2.mem ((c.tc : Thread Cert.LnmodIdeal.nD Cert.LnmodIdeal.τ).loc Cert.LnmodIdeal.main_v0) = v0 c
          ∧ r.2.mem ((c.tc : Thread Cert.LnmodIdeal.nD Cert.LnmodIdeal.τ).loc Cert.LnmodIdeal.main_arg0) = m ((c.tc : Thread Cert.LnmodIdeal.nD Cert.LnmodIdeal.τ).loc Cert.LnmodIdeal.main_arg0)
          ∧ r.2.mem ((c.tc : Thread Cert.LnmodIdeal.nD Cert.LnmodIdeal.τ).loc Cert.LnmodIdeal.main_arg1) = m ((c.tc : Thread Cert.LnmodIdeal.nD Cert.LnmodIdeal.τ).loc Cert.LnmodIdeal.main_arg1)
          ∧ r.2.mem ((c.tc : Thread Cert.LnmodIdeal.nD Cert.LnmodIdeal.τ).loc Cert.LnmodIdeal.main_arg2) = m ((c.tc : Thread Cert.LnmodIdeal.nD Cert.LnmodIdeal.τ).loc Cert.LnmodIdeal.main_arg2)
          ∧ r.2.mem ((c.tc : Thread Cert.LnmodIdeal.nD Cert.LnmodIdeal.τ).loc Cert.LnmodIdeal.main_arg3) = m ((c.tc : Thread Cert.LnmodIdeal.nD Cert.LnmodIdeal.τ).loc Cert.LnmodIdeal.main_arg3))
      ∧ θ_run (Cert.LnmodRefIdeal.defs (F := Ideal)) (onTc (τ := Cert.LnmodRefIdeal.τ) (Cert.LnmodRefIdeal.main (F := Ideal))) ⟨m', fun _ => 0, g'⟩ (fun r => ∀ c : Dev Cert.LnmodRefIdeal.nD,
          r.2.mem ((c.tc : Thread Cert.LnmodRefIdeal.nD Cert.LnmodRefIdeal.τ).loc Cert.LnmodRefIdeal.main_v18) = v0 c
          ∧ r.2.mem ((c.tc : Thread Cert.LnmodRefIdeal.nD Cert.LnmodRefIdeal.τ).loc Cert.LnmodRefIdeal.main_arg0) = m' ((c.tc : Thread Cert.LnmodRefIdeal.nD Cert.LnmodRefIdeal.τ).loc Cert.LnmodRefIdeal.main_arg0)
          ∧ r.2.mem ((c.tc : Thread Cert.LnmodRefIdeal.nD Cert.LnmodRefIdeal.τ).loc Cert.LnmodRefIdeal.main_arg1) = m' ((c.tc : Thread Cert.LnmodRefIdeal.nD Cert.LnmodRefIdeal.τ).loc Cert.LnmodRefIdeal.main_arg1)
          ∧ r.2.mem ((c.tc : Thread Cert.LnmodRefIdeal.nD Cert.LnmodRefIdeal.τ).loc Cert.LnmodRefIdeal.main_arg2) = m' ((c.tc : Thread Cert.LnmodRefIdeal.nD Cert.LnmodRefIdeal.τ).loc Cert.LnmodRefIdeal.main_arg2)
          ∧ r.2.mem ((c.tc : Thread Cert.LnmodRefIdeal.nD Cert.LnmodRefIdeal.τ).loc Cert.LnmodRefIdeal.main_arg3) = m' ((c.tc : Thread Cert.LnmodRefIdeal.nD Cert.LnmodRefIdeal.τ).loc Cert.LnmodRefIdeal.main_arg3))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v4)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v4) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v1) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)) →
    ∃ (v0 : (c : Dev Cert.BranchIdeal.nD) → Buf (Elt Ideal) ((c.tc : Thread Cert.BranchIdeal.nD Cert.BranchIdeal.τ).loc Cert.BranchIdeal.main_v5_0)) (v1 : (c : Dev Cert.BranchIdeal.nD) → Buf (Elt Ideal) ((c.tc : Thread Cert.BranchIdeal.nD Cert.BranchIdeal.τ).loc Cert.BranchIdeal.main_v5_1)) (v2 : (c : Dev Cert.BranchIdeal.nD) → Buf (Elt Ideal) ((c.tc : Thread Cert.BranchIdeal.nD Cert.BranchIdeal.τ).loc Cert.BranchIdeal.main_v5_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v5_0) = v0 c
          ∧ r.2.mem ((c.tc : Thread Cert.BranchIdeal.nD Cert.BranchIdeal.τ).loc Cert.BranchIdeal.main_v5_1) = v1 c
          ∧ r.2.mem ((c.tc : Thread Cert.BranchIdeal.nD Cert.BranchIdeal.τ).loc Cert.BranchIdeal.main_v5_2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v19) = v0 c
          ∧ r.2.mem ((c.tc : Thread Cert.BranchRefIdeal.nD Cert.BranchRefIdeal.τ).loc Cert.BranchRefIdeal.main_v20) = v1 c
          ∧ r.2.mem ((c.tc : Thread Cert.BranchRefIdeal.nD Cert.BranchRefIdeal.τ).loc Cert.BranchRefIdeal.main_v21) = v2 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v0) = v1 c
          ∧ r.2.mem ((c.tc : Thread Cert.OutProjRefIdeal.nD Cert.OutProjRefIdeal.τ).loc Cert.OutProjRefIdeal.main_v22) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v7_0)) (v1 : (c : Dev Cert.FfnUpIdeal.nD) → Buf (Elt Ideal) ((c.tc : Thread Cert.FfnUpIdeal.nD Cert.FfnUpIdeal.τ).loc Cert.FfnUpIdeal.main_v7_1)) (v2 : (c : Dev Cert.FfnUpIdeal.nD) → Buf (Elt Ideal) ((c.tc : Thread Cert.FfnUpIdeal.nD Cert.FfnUpIdeal.τ).loc Cert.FfnUpIdeal.main_v7_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7_0) = v0 c
          ∧ r.2.mem ((c.tc : Thread Cert.FfnUpIdeal.nD Cert.FfnUpIdeal.τ).loc Cert.FfnUpIdeal.main_v7_1) = v1 c
          ∧ r.2.mem ((c.tc : Thread Cert.FfnUpIdeal.nD Cert.FfnUpIdeal.τ).loc Cert.FfnUpIdeal.main_v7_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_v7) = v1 c
          ∧ r.2.mem ((c.tc : Thread Cert.FfnUpRefIdeal.nD Cert.FfnUpRefIdeal.τ).loc Cert.FfnUpRefIdeal.main_v12) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v5_0)) (v1 : (c : Dev Cert.FfnDownIdeal.nD) → Buf (Elt Ideal) ((c.tc : Thread Cert.FfnDownIdeal.nD Cert.FfnDownIdeal.τ).loc Cert.FfnDownIdeal.main_v5_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v5_0) = v0 c
          ∧ r.2.mem ((c.tc : Thread Cert.FfnDownIdeal.nD Cert.FfnDownIdeal.τ).loc Cert.FfnDownIdeal.main_v5_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_v0) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnBwd2_FfnBwd2Ideal : Prop :=
  True

def algebraic_FfnBwd2Ideal_FfnBwd2RefIdeal_pre_finite_ffn [hFfnBwd2Ideal : Cert.FfnBwd2Ideal.Facts] [hFfnBwd2RefIdeal : Cert.FfnBwd2RefIdeal.Facts] [hPre_finite_ffn : Cert.Pre_finite_ffn.Facts] : Prop :=
  ∀ (m : (ℓ : Loc Cert.FfnBwd2Ideal.nD Cert.FfnBwd2Ideal.τ Cert.FfnBwd2Ideal.sig) → Buf (Elt Ideal) ℓ) (g : Dev Cert.FfnBwd2Ideal.nD → PrngReg)
    (m' : (ℓ : Loc Cert.FfnBwd2RefIdeal.nD Cert.FfnBwd2RefIdeal.τ Cert.FfnBwd2RefIdeal.sig) → Buf (Elt Ideal) ℓ) (g' : Dev Cert.FfnBwd2RefIdeal.nD → PrngReg), Pre_FfnBwd2Ideal_finite_ffn m →
    (∀ c : Dev Cert.FfnBwd2Ideal.nD,
      m' ((c.tc : Thread Cert.FfnBwd2RefIdeal.nD Cert.FfnBwd2RefIdeal.τ).loc Cert.FfnBwd2RefIdeal.main_arg0) = m ((c.tc : Thread Cert.FfnBwd2Ideal.nD Cert.FfnBwd2Ideal.τ).loc Cert.FfnBwd2Ideal.main_arg0)
      ∧ m' ((c.tc : Thread Cert.FfnBwd2RefIdeal.nD Cert.FfnBwd2RefIdeal.τ).loc Cert.FfnBwd2RefIdeal.main_arg1) = m ((c.tc : Thread Cert.FfnBwd2Ideal.nD Cert.FfnBwd2Ideal.τ).loc Cert.FfnBwd2Ideal.main_arg1)
      ∧ m' ((c.tc : Thread Cert.FfnBwd2RefIdeal.nD Cert.FfnBwd2RefIdeal.τ).loc Cert.FfnBwd2RefIdeal.main_arg2) = m ((c.tc : Thread Cert.FfnBwd2Ideal.nD Cert.FfnBwd2Ideal.τ).loc Cert.FfnBwd2Ideal.main_arg2)
      ∧ m' ((c.tc : Thread Cert.FfnBwd2RefIdeal.nD Cert.FfnBwd2RefIdeal.τ).loc Cert.FfnBwd2RefIdeal.main_arg3) = m ((c.tc : Thread Cert.FfnBwd2Ideal.nD Cert.FfnBwd2Ideal.τ).loc Cert.FfnBwd2Ideal.main_arg3)
      ∧ m' ((c.tc : Thread Cert.FfnBwd2RefIdeal.nD Cert.FfnBwd2RefIdeal.τ).loc Cert.FfnBwd2RefIdeal.main_arg4) = m ((c.tc : Thread Cert.FfnBwd2Ideal.nD Cert.FfnBwd2Ideal.τ).loc Cert.FfnBwd2Ideal.main_arg4)
      ∧ m' ((c.tc : Thread Cert.FfnBwd2RefIdeal.nD Cert.FfnBwd2RefIdeal.τ).loc Cert.FfnBwd2RefIdeal.main_arg5) = m ((c.tc : Thread Cert.FfnBwd2Ideal.nD Cert.FfnBwd2Ideal.τ).loc Cert.FfnBwd2Ideal.main_arg5)
      ∧ m' ((c.tc : Thread Cert.FfnBwd2RefIdeal.nD Cert.FfnBwd2RefIdeal.τ).loc Cert.FfnBwd2RefIdeal.main_arg6) = m ((c.tc : Thread Cert.FfnBwd2Ideal.nD Cert.FfnBwd2Ideal.τ).loc Cert.FfnBwd2Ideal.main_arg6)
      ∧ m' ((c.tc : Thread Cert.FfnBwd2RefIdeal.nD Cert.FfnBwd2RefIdeal.τ).loc Cert.FfnBwd2RefIdeal.main_arg7) = m ((c.tc : Thread Cert.FfnBwd2Ideal.nD Cert.FfnBwd2Ideal.τ).loc Cert.FfnBwd2Ideal.main_arg7)
      ∧ m' ((c.tc : Thread Cert.FfnBwd2RefIdeal.nD Cert.FfnBwd2RefIdeal.τ).loc Cert.FfnBwd2RefIdeal.main_arg8) = m ((c.tc : Thread Cert.FfnBwd2Ideal.nD Cert.FfnBwd2Ideal.τ).loc Cert.FfnBwd2Ideal.main_arg8)) →
    ∃ (v0 : (c : Dev Cert.FfnBwd2Ideal.nD) → Buf (Elt Ideal) ((c.tc : Thread Cert.FfnBwd2Ideal.nD Cert.FfnBwd2Ideal.τ).loc Cert.FfnBwd2Ideal.main_v12_0)) (v1 : (c : Dev Cert.FfnBwd2Ideal.nD) → Buf (Elt Ideal) ((c.tc : Thread Cert.FfnBwd2Ideal.nD Cert.FfnBwd2Ideal.τ).loc Cert.FfnBwd2Ideal.main_v12_1)),
      θ_run (Cert.FfnBwd2Ideal.defs (F := Ideal)) (onTc (τ := Cert.FfnBwd2Ideal.τ) (Cert.FfnBwd2Ideal.main (F := Ideal))) ⟨m, fun _ => 0, g⟩ (fun r => ∀ c : Dev Cert.FfnBwd2Ideal.nD,
          r.2.mem ((c.tc : Thread Cert.FfnBwd2Ideal.nD Cert.FfnBwd2Ideal.τ).loc Cert.FfnBwd2Ideal.main_v12_0) = v0 c
          ∧ r.2.mem ((c.tc : Thread Cert.FfnBwd2Ideal.nD Cert.FfnBwd2Ideal.τ).loc Cert.FfnBwd2Ideal.main_v12_1) = v1 c
          ∧ r.2.mem ((c.tc : Thread Cert.FfnBwd2Ideal.nD Cert.FfnBwd2Ideal.τ).loc Cert.FfnBwd2Ideal.main_arg0) = m ((c.tc : Thread Cert.FfnBwd2Ideal.nD Cert.FfnBwd2Ideal.τ).loc Cert.FfnBwd2Ideal.main_arg0)
          ∧ r.2.mem ((c.tc : Thread Cert.FfnBwd2Ideal.nD Cert.FfnBwd2Ideal.τ).loc Cert.FfnBwd2Ideal.main_arg1) = m ((c.tc : Thread Cert.FfnBwd2Ideal.nD Cert.FfnBwd2Ideal.τ).loc Cert.FfnBwd2Ideal.main_arg1)
          ∧ r.2.mem ((c.tc : Thread Cert.FfnBwd2Ideal.nD Cert.FfnBwd2Ideal.τ).loc Cert.FfnBwd2Ideal.main_arg2) = m ((c.tc : Thread Cert.FfnBwd2Ideal.nD Cert.FfnBwd2Ideal.τ).loc Cert.FfnBwd2Ideal.main_arg2)
          ∧ r.2.mem ((c.tc : Thread Cert.FfnBwd2Ideal.nD Cert.FfnBwd2Ideal.τ).loc Cert.FfnBwd2Ideal.main_arg3) = m ((c.tc : Thread Cert.FfnBwd2Ideal.nD Cert.FfnBwd2Ideal.τ).loc Cert.FfnBwd2Ideal.main_arg3)
          ∧ r.2.mem ((c.tc : Thread Cert.FfnBwd2Ideal.nD Cert.FfnBwd2Ideal.τ).loc Cert.FfnBwd2Ideal.main_arg4) = m ((c.tc : Thread Cert.FfnBwd2Ideal.nD Cert.FfnBwd2Ideal.τ).loc Cert.FfnBwd2Ideal.main_arg4)
          ∧ r.2.mem ((c.tc : Thread Cert.FfnBwd2Ideal.nD Cert.FfnBwd2Ideal.τ).loc Cert.FfnBwd2Ideal.main_arg5) = m ((c.tc : Thread Cert.FfnBwd2Ideal.nD Cert.FfnBwd2Ideal.τ).loc Cert.FfnBwd2Ideal.main_arg5)
          ∧ r.2.mem ((c.tc : Thread Cert.FfnBwd2Ideal.nD Cert.FfnBwd2Ideal.τ).loc Cert.FfnBwd2Ideal.main_arg6) = m ((c.tc : Thread Cert.FfnBwd2Ideal.nD Cert.FfnBwd2Ideal.τ).loc Cert.FfnBwd2Ideal.main_arg6)
          ∧ r.2.mem ((c.tc : Thread Cert.FfnBwd2Ideal.nD Cert.FfnBwd2Ideal.τ).loc Cert.FfnBwd2Ideal.main_arg7) = m ((c.tc : Thread Cert.FfnBwd2Ideal.nD Cert.FfnBwd2Ideal.τ).loc Cert.FfnBwd2Ideal.main_arg7)
          ∧ r.2.mem ((c.tc : Thread Cert.FfnBwd2Ideal.nD Cert.FfnBwd2Ideal.τ).loc Cert.FfnBwd2Ideal.main_arg8) = m ((c.tc : Thread Cert.FfnBwd2Ideal.nD Cert.FfnBwd2Ideal.τ).loc Cert.FfnBwd2Ideal.main_arg8))
      ∧ θ_run (Cert.FfnBwd2RefIdeal.defs (F := Ideal)) (onTc (τ := Cert.FfnBwd2RefIdeal.τ) (Cert.FfnBwd2RefIdeal.main (F := Ideal))) ⟨m', fun _ => 0, g'⟩ (fun r => ∀ c : Dev Cert.FfnBwd2RefIdeal.nD,
          r.2.mem ((c.tc : Thread Cert.FfnBwd2RefIdeal.nD Cert.FfnBwd2RefIdeal.τ).loc Cert.FfnBwd2RefIdeal.main_v52) = v0 c
          ∧ r.2.mem ((c.tc : Thread Cert.FfnBwd2RefIdeal.nD Cert.FfnBwd2RefIdeal.τ).loc Cert.FfnBwd2RefIdeal.main_v54) = v1 c
          ∧ r.2.mem ((c.tc : Thread Cert.FfnBwd2RefIdeal.nD Cert.FfnBwd2RefIdeal.τ).loc Cert.FfnBwd2RefIdeal.main_arg0) = m' ((c.tc : Thread Cert.FfnBwd2RefIdeal.nD Cert.FfnBwd2RefIdeal.τ).loc Cert.FfnBwd2RefIdeal.main_arg0)
          ∧ r.2.mem ((c.tc : Thread Cert.FfnBwd2RefIdeal.nD Cert.FfnBwd2RefIdeal.τ).loc Cert.FfnBwd2RefIdeal.main_arg1) = m' ((c.tc : Thread Cert.FfnBwd2RefIdeal.nD Cert.FfnBwd2RefIdeal.τ).loc Cert.FfnBwd2RefIdeal.main_arg1)
          ∧ r.2.mem ((c.tc : Thread Cert.FfnBwd2RefIdeal.nD Cert.FfnBwd2RefIdeal.τ).loc Cert.FfnBwd2RefIdeal.main_arg2) = m' ((c.tc : Thread Cert.FfnBwd2RefIdeal.nD Cert.FfnBwd2RefIdeal.τ).loc Cert.FfnBwd2RefIdeal.main_arg2)
          ∧ r.2.mem ((c.tc : Thread Cert.FfnBwd2RefIdeal.nD Cert.FfnBwd2RefIdeal.τ).loc Cert.FfnBwd2RefIdeal.main_arg3) = m' ((c.tc : Thread Cert.FfnBwd2RefIdeal.nD Cert.FfnBwd2RefIdeal.τ).loc Cert.FfnBwd2RefIdeal.main_arg3)
          ∧ r.2.mem ((c.tc : Thread Cert.FfnBwd2RefIdeal.nD Cert.FfnBwd2RefIdeal.τ).loc Cert.FfnBwd2RefIdeal.main_arg4) = m' ((c.tc : Thread Cert.FfnBwd2RefIdeal.nD Cert.FfnBwd2RefIdeal.τ).loc Cert.FfnBwd2RefIdeal.main_arg4)
          ∧ r.2.mem ((c.tc : Thread Cert.FfnBwd2RefIdeal.nD Cert.FfnBwd2RefIdeal.τ).loc Cert.FfnBwd2RefIdeal.main_arg5) = m' ((c.tc : Thread Cert.FfnBwd2RefIdeal.nD Cert.FfnBwd2RefIdeal.τ).loc Cert.FfnBwd2RefIdeal.main_arg5)
          ∧ r.2.mem ((c.tc : Thread Cert.FfnBwd2RefIdeal.nD Cert.FfnBwd2RefIdeal.τ).loc Cert.FfnBwd2RefIdeal.main_arg6) = m' ((c.tc : Thread Cert.FfnBwd2RefIdeal.nD Cert.FfnBwd2RefIdeal.τ).loc Cert.FfnBwd2RefIdeal.main_arg6)
          ∧ r.2.mem ((c.tc : Thread Cert.FfnBwd2RefIdeal.nD Cert.FfnBwd2RefIdeal.τ).loc Cert.FfnBwd2RefIdeal.main_arg7) = m' ((c.tc : Thread Cert.FfnBwd2RefIdeal.nD Cert.FfnBwd2RefIdeal.τ).loc Cert.FfnBwd2RefIdeal.main_arg7)
          ∧ r.2.mem ((c.tc : Thread Cert.FfnBwd2RefIdeal.nD Cert.FfnBwd2RefIdeal.τ).loc Cert.FfnBwd2RefIdeal.main_arg8) = m' ((c.tc : Thread Cert.FfnBwd2RefIdeal.nD Cert.FfnBwd2RefIdeal.τ).loc Cert.FfnBwd2RefIdeal.main_arg8))

def preserves_LnmodBwd_LnmodBwdIdeal : Prop :=
  True

def algebraic_LnmodBwdIdeal_LnmodBwdRefIdeal_pre_finite_norm [hLnmodBwdIdeal : Cert.LnmodBwdIdeal.Facts] [hLnmodBwdRefIdeal : Cert.LnmodBwdRefIdeal.Facts] [hPre_finite_norm : Cert.Pre_finite_norm.Facts] : Prop :=
  ∀ (m : (ℓ : Loc Cert.LnmodBwdIdeal.nD Cert.LnmodBwdIdeal.τ Cert.LnmodBwdIdeal.sig) → Buf (Elt Ideal) ℓ) (g : Dev Cert.LnmodBwdIdeal.nD → PrngReg)
    (m' : (ℓ : Loc Cert.LnmodBwdRefIdeal.nD Cert.LnmodBwdRefIdeal.τ Cert.LnmodBwdRefIdeal.sig) → Buf (Elt Ideal) ℓ) (g' : Dev Cert.LnmodBwdRefIdeal.nD → PrngReg), Pre_LnmodBwdIdeal_finite_norm m →
    (∀ c : Dev Cert.LnmodBwdIdeal.nD,
      m' ((c.tc : Thread Cert.LnmodBwdRefIdeal.nD Cert.LnmodBwdRefIdeal.τ).loc Cert.LnmodBwdRefIdeal.main_arg0) = m ((c.tc : Thread Cert.LnmodBwdIdeal.nD Cert.LnmodBwdIdeal.τ).loc Cert.LnmodBwdIdeal.main_arg0)
      ∧ m' ((c.tc : Thread Cert.LnmodBwdRefIdeal.nD Cert.LnmodBwdRefIdeal.τ).loc Cert.LnmodBwdRefIdeal.main_arg1) = m ((c.tc : Thread Cert.LnmodBwdIdeal.nD Cert.LnmodBwdIdeal.τ).loc Cert.LnmodBwdIdeal.main_arg1)
      ∧ m' ((c.tc : Thread Cert.LnmodBwdRefIdeal.nD Cert.LnmodBwdRefIdeal.τ).loc Cert.LnmodBwdRefIdeal.main_arg2) = m ((c.tc : Thread Cert.LnmodBwdIdeal.nD Cert.LnmodBwdIdeal.τ).loc Cert.LnmodBwdIdeal.main_arg2)
      ∧ m' ((c.tc : Thread Cert.LnmodBwdRefIdeal.nD Cert.LnmodBwdRefIdeal.τ).loc Cert.LnmodBwdRefIdeal.main_arg3) = m ((c.tc : Thread Cert.LnmodBwdIdeal.nD Cert.LnmodBwdIdeal.τ).loc Cert.LnmodBwdIdeal.main_arg3)
      ∧ m' ((c.tc : Thread Cert.LnmodBwdRefIdeal.nD Cert.LnmodBwdRefIdeal.τ).loc Cert.LnmodBwdRefIdeal.main_arg4) = m ((c.tc : Thread Cert.LnmodBwdIdeal.nD Cert.LnmodBwdIdeal.τ).loc Cert.LnmodBwdIdeal.main_arg4)
      ∧ m' ((c.tc : Thread Cert.LnmodBwdRefIdeal.nD Cert.LnmodBwdRefIdeal.τ).loc Cert.LnmodBwdRefIdeal.main_arg5) = m ((c.tc : Thread Cert.LnmodBwdIdeal.nD Cert.LnmodBwdIdeal.τ).loc Cert.LnmodBwdIdeal.main_arg5)) →
    ∃ (v0 : (c : Dev Cert.LnmodBwdIdeal.nD) → Buf (Elt Ideal) ((c.tc : Thread Cert.LnmodBwdIdeal.nD Cert.LnmodBwdIdeal.τ).loc Cert.LnmodBwdIdeal.main_v0_0)) (v1 : (c : Dev Cert.LnmodBwdIdeal.nD) → Buf (Elt Ideal) ((c.tc : Thread Cert.LnmodBwdIdeal.nD Cert.LnmodBwdIdeal.τ).loc Cert.LnmodBwdIdeal.main_v0_1)),
      θ_run (Cert.LnmodBwdIdeal.defs (F := Ideal)) (onTc (τ := Cert.LnmodBwdIdeal.τ) (Cert.LnmodBwdIdeal.main (F := Ideal))) ⟨m, fun _ => 0, g⟩ (fun r => ∀ c : Dev Cert.LnmodBwdIdeal.nD,
          r.2.mem ((c.tc : Thread Cert.LnmodBwdIdeal.nD Cert.LnmodBwdIdeal.τ).loc Cert.LnmodBwdIdeal.main_v0_0) = v0 c
          ∧ r.2.mem ((c.tc : Thread Cert.LnmodBwdIdeal.nD Cert.LnmodBwdIdeal.τ).loc Cert.LnmodBwdIdeal.main_v0_1) = v1 c
          ∧ r.2.mem ((c.tc : Thread Cert.LnmodBwdIdeal.nD Cert.LnmodBwdIdeal.τ).loc Cert.LnmodBwdIdeal.main_arg0) = m ((c.tc : Thread Cert.LnmodBwdIdeal.nD Cert.LnmodBwdIdeal.τ).loc Cert.LnmodBwdIdeal.main_arg0)
          ∧ r.2.mem ((c.tc : Thread Cert.LnmodBwdIdeal.nD Cert.LnmodBwdIdeal.τ).loc Cert.LnmodBwdIdeal.main_arg1) = m ((c.tc : Thread Cert.LnmodBwdIdeal.nD Cert.LnmodBwdIdeal.τ).loc Cert.LnmodBwdIdeal.main_arg1)
          ∧ r.2.mem ((c.tc : Thread Cert.LnmodBwdIdeal.nD Cert.LnmodBwdIdeal.τ).loc Cert.LnmodBwdIdeal.main_arg2) = m ((c.tc : Thread Cert.LnmodBwdIdeal.nD Cert.LnmodBwdIdeal.τ).loc Cert.LnmodBwdIdeal.main_arg2)
          ∧ r.2.mem ((c.tc : Thread Cert.LnmodBwdIdeal.nD Cert.LnmodBwdIdeal.τ).loc Cert.LnmodBwdIdeal.main_arg3) = m ((c.tc : Thread Cert.LnmodBwdIdeal.nD Cert.LnmodBwdIdeal.τ).loc Cert.LnmodBwdIdeal.main_arg3)
          ∧ r.2.mem ((c.tc : Thread Cert.LnmodBwdIdeal.nD Cert.LnmodBwdIdeal.τ).loc Cert.LnmodBwdIdeal.main_arg4) = m ((c.tc : Thread Cert.LnmodBwdIdeal.nD Cert.LnmodBwdIdeal.τ).loc Cert.LnmodBwdIdeal.main_arg4)
          ∧ r.2.mem ((c.tc : Thread Cert.LnmodBwdIdeal.nD Cert.LnmodBwdIdeal.τ).loc Cert.LnmodBwdIdeal.main_arg5) = m ((c.tc : Thread Cert.LnmodBwdIdeal.nD Cert.LnmodBwdIdeal.τ).loc Cert.LnmodBwdIdeal.main_arg5))
      ∧ θ_run (Cert.LnmodBwdRefIdeal.defs (F := Ideal)) (onTc (τ := Cert.LnmodBwdRefIdeal.τ) (Cert.LnmodBwdRefIdeal.main (F := Ideal))) ⟨m', fun _ => 0, g'⟩ (fun r => ∀ c : Dev Cert.LnmodBwdRefIdeal.nD,
          r.2.mem ((c.tc : Thread Cert.LnmodBwdRefIdeal.nD Cert.LnmodBwdRefIdeal.τ).loc Cert.LnmodBwdRefIdeal.main_v48) = v0 c
          ∧ r.2.mem ((c.tc : Thread Cert.LnmodBwdRefIdeal.nD Cert.LnmodBwdRefIdeal.τ).loc Cert.LnmodBwdRefIdeal.main_v50) = v1 c
          ∧ r.2.mem ((c.tc : Thread Cert.LnmodBwdRefIdeal.nD Cert.LnmodBwdRefIdeal.τ).loc Cert.LnmodBwdRefIdeal.main_arg0) = m' ((c.tc : Thread Cert.LnmodBwdRefIdeal.nD Cert.LnmodBwdRefIdeal.τ).loc Cert.LnmodBwdRefIdeal.main_arg0)
          ∧ r.2.mem ((c.tc : Thread Cert.LnmodBwdRefIdeal.nD Cert.LnmodBwdRefIdeal.τ).loc Cert.LnmodBwdRefIdeal.main_arg1) = m' ((c.tc : Thread Cert.LnmodBwdRefIdeal.nD Cert.LnmodBwdRefIdeal.τ).loc Cert.LnmodBwdRefIdeal.main_arg1)
          ∧ r.2.mem ((c.tc : Thread Cert.LnmodBwdRefIdeal.nD Cert.LnmodBwdRefIdeal.τ).loc Cert.LnmodBwdRefIdeal.main_arg2) = m' ((c.tc : Thread Cert.LnmodBwdRefIdeal.nD Cert.LnmodBwdRefIdeal.τ).loc Cert.LnmodBwdRefIdeal.main_arg2)
          ∧ r.2.mem ((c.tc : Thread Cert.LnmodBwdRefIdeal.nD Cert.LnmodBwdRefIdeal.τ).loc Cert.LnmodBwdRefIdeal.main_arg3) = m' ((c.tc : Thread Cert.LnmodBwdRefIdeal.nD Cert.LnmodBwdRefIdeal.τ).loc Cert.LnmodBwdRefIdeal.main_arg3)
          ∧ r.2.mem ((c.tc : Thread Cert.LnmodBwdRefIdeal.nD Cert.LnmodBwdRefIdeal.τ).loc Cert.LnmodBwdRefIdeal.main_arg4) = m' ((c.tc : Thread Cert.LnmodBwdRefIdeal.nD Cert.LnmodBwdRefIdeal.τ).loc Cert.LnmodBwdRefIdeal.main_arg4)
          ∧ r.2.mem ((c.tc : Thread Cert.LnmodBwdRefIdeal.nD Cert.LnmodBwdRefIdeal.τ).loc Cert.LnmodBwdRefIdeal.main_arg5) = m' ((c.tc : Thread Cert.LnmodBwdRefIdeal.nD Cert.LnmodBwdRefIdeal.τ).loc Cert.LnmodBwdRefIdeal.main_arg5))

def preserves_OutBwd_OutBwdIdeal : Prop :=
  True

def algebraic_OutBwdIdeal_OutBwdRefIdeal_on_gate_columns [hOutBwdIdeal : Cert.OutBwdIdeal.Facts] [hOutBwdRefIdeal : Cert.OutBwdRefIdeal.Facts] [hOn_gate_columns : Cert.On_gate_columns.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)
      ∧ m' ((c.tc : Thread Cert.OutBwdRefIdeal.nD Cert.OutBwdRefIdeal.τ).loc Cert.OutBwdRefIdeal.main_arg7) = m ((c.tc : Thread Cert.OutBwdIdeal.nD Cert.OutBwdIdeal.τ).loc Cert.OutBwdIdeal.main_arg7)) →
    ∃ (v0 : (c : Dev Cert.OutBwdIdeal.nD) → Buf (Elt Ideal) ((c.tc : Thread Cert.OutBwdIdeal.nD Cert.OutBwdIdeal.τ).loc Cert.OutBwdIdeal.main_v26_0)) (v1 : (c : Dev Cert.OutBwdIdeal.nD) → Buf (Elt Ideal) ((c.tc : Thread Cert.OutBwdIdeal.nD Cert.OutBwdIdeal.τ).loc Cert.OutBwdIdeal.main_v26_1)) (v2 : (c : Dev Cert.OutBwdIdeal.nD) → Buf (Elt Ideal) ((c.tc : Thread Cert.OutBwdIdeal.nD Cert.OutBwdIdeal.τ).loc Cert.OutBwdIdeal.main_v26_2)) (v3 : (c : Dev Cert.OutBwdIdeal.nD) → Buf (Elt Ideal) ((c.tc : Thread Cert.OutBwdIdeal.nD Cert.OutBwdIdeal.τ).loc Cert.OutBwdIdeal.main_v26_3)) (v4 : (c : Dev Cert.OutBwdIdeal.nD) → Buf (Elt Ideal) ((c.tc : Thread Cert.OutBwdIdeal.nD Cert.OutBwdIdeal.τ).loc Cert.OutBwdIdeal.main_v26_4)) (v5 : (c : Dev Cert.OutBwdIdeal.nD) → Buf (Elt Ideal) ((c.tc : Thread Cert.OutBwdIdeal.nD Cert.OutBwdIdeal.τ).loc Cert.OutBwdIdeal.main_v26_5)) (v6 : (c : Dev Cert.OutBwdIdeal.nD) → Buf (Elt Ideal) ((c.tc : Thread Cert.OutBwdIdeal.nD Cert.OutBwdIdeal.τ).loc Cert.OutBwdIdeal.main_v26_6)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).1 i = 1#1 → r.2.mem ((c.tc : Thread Cert.OutBwdIdeal.nD Cert.OutBwdIdeal.τ).loc Cert.OutBwdIdeal.main_v26_0) i = v0 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.1 i = 1#1 → r.2.mem ((c.tc : Thread Cert.OutBwdIdeal.nD Cert.OutBwdIdeal.τ).loc Cert.OutBwdIdeal.main_v26_1) i = v1 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.1 i = 1#1 → r.2.mem ((c.tc : Thread Cert.OutBwdIdeal.nD Cert.OutBwdIdeal.τ).loc Cert.OutBwdIdeal.main_v26_2) i = v2 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.1 i = 1#1 → r.2.mem ((c.tc : Thread Cert.OutBwdIdeal.nD Cert.OutBwdIdeal.τ).loc Cert.OutBwdIdeal.main_v26_3) i = v3 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.2.1 i = 1#1 → r.2.mem ((c.tc : Thread Cert.OutBwdIdeal.nD Cert.OutBwdIdeal.τ).loc Cert.OutBwdIdeal.main_v26_4) i = v4 c i)
          ∧ (∀ i : (⟨2, ![4096, 8192]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.2.2.1 i = 1#1 → r.2.mem ((c.tc : Thread Cert.OutBwdIdeal.nD Cert.OutBwdIdeal.τ).loc Cert.OutBwdIdeal.main_v26_5) i = v5 c i)
          ∧ (∀ i : (⟨2, ![8, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.2.2.2 i = 1#1 → r.2.mem ((c.tc : Thread Cert.OutBwdIdeal.nD Cert.OutBwdIdeal.τ).loc Cert.OutBwdIdeal.main_v26_6) i = v6 c i)
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
          ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).1 i = 1#1 → r.2.mem ((c.tc : Thread Cert.OutBwdRefIdeal.nD Cert.OutBwdRefIdeal.τ).loc Cert.OutBwdRefIdeal.main_v44) i = v0 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.1 i = 1#1 → r.2.mem ((c.tc : Thread Cert.OutBwdRefIdeal.nD Cert.OutBwdRefIdeal.τ).loc Cert.OutBwdRefIdeal.main_v45) i = v1 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.1 i = 1#1 → r.2.mem ((c.tc : Thread Cert.OutBwdRefIdeal.nD Cert.OutBwdRefIdeal.τ).loc Cert.OutBwdRefIdeal.main_v46) i = v2 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.1 i = 1#1 → r.2.mem ((c.tc : Thread Cert.OutBwdRefIdeal.nD Cert.OutBwdRefIdeal.τ).loc Cert.OutBwdRefIdeal.main_v47) i = v3 c i)
          ∧ (∀ i : (⟨2, ![4096, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.2.1 i = 1#1 → r.2.mem ((c.tc : Thread Cert.OutBwdRefIdeal.nD Cert.OutBwdRefIdeal.τ).loc Cert.OutBwdRefIdeal.main_v48) i = v4 c i)
          ∧ (∀ i : (⟨2, ![4096, 8192]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.2.2.1 i = 1#1 → r.2.mem ((c.tc : Thread Cert.OutBwdRefIdeal.nD Cert.OutBwdRefIdeal.τ).loc Cert.OutBwdRefIdeal.main_v49) i = v5 c i)
          ∧ (∀ i : (⟨2, ![8, 1024]⟩ : Shape).Idx, (Cert.On_gate_columns.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))).2.2.2.2.2.2 i = 1#1 → r.2.mem ((c.tc : Thread Cert.OutBwdRefIdeal.nD Cert.OutBwdRefIdeal.τ).loc Cert.OutBwdRefIdeal.main_v51) i = v6 c i)
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6)
          ∧ r.2.mem ((c.tc : Thread Cert.OutBwdRefIdeal.nD Cert.OutBwdRefIdeal.τ).loc Cert.OutBwdRefIdeal.main_arg7) = m' ((c.tc : Thread Cert.OutBwdRefIdeal.nD Cert.OutBwdRefIdeal.τ).loc Cert.OutBwdRefIdeal.main_arg7))

def Claim : Prop :=
  ∃ (hSumAdamFfn : Cert.SumAdamFfn.Facts) (hSumAdamFfnIdeal : Cert.SumAdamFfnIdeal.Facts) (hSumAdamFfnRefIdeal : Cert.SumAdamFfnRefIdeal.Facts) (hSumAdamSquare : Cert.SumAdamSquare.Facts) (hSumAdamSquareIdeal : Cert.SumAdamSquareIdeal.Facts) (hSumAdamSquareRefIdeal : Cert.SumAdamSquareRefIdeal.Facts) (hSumAdamWin : Cert.SumAdamWin.Facts) (hSumAdamWinIdeal : Cert.SumAdamWinIdeal.Facts) (hSumAdamWinRefIdeal : Cert.SumAdamWinRefIdeal.Facts) (hSmallAdam : Cert.SmallAdam.Facts) (hSmallAdamIdeal : Cert.SmallAdamIdeal.Facts) (hSmallAdamRefIdeal : Cert.SmallAdamRefIdeal.Facts) (hAdaGrad : Cert.AdaGrad.Facts) (hAdaGradIdeal : Cert.AdaGradIdeal.Facts) (hAdaGradRefIdeal : Cert.AdaGradRefIdeal.Facts) (hGradFfn : Cert.GradFfn.Facts) (hGradFfnIdeal : Cert.GradFfnIdeal.Facts) (hGradWdRefIdeal : Cert.GradWdRefIdeal.Facts) (hGradWgRefIdeal : Cert.GradWgRefIdeal.Facts) (hGradSquare : Cert.GradSquare.Facts) (hGradSquareIdeal : Cert.GradSquareIdeal.Facts) (hGradSquareRefIdeal : Cert.GradSquareRefIdeal.Facts) (hGradWin : Cert.GradWin.Facts) (hGradWinIdeal : Cert.GradWinIdeal.Facts) (hGradWinRefIdeal : Cert.GradWinRefIdeal.Facts) (hMmInBwd : Cert.MmInBwd.Facts) (hMmInBwdIdeal : Cert.MmInBwdIdeal.Facts) (hMmInBwdRefIdeal : Cert.MmInBwdRefIdeal.Facts) (hLnmod : Cert.Lnmod.Facts) (hLnmodIdeal : Cert.LnmodIdeal.Facts) (hLnmodRefIdeal : Cert.LnmodRefIdeal.Facts) (hMmIn : Cert.MmIn.Facts) (hMmInIdeal : Cert.MmInIdeal.Facts) (hMmInRefIdeal : Cert.MmInRefIdeal.Facts) (hBranch : Cert.Branch.Facts) (hBranchIdeal : Cert.BranchIdeal.Facts) (hBranchRefIdeal : Cert.BranchRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnBwd2 : Cert.FfnBwd2.Facts) (hFfnBwd2Ideal : Cert.FfnBwd2Ideal.Facts) (hFfnBwd2RefIdeal : Cert.FfnBwd2RefIdeal.Facts) (hLnmodBwd : Cert.LnmodBwd.Facts) (hLnmodBwdIdeal : Cert.LnmodBwdIdeal.Facts) (hLnmodBwdRefIdeal : Cert.LnmodBwdRefIdeal.Facts) (hOutBwd : Cert.OutBwd.Facts) (hOutBwdIdeal : Cert.OutBwdIdeal.Facts) (hOutBwdRefIdeal : Cert.OutBwdRefIdeal.Facts) (hPre_finite_ffn : Cert.Pre_finite_ffn.Facts) (hPre_finite_norm : Cert.Pre_finite_norm.Facts) (hOn_gate_columns : Cert.On_gate_columns.Facts),
    quiescent_SumAdamFfn (hSumAdamFfn := hSumAdamFfn)
    ∧ quiescent_SumAdamFfnIdeal (hSumAdamFfnIdeal := hSumAdamFfnIdeal)
    ∧ quiescent_SumAdamFfnRefIdeal (hSumAdamFfnRefIdeal := hSumAdamFfnRefIdeal)
    ∧ quiescent_SumAdamSquare (hSumAdamSquare := hSumAdamSquare)
    ∧ quiescent_SumAdamSquareIdeal (hSumAdamSquareIdeal := hSumAdamSquareIdeal)
    ∧ quiescent_SumAdamSquareRefIdeal (hSumAdamSquareRefIdeal := hSumAdamSquareRefIdeal)
    ∧ quiescent_SumAdamWin (hSumAdamWin := hSumAdamWin)
    ∧ quiescent_SumAdamWinIdeal (hSumAdamWinIdeal := hSumAdamWinIdeal)
    ∧ quiescent_SumAdamWinRefIdeal (hSumAdamWinRefIdeal := hSumAdamWinRefIdeal)
    ∧ quiescent_SmallAdam (hSmallAdam := hSmallAdam)
    ∧ quiescent_SmallAdamIdeal (hSmallAdamIdeal := hSmallAdamIdeal)
    ∧ quiescent_SmallAdamRefIdeal (hSmallAdamRefIdeal := hSmallAdamRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_GradFfn (hGradFfn := hGradFfn)
    ∧ quiescent_GradFfnIdeal (hGradFfnIdeal := hGradFfnIdeal)
    ∧ quiescent_GradWdRefIdeal (hGradWdRefIdeal := hGradWdRefIdeal)
    ∧ quiescent_GradWgRefIdeal (hGradWgRefIdeal := hGradWgRefIdeal)
    ∧ quiescent_GradSquare (hGradSquare := hGradSquare)
    ∧ quiescent_GradSquareIdeal (hGradSquareIdeal := hGradSquareIdeal)
    ∧ quiescent_GradSquareRefIdeal (hGradSquareRefIdeal := hGradSquareRefIdeal)
    ∧ quiescent_GradWin (hGradWin := hGradWin)
    ∧ quiescent_GradWinIdeal (hGradWinIdeal := hGradWinIdeal)
    ∧ quiescent_GradWinRefIdeal (hGradWinRefIdeal := hGradWinRefIdeal)
    ∧ quiescent_MmInBwd (hMmInBwd := hMmInBwd)
    ∧ quiescent_MmInBwdIdeal (hMmInBwdIdeal := hMmInBwdIdeal)
    ∧ quiescent_MmInBwdRefIdeal (hMmInBwdRefIdeal := hMmInBwdRefIdeal)
    ∧ quiescent_Lnmod (hLnmod := hLnmod)
    ∧ quiescent_LnmodIdeal (hLnmodIdeal := hLnmodIdeal)
    ∧ quiescent_LnmodRefIdeal (hLnmodRefIdeal := hLnmodRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_Branch (hBranch := hBranch)
    ∧ quiescent_BranchIdeal (hBranchIdeal := hBranchIdeal)
    ∧ quiescent_BranchRefIdeal (hBranchRefIdeal := hBranchRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnBwd2 (hFfnBwd2 := hFfnBwd2)
    ∧ quiescent_FfnBwd2Ideal (hFfnBwd2Ideal := hFfnBwd2Ideal)
    ∧ quiescent_FfnBwd2Ideal_pre_finite_ffn (hFfnBwd2Ideal := hFfnBwd2Ideal) (hPre_finite_ffn := hPre_finite_ffn)
    ∧ quiescent_FfnBwd2RefIdeal (hFfnBwd2RefIdeal := hFfnBwd2RefIdeal)
    ∧ quiescent_FfnBwd2RefIdeal_pre_finite_ffn (hFfnBwd2RefIdeal := hFfnBwd2RefIdeal) (hPre_finite_ffn := hPre_finite_ffn)
    ∧ quiescent_LnmodBwd (hLnmodBwd := hLnmodBwd)
    ∧ quiescent_LnmodBwdIdeal (hLnmodBwdIdeal := hLnmodBwdIdeal)
    ∧ quiescent_LnmodBwdIdeal_pre_finite_norm (hLnmodBwdIdeal := hLnmodBwdIdeal) (hPre_finite_norm := hPre_finite_norm)
    ∧ quiescent_LnmodBwdRefIdeal (hLnmodBwdRefIdeal := hLnmodBwdRefIdeal)
    ∧ quiescent_LnmodBwdRefIdeal_pre_finite_norm (hLnmodBwdRefIdeal := hLnmodBwdRefIdeal) (hPre_finite_norm := hPre_finite_norm)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ preserves_SumAdamFfn_SumAdamFfnIdeal
    ∧ algebraic_SumAdamFfnIdeal_SumAdamFfnRefIdeal (hSumAdamFfnIdeal := hSumAdamFfnIdeal) (hSumAdamFfnRefIdeal := hSumAdamFfnRefIdeal)
    ∧ preserves_SumAdamSquare_SumAdamSquareIdeal
    ∧ algebraic_SumAdamSquareIdeal_SumAdamSquareRefIdeal (hSumAdamSquareIdeal := hSumAdamSquareIdeal) (hSumAdamSquareRefIdeal := hSumAdamSquareRefIdeal)
    ∧ preserves_SumAdamWin_SumAdamWinIdeal
    ∧ algebraic_SumAdamWinIdeal_SumAdamWinRefIdeal (hSumAdamWinIdeal := hSumAdamWinIdeal) (hSumAdamWinRefIdeal := hSumAdamWinRefIdeal)
    ∧ preserves_SmallAdam_SmallAdamIdeal
    ∧ algebraic_SmallAdamIdeal_SmallAdamRefIdeal (hSmallAdamIdeal := hSmallAdamIdeal) (hSmallAdamRefIdeal := hSmallAdamRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_GradFfn_GradFfnIdeal
    ∧ algebraic_GradFfnIdeal_GradWdRefIdeal (hGradFfnIdeal := hGradFfnIdeal) (hGradWdRefIdeal := hGradWdRefIdeal)
    ∧ algebraic_GradFfnIdeal_GradWgRefIdeal (hGradFfnIdeal := hGradFfnIdeal) (hGradWgRefIdeal := hGradWgRefIdeal)
    ∧ preserves_GradSquare_GradSquareIdeal
    ∧ algebraic_GradSquareIdeal_GradSquareRefIdeal (hGradSquareIdeal := hGradSquareIdeal) (hGradSquareRefIdeal := hGradSquareRefIdeal)
    ∧ preserves_GradWin_GradWinIdeal
    ∧ algebraic_GradWinIdeal_GradWinRefIdeal (hGradWinIdeal := hGradWinIdeal) (hGradWinRefIdeal := hGradWinRefIdeal)
    ∧ preserves_MmInBwd_MmInBwdIdeal
    ∧ algebraic_MmInBwdIdeal_MmInBwdRefIdeal (hMmInBwdIdeal := hMmInBwdIdeal) (hMmInBwdRefIdeal := hMmInBwdRefIdeal)
    ∧ preserves_Lnmod_LnmodIdeal
    ∧ algebraic_LnmodIdeal_LnmodRefIdeal (hLnmodIdeal := hLnmodIdeal) (hLnmodRefIdeal := hLnmodRefIdeal)
    ∧ preserves_MmIn_MmInIdeal
    ∧ algebraic_MmInIdeal_MmInRefIdeal (hMmInIdeal := hMmInIdeal) (hMmInRefIdeal := hMmInRefIdeal)
    ∧ preserves_Branch_BranchIdeal
    ∧ algebraic_BranchIdeal_BranchRefIdeal (hBranchIdeal := hBranchIdeal) (hBranchRefIdeal := hBranchRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnBwd2_FfnBwd2Ideal
    ∧ algebraic_FfnBwd2Ideal_FfnBwd2RefIdeal_pre_finite_ffn (hFfnBwd2Ideal := hFfnBwd2Ideal) (hFfnBwd2RefIdeal := hFfnBwd2RefIdeal) (hPre_finite_ffn := hPre_finite_ffn)
    ∧ preserves_LnmodBwd_LnmodBwdIdeal
    ∧ algebraic_LnmodBwdIdeal_LnmodBwdRefIdeal_pre_finite_norm (hLnmodBwdIdeal := hLnmodBwdIdeal) (hLnmodBwdRefIdeal := hLnmodBwdRefIdeal) (hPre_finite_norm := hPre_finite_norm)
    ∧ preserves_OutBwd_OutBwdIdeal
    ∧ algebraic_OutBwdIdeal_OutBwdRefIdeal_on_gate_columns (hOutBwdIdeal := hOutBwdIdeal) (hOutBwdRefIdeal := hOutBwdRefIdeal) (hOn_gate_columns := hOn_gate_columns)
-- ==== On_gate_columns.lean ====
abbrev S4096x1024 : Shape := ⟨2, ![4096, 1024]⟩
abbrev S1024x1024 : Shape := ⟨2, ![1024, 1024]⟩
abbrev S4096x8192 : Shape := ⟨2, ![4096, 8192]⟩
abbrev S1x1024 : Shape := ⟨2, ![1, 1024]⟩
abbrev S_ : Shape := ⟨0, ![]⟩
abbrev S8192 : Shape := ⟨1, ![8192]⟩
abbrev S1x8192 : Shape := ⟨2, ![1, 8192]⟩
abbrev S8x1024 : Shape := ⟨2, ![8, 1024]⟩

class Facts : Prop where
  bcast_S_S4096x1024 : S_.BroadcastsInDim S4096x1024 (![] : Fin 0 → Fin S4096x1024.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S4096x8192_0_1 : S1x8192.BroadcastsInDim S4096x8192 (![0, 1] : Fin 2 → Fin S4096x8192.rank)
  bcast_S_S8x1024 : S_.BroadcastsInDim S8x1024 (![] : Fin 0 → Fin S8x1024.rank)

variable [Facts]

def fn {F : FTy → Type} [FloatOps F] (main_arg0 : FVec F S4096x1024 .f32) (main_arg1 : FVec F S4096x1024 .f32) (main_arg2 : FVec F S1024x1024 .f32) (main_arg3 : FVec F S1024x1024 .f32) (main_arg4 : FVec F S1024x1024 .f32) (main_arg5 : FVec F S4096x8192 .f32) (main_arg6 : FVec F S1x1024 .f32) (main_arg7 : FVec F S4096x1024 .f32) : IVec S4096x1024 1 × IVec S4096x1024 1 × IVec S4096x1024 1 × IVec S4096x1024 1 × IVec S4096x1024 1 × IVec S4096x8192 1 × IVec S8x1024 1 :=
  let main_c : IVec S_ 1 := constantI S_ 1 1#1
  let main_v0 : IVec S4096x1024 1 := broadcastInDim S4096x1024 ![] bcast_S_S4096x1024 main_c
  let main_v1 : IVec S8192 32 := iotaInDim S8192 32 0
  let main_v2 : IVec S1x8192 32 := broadcastInDim S1x8192 ![1] bcast_S8192_S1x8192_1 main_v1
  let main_c_0 : IVec S_ 32 := constantI S_ 32 6144#32
  let main_v3 : IVec S1x8192 32 := broadcastInDim S1x8192 ![] bcast_S_S1x8192 main_c_0
  let main_v4 : IVec S1x8192 1 := cmpi .sge main_v2 main_v3
  let main_v5 : IVec S4096x8192 1 := broadcastInDim S4096x8192 ![0, 1] bcast_S1x8192_S4096x8192_0_1 main_v4
  let main_c_1 : IVec S_ 1 := constantI S_ 1 1#1
  let main_v6 : IVec S8x1024 1 := broadcastInDim S8x1024 ![] bcast_S_S8x1024 main_c_1
  (main_v0, main_v0, main_v0, main_v0, main_v0, main_v5, main_v6)
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S4096x2816 : S_.BroadcastsInDim S4096x2816 (![] : Fin 0 → Fin S4096x2816.rank)

variable [Facts]

def fn_part1 {F : FTy → Type} [FloatOps F] (main_arg7 : FVec F S4096x2816 .f32) (main_v2 : IVec S4096x1024 1) (main_v5 : IVec S1x1024 1) (main_v8 : IVec S1x1024 1) (main_v11 : IVec S1024x2816 1) (main_v14 : IVec S1024x2816 1) (main_v17 : IVec S4096x2816 1) : IVec S4096x1024 1 × IVec S1x1024 1 × IVec S1x1024 1 × IVec S1024x2816 1 × IVec S1024x2816 1 × IVec S4096x2816 1 × IVec S4096x2816 1 :=
  let main_v18 : FVec F S4096x2816 .f32 := Host.absf main_arg7
  let main_cst_5 : FVec F S_ .f32 := constant S_ .f32 0x7F800000#32
  let main_v19 : FVec F S4096x2816 .f32 := broadcastInDim S4096x2816 ![] bcast_S_S4096x2816 main_cst_5
  let main_v20 : IVec S4096x2816 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x2816 .f32) (main_arg5 : FVec F S1024x2816 .f32) (main_arg6 : FVec F S4096x2816 .f32) (main_arg7 : FVec F S4096x2816 .f32) (main_arg8 : FVec F S4096x1024 .f32) : IVec S4096x1024 1 × IVec S1x1024 1 × IVec S1x1024 1 × IVec S1024x2816 1 × IVec S1024x2816 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg5
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S4096x2816 .f32 := Host.absf main_arg6
  let main_cst_4 : FVec F S_ .f32 := constant S_ .f32 0x7F800000#32
  let main_v16 : FVec F S4096x2816 .f32 := broadcastInDim S4096x2816 ![] bcast_S_S4096x2816 main_cst_4
  let main_v17 : IVec S4096x2816 1 := cmpf .olt main_v15 main_v16
  fn_part1 (F := F) main_arg7 main_v2 main_v5 main_v8 main_v11 main_v14 main_v17
-- ==== Pre_finite_norm.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S4096x1024 .f32) (main_arg5 : FVec F S4096x1024 .f32) : IVec S4096x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== SumAdamFfn.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SumAdamFfnIdeal.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SumAdamFfnRefIdeal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== SumAdamSquare.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SumAdamSquareIdeal.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SumAdamSquareRefIdeal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== SumAdamWin.lean ====
abbrev S8x1024x2048 : Shape := ⟨3, ![8, 1024, 2048]⟩
abbrev S2x1024x2048 : Shape := ⟨3, ![2, 1024, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SumAdamWinRefIdeal.lean ====
abbrev S8x1024x2048 : Shape := ⟨3, ![8, 1024, 2048]⟩
abbrev S2x1024x2048 : Shape := ⟨3, ![2, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S8x1024x2048, .f32⟩
  | .hbm, ⟨6, _⟩ => ⟨S_, .f32⟩
  | .hbm, ⟨7, _⟩ => ⟨S1024x2048, .f32⟩
  | .hbm, ⟨8, _⟩ => ⟨S8x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1x1024x2048, .f32⟩
  | .hbm, ⟨13, _⟩ => ⟨S2x1024x2048, .f32⟩
  | .hbm, ⟨14, _⟩ => ⟨S_, .f32⟩
  | .hbm, ⟨15, _⟩ => ⟨S2x1024x2048, .f32⟩
  | .hbm, ⟨16, _⟩ => ⟨S2x1024x2048, .f32⟩
  | .hbm, ⟨17, _⟩ => ⟨S_, .f32⟩
  | .hbm, ⟨18, _⟩ => ⟨S2x1024x2048, .f32⟩
  | .hbm, ⟨19, _⟩ => ⟨S2x1024x2048, .f32⟩
  | .hbm, ⟨20, _⟩ => ⟨S2x1024x2048, .f32⟩
  | .hbm, ⟨21, _⟩ => ⟨S_, .f32⟩
  | .hbm, ⟨22, _⟩ => ⟨S2x1024x2048, .f32⟩
  | .hbm, ⟨23, _⟩ => ⟨S2x1024x2048, .f32⟩
  | .hbm, ⟨24, _⟩ => ⟨S2x1024x2048, .f32⟩
  | .hbm, ⟨25, _⟩ => ⟨S_, .f32⟩
  | .hbm, ⟨26, _⟩ => ⟨S2x1024x2048, .f32⟩
  | .hbm, ⟨27, _⟩ => ⟨S2x1024x2048, .f32⟩
  | .hbm, ⟨28, _⟩ => ⟨S2x1024x2048, .f32⟩
  | .hbm, ⟨29, _⟩ => ⟨S_, .f32⟩
  | .hbm, ⟨30, _⟩ => ⟨S2x1024x2048, .f32⟩
  | .hbm, ⟨31, _⟩ => ⟨S2x1024x2048, .f32⟩
  | .hbm, ⟨32, _⟩ => ⟨S_, .f32⟩
  | .hbm, ⟨33, _⟩ => ⟨S2x1024x2048, .f32⟩
  | .hbm, ⟨34, _⟩ => ⟨S2x1024x2048, .f32⟩
  | .hbm, ⟨35, _⟩ => ⟨S2x1024x2048, .f32⟩
  | .hbm, ⟨36, _⟩ => ⟨S_, .f32⟩
  | .hbm, ⟨37, _⟩ => ⟨S2x1024x2048, .f32⟩
  | .hbm, ⟨38, _⟩ => ⟨S2x1024x2048, .f32⟩
  | .hbm, ⟨39, _⟩ => ⟨S2x1024x2048, .f32⟩
  | .hbm, ⟨40, _⟩ => ⟨S_, .f32⟩
  | .hbm, ⟨41, _⟩ => ⟨S2x1024x2048, .f32⟩
  | .hbm, ⟨42, _⟩ => ⟨S2x1024x2048, .f32⟩
  | .hbm, ⟨43, _⟩ => ⟨S2x1024x2048, .f32⟩
  | .hbm, ⟨44, _⟩ => ⟨S_, .f32⟩
  | .hbm, ⟨45, _⟩ => ⟨S2x1024x2048, .f32⟩
  | .hbm, ⟨46, _⟩ => ⟨S2x1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== SmallAdam.lean ====
abbrev S8x8x2304 : Shape := ⟨3, ![8, 8, 2304]⟩
abbrev S8x2304 : Shape := ⟨2, ![8, 2304]⟩
abbrev S1x8x2304 : Shape := ⟨3, ![1, 8, 2304]⟩
abbrev S18432 : Shape := ⟨1, ![18432]⟩
abbrev S1 : Shape := ⟨1, ![1]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S8x8x2304, .f32⟩
  | .hbm, ⟨1, _⟩ => ⟨S8x2304, .f32⟩
  | .hbm, ⟨2, _⟩ => ⟨S8x2304, .f32⟩
  | .hbm, ⟨3, _⟩ => ⟨S8x2304, .f32⟩
  | .hbm, ⟨4, _⟩ => ⟨S8x2304, .f32⟩
  | .hbm, ⟨5, _⟩ => ⟨S8x2304, .f32⟩
  | .hbm, ⟨6, _⟩ => ⟨S8x2304, .f32⟩
  | .hbm, ⟨7, _⟩ => ⟨S8x2304, .f32⟩
  | .hbm, ⟨8, _⟩ => ⟨S18432, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8x8x2304, .f32⟩
  | .local _ .vmem, ⟨1, _⟩ => ⟨S8x2304, .f32⟩
  | .local _ .vmem, ⟨2, _⟩ => ⟨S8x2304, .f32⟩
  | .local _ .vmem, ⟨3, _⟩ => ⟨S8x2304, .f32⟩
  | .local _ .vmem, ⟨4, _⟩ => ⟨S8x2304, .f32⟩
  | .local _ .vmem, ⟨5, _⟩ => ⟨S8x2304, .f32⟩
  | .local _ .vmem, ⟨6, _⟩ => ⟨S8x2304, .f32⟩
  | .local _ .vmem, ⟨7, _⟩ => ⟨S8x2304, .f32⟩
  | _, _ => ⟨S8x8x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallAdamRefIdeal.lean ====
abbrev S8x8x2304 : Shape := ⟨3, ![8, 8, 2304]⟩
abbrev S8x2304 : Shape := ⟨2, ![8, 2304]⟩
abbrev S8x18432 : Shape := ⟨2, ![8, 18432]⟩
abbrev S8x1 : Shape := ⟨2, ![8, 1]⟩
abbrev S8 : Shape := ⟨1, ![8]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x8x2304, .f32⟩
  | .hbm, ⟨1, _⟩ => ⟨S8x2304, .f32⟩
  | .hbm, ⟨2, _⟩ => ⟨S8x2304, .f32⟩
  | .hbm, ⟨3, _⟩ => ⟨S8x2304, .f32⟩
  | .hbm, ⟨4, _⟩ => ⟨S8x18432, .f32⟩
  | .hbm, ⟨5, _⟩ => ⟨S8x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x2304, .f32⟩
  | .hbm, ⟨15, _⟩ => ⟨S_, .f32⟩
  | .hbm, ⟨16, _⟩ => ⟨S8x2304, .f32⟩
  | .hbm, ⟨17, _⟩ => ⟨S8x2304, .f32⟩
  | .hbm, ⟨18, _⟩ => ⟨S_, .f32⟩
  | .hbm, ⟨19, _⟩ => ⟨S8x2304, .f32⟩
  | .hbm, ⟨20, _⟩ => ⟨S8x2304, .f32⟩
  | .hbm, ⟨21, _⟩ => ⟨S8x2304, .f32⟩
  | .hbm, ⟨22, _⟩ => ⟨S_, .f32⟩
  | .hbm, ⟨23, _⟩ => ⟨S8x2304, .f32⟩
  | .hbm, ⟨24, _⟩ => ⟨S8x2304, .f32⟩
  | .hbm, ⟨25, _⟩ => ⟨S8x2304, .f32⟩
  | .hbm, ⟨26, _⟩ => ⟨S_, .f32⟩
  | .hbm, ⟨27, _⟩ => ⟨S8x2304, .f32⟩
  | .hbm, ⟨28, _⟩ => ⟨S8x2304, .f32⟩
  | .hbm, ⟨29, _⟩ => ⟨S8x2304, .f32⟩
  | .hbm, ⟨30, _⟩ => ⟨S_, .f32⟩
  | .hbm, ⟨31, _⟩ => ⟨S8x2304, .f32⟩
  | .hbm, ⟨32, _⟩ => ⟨S8x2304, .f32⟩
  | .hbm, ⟨33, _⟩ => ⟨S_, .f32⟩
  | .hbm, ⟨34, _⟩ => ⟨S8x2304, .f32⟩
  | .hbm, ⟨35, _⟩ => ⟨S8x2304, .f32⟩
  | .hbm, ⟨36, _⟩ => ⟨S8x2304, .f32⟩
  | .hbm, ⟨37, _⟩ => ⟨S_, .f32⟩
  | .hbm, ⟨38, _⟩ => ⟨S8x2304, .f32⟩
  | .hbm, ⟨39, _⟩ => ⟨S8x2304, .f32⟩
  | .hbm, ⟨40, _⟩ => ⟨S8x2304, .f32⟩
  | .hbm, ⟨41, _⟩ => ⟨S_, .f32⟩
  | .hbm, ⟨42, _⟩ => ⟨S8x2304, .f32⟩
  | .hbm, ⟨43, _⟩ => ⟨S8x2304, .f32⟩
  | .hbm, ⟨44, _⟩ => ⟨S8x2304, .f32⟩
  | .hbm, ⟨45, _⟩ => ⟨S_, .f32⟩
  | .hbm, ⟨46, _⟩ => ⟨S8x2304, .f32⟩
  | .hbm, ⟨47, _⟩ => ⟨S8x2304, .f32⟩
  | _, _ => ⟨S8x8x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdaGrad.lean ====
abbrev S8x1024 : Shape := ⟨2, ![8, 1024]⟩
abbrev S2x8x1536 : Shape := ⟨3, ![2, 8, 1536]⟩
abbrev S2x1024x1536 : Shape := ⟨3, ![2, 1024, 1536]⟩
abbrev S1024x8 : Shape := ⟨2, ![1024, 8]⟩
abbrev S1x8x512 : Shape := ⟨3, ![1, 8, 512]⟩
abbrev S1x1024x512 : Shape := ⟨3, ![1, 1024, 512]⟩
abbrev S8x512 : Shape := ⟨2, ![8, 512]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S1024x8, .f32⟩
  | .hbm, ⟨6, _⟩ => ⟨S2x1024x1536, .f32⟩
  | .hbm, ⟨7, _⟩ => ⟨S2x1024x1536, .f32⟩
  | .hbm, ⟨8, _⟩ => ⟨S2x1024x1536, .f32⟩
  | .hbm, ⟨9, _⟩ => ⟨S2x1024x1536, .f32⟩
  | .local _ .vmem, ⟨0, _⟩ => ⟨S1024x8, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaGradRefIdeal.lean ====
abbrev S8x1024 : Shape := ⟨2, ![8, 1024]⟩
abbrev S2x8x1536 : Shape := ⟨3, ![2, 8, 1536]⟩
abbrev S2x1024x1536 : Shape := ⟨3, ![2, 1024, 1536]⟩
abbrev S_ : Shape := ⟨0, ![]⟩
abbrev S8x2x1536 : Shape := ⟨3, ![8, 2, 1536]⟩
abbrev S2x1536x1024 : Shape := ⟨3, ![2, 1536, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x2x1536, .f32⟩
  | .hbm, ⟨15, _⟩ => ⟨S2x8x1536, .f32⟩
  | .hbm, ⟨16, _⟩ => ⟨S8x2x1536, .f32⟩
  | .hbm, ⟨17, _⟩ => ⟨S2x1536x1024, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S_, .f32⟩
  | .hbm, ⟨38, _⟩ => ⟨S2x1024x1536, .f32⟩
  | .hbm, ⟨39, _⟩ => ⟨S2x1024x1536, .f32⟩
  | .hbm, ⟨40, _⟩ => ⟨S2x1024x1536, .f32⟩
  | .hbm, ⟨41, _⟩ => ⟨S_, .f32⟩
  | .hbm, ⟨42, _⟩ => ⟨S2x1024x1536, .f32⟩
  | .hbm, ⟨43, _⟩ => ⟨S2x1024x1536, .f32⟩
  | .hbm, ⟨44, _⟩ => ⟨S2x1024x1536, .f32⟩
  | .hbm, ⟨45, _⟩ => ⟨S_, .f32⟩
  | .hbm, ⟨46, _⟩ => ⟨S2x1024x1536, .f32⟩
  | .hbm, ⟨47, _⟩ => ⟨S2x1024x1536, .f32⟩
  | .hbm, ⟨48, _⟩ => ⟨S2x1024x1536, .f32⟩
  | .hbm, ⟨49, _⟩ => ⟨S_, .f32⟩
  | .hbm, ⟨50, _⟩ => ⟨S2x1024x1536, .f32⟩
  | .hbm, ⟨51, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== GradFfn.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .bf16⟩
  | .hbm, ⟨6, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWdRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradWgRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradSquare.lean ====
abbrev S4096x1024 : Shape := ⟨2, ![4096, 1024]⟩
abbrev S4x256x1024 : Shape := ⟨3, ![4, 256, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradSquareRefIdeal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradWin.lean ====
abbrev S4096x1024 : Shape := ⟨2, ![4096, 1024]⟩
abbrev S4096x8192 : Shape := ⟨2, ![4096, 8192]⟩
abbrev S4x1024x2048 : Shape := ⟨3, ![4, 1024, 2048]⟩
abbrev S1024x1024 : Shape := ⟨2, ![1024, 1024]⟩
abbrev S1024x2048 : Shape := ⟨2, ![1024, 2048]⟩
abbrev S1x1024x2048 : Shape := ⟨3, ![1, 1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .bf16⟩
  | .hbm, ⟨3, _⟩ => ⟨S4096x8192, .bf16⟩
  | .hbm, ⟨4, _⟩ => ⟨S4x1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWinRefIdeal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S_, .f32⟩
  | .hbm, ⟨3, _⟩ => ⟨S1024x8192, .f32⟩
  | .hbm, ⟨4, _⟩ => ⟨S4096x8192, .f32⟩
  | .hbm, ⟨5, _⟩ => ⟨S8192x1024, .f32⟩
  | .hbm, ⟨6, _⟩ => ⟨S1024x8192, .f32⟩
  | .hbm, ⟨7, _⟩ => ⟨S1024x4x2048, .f32⟩
  | .hbm, ⟨8, _⟩ => ⟨S4x1024x2048, .f32⟩
  | .hbm, ⟨9, _⟩ => ⟨S4x1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MmInBwd.lean ====
abbrev S4096x8192 : Shape := ⟨2, ![4096, 8192]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S4096x1024 : Shape := ⟨2, ![4096, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x8192, .bf16⟩
  | .hbm, ⟨3, _⟩ => ⟨S1024x4x2048, .f32⟩
  | .hbm, ⟨4, _⟩ => ⟨S4x1024x2048, .f32⟩
  | .hbm, ⟨5, _⟩ => ⟨S4x1024x2048, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmInBwdRefIdeal.lean ====
abbrev S4096x8192 : Shape := ⟨2, ![4096, 8192]⟩
abbrev S1024x8192 : Shape := ⟨2, ![1024, 8192]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S_, .f32⟩
  | .hbm, ⟨3, _⟩ => ⟨S4096x1024, .f32⟩
  | .hbm, ⟨4, _⟩ => ⟨S4096x8192, .f32⟩
  | .hbm, ⟨5, _⟩ => ⟨S4096x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Lnmod.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnmodRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MmIn.lean ====
abbrev S4096x1024 : Shape := ⟨2, ![4096, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S4096x8192 : Shape := ⟨2, ![4096, 8192]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x1024, .bf16⟩
  | .hbm, ⟨3, _⟩ => ⟨S1024x4x2048, .f32⟩
  | .hbm, ⟨4, _⟩ => ⟨S4x1024x2048, .f32⟩
  | .hbm, ⟨5, _⟩ => ⟨S4x1024x2048, .bf16⟩
  | .hbm, ⟨6, _⟩ => ⟨S4096x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .bf16⟩
  | .local _ .vmem, ⟨5, _⟩ => ⟨S1024x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInRefIdeal.lean ====
abbrev S4096x1024 : Shape := ⟨2, ![4096, 1024]⟩
abbrev S1024x8192 : Shape := ⟨2, ![1024, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S4096x8192, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Branch.lean ====
abbrev S4096x1024 : Shape := ⟨2, ![4096, 1024]⟩
abbrev S4096x8192 : Shape := ⟨2, ![4096, 8192]⟩
abbrev S1024x1024 : Shape := ⟨2, ![1024, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8192, .f32⟩
  | .hbm, ⟨3, _⟩ => ⟨S1024x1024, .f32⟩
  | .hbm, ⟨4, _⟩ => ⟨S1024x1024, .f32⟩
  | .hbm, ⟨5, _⟩ => ⟨S4096x1024, .bf16⟩
  | .hbm, ⟨6, _⟩ => ⟨S4096x1024, .bf16⟩
  | .hbm, ⟨7, _⟩ => ⟨S4096x8192, .bf16⟩
  | .hbm, ⟨8, _⟩ => ⟨S1024x1024, .bf16⟩
  | .hbm, ⟨9, _⟩ => ⟨S1024x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BranchRefIdeal.lean ====
abbrev S4096x1024 : Shape := ⟨2, ![4096, 1024]⟩
abbrev S4096x8192 : Shape := ⟨2, ![4096, 8192]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8192, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S1024x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S1024x4x704 : Shape := ⟨3, ![1024, 4, 704]⟩
abbrev S4x1024x704 : Shape := ⟨3, ![4, 1024, 704]⟩
abbrev S4x4096x704 : Shape := ⟨3, ![4, 4096, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S1024x4x704, .f32⟩
  | .hbm, ⟨5, _⟩ => ⟨S4x1024x704, .f32⟩
  | .hbm, ⟨6, _⟩ => ⟨S4x1024x704, .bf16⟩
  | .hbm, ⟨7, _⟩ => ⟨S1024x4x704, .f32⟩
  | .hbm, ⟨8, _⟩ => ⟨S4x1024x704, .f32⟩
  | .hbm, ⟨9, _⟩ => ⟨S4x1024x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4x704x1024, .f32⟩
  | .hbm, ⟨8, _⟩ => ⟨S4x704x1024, .bf16⟩
  | .hbm, ⟨9, _⟩ => ⟨S4096x1024, .f32⟩
  | .hbm, ⟨10, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfnBwd2.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S1024x4x704 : Shape := ⟨3, ![1024, 4, 704]⟩
abbrev S4x1024x704 : Shape := ⟨3, ![4, 1024, 704]⟩
abbrev S8x1024 : Shape := ⟨2, ![8, 1024]⟩
abbrev S1x1024x704 : Shape := ⟨3, ![1, 1024, 704]⟩
abbrev S1024x1024 : Shape := ⟨2, ![1024, 1024]⟩
abbrev S1024x704 : Shape := ⟨2, ![1024, 704]⟩
abbrev S1024 : Shape := ⟨1, ![1024]⟩
abbrev S1024x1 : Shape := ⟨2, ![1024, 1]⟩

abbrev nBuf : Space → Nat
  | .hbm => 23
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4096x4x704, .f32⟩
  | .hbm, ⟨13, _⟩ => ⟨S4x4096x704, .f32⟩
  | .hbm, ⟨14, _⟩ => ⟨S4x4096x704, .bf16⟩
  | .hbm, ⟨15, _⟩ => ⟨S1024x4x704, .f32⟩
  | .hbm, ⟨16, _⟩ => ⟨S4x1024x704, .f32⟩
  | .hbm, ⟨17, _⟩ => ⟨S4x1024x704, .bf16⟩
  | .hbm, ⟨18, _⟩ => ⟨S1024x4x704, .f32⟩
  | .hbm, ⟨19, _⟩ => ⟨S4x1024x704, .f32⟩
  | .hbm, ⟨20, _⟩ => ⟨S4x1024x704, .bf16⟩
  | .hbm, ⟨21, _⟩ => ⟨S4096x1024, .f32⟩
  | .hbm, ⟨22, _⟩ => ⟨S8x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S8x1024, .f32⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_20 : BitVec 32 := 0#32
  let v26 : BitVec 1 := Scalar.cmpi .ne v25 c0_i32_20
  v26

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FfnBwd2RefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S5x1024, .f32⟩
  | .hbm, ⟨75, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== LnmodBwd.lean ====
abbrev S4096x1024 : Shape := ⟨2, ![4096, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnmodBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S5x1024, .f32⟩
  | .hbm, ⟨68, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S4096x8192 : Shape := ⟨2, ![4096, 8192]⟩
abbrev S1x1024 : Shape := ⟨2, ![1, 1024]⟩
abbrev S_ : Shape := ⟨0, ![]⟩
abbrev S8x1024 : Shape := ⟨2, ![8, 1024]⟩
abbrev S512x1024 : Shape := ⟨2, ![512, 1024]⟩
abbrev S512x2048 : Shape := ⟨2, ![512, 2048]⟩
abbrev S1024 : Shape := ⟨1, ![1024]⟩

abbrev nBuf : Space → Nat
  | .hbm => 45
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x8192, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024x1024, .bf16⟩
  | .hbm, ⟨33, _⟩ => ⟨S4096x1024, .bf16⟩
  | .hbm, ⟨34, _⟩ => ⟨S4096x1024, .bf16⟩
  | .hbm, ⟨35, _⟩ => ⟨S4096x8192, .bf16⟩
  | .hbm, ⟨36, _⟩ => ⟨S1024x1024, .bf16⟩
  | .hbm, ⟨37, _⟩ => ⟨S1024x1024, .bf16⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S4096x1024, .bf16⟩
  | .hbm, ⟨43, _⟩ => ⟨S4096x8192, .bf16⟩
  | .hbm, ⟨44, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x2048, .bf16⟩
  | .local _ .vmem, ⟨27, _⟩ => ⟨S512x2048, .bf16⟩
  | .local _ .vmem, ⟨28, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev main_v26_5 : Ref sig .tc := ⟨.hbm, 43, rfl⟩
abbrev main_v26_6 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== OutBwdRefIdeal.lean ====
abbrev S4096x1024 : Shape := ⟨2, ![4096, 1024]⟩
abbrev S1024x1024 : Shape := ⟨2, ![1024, 1024]⟩
abbrev S4096x8192 : Shape := ⟨2, ![4096, 8192]⟩
abbrev S1x1024 : Shape := ⟨2, ![1, 1024]⟩
abbrev S_ : Shape := ⟨0, ![]⟩
abbrev S1024 : Shape := ⟨1, ![1024]⟩
abbrev S4096x6144 : Shape := ⟨2, ![4096, 6144]⟩
abbrev S7x1024 : Shape := ⟨2, ![7, 1024]⟩
abbrev S8x1024 : Shape := ⟨2, ![8, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x8192, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x6144, .f32⟩
  | .hbm, ⟨59, _⟩ => ⟨S4096x8192, .f32⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S4096x8192, .bf16⟩
  | .hbm, ⟨66, _⟩ => ⟨S_, .f32⟩
  | .hbm, ⟨67, _⟩ => ⟨S7x1024, .f32⟩
  | .hbm, ⟨68, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Proof.Common.lean ====
/-
  Facts used by all the value proofs of this directory: the three kinds of matrix product read at an index over the extended reals,
  and a long sum built up block by block.
-/
module

public import Idealize.ShloMosaic.Lib.MatmulPlain
public import Idealize.ShloMosaic.Lib.ValueIdx
public import Idealize.ShloMosaic.Lib.Pipeline.Value
public import Idealize.ShloMosaic.PureOps.Ideal.Laws
public import Idealize.ShloMosaic.Lib.IdealHost

@[expose] public section

noncomputable section

namespace Cert.Common

open Idealize.ShloMosaic Idealize.ShloMosaic.ValueIdx
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

/-- The dimension numbers of a product that contracts the rows of both operands: `[K,M]ᵀ × [K,N]`. -/
def rowsDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem rows_rank (K M N : ℕ) : (rowsDims K M N).contr.rank = 1 := rfl
theorem rows_size (K M N : ℕ) : (rowsDims K M N).contr.size ⟨0, by rw [rows_rank]; exact Nat.one_pos⟩ = K := rfl

/-- `[K,M]ᵀ × [K,N]` read at `(r, c)`: the accumulator plus the sum over the rows. -/
theorem matmul_rows_apply {K M N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (rowsDims K M N) prec lhs rhs acc (ix2 r c) = acc (ix2 r c) + ∑ k : Fin K, lhs (ix2 k r) * rhs (ix2 k c) := by
  rw [Ideal.matmul_apply, ← Equiv.sum_comp (contrEquiv1 _ K (rows_rank K M N) (rows_size K M N)).symm]
  refine congrArg (acc (ix2 r c) + ·) (Finset.sum_congr rfl fun k _ => ?_)
  have hk := contrEquiv1_symm_val _ K (rows_rank K M N) (rows_size K M N) k
  have el : (rowsDims K M N).lhsIdx (ix2 r c) ((contrEquiv1 _ K (rows_rank K M N) (rows_size K M N)).symm k) = ix2 k r := by
    funext a; apply Fin.ext
    match a with
    | ⟨0, _⟩ => exact hk
    | ⟨1, _⟩ => rfl
  have er : (rowsDims K M N).rhsIdx (ix2 r c) ((contrEquiv1 _ K (rows_rank K M N) (rows_size K M N)).symm k) = ix2 k c := by
    funext a; apply Fin.ext
    match a with
    | ⟨0, _⟩ => exact hk
    | ⟨1, _⟩ => rfl
  rw [el, er]

/-- A product over a zero accumulator, in the three kinds. -/
theorem rows_zero {K M N : ℕ} {φ₁ φ₂ : FTy} (lhs : FVec Ideal ⟨2, ![K, M]⟩ φ₁) (rhs : FVec Ideal ⟨2, ![K, N]⟩ φ₂)
    (i : (⟨2, ![M, N]⟩ : Shape).Idx) :
    matmul (rowsDims K M N) none lhs rhs (constant (F := Ideal) ⟨2, ![M, N]⟩ .f32 0x00000000#32) i
      = ∑ k : Fin K, lhs (ix2 k (i 0)) * rhs (ix2 k (i 1)) := by
  rw [eq_ix2 i]
  refine (matmul_rows_apply none lhs rhs _ (i 0) (i 1)).trans ?_
  rw [show constant (F := Ideal) ⟨2, ![M, N]⟩ .f32 0x00000000#32 (ix2 (i 0) (i 1)) = (0 : EReal) from Ideal.ofBits_zero_f32, zero_add]
  rfl
theorem plain_zero {M K N : ℕ} {φ₁ φ₂ : FTy} (lhs : FVec Ideal ⟨2, ![M, K]⟩ φ₁) (rhs : FVec Ideal ⟨2, ![K, N]⟩ φ₂)
    (i : (⟨2, ![M, N]⟩ : Shape).Idx) :
    matmul (DotDims.plain M K N) none lhs rhs (constant (F := Ideal) ⟨2, ![M, N]⟩ .f32 0x00000000#32) i
      = ∑ k : Fin K, lhs (ix2 (i 0) k) * rhs (ix2 k (i 1)) := by
  rw [eq_ix2 i]
  refine (Ideal.matmul_plain_apply none lhs rhs _ (i 0) (i 1)).trans ?_
  rw [show constant (F := Ideal) ⟨2, ![M, N]⟩ .f32 0x00000000#32 (ix2 (i 0) (i 1)) = (0 : EReal) from Ideal.ofBits_zero_f32, zero_add]
  rfl
theorem cols_zero {M K N : ℕ} {φ₁ φ₂ : FTy} (lhs : FVec Ideal ⟨2, ![M, K]⟩ φ₁) (rhs : FVec Ideal ⟨2, ![N, K]⟩ φ₂)
    (i : (⟨2, ![M, N]⟩ : Shape).Idx) :
    matmul (DotDims.transposedRhs M K N) none lhs rhs (constant (F := Ideal) ⟨2, ![M, N]⟩ .f32 0x00000000#32) i
      = ∑ k : Fin K, lhs (ix2 (i 0) k) * rhs (ix2 (i 1) k) := by
  rw [eq_ix2 i]
  refine (Ideal.matmul_transposedRhs_apply none lhs rhs _ (i 0) (i 1)).trans ?_
  rw [show constant (F := Ideal) ⟨2, ![M, N]⟩ .f32 0x00000000#32 (ix2 (i 0) (i 1)) = (0 : EReal) from Ideal.ofBits_zero_f32, zero_add]
  rfl

/-- The float `1.0` is one. -/
theorem one_bits : FloatOps.ofBits (F := Ideal) .f32 0x3F800000#32 = (1 : EReal) := Ideal.ofBits_one_f32

/-- A function of the indices below `n`, continued by zero. -/
def ext0 {n : ℕ} (f : Fin n → EReal) (x : ℕ) : EReal := if h : x < n then f ⟨x, h⟩ else 0

theorem ext0_of_lt {n : ℕ} (f : Fin n → EReal) (x : ℕ) (h : x < n) : ext0 f x = f ⟨x, h⟩ := dif_pos h

theorem sum_ext0 {n : ℕ} (f : Fin n → EReal) : ∑ x ∈ Finset.range n, ext0 f x = ∑ k : Fin n, f k := by
  rw [← Fin.sum_univ_eq_sum_range]
  exact Finset.sum_congr rfl fun k _ => ext0_of_lt f k.val k.isLt

/-- One more block of `b` terms. -/
theorem sum_block (f : ℕ → EReal) (b n : ℕ) :
    ∑ x ∈ Finset.range (b * n), f x + ∑ y : Fin b, f (b * n + y.val) = ∑ x ∈ Finset.range (b * (n + 1)), f x := by
  rw [Fin.sum_univ_eq_sum_range (fun y => f (b * n + y)) b, Nat.mul_succ, Finset.sum_range_add]

/-- The first block of `b` terms. -/
theorem sum_block_first (f : ℕ → EReal) (b : ℕ) : ∑ y : Fin b, f (b * 0 + y.val) = ∑ x ∈ Finset.range (b * (0 + 1)), f x := by
  rw [← sum_block f b 0]; simp

/-- A matrix whose columns are cut into four runs, stacked one behind the other, read at an index. -/
theorem stack_cols {α : Type} {R C N : ℕ} (hN : N = 4 * C) (w : (⟨2, ![R, N]⟩ : Shape).Idx → α) (h : (⟨2, ![R, N]⟩ : Shape).ShapeCasts ⟨3, ![R, 4, C]⟩)
    (h' : (⟨3, ![R, 4, C]⟩ : Shape).Transposes [1, 0, 2] ⟨3, ![4, R, C]⟩) (i : (⟨3, ![4, R, C]⟩ : Shape).Idx) (k : (⟨2, ![R, N]⟩ : Shape).Idx)
    (h0 : (k 0).val = (i 1).val) (h1 : (k 1).val = C * (i 0).val + (i 2).val) :
    transpose ⟨3, ![4, R, C]⟩ [1, 0, 2] (shapeCast ⟨3, ![R, 4, C]⟩ w h) h' i = w k := by
  refine (transpose_apply [1, 0, 2] (shapeCast ⟨3, ![R, 4, C]⟩ w h) h' i (ix3 (n0 := R) (n1 := 4) (n2 := C) (i 1) (i 0) (i 2)) (fun b => match b with
    | ⟨0, _⟩ => rfl
    | ⟨1, _⟩ => rfl
    | ⟨2, _⟩ => rfl)).trans ?_
  refine shapeCast_apply w h _ k ?_
  rewrite [Shape.rowMajor_val_two, Shape.rowMajor_val_three]
  show (k 0).val * N + (k 1).val = ((i 1).val * 4 + (i 0).val) * C + (i 2).val
  rw [h0, h1, hN]
  ring

/-- A matrix whose rows are cut into four runs, stacked one behind the other, read at an index. -/
theorem stack_rows {α : Type} {R C N : ℕ} (hN : N = 4 * R) (w : (⟨2, ![N, C]⟩ : Shape).Idx → α) (h : (⟨2, ![N, C]⟩ : Shape).ShapeCasts ⟨3, ![4, R, C]⟩)
    (i : (⟨3, ![4, R, C]⟩ : Shape).Idx) (k : (⟨2, ![N, C]⟩ : Shape).Idx) (h0 : (k 0).val = R * (i 0).val + (i 1).val) (h1 : (k 1).val = (i 2).val) :
    shapeCast ⟨3, ![4, R, C]⟩ w h i = w k := by
  refine shapeCast_apply w h i k ?_
  rewrite [Shape.rowMajor_val_two, Shape.rowMajor_val_three]
  show (k 0).val * C + (k 1).val = ((i 0).val * R + (i 1).val) * C + (i 2).val
  rw [h0, h1]
  ring

/-- Dropping a leading axis of size one, and adding one. -/
theorem cast_drop {α : Type} {R C : ℕ} (w : (⟨3, ![1, R, C]⟩ : Shape).Idx → α) (h : (⟨3, ![1, R, C]⟩ : Shape).ShapeCasts ⟨2, ![R, C]⟩) (r : Fin R) (q : Fin C) :
    shapeCast ⟨2, ![R, C]⟩ w h (ix2 r q) = w (ix3 (0 : Fin 1) r q) :=
  shapeCast_apply w h (ix2 r q) (ix3 (0 : Fin 1) r q) (by
    rewrite [Shape.rowMajor_val_two, Shape.rowMajor_val_three]
    show ((0 : ℕ) * R + r.val) * C + q.val = r.val * C + q.val
    ring)
theorem cast_add {α : Type} {R C : ℕ} (w : (⟨2, ![R, C]⟩ : Shape).Idx → α) (h : (⟨2, ![R, C]⟩ : Shape).ShapeCasts ⟨3, ![1, R, C]⟩) (y : (⟨3, ![1, R, C]⟩ : Shape).Idx) :
    shapeCast ⟨3, ![1, R, C]⟩ w h y = w (ix2 (y 1) (y 2)) :=
  shapeCast_apply w h y (ix2 (y 1) (y 2)) (by
    have h0 : (y 0).val < 1 := (y 0).isLt
    have h0' : (y 0).val = 0 := by omega
    rewrite [Shape.rowMajor_val_two, Shape.rowMajor_val_three]
    show (y 1).val * C + (y 2).val = ((y 0).val * R + (y 1).val) * C + (y 2).val
    rw [h0']
    ring)

end Cert.Common

end
-- ==== Proof.Adam.lean ====
/-
  The optimiser's update of one weight, and the sum of eight devices' gradient parts, over the extended reals.
-/
module

public import proofs.«01_k».proof.Proof.Common
public import Idealize.ShloMosaic.Lib.VecWindow
public import Idealize.ShloMosaic.Lib.WritesUnit
public import Idealize.ShloMosaic.Lib.Pipeline.ReadBack
public import Idealize.ShloMosaic.Lib.Pipeline.ValueKit.Tiles

@[expose] public section

noncomputable section

namespace Cert.Adam

open Cert.Common Idealize.ShloMosaic Idealize.ShloMosaic.ValueIdx
open scoped BigOperators

/-- The new running mean of the gradient. -/
def newM (g m : EReal) : EReal := FloatOps.ofBits (F := Ideal) .f32 0x3F666666#32 * m + FloatOps.ofBits (F := Ideal) .f32 0x3DCCCCCD#32 * g

/-- The new running mean of the squared gradient. -/
def newV (g v : EReal) : EReal := FloatOps.ofBits (F := Ideal) .f32 0x3F7FBE77#32 * v + FloatOps.ofBits (F := Ideal) .f32 0x3A83126F#32 * (g * g)

/-- The step, from the two new means and the weight: the bias-corrected mean over the root of the bias-corrected square, with the
    weight's decay. -/
def step (m v w : EReal) : EReal :=
  FloatOps.ofBits (F := Ideal) .f32 0xBA83126F#32
    * (FloatOps.divf (F := Ideal) (φ := .f32) (FloatOps.divf (F := Ideal) (φ := .f32) m (FloatOps.ofBits (F := Ideal) .f32 0x3F26BD02#32))
        (FloatOps.sqrt (F := Ideal) (φ := .f32) (FloatOps.divf (F := Ideal) (φ := .f32) v (FloatOps.ofBits (F := Ideal) .f32 0x3C231ACC#32))
          + FloatOps.ofBits (F := Ideal) .f32 0x322BCC77#32)
      + FloatOps.ofBits (F := Ideal) .f32 0x3C23D70A#32 * w)

/-- Eight numbers added one after the other. -/
theorem sum_eight (f : Fin 8 → EReal) : f 0 + f 1 + f 2 + f 3 + f 4 + f 5 + f 6 + f 7 = ∑ k, f k := (Fin.sum_univ_eight f).symm

section Slices
variable {Val : EltTy → Type} {e : EltTy}

/-- Entry `k` of a stack of matrices, as a stack of one. -/
def partOf {R C : ℕ} (k : Fin 8) (x : (⟨3, ![8, R, C]⟩ : Shape).Idx → Val e) : (⟨3, ![1, R, C]⟩ : Shape).Idx → Val e :=
  fun y => x (ix3 k (y 1) (y 2))

/-- A load of entry `k`. -/
theorem ld_part {R C : ℕ} (x : (⟨3, ![8, R, C]⟩ : Shape).Idx → Val e) (k : ℕ) (hk : k < 8)
    (inb : ∀ a : Fin 3, (![k, 0, 0] : Fin 3 → ℕ) a + (![1, R, C] : Fin 3 → ℕ) a ≤ (![8, R, C] : Fin 3 → ℕ) a) :
    View.ld x (Rect.unit (s := ⟨3, ![8, R, C]⟩) ![k, 0, 0] ![1, R, C] inb) = partOf ⟨k, hk⟩ x :=
  funext fun y => View.ld_unit_apply_of (S := ⟨3, ![8, R, C]⟩) x ![k, 0, 0] ![1, R, C] inb y (ix3 ⟨k, hk⟩ (y 1) (y 2)) fun a => match a with
    | ⟨0, _⟩ => by
      have h : (y 0).val < 1 := (y 0).isLt
      show k = k + (y 0).val
      omega
    | ⟨1, _⟩ => by show (y 1).val = 0 + (y 1).val; omega
    | ⟨2, _⟩ => by show (y 2).val = 0 + (y 2).val; omega

end Slices

end Cert.Adam
-- ==== Proof.SumAdamFfn.lean ====
/-
  The optimiser's step on the feed-forward matrices: the eight devices' gradient parts of both layers are summed and the weight's
  running means and step are made from the sum, a block of 176 rows at a time.
-/
module

public import proofs.«01_k».proof.Proof.Adam
public import proofs.«01_k».proof.Proof.Gen.SumAdamFfnIdeal.Value
public import proofs.«01_k».proof.Proof.Gen.SumAdamFfnRefIdeal.Read
public import Idealize.ShloMosaic.Lib.Tactic
public import Idealize.ShloMosaic.Lib.Claim

@[expose] public section

set_option maxRecDepth 16384

noncomputable section

namespace Cert.SumAdamFfnIdeal.Sum

open Cert.Common Cert.Adam Cert.SumAdamFfnIdeal Cert.SumAdamFfnIdeal.Gen Cert.SumAdamFfnIdeal.Value Cert.SumAdamFfnRefIdeal.Read
open Idealize.ShloMosaic Idealize.ShloMosaic.TcCoe Idealize.ShloMosaic.ValueIdx Idealize.SL.Sem
open Idealize.ShloMosaic.Pipeline (Dat)

section Cases
variable {F : FTy → Type} [FloatOps F]

/-- The sum of the eight parts of a block. -/
def total (x : Vec F S8x176x1024 .bf16) : FVec F S176x1024 .f32 :=
  k0_pay5 (partOf 0 x) (partOf 1 x) (partOf 2 x) (partOf 3 x) (partOf 4 x) (partOf 5 x) (partOf 6 x) (partOf 7 x)

variable (c : Dev nD) (i : grid0.Coords) (q2 : Memref sig .tc .vmem S8x176x1024 .bf16) (h2 : q2.IsWhole) (q3 : Memref sig .tc .vmem S8x176x1024 .bf16) (h3 : q3.IsWhole) (q4 : Memref sig .tc .vmem S1x176x1024 .f32) (h4 : q4.IsWhole) (q5 : Memref sig .tc .vmem S1x176x1024 .f32) (h5 : q5.IsWhole) (q6 : Memref sig .tc .vmem S1x176x1024 .f32) (h6 : q6.IsWhole) (q7 : Memref sig .tc .vmem S1x176x1024 .f32) (h7 : q7.IsWhole) (q8 : Memref sig .tc .vmem S1x176x1024 .f32) (h8 : q8.IsWhole) (q9 : Memref sig .tc .vmem S1x176x1024 .f32) (h9 : q9.IsWhole) (q10 : Memref sig .tc .vmem S1x176x1024 .f32) (h10 : q10.IsWhole)
  (x0 x1 : Vec F S8x176x1024 .bf16) (x2 x3 x4 : Vec F S1x176x1024 .f32)

/-! ## What a grid point of either layer stores -/

theorem out5_A (hc0 : cond0_0 i) (hc1 : ¬cond0_1 i) :
    out0_A_5 c i q2 h2 q3 h3 q4 h4 q5 h5 q6 h6 q7 h7 q8 h8 q9 h9 q10 h10 hc0 hc1 x0 x1 x2 x3 x4 = k0_pay6 (total x0) := by
  unfold out0_A_5
  rw [View.read_writes_eq_canon _ _ _ (cover0_A_5 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out6_A (hc0 : cond0_0 i) (hc1 : ¬cond0_1 i) :
    out0_A_6 c i q2 h2 q3 h3 q4 h4 q5 h5 q6 h6 q7 h7 q8 h8 q9 h9 q10 h10 hc0 hc1 x0 x1 x2 x3 x4 = k0_pay9 (total x0) x2 x3 x4 := by
  unfold out0_A_6
  rw [View.read_writes_eq_canon _ _ _ (cover0_A_6 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out7_A (hc0 : cond0_0 i) (hc1 : ¬cond0_1 i) :
    out0_A_7 c i q2 h2 q3 h3 q4 h4 q5 h5 q6 h6 q7 h7 q8 h8 q9 h9 q10 h10 hc0 hc1 x0 x1 x2 x3 x4 = shapeCast S1x176x1024 (k0_pay7 (total x0) x3) shapeCasts_S176x1024_S1x176x1024 := by
  unfold out0_A_7
  rw [View.read_writes_eq_canon _ _ _ (cover0_A_7 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out8_A (hc0 : cond0_0 i) (hc1 : ¬cond0_1 i) :
    out0_A_8 c i q2 h2 q3 h3 q4 h4 q5 h5 q6 h6 q7 h7 q8 h8 q9 h9 q10 h10 hc0 hc1 x0 x1 x2 x3 x4 = shapeCast S1x176x1024 (k0_pay8 (total x0) x4) shapeCasts_S176x1024_S1x176x1024 := by
  unfold out0_A_8
  rw [View.read_writes_eq_canon _ _ _ (cover0_A_8 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out5_B (hc0 : ¬cond0_0 i) (hc1 : cond0_1 i) :
    out0_B_5 c i q2 h2 q3 h3 q4 h4 q5 h5 q6 h6 q7 h7 q8 h8 q9 h9 q10 h10 hc0 hc1 x0 x1 x2 x3 x4 = k0_pay6 (total x1) := by
  unfold out0_B_5
  rw [View.read_writes_eq_canon _ _ _ (cover0_B_5 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out6_B (hc0 : ¬cond0_0 i) (hc1 : cond0_1 i) :
    out0_B_6 c i q2 h2 q3 h3 q4 h4 q5 h5 q6 h6 q7 h7 q8 h8 q9 h9 q10 h10 hc0 hc1 x0 x1 x2 x3 x4 = k0_pay9 (total x1) x2 x3 x4 := by
  unfold out0_B_6
  rw [View.read_writes_eq_canon _ _ _ (cover0_B_6 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out7_B (hc0 : ¬cond0_0 i) (hc1 : cond0_1 i) :
    out0_B_7 c i q2 h2 q3 h3 q4 h4 q5 h5 q6 h6 q7 h7 q8 h8 q9 h9 q10 h10 hc0 hc1 x0 x1 x2 x3 x4 = shapeCast S1x176x1024 (k0_pay7 (total x1) x3) shapeCasts_S176x1024_S1x176x1024 := by
  unfold out0_B_7
  rw [View.read_writes_eq_canon _ _ _ (cover0_B_7 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out8_B (hc0 : ¬cond0_0 i) (hc1 : cond0_1 i) :
    out0_B_8 c i q2 h2 q3 h3 q4 h4 q5 h5 q6 h6 q7 h7 q8 h8 q9 h9 q10 h10 hc0 hc1 x0 x1 x2 x3 x4 = shapeCast S1x176x1024 (k0_pay8 (total x1) x4) shapeCasts_S176x1024_S1x176x1024 := by
  unfold out0_B_8
  rw [View.read_writes_eq_canon _ _ _ (cover0_B_8 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x176x1024) zero3]
  simp only [View.readAt_eq_ld, h2.read_unread, h3.read_unread, h4.read_unread, h5.read_unread, h6.read_unread, View.ld_unit_zero (S := S1x176x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

end Cases

/-! ## The stored values at an index, over the extended reals -/

theorem total_apply (x : S8x176x1024.Idx → EReal) (r : Fin 176) (q : Fin 1024) : (total (F := Ideal) x : S176x1024.Idx → EReal) (ix2 r q) = ∑ k : Fin 8, x (ix3 k r q) := by
  have h : ∀ k : Fin 8, (shapeCast S176x1024 (partOf (Val := Elt Ideal) (e := .bf16) k x : S1x176x1024.Idx → EReal) shapeCasts_S1x176x1024_S176x1024 : S176x1024.Idx → EReal) (ix2 r q) = x (ix3 k r q) :=
    fun k => cast_drop (partOf (Val := Elt Ideal) (e := .bf16) k x : S1x176x1024.Idx → EReal) _ r q
  refine Eq.trans ?_ (sum_eight fun k => x (ix3 k r q))
  rw [← h 0, ← h 1, ← h 2, ← h 3, ← h 4, ← h 5, ← h 6, ← h 7]
  rfl

theorem pay6_apply (g : S176x1024.Idx → EReal) (y : S1x176x1024.Idx) : (k0_pay6 (F := Ideal) g : S1x176x1024.Idx → EReal) y = g (ix2 (y 1) (y 2)) :=
  cast_add g shapeCasts_S176x1024_S1x176x1024 y

theorem pay7_apply (g : S176x1024.Idx → EReal) (x : S1x176x1024.Idx → EReal) (r : Fin 176) (q : Fin 1024) :
    (k0_pay7 (F := Ideal) g x : S176x1024.Idx → EReal) (ix2 r q) = newM (g (ix2 r q)) (x (ix3 (0 : Fin 1) r q)) :=
  congrArg (fun z : EReal => newM (g (ix2 r q)) z) (cast_drop x shapeCasts_S1x176x1024_S176x1024 r q)

theorem pay8_apply (g : S176x1024.Idx → EReal) (x : S1x176x1024.Idx → EReal) (r : Fin 176) (q : Fin 1024) :
    (k0_pay8 (F := Ideal) g x : S176x1024.Idx → EReal) (ix2 r q) = newV (g (ix2 r q)) (x (ix3 (0 : Fin 1) r q)) :=
  congrArg (fun z : EReal => newV (g (ix2 r q)) z) (cast_drop x shapeCasts_S1x176x1024_S176x1024 r q)

theorem pay9_apply (g : S176x1024.Idx → EReal) (w x v : S1x176x1024.Idx → EReal) (y : S1x176x1024.Idx) :
    (k0_pay9 (F := Ideal) g w x v : S1x176x1024.Idx → EReal) y
      = step (newM (g (ix2 (y 1) (y 2))) (x (ix3 (0 : Fin 1) (y 1) (y 2)))) (newV (g (ix2 (y 1) (y 2))) (v (ix3 (0 : Fin 1) (y 1) (y 2)))) (w (ix3 (0 : Fin 1) (y 1) (y 2))) := by
  rw [← pay7_apply g x (y 1) (y 2), ← pay8_apply g v (y 1) (y 2), ← cast_drop w shapeCasts_S1x176x1024_S176x1024 (y 1) (y 2)]
  unfold k0_pay9
  exact (cast_add _ shapeCasts_S176x1024_S1x176x1024 y).trans rfl

/-! ## What each grid point reads -/

variable (m : (ℓ : Loc nD τ sig) → Buf (Elt Ideal) ℓ)

abbrev a0 (c : Dev nD) : S8x704x1024.Idx → EReal := m ((c : Thread nD τ).loc main_arg0)
abbrev a1 (c : Dev nD) : S8x704x1024.Idx → EReal := m ((c : Thread nD τ).loc main_arg1)
abbrev a2 (c : Dev nD) : S2x704x1024.Idx → EReal := m ((c : Thread nD τ).loc main_arg2)
abbrev a3 (c : Dev nD) : S2x704x1024.Idx → EReal := m ((c : Thread nD τ).loc main_arg3)
abbrev a4 (c : Dev nD) : S2x704x1024.Idx → EReal := m ((c : Thread nD τ).loc main_arg4)

/-- Where each window stands at grid point `t`. -/
theorem idx_in : ∀ t : Fin cfg0.N, win0_2.index t (0 : Fin 3) = t.val / 4
    ∧ win0_2.index t (1 : Fin 3) = t.val % 4
    ∧ win0_2.index t (2 : Fin 3) = 0
    ∧ win0_3.index t (0 : Fin 3) = t.val / 4
    ∧ win0_3.index t (1 : Fin 3) = t.val % 4
    ∧ win0_3.index t (2 : Fin 3) = 0
    ∧ win0_4.index t (0 : Fin 3) = t.val / 4
    ∧ win0_4.index t (1 : Fin 3) = t.val % 4
    ∧ win0_4.index t (2 : Fin 3) = 0
    ∧ win0_5.index t (0 : Fin 3) = t.val / 4
    ∧ win0_5.index t (1 : Fin 3) = t.val % 4
    ∧ win0_5.index t (2 : Fin 3) = 0
    ∧ win0_6.index t (0 : Fin 3) = t.val / 4
    ∧ win0_6.index t (1 : Fin 3) = t.val % 4
    ∧ win0_6.index t (2 : Fin 3) = 0
    ∧ win0_7.index t (0 : Fin 3) = t.val / 4
    ∧ win0_7.index t (1 : Fin 3) = t.val % 4
    ∧ win0_7.index t (2 : Fin 3) = 0
    ∧ win0_8.index t (0 : Fin 3) = t.val / 4
    ∧ win0_8.index t (1 : Fin 3) = t.val % 4
    ∧ win0_8.index t (2 : Fin 3) = 0
    ∧ win0_5.flush t = true
    ∧ win0_6.flush t = true
    ∧ win0_7.flush t = true
    ∧ win0_8.flush t = true :=
  (by decide +kernel : ∀ t : Fin grid0.N, _)

theorem idx_part0 : ∀ t : Fin cfg0.N, t.val < 4 → win0_0.index t (0 : Fin 3) = 0 ∧ win0_0.index t (1 : Fin 3) = t.val % 4 ∧ win0_0.index t (2 : Fin 3) = 0 :=
  (by decide +kernel : ∀ t : Fin grid0.N, _)

theorem idx_part1 : ∀ t : Fin cfg0.N, 4 ≤ t.val → win0_1.index t (0 : Fin 3) = 0 ∧ win0_1.index t (1 : Fin 3) = t.val % 4 ∧ win0_1.index t (2 : Fin 3) = 0 :=
  (by decide +kernel : ∀ t : Fin grid0.N, _)

abbrev b0 (c : Dev nD) (t : Fin cfg0.N) : S8x176x1024.Idx → EReal := iblk m c 0 t

theorem blk0 (c : Dev nD) (t : Fin cfg0.N) (hc : t.val < 4) (y : S8x176x1024.Idx) (k : S8x704x1024.Idx) (h0 : (k 0).val = (y 0).val) (h1 : (k 1).val = 176 * (t.val % 4) + (y 1).val) (h2 : (k 2).val = (y 2).val) :
    b0 m c t y = a0 m c k := by
  obtain ⟨e0, e1, e2⟩ := idx_part0 t hc
  show V m c main_arg0 (((cfg0.win 0).blk t).view.emb y) = _
  entry_read
  refine congrArg (a0 m c) (funext fun a => Fin.ext ?_)
  match a with
  | ⟨0, _⟩ => show win0_0.index t (0 : Fin 3) * 8 + 1 * (y 0).val = (k 0).val; rw [h0, e0]; omega
  | ⟨1, _⟩ => show win0_0.index t (1 : Fin 3) * 176 + 1 * (y 1).val = (k 1).val; rw [h1, e1]; omega
  | ⟨2, _⟩ => show win0_0.index t (2 : Fin 3) * 1024 + 1 * (y 2).val = (k 2).val; rw [h2, e2]; omega

abbrev b1 (c : Dev nD) (t : Fin cfg0.N) : S8x176x1024.Idx → EReal := iblk m c 1 t

theorem blk1 (c : Dev nD) (t : Fin cfg0.N) (hc : 4 ≤ t.val) (y : S8x176x1024.Idx) (k : S8x704x1024.Idx) (h0 : (k 0).val = (y 0).val) (h1 : (k 1).val = 176 * (t.val % 4) + (y 1).val) (h2 : (k 2).val = (y 2).val) :
    b1 m c t y = a1 m c k := by
  obtain ⟨e0, e1, e2⟩ := idx_part1 t hc
  show V m c main_arg1 (((cfg0.win 1).blk t).view.emb y) = _
  entry_read
  refine congrArg (a1 m c) (funext fun a => Fin.ext ?_)
  match a with
  | ⟨0, _⟩ => show win0_1.index t (0 : Fin 3) * 8 + 1 * (y 0).val = (k 0).val; rw [h0, e0]; omega
  | ⟨1, _⟩ => show win0_1.index t (1 : Fin 3) * 176 + 1 * (y 1).val = (k 1).val; rw [h1, e1]; omega
  | ⟨2, _⟩ => show win0_1.index t (2 : Fin 3) * 1024 + 1 * (y 2).val = (k 2).val; rw [h2, e2]; omega

abbrev b2 (c : Dev nD) (t : Fin cfg0.N) : S1x176x1024.Idx → EReal := iblk m c 2 t

theorem blk2 (c : Dev nD) (t : Fin cfg0.N) (y : S1x176x1024.Idx) (k : S2x704x1024.Idx) (h0 : (k 0).val = t.val / 4) (h1 : (k 1).val = 176 * (t.val % 4) + (y 1).val) (h2 : (k 2).val = (y 2).val) :
    b2 m c t y = a2 m c k := by
  obtain ⟨e0, e1, e2, -⟩ := idx_in t
  have hy : (y 0).val < 1 := (y 0).isLt
  show V m c main_arg2 (((cfg0.win 2).blk t).view.emb y) = _
  entry_read
  refine congrArg (a2 m c) (funext fun a => Fin.ext ?_)
  match a with
  | ⟨0, _⟩ => show win0_2.index t (0 : Fin 3) * 1 + 1 * (y 0).val = (k 0).val; rw [h0, e0]; omega
  | ⟨1, _⟩ => show win0_2.index t (1 : Fin 3) * 176 + 1 * (y 1).val = (k 1).val; rw [h1, e1]; omega
  | ⟨2, _⟩ => show win0_2.index t (2 : Fin 3) * 1024 + 1 * (y 2).val = (k 2).val; rw [h2, e2]; omega

abbrev b3 (c : Dev nD) (t : Fin cfg0.N) : S1x176x1024.Idx → EReal := iblk m c 3 t

theorem blk3 (c : Dev nD) (t : Fin cfg0.N) (y : S1x176x1024.Idx) (k : S2x704x1024.Idx) (h0 : (k 0).val = t.val / 4) (h1 : (k 1).val = 176 * (t.val % 4) + (y 1).val) (h2 : (k 2).val = (y 2).val) :
    b3 m c t y = a3 m c k := by
  obtain ⟨-, -, -, e0, e1, e2, -⟩ := idx_in t
  have hy : (y 0).val < 1 := (y 0).isLt
  show V m c main_arg3 (((cfg0.win 3).blk t).view.emb y) = _
  entry_read
  refine congrArg (a3 m c) (funext fun a => Fin.ext ?_)
  match a with
  | ⟨0, _⟩ => show win0_3.index t (0 : Fin 3) * 1 + 1 * (y 0).val = (k 0).val; rw [h0, e0]; omega
  | ⟨1, _⟩ => show win0_3.index t (1 : Fin 3) * 176 + 1 * (y 1).val = (k 1).val; rw [h1, e1]; omega
  | ⟨2, _⟩ => show win0_3.index t (2 : Fin 3) * 1024 + 1 * (y 2).val = (k 2).val; rw [h2, e2]; omega

abbrev b4 (c : Dev nD) (t : Fin cfg0.N) : S1x176x1024.Idx → EReal := iblk m c 4 t

theorem blk4 (c : Dev nD) (t : Fin cfg0.N) (y : S1x176x1024.Idx) (k : S2x704x1024.Idx) (h0 : (k 0).val = t.val / 4) (h1 : (k 1).val = 176 * (t.val % 4) + (y 1).val) (h2 : (k 2).val = (y 2).val) :
    b4 m c t y = a4 m c k := by
  obtain ⟨-, -, -, -, -, -, e0, e1, e2, -⟩ := idx_in t
  have hy : (y 0).val < 1 := (y 0).isLt
  show V m c main_arg4 (((cfg0.win 4).blk t).view.emb y) = _
  entry_read
  refine congrArg (a4 m c) (funext fun a => Fin.ext ?_)
  match a with
  | ⟨0, _⟩ => show win0_4.index t (0 : Fin 3) * 1 + 1 * (y 0).val = (k 0).val; rw [h0, e0]; omega
  | ⟨1, _⟩ => show win0_4.index t (1 : Fin 3) * 176 + 1 * (y 1).val = (k 1).val; rw [h1, e1]; omega
  | ⟨2, _⟩ => show win0_4.index t (2 : Fin 3) * 1024 + 1 * (y 2).val = (k 2).val; rw [h2, e2]; omega

/-- The gradient: the sum over the devices of the layer's parts. -/
def grad (c : Dev nD) (i : S2x704x1024.Idx) : EReal :=
  if (i 0).val = 0 then ∑ k : Fin 8, a0 m c (ix3 (n0 := 8) (n1 := 704) (n2 := 1024) k (i 1) (i 2)) else ∑ k : Fin 8, a1 m c (ix3 (n0 := 8) (n1 := 704) (n2 := 1024) k (i 1) (i 2))

theorem total_A (c : Dev nD) (t : Fin cfg0.N) (hc : t.val < 4) (y : S1x176x1024.Idx) (i : S2x704x1024.Idx) (h0 : (i 0).val = t.val / 4) (h1 : (i 1).val = 176 * (t.val % 4) + (y 1).val) (h2 : (i 2).val = (y 2).val) :
    (total (F := Ideal) (b0 m c t) : S176x1024.Idx → EReal) (ix2 (y 1) (y 2)) = grad m c i := by
  have hl : (i 0).val < 2 := (i 0).isLt
  rw [grad, if_pos (by omega)]
  exact (total_apply (b0 m c t) (y 1) (y 2)).trans (Finset.sum_congr rfl fun k _ => blk0 m c t hc (ix3 k (y 1) (y 2)) (ix3 (n0 := 8) (n1 := 704) (n2 := 1024) k (i 1) (i 2)) rfl h1 h2)

theorem total_B (c : Dev nD) (t : Fin cfg0.N) (hc : 4 ≤ t.val) (y : S1x176x1024.Idx) (i : S2x704x1024.Idx) (h0 : (i 0).val = t.val / 4) (h1 : (i 1).val = 176 * (t.val % 4) + (y 1).val) (h2 : (i 2).val = (y 2).val) :
    (total (F := Ideal) (b1 m c t) : S176x1024.Idx → EReal) (ix2 (y 1) (y 2)) = grad m c i := by
  have hl : (i 0).val < 2 := (i 0).isLt
  have ht : t.val < 8 := t.isLt.trans_eq N_0
  rw [grad, if_neg (by omega)]
  exact (total_apply (b1 m c t) (y 1) (y 2)).trans (Finset.sum_congr rfl fun k _ => blk1 m c t hc (ix3 k (y 1) (y 2)) (ix3 (n0 := 8) (n1 := 704) (n2 := 1024) k (i 1) (i 2)) rfl h1 h2)

/-! ## The reference -/

theorem ref_grad (c : Dev nD) (i : S2x704x1024.Idx) : val_main_v6 (F := Ideal) (a0 m c) (a1 m c) i = grad m c i := by
  have hl : (i 0).val < 2 := (i 0).isLt
  unfold val_main_v6 grad
  by_cases h : (i 0).val = 0
  · rw [if_pos h]
    refine (concatenate_apply_piece (t := SumAdamFfnRefIdeal.S2x704x1024) 0 _ _ i 0 (by show 0 < 2; decide) SumAdamFfnRefIdeal.S1x704x1024 (val_main_v4 (F := Ideal) (a0 m c)) rfl rfl 0 rfl
      (ix3 (n0 := 1) (n1 := 704) (n2 := 1024) 0 (i 1) (i 2)) (fun b hb => ?_) (by show 0 + 0 = (i 0).val; omega)).trans ?_
    · match b with
      | ⟨0, _⟩ => exact absurd rfl hb
      | ⟨1, _⟩ => rfl
      | ⟨2, _⟩ => rfl
    · rw [val_main_v4_apply, val_main_v1_apply]
      refine (congrArg (fun z : EReal => z + _) Ideal.ofBits_zero_f32).trans ((zero_add _).trans (Finset.sum_congr rfl fun k _ => congrArg (a0 m c) (funext fun b => Fin.ext ?_)))
      match b with
      | ⟨0, _⟩ => rfl
      | ⟨1, _⟩ => rfl
      | ⟨2, _⟩ => rfl
  · rw [if_neg h]
    refine (concatenate_apply_piece (t := SumAdamFfnRefIdeal.S2x704x1024) 0 _ _ i 1 (by show 1 < 2; decide) SumAdamFfnRefIdeal.S1x704x1024 (val_main_v5 (F := Ideal) (a1 m c)) rfl rfl 1 rfl
      (ix3 (n0 := 1) (n1 := 704) (n2 := 1024) 0 (i 1) (i 2)) (fun b hb => ?_) (by show 1 + 0 = (i 0).val; omega)).trans ?_
    · match b with
      | ⟨0, _⟩ => exact absurd rfl hb
      | ⟨1, _⟩ => rfl
      | ⟨2, _⟩ => rfl
    · rw [val_main_v5_apply, val_main_v3_apply]
      refine (congrArg (fun z : EReal => z + _) Ideal.ofBits_zero_f32).trans ((zero_add _).trans (Finset.sum_congr rfl fun k _ => congrArg (a1 m c) (funext fun b => Fin.ext ?_)))
      match b with
      | ⟨0, _⟩ => rfl
      | ⟨1, _⟩ => rfl
      | ⟨2, _⟩ => rfl

theorem ref_mean (c : Dev nD) (i : S2x704x1024.Idx) : val_main_v11 (F := Ideal) (a0 m c) (a1 m c) (a3 m c) i = newM (grad m c i) (a3 m c i) := by
  rw [val_main_v11_apply, val_main_v8_apply, val_main_v7_apply, val_main_v10_apply, val_main_v9_apply, ref_grad]
  rfl

theorem ref_square (c : Dev nD) (i : S2x704x1024.Idx) : val_main_v17 (F := Ideal) (a0 m c) (a1 m c) (a4 m c) i = newV (grad m c i) (a4 m c i) := by
  rw [val_main_v17_apply, val_main_v13_apply, val_main_v12_apply, val_main_v16_apply, val_main_v15_apply, val_main_v14_apply, ref_grad]
  rfl

theorem ref_step (c : Dev nD) (i : S2x704x1024.Idx) :
    val_main_v30 (F := Ideal) (a0 m c) (a1 m c) (a2 m c) (a3 m c) (a4 m c) i = step (newM (grad m c i) (a3 m c i)) (newV (grad m c i) (a4 m c i)) (a2 m c i) := by
  rw [← ref_mean, ← ref_square]
  simp only [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply]
  rfl

/-! ## The four results -/

theorem flushed5_eq (c : Dev nD) (t : Fin cfg0.N) :
    (dats m 0 c).flushed 5 t = ((cfg0.win 5).blk t).view.read (Elt Ideal) (val_main_v6 (F := Ideal) (a0 m c) (a1 m c)) := by
  have ht : t.val < 8 := t.isLt.trans_eq N_0
  obtain ⟨-, -, -, -, -, -, -, -, -, e0, e1, e2, -⟩ := idx_in t
  by_cases h0 : t.val < 4
  · rw [flushed5_A m c t h0 (by omega), out5_A]
    funext y
    have hy : (y 0).val < 1 := (y 0).isLt
    have i0 : (((cfg0.win 5).blk t).view.emb y 0).val = t.val / 4 := by show win0_5.index t (0 : Fin 3) * 1 + 1 * (y 0).val = _; rw [e0]; omega
    have i1 : (((cfg0.win 5).blk t).view.emb y 1).val = 176 * (t.val % 4) + (y 1).val := by show win0_5.index t (1 : Fin 3) * 176 + 1 * (y 1).val = _; rw [e1]; omega
    have i2 : (((cfg0.win 5).blk t).view.emb y 2).val = (y 2).val := by show win0_5.index t (2 : Fin 3) * 1024 + 1 * (y 2).val = _; rw [e2]; omega
    show (k0_pay6 (F := Ideal) (total (F := Ideal) (b0 m c t)) : S1x176x1024.Idx → EReal) y = val_main_v6 (F := Ideal) (a0 m c) (a1 m c) (((cfg0.win 5).blk t).view.emb y)
    exact (pay6_apply _ y).trans ((total_A m c t h0 y _ i0 i1 i2).trans (ref_grad m c _).symm)
  · rw [flushed5_B m c t h0 (by omega), out5_B]
    funext y
    have hy : (y 0).val < 1 := (y 0).isLt
    have i0 : (((cfg0.win 5).blk t).view.emb y 0).val = t.val / 4 := by show win0_5.index t (0 : Fin 3) * 1 + 1 * (y 0).val = _; rw [e0]; omega
    have i1 : (((cfg0.win 5).blk t).view.emb y 1).val = 176 * (t.val % 4) + (y 1).val := by show win0_5.index t (1 : Fin 3) * 176 + 1 * (y 1).val = _; rw [e1]; omega
    have i2 : (((cfg0.win 5).blk t).view.emb y 2).val = (y 2).val := by show win0_5.index t (2 : Fin 3) * 1024 + 1 * (y 2).val = _; rw [e2]; omega
    show (k0_pay6 (F := Ideal) (total (F := Ideal) (b1 m c t)) : S1x176x1024.Idx → EReal) y = val_main_v6 (F := Ideal) (a0 m c) (a1 m c) (((cfg0.win 5).blk t).view.emb y)
    exact (pay6_apply _ y).trans ((total_B m c t (by omega) y _ i0 i1 i2).trans (ref_grad m c _).symm)

theorem mem_blk5 (t : Fin cfg0.N) (i : S2x704x1024.Idx) :
    i ∈ ((cfg0.win 5).blk t).view.set ↔ ∀ a, win0_5.index t a * S1x176x1024.size a ≤ (i a).val ∧ (i a).val < win0_5.index t a * S1x176x1024.size a + S1x176x1024.size a := by
  show i ∈ ((View.whole main_v0_0).slice (win0_5.rect t)).set ↔ _
  rw [View.set_slice_whole, Rect.mem_set_unit]

theorem result5 (c : Dev nD) : (dats m 0 c).arrAt 5 cfg0.N = val_main_v6 (F := Ideal) (a0 m c) (a1 m c) :=
  (dats m 0 c).arrAt_eq_of_cover 5 (val_main_v6 (F := Ideal) (a0 m c) (a1 m c)) (fun t _ => flushed5_eq m c t) fun i => by
    have h0 : (i 0).val < 2 := (i 0).isLt
    have h1 : (i 1).val < 704 := (i 1).isLt
    have h2 : (i 2).val < 1024 := (i 2).isLt
    have ht : 4 * (i 0).val + (i 1).val / 176 < cfg0.N := lt_of_lt_of_eq (by omega) N_0.symm
    obtain ⟨-, -, -, -, -, -, -, -, -, e0, e1, e2, -, -, -, -, -, -, -, -, -, hf, -⟩ := idx_in ⟨4 * (i 0).val + (i 1).val / 176, ht⟩
    refine ⟨⟨4 * (i 0).val + (i 1).val / 176, ht⟩, hf, (mem_blk5 _ i).2 fun a => ?_⟩
    match a with
    | ⟨0, _⟩ =>
      show win0_5.index _ (0 : Fin 3) * 1 ≤ (i 0).val ∧ (i 0).val < win0_5.index _ (0 : Fin 3) * 1 + 1
      rw [e0]
      show ((4 * (i 0).val + (i 1).val / 176) / 4) * 1 ≤ (i 0).val ∧ (i 0).val < ((4 * (i 0).val + (i 1).val / 176) / 4) * 1 + 1
      omega
    | ⟨1, _⟩ =>
      show win0_5.index _ (1 : Fin 3) * 176 ≤ (i 1).val ∧ (i 1).val < win0_5.index _ (1 : Fin 3) * 176 + 176
      rw [e1]
      show ((4 * (i 0).val + (i 1).val / 176) % 4) * 176 ≤ (i 1).val ∧ (i 1).val < ((4 * (i 0).val + (i 1).val / 176) % 4) * 176 + 176
      omega
    | ⟨2, _⟩ =>
      show win0_5.index _ (2 : Fin 3) * 1024 ≤ (i 2).val ∧ (i 2).val < win0_5.index _ (2 : Fin 3) * 1024 + 1024
      rw [e2]
      show (0) * 1024 ≤ (i 2).val ∧ (i 2).val < (0) * 1024 + 1024
      omega

theorem flushed6_eq (c : Dev nD) (t : Fin cfg0.N) :
    (dats m 0 c).flushed 6 t = ((cfg0.win 6).blk t).view.read (Elt Ideal) (val_main_v30 (F := Ideal) (a0 m c) (a1 m c) (a2 m c) (a3 m c) (a4 m c)) := by
  have ht : t.val < 8 := t.isLt.trans_eq N_0
  obtain ⟨-, -, -, -, -, -, -, -, -, -, -, -, e0, e1, e2, -⟩ := idx_in t
  by_cases h0 : t.val < 4
  · rw [flushed6_A m c t h0 (by omega), out6_A]
    funext y
    have hy : (y 0).val < 1 := (y 0).isLt
    have i0 : (((cfg0.win 6).blk t).view.emb y 0).val = t.val / 4 := by show win0_6.index t (0 : Fin 3) * 1 + 1 * (y 0).val = _; rw [e0]; omega
    have i1 : (((cfg0.win 6).blk t).view.emb y 1).val = 176 * (t.val % 4) + (y 1).val := by show win0_6.index t (1 : Fin 3) * 176 + 1 * (y 1).val = _; rw [e1]; omega
    have i2 : (((cfg0.win 6).blk t).view.emb y 2).val = (y 2).val := by show win0_6.index t (2 : Fin 3) * 1024 + 1 * (y 2).val = _; rw [e2]; omega
    show (k0_pay9 (F := Ideal) (total (F := Ideal) (b0 m c t)) (b2 m c t) (b3 m c t) (b4 m c t) : S1x176x1024.Idx → EReal) y = val_main_v30 (F := Ideal) (a0 m c) (a1 m c) (a2 m c) (a3 m c) (a4 m c) (((cfg0.win 6).blk t).view.emb y)
    refine (pay9_apply _ _ _ _ y).trans ?_
    rw [ref_step, total_A m c t h0 y _ i0 i1 i2]
    exact congr (congrArg₂ step (congrArg (newM _) (blk3 m c t (ix3 (0 : Fin 1) (y 1) (y 2)) _ i0 i1 i2)) (congrArg (newV _) (blk4 m c t (ix3 (0 : Fin 1) (y 1) (y 2)) _ i0 i1 i2))) (blk2 m c t (ix3 (0 : Fin 1) (y 1) (y 2)) _ i0 i1 i2)
  · rw [flushed6_B m c t h0 (by omega), out6_B]
    funext y
    have hy : (y 0).val < 1 := (y 0).isLt
    have i0 : (((cfg0.win 6).blk t).view.emb y 0).val = t.val / 4 := by show win0_6.index t (0 : Fin 3) * 1 + 1 * (y 0).val = _; rw [e0]; omega
    have i1 : (((cfg0.win 6).blk t).view.emb y 1).val = 176 * (t.val % 4) + (y 1).val := by show win0_6.index t (1 : Fin 3) * 176 + 1 * (y 1).val = _; rw [e1]; omega
    have i2 : (((cfg0.win 6).blk t).view.emb y 2).val = (y 2).val := by show win0_6.index t (2 : Fin 3) * 1024 + 1 * (y 2).val = _; rw [e2]; omega
    show (k0_pay9 (F := Ideal) (total (F := Ideal) (b1 m c t)) (b2 m c t) (b3 m c t) (b4 m c t) : S1x176x1024.Idx → EReal) y = val_main_v30 (F := Ideal) (a0 m c) (a1 m c) (a2 m c) (a3 m c) (a4 m c) (((cfg0.win 6).blk t).view.emb y)
    refine (pay9_apply _ _ _ _ y).trans ?_
    rw [ref_step, total_B m c t (by omega) y _ i0 i1 i2]
    exact congr (congrArg₂ step (congrArg (newM _) (blk3 m c t (ix3 (0 : Fin 1) (y 1) (y 2)) _ i0 i1 i2)) (congrArg (newV _) (blk4 m c t (ix3 (0 : Fin 1) (y 1) (y 2)) _ i0 i1 i2))) (blk2 m c t (ix3 (0 : Fin 1) (y 1) (y 2)) _ i0 i1 i2)

theorem mem_blk6 (t : Fin cfg0.N) (i : S2x704x1024.Idx) :
    i ∈ ((cfg0.win 6).blk t).view.set ↔ ∀ a, win0_6.index t a * S1x176x1024.size a ≤ (i a).val ∧ (i a).val < win0_6.index t a * S1x176x1024.size a + S1x176x1024.size a := by
  show i ∈ ((View.whole main_v0_1).slice (win0_6.rect t)).set ↔ _
  rw [View.set_slice_whole, Rect.mem_set_unit]

theorem result6 (c : Dev nD) : (dats m 0 c).arrAt 6 cfg0.N = val_main_v30 (F := Ideal) (a0 m c) (a1 m c) (a2 m c) (a3 m c) (a4 m c) :=
  (dats m 0 c).arrAt_eq_of_cover 6 (val_main_v30 (F := Ideal) (a0 m c) (a1 m c) (a2 m c) (a3 m c) (a4 m c)) (fun t _ => flushed6_eq m c t) fun i => by
    have h0 : (i 0).val < 2 := (i 0).isLt
    have h1 : (i 1).val < 704 := (i 1).isLt
    have h2 : (i 2).val < 1024 := (i 2).isLt
    have ht : 4 * (i 0).val + (i 1).val / 176 < cfg0.N := lt_of_lt_of_eq (by omega) N_0.symm
    obtain ⟨-, -, -, -, -, -, -, -, -, -, -, -, e0, e1, e2, -, -, -, -, -, -, -, hf, -⟩ := idx_in ⟨4 * (i 0).val + (i 1).val / 176, ht⟩
    refine ⟨⟨4 * (i 0).val + (i 1).val / 176, ht⟩, hf, (mem_blk6 _ i).2 fun a => ?_⟩
    match a with
    | ⟨0, _⟩ =>
      show win0_6.index _ (0 : Fin 3) * 1 ≤ (i 0).val ∧ (i 0).val < win0_6.index _ (0 : Fin 3) * 1 + 1
      rw [e0]
      show ((4 * (i 0).val + (i 1).val / 176) / 4) * 1 ≤ (i 0).val ∧ (i 0).val < ((4 * (i 0).val + (i 1).val / 176) / 4) * 1 + 1
      omega
    | ⟨1, _⟩ =>
      show win0_6.index _ (1 : Fin 3) * 176 ≤ (i 1).val ∧ (i 1).val < win0_6.index _ (1 : Fin 3) * 176 + 176
      rw [e1]
      show ((4 * (i 0).val + (i 1).val / 176) % 4) * 176 ≤ (i 1).val ∧ (i 1).val < ((4 * (i 0).val + (i 1).val / 176) % 4) * 176 + 176
      omega
    | ⟨2, _⟩ =>
      show win0_6.index _ (2 : Fin 3) * 1024 ≤ (i 2).val ∧ (i 2).val < win0_6.index _ (2 : Fin 3) * 1024 + 1024
      rw [e2]
      show (0) * 1024 ≤ (i 2).val ∧ (i 2).val < (0) * 1024 + 1024
      omega

theorem flushed7_eq (c : Dev nD) (t : Fin cfg0.N) :
    (dats m 0 c).flushed 7 t = ((cfg0.win 7).blk t).view.read (Elt Ideal) (val_main_v11 (F := Ideal) (a0 m c) (a1 m c) (a3 m c)) := by
  have ht : t.val < 8 := t.isLt.trans_eq N_0
  obtain ⟨-, -, -, -, -, -, -, -, -, -, -, -, -, -, -, e0, e1, e2, -⟩ := idx_in t
  by_cases h0 : t.val < 4
  · rw [flushed7_A m c t h0 (by omega), out7_A]
    funext y
    have hy : (y 0).val < 1 := (y 0).isLt
    have i0 : (((cfg0.win 7).blk t).view.emb y 0).val = t.val / 4 := by show win0_7.index t (0 : Fin 3) * 1 + 1 * (y 0).val = _; rw [e0]; omega
    have i1 : (((cfg0.win 7).blk t).view.emb y 1).val = 176 * (t.val % 4) + (y 1).val := by show win0_7.index t (1 : Fin 3) * 176 + 1 * (y 1).val = _; rw [e1]; omega
    have i2 : (((cfg0.win 7).blk t).view.emb y 2).val = (y 2).val := by show win0_7.index t (2 : Fin 3) * 1024 + 1 * (y 2).val = _; rw [e2]; omega
    show shapeCast S1x176x1024 (k0_pay7 (F := Ideal) (total (F := Ideal) (b0 m c t)) (b3 m c t) : S176x1024.Idx → EReal) shapeCasts_S176x1024_S1x176x1024 y = val_main_v11 (F := Ideal) (a0 m c) (a1 m c) (a3 m c) (((cfg0.win 7).blk t).view.emb y)
    refine (cast_add _ shapeCasts_S176x1024_S1x176x1024 y).trans ((pay7_apply _ _ (y 1) (y 2)).trans ?_)
    rw [ref_mean]
    exact congrArg₂ newM (total_A m c t h0 y _ i0 i1 i2) (blk3 m c t (ix3 (0 : Fin 1) (y 1) (y 2)) _ i0 i1 i2)
  · rw [flushed7_B m c t h0 (by omega), out7_B]
    funext y
    have hy : (y 0).val < 1 := (y 0).isLt
    have i0 : (((cfg0.win 7).blk t).view.emb y 0).val = t.val / 4 := by show win0_7.index t (0 : Fin 3) * 1 + 1 * (y 0).val = _; rw [e0]; omega
    have i1 : (((cfg0.win 7).blk t).view.emb y 1).val = 176 * (t.val % 4) + (y 1).val := by show win0_7.index t (1 : Fin 3) * 176 + 1 * (y 1).val = _; rw [e1]; omega
    have i2 : (((cfg0.win 7).blk t).view.emb y 2).val = (y 2).val := by show win0_7.index t (2 : Fin 3) * 1024 + 1 * (y 2).val = _; rw [e2]; omega
    show shapeCast S1x176x1024 (k0_pay7 (F := Ideal) (total (F := Ideal) (b1 m c t)) (b3 m c t) : S176x1024.Idx → EReal) shapeCasts_S176x1024_S1x176x1024 y = val_main_v11 (F := Ideal) (a0 m c) (a1 m c) (a3 m c) (((cfg0.win 7).blk t).view.emb y)
    refine (cast_add _ shapeCasts_S176x1024_S1x176x1024 y).trans ((pay7_apply _ _ (y 1) (y 2)).trans ?_)
    rw [ref_mean]
    exact congrArg₂ newM (total_B m c t (by omega) y _ i0 i1 i2) (blk3 m c t (ix3 (0 : Fin 1) (y 1) (y 2)) _ i0 i1 i2)

theorem mem_blk7 (t : Fin cfg0.N) (i : S2x704x1024.Idx) :
    i ∈ ((cfg0.win 7).blk t).view.set ↔ ∀ a, win0_7.index t a * S1x176x1024.size a ≤ (i a).val ∧ (i a).val < win0_7.index t a * S1x176x1024.size a + S1x176x1024.size a := by
  show i ∈ ((View.whole main_v0_2).slice (win0_7.rect t)).set ↔ _
  rw [View.set_slice_whole, Rect.mem_set_unit]

theorem result7 (c : Dev nD) : (dats m 0 c).arrAt 7 cfg0.N = val_main_v11 (F := Ideal) (a0 m c) (a1 m c) (a3 m c) :=
  (dats m 0 c).arrAt_eq_of_cover 7 (val_main_v11 (F := Ideal) (a0 m c) (a1 m c) (a3 m c)) (fun t _ => flushed7_eq m c t) fun i => by
    have h0 : (i 0).val < 2 := (i 0).isLt
    have h1 : (i 1).val < 704 := (i 1).isLt
    have h2 : (i 2).val < 1024 := (i 2).isLt
    have ht : 4 * (i 0).val + (i 1).val / 176 < cfg0.N := lt_of_lt_of_eq (by omega) N_0.symm
    obtain ⟨-, -, -, -, -, -, -, -, -, -, -, -, -, -, -, e0, e1, e2, -, -, -, -, -, hf, -⟩ := idx_in ⟨4 * (i 0).val + (i 1).val / 176, ht⟩
    refine ⟨⟨4 * (i 0).val + (i 1).val / 176, ht⟩, hf, (mem_blk7 _ i).2 fun a => ?_⟩
    match a with
    | ⟨0, _⟩ =>
      show win0_7.index _ (0 : Fin 3) * 1 ≤ (i 0).val ∧ (i 0).val < win0_7.index _ (0 : Fin 3) * 1 + 1
      rw [e0]
      show ((4 * (i 0).val + (i 1).val / 176) / 4) * 1 ≤ (i 0).val ∧ (i 0).val < ((4 * (i 0).val + (i 1).val / 176) / 4) * 1 + 1
      omega
    | ⟨1, _⟩ =>
      show win0_7.index _ (1 : Fin 3) * 176 ≤ (i 1).val ∧ (i 1).val < win0_7.index _ (1 : Fin 3) * 176 + 176
      rw [e1]
      show ((4 * (i 0).val + (i 1).val / 176) % 4) * 176 ≤ (i 1).val ∧ (i 1).val < ((4 * (i 0).val + (i 1).val / 176) % 4) * 176 + 176
      omega
    | ⟨2, _⟩ =>
      show win0_7.index _ (2 : Fin 3) * 1024 ≤ (i 2).val ∧ (i 2).val < win0_7.index _ (2 : Fin 3) * 1024 + 1024
      rw [e2]
      show (0) * 1024 ≤ (i 2).val ∧ (i 2).val < (0) * 1024 + 1024
      omega

theorem flushed8_eq (c : Dev nD) (t : Fin cfg0.N) :
    (dats m 0 c).flushed 8 t = ((cfg0.win 8).blk t).view.read (Elt Ideal) (val_main_v17 (F := Ideal) (a0 m c) (a1 m c) (a4 m c)) := by
  have ht : t.val < 8 := t.isLt.trans_eq N_0
  obtain ⟨-, -, -, -, -, -, -, -, -, -, -, -, -, -, -, -, -, -, e0, e1, e2, -⟩ := idx_in t
  by_cases h0 : t.val < 4
  · rw [flushed8_A m c t h0 (by omega), out8_A]
    funext y
    have hy : (y 0).val < 1 := (y 0).isLt
    have i0 : (((cfg0.win 8).blk t).view.emb y 0).val = t.val / 4 := by show win0_8.index t (0 : Fin 3) * 1 + 1 * (y 0).val = _; rw [e0]; omega
    have i1 : (((cfg0.win 8).blk t).view.emb y 1).val = 176 * (t.val % 4) + (y 1).val := by show win0_8.index t (1 : Fin 3) * 176 + 1 * (y 1).val = _; rw [e1]; omega
    have i2 : (((cfg0.win 8).blk t).view.emb y 2).val = (y 2).val := by show win0_8.index t (2 : Fin 3) * 1024 + 1 * (y 2).val = _; rw [e2]; omega
    show shapeCast S1x176x1024 (k0_pay8 (F := Ideal) (total (F := Ideal) (b0 m c t)) (b4 m c t) : S176x1024.Idx → EReal) shapeCasts_S176x1024_S1x176x1024 y = val_main_v17 (F := Ideal) (a0 m c) (a1 m c) (a4 m c) (((cfg0.win 8).blk t).view.emb y)
    refine (cast_add _ shapeCasts_S176x1024_S1x176x1024 y).trans ((pay8_apply _ _ (y 1) (y 2)).trans ?_)
    rw [ref_square]
    exact congrArg₂ newV (total_A m c t h0 y _ i0 i1 i2) (blk4 m c t (ix3 (0 : Fin 1) (y 1) (y 2)) _ i0 i1 i2)
  · rw [flushed8_B m c t h0 (by omega), out8_B]
    funext y
    have hy : (y 0).val < 1 := (y 0).isLt
    have i0 : (((cfg0.win 8).blk t).view.emb y 0).val = t.val / 4 := by show win0_8.index t (0 : Fin 3) * 1 + 1 * (y 0).val = _; rw [e0]; omega
    have i1 : (((cfg0.win 8).blk t).view.emb y 1).val = 176 * (t.val % 4) + (y 1).val := by show win0_8.index t (1 : Fin 3) * 176 + 1 * (y 1).val = _; rw [e1]; omega
    have i2 : (((cfg0.win 8).blk t).view.emb y 2).val = (y 2).val := by show win0_8.index t (2 : Fin 3) * 1024 + 1 * (y 2).val = _; rw [e2]; omega
    show shapeCast S1x176x1024 (k0_pay8 (F := Ideal) (total (F := Ideal) (b1 m c t)) (b4 m c t) : S176x1024.Idx → EReal) shapeCasts_S176x1024_S1x176x1024 y = val_main_v17 (F := Ideal) (a0 m c) (a1 m c) (a4 m c) (((cfg0.win 8).blk t).view.emb y)
    refine (cast_add _ shapeCasts_S176x1024_S1x176x1024 y).trans ((pay8_apply _ _ (y 1) (y 2)).trans ?_)
    rw [ref_square]
    exact congrArg₂ newV (total_B m c t (by omega) y _ i0 i1 i2) (blk4 m c t (ix3 (0 : Fin 1) (y 1) (y 2)) _ i0 i1 i2)

theorem mem_blk8 (t : Fin cfg0.N) (i : S2x704x1024.Idx) :
    i ∈ ((cfg0.win 8).blk t).view.set ↔ ∀ a, win0_8.index t a * S1x176x1024.size a ≤ (i a).val ∧ (i a).val < win0_8.index t a * S1x176x1024.size a + S1x176x1024.size a := by
  show i ∈ ((View.whole main_v0_3).slice (win0_8.rect t)).set ↔ _
  rw [View.set_slice_whole, Rect.mem_set_unit]

theorem result8 (c : Dev nD) : (dats m 0 c).arrAt 8 cfg0.N = val_main_v17 (F := Ideal) (a0 m c) (a1 m c) (a4 m c) :=
  (dats m 0 c).arrAt_eq_of_cover 8 (val_main_v17 (F := Ideal) (a0 m c) (a1 m c) (a4 m c)) (fun t _ => flushed8_eq m c t) fun i => by
    have h0 : (i 0).val < 2 := (i 0).isLt
    have h1 : (i 1).val < 704 := (i 1).isLt
    have h2 : (i 2).val < 1024 := (i 2).isLt
    have ht : 4 * (i 0).val + (i 1).val / 176 < cfg0.N := lt_of_lt_of_eq (by omega) N_0.symm
    obtain ⟨-, -, -, -, -, -, -, -, -, -, -, -, -, -, -, -, -, -, e0, e1, e2, -, -, -, hf⟩ := idx_in ⟨4 * (i 0).val + (i 1).val / 176, ht⟩
    refine ⟨⟨4 * (i 0).val + (i 1).val / 176, ht⟩, hf, (mem_blk8 _ i).2 fun a => ?_⟩
    match a with
    | ⟨0, _⟩ =>
      show win0_8.index _ (0 : Fin 3) * 1 ≤ (i 0).val ∧ (i 0).val < win0_8.index _ (0 : Fin 3) * 1 + 1
      rw [e0]
      show ((4 * (i 0).val + (i 1).val / 176) / 4) * 1 ≤ (i 0).val ∧ (i 0).val < ((4 * (i 0).val + (i 1).val / 176) / 4) * 1 + 1
      omega
    | ⟨1, _⟩ =>
      show win0_8.index _ (1 : Fin 3) * 176 ≤ (i 1).val ∧ (i 1).val < win0_8.index _ (1 : Fin 3) * 176 + 176
      rw [e1]
      show ((4 * (i 0).val + (i 1).val / 176) % 4) * 176 ≤ (i 1).val ∧ (i 1).val < ((4 * (i 0).val + (i 1).val / 176) % 4) * 176 + 176
      omega
    | ⟨2, _⟩ =>
      show win0_8.index _ (2 : Fin 3) * 1024 ≤ (i 2).val ∧ (i 2).val < win0_8.index _ (2 : Fin 3) * 1024 + 1024
      rw [e2]
      show (0) * 1024 ≤ (i 2).val ∧ (i 2).val < (0) * 1024 + 1024
      omega

end Cert.SumAdamFfnIdeal.Sum
-- ==== Proof.SumAdamSquare.lean ====
/-
  The optimiser's step on the square matrices: the eight devices' gradient parts of both layers are summed and the weight's running
  means and step are made from the sum, a layer at a time.
-/
module

public import proofs.«01_k».proof.Proof.Adam
public import proofs.«01_k».proof.Proof.Gen.SumAdamSquareIdeal.Value
public import proofs.«01_k».proof.Proof.Gen.SumAdamSquareRefIdeal.Read
public import Idealize.ShloMosaic.Lib.Tactic
public import Idealize.ShloMosaic.Lib.Claim

@[expose] public section

set_option maxRecDepth 16384

noncomputable section

namespace Cert.SumAdamSquareIdeal.Sum

open Cert.Common Cert.Adam Cert.SumAdamSquareIdeal Cert.SumAdamSquareIdeal.Gen Cert.SumAdamSquareIdeal.Value Cert.SumAdamSquareRefIdeal.Read
open Idealize.ShloMosaic Idealize.ShloMosaic.TcCoe Idealize.ShloMosaic.ValueIdx Idealize.SL.Sem
open Idealize.ShloMosaic.Pipeline (Dat)

section Cases
variable {F : FTy → Type} [FloatOps F]

/-- The sum of the eight parts of a block. -/
def total (x : Vec F S8x256x1024 .bf16) : FVec F S256x1024 .f32 :=
  k0_pay5 (partOf 0 x) (partOf 1 x) (partOf 2 x) (partOf 3 x) (partOf 4 x) (partOf 5 x) (partOf 6 x) (partOf 7 x)

variable (c : Dev nD) (i : grid0.Coords) (q2 : Memref sig .tc .vmem S8x256x1024 .bf16) (h2 : q2.IsWhole) (q3 : Memref sig .tc .vmem S8x256x1024 .bf16) (h3 : q3.IsWhole) (q4 : Memref sig .tc .vmem S1x256x1024 .f32) (h4 : q4.IsWhole) (q5 : Memref sig .tc .vmem S1x256x1024 .f32) (h5 : q5.IsWhole) (q6 : Memref sig .tc .vmem S1x256x1024 .f32) (h6 : q6.IsWhole) (q7 : Memref sig .tc .vmem S1x256x1024 .f32) (h7 : q7.IsWhole) (q8 : Memref sig .tc .vmem S1x256x1024 .f32) (h8 : q8.IsWhole) (q9 : Memref sig .tc .vmem S1x256x1024 .f32) (h9 : q9.IsWhole) (q10 : Memref sig .tc .vmem S1x256x1024 .f32) (h10 : q10.IsWhole)
  (x0 x1 : Vec F S8x256x1024 .bf16) (x2 x3 x4 : Vec F S1x256x1024 .f32)

/-! ## What a grid point of either layer stores -/

theorem out5_A (hc0 : cond0_0 i) (hc1 : ¬cond0_1 i) :
    out0_A_5 c i q2 h2 q3 h3 q4 h4 q5 h5 q6 h6 q7 h7 q8 h8 q9 h9 q10 h10 hc0 hc1 x0 x1 x2 x3 x4 = k0_pay6 (total x0) := by
  unfold out0_A_5
  rw [View.read_writes_eq_canon _ _ _ (cover0_A_5 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out6_A (hc0 : cond0_0 i) (hc1 : ¬cond0_1 i) :
    out0_A_6 c i q2 h2 q3 h3 q4 h4 q5 h5 q6 h6 q7 h7 q8 h8 q9 h9 q10 h10 hc0 hc1 x0 x1 x2 x3 x4 = k0_pay9 (total x0) x2 x3 x4 := by
  unfold out0_A_6
  rw [View.read_writes_eq_canon _ _ _ (cover0_A_6 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out7_A (hc0 : cond0_0 i) (hc1 : ¬cond0_1 i) :
    out0_A_7 c i q2 h2 q3 h3 q4 h4 q5 h5 q6 h6 q7 h7 q8 h8 q9 h9 q10 h10 hc0 hc1 x0 x1 x2 x3 x4 = shapeCast S1x256x1024 (k0_pay7 (total x0) x3) shapeCasts_S256x1024_S1x256x1024 := by
  unfold out0_A_7
  rw [View.read_writes_eq_canon _ _ _ (cover0_A_7 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out8_A (hc0 : cond0_0 i) (hc1 : ¬cond0_1 i) :
    out0_A_8 c i q2 h2 q3 h3 q4 h4 q5 h5 q6 h6 q7 h7 q8 h8 q9 h9 q10 h10 hc0 hc1 x0 x1 x2 x3 x4 = shapeCast S1x256x1024 (k0_pay8 (total x0) x4) shapeCasts_S256x1024_S1x256x1024 := by
  unfold out0_A_8
  rw [View.read_writes_eq_canon _ _ _ (cover0_A_8 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out5_B (hc0 : ¬cond0_0 i) (hc1 : cond0_1 i) :
    out0_B_5 c i q2 h2 q3 h3 q4 h4 q5 h5 q6 h6 q7 h7 q8 h8 q9 h9 q10 h10 hc0 hc1 x0 x1 x2 x3 x4 = k0_pay6 (total x1) := by
  unfold out0_B_5
  rw [View.read_writes_eq_canon _ _ _ (cover0_B_5 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out6_B (hc0 : ¬cond0_0 i) (hc1 : cond0_1 i) :
    out0_B_6 c i q2 h2 q3 h3 q4 h4 q5 h5 q6 h6 q7 h7 q8 h8 q9 h9 q10 h10 hc0 hc1 x0 x1 x2 x3 x4 = k0_pay9 (total x1) x2 x3 x4 := by
  unfold out0_B_6
  rw [View.read_writes_eq_canon _ _ _ (cover0_B_6 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out7_B (hc0 : ¬cond0_0 i) (hc1 : cond0_1 i) :
    out0_B_7 c i q2 h2 q3 h3 q4 h4 q5 h5 q6 h6 q7 h7 q8 h8 q9 h9 q10 h10 hc0 hc1 x0 x1 x2 x3 x4 = shapeCast S1x256x1024 (k0_pay7 (total x1) x3) shapeCasts_S256x1024_S1x256x1024 := by
  unfold out0_B_7
  rw [View.read_writes_eq_canon _ _ _ (cover0_B_7 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out8_B (hc0 : ¬cond0_0 i) (hc1 : cond0_1 i) :
    out0_B_8 c i q2 h2 q3 h3 q4 h4 q5 h5 q6 h6 q7 h7 q8 h8 q9 h9 q10 h10 hc0 hc1 x0 x1 x2 x3 x4 = shapeCast S1x256x1024 (k0_pay8 (total x1) x4) shapeCasts_S256x1024_S1x256x1024 := by
  unfold out0_B_8
  rw [View.read_writes_eq_canon _ _ _ (cover0_B_8 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x256x1024) zero3]
  simp only [View.readAt_eq_ld, h2.read_unread, h3.read_unread, h4.read_unread, h5.read_unread, h6.read_unread, View.ld_unit_zero (S := S1x256x1024) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

end Cases

/-! ## The stored values at an index, over the extended reals -/

theorem total_apply (x : S8x256x1024.Idx → EReal) (r : Fin 256) (q : Fin 1024) : (total (F := Ideal) x : S256x1024.Idx → EReal) (ix2 r q) = ∑ k : Fin 8, x (ix3 k r q) := by
  have h : ∀ k : Fin 8, (shapeCast S256x1024 (partOf (Val := Elt Ideal) (e := .bf16) k x : S1x256x1024.Idx → EReal) shapeCasts_S1x256x1024_S256x1024 : S256x1024.Idx → EReal) (ix2 r q) = x (ix3 k r q) :=
    fun k => cast_drop (partOf (Val := Elt Ideal) (e := .bf16) k x : S1x256x1024.Idx → EReal) _ r q
  refine Eq.trans ?_ (sum_eight fun k => x (ix3 k r q))
  rw [← h 0, ← h 1, ← h 2, ← h 3, ← h 4, ← h 5, ← h 6, ← h 7]
  rfl

theorem pay6_apply (g : S256x1024.Idx → EReal) (y : S1x256x1024.Idx) : (k0_pay6 (F := Ideal) g : S1x256x1024.Idx → EReal) y = g (ix2 (y 1) (y 2)) :=
  cast_add g shapeCasts_S256x1024_S1x256x1024 y

theorem pay7_apply (g : S256x1024.Idx → EReal) (x : S1x256x1024.Idx → EReal) (r : Fin 256) (q : Fin 1024) :
    (k0_pay7 (F := Ideal) g x : S256x1024.Idx → EReal) (ix2 r q) = newM (g (ix2 r q)) (x (ix3 (0 : Fin 1) r q)) :=
  congrArg (fun z : EReal => newM (g (ix2 r q)) z) (cast_drop x shapeCasts_S1x256x1024_S256x1024 r q)

theorem pay8_apply (g : S256x1024.Idx → EReal) (x : S1x256x1024.Idx → EReal) (r : Fin 256) (q : Fin 1024) :
    (k0_pay8 (F := Ideal) g x : S256x1024.Idx → EReal) (ix2 r q) = newV (g (ix2 r q)) (x (ix3 (0 : Fin 1) r q)) :=
  congrArg (fun z : EReal => newV (g (ix2 r q)) z) (cast_drop x shapeCasts_S1x256x1024_S256x1024 r q)

theorem pay9_apply (g : S256x1024.Idx → EReal) (w x v : S1x256x1024.Idx → EReal) (y : S1x256x1024.Idx) :
    (k0_pay9 (F := Ideal) g w x v : S1x256x1024.Idx → EReal) y
      = step (newM (g (ix2 (y 1) (y 2))) (x (ix3 (0 : Fin 1) (y 1) (y 2)))) (newV (g (ix2 (y 1) (y 2))) (v (ix3 (0 : Fin 1) (y 1) (y 2)))) (w (ix3 (0 : Fin 1) (y 1) (y 2))) := by
  rw [← pay7_apply g x (y 1) (y 2), ← pay8_apply g v (y 1) (y 2), ← cast_drop w shapeCasts_S1x256x1024_S256x1024 (y 1) (y 2)]
  unfold k0_pay9
  exact (cast_add _ shapeCasts_S256x1024_S1x256x1024 y).trans rfl

/-! ## What each grid point reads -/

variable (m : (ℓ : Loc nD τ sig) → Buf (Elt Ideal) ℓ)

abbrev a0 (c : Dev nD) : S8x256x1024.Idx → EReal := m ((c : Thread nD τ).loc main_arg0)
abbrev a1 (c : Dev nD) : S8x256x1024.Idx → EReal := m ((c : Thread nD τ).loc main_arg1)
abbrev a2 (c : Dev nD) : S2x256x1024.Idx → EReal := m ((c : Thread nD τ).loc main_arg2)
abbrev a3 (c : Dev nD) : S2x256x1024.Idx → EReal := m ((c : Thread nD τ).loc main_arg3)
abbrev a4 (c : Dev nD) : S2x256x1024.Idx → EReal := m ((c : Thread nD τ).loc main_arg4)

/-- Where each window stands at grid point `t`. -/
theorem idx_in : ∀ t : Fin cfg0.N, win0_2.index t (0 : Fin 3) = t.val / 1
    ∧ win0_2.index t (1 : Fin 3) = t.val % 1
    ∧ win0_2.index t (2 : Fin 3) = 0
    ∧ win0_3.index t (0 : Fin 3) = t.val / 1
    ∧ win0_3.index t (1 : Fin 3) = t.val % 1
    ∧ win0_3.index t (2 : Fin 3) = 0
    ∧ win0_4.index t (0 : Fin 3) = t.val / 1
    ∧ win0_4.index t (1 : Fin 3) = t.val % 1
    ∧ win0_4.index t (2 : Fin 3) = 0
    ∧ win0_5.index t (0 : Fin 3) = t.val / 1
    ∧ win0_5.index t (1 : Fin 3) = t.val % 1
    ∧ win0_5.index t (2 : Fin 3) = 0
    ∧ win0_6.index t (0 : Fin 3) = t.val / 1
    ∧ win0_6.index t (1 : Fin 3) = t.val % 1
    ∧ win0_6.index t (2 : Fin 3) = 0
    ∧ win0_7.index t (0 : Fin 3) = t.val / 1
    ∧ win0_7.index t (1 : Fin 3) = t.val % 1
    ∧ win0_7.index t (2 : Fin 3) = 0
    ∧ win0_8.index t (0 : Fin 3) = t.val / 1
    ∧ win0_8.index t (1 : Fin 3) = t.val % 1
    ∧ win0_8.index t (2 : Fin 3) = 0
    ∧ win0_5.flush t = true
    ∧ win0_6.flush t = true
    ∧ win0_7.flush t = true
    ∧ win0_8.flush t = true :=
  (by decide +kernel : ∀ t : Fin grid0.N, _)

theorem idx_part0 : ∀ t : Fin cfg0.N, t.val % 2 = 0 → win0_0.index t (0 : Fin 3) = 0 ∧ win0_0.index t (1 : Fin 3) = t.val % 1 ∧ win0_0.index t (2 : Fin 3) = 0 :=
  (by decide +kernel : ∀ t : Fin grid0.N, _)

theorem idx_part1 : ∀ t : Fin cfg0.N, t.val % 2 = 1 → win0_1.index t (0 : Fin 3) = 0 ∧ win0_1.index t (1 : Fin 3) = t.val % 1 ∧ win0_1.index t (2 : Fin 3) = 0 :=
  (by decide +kernel : ∀ t : Fin grid0.N, _)

abbrev b0 (c : Dev nD) (t : Fin cfg0.N) : S8x256x1024.Idx → EReal := iblk m c 0 t

theorem blk0 (c : Dev nD) (t : Fin cfg0.N) (hc : t.val % 2 = 0) (y : S8x256x1024.Idx) (k : S8x256x1024.Idx) (h0 : (k 0).val = (y 0).val) (h1 : (k 1).val = 256 * (t.val % 1) + (y 1).val) (h2 : (k 2).val = (y 2).val) :
    b0 m c t y = a0 m c k := by
  obtain ⟨e0, e1, e2⟩ := idx_part0 t hc
  show V m c main_arg0 (((cfg0.win 0).blk t).view.emb y) = _
  entry_read
  refine congrArg (a0 m c) (funext fun a => Fin.ext ?_)
  match a with
  | ⟨0, _⟩ => show win0_0.index t (0 : Fin 3) * 8 + 1 * (y 0).val = (k 0).val; rw [h0, e0]; omega
  | ⟨1, _⟩ => show win0_0.index t (1 : Fin 3) * 256 + 1 * (y 1).val = (k 1).val; rw [h1, e1]; omega
  | ⟨2, _⟩ => show win0_0.index t (2 : Fin 3) * 1024 + 1 * (y 2).val = (k 2).val; rw [h2, e2]; omega

abbrev b1 (c : Dev nD) (t : Fin cfg0.N) : S8x256x1024.Idx → EReal := iblk m c 1 t

theorem blk1 (c : Dev nD) (t : Fin cfg0.N) (hc : t.val % 2 = 1) (y : S8x256x1024.Idx) (k : S8x256x1024.Idx) (h0 : (k 0).val = (y 0).val) (h1 : (k 1).val = 256 * (t.val % 1) + (y 1).val) (h2 : (k 2).val = (y 2).val) :
    b1 m c t y = a1 m c k := by
  obtain ⟨e0, e1, e2⟩ := idx_part1 t hc
  show V m c main_arg1 (((cfg0.win 1).blk t).view.emb y) = _
  entry_read
  refine congrArg (a1 m c) (funext fun a => Fin.ext ?_)
  match a with
  | ⟨0, _⟩ => show win0_1.index t (0 : Fin 3) * 8 + 1 * (y 0).val = (k 0).val; rw [h0, e0]; omega
  | ⟨1, _⟩ => show win0_1.index t (1 : Fin 3) * 256 + 1 * (y 1).val = (k 1).val; rw [h1, e1]; omega
  | ⟨2, _⟩ => show win0_1.index t (2 : Fin 3) * 1024 + 1 * (y 2).val = (k 2).val; rw [h2, e2]; omega

abbrev b2 (c : Dev nD) (t : Fin cfg0.N) : S1x256x1024.Idx → EReal := iblk m c 2 t

theorem blk2 (c : Dev nD) (t : Fin cfg0.N) (y : S1x256x1024.Idx) (k : S2x256x1024.Idx) (h0 : (k 0).val = t.val / 1) (h1 : (k 1).val = 256 * (t.val % 1) + (y 1).val) (h2 : (k 2).val = (y 2).val) :
    b2 m c t y = a2 m c k := by
  obtain ⟨e0, e1, e2, -⟩ := idx_in t
  have hy : (y 0).val < 1 := (y 0).isLt
  show V m c main_arg2 (((cfg0.win 2).blk t).view.emb y) = _
  entry_read
  refine congrArg (a2 m c) (funext fun a => Fin.ext ?_)
  match a with
  | ⟨0, _⟩ => show win0_2.index t (0 : Fin 3) * 1 + 1 * (y 0).val = (k 0).val; rw [h0, e0]; omega
  | ⟨1, _⟩ => show win0_2.index t (1 : Fin 3) * 256 + 1 * (y 1).val = (k 1).val; rw [h1, e1]; omega
  | ⟨2, _⟩ => show win0_2.index t (2 : Fin 3) * 1024 + 1 * (y 2).val = (k 2).val; rw [h2, e2]; omega

abbrev b3 (c : Dev nD) (t : Fin cfg0.N) : S1x256x1024.Idx → EReal := iblk m c 3 t

theorem blk3 (c : Dev nD) (t : Fin cfg0.N) (y : S1x256x1024.Idx) (k : S2x256x1024.Idx) (h0 : (k 0).val = t.val / 1) (h1 : (k 1).val = 256 * (t.val % 1) + (y 1).val) (h2 : (k 2).val = (y 2).val) :
    b3 m c t y = a3 m c k := by
  obtain ⟨-, -, -, e0, e1, e2, -⟩ := idx_in t
  have hy : (y 0).val < 1 := (y 0).isLt
  show V m c main_arg3 (((cfg0.win 3).blk t).view.emb y) = _
  entry_read
  refine congrArg (a3 m c) (funext fun a => Fin.ext ?_)
  match a with
  | ⟨0, _⟩ => show win0_3.index t (0 : Fin 3) * 1 + 1 * (y 0).val = (k 0).val; rw [h0, e0]; omega
  | ⟨1, _⟩ => show win0_3.index t (1 : Fin 3) * 256 + 1 * (y 1).val = (k 1).val; rw [h1, e1]; omega
  | ⟨2, _⟩ => show win0_3.index t (2 : Fin 3) * 1024 + 1 * (y 2).val = (k 2).val; rw [h2, e2]; omega

abbrev b4 (c : Dev nD) (t : Fin cfg0.N) : S1x256x1024.Idx → EReal := iblk m c 4 t

theorem blk4 (c : Dev nD) (t : Fin cfg0.N) (y : S1x256x1024.Idx) (k : S2x256x1024.Idx) (h0 : (k 0).val = t.val / 1) (h1 : (k 1).val = 256 * (t.val % 1) + (y 1).val) (h2 : (k 2).val = (y 2).val) :
    b4 m c t y = a4 m c k := by
  obtain ⟨-, -, -, -, -, -, e0, e1, e2, -⟩ := idx_in t
  have hy : (y 0).val < 1 := (y 0).isLt
  show V m c main_arg4 (((cfg0.win 4).blk t).view.emb y) = _
  entry_read
  refine congrArg (a4 m c) (funext fun a => Fin.ext ?_)
  match a with
  | ⟨0, _⟩ => show win0_4.index t (0 : Fin 3) * 1 + 1 * (y 0).val = (k 0).val; rw [h0, e0]; omega
  | ⟨1, _⟩ => show win0_4.index t (1 : Fin 3) * 256 + 1 * (y 1).val = (k 1).val; rw [h1, e1]; omega
  | ⟨2, _⟩ => show win0_4.index t (2 : Fin 3) * 1024 + 1 * (y 2).val = (k 2).val; rw [h2, e2]; omega

/-- The gradient: the sum over the devices of the layer's parts. -/
def grad (c : Dev nD) (i : S2x256x1024.Idx) : EReal :=
  if (i 0).val = 0 then ∑ k : Fin 8, a0 m c (ix3 (n0 := 8) (n1 := 256) (n2 := 1024) k (i 1) (i 2)) else ∑ k : Fin 8, a1 m c (ix3 (n0 := 8) (n1 := 256) (n2 := 1024) k (i 1) (i 2))

theorem total_A (c : Dev nD) (t : Fin cfg0.N) (hc : t.val % 2 = 0) (y : S1x256x1024.Idx) (i : S2x256x1024.Idx) (h0 : (i 0).val = t.val / 1) (h1 : (i 1).val = 256 * (t.val % 1) + (y 1).val) (h2 : (i 2).val = (y 2).val) :
    (total (F := Ideal) (b0 m c t) : S256x1024.Idx → EReal) (ix2 (y 1) (y 2)) = grad m c i := by
  have hl : (i 0).val < 2 := (i 0).isLt
  rw [grad, if_pos (by omega)]
  exact (total_apply (b0 m c t) (y 1) (y 2)).trans (Finset.sum_congr rfl fun k _ => blk0 m c t hc (ix3 k (y 1) (y 2)) (ix3 (n0 := 8) (n1 := 256) (n2 := 1024) k (i 1) (i 2)) rfl h1 h2)

theorem total_B (c : Dev nD) (t : Fin cfg0.N) (hc : t.val % 2 = 1) (y : S1x256x1024.Idx) (i : S2x256x1024.Idx) (h0 : (i 0).val = t.val / 1) (h1 : (i 1).val = 256 * (t.val % 1) + (y 1).val) (h2 : (i 2).val = (y 2).val) :
    (total (F := Ideal) (b1 m c t) : S256x1024.Idx → EReal) (ix2 (y 1) (y 2)) = grad m c i := by
  have hl : (i 0).val < 2 := (i 0).isLt
  have ht : t.val < 2 := t.isLt.trans_eq N_0
  rw [grad, if_neg (by omega)]
  exact (total_apply (b1 m c t) (y 1) (y 2)).trans (Finset.sum_congr rfl fun k _ => blk1 m c t hc (ix3 k (y 1) (y 2)) (ix3 (n0 := 8) (n1 := 256) (n2 := 1024) k (i 1) (i 2)) rfl h1 h2)

/-! ## The reference -/

theorem ref_grad (c : Dev nD) (i : S2x256x1024.Idx) : val_main_v6 (F := Ideal) (a0 m c) (a1 m c) i = grad m c i := by
  have hl : (i 0).val < 2 := (i 0).isLt
  unfold val_main_v6 grad
  by_cases h : (i 0).val = 0
  · rw [if_pos h]
    refine (concatenate_apply_piece (t := SumAdamSquareRefIdeal.S2x256x1024) 0 _ _ i 0 (by show 0 < 2; decide) SumAdamSquareRefIdeal.S1x256x1024 (val_main_v4 (F := Ideal) (a0 m c)) rfl rfl 0 rfl
      (ix3 (n0 := 1) (n1 := 256) (n2 := 1024) 0 (i 1) (i 2)) (fun b hb => ?_) (by show 0 + 0 = (i 0).val; omega)).trans ?_
    · match b with
      | ⟨0, _⟩ => exact absurd rfl hb
      | ⟨1, _⟩ => rfl
      | ⟨2, _⟩ => rfl
    · rw [val_main_v4_apply, val_main_v1_apply]
      refine (congrArg (fun z : EReal => z + _) Ideal.ofBits_zero_f32).trans ((zero_add _).trans (Finset.sum_congr rfl fun k _ => congrArg (a0 m c) (funext fun b => Fin.ext ?_)))
      match b with
      | ⟨0, _⟩ => rfl
      | ⟨1, _⟩ => rfl
      | ⟨2, _⟩ => rfl
  · rw [if_neg h]
    refine (concatenate_apply_piece (t := SumAdamSquareRefIdeal.S2x256x1024) 0 _ _ i 1 (by show 1 < 2; decide) SumAdamSquareRefIdeal.S1x256x1024 (val_main_v5 (F := Ideal) (a1 m c)) rfl rfl 1 rfl
      (ix3 (n0 := 1) (n1 := 256) (n2 := 1024) 0 (i 1) (i 2)) (fun b hb => ?_) (by show 1 + 0 = (i 0).val; omega)).trans ?_
    · match b with
      | ⟨0, _⟩ => exact absurd rfl hb
      | ⟨1, _⟩ => rfl
      | ⟨2, _⟩ => rfl
    · rw [val_main_v5_apply, val_main_v3_apply]
      refine (congrArg (fun z : EReal => z + _) Ideal.ofBits_zero_f32).trans ((zero_add _).trans (Finset.sum_congr rfl fun k _ => congrArg (a1 m c) (funext fun b => Fin.ext ?_)))
      match b with
      | ⟨0, _⟩ => rfl
      | ⟨1, _⟩ => rfl
      | ⟨2, _⟩ => rfl

theorem ref_mean (c : Dev nD) (i : S2x256x1024.Idx) : val_main_v11 (F := Ideal) (a0 m c) (a1 m c) (a3 m c) i = newM (grad m c i) (a3 m c i) := by
  rw [val_main_v11_apply, val_main_v8_apply, val_main_v7_apply, val_main_v10_apply, val_main_v9_apply, ref_grad]
  rfl

theorem ref_square (c : Dev nD) (i : S2x256x1024.Idx) : val_main_v17 (F := Ideal) (a0 m c) (a1 m c) (a4 m c) i = newV (grad m c i) (a4 m c i) := by
  rw [val_main_v17_apply, val_main_v13_apply, val_main_v12_apply, val_main_v16_apply, val_main_v15_apply, val_main_v14_apply, ref_grad]
  rfl

theorem ref_step (c : Dev nD) (i : S2x256x1024.Idx) :
    val_main_v30 (F := Ideal) (a0 m c) (a1 m c) (a2 m c) (a3 m c) (a4 m c) i = step (newM (grad m c i) (a3 m c i)) (newV (grad m c i) (a4 m c i)) (a2 m c i) := by
  rw [← ref_mean, ← ref_square]
  simp only [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply]
  rfl

/-! ## The four results -/

theorem flushed5_eq (c : Dev nD) (t : Fin cfg0.N) :
    (dats m 0 c).flushed 5 t = ((cfg0.win 5).blk t).view.read (Elt Ideal) (val_main_v6 (F := Ideal) (a0 m c) (a1 m c)) := by
  have ht : t.val < 2 := t.isLt.trans_eq N_0
  obtain ⟨-, -, -, -, -, -, -, -, -, e0, e1, e2, -⟩ := idx_in t
  by_cases h0 : t.val % 2 = 0
  · rw [flushed5_A m c t h0 (by omega), out5_A]
    funext y
    have hy : (y 0).val < 1 := (y 0).isLt
    have i0 : (((cfg0.win 5).blk t).view.emb y 0).val = t.val / 1 := by show win0_5.index t (0 : Fin 3) * 1 + 1 * (y 0).val = _; rw [e0]; omega
    have i1 : (((cfg0.win 5).blk t).view.emb y 1).val = 256 * (t.val % 1) + (y 1).val := by show win0_5.index t (1 : Fin 3) * 256 + 1 * (y 1).val = _; rw [e1]; omega
    have i2 : (((cfg0.win 5).blk t).view.emb y 2).val = (y 2).val := by show win0_5.index t (2 : Fin 3) * 1024 + 1 * (y 2).val = _; rw [e2]; omega
    show (k0_pay6 (F := Ideal) (total (F := Ideal) (b0 m c t)) : S1x256x1024.Idx → EReal) y = val_main_v6 (F := Ideal) (a0 m c) (a1 m c) (((cfg0.win 5).blk t).view.emb y)
    exact (pay6_apply _ y).trans ((total_A m c t h0 y _ i0 i1 i2).trans (ref_grad m c _).symm)
  · rw [flushed5_B m c t h0 (by omega), out5_B]
    funext y
    have hy : (y 0).val < 1 := (y 0).isLt
    have i0 : (((cfg0.win 5).blk t).view.emb y 0).val = t.val / 1 := by show win0_5.index t (0 : Fin 3) * 1 + 1 * (y 0).val = _; rw [e0]; omega
    have i1 : (((cfg0.win 5).blk t).view.emb y 1).val = 256 * (t.val % 1) + (y 1).val := by show win0_5.index t (1 : Fin 3) * 256 + 1 * (y 1).val = _; rw [e1]; omega
    have i2 : (((cfg0.win 5).blk t).view.emb y 2).val = (y 2).val := by show win0_5.index t (2 : Fin 3) * 1024 + 1 * (y 2).val = _; rw [e2]; omega
    show (k0_pay6 (F := Ideal) (total (F := Ideal) (b1 m c t)) : S1x256x1024.Idx → EReal) y = val_main_v6 (F := Ideal) (a0 m c) (a1 m c) (((cfg0.win 5).blk t).view.emb y)
    exact (pay6_apply _ y).trans ((total_B m c t (by omega) y _ i0 i1 i2).trans (ref_grad m c _).symm)

theorem mem_blk5 (t : Fin cfg0.N) (i : S2x256x1024.Idx) :
    i ∈ ((cfg0.win 5).blk t).view.set ↔ ∀ a, win0_5.index t a * S1x256x1024.size a ≤ (i a).val ∧ (i a).val < win0_5.index t a * S1x256x1024.size a + S1x256x1024.size a := by
  show i ∈ ((View.whole main_v0_0).slice (win0_5.rect t)).set ↔ _
  rw [View.set_slice_whole, Rect.mem_set_unit]

theorem result5 (c : Dev nD) : (dats m 0 c).arrAt 5 cfg0.N = val_main_v6 (F := Ideal) (a0 m c) (a1 m c) :=
  (dats m 0 c).arrAt_eq_of_cover 5 (val_main_v6 (F := Ideal) (a0 m c) (a1 m c)) (fun t _ => flushed5_eq m c t) fun i => by
    have h0 : (i 0).val < 2 := (i 0).isLt
    have h1 : (i 1).val < 256 := (i 1).isLt
    have h2 : (i 2).val < 1024 := (i 2).isLt
    have ht : 1 * (i 0).val + (i 1).val / 256 < cfg0.N := lt_of_lt_of_eq (by omega) N_0.symm
    obtain ⟨-, -, -, -, -, -, -, -, -, e0, e1, e2, -, -, -, -, -, -, -, -, -, hf, -⟩ := idx_in ⟨1 * (i 0).val + (i 1).val / 256, ht⟩
    refine ⟨⟨1 * (i 0).val + (i 1).val / 256, ht⟩, hf, (mem_blk5 _ i).2 fun a => ?_⟩
    match a with
    | ⟨0, _⟩ =>
      show win0_5.index _ (0 : Fin 3) * 1 ≤ (i 0).val ∧ (i 0).val < win0_5.index _ (0 : Fin 3) * 1 + 1
      rw [e0]
      show ((1 * (i 0).val + (i 1).val / 256) / 1) * 1 ≤ (i 0).val ∧ (i 0).val < ((1 * (i 0).val + (i 1).val / 256) / 1) * 1 + 1
      omega
    | ⟨1, _⟩ =>
      show win0_5.index _ (1 : Fin 3) * 256 ≤ (i 1).val ∧ (i 1).val < win0_5.index _ (1 : Fin 3) * 256 + 256
      rw [e1]
      show ((1 * (i 0).val + (i 1).val / 256) % 1) * 256 ≤ (i 1).val ∧ (i 1).val < ((1 * (i 0).val + (i 1).val / 256) % 1) * 256 + 256
      omega
    | ⟨2, _⟩ =>
      show win0_5.index _ (2 : Fin 3) * 1024 ≤ (i 2).val ∧ (i 2).val < win0_5.index _ (2 : Fin 3) * 1024 + 1024
      rw [e2]
      show (0) * 1024 ≤ (i 2).val ∧ (i 2).val < (0) * 1024 + 1024
      omega

theorem flushed6_eq (c : Dev nD) (t : Fin cfg0.N) :
    (dats m 0 c).flushed 6 t = ((cfg0.win 6).blk t).view.read (Elt Ideal) (val_main_v30 (F := Ideal) (a0 m c) (a1 m c) (a2 m c) (a3 m c) (a4 m c)) := by
  have ht : t.val < 2 := t.isLt.trans_eq N_0
  obtain ⟨-, -, -, -, -, -, -, -, -, -, -, -, e0, e1, e2, -⟩ := idx_in t
  by_cases h0 : t.val % 2 = 0
  · rw [flushed6_A m c t h0 (by omega), out6_A]
    funext y
    have hy : (y 0).val < 1 := (y 0).isLt
    have i0 : (((cfg0.win 6).blk t).view.emb y 0).val = t.val / 1 := by show win0_6.index t (0 : Fin 3) * 1 + 1 * (y 0).val = _; rw [e0]; omega
    have i1 : (((cfg0.win 6).blk t).view.emb y 1).val = 256 * (t.val % 1) + (y 1).val := by show win0_6.index t (1 : Fin 3) * 256 + 1 * (y 1).val = _; rw [e1]; omega
    have i2 : (((cfg0.win 6).blk t).view.emb y 2).val = (y 2).val := by show win0_6.index t (2 : Fin 3) * 1024 + 1 * (y 2).val = _; rw [e2]; omega
    show (k0_pay9 (F := Ideal) (total (F := Ideal) (b0 m c t)) (b2 m c t) (b3 m c t) (b4 m c t) : S1x256x1024.Idx → EReal) y = val_main_v30 (F := Ideal) (a0 m c) (a1 m c) (a2 m c) (a3 m c) (a4 m c) (((cfg0.win 6).blk t).view.emb y)
    refine (pay9_apply _ _ _ _ y).trans ?_
    rw [ref_step, total_A m c t h0 y _ i0 i1 i2]
    exact congr (congrArg₂ step (congrArg (newM _) (blk3 m c t (ix3 (0 : Fin 1) (y 1) (y 2)) _ i0 i1 i2)) (congrArg (newV _) (blk4 m c t (ix3 (0 : Fin 1) (y 1) (y 2)) _ i0 i1 i2))) (blk2 m c t (ix3 (0 : Fin 1) (y 1) (y 2)) _ i0 i1 i2)
  · rw [flushed6_B m c t h0 (by omega), out6_B]
    funext y
    have hy : (y 0).val < 1 := (y 0).isLt
    have i0 : (((cfg0.win 6).blk t).view.emb y 0).val = t.val / 1 := by show win0_6.index t (0 : Fin 3) * 1 + 1 * (y 0).val = _; rw [e0]; omega
    have i1 : (((cfg0.win 6).blk t).view.emb y 1).val = 256 * (t.val % 1) + (y 1).val := by show win0_6.index t (1 : Fin 3) * 256 + 1 * (y 1).val = _; rw [e1]; omega
    have i2 : (((cfg0.win 6).blk t).view.emb y 2).val = (y 2).val := by show win0_6.index t (2 : Fin 3) * 1024 + 1 * (y 2).val = _; rw [e2]; omega
    show (k0_pay9 (F := Ideal) (total (F := Ideal) (b1 m c t)) (b2 m c t) (b3 m c t) (b4 m c t) : S1x256x1024.Idx → EReal) y = val_main_v30 (F := Ideal) (a0 m c) (a1 m c) (a2 m c) (a3 m c) (a4 m c) (((cfg0.win 6).blk t).view.emb y)
    refine (pay9_apply _ _ _ _ y).trans ?_
    rw [ref_step, total_B m c t (by omega) y _ i0 i1 i2]
    exact congr (congrArg₂ step (congrArg (newM _) (blk3 m c t (ix3 (0 : Fin 1) (y 1) (y 2)) _ i0 i1 i2)) (congrArg (newV _) (blk4 m c t (ix3 (0 : Fin 1) (y 1) (y 2)) _ i0 i1 i2))) (blk2 m c t (ix3 (0 : Fin 1) (y 1) (y 2)) _ i0 i1 i2)

theorem mem_blk6 (t : Fin cfg0.N) (i : S2x256x1024.Idx) :
    i ∈ ((cfg0.win 6).blk t).view.set ↔ ∀ a, win0_6.index t a * S1x256x1024.size a ≤ (i a).val ∧ (i a).val < win0_6.index t a * S1x256x1024.size a + S1x256x1024.size a := by
  show i ∈ ((View.whole main_v0_1).slice (win0_6.rect t)).set ↔ _
  rw [View.set_slice_whole, Rect.mem_set_unit]

theorem result6 (c : Dev nD) : (dats m 0 c).arrAt 6 cfg0.N = val_main_v30 (F := Ideal) (a0 m c) (a1 m c) (a2 m c) (a3 m c) (a4 m c) :=
  (dats m 0 c).arrAt_eq_of_cover 6 (val_main_v30 (F := Ideal) (a0 m c) (a1 m c) (a2 m c) (a3 m c) (a4 m c)) (fun t _ => flushed6_eq m c t) fun i => by
    have h0 : (i 0).val < 2 := (i 0).isLt
    have h1 : (i 1).val < 256 := (i 1).isLt
    have h2 : (i 2).val < 1024 := (i 2).isLt
    have ht : 1 * (i 0).val + (i 1).val / 256 < cfg0.N := lt_of_lt_of_eq (by omega) N_0.symm
    obtain ⟨-, -, -, -, -, -, -, -, -, -, -, -, e0, e1, e2, -, -, -, -, -, -, -, hf, -⟩ := idx_in ⟨1 * (i 0).val + (i 1).val / 256, ht⟩
    refine ⟨⟨1 * (i 0).val + (i 1).val / 256, ht⟩, hf, (mem_blk6 _ i).2 fun a => ?_⟩
    match a with
    | ⟨0, _⟩ =>
      show win0_6.index _ (0 : Fin 3) * 1 ≤ (i 0).val ∧ (i 0).val < win0_6.index _ (0 : Fin 3) * 1 + 1
      rw [e0]
      show ((1 * (i 0).val + (i 1).val / 256) / 1) * 1 ≤ (i 0).val ∧ (i 0).val < ((1 * (i 0).val + (i 1).val / 256) / 1) * 1 + 1
      omega
    | ⟨1, _⟩ =>
      show win0_6.index _ (1 : Fin 3) * 256 ≤ (i 1).val ∧ (i 1).val < win0_6.index _ (1 : Fin 3) * 256 + 256
      rw [e1]
      show ((1 * (i 0).val + (i 1).val / 256) % 1) * 256 ≤ (i 1).val ∧ (i 1).val < ((1 * (i 0).val + (i 1).val / 256) % 1) * 256 + 256
      omega
    | ⟨2, _⟩ =>
      show win0_6.index _ (2 : Fin 3) * 1024 ≤ (i 2).val ∧ (i 2).val < win0_6.index _ (2 : Fin 3) * 1024 + 1024
      rw [e2]
      show (0) * 1024 ≤ (i 2).val ∧ (i 2).val < (0) * 1024 + 1024
      omega

theorem flushed7_eq (c : Dev nD) (t : Fin cfg0.N) :
    (dats m 0 c).flushed 7 t = ((cfg0.win 7).blk t).view.read (Elt Ideal) (val_main_v11 (F := Ideal) (a0 m c) (a1 m c) (a3 m c)) := by
  have ht : t.val < 2 := t.isLt.trans_eq N_0
  obtain ⟨-, -, -, -, -, -, -, -, -, -, -, -, -, -, -, e0, e1, e2, -⟩ := idx_in t
  by_cases h0 : t.val % 2 = 0
  · rw [flushed7_A m c t h0 (by omega), out7_A]
    funext y
    have hy : (y 0).val < 1 := (y 0).isLt
    have i0 : (((cfg0.win 7).blk t).view.emb y 0).val = t.val / 1 := by show win0_7.index t (0 : Fin 3) * 1 + 1 * (y 0).val = _; rw [e0]; omega
    have i1 : (((cfg0.win 7).blk t).view.emb y 1).val = 256 * (t.val % 1) + (y 1).val := by show win0_7.index t (1 : Fin 3) * 256 + 1 * (y 1).val = _; rw [e1]; omega
    have i2 : (((cfg0.win 7).blk t).view.emb y 2).val = (y 2).val := by show win0_7.index t (2 : Fin 3) * 1024 + 1 * (y 2).val = _; rw [e2]; omega
    show shapeCast S1x256x1024 (k0_pay7 (F := Ideal) (total (F := Ideal) (b0 m c t)) (b3 m c t) : S256x1024.Idx → EReal) shapeCasts_S256x1024_S1x256x1024 y = val_main_v11 (F := Ideal) (a0 m c) (a1 m c) (a3 m c) (((cfg0.win 7).blk t).view.emb y)
    refine (cast_add _ shapeCasts_S256x1024_S1x256x1024 y).trans ((pay7_apply _ _ (y 1) (y 2)).trans ?_)
    rw [ref_mean]
    exact congrArg₂ newM (total_A m c t h0 y _ i0 i1 i2) (blk3 m c t (ix3 (0 : Fin 1) (y 1) (y 2)) _ i0 i1 i2)
  · rw [flushed7_B m c t h0 (by omega), out7_B]
    funext y
    have hy : (y 0).val < 1 := (y 0).isLt
    have i0 : (((cfg0.win 7).blk t).view.emb y 0).val = t.val / 1 := by show win0_7.index t (0 : Fin 3) * 1 + 1 * (y 0).val = _; rw [e0]; omega
    have i1 : (((cfg0.win 7).blk t).view.emb y 1).val = 256 * (t.val % 1) + (y 1).val := by show win0_7.index t (1 : Fin 3) * 256 + 1 * (y 1).val = _; rw [e1]; omega
    have i2 : (((cfg0.win 7).blk t).view.emb y 2).val = (y 2).val := by show win0_7.index t (2 : Fin 3) * 1024 + 1 * (y 2).val = _; rw [e2]; omega
    show shapeCast S1x256x1024 (k0_pay7 (F := Ideal) (total (F := Ideal) (b1 m c t)) (b3 m c t) : S256x1024.Idx → EReal) shapeCasts_S256x1024_S1x256x1024 y = val_main_v11 (F := Ideal) (a0 m c) (a1 m c) (a3 m c) (((cfg0.win 7).blk t).view.emb y)
    refine (cast_add _ shapeCasts_S256x1024_S1x256x1024 y).trans ((pay7_apply _ _ (y 1) (y 2)).trans ?_)
    rw [ref_mean]
    exact congrArg₂ newM (total_B m c t (by omega) y _ i0 i1 i2) (blk3 m c t (ix3 (0 : Fin 1) (y 1) (y 2)) _ i0 i1 i2)

theorem mem_blk7 (t : Fin cfg0.N) (i : S2x256x1024.Idx) :
    i ∈ ((cfg0.win 7).blk t).view.set ↔ ∀ a, win0_7.index t a * S1x256x1024.size a ≤ (i a).val ∧ (i a).val < win0_7.index t a * S1x256x1024.size a + S1x256x1024.size a := by
  show i ∈ ((View.whole main_v0_2).slice (win0_7.rect t)).set ↔ _
  rw [View.set_slice_whole, Rect.mem_set_unit]

theorem result7 (c : Dev nD) : (dats m 0 c).arrAt 7 cfg0.N = val_main_v11 (F := Ideal) (a0 m c) (a1 m c) (a3 m c) :=
  (dats m 0 c).arrAt_eq_of_cover 7 (val_main_v11 (F := Ideal) (a0 m c) (a1 m c) (a3 m c)) (fun t _ => flushed7_eq m c t) fun i => by
    have h0 : (i 0).val < 2 := (i 0).isLt
    have h1 : (i 1).val < 256 := (i 1).isLt
    have h2 : (i 2).val < 1024 := (i 2).isLt
    have ht : 1 * (i 0).val + (i 1).val / 256 < cfg0.N := lt_of_lt_of_eq (by omega) N_0.symm
    obtain ⟨-, -, -, -, -, -, -, -, -, -, -, -, -, -, -, e0, e1, e2, -, -, -, -, -, hf, -⟩ := idx_in ⟨1 * (i 0).val + (i 1).val / 256, ht⟩
    refine ⟨⟨1 * (i 0).val + (i 1).val / 256, ht⟩, hf, (mem_blk7 _ i).2 fun a => ?_⟩
    match a with
    | ⟨0, _⟩ =>
      show win0_7.index _ (0 : Fin 3) * 1 ≤ (i 0).val ∧ (i 0).val < win0_7.index _ (0 : Fin 3) * 1 + 1
      rw [e0]
      show ((1 * (i 0).val + (i 1).val / 256) / 1) * 1 ≤ (i 0).val ∧ (i 0).val < ((1 * (i 0).val + (i 1).val / 256) / 1) * 1 + 1
      omega
    | ⟨1, _⟩ =>
      show win0_7.index _ (1 : Fin 3) * 256 ≤ (i 1).val ∧ (i 1).val < win0_7.index _ (1 : Fin 3) * 256 + 256
      rw [e1]
      show ((1 * (i 0).val + (i 1).val / 256) % 1) * 256 ≤ (i 1).val ∧ (i 1).val < ((1 * (i 0).val + (i 1).val / 256) % 1) * 256 + 256
      omega
    | ⟨2, _⟩ =>
      show win0_7.index _ (2 : Fin 3) * 1024 ≤ (i 2).val ∧ (i 2).val < win0_7.index _ (2 : Fin 3) * 1024 + 1024
      rw [e2]
      show (0) * 1024 ≤ (i 2).val ∧ (i 2).val < (0) * 1024 + 1024
      omega

theorem flushed8_eq (c : Dev nD) (t : Fin cfg0.N) :
    (dats m 0 c).flushed 8 t = ((cfg0.win 8).blk t).view.read (Elt Ideal) (val_main_v17 (F := Ideal) (a0 m c) (a1 m c) (a4 m c)) := by
  have ht : t.val < 2 := t.isLt.trans_eq N_0
  obtain ⟨-, -, -, -, -, -, -, -, -, -, -, -, -, -, -, -, -, -, e0, e1, e2, -⟩ := idx_in t
  by_cases h0 : t.val % 2 = 0
  · rw [flushed8_A m c t h0 (by omega), out8_A]
    funext y
    have hy : (y 0).val < 1 := (y 0).isLt
    have i0 : (((cfg0.win 8).blk t).view.emb y 0).val = t.val / 1 := by show win0_8.index t (0 : Fin 3) * 1 + 1 * (y 0).val = _; rw [e0]; omega
    have i1 : (((cfg0.win 8).blk t).view.emb y 1).val = 256 * (t.val % 1) + (y 1).val := by show win0_8.index t (1 : Fin 3) * 256 + 1 * (y 1).val = _; rw [e1]; omega
    have i2 : (((cfg0.win 8).blk t).view.emb y 2).val = (y 2).val := by show win0_8.index t (2 : Fin 3) * 1024 + 1 * (y 2).val = _; rw [e2]; omega
    show shapeCast S1x256x1024 (k0_pay8 (F := Ideal) (total (F := Ideal) (b0 m c t)) (b4 m c t) : S256x1024.Idx → EReal) shapeCasts_S256x1024_S1x256x1024 y = val_main_v17 (F := Ideal) (a0 m c) (a1 m c) (a4 m c) (((cfg0.win 8).blk t).view.emb y)
    refine (cast_add _ shapeCasts_S256x1024_S1x256x1024 y).trans ((pay8_apply _ _ (y 1) (y 2)).trans ?_)
    rw [ref_square]
    exact congrArg₂ newV (total_A m c t h0 y _ i0 i1 i2) (blk4 m c t (ix3 (0 : Fin 1) (y 1) (y 2)) _ i0 i1 i2)
  · rw [flushed8_B m c t h0 (by omega), out8_B]
    funext y
    have hy : (y 0).val < 1 := (y 0).isLt
    have i0 : (((cfg0.win 8).blk t).view.emb y 0).val = t.val / 1 := by show win0_8.index t (0 : Fin 3) * 1 + 1 * (y 0).val = _; rw [e0]; omega
    have i1 : (((cfg0.win 8).blk t).view.emb y 1).val = 256 * (t.val % 1) + (y 1).val := by show win0_8.index t (1 : Fin 3) * 256 + 1 * (y 1).val = _; rw [e1]; omega
    have i2 : (((cfg0.win 8).blk t).view.emb y 2).val = (y 2).val := by show win0_8.index t (2 : Fin 3) * 1024 + 1 * (y 2).val = _; rw [e2]; omega
    show shapeCast S1x256x1024 (k0_pay8 (F := Ideal) (total (F := Ideal) (b1 m c t)) (b4 m c t) : S256x1024.Idx → EReal) shapeCasts_S256x1024_S1x256x1024 y = val_main_v17 (F := Ideal) (a0 m c) (a1 m c) (a4 m c) (((cfg0.win 8).blk t).view.emb y)
    refine (cast_add _ shapeCasts_S256x1024_S1x256x1024 y).trans ((pay8_apply _ _ (y 1) (y 2)).trans ?_)
    rw [ref_square]
    exact congrArg₂ newV (total_B m c t (by omega) y _ i0 i1 i2) (blk4 m c t (ix3 (0 : Fin 1) (y 1) (y 2)) _ i0 i1 i2)

theorem mem_blk8 (t : Fin cfg0.N) (i : S2x256x1024.Idx) :
    i ∈ ((cfg0.win 8).blk t).view.set ↔ ∀ a, win0_8.index t a * S1x256x1024.size a ≤ (i a).val ∧ (i a).val < win0_8.index t a * S1x256x1024.size a + S1x256x1024.size a := by
  show i ∈ ((View.whole main_v0_3).slice (win0_8.rect t)).set ↔ _
  rw [View.set_slice_whole, Rect.mem_set_unit]

theorem result8 (c : Dev nD) : (dats m 0 c).arrAt 8 cfg0.N = val_main_v17 (F := Ideal) (a0 m c) (a1 m c) (a4 m c) :=
  (dats m 0 c).arrAt_eq_of_cover 8 (val_main_v17 (F := Ideal) (a0 m c) (a1 m c) (a4 m c)) (fun t _ => flushed8_eq m c t) fun i => by
    have h0 : (i 0).val < 2 := (i 0).isLt
    have h1 : (i 1).val < 256 := (i 1).isLt
    have h2 : (i 2).val < 1024 := (i 2).isLt
    have ht : 1 * (i 0).val + (i 1).val / 256 < cfg0.N := lt_of_lt_of_eq (by omega) N_0.symm
    obtain ⟨-, -, -, -, -, -, -, -, -, -, -, -, -, -, -, -, -, -, e0, e1, e2, -, -, -, hf⟩ := idx_in ⟨1 * (i 0).val + (i 1).val / 256, ht⟩
    refine ⟨⟨1 * (i 0).val + (i 1).val / 256, ht⟩, hf, (mem_blk8 _ i).2 fun a => ?_⟩
    match a with
    | ⟨0, _⟩ =>
      show win0_8.index _ (0 : Fin 3) * 1 ≤ (i 0).val ∧ (i 0).val < win0_8.index _ (0 : Fin 3) * 1 + 1
      rw [e0]
      show ((1 * (i 0).val + (i 1).val / 256) / 1) * 1 ≤ (i 0).val ∧ (i 0).val < ((1 * (i 0).val + (i 1).val / 256) / 1) * 1 + 1
      omega
    | ⟨1, _⟩ =>
      show win0_8.index _ (1 : Fin 3) * 256 ≤ (i 1).val ∧ (i 1).val < win0_8.index _ (1 : Fin 3) * 256 + 256
      rw [e1]
      show ((1 * (i 0).val + (i 1).val / 256) % 1) * 256 ≤ (i 1).val ∧ (i 1).val < ((1 * (i 0).val + (i 1).val / 256) % 1) * 256 + 256
      omega
    | ⟨2, _⟩ =>
      show win0_8.index _ (2 : Fin 3) * 1024 ≤ (i 2).val ∧ (i 2).val < win0_8.index _ (2 : Fin 3) * 1024 + 1024
      rw [e2]
      show (0) * 1024 ≤ (i 2).val ∧ (i 2).val < (0) * 1024 + 1024
      omega

end Cert.SumAdamSquareIdeal.Sum
-- ==== Proof.SumAdamWin.lean ====
/-
  The optimiser's step on the input matrix: the eight devices' gradient parts of both layers are summed and the weight's running
  means and step are made from the sum, a block of 128 rows at a time.
-/
module

public import proofs.«01_k».proof.Proof.Adam
public import proofs.«01_k».proof.Proof.Gen.SumAdamWinIdeal.Value
public import proofs.«01_k».proof.Proof.Gen.SumAdamWinRefIdeal.Read
public import Idealize.ShloMosaic.Lib.Tactic
public import Idealize.ShloMosaic.Lib.Claim

@[expose] public section

set_option maxRecDepth 16384

noncomputable section

namespace Cert.SumAdamWinIdeal.Sum

open Cert.Common Cert.Adam Cert.SumAdamWinIdeal Cert.SumAdamWinIdeal.Gen Cert.SumAdamWinIdeal.Value Cert.SumAdamWinRefIdeal.Read
open Idealize.ShloMosaic Idealize.ShloMosaic.TcCoe Idealize.ShloMosaic.ValueIdx Idealize.SL.Sem
open Idealize.ShloMosaic.Pipeline (Dat)

section Cases
variable {F : FTy → Type} [FloatOps F]

/-- The sum of the eight parts of a block. -/
def total (x : Vec F S8x128x2048 .bf16) : FVec F S128x2048 .f32 :=
  k0_pay5 (partOf 0 x) (partOf 1 x) (partOf 2 x) (partOf 3 x) (partOf 4 x) (partOf 5 x) (partOf 6 x) (partOf 7 x)

variable (c : Dev nD) (i : grid0.Coords) (q2 : Memref sig .tc .vmem S8x128x2048 .bf16) (h2 : q2.IsWhole) (q3 : Memref sig .tc .vmem S8x128x2048 .bf16) (h3 : q3.IsWhole) (q4 : Memref sig .tc .vmem S1x128x2048 .f32) (h4 : q4.IsWhole) (q5 : Memref sig .tc .vmem S1x128x2048 .f32) (h5 : q5.IsWhole) (q6 : Memref sig .tc .vmem S1x128x2048 .f32) (h6 : q6.IsWhole) (q7 : Memref sig .tc .vmem S1x128x2048 .f32) (h7 : q7.IsWhole) (q8 : Memref sig .tc .vmem S1x128x2048 .f32) (h8 : q8.IsWhole) (q9 : Memref sig .tc .vmem S1x128x2048 .f32) (h9 : q9.IsWhole) (q10 : Memref sig .tc .vmem S1x128x2048 .f32) (h10 : q10.IsWhole)
  (x0 x1 : Vec F S8x128x2048 .bf16) (x2 x3 x4 : Vec F S1x128x2048 .f32)

/-! ## What a grid point of either layer stores -/

theorem out5_A (hc0 : cond0_0 i) (hc1 : ¬cond0_1 i) :
    out0_A_5 c i q2 h2 q3 h3 q4 h4 q5 h5 q6 h6 q7 h7 q8 h8 q9 h9 q10 h10 hc0 hc1 x0 x1 x2 x3 x4 = k0_pay6 (total x0) := by
  unfold out0_A_5
  rw [View.read_writes_eq_canon _ _ _ (cover0_A_5 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out6_A (hc0 : cond0_0 i) (hc1 : ¬cond0_1 i) :
    out0_A_6 c i q2 h2 q3 h3 q4 h4 q5 h5 q6 h6 q7 h7 q8 h8 q9 h9 q10 h10 hc0 hc1 x0 x1 x2 x3 x4 = k0_pay9 (total x0) x2 x3 x4 := by
  unfold out0_A_6
  rw [View.read_writes_eq_canon _ _ _ (cover0_A_6 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out7_A (hc0 : cond0_0 i) (hc1 : ¬cond0_1 i) :
    out0_A_7 c i q2 h2 q3 h3 q4 h4 q5 h5 q6 h6 q7 h7 q8 h8 q9 h9 q10 h10 hc0 hc1 x0 x1 x2 x3 x4 = shapeCast S1x128x2048 (k0_pay7 (total x0) x3) shapeCasts_S128x2048_S1x128x2048 := by
  unfold out0_A_7
  rw [View.read_writes_eq_canon _ _ _ (cover0_A_7 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out8_A (hc0 : cond0_0 i) (hc1 : ¬cond0_1 i) :
    out0_A_8 c i q2 h2 q3 h3 q4 h4 q5 h5 q6 h6 q7 h7 q8 h8 q9 h9 q10 h10 hc0 hc1 x0 x1 x2 x3 x4 = shapeCast S1x128x2048 (k0_pay8 (total x0) x4) shapeCasts_S128x2048_S1x128x2048 := by
  unfold out0_A_8
  rw [View.read_writes_eq_canon _ _ _ (cover0_A_8 c i q2 h2 q3 h3 q4 h4 q5 h5 q6 h6 q7 h7 q8 h8 q9 h9 q10 h10 hc0 hc1 x0 x1 x2 x3 x4)]
  unfold kernelRun0_A
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x0 0 (by decide), ld_part x0 1 (by decide), ld_part x0 2 (by decide), ld_part x0 3 (by decide), ld_part x0 4 (by decide), ld_part x0 5 (by decide),
    ld_part x0 6 (by decide), ld_part x0 7 (by decide)]
  rfl

theorem out5_B (hc0 : ¬cond0_0 i) (hc1 : cond0_1 i) :
    out0_B_5 c i q2 h2 q3 h3 q4 h4 q5 h5 q6 h6 q7 h7 q8 h8 q9 h9 q10 h10 hc0 hc1 x0 x1 x2 x3 x4 = k0_pay6 (total x1) := by
  unfold out0_B_5
  rw [View.read_writes_eq_canon _ _ _ (cover0_B_5 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out6_B (hc0 : ¬cond0_0 i) (hc1 : cond0_1 i) :
    out0_B_6 c i q2 h2 q3 h3 q4 h4 q5 h5 q6 h6 q7 h7 q8 h8 q9 h9 q10 h10 hc0 hc1 x0 x1 x2 x3 x4 = k0_pay9 (total x1) x2 x3 x4 := by
  unfold out0_B_6
  rw [View.read_writes_eq_canon _ _ _ (cover0_B_6 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out7_B (hc0 : ¬cond0_0 i) (hc1 : cond0_1 i) :
    out0_B_7 c i q2 h2 q3 h3 q4 h4 q5 h5 q6 h6 q7 h7 q8 h8 q9 h9 q10 h10 hc0 hc1 x0 x1 x2 x3 x4 = shapeCast S1x128x2048 (k0_pay7 (total x1) x3) shapeCasts_S128x2048_S1x128x2048 := by
  unfold out0_B_7
  rw [View.read_writes_eq_canon _ _ _ (cover0_B_7 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

theorem out8_B (hc0 : ¬cond0_0 i) (hc1 : cond0_1 i) :
    out0_B_8 c i q2 h2 q3 h3 q4 h4 q5 h5 q6 h6 q7 h7 q8 h8 q9 h9 q10 h10 hc0 hc1 x0 x1 x2 x3 x4 = shapeCast S1x128x2048 (k0_pay8 (total x1) x4) shapeCasts_S128x2048_S1x128x2048 := by
  unfold out0_B_8
  rw [View.read_writes_eq_canon _ _ _ (cover0_B_8 c i q2 h2 q3 h3 q4 h4 q5 h5 q6 h6 q7 h7 q8 h8 q9 h9 q10 h10 hc0 hc1 x0 x1 x2 x3 x4)]
  unfold kernelRun0_B
  dsimp only
  sl_unfold_words
  rw [View.canon_unit_zero (S := S1x128x2048) zero3]
  simp only [View.readAt_eq_ld, h2.read_unread, h3.read_unread, h4.read_unread, h5.read_unread, h6.read_unread, View.ld_unit_zero (S := S1x128x2048) zero3]
  rw [ld_part x1 0 (by decide), ld_part x1 1 (by decide), ld_part x1 2 (by decide), ld_part x1 3 (by decide), ld_part x1 4 (by decide), ld_part x1 5 (by decide),
    ld_part x1 6 (by decide), ld_part x1 7 (by decide)]
  rfl

end Cases

/-! ## The stored values at an index, over the extended reals -/

theorem total_apply (x : S8x128x2048.Idx → EReal) (r : Fin 128) (q : Fin 2048) : (total (F := Ideal) x : S128x2048.Idx → EReal) (ix2 r q) = ∑ k : Fin 8, x (ix3 k r q) := by
  have h : ∀ k : Fin 8, (shapeCast S128x2048 (partOf (Val := Elt Ideal) (e := .bf16) k x : S1x128x2048.Idx → EReal) shapeCasts_S1x128x2048_S128x2048 : S128x2048.Idx → EReal) (ix2 r q) = x (ix3 k r q) :=
    fun k => cast_drop (partOf (Val := Elt Ideal) (e := .bf16) k x : S1x128x2048.Idx → EReal) _ r q
  refine Eq.trans ?_ (sum_eight fun k => x (ix3 k r q))
  rw [← h 0, ← h 1, ← h 2, ← h 3, ← h 4, ← h 5, ← h 6, ← h 7]
  rfl

theorem pay6_apply (g : S128x2048.Idx → EReal) (y : S1x128x2048.Idx) : (k0_pay6 (F := Ideal) g : S1x128x2048.Idx → EReal) y = g (ix2 (y 1) (y 2)) :=
  cast_add g shapeCasts_S128x2048_S1x128x2048 y

theorem pay7_apply (g : S128x2048.Idx → EReal) (x : S1x128x2048.Idx → EReal) (r : Fin 128) (q : Fin 2048) :
    (k0_pay7 (F := Ideal) g x : S128x2048.Idx → EReal) (ix2 r q) = newM (g (ix2 r q)) (x (ix3 (0 : Fin 1) r q)) :=
  congrArg (fun z : EReal => newM (g (ix2 r q)) z) (cast_drop x shapeCasts_S1x128x2048_S128x2048 r q)

theorem pay8_apply (g : S128x2048.Idx → EReal) (x : S1x128x2048.Idx → EReal) (r : Fin 128) (q : Fin 2048) :
    (k0_pay8 (F := Ideal) g x : S128x2048.Idx → EReal) (ix2 r q) = newV (g (ix2 r q)) (x (ix3 (0 : Fin 1) r q)) :=
  congrArg (fun z : EReal => newV (g (ix2 r q)) z) (cast_drop x shapeCasts_S1x128x2048_S128x2048 r q)

theorem pay9_apply (g : S128x2048.Idx → EReal) (w x v : S1x128x2048.Idx → EReal) (y : S1x128x2048.Idx) :
    (k0_pay9 (F := Ideal) g w x v : S1x128x2048.Idx → EReal) y
      = step (newM (g (ix2 (y 1) (y 2))) (x (ix3 (0 : Fin 1) (y 1) (y 2)))) (newV (g (ix2 (y 1) (y 2))) (v (ix3 (0 : Fin 1) (y 1) (y 2)))) (w (ix3 (0 : Fin 1) (y 1) (y 2))) := by
  rw [← pay7_apply g x (y 1) (y 2), ← pay8_apply g v (y 1) (y 2), ← cast_drop w shapeCasts_S1x128x2048_S128x2048 (y 1) (y 2)]
  unfold k0_pay9
  exact (cast_add _ shapeCasts_S128x2048_S1x128x2048 y).trans rfl

/-! ## What each grid point reads -/

variable (m : (ℓ : Loc nD τ sig) → Buf (Elt Ideal) ℓ)

abbrev a0 (c : Dev nD) : S8x1024x2048.Idx → EReal := m ((c : Thread nD τ).loc main_arg0)
abbrev a1 (c : Dev nD) : S8x1024x2048.Idx → EReal := m ((c : Thread nD τ).loc main_arg1)
abbrev a2 (c : Dev nD) : S2x1024x2048.Idx → EReal := m ((c : Thread nD τ).loc main_arg2)
abbrev a3 (c : Dev nD) : S2x1024x2048.Idx → EReal := m ((c : Thread nD τ).loc main_arg3)
abbrev a4 (c : Dev nD) : S2x1024x2048.Idx → EReal := m ((c : Thread nD τ).loc main_arg4)

/-- Where each window stands at grid point `t`. -/
theorem idx_in : ∀ t : Fin cfg0.N, win0_2.index t (0 : Fin 3) = t.val / 8
    ∧ win0_2.index t (1 : Fin 3) = t.val % 8
    ∧ win0_2.index t (2 : Fin 3) = 0
    ∧ win0_3.index t (0 : Fin 3) = t.val / 8
    ∧ win0_3.index t (1 : Fin 3) = t.val % 8
    ∧ win0_3.index t (2 : Fin 3) = 0
    ∧ win0_4.index t (0 : Fin 3) = t.val / 8
    ∧ win0_4.index t (1 : Fin 3) = t.val % 8
    ∧ win0_4.index t (2 : Fin 3) = 0
    ∧ win0_5.index t (0 : Fin 3) = t.val / 8
    ∧ win0_5.index t (1 : Fin 3) = t.val % 8
    ∧ win0_5.index t (2 : Fin 3) = 0
    ∧ win0_6.index t (0 : Fin 3) = t.val / 8
    ∧ win0_6.index t (1 : Fin 3) = t.val % 8
    ∧ win0_6.index t (2 : Fin 3) = 0
    ∧ win0_7.index t (0 : Fin 3) = t.val / 8
    ∧ win0_7.index t (1 : Fin 3) = t.val % 8
    ∧ win0_7.index t (2 : Fin 3) = 0
    ∧ win0_8.index t (0 : Fin 3) = t.val / 8
    ∧ win0_8.index t (1 : Fin 3) = t.val % 8
    ∧ win0_8.index t (2 : Fin 3) = 0
    ∧ win0_5.flush t = true
    ∧ win0_6.flush t = true
    ∧ win0_7.flush t = true
    ∧ win0_8.flush t = true :=
  (by decide +kernel : ∀ t : Fin grid0.N, _)

theorem idx_part0 : ∀ t : Fin cfg0.N, t.val < 8 → win0_0.index t (0 : Fin 3) = 0 ∧ win0_0.index t (1 : Fin 3) = t.val % 8 ∧ win0_0.index t (2 : Fin 3) = 0 :=
  (by decide +kernel : ∀ t : Fin grid0.N, _)

theorem idx_part1 : ∀ t : Fin cfg0.N, 8 ≤ t.val → win0_1.index t (0 : Fin 3) = 0 ∧ win0_1.index t (1 : Fin 3) = t.val % 8 ∧ win0_1.index t (2 : Fin 3) = 0 :=
  (by decide +kernel : ∀ t : Fin grid0.N, _)

abbrev b0 (c : Dev nD) (t : Fin cfg0.N) : S8x128x2048.Idx → EReal := iblk m c 0 t

theorem blk0 (c : Dev nD) (t : Fin cfg0.N) (hc : t.val < 8) (y : S8x128x2048.Idx) (k : S8x1024x2048.Idx) (h0 : (k 0).val = (y 0).val) (h1 : (k 1).val = 128 * (t.val % 8) + (y 1).val) (h2 : (k 2).val = (y 2).val) :
    b0 m c t y = a0 m c k := by
  obtain ⟨e0, e1, e2⟩ := idx_part0 t hc
  show V m c main_arg0 (((cfg0.win 0).blk t).view.emb y) = _
  entry_read
  refine congrArg (a0 m c) (funext fun a => Fin.ext ?_)
  match a with
  | ⟨0, _⟩ => show win0_0.index t (0 : Fin 3) * 8 + 1 * (y 0).val = (k 0).val; rw [h0, e0]; omega
  | ⟨1, _⟩ => show win0_0.index t (1 : Fin 3) * 128 + 1 * (y 1).val = (k 1).val; rw [h1, e1]; omega
  | ⟨2, _⟩ => show win0_0.index t (2 : Fin 3) * 2048 + 1 * (y 2).val = (k 2).val; rw [h2, e2]; omega

abbrev b1 (c : Dev nD) (t : Fin cfg0.N) : S8x128x2048.Idx → EReal := iblk m c 1 t

theorem blk1 (c : Dev nD) (t : Fin cfg0.N) (hc : 8 ≤ t.val) (y : S8x128x2048.Idx) (k : S8x1024x2048.Idx) (h0 : (k 0).val = (y 0).val) (h1 : (k 1).val = 128 * (t.val % 8) + (y 1).val) (h2 : (k 2).val = (y 2).val) :
    b1 m c t y = a1 m c k := by
  obtain ⟨e0, e1, e2⟩ := idx_part1 t hc
  show V m c main_arg1 (((cfg0.win 1).blk t).view.emb y) = _
  entry_read
  refine congrArg (a1 m c) (funext fun a => Fin.ext ?_)
  match a with
  | ⟨0, _⟩ => show win0_1.index t (0 : Fin 3) * 8 + 1 * (y 0).val = (k 0).val; rw [h0, e0]; omega
  | ⟨1, _⟩ => show win0_1.index t (1 : Fin 3) * 128 + 1 * (y 1).val = (k 1).val; rw [h1, e1]; omega
  | ⟨2, _⟩ => show win0_1.index t (2 : Fin 3) * 2048 + 1 * (y 2).val = (k 2).val; rw [h2, e2]; omega

abbrev b2 (c : Dev nD) (t : Fin cfg0.N) : S1x128x2048.Idx → EReal := iblk m c 2 t

theorem blk2 (c : Dev nD) (t : Fin cfg0.N) (y : S1x128x2048.Idx) (k : S2x1024x2048.Idx) (h0 : (k 0).val = t.val / 8) (h1 : (k 1).val = 128 * (t.val % 8) + (y 1).val) (h2 : (k 2).val = (y 2).val) :
    b2 m c t y = a2 m c k := by
  obtain ⟨e0, e1, e2, -⟩ := idx_in t
  have hy : (y 0).val < 1 := (y 0).isLt
  show V m c main_arg2 (((cfg0.win 2).blk t).view.emb y) = _
  entry_read
  refine congrArg (a2 m c) (funext fun a => Fin.ext ?_)
  match a with
  | ⟨0, _⟩ => show win0_2.index t (0 : Fin 3) * 1 + 1 * (y 0).val = (k 0).val; rw [h0, e0]; omega
  | ⟨1, _⟩ => show win0_2.index t (1 : Fin 3) * 128 + 1 * (y 1).val = (k 1).val; rw [h1, e1]; omega
  | ⟨2, _⟩ => show win0_2.index t (2 : Fin 3) * 2048 + 1 * (y 2).val = (k 2).val; rw [h2, e2]; omega

abbrev b3 (c : Dev nD) (t : Fin cfg0.N) : S1x128x2048.Idx → EReal := iblk m c 3 t

theorem blk3 (c : Dev nD) (t : Fin cfg0.N) (y : S1x128x2048.Idx) (k : S2x1024x2048.Idx) (h0 : (k 0).val = t.val / 8) (h1 : (k 1).val = 128 * (t.val % 8) + (y 1).val) (h2 : (k 2).val = (y 2).val) :
    b3 m c t y = a3 m c k := by
  obtain ⟨-, -, -, e0, e1, e2, -⟩ := idx_in t
  have hy : (y 0).val < 1 := (y 0).isLt
  show V m c main_arg3 (((cfg0.win 3).blk t).view.emb y) = _
  entry_read
  refine congrArg (a3 m c) (funext fun a => Fin.ext ?_)
  match a with
  | ⟨0, _⟩ => show win0_3.index t (0 : Fin 3) * 1 + 1 * (y 0).val = (k 0).val; rw [h0, e0]; omega
  | ⟨1, _⟩ => show win0_3.index t (1 : Fin 3) * 128 + 1 * (y 1).val = (k 1).val; rw [h1, e1]; omega
  | ⟨2, _⟩ => show win0_3.index t (2 : Fin 3) * 2048 + 1 * (y 2).val = (k 2).val; rw [h2, e2]; omega

abbrev b4 (c : Dev nD) (t : Fin cfg0.N) : S1x128x2048.Idx → EReal := iblk m c 4 t

theorem blk4 (c : Dev nD) (t : Fin cfg0.N) (y : S1x128x2048.Idx) (k : S2x1024x2048.Idx) (h0 : (k 0).val = t.val / 8) (h1 : (k 1).val = 128 * (t.val % 8) + (y 1).val) (h2 : (k 2).val = (y 2).val) :
    b4 m c t y = a4 m c k := by
  obtain ⟨-, -, -, -, -, -, e0, e1, e2, -⟩ := idx_in t
  have hy : (y 0).val < 1 := (y 0).isLt
  show V m c main_arg4 (((cfg0.win 4).blk t).view.emb y) = _
  entry_read
  refine congrArg (a4 m c) (funext fun a => Fin.ext ?_)
  match a with
  | ⟨0, _⟩ => show win0_4.index t (0 : Fin 3) * 1 + 1 * (y 0).val = (k 0).val; rw [h0, e0]; omega
  | ⟨1, _⟩ => show win0_4.index t (1 : Fin 3) * 128 + 1 * (y 1).val = (k 1).val; rw [h1, e1]; omega
  | ⟨2, _⟩ => show win0_4.index t (2 : Fin 3) * 2048 + 1 * (y 2).val = (k 2).val; rw [h2, e2]; omega

/-- The gradient: the sum over the devices of the layer's parts. -/
def grad (c : Dev nD) (i : S2x1024x2048.Idx) : EReal :=
  if (i 0).val = 0 then ∑ k : Fin 8, a0 m c (ix3 (n0 := 8) (n1 := 1024) (n2 := 2048) k (i 1) (i 2)) else ∑ k : Fin 8, a1 m c (ix3 (n0 := 8) (n1 := 1024) (n2 := 2048) k (i 1) (i 2))

theorem total_A (c : Dev nD) (t : Fin cfg0.N) (hc : t.val < 8) (y : S1x128x2048.Idx) (i : S2x1024x2048.Idx) (h0 : (i 0).val = t.val / 8) (h1 : (i 1).val = 128 * (t.val % 8) + (y 1).val) (h2 : (i 2).val = (y 2).val) :
    (total (F := Ideal) (b0 m c t) : S128x2048.Idx → EReal) (ix2 (y 1) (y 2)) = grad m c i := by
  have hl : (i 0).val < 2 := (i 0).isLt
  rw [grad, if_pos (by omega)]
  exact (total_apply (b0 m c t) (y 1) (y 2)).trans (Finset.sum_congr rfl fun k _ => blk0 m c t hc (ix3 k (y 1) (y 2)) (ix3 (n0 := 8) (n1 := 1024) (n2 := 2048) k (i 1) (i 2)) rfl h1 h2)

theorem total_B (c : Dev nD) (t : Fin cfg0.N) (hc : 8 ≤ t.val) (y : S1x128x2048.Idx) (i : S2x1024x2048.Idx) (h0 : (i 0).val = t.val / 8) (h1 : (i 1).val = 128 * (t.val % 8) + (y 1).val) (h2 : (i 2).val = (y 2).val) :
    (total (F := Ideal) (b1 m c t) : S128x2048.Idx → EReal) (ix2 (y 1) (y 2)) = grad m c i := by
  have hl : (i 0).val < 2 := (i 0).isLt
  have ht : t.val < 16 := t.isLt.trans_eq N_0
  rw [grad, if_neg (by omega)]
  exact (total_apply (b1 m c t) (y 1) (y 2)).trans (Finset.sum_congr rfl fun k _ => blk1 m c t hc (ix3 k (y 1) (y 2)) (ix3 (n0 := 8) (n1 := 1024) (n2 := 2048) k (i 1) (i 2)) rfl h1 h2)

/-! ## The reference -/

theorem ref_grad (c : Dev nD) (i : S2x1024x2048.Idx) : val_main_v6 (F := Ideal) (a0 m c) (a1 m c) i = grad m c i := by
  have hl : (i 0).val < 2 := (i 0).isLt
  unfold val_main_v6 grad
  by_cases h : (i 0).val = 0
  · rw [if_pos h]
    refine (concatenate_apply_piece (t := SumAdamWinRefIdeal.S2x1024x2048) 0 _ _ i 0 (by show 0 < 2; decide) SumAdamWinRefIdeal.S1x1024x2048 (val_main_v4 (F := Ideal) (a0 m c)) rfl rfl 0 rfl
      (ix3 (n0 := 1) (n1 := 1024) (n2 := 2048) 0 (i 1) (i 2)) (fun b hb => ?_) (by show 0 + 0 = (i 0).val; omega)).trans ?_
    · match b with
      | ⟨0, _⟩ => exact absurd rfl hb
      | ⟨1, _⟩ => rfl
      | ⟨2, _⟩ => rfl
    · rw [val_main_v4_apply, val_main_v1_apply]
      refine (congrArg (fun z : EReal => z + _) Ideal.ofBits_zero_f32).trans ((zero_add _).trans (Finset.sum_congr rfl fun k _ => congrArg (a0 m c) (funext fun b => Fin.ext ?_)))
      match b with
      | ⟨0, _⟩ => rfl
      | ⟨1, _⟩ => rfl
      | ⟨2, _⟩ => rfl
  · rw [if_neg h]
    refine (concatenate_apply_piece (t := SumAdamWinRefIdeal.S2x1024x2048) 0 _ _ i 1 (by show 1 < 2; decide) SumAdamWinRefIdeal.S1x1024x2048 (val_main_v5 (F := Ideal) (a1 m c)) rfl rfl 1 rfl
      (ix3 (n0 := 1) (n1 := 1024) (n2 := 2048) 0 (i 1) (i 2)) (fun b hb => ?_) (by show 1 + 0 = (i 0).val; omega)).trans ?_
    · match b with
      | ⟨0, _⟩ => exact absurd rfl hb
      | ⟨1, _⟩ => rfl
      | ⟨2, _⟩ => rfl
    · rw [val_main_v5_apply, val_main_v3_apply]
      refine (congrArg (fun z : EReal => z + _) Ideal.ofBits_zero_f32).trans ((zero_add _).trans (Finset.sum_congr rfl fun k _ => congrArg (a1 m c) (funext fun b => Fin.ext ?_)))
      match b with
      | ⟨0, _⟩ => rfl
      | ⟨1, _⟩ => rfl
      | ⟨2, _⟩ => rfl

theorem ref_mean (c : Dev nD) (i : S2x1024x2048.Idx) : val_main_v11 (F := Ideal) (a0 m c) (a1 m c) (a3 m c) i = newM (grad m c i) (a3 m c i) := by
  rw [val_main_v11_apply, val_main_v8_apply, val_main_v7_apply, val_main_v10_apply, val_main_v9_apply, ref_grad]
  rfl

theorem ref_square (c : Dev nD) (i : S2x1024x2048.Idx) : val_main_v17 (F := Ideal) (a0 m c) (a1 m c) (a4 m c) i = newV (grad m c i) (a4 m c i) := by
  rw [val_main_v17_apply, val_main_v13_apply, val_main_v12_apply, val_main_v16_apply, val_main_v15_apply, val_main_v14_apply, ref_grad]
  rfl

theorem ref_step (c : Dev nD) (i : S2x1024x2048.Idx) :
    val_main_v30 (F := Ideal) (a0 m c) (a1 m c) (a2 m c) (a3 m c) (a4 m c) i = step (newM (grad m c i) (a3 m c i)) (newV (grad m c i) (a4 m c i)) (a2 m c i) := by
  rw [← ref_mean, ← ref_square]
  simp only [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply]
  rfl

/-! ## The four results -/

theorem flushed5_eq (c : Dev nD) (t : Fin cfg0.N) :
    (dats m 0 c).flushed 5 t = ((cfg0.win 5).blk t).view.read (Elt Ideal) (val_main_v6 (F := Ideal) (a0 m c) (a1 m c)) := by
  have ht : t.val < 16 := t.isLt.trans_eq N_0
  obtain ⟨-, -, -, -, -, -, -, -, -, e0, e1, e2, -⟩ := idx_in t
  by_cases h0 : t.val < 8
  · rw [flushed5_A m c t h0 (by omega), out5_A]
    funext y
    have hy : (y 0).val < 1 := (y 0).isLt
    have i0 : (((cfg0.win 5).blk t).view.emb y 0).val = t.val / 8 := by show win0_5.index t (0 : Fin 3) * 1 + 1 * (y 0).val = _; rw [e0]; omega
    have i1 : (((cfg0.win 5).blk t).view.emb y 1).val = 128 * (t.val % 8) + (y 1).val := by show win0_5.index t (1 : Fin 3) * 128 + 1 * (y 1).val = _; rw [e1]; omega
    have i2 : (((cfg0.win 5).blk t).view.emb y 2).val = (y 2).val := by show win0_5.index t (2 : Fin 3) * 2048 + 1 * (y 2).val = _; rw [e2]; omega
    show (k0_pay6 (F := Ideal) (total (F := Ideal) (b0 m c t)) : S1x128x2048.Idx → EReal) y = val_main_v6 (F := Ideal) (a0 m c) (a1 m c) (((cfg0.win 5).blk t).view.emb y)
    exact (pay6_apply _ y).trans ((total_A m c t h0 y _ i0 i1 i2).trans (ref_grad m c _).symm)
  · rw [flushed5_B m c t h0 (by omega), out5_B]
    funext y
    have hy : (y 0).val < 1 := (y 0).isLt
    have i0 : (((cfg0.win 5).blk t).view.emb y 0).val = t.val / 8 := by show win0_5.index t (0 : Fin 3) * 1 + 1 * (y 0).val = _; rw [e0]; omega
    have i1 : (((cfg0.win 5).blk t).view.emb y 1).val = 128 * (t.val % 8) + (y 1).val := by show win0_5.index t (1 : Fin 3) * 128 + 1 * (y 1).val = _; rw [e1]; omega
    have i2 : (((cfg0.win 5).blk t).view.emb y 2).val = (y 2).val := by show win0_5.index t (2 : Fin 3) * 2048 + 1 * (y 2).val = _; rw [e2]; omega
    show (k0_pay6 (F := Ideal) (total (F := Ideal) (b1 m c t)) : S1x128x2048.Idx → EReal) y = val_main_v6 (F := Ideal) (a0 m c) (a1 m c) (((cfg0.win 5).blk t).view.emb y)
    exact (pay6_apply _ y).trans ((total_B m c t (by omega) y _ i0 i1 i2).trans (ref_grad m c _).symm)

theorem mem_blk5 (t : Fin cfg0.N) (i : S2x1024x2048.Idx) :
    i ∈ ((cfg0.win 5).blk t).view.set ↔ ∀ a, win0_5.index t a * S1x128x2048.size a ≤ (i a).val ∧ (i a).val < win0_5.index t a * S1x128x2048.size a + S1x128x2048.size a := by
  show i ∈ ((View.whole main_v0_0).slice (win0_5.rect t)).set ↔ _
  rw [View.set_slice_whole, Rect.mem_set_unit]

theorem result5 (c : Dev nD) : (dats m 0 c).arrAt 5 cfg0.N = val_main_v6 (F := Ideal) (a0 m c) (a1 m c) :=
  (dats m 0 c).arrAt_eq_of_cover 5 (val_main_v6 (F := Ideal) (a0 m c) (a1 m c)) (fun t _ => flushed5_eq m c t) fun i => by
    have h0 : (i 0).val < 2 := (i 0).isLt
    have h1 : (i 1).val < 1024 := (i 1).isLt
    have h2 : (i 2).val < 2048 := (i 2).isLt
    have ht : 8 * (i 0).val + (i 1).val / 128 < cfg0.N := lt_of_lt_of_eq (by omega) N_0.symm
    obtain ⟨-, -, -, -, -, -, -, -, -, e0, e1, e2, -, -, -, -, -, -, -, -, -, hf, -⟩ := idx_in ⟨8 * (i 0).val + (i 1).val / 128, ht⟩
    refine ⟨⟨8 * (i 0).val + (i 1).val / 128, ht⟩, hf, (mem_blk5 _ i).2 fun a => ?_⟩
    match a with
    | ⟨0, _⟩ =>
      show win0_5.index _ (0 : Fin 3) * 1 ≤ (i 0).val ∧ (i 0).val < win0_5.index _ (0 : Fin 3) * 1 + 1
      rw [e0]
      show ((8 * (i 0).val + (i 1).val / 128) / 8) * 1 ≤ (i 0).val ∧ (i 0).val < ((8 * (i 0).val + (i 1).val / 128) / 8) * 1 + 1
      omega
    | ⟨1, _⟩ =>
      show win0_5.index _ (1 : Fin 3) * 128 ≤ (i 1).val ∧ (i 1).val < win0_5.index _ (1 : Fin 3) * 128 + 128
      rw [e1]
      show ((8 * (i 0).val + (i 1).val / 128) % 8) * 128 ≤ (i 1).val ∧ (i 1).val < ((8 * (i 0).val + (i 1).val / 128) % 8) * 128 + 128
      omega
    | ⟨2, _⟩ =>
      show win0_5.index _ (2 : Fin 3) * 2048 ≤ (i 2).val ∧ (i 2).val < win0_5.index _ (2 : Fin 3) * 2048 + 2048
      rw [e2]
      show (0) * 2048 ≤ (i 2).val ∧ (i 2).val < (0) * 2048 + 2048
      omega

theorem flushed6_eq (c : Dev nD) (t : Fin cfg0.N) :
    (dats m 0 c).flushed 6 t = ((cfg0.win 6).blk t).view.read (Elt Ideal) (val_main_v30 (F := Ideal) (a0 m c) (a1 m c) (a2 m c) (a3 m c) (a4 m c)) := by
  have ht : t.val < 16 := t.isLt.trans_eq N_0
  obtain ⟨-, -, -, -, -, -, -, -, -, -, -, -, e0, e1, e2, -⟩ := idx_in t
  by_cases h0 : t.val < 8
  · rw [flushed6_A m c t h0 (by omega), out6_A]
    funext y
    have hy : (y 0).val < 1 := (y 0).isLt
    have i0 : (((cfg0.win 6).blk t).view.emb y 0).val = t.val / 8 := by show win0_6.index t (0 : Fin 3) * 1 + 1 * (y 0).val = _; rw [e0]; omega
    have i1 : (((cfg0.win 6).blk t).view.emb y 1).val = 128 * (t.val % 8) + (y 1).val := by show win0_6.index t (1 : Fin 3) * 128 + 1 * (y 1).val = _; rw [e1]; omega
    have i2 : (((cfg0.win 6).blk t).view.emb y 2).val = (y 2).val := by show win0_6.index t (2 : Fin 3) * 2048 + 1 * (y 2).val = _; rw [e2]; omega
    show (k0_pay9 (F := Ideal) (total (F := Ideal) (b0 m c t)) (b2 m c t) (b3 m c t) (b4 m c t) : S1x128x2048.Idx → EReal) y = val_main_v30 (F := Ideal) (a0 m c) (a1 m c) (a2 m c) (a3 m c) (a4 m c) (((cfg0.win 6).blk t).view.emb y)
    refine (pay9_apply _ _ _ _ y).trans ?_
    rw [ref_step, total_A m c t h0 y _ i0 i1 i2]
    exact congr (congrArg₂ step (congrArg (newM _) (blk3 m c t (ix3 (0 : Fin 1) (y 1) (y 2)) _ i0 i1 i2)) (congrArg (newV _) (blk4 m c t (ix3 (0 : Fin 1) (y 1) (y 2)) _ i0 i1 i2))) (blk2 m c t (ix3 (0 : Fin 1) (y 1) (y 2)) _ i0 i1 i2)
  · rw [flushed6_B m c t h0 (by omega), out6_B]
    funext y
    have hy : (y 0).val < 1 := (y 0).isLt
    have i0 : (((cfg0.win 6).blk t).view.emb y 0).val = t.val / 8 := by show win0_6.index t (0 : Fin 3) * 1 + 1 * (y 0).val = _; rw [e0]; omega
    have i1 : (((cfg0.win 6).blk t).view.emb y 1).val = 128 * (t.val % 8) + (y 1).val := by show win0_6.index t (1 : Fin 3) * 128 + 1 * (y 1).val = _; rw [e1]; omega
    have i2 : (((cfg0.win 6).blk t).view.emb y 2).val = (y 2).val := by show win0_6.index t (2 : Fin 3) * 2048 + 1 * (y 2).val = _; rw [e2]; omega
    show (k0_pay9 (F := Ideal) (total (F := Ideal) (b1 m c t)) (b2 m c t) (b3 m c t) (b4 m c t) : S1x128x2048.Idx → EReal) y = val_main_v30 (F := Ideal) (a0 m c) (a1 m c) (a2 m c) (a3 m c) (a4 m c) (((cfg0.win 6).blk t).view.emb y)
    refine (pay9_apply _ _ _ _ y).trans ?_
    rw [ref_step, total_B m c t (by omega) y _ i0 i1 i2]
    exact congr (congrArg₂ step (congrArg (newM _) (blk3 m c t (ix3 (0 : Fin 1) (y 1) (y 2)) _ i0 i1 i2)) (congrArg (newV _) (blk4 m c t (ix3 (0 : Fin 1) (y 1) (y 2)) _ i0 i1 i2))) (blk2 m c t (ix3 (0 : Fin 1) (y 1) (y 2)) _ i0 i1 i2)

theorem mem_blk6 (t : Fin cfg0.N) (i : S2x1024x2048.Idx) :
    i ∈ ((cfg0.win 6).blk t).view.set ↔ ∀ a, win0_6.index t a * S1x128x2048.size a ≤ (i a).val ∧ (i a).val < win0_6.index t a * S1x128x2048.size a + S1x128x2048.size a := by
  show i ∈ ((View.whole main_v0_1).slice (win0_6.rect t)).set ↔ _
  rw [View.set_slice_whole, Rect.mem_set_unit]

theorem result6 (c : Dev nD) : (dats m 0 c).arrAt 6 cfg0.N = val_main_v30 (F := Ideal) (a0 m c) (a1 m c) (a2 m c) (a3 m c) (a4 m c) :=
  (dats m 0 c).arrAt_eq_of_cover 6 (val_main_v30 (F := Ideal) (a0 m c) (a1 m c) (a2 m c) (a3 m c) (a4 m c)) (fun t _ => flushed6_eq m c t) fun i => by
    have h0 : (i 0).val < 2 := (i 0).isLt
    have h1 : (i 1).val < 1024 := (i 1).isLt
    have h2 : (i 2).val < 2048 := (i 2).isLt
    have ht : 8 * (i 0).val + (i 1).val / 128 < cfg0.N := lt_of_lt_of_eq (by omega) N_0.symm
    obtain ⟨-, -, -, -, -, -, -, -, -, -, -, -, e0, e1, e2, -, -, -, -, -, -, -, hf, -⟩ := idx_in ⟨8 * (i 0).val + (i 1).val / 128, ht⟩
    refine ⟨⟨8 * (i 0).val + (i 1).val / 128, ht⟩, hf, (mem_blk6 _ i).2 fun a => ?_⟩
    match a with
    | ⟨0, _⟩ =>
      show win0_6.index _ (0 : Fin 3) * 1 ≤ (i 0).val ∧ (i 0).val < win0_6.index _ (0 : Fin 3) * 1 + 1
      rw [e0]
      show ((8 * (i 0).val + (i 1).val / 128) / 8) * 1 ≤ (i 0).val ∧ (i 0).val < ((8 * (i 0).val + (i 1).val / 128) / 8) * 1 + 1
      omega
    | ⟨1, _⟩ =>
      show win0_6.index _ (1 : Fin 3) * 128 ≤ (i 1).val ∧ (i 1).val < win0_6.index _ (1 : Fin 3) * 128 + 128
      rw [e1]
      show ((8 * (i 0).val + (i 1).val / 128) % 8) * 128 ≤ (i 1).val ∧ (i 1).val < ((8 * (i 0).val + (i 1).val / 128) % 8) * 128 + 128
      omega
    | ⟨2, _⟩ =>
      show win0_6.index _ (2 : Fin 3) * 2048 ≤ (i 2).val ∧ (i 2).val < win0_6.index _ (2 : Fin 3) * 2048 + 2048
      rw [e2]
      show (0) * 2048 ≤ (i 2).val ∧ (i 2).val < (0) * 2048 + 2048
      omega

theorem flushed7_eq (c : Dev nD) (t : Fin cfg0.N) :
    (dats m 0 c).flushed 7 t = ((cfg0.win 7).blk t).view.read (Elt Ideal) (val_main_v11 (F := Ideal) (a0 m c) (a1 m c) (a3 m c)) := by
  have ht : t.val < 16 := t.isLt.trans_eq N_0
  obtain ⟨-, -, -, -, -, -, -, -, -, -, -, -, -, -, -, e0, e1, e2, -⟩ := idx_in t
  by_cases h0 : t.val < 8
  · rw [flushed7_A m c t h0 (by omega), out7_A]
    funext y
    have hy : (y 0).val < 1 := (y 0).isLt
    have i0 : (((cfg0.win 7).blk t).view.emb y 0).val = t.val / 8 := by show win0_7.index t (0 : Fin 3) * 1 + 1 * (y 0).val = _; rw [e0]; omega
    have i1 : (((cfg0.win 7).blk t).view.emb y 1).val = 128 * (t.val % 8) + (y 1).val := by show win0_7.index t (1 : Fin 3) * 128 + 1 * (y 1).val = _; rw [e1]; omega
    have i2 : (((cfg0.win 7).blk t).view.emb y 2).val = (y 2).val := by show win0_7.index t (2 : Fin 3) * 2048 + 1 * (y 2).val = _; rw [e2]; omega
    show shapeCast S1x128x2048 (k0_pay7 (F := Ideal) (total (F := Ideal) (b0 m c t)) (b3 m c t) : S128x2048.Idx → EReal) shapeCasts_S128x2048_S1x128x2048 y = val_main_v11 (F := Ideal) (a0 m c) (a1 m c) (a3 m c) (((cfg0.win 7).blk t).view.emb y)
    refine (cast_add _ shapeCasts_S128x2048_S1x128x2048 y).trans ((pay7_apply _ _ (y 1) (y 2)).trans ?_)
    rw [ref_mean]
    exact congrArg₂ newM (total_A m c t h0 y _ i0 i1 i2) (blk3 m c t (ix3 (0 : Fin 1) (y 1) (y 2)) _ i0 i1 i2)
  · rw [flushed7_B m c t h0 (by omega), out7_B]
    funext y
    have hy : (y 0).val < 1 := (y 0).isLt
    have i0 : (((cfg0.win 7).blk t).view.emb y 0).val = t.val / 8 := by show win0_7.index t (0 : Fin 3) * 1 + 1 * (y 0).val = _; rw [e0]; omega
    have i1 : (((cfg0.win 7).blk t).view.emb y 1).val = 128 * (t.val % 8) + (y 1).val := by show win0_7.index t (1 : Fin 3) * 128 + 1 * (y 1).val = _; rw [e1]; omega
    have i2 : (((cfg0.win 7).blk t).view.emb y 2).val = (y 2).val := by show win0_7.index t (2 : Fin 3) * 2048 + 1 * (y 2).val = _; rw [e2]; omega
    show shapeCast S1x128x2048 (k0_pay7 (F := Ideal) (total (F := Ideal) (b1 m c t)) (b3 m c t) : S128x2048.Idx → EReal) shapeCasts_S128x2048_S1x128x2048 y = val_main_v11 (F := Ideal) (a0 m c) (a1 m c) (a3 m c) (((cfg0.win 7).blk t).view.emb y)
    refine (cast_add _ shapeCasts_S128x2048_S1x128x2048 y).trans ((pay7_apply _ _ (y 1) (y 2)).trans ?_)
    rw [ref_mean]
    exact congrArg₂ newM (total_B m c t (by omega) y _ i0 i1 i2) (blk3 m c t (ix3 (0 : Fin 1) (y 1) (y 2)) _ i0 i1 i2)

theorem mem_blk7 (t : Fin cfg0.N) (i : S2x1024x2048.Idx) :
    i ∈ ((cfg0.win 7).blk t).view.set ↔ ∀ a, win0_7.index t a * S1x128x2048.size a ≤ (i a).val ∧ (i a).val < win0_7.index t a * S1x128x2048.size a + S1x128x2048.size a := by
  show i ∈ ((View.whole main_v0_2).slice (win0_7.rect t)).set ↔ _
  rw [View.set_slice_whole, Rect.mem_set_unit]

theorem result7 (c : Dev nD) : (dats m 0 c).arrAt 7 cfg0.N = val_main_v11 (F := Ideal) (a0 m c) (a1 m c) (a3 m c) :=
  (dats m 0 c).arrAt_eq_of_cover 7 (val_main_v11 (F := Ideal) (a0 m c) (a1 m c) (a3 m c)) (fun t _ => flushed7_eq m c t) fun i => by
    have h0 : (i 0).val < 2 := (i 0).isLt
    have h1 : (i 1).val < 1024 := (i 1).isLt
    have h2 : (i 2).val < 2048 := (i 2).isLt
    have ht : 8 * (i 0).val + (i 1).val / 128 < cfg0.N := lt_of_lt_of_eq (by omega) N_0.symm
    obtain ⟨-, -, -, -, -, -, -, -, -, -, -, -, -, -, -, e0, e1, e2, -, -, -, -, -, hf, -⟩ := idx_in ⟨8 * (i 0).val + (i 1).val / 128, ht⟩
    refine ⟨⟨8 * (i 0).val + (i 1).val / 128, ht⟩, hf, (mem_blk7 _ i).2 fun a => ?_⟩
    match a with
    | ⟨0, _⟩ =>
      show win0_7.index _ (0 : Fin 3) * 1 ≤ (i 0).val ∧ (i 0).val < win0_7.index _ (0 : Fin 3) * 1 + 1
      rw [e0]
      show ((8 * (i 0).val + (i 1).val / 128) / 8) * 1 ≤ (i 0).val ∧ (i 0).val < ((8 * (i 0).val + (i 1).val / 128) / 8) * 1 + 1
      omega
    | ⟨1, _⟩ =>
      show win0_7.index _ (1 : Fin 3) * 128 ≤ (i 1).val ∧ (i 1).val < win0_7.index _ (1 : Fin 3) * 128 + 128
      rw [e1]
      show ((8 * (i 0).val + (i 1).val / 128) % 8) * 128 ≤ (i 1).val ∧ (i 1).val < ((8 * (i 0).val + (i 1).val / 128) % 8) * 128 + 128
      omega
    | ⟨2, _⟩ =>
      show win0_7.index _ (2 : Fin 3) * 2048 ≤ (i 2).val ∧ (i 2).val < win0_7.index _ (2 : Fin 3) * 2048 + 2048
      rw [e2]
      show (0) * 2048 ≤ (i 2).val ∧ (i 2).val < (0) * 2048 + 2048
      omega

theorem flushed8_eq (c : Dev nD) (t : Fin cfg0.N) :
    (dats m 0 c).flushed 8 t = ((cfg0.win 8).blk t).view.read (Elt Ideal) (val_main_v17 (F := Ideal) (a0 m c) (a1 m c) (a4 m c)) := by
  have ht : t.val < 16 := t.isLt.trans_eq N_0
  obtain ⟨-, -, -, -, -, -, -, -, -, -, -, -, -, -, -, -, -, -, e0, e1, e2, -⟩ := idx_in t
  by_cases h0 : t.val < 8
  · rw [flushed8_A m c t h0 (by omega), out8_A]
    funext y
    have hy : (y 0).val < 1 := (y 0).isLt
    have i0 : (((cfg0.win 8).blk t).view.emb y 0).val = t.val / 8 := by show win0_8.index t (0 : Fin 3) * 1 + 1 * (y 0).val = _; rw [e0]; omega
    have i1 : (((cfg0.win 8).blk t).view.emb y 1).val = 128 * (t.val % 8) + (y 1).val := by show win0_8.index t (1 : Fin 3) * 128 + 1 * (y 1).val = _; rw [e1]; omega
    have i2 : (((cfg0.win 8).blk t).view.emb y 2).val = (y 2).val := by show win0_8.index t (2 : Fin 3) * 2048 + 1 * (y 2).val = _; rw [e2]; omega
    show shapeCast S1x128x2048 (k0_pay8 (F := Ideal) (total (F := Ideal) (b0 m c t)) (b4 m c t) : S128x2048.Idx → EReal) shapeCasts_S128x2048_S1x128x2048 y = val_main_v17 (F := Ideal) (a0 m c) (a1 m c) (a4 m c) (((cfg0.win 8).blk t).view.emb y)
    refine (cast_add _ shapeCasts_S128x2048_S1x128x2048 y).trans ((pay8_apply _ _ (y 1) (y 2)).trans ?_)
    rw [ref_square]
    exact congrArg₂ newV (total_A m c t h0 y _ i0 i1 i2) (blk4 m c t (ix3 (0 : Fin 1) (y 1) (y 2)) _ i0 i1 i2)
  · rw [flushed8_B m c t h0 (by omega), out8_B]
    funext y
    have hy : (y 0).val < 1 := (y 0).isLt
    have i0 : (((cfg0.win 8).blk t).view.emb y 0).val = t.val / 8 := by show win0_8.index t (0 : Fin 3) * 1 + 1 * (y 0).val = _; rw [e0]; omega
    have i1 : (((cfg0.win 8).blk t).view.emb y 1).val = 128 * (t.val % 8) + (y 1).val := by show win0_8.index t (1 : Fin 3) * 128 + 1 * (y 1).val = _; rw [e1]; omega
    have i2 : (((cfg0.win 8).blk t).view.emb y 2).val = (y 2).val := by show win0_8.index t (2 : Fin 3) * 2048 + 1 * (y 2).val = _; rw [e2]; omega
    show shapeCast S1x128x2048 (k0_pay8 (F := Ideal) (total (F := Ideal) (b1 m c t)) (b4 m c t) : S128x2048.Idx → EReal) shapeCasts_S128x2048_S1x128x2048 y = val_main_v17 (F := Ideal) (a0 m c) (a1 m c) (a4 m c) (((cfg0.win 8).blk t).view.emb y)
    refine (cast_add _ shapeCasts_S128x2048_S1x128x2048 y).trans ((pay8_apply _ _ (y 1) (y 2)).trans ?_)
    rw [ref_square]
    exact congrArg₂ newV (total_B m c t (by omega) y _ i0 i1 i2) (blk4 m c t (ix3 (0 : Fin 1) (y 1) (y 2)) _ i0 i1 i2)

theorem mem_blk8 (t : Fin cfg0.N) (i : S2x1024x2048.Idx) :
    i ∈ ((cfg0.win 8).blk t).view.set ↔ ∀ a, win0_8.index t a * S1x128x2048.size a ≤ (i a).val ∧ (i a).val < win0_8.index t a * S1x128x2048.size a + S1x128x2048.size a := by
  show i ∈ ((View.whole main_v0_3).slice (win0_8.rect t)).set ↔ _
  rw [View.set_slice_whole, Rect.mem_set_unit]

theorem result8 (c : Dev nD) : (dats m 0 c).arrAt 8 cfg0.N = val_main_v17 (F := Ideal) (a0 m c) (a1 m c) (a4 m c) :=
  (dats m 0 c).arrAt_eq_of_cover 8 (val_main_v17 (F := Ideal) (a0 m c) (a1 m c) (a4 m c)) (fun t _ => flushed8_eq m c t) fun i => by
    have h0 : (i 0).val < 2 := (i 0).isLt
    have h1 : (i 1).val < 1024 := (i 1).isLt
    have h2 : (i 2).val < 2048 := (i 2).isLt
    have ht : 8 * (i 0).val + (i 1).val / 128 < cfg0.N := lt_of_lt_of_eq (by omega) N_0.symm
    obtain ⟨-, -, -, -, -, -, -, -, -, -, -, -, -, -, -, -, -, -, e0, e1, e2, -, -, -, hf⟩ := idx_in ⟨8 * (i 0).val + (i 1).val / 128, ht⟩
    refine ⟨⟨8 * (i 0).val + (i 1).val / 128, ht⟩, hf, (mem_blk8 _ i).2 fun a => ?_⟩
    match a with
    | ⟨0, _⟩ =>
      show win0_8.index _ (0 : Fin 3) * 1 ≤ (i 0).val ∧ (i 0).val < win0_8.index _ (0 : Fin 3) * 1 + 1
      rw [e0]
      show ((8 * (i 0).val + (i 1).val / 128) / 8) * 1 ≤ (i 0).val ∧ (i 0).val < ((8 * (i 0).val + (i 1).val / 128) / 8) * 1 + 1
      omega
    | ⟨1, _⟩ =>
      show win0_8.index _ (1 : Fin 3) * 128 ≤ (i 1).val ∧ (i 1).val < win0_8.index _ (1 : Fin 3) * 128 + 128
      rw [e1]
      show ((8 * (i 0).val + (i 1).val / 128) % 8) * 128 ≤ (i 1).val ∧ (i 1).val < ((8 * (i 0).val + (i 1).val / 128) % 8) * 128 + 128
      omega
    | ⟨2, _⟩ =>
      show win0_8.index _ (2 : Fin 3) * 2048 ≤ (i 2).val ∧ (i 2).val < win0_8.index _ (2 : Fin 3) * 2048 + 2048
      rw [e2]
      show (0) * 2048 ≤ (i 2).val ∧ (i 2).val < (0) * 2048 + 2048
      omega

end Cert.SumAdamWinIdeal.Sum
-- ==== Proof.SmallAdam.lean ====
/-
  The optimiser's step on the small parameters, which lie side by side in one array of eight rows: the devices' gradient parts are summed
  and the running means and the step are made from the sum. One entry of the sum is the loss, before it is halved and divided by the width.
-/
module

public import proofs.«01_k».proof.Proof.Adam
public import proofs.«01_k».proof.Proof.Gen.SmallAdamIdeal.Frame
public import proofs.«01_k».proof.Proof.Gen.SmallAdamRefIdeal.Read
public import Idealize.ShloMosaic.Lib.Pipeline.Value
public import Idealize.ShloMosaic.Lib.Tactic
public import Idealize.ShloMosaic.Lib.Claim

@[expose] public section

set_option maxRecDepth 16384

noncomputable section

namespace Cert.SmallAdamIdeal.Sum

open Cert.Common Cert.Adam Cert.SmallAdamIdeal Cert.SmallAdamIdeal.Gen Cert.SmallAdamRefIdeal.Read
open Idealize.ShloMosaic Idealize.ShloMosaic.TcCoe Idealize.ShloMosaic.ValueIdx Idealize.SL.Sem
open Idealize.ShloMosaic.Pipeline (Dat)

/-! ## What the kernel stores -/

/-- The sum of the eight parts. -/
def total (x : S8x8x2304.Idx → EReal) : S8x2304.Idx → EReal :=
  k0_pay4 (F := Ideal) (partOf (Val := Elt Ideal) (e := .f32) 0 x) (partOf (Val := Elt Ideal) (e := .f32) 1 x) (partOf (Val := Elt Ideal) (e := .f32) 2 x)
    (partOf (Val := Elt Ideal) (e := .f32) 3 x) (partOf (Val := Elt Ideal) (e := .f32) 4 x) (partOf (Val := Elt Ideal) (e := .f32) 5 x)
    (partOf (Val := Elt Ideal) (e := .f32) 6 x) (partOf (Val := Elt Ideal) (e := .f32) 7 x)

variable (x0 : S8x8x2304.Idx → EReal) (x1 x2 x3 : S8x2304.Idx → EReal)

theorem ld0 : View.ld (Val := Elt Ideal) (e' := .f32) x0 r0_0 = partOf (Val := Elt Ideal) (e := .f32) 0 x0 :=
  ld_part (Val := Elt Ideal) (e := .f32) (R := 8) (C := 2304) x0 0 (by decide) inb_S8x8x2304_S1x8x2304_0_0_0
theorem ld1 : View.ld (Val := Elt Ideal) (e' := .f32) x0 r0_1 = partOf (Val := Elt Ideal) (e := .f32) 1 x0 :=
  ld_part (Val := Elt Ideal) (e := .f32) (R := 8) (C := 2304) x0 1 (by decide) inb_S8x8x2304_S1x8x2304_1_0_0
theorem ld2 : View.ld (Val := Elt Ideal) (e' := .f32) x0 r0_2 = partOf (Val := Elt Ideal) (e := .f32) 2 x0 :=
  ld_part (Val := Elt Ideal) (e := .f32) (R := 8) (C := 2304) x0 2 (by decide) inb_S8x8x2304_S1x8x2304_2_0_0
theorem ld3 : View.ld (Val := Elt Ideal) (e' := .f32) x0 r0_3 = partOf (Val := Elt Ideal) (e := .f32) 3 x0 :=
  ld_part (Val := Elt Ideal) (e := .f32) (R := 8) (C := 2304) x0 3 (by decide) inb_S8x8x2304_S1x8x2304_3_0_0
theorem ld4 : View.ld (Val := Elt Ideal) (e' := .f32) x0 r0_4 = partOf (Val := Elt Ideal) (e := .f32) 4 x0 :=
  ld_part (Val := Elt Ideal) (e := .f32) (R := 8) (C := 2304) x0 4 (by decide) inb_S8x8x2304_S1x8x2304_4_0_0
theorem ld5 : View.ld (Val := Elt Ideal) (e' := .f32) x0 r0_5 = partOf (Val := Elt Ideal) (e := .f32) 5 x0 :=
  ld_part (Val := Elt Ideal) (e := .f32) (R := 8) (C := 2304) x0 5 (by decide) inb_S8x8x2304_S1x8x2304_5_0_0
theorem ld6 : View.ld (Val := Elt Ideal) (e' := .f32) x0 r0_6 = partOf (Val := Elt Ideal) (e := .f32) 6 x0 :=
  ld_part (Val := Elt Ideal) (e := .f32) (R := 8) (C := 2304) x0 6 (by decide) inb_S8x8x2304_S1x8x2304_6_0_0
theorem ld7 : View.ld (Val := Elt Ideal) (e' := .f32) x0 r0_7 = partOf (Val := Elt Ideal) (e := .f32) 7 x0 :=
  ld_part (Val := Elt Ideal) (e := .f32) (R := 8) (C := 2304) x0 7 (by decide) inb_S8x8x2304_S1x8x2304_7_0_0

theorem pay5_total : k0_pay5 (F := Ideal) x0 x1 x2 x3 = total x0 := by
  unfold k0_pay5
  rw [ld0, ld1, ld2, ld3, ld4, ld5, ld6, ld7]
  rfl

theorem stored4 : out0_4 (F := Ideal) x0 x1 x2 x3 = total x0 := by
  unfold out0_4
  rw [View.canon_unit_zero (S := S8x2304) zero2]
  rw [ld0, ld1, ld2, ld3, ld4, ld5, ld6, ld7]
  rfl

theorem stored5 : out0_5 (F := Ideal) x0 x1 x2 x3 = k0_pay3 (F := Ideal) (total x0) x1 x2 x3 := by
  unfold out0_5
  rw [View.canon_unit_zero (S := S8x2304) zero2, pay5_total, View.ld_unit_zero (S := S8x2304) zero2, View.ld_unit_zero (S := S8x2304) zero2, View.ld_unit_zero (S := S8x2304) zero2]

theorem stored6 : out0_6 (F := Ideal) x0 x1 x2 x3 = k0_pay1 (F := Ideal) (total x0) x2 := by
  unfold out0_6
  rw [View.canon_unit_zero (S := S8x2304) zero2, pay5_total, View.ld_unit_zero (S := S8x2304) zero2]

theorem stored7 : out0_7 (F := Ideal) x0 x1 x2 x3 = k0_pay2 (F := Ideal) (total x0) x3 := by
  unfold out0_7
  rw [View.canon_unit_zero (S := S8x2304) zero2, pay5_total, View.ld_unit_zero (S := S8x2304) zero2]

theorem total_apply (i : S8x2304.Idx) : total x0 i = ∑ k : Fin 8, x0 (ix3 (n0 := 8) (n1 := 8) (n2 := 2304) k (i 0) (i 1)) := by
  have h : ∀ k : Fin 8, (shapeCast S8x2304 (partOf (Val := Elt Ideal) (e := .f32) k x0 : S1x8x2304.Idx → EReal) shapeCasts_S1x8x2304_S8x2304 : S8x2304.Idx → EReal) i
      = x0 (ix3 (n0 := 8) (n1 := 8) (n2 := 2304) k (i 0) (i 1)) := fun k =>
    (congrArg _ (eq_ix2 i)).trans (cast_drop (partOf (Val := Elt Ideal) (e := .f32) k x0 : S1x8x2304.Idx → EReal) _ (i 0) (i 1))
  refine Eq.trans ?_ (sum_eight fun k => x0 (ix3 (n0 := 8) (n1 := 8) (n2 := 2304) k (i 0) (i 1)))
  rw [← h 0, ← h 1, ← h 2, ← h 3, ← h 4, ← h 5, ← h 6, ← h 7]
  rfl

/-! ## The results -/

theorem grad_eq : val_main_v6 (F := Ideal) x0 = total x0 := by
  funext i
  rw [total_apply, val_main_v6_apply]
  refine (congrArg (fun z : EReal => z + _) Ideal.ofBits_zero_f32).trans ((zero_add _).trans (Finset.sum_congr rfl fun k _ => congrArg x0 (funext fun b => Fin.ext ?_)))
  match b with
  | ⟨0, _⟩ => rfl
  | ⟨1, _⟩ => rfl
  | ⟨2, _⟩ => rfl

theorem mean_eq : val_main_v11 (F := Ideal) x0 x2 = k0_pay1 (F := Ideal) (total x0) x2 := by
  funext i
  rw [val_main_v11_apply, val_main_v8_apply, val_main_v7_apply, val_main_v10_apply, val_main_v9_apply, grad_eq]
  rfl

theorem square_eq : val_main_v17 (F := Ideal) x0 x3 = k0_pay2 (F := Ideal) (total x0) x3 := by
  funext i
  rw [val_main_v17_apply, val_main_v13_apply, val_main_v12_apply, val_main_v16_apply, val_main_v15_apply, val_main_v14_apply, grad_eq]
  rfl

theorem step_eq : val_main_v30 (F := Ideal) x0 x1 x2 x3 = k0_pay3 (F := Ideal) (total x0) x1 x2 x3 := by
  funext i
  simp only [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply]
  rw [mean_eq, square_eq]
  rfl

/-- What the last lines make of the summed array: half the entry that holds the loss, divided by the width. -/
def loss (g : S8x2304.Idx → EReal) : S_.Idx → EReal :=
  Host.divf (F := Ideal) (mulf (F := Ideal) (constant (F := Ideal) S_ .f32 0x3F000000#32)
    (shapeCast S_ (extractStridedSlice S1 ![18176] (shapeCast S18432 g shapeCasts_S8x2304_S18432) slices_S18432_S1_18176) shapeCasts_S1_S_)) (constant (F := Ideal) S_ .f32 0x44800000#32)

/-- The loss lies in the last row, at column 2048. -/
abbrev spot : S8x2304.Idx := ix2 (n0 := 8) (n1 := 2304) 7 2048

theorem entry (g : S8x2304.Idx → EReal) (i : S_.Idx) :
    (shapeCast S_ (extractStridedSlice S1 ![18176] (shapeCast S18432 g shapeCasts_S8x2304_S18432) slices_S18432_S1_18176) shapeCasts_S1_S_ : S_.Idx → EReal) i = g spot := by
  refine (shapeCast_apply _ shapeCasts_S1_S_ i (ix1 (0 : Fin 1)) ?_).trans ((extractStridedSlice_apply _ _ slices_S18432_S1_18176 _ (ix1 (⟨18176, by decide⟩ : Fin 18432)) fun a => ?_).trans (shapeCast_apply g shapeCasts_S8x2304_S18432 _ spot ?_))
  · rw [Shape.rowMajor_val_one]
    exact (Nat.lt_one_iff.mp (S_.rowMajor i).isLt).symm
  · match a with
    | ⟨0, _⟩ => rfl
  · rw [Shape.rowMajor_val_two, Shape.rowMajor_val_one]
    rfl

theorem ref_part (j : SmallAdamRefIdeal.S8.Idx) : val_main_v2 (F := Ideal) x0 j = x0 (ix3 (n0 := 8) (n1 := 8) (n2 := 2304) (j 0) 7 2048) := by
  rw [val_main_v2_apply, val_main_v1_apply, val_main_v0_apply]
  refine congrArg x0 (funext fun a => Fin.ext ?_)
  have h : (j 0).val < 8 := (j 0).isLt
  match a with
  | ⟨0, _⟩ => show ((j 0).val / 1 * 18432 + (18176 + 0)) / 18432 = (j 0).val; omega
  | ⟨1, _⟩ => show ((j 0).val / 1 * 18432 + (18176 + 0)) / 2304 % 8 = 7; omega
  | ⟨2, _⟩ => show ((j 0).val / 1 * 18432 + (18176 + 0)) % 2304 = 2048; omega

theorem ref_sum (i : S_.Idx) : val_main_v3 (F := Ideal) x0 i = total x0 spot := by
  rw [val_main_v3_apply, total_apply]
  refine (congrArg (fun z : EReal => z + _) Ideal.ofBits_zero_f32).trans ((zero_add _).trans ?_)
  exact Fintype.sum_equiv ⟨fun j : SmallAdamRefIdeal.S8.Idx => (j 0 : Fin 8), fun k => ix1 k, fun j => (eq_ix1 j).symm, fun k => rfl⟩ _ _ fun j => ref_part x0 j

theorem loss_eq : val_main_v5 (F := Ideal) x0 = loss (total x0) := by
  funext i
  rw [val_main_v5_apply, val_main_v4_apply, ref_sum, ← entry (total x0) i]
  rfl

/-! ## The run -/

variable (m : (ℓ : Loc nD τ sig) → Buf (Elt Ideal) ℓ) (ρ : Dev nD → PrngReg)

abbrev a0 (c : Dev nD) : S8x8x2304.Idx → EReal := m ((c : Thread nD τ).loc main_arg0)
abbrev a1 (c : Dev nD) : S8x2304.Idx → EReal := m ((c : Thread nD τ).loc main_arg1)
abbrev a2 (c : Dev nD) : S8x2304.Idx → EReal := m ((c : Thread nD τ).loc main_arg2)
abbrev a3 (c : Dev nD) : S8x2304.Idx → EReal := m ((c : Thread nD τ).loc main_arg3)

/-- The one block of each array begins at its origin. -/
theorem origin : ∀ t : Fin cfg0.N, (∀ a : Fin 3, win0_0.index t a = 0) ∧ ∀ a : Fin 2, win0_1.index t a = 0 ∧ win0_2.index t a = 0 ∧ win0_3.index t a = 0
    ∧ win0_4.index t a = 0 ∧ win0_5.index t a = 0 ∧ win0_6.index t a = 0 ∧ win0_7.index t a = 0 :=
  (by decide +kernel : ∀ t : Fin grid0.N, _)

/-- An index whose coordinates are a block's, counted from the origin, is the block's index. -/
theorem same (j k : S8x2304.Idx) (f : Fin 2 → ℕ) (hf : ∀ a, f a = 0) (h0 : (k 0).val = f 0 * 8 + 1 * (j 0).val) (h1 : (k 1).val = f 1 * 2304 + 1 * (j 1).val) : k = j := by
  have := hf 0
  have := hf 1
  funext a
  match a with
  | ⟨0, _⟩ => exact Fin.ext (by show (k 0).val = (j 0).val; omega)
  | ⟨1, _⟩ => exact Fin.ext (by show (k 1).val = (j 1).val; omega)

theorem blk0 (c : Dev nD) (t : Fin cfg0.N) : iblk m c 0 t = a0 m c := by
  have h := (origin t).1
  have h0 := h 0
  have h1 := h 1
  have h2 := h 2
  funext (j : S8x8x2304.Idx)
  refine congrArg (a0 m c) (funext fun a => Fin.ext ?_)
  match a with
  | ⟨0, _⟩ => show win0_0.index t (0 : Fin 3) * 8 + 1 * (j 0).val = (j 0).val; omega
  | ⟨1, _⟩ => show win0_0.index t (1 : Fin 3) * 8 + 1 * (j 1).val = (j 1).val; omega
  | ⟨2, _⟩ => show win0_0.index t (2 : Fin 3) * 2304 + 1 * (j 2).val = (j 2).val; omega

theorem blk1 (c : Dev nD) (t : Fin cfg0.N) : iblk m c 1 t = a1 m c :=
  funext fun j : S8x2304.Idx => congrArg (a1 m c) (same j (((cfg0.win 1).blk t).view.emb j) (win0_1.index t) (fun a => ((origin t).2 a).1) rfl rfl)

theorem blk2 (c : Dev nD) (t : Fin cfg0.N) : iblk m c 2 t = a2 m c :=
  funext fun j : S8x2304.Idx => congrArg (a2 m c) (same j (((cfg0.win 2).blk t).view.emb j) (win0_2.index t) (fun a => ((origin t).2 a).2.1) rfl rfl)

theorem blk3 (c : Dev nD) (t : Fin cfg0.N) : iblk m c 3 t = a3 m c :=
  funext fun j : S8x2304.Idx => congrArg (a3 m c) (same j (((cfg0.win 3).blk t).view.emb j) (win0_3.index t) (fun a => ((origin t).2 a).2.2.1) rfl rfl)

theorem result4 (c : Dev nD) : (dats m 0 c).arrAt 4 cfg0.N = val_main_v6 (F := Ideal) (a0 m c) :=
  have e (t : Fin cfg0.N) (j : S8x2304.Idx) : ((cfg0.win 4).blk t).view.emb j = j := same j _ (win0_4.index t) (fun a => ((origin t).2 a).2.2.2.1) rfl rfl
  (dats m 0 c).arrAt_eq_of_cover 4 (val_main_v6 (F := Ideal) (a0 m c))
    (fun t _ => by
      show (cfg0.win 4).cut (grid0.coords t) ((dats m 0 c).after 4 t) = _
      rw [after0_4, blk0, blk1, blk2, blk3, stored4, ← grad_eq]
      funext (j : S8x2304.Idx)
      exact congrArg (val_main_v6 (F := Ideal) (a0 m c)) (e t j).symm)
    fun (i : S8x2304.Idx) => ⟨⟨0, by decide⟩, flush0_4 _, by
      have h := ((cfg0.win 4).blk (⟨0, by decide⟩ : Fin cfg0.N)).view.emb_mem_set i
      rwa [e] at h⟩

theorem result5 (c : Dev nD) : (dats m 0 c).arrAt 5 cfg0.N = val_main_v30 (F := Ideal) (a0 m c) (a1 m c) (a2 m c) (a3 m c) :=
  have e (t : Fin cfg0.N) (j : S8x2304.Idx) : ((cfg0.win 5).blk t).view.emb j = j := same j _ (win0_5.index t) (fun a => ((origin t).2 a).2.2.2.2.1) rfl rfl
  (dats m 0 c).arrAt_eq_of_cover 5 (val_main_v30 (F := Ideal) (a0 m c) (a1 m c) (a2 m c) (a3 m c))
    (fun t _ => by
      show (cfg0.win 5).cut (grid0.coords t) ((dats m 0 c).after 5 t) = _
      rw [after0_5, blk0, blk1, blk2, blk3, stored5, ← step_eq]
      funext (j : S8x2304.Idx)
      exact congrArg (val_main_v30 (F := Ideal) (a0 m c) (a1 m c) (a2 m c) (a3 m c)) (e t j).symm)
    fun (i : S8x2304.Idx) => ⟨⟨0, by decide⟩, flush0_5 _, by
      have h := ((cfg0.win 5).blk (⟨0, by decide⟩ : Fin cfg0.N)).view.emb_mem_set i
      rwa [e] at h⟩

theorem result6 (c : Dev nD) : (dats m 0 c).arrAt 6 cfg0.N = val_main_v11 (F := Ideal) (a0 m c) (a2 m c) :=
  have e (t : Fin cfg0.N) (j : S8x2304.Idx) : ((cfg0.win 6).blk t).view.emb j = j := same j _ (win0_6.index t) (fun a => ((origin t).2 a).2.2.2.2.2.1) rfl rfl
  (dats m 0 c).arrAt_eq_of_cover 6 (val_main_v11 (F := Ideal) (a0 m c) (a2 m c))
    (fun t _ => by
      show (cfg0.win 6).cut (grid0.coords t) ((dats m 0 c).after 6 t) = _
      rw [after0_6, blk0, blk1, blk2, blk3, stored6, ← mean_eq]
      funext (j : S8x2304.Idx)
      exact congrArg (val_main_v11 (F := Ideal) (a0 m c) (a2 m c)) (e t j).symm)
    fun (i : S8x2304.Idx) => ⟨⟨0, by decide⟩, flush0_6 _, by
      have h := ((cfg0.win 6).blk (⟨0, by decide⟩ : Fin cfg0.N)).view.emb_mem_set i
      rwa [e] at h⟩

theorem result7 (c : Dev nD) : (dats m 0 c).arrAt 7 cfg0.N = val_main_v17 (F := Ideal) (a0 m c) (a3 m c) :=
  have e (t : Fin cfg0.N) (j : S8x2304.Idx) : ((cfg0.win 7).blk t).view.emb j = j := same j _ (win0_7.index t) (fun a => ((origin t).2 a).2.2.2.2.2.2) rfl rfl
  (dats m 0 c).arrAt_eq_of_cover 7 (val_main_v17 (F := Ideal) (a0 m c) (a3 m c))
    (fun t _ => by
      show (cfg0.win 7).cut (grid0.coords t) ((dats m 0 c).after 7 t) = _
      rw [after0_7, blk0, blk1, blk2, blk3, stored7, ← square_eq]
      funext (j : S8x2304.Idx)
      exact congrArg (val_main_v17 (F := Ideal) (a0 m c) (a3 m c)) (e t j).symm)
    fun (i : S8x2304.Idx) => ⟨⟨0, by decide⟩, flush0_7 _, by
      have h := ((cfg0.win 7).blk (⟨0, by decide⟩ : Fin cfg0.N)).view.emb_mem_set i
      rwa [e] at h⟩

theorem last (c : Dev nD) : Pipeline.afterTail₀ cfgs (dats m) 0 (V0 m) [hostOps1] c main_v5 = loss ((dats m 0 c).arrAt 4 cfg0.N) := by
  unfold Pipeline.afterTail₀
  rw [← Pipeline.withArrays_arr spec0 (by decide) c (V0 m c) (fun w => (dats m 0 c).arrAt w cfg0.N) 4]
  after_results_simp
  rfl

theorem result_loss (c : Dev nD) : Pipeline.afterTail₀ cfgs (dats m) 0 (V0 m) [hostOps1] c main_v5 = val_main_v5 (F := Ideal) (a0 m c) :=
  (last m c).trans ((congrArg loss ((result4 m c).trans (grad_eq _))).trans (loss_eq _).symm)

theorem run : θ_run defs (onTc (τ := τ) (main (F := Ideal))) ⟨m, fun _ => 0, ρ⟩ fun r => ∀ c : Dev nD,
      r.2.mem ((c : Thread nD τ).loc main_v5) = val_main_v5 (F := Ideal) (a0 m c)
      ∧ r.2.mem ((c : Thread nD τ).loc main_v0_0) = val_main_v6 (F := Ideal) (a0 m c)
      ∧ r.2.mem ((c : Thread nD τ).loc main_v0_1) = val_main_v30 (F := Ideal) (a0 m c) (a1 m c) (a2 m c) (a3 m c)
      ∧ r.2.mem ((c : Thread nD τ).loc main_v0_2) = val_main_v11 (F := Ideal) (a0 m c) (a2 m c)
      ∧ r.2.mem ((c : Thread nD τ).loc main_v0_3) = val_main_v17 (F := Ideal) (a0 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).2 main_v5 (Pipeline.mem_restRefs_of main_v5 (by decide) (by decide))).trans (result_loss m c),
      ((h c).1 4).trans (result4 m c), ((h c).1 5).trans (result5 m c), ((h c).1 6).trans (result6 m c), ((h c).1 7).trans (result7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.SmallAdamIdeal.Sum
-- ==== Proof.Rows.lean ====
/-
  Sums along the rows and columns of a matrix, and the modulated root-mean-square norm of a row, as the kernels compute them.
-/
module

public import proofs.«01_k».proof.Proof.Common
public import Idealize.ShloMosaic.Lib.ValueLayoutCasts
public import Idealize.ShloMosaic.Lib.Tactic
public import Idealize.ShloMosaic.Lib.Claim

@[expose] public section

noncomputable section

namespace Cert.Rows

open Cert.Common Idealize.ShloMosaic Idealize.ShloMosaic.ValueIdx

abbrev Mat (R C : ℕ) : Shape := ⟨2, ![R, C]⟩
abbrev Lst (R : ℕ) : Shape := ⟨1, ![R]⟩

/-- Two matrices with the same entries are equal. -/
theorem on_ix2 {α : Type} {n0 n1 : ℕ} {f g : (Mat n0 n1).Idx → α} (h : ∀ (r : Fin n0) (q : Fin n1), f (ix2 r q) = g (ix2 r q)) : f = g :=
  funext fun i => by
    have e : i = ix2 (i 0) (i 1) := funext fun a => Fin.ext (match a with
      | ⟨0, _⟩ => rfl
      | ⟨1, _⟩ => rfl)
    rw [e]
    exact h _ _

/-- A sum along the rows, at a row. -/
theorem row_sum {R C : ℕ} (v : FVec Ideal (Mat R C) .f32) (h : (Mat R C).Reduces [1] (Lst R)) (hφ : FKind.Formats .f32)
    (hacc : (0x00000000#32 : BitVec 32) = FKind.add.neutral .f32 hφ) (r : Fin R) :
    multiReduction .add [1] (Lst R) v 0x00000000#32 h hφ hacc (ix1 r) = ∑ k : Fin C, v (ix2 r k) := by
  refine (Ideal.multiReduction_add_single v _ h hφ hacc (ix1 r)).trans (Finset.sum_congr rfl fun k _ => congrArg v (funext fun a => Fin.ext ?_))
  match a with
  | ⟨0, _⟩ => rfl
  | ⟨1, _⟩ => rfl

/-- A sum down the columns, at a column. -/
theorem col_sum {R C : ℕ} (v : FVec Ideal (Mat R C) .f32) (h : (Mat R C).Reduces [0] (Lst C)) (hφ : FKind.Formats .f32)
    (hacc : (0x00000000#32 : BitVec 32) = FKind.add.neutral .f32 hφ) (q : Fin C) :
    multiReduction .add [0] (Lst C) v 0x00000000#32 h hφ hacc (ix1 q) = ∑ k : Fin R, v (ix2 k q) := by
  refine (Ideal.multiReduction_add_single v _ h hφ hacc (ix1 q)).trans (Finset.sum_congr rfl fun k _ => congrArg v (funext fun a => Fin.ext ?_))
  match a with
  | ⟨0, _⟩ => rfl
  | ⟨1, _⟩ => rfl

/-- A list laid out as one row. -/
theorem cast_row {α : Type} {C : ℕ} (x : (Lst C).Idx → α) (h : (Lst C).ShapeCasts (Mat 1 C)) (u : Fin 1) (q : Fin C) :
    shapeCast (Mat 1 C) x h (ix2 u q) = x (ix1 q) :=
  shapeCast_apply x h _ _ (by
    have hu : u.val = 0 := by omega
    rw [Shape.rowMajor_val_two, Shape.rowMajor_val_one]
    show q.val = u.val * C + q.val
    rw [hu]; omega)

/-- One column spread over many. -/
theorem col_spread {α : Type} {R C : ℕ} (v : (Mat R 1).Idx → α) (h : (Mat R 1).Broadcasts (Mat R C)) (r : Fin R) (q : Fin C) :
    broadcastTo (Mat R C) v h (ix2 r q) = v (ix2 r (0 : Fin 1)) := by
  refine broadcastTo_apply v h (ix2 r q) (ix2 r (0 : Fin 1)) fun ax => ?_
  match ax with
  | ⟨0, _⟩ =>
    show r.val = if R = 1 then 0 else r.val
    split
    · omega
    · rfl
  | ⟨1, _⟩ => rfl

/-- A row's sum, as a column. -/
theorem row_total {R C : ℕ} (v : FVec Ideal (Mat R C) .f32) (h : (Mat R C).Reduces [1] (Lst R)) (hφ : FKind.Formats .f32)
    (hacc : (0x00000000#32 : BitVec 32) = FKind.add.neutral .f32 hφ) (hc : (Lst R).ShapeCasts (Mat R 1)) (r : Fin R) :
    shapeCast (Mat R 1) (multiReduction .add [1] (Lst R) v 0x00000000#32 h hφ hacc) hc (ix2 r (0 : Fin 1)) = ∑ k : Fin C, v (ix2 r k) :=
  (shapeCast_a_a1_apply _ hc r 0).trans (row_sum v h hφ hacc r)

/-- A column's sum, as a row. -/
theorem col_total {R C : ℕ} (v : FVec Ideal (Mat R C) .f32) (h : (Mat R C).Reduces [0] (Lst C)) (hφ : FKind.Formats .f32)
    (hacc : (0x00000000#32 : BitVec 32) = FKind.add.neutral .f32 hφ) (hc : (Lst C).ShapeCasts (Mat 1 C)) (u : Fin 1) (q : Fin C) :
    shapeCast (Mat 1 C) (multiReduction .add [0] (Lst C) v 0x00000000#32 h hφ hacc) hc (ix2 u q) = ∑ k : Fin R, v (ix2 k q) :=
  (cast_row _ hc u q).trans (col_sum v h hφ hacc q)

/-- The float 1024, and the float nearest to one millionth. -/
abbrev n1024 : EReal := FloatOps.ofBits (F := Ideal) .f32 0x44800000#32
abbrev eps : EReal := FloatOps.ofBits (F := Ideal) .f32 0x358637BD#32

/-- One over the root of a row's mean square. -/
def rms (x : Fin 1024 → EReal) : EReal := Ideal.rsqrt (Ideal.div (∑ k, x k * x k) n1024 + eps)

/-- Entry `q` of the modulated norm of row `x`. -/
def modl (x : Fin 1024 → EReal) (g sc sh : EReal) (q : Fin 1024) : EReal :=
  x q * rms x * g * (FloatOps.ofBits (F := Ideal) .f32 0x3F800000#32 + sc) + sh

theorem rms_apply {R : ℕ} (v : FVec Ideal (Mat R 1024) .f32) (h : (Mat R 1024).Reduces [1] (Lst R)) (hφ : FKind.Formats .f32)
    (hacc : (0x00000000#32 : BitVec 32) = FKind.add.neutral .f32 hφ) (hc : (Lst R).ShapeCasts (Mat R 1)) (r : Fin R) :
    rsqrt (addf (divf (shapeCast (Mat R 1) (multiReduction .add [1] (Lst R) (mulf v v) 0x00000000#32 h hφ hacc) hc)
      (broadcast (Mat R 1) (Scalar.ofBits (F := Ideal) .f32 0x44800000#32))) (broadcast (Mat R 1) (Scalar.ofBits (F := Ideal) .f32 0x358637BD#32))) (ix2 r (0 : Fin 1))
      = rms (fun k => v (ix2 r k)) :=
  congrArg (fun z : EReal => Ideal.rsqrt (Ideal.div z n1024 + eps)) (row_total (mulf v v) h hφ hacc hc r)

theorem modl_apply {R : ℕ} (v : FVec Ideal (Mat R 1024) .f32) (g sc sh : FVec Ideal (Mat 1 1024) .f32) (h : (Mat R 1024).Reduces [1] (Lst R)) (hφ : FKind.Formats .f32)
    (hacc : (0x00000000#32 : BitVec 32) = FKind.add.neutral .f32 hφ) (hc : (Lst R).ShapeCasts (Mat R 1)) (hb : (Mat R 1).Broadcasts (Mat R 1024))
    (hr : (Mat 1 1024).Broadcasts (Mat R 1024)) (r : Fin R) (q : Fin 1024) :
    addf (mulf (mulf (mulf v (broadcastTo (Mat R 1024) (rsqrt (addf (divf (shapeCast (Mat R 1) (multiReduction .add [1] (Lst R) (mulf v v) 0x00000000#32 h hφ hacc) hc)
      (broadcast (Mat R 1) (Scalar.ofBits (F := Ideal) .f32 0x44800000#32))) (broadcast (Mat R 1) (Scalar.ofBits (F := Ideal) .f32 0x358637BD#32)))) hb))
      (broadcastTo (Mat R 1024) g hr)) (broadcastTo (Mat R 1024) (addf (broadcast (Mat 1 1024) (Scalar.ofBits (F := Ideal) .f32 0x3F800000#32)) sc) hr))
      (broadcastTo (Mat R 1024) sh hr) (ix2 r q)
      = modl (fun k => v (ix2 r k)) (g (ix2 (0 : Fin 1) q)) (sc (ix2 (0 : Fin 1) q)) (sh (ix2 (0 : Fin 1) q)) q :=
  congrArg₂ (fun a b : EReal => a + b)
    (congrArg₂ (fun a b : EReal => a * b)
      (congrArg₂ (fun a b : EReal => a * b)
        (congrArg (fun a : EReal => v (ix2 r q) * a) ((col_spread _ hb r q).trans (rms_apply v h hφ hacc hc r)))
        (broadcastTo_1b_ab_apply g hr r q))
      (broadcastTo_1b_ab_apply (addf (broadcast (Mat 1 1024) (Scalar.ofBits (F := Ideal) .f32 0x3F800000#32)) sc) hr r q))
    (broadcastTo_1b_ab_apply sh hr r q)

end Cert.Rows
-- ==== Proof.AdaGrad.lean ====
/-
  The optimiser's step on the modulation's weight: the gradient is the sum over the eight devices of the product of the activated
  conditioning and the device's gradient of the modulation, and the running means and the step are made from it, a layer and a
  third of the columns at a time.
-/
module

public import proofs.«01_k».proof.Proof.Adam
public import proofs.«01_k».proof.Proof.Rows
public import proofs.«01_k».proof.Proof.Gen.AdaGradIdeal.Frame
public import proofs.«01_k».proof.Proof.Gen.AdaGradRefIdeal.Read
public import Idealize.ShloMosaic.Lib.Pipeline.Value
public import Idealize.ShloMosaic.Lib.Tactic
public import Idealize.ShloMosaic.Lib.Claim

@[expose] public section

set_option maxRecDepth 16384

noncomputable section

namespace Cert.AdaGradIdeal.Sum

open Cert.Common Cert.Rows Cert.Adam Cert.AdaGradIdeal Cert.AdaGradIdeal.Gen Cert.AdaGradRefIdeal.Read
open Idealize.ShloMosaic Idealize.ShloMosaic.TcCoe Idealize.ShloMosaic.ValueIdx Idealize.SL.Sem
open Idealize.ShloMosaic.Pipeline (Dat)

/-! ## The run, with each result's array named -/

section Run
variable {F : FTy → Type} [FloatOps F]
variable (m : (ℓ : Loc nD τ sig) → Buf (Elt F) ℓ) (ρ : Dev nD → PrngReg)

theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Run

/-! ## What a grid point stores -/

section Stored
variable {F : FTy → Type} [FloatOps F] (x0 : Vec F S1024x8 .f32) (x1 : Vec F S1x8x512 .f32) (x2 x3 x4 : Vec F S1x1024x512 .f32)

theorem out5 : out0_5 x0 x1 x2 x3 x4 = k0_pay5 (k0_pay4 x0 x1) := by
  unfold out0_5 k0_pay9
  rw [View.canon_unit_zero (S := S1x1024x512) zero3]
  simp only [View.ld_unit_zero (S := S1024x8) zero2, View.ld_unit_zero (S := S1x8x512) zero3, View.ld_unit_zero (S := S1x1024x512) zero3]

theorem out6 : out0_6 x0 x1 x2 x3 x4 = k0_pay1 (k0_pay8 (k0_pay4 x0 x1) x2 x3 x4) := by
  unfold out0_6 k0_pay9
  rw [View.canon_unit_zero (S := S1x1024x512) zero3]
  simp only [View.ld_unit_zero (S := S1024x8) zero2, View.ld_unit_zero (S := S1x8x512) zero3, View.ld_unit_zero (S := S1x1024x512) zero3]

theorem out7 : out0_7 x0 x1 x2 x3 x4 = k0_pay2 (k0_pay6 (k0_pay4 x0 x1) x3) := by
  unfold out0_7 k0_pay9
  rw [View.canon_unit_zero (S := S1x1024x512) zero3]
  simp only [View.ld_unit_zero (S := S1024x8) zero2, View.ld_unit_zero (S := S1x8x512) zero3, View.ld_unit_zero (S := S1x1024x512) zero3]

theorem out8 : out0_8 x0 x1 x2 x3 x4 = k0_pay3 (k0_pay7 (k0_pay4 x0 x1) x4) := by
  unfold out0_8 k0_pay9
  rw [View.canon_unit_zero (S := S1x1024x512) zero3]
  simp only [View.ld_unit_zero (S := S1024x8) zero2, View.ld_unit_zero (S := S1x8x512) zero3, View.ld_unit_zero (S := S1x1024x512) zero3]

end Stored

/-! ## The stored values at an index, over the extended reals -/

/-- Column `k` of one matrix spread along the rows, times row `k` of another spread along the columns. -/
theorem outer (u : S1024x8.Idx → EReal) (d : S8x512.Idx → EReal) (n : ℕ) (k : Fin 8) (hk : k.val = n) (h1 : S1024x8.Slices ![0, n] S1024x1) (h2 : S8x512.Slices ![n, 0] S1x512)
    (r : Fin 1024) (q : Fin 512) :
    broadcastTo S1024x512 (extractStridedSlice S1024x1 ![0, n] u h1) broadcasts_S1024x1_S1024x512 (ix2 r q)
      * broadcastTo S1024x512 (extractStridedSlice S1x512 ![n, 0] d h2) broadcasts_S1x512_S1024x512 (ix2 r q) = u (ix2 r k) * d (ix2 k q) := by
  refine congrArg₂ (· * ·) ((col_spread _ broadcasts_S1024x1_S1024x512 r q).trans (extractStridedSlice_apply _ u h1 _ _ fun a => ?_))
    ((broadcastTo_1b_ab_apply _ broadcasts_S1x512_S1024x512 r q).trans (extractStridedSlice_apply _ d h2 _ _ fun a => ?_))
  · match a with
    | ⟨0, _⟩ => show r.val = 0 + r.val; omega
    | ⟨1, _⟩ => show k.val = n + 0; omega
  · match a with
    | ⟨0, _⟩ => show k.val = n + 0; omega
    | ⟨1, _⟩ => show q.val = 0 + q.val; omega

theorem pay4_apply (x : S1024x8.Idx → EReal) (d : S1x8x512.Idx → EReal) (r : Fin 1024) (q : Fin 512) :
    (k0_pay4 (F := Ideal) x d : S1024x512.Idx → EReal) (ix2 r q) = ∑ k : Fin 8, x (ix2 r k) * Ideal.logistic (x (ix2 r k)) * d (ix3 (0 : Fin 1) k q) := by
  refine Eq.trans ?_ (sum_eight fun k => x (ix2 r k) * Ideal.logistic (x (ix2 r k)) * d (ix3 (0 : Fin 1) k q))
  have h : ∀ (n : ℕ) (k : Fin 8), k.val = n → ∀ (h1 : S1024x8.Slices ![0, n] S1024x1) (h2 : S8x512.Slices ![n, 0] S1x512),
      broadcastTo S1024x512 (extractStridedSlice S1024x1 ![0, n] (fun i => x i * Ideal.logistic (x i) : S1024x8.Idx → EReal) h1) broadcasts_S1024x1_S1024x512 (ix2 r q)
        * broadcastTo S1024x512 (extractStridedSlice S1x512 ![n, 0] (shapeCast S8x512 d shapeCasts_S1x8x512_S8x512 : S8x512.Idx → EReal) h2) broadcasts_S1x512_S1024x512 (ix2 r q)
        = x (ix2 r k) * Ideal.logistic (x (ix2 r k)) * d (ix3 (0 : Fin 1) k q) := fun n k hk h1 h2 =>
    (outer _ _ n k hk h1 h2 r q).trans (congrArg (x (ix2 r k) * Ideal.logistic (x (ix2 r k)) * ·) (cast_drop d shapeCasts_S1x8x512_S8x512 k q))
  rw [← h 0 0 rfl slices_S1024x8_o0_0_S1024x1 slices_S8x512_o0_0_S1x512, ← h 1 1 rfl slices_S1024x8_o0_1_S1024x1 slices_S8x512_o1_0_S1x512, ← h 2 2 rfl slices_S1024x8_o0_2_S1024x1 slices_S8x512_o2_0_S1x512, ← h 3 3 rfl slices_S1024x8_o0_3_S1024x1 slices_S8x512_o3_0_S1x512, ← h 4 4 rfl slices_S1024x8_o0_4_S1024x1 slices_S8x512_o4_0_S1x512, ← h 5 5 rfl slices_S1024x8_o0_5_S1024x1 slices_S8x512_o5_0_S1x512, ← h 6 6 rfl slices_S1024x8_o0_6_S1024x1 slices_S8x512_o6_0_S1x512, ← h 7 7 rfl slices_S1024x8_o0_7_S1024x1 slices_S8x512_o7_0_S1x512]
  unfold k0_pay4
  simp only [shapeCast_self]
  rfl

theorem pay6_apply (g : S1024x512.Idx → EReal) (x : S1x1024x512.Idx → EReal) (r : Fin 1024) (q : Fin 512) :
    (k0_pay6 (F := Ideal) g x : S1024x512.Idx → EReal) (ix2 r q) = newM (g (ix2 r q)) (x (ix3 (0 : Fin 1) r q)) :=
  congrArg (fun z : EReal => newM (g (ix2 r q)) z) (cast_drop x shapeCasts_S1x1024x512_S1024x512 r q)

theorem pay7_apply (g : S1024x512.Idx → EReal) (x : S1x1024x512.Idx → EReal) (r : Fin 1024) (q : Fin 512) :
    (k0_pay7 (F := Ideal) g x : S1024x512.Idx → EReal) (ix2 r q) = newV (g (ix2 r q)) (x (ix3 (0 : Fin 1) r q)) :=
  congrArg (fun z : EReal => newV (g (ix2 r q)) z) (cast_drop x shapeCasts_S1x1024x512_S1024x512 r q)

theorem pay8_apply (g : S1024x512.Idx → EReal) (w x v : S1x1024x512.Idx → EReal) (r : Fin 1024) (q : Fin 512) :
    (k0_pay8 (F := Ideal) g w x v : S1024x512.Idx → EReal) (ix2 r q)
      = step (newM (g (ix2 r q)) (x (ix3 (0 : Fin 1) r q))) (newV (g (ix2 r q)) (v (ix3 (0 : Fin 1) r q))) (w (ix3 (0 : Fin 1) r q)) := by
  rw [← pay6_apply g x r q, ← pay7_apply g v r q, ← cast_drop w shapeCasts_S1x1024x512_S1024x512 r q]
  rfl

/-! ## What each grid point reads -/

variable (m : (ℓ : Loc nD τ sig) → Buf (Elt Ideal) ℓ)

abbrev a0 (c : Dev nD) : S8x1024.Idx → EReal := m ((c : Thread nD τ).loc main_arg0)
abbrev a1 (c : Dev nD) : S2x8x1536.Idx → EReal := m ((c : Thread nD τ).loc main_arg1)
abbrev a2 (c : Dev nD) : S2x1024x1536.Idx → EReal := m ((c : Thread nD τ).loc main_arg2)
abbrev a3 (c : Dev nD) : S2x1024x1536.Idx → EReal := m ((c : Thread nD τ).loc main_arg3)
abbrev a4 (c : Dev nD) : S2x1024x1536.Idx → EReal := m ((c : Thread nD τ).loc main_arg4)

/-- Where each window stands at grid point `t`. -/
theorem idx_in : ∀ t : Fin cfg0.N, win0_0.index t (0 : Fin 2) = 0 ∧ win0_0.index t (1 : Fin 2) = 0
    ∧ (win0_1.index t (0 : Fin 3) = t.val / 3 ∧ win0_1.index t (1 : Fin 3) = 0 ∧ win0_1.index t (2 : Fin 3) = t.val % 3)
    ∧ (win0_2.index t (0 : Fin 3) = t.val / 3 ∧ win0_2.index t (1 : Fin 3) = 0 ∧ win0_2.index t (2 : Fin 3) = t.val % 3)
    ∧ (win0_3.index t (0 : Fin 3) = t.val / 3 ∧ win0_3.index t (1 : Fin 3) = 0 ∧ win0_3.index t (2 : Fin 3) = t.val % 3)
    ∧ (win0_4.index t (0 : Fin 3) = t.val / 3 ∧ win0_4.index t (1 : Fin 3) = 0 ∧ win0_4.index t (2 : Fin 3) = t.val % 3)
    ∧ (win0_5.index t (0 : Fin 3) = t.val / 3 ∧ win0_5.index t (1 : Fin 3) = 0 ∧ win0_5.index t (2 : Fin 3) = t.val % 3)
    ∧ (win0_6.index t (0 : Fin 3) = t.val / 3 ∧ win0_6.index t (1 : Fin 3) = 0 ∧ win0_6.index t (2 : Fin 3) = t.val % 3)
    ∧ (win0_7.index t (0 : Fin 3) = t.val / 3 ∧ win0_7.index t (1 : Fin 3) = 0 ∧ win0_7.index t (2 : Fin 3) = t.val % 3)
    ∧ (win0_8.index t (0 : Fin 3) = t.val / 3 ∧ win0_8.index t (1 : Fin 3) = 0 ∧ win0_8.index t (2 : Fin 3) = t.val % 3)
    ∧ win0_5.flush t = true
    ∧ win0_6.flush t = true
    ∧ win0_7.flush t = true
    ∧ win0_8.flush t = true :=
  (by decide +kernel : ∀ t : Fin grid0.N, _)

abbrev b0 (c : Dev nD) (t : Fin cfg0.N) : S1024x8.Idx → EReal := iblk m c 0 t
abbrev b1 (c : Dev nD) (t : Fin cfg0.N) : S1x8x512.Idx → EReal := iblk m c 1 t
abbrev b2 (c : Dev nD) (t : Fin cfg0.N) : S1x1024x512.Idx → EReal := iblk m c 2 t
abbrev b3 (c : Dev nD) (t : Fin cfg0.N) : S1x1024x512.Idx → EReal := iblk m c 3 t
abbrev b4 (c : Dev nD) (t : Fin cfg0.N) : S1x1024x512.Idx → EReal := iblk m c 4 t

theorem blk0 (c : Dev nD) (t : Fin cfg0.N) (r : Fin 1024) (k : Fin 8) : b0 m c t (ix2 r k) = a0 m c (ix2 k r) := by
  obtain ⟨e0, e1, -⟩ := idx_in t
  have hb0 : (((cfg0.win 0).blk t).view.emb (ix2 (n0 := 1024) (n1 := 8) r k) 0).val = win0_0.index t (0 : Fin 2) * 1024 + 1 * r.val := rfl
  have hb1 : (((cfg0.win 0).blk t).view.emb (ix2 (n0 := 1024) (n1 := 8) r k) 1).val = win0_0.index t (1 : Fin 2) * 8 + 1 * k.val := rfl
  show V m c main_v0 (((cfg0.win 0).blk t).view.emb (ix2 (n0 := 1024) (n1 := 8) r k)) = _
  entry_read
  refine transpose_apply [1, 0] (a0 m c) transposes_S8x1024_S1024x8_1_0 _ (ix2 k r) fun b => ?_
  match b with
  | ⟨0, _⟩ => refine Eq.trans ?_ hb0.symm; show r.val = _; rw [e0]; omega
  | ⟨1, _⟩ => refine Eq.trans ?_ hb1.symm; show k.val = _; rw [e1]; omega

theorem blk1 (c : Dev nD) (t : Fin cfg0.N) (y : S1x8x512.Idx) (k : S2x8x1536.Idx) (h0 : (k 0).val = t.val / 3) (h1 : (k 1).val = (y 1).val) (h2 : (k 2).val = 512 * (t.val % 3) + (y 2).val) :
    b1 m c t y = a1 m c k := by
  obtain ⟨-, -, ⟨e0, e1, e2⟩, -⟩ := idx_in t
  have hy : (y 0).val < 1 := (y 0).isLt
  show V m c main_arg1 (((cfg0.win 1).blk t).view.emb y) = _
  entry_read
  refine congrArg (a1 m c) (funext fun a => Fin.ext ?_)
  match a with
  | ⟨0, _⟩ => show win0_1.index t 0 * 1 + 1 * (y 0).val = (k 0).val; rw [h0, e0]; omega
  | ⟨1, _⟩ => show win0_1.index t 1 * 8 + 1 * (y 1).val = (k 1).val; rw [h1, e1]; omega
  | ⟨2, _⟩ => show win0_1.index t 2 * 512 + 1 * (y 2).val = (k 2).val; rw [h2, e2]; omega

theorem blk2 (c : Dev nD) (t : Fin cfg0.N) (y : S1x1024x512.Idx) (k : S2x1024x1536.Idx) (h0 : (k 0).val = t.val / 3) (h1 : (k 1).val = (y 1).val) (h2 : (k 2).val = 512 * (t.val % 3) + (y 2).val) :
    b2 m c t y = a2 m c k := by
  obtain ⟨-, -, -, ⟨e0, e1, e2⟩, -⟩ := idx_in t
  have hy : (y 0).val < 1 := (y 0).isLt
  show V m c main_arg2 (((cfg0.win 2).blk t).view.emb y) = _
  entry_read
  refine congrArg (a2 m c) (funext fun a => Fin.ext ?_)
  match a with
  | ⟨0, _⟩ => show win0_2.index t 0 * 1 + 1 * (y 0).val = (k 0).val; rw [h0, e0]; omega
  | ⟨1, _⟩ => show win0_2.index t 1 * 1024 + 1 * (y 1).val = (k 1).val; rw [h1, e1]; omega
  | ⟨2, _⟩ => show win0_2.index t 2 * 512 + 1 * (y 2).val = (k 2).val; rw [h2, e2]; omega

theorem blk3 (c : Dev nD) (t : Fin cfg0.N) (y : S1x1024x512.Idx) (k : S2x1024x1536.Idx) (h0 : (k 0).val = t.val / 3) (h1 : (k 1).val = (y 1).val) (h2 : (k 2).val = 512 * (t.val % 3) + (y 2).val) :
    b3 m c t y = a3 m c k := by
  obtain ⟨-, -, -, -, ⟨e0, e1, e2⟩, -⟩ := idx_in t
  have hy : (y 0).val < 1 := (y 0).isLt
  show V m c main_arg3 (((cfg0.win 3).blk t).view.emb y) = _
  entry_read
  refine congrArg (a3 m c) (funext fun a => Fin.ext ?_)
  match a with
  | ⟨0, _⟩ => show win0_3.index t 0 * 1 + 1 * (y 0).val = (k 0).val; rw [h0, e0]; omega
  | ⟨1, _⟩ => show win0_3.index t 1 * 1024 + 1 * (y 1).val = (k 1).val; rw [h1, e1]; omega
  | ⟨2, _⟩ => show win0_3.index t 2 * 512 + 1 * (y 2).val = (k 2).val; rw [h2, e2]; omega

theorem blk4 (c : Dev nD) (t : Fin cfg0.N) (y : S1x1024x512.Idx) (k : S2x1024x1536.Idx) (h0 : (k 0).val = t.val / 3) (h1 : (k 1).val = (y 1).val) (h2 : (k 2).val = 512 * (t.val % 3) + (y 2).val) :
    b4 m c t y = a4 m c k := by
  obtain ⟨-, -, -, -, -, ⟨e0, e1, e2⟩, -⟩ := idx_in t
  have hy : (y 0).val < 1 := (y 0).isLt
  show V m c main_arg4 (((cfg0.win 4).blk t).view.emb y) = _
  entry_read
  refine congrArg (a4 m c) (funext fun a => Fin.ext ?_)
  match a with
  | ⟨0, _⟩ => show win0_4.index t 0 * 1 + 1 * (y 0).val = (k 0).val; rw [h0, e0]; omega
  | ⟨1, _⟩ => show win0_4.index t 1 * 1024 + 1 * (y 1).val = (k 1).val; rw [h1, e1]; omega
  | ⟨2, _⟩ => show win0_4.index t 2 * 512 + 1 * (y 2).val = (k 2).val; rw [h2, e2]; omega

/-- The gradient: the sum over the devices of the activated conditioning times the modulation's gradient. -/
def grad (c : Dev nD) (i : S2x1024x1536.Idx) : EReal :=
  ∑ k : Fin 8, a0 m c (ix2 (n0 := 8) (n1 := 1024) k (i 1)) * Ideal.logistic (a0 m c (ix2 (n0 := 8) (n1 := 1024) k (i 1))) * a1 m c (ix3 (n0 := 2) (n1 := 8) (n2 := 1536) (i 0) k (i 2))

theorem total_blk (c : Dev nD) (t : Fin cfg0.N) (y : S1x1024x512.Idx) (i : S2x1024x1536.Idx) (h0 : (i 0).val = t.val / 3) (h1 : (i 1).val = (y 1).val) (h2 : (i 2).val = 512 * (t.val % 3) + (y 2).val) :
    (k0_pay4 (F := Ideal) (b0 m c t) (b1 m c t) : S1024x512.Idx → EReal) (ix2 (y 1) (y 2)) = grad m c i := by
  refine (pay4_apply (b0 m c t) (b1 m c t) (y 1) (y 2)).trans (Finset.sum_congr rfl fun k _ => ?_)
  have e : (y 1 : Fin 1024) = (i 1 : Fin 1024) := Fin.ext h1.symm
  refine congrArg₂ (· * ·) ?_ (blk1 m c t (ix3 (0 : Fin 1) k (y 2)) _ h0 rfl h2)
  have e0 : b0 m c t (ix2 (y 1) k) = a0 m c (ix2 (n0 := 8) (n1 := 1024) k (i 1)) := (blk0 m c t (y 1) k).trans (congrArg (fun z : Fin 1024 => a0 m c (ix2 k z)) e)
  exact congrArg (fun z : EReal => z * Ideal.logistic z) e0

/-! ## The reference -/

theorem ref_act (c : Dev nD) (i : S8x1024.Idx) : val_main_v0 (F := Ideal) (a0 m c) i = a0 m c i * Ideal.logistic (a0 m c i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply, one_bits]
  rfl

theorem ref_grad (c : Dev nD) (i : S2x1024x1536.Idx) : val_main_v5 (F := Ideal) (a0 m c) (a1 m c) i = grad m c i := by
  rw [val_main_v5_apply, val_main_v4_apply]
  refine Finset.sum_congr rfl fun k _ => (mul_comm _ _).trans (congrArg₂ (· * ·) ?_ ?_)
  · refine (ref_act m c _).trans (congrArg (fun z : S8x1024.Idx => a0 m c z * Ideal.logistic (a0 m c z)) (funext fun a => Fin.ext ?_))
    match a with
    | ⟨0, _⟩ => rfl
    | ⟨1, _⟩ => rfl
  · rw [val_main_v3_apply]
    refine congrArg (a1 m c) (funext fun a => Fin.ext ?_)
    match a with
    | ⟨0, _⟩ => rfl
    | ⟨1, _⟩ => rfl
    | ⟨2, _⟩ => rfl

theorem ref_mean (c : Dev nD) (i : S2x1024x1536.Idx) : val_main_v10 (F := Ideal) (a0 m c) (a1 m c) (a3 m c) i = newM (grad m c i) (a3 m c i) := by
  rw [val_main_v10_apply, val_main_v7_apply, val_main_v6_apply, val_main_v9_apply, val_main_v8_apply, ref_grad]
  rfl

theorem ref_square (c : Dev nD) (i : S2x1024x1536.Idx) : val_main_v16 (F := Ideal) (a0 m c) (a1 m c) (a4 m c) i = newV (grad m c i) (a4 m c i) := by
  rw [val_main_v16_apply, val_main_v12_apply, val_main_v11_apply, val_main_v15_apply, val_main_v14_apply, val_main_v13_apply, ref_grad]
  rfl

theorem ref_step (c : Dev nD) (i : S2x1024x1536.Idx) :
    val_main_v29 (F := Ideal) (a0 m c) (a1 m c) (a2 m c) (a3 m c) (a4 m c) i = step (newM (grad m c i) (a3 m c i)) (newV (grad m c i) (a4 m c i)) (a2 m c i) := by
  rw [← ref_mean, ← ref_square]
  simp only [val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply]
  rfl

/-! ## The four results -/

/-- Entry `i` lies in the block of its layer and its third of the columns. -/
theorem within (i : S2x1024x1536.Idx) (h0 : (i 0).val < 2) (h1 : (i 1).val < 1024) (h2 : (i 2).val < 1536) (f : Fin 3 → ℕ)
    (e0 : f 0 = (3 * (i 0).val + (i 2).val / 512) / 3) (e1 : f 1 = 0) (e2 : f 2 = (3 * (i 0).val + (i 2).val / 512) % 3) :
    ∀ a : Fin 3, f a * S1x1024x512.size a ≤ (i a).val ∧ (i a).val < f a * S1x1024x512.size a + S1x1024x512.size a := fun a => by
  match a with
  | ⟨0, _⟩ => show f 0 * 1 ≤ (i 0).val ∧ (i 0).val < f 0 * 1 + 1; rw [e0]; omega
  | ⟨1, _⟩ => show f 1 * 1024 ≤ (i 1).val ∧ (i 1).val < f 1 * 1024 + 1024; rw [e1]; omega
  | ⟨2, _⟩ => show f 2 * 512 ≤ (i 2).val ∧ (i 2).val < f 2 * 512 + 512; rw [e2]; omega

theorem flushed5_eq (c : Dev nD) (t : Fin cfg0.N) :
    (dats m 0 c).flushed 5 t = ((cfg0.win 5).blk t).view.read (Elt Ideal) (val_main_v5 (F := Ideal) (a0 m c) (a1 m c)) := by
  obtain ⟨-, -, -, -, -, -, ⟨e0, e1, e2⟩, -⟩ := idx_in t
  show (cfg0.win 5).cut (grid0.coords t) ((dats m 0 c).after 5 t) = _
  rw [after0_5, out5]
  funext y
  have hy : (y 0).val < 1 := (y 0).isLt
  have i0 : (((cfg0.win 5).blk t).view.emb y 0).val = t.val / 3 := by show win0_5.index t 0 * 1 + 1 * (y 0).val = _; rw [e0]; omega
  have i1 : (((cfg0.win 5).blk t).view.emb y 1).val = (y 1).val := by show win0_5.index t 1 * 1024 + 1 * (y 1).val = _; rw [e1]; omega
  have i2 : (((cfg0.win 5).blk t).view.emb y 2).val = 512 * (t.val % 3) + (y 2).val := by show win0_5.index t 2 * 512 + 1 * (y 2).val = _; rw [e2]; omega
  show (k0_pay5 (F := Ideal) (k0_pay4 (F := Ideal) (b0 m c t) (b1 m c t)) : S1x1024x512.Idx → EReal) y = val_main_v5 (F := Ideal) (a0 m c) (a1 m c) (((cfg0.win 5).blk t).view.emb y)
  exact (cast_add _ shapeCasts_S1024x512_S1x1024x512 y).trans ((total_blk m c t y _ i0 i1 i2).trans (ref_grad m c _).symm)

theorem result5 (c : Dev nD) : (dats m 0 c).arrAt 5 cfg0.N = val_main_v5 (F := Ideal) (a0 m c) (a1 m c) :=
  (dats m 0 c).arrAt_eq_of_cover 5 (val_main_v5 (F := Ideal) (a0 m c) (a1 m c)) (fun t _ => flushed5_eq m c t) fun (i : S2x1024x1536.Idx) => by
    have h0 : (i 0).val < 2 := (i 0).isLt
    have h1 : (i 1).val < 1024 := (i 1).isLt
    have h2 : (i 2).val < 1536 := (i 2).isLt
    have ht : 3 * (i 0).val + (i 2).val / 512 < cfg0.N := lt_of_lt_of_eq (by omega) N_0.symm
    obtain ⟨-, -, -, -, -, -, ⟨e0, e1, e2⟩, -, -, -, hf, -⟩ := idx_in ⟨3 * (i 0).val + (i 2).val / 512, ht⟩
    refine ⟨⟨3 * (i 0).val + (i 2).val / 512, ht⟩, hf, ?_⟩
    show i ∈ ((View.whole main_v1_0).slice (win0_5.rect ⟨3 * (i 0).val + (i 2).val / 512, ht⟩)).set
    rw [View.set_slice_whole, Rect.mem_set_unit]
    exact within i h0 h1 h2 (win0_5.index _) e0 e1 e2

theorem flushed6_eq (c : Dev nD) (t : Fin cfg0.N) :
    (dats m 0 c).flushed 6 t = ((cfg0.win 6).blk t).view.read (Elt Ideal) (val_main_v29 (F := Ideal) (a0 m c) (a1 m c) (a2 m c) (a3 m c) (a4 m c)) := by
  obtain ⟨-, -, -, -, -, -, -, ⟨e0, e1, e2⟩, -⟩ := idx_in t
  show (cfg0.win 6).cut (grid0.coords t) ((dats m 0 c).after 6 t) = _
  rw [after0_6, out6]
  funext y
  have hy : (y 0).val < 1 := (y 0).isLt
  have i0 : (((cfg0.win 6).blk t).view.emb y 0).val = t.val / 3 := by show win0_6.index t 0 * 1 + 1 * (y 0).val = _; rw [e0]; omega
  have i1 : (((cfg0.win 6).blk t).view.emb y 1).val = (y 1).val := by show win0_6.index t 1 * 1024 + 1 * (y 1).val = _; rw [e1]; omega
  have i2 : (((cfg0.win 6).blk t).view.emb y 2).val = 512 * (t.val % 3) + (y 2).val := by show win0_6.index t 2 * 512 + 1 * (y 2).val = _; rw [e2]; omega
  show (k0_pay1 (F := Ideal) (k0_pay8 (F := Ideal) (k0_pay4 (F := Ideal) (b0 m c t) (b1 m c t)) (b2 m c t) (b3 m c t) (b4 m c t)) : S1x1024x512.Idx → EReal) y = val_main_v29 (F := Ideal) (a0 m c) (a1 m c) (a2 m c) (a3 m c) (a4 m c) (((cfg0.win 6).blk t).view.emb y)
  refine (cast_add _ shapeCasts_S1024x512_S1x1024x512 y).trans ((pay8_apply _ _ _ _ (y 1) (y 2)).trans ?_)
  rw [ref_step, total_blk m c t y _ i0 i1 i2]
  exact congr (congrArg₂ step (congrArg (newM _) (blk3 m c t (ix3 (0 : Fin 1) (y 1) (y 2)) _ i0 i1 i2)) (congrArg (newV _) (blk4 m c t (ix3 (0 : Fin 1) (y 1) (y 2)) _ i0 i1 i2))) (blk2 m c t (ix3 (0 : Fin 1) (y 1) (y 2)) _ i0 i1 i2)

theorem result6 (c : Dev nD) : (dats m 0 c).arrAt 6 cfg0.N = val_main_v29 (F := Ideal) (a0 m c) (a1 m c) (a2 m c) (a3 m c) (a4 m c) :=
  (dats m 0 c).arrAt_eq_of_cover 6 (val_main_v29 (F := Ideal) (a0 m c) (a1 m c) (a2 m c) (a3 m c) (a4 m c)) (fun t _ => flushed6_eq m c t) fun (i : S2x1024x1536.Idx) => by
    have h0 : (i 0).val < 2 := (i 0).isLt
    have h1 : (i 1).val < 1024 := (i 1).isLt
    have h2 : (i 2).val < 1536 := (i 2).isLt
    have ht : 3 * (i 0).val + (i 2).val / 512 < cfg0.N := lt_of_lt_of_eq (by omega) N_0.symm
    obtain ⟨-, -, -, -, -, -, -, ⟨e0, e1, e2⟩, -, -, -, hf, -⟩ := idx_in ⟨3 * (i 0).val + (i 2).val / 512, ht⟩
    refine ⟨⟨3 * (i 0).val + (i 2).val / 512, ht⟩, hf, ?_⟩
    show i ∈ ((View.whole main_v1_1).slice (win0_6.rect ⟨3 * (i 0).val + (i 2).val / 512, ht⟩)).set
    rw [View.set_slice_whole, Rect.mem_set_unit]
    exact within i h0 h1 h2 (win0_6.index _) e0 e1 e2

theorem flushed7_eq (c : Dev nD) (t : Fin cfg0.N) :
    (dats m 0 c).flushed 7 t = ((cfg0.win 7).blk t).view.read (Elt Ideal) (val_main_v10 (F := Ideal) (a0 m c) (a1 m c) (a3 m c)) := by
  obtain ⟨-, -, -, -, -, -, -, -, ⟨e0, e1, e2⟩, -⟩ := idx_in t
  show (cfg0.win 7).cut (grid0.coords t) ((dats m 0 c).after 7 t) = _
  rw [after0_7, out7]
  funext y
  have hy : (y 0).val < 1 := (y 0).isLt
  have i0 : (((cfg0.win 7).blk t).view.emb y 0).val = t.val / 3 := by show win0_7.index t 0 * 1 + 1 * (y 0).val = _; rw [e0]; omega
  have i1 : (((cfg0.win 7).blk t).view.emb y 1).val = (y 1).val := by show win0_7.index t 1 * 1024 + 1 * (y 1).val = _; rw [e1]; omega
  have i2 : (((cfg0.win 7).blk t).view.emb y 2).val = 512 * (t.val % 3) + (y 2).val := by show win0_7.index t 2 * 512 + 1 * (y 2).val = _; rw [e2]; omega
  show (k0_pay2 (F := Ideal) (k0_pay6 (F := Ideal) (k0_pay4 (F := Ideal) (b0 m c t) (b1 m c t)) (b3 m c t)) : S1x1024x512.Idx → EReal) y = val_main_v10 (F := Ideal) (a0 m c) (a1 m c) (a3 m c) (((cfg0.win 7).blk t).view.emb y)
  refine (cast_add _ shapeCasts_S1024x512_S1x1024x512 y).trans ((pay6_apply _ _ (y 1) (y 2)).trans ?_)
  rw [ref_mean]
  exact congrArg₂ newM (total_blk m c t y _ i0 i1 i2) (blk3 m c t (ix3 (0 : Fin 1) (y 1) (y 2)) _ i0 i1 i2)

theorem result7 (c : Dev nD) : (dats m 0 c).arrAt 7 cfg0.N = val_main_v10 (F := Ideal) (a0 m c) (a1 m c) (a3 m c) :=
  (dats m 0 c).arrAt_eq_of_cover 7 (val_main_v10 (F := Ideal) (a0 m c) (a1 m c) (a3 m c)) (fun t _ => flushed7_eq m c t) fun (i : S2x1024x1536.Idx) => by
    have h0 : (i 0).val < 2 := (i 0).isLt
    have h1 : (i 1).val < 1024 := (i 1).isLt
    have h2 : (i 2).val < 1536 := (i 2).isLt
    have ht : 3 * (i 0).val + (i 2).val / 512 < cfg0.N := lt_of_lt_of_eq (by omega) N_0.symm
    obtain ⟨-, -, -, -, -, -, -, -, ⟨e0, e1, e2⟩, -, -, -, hf, -⟩ := idx_in ⟨3 * (i 0).val + (i 2).val / 512, ht⟩
    refine ⟨⟨3 * (i 0).val + (i 2).val / 512, ht⟩, hf, ?_⟩
    show i ∈ ((View.whole main_v1_2).slice (win0_7.rect ⟨3 * (i 0).val + (i 2).val / 512, ht⟩)).set
    rw [View.set_slice_whole, Rect.mem_set_unit]
    exact within i h0 h1 h2 (win0_7.index _) e0 e1 e2

theorem flushed8_eq (c : Dev nD) (t : Fin cfg0.N) :
    (dats m 0 c).flushed 8 t = ((cfg0.win 8).blk t).view.read (Elt Ideal) (val_main_v16 (F := Ideal) (a0 m c) (a1 m c) (a4 m c)) := by
  obtain ⟨-, -, -, -, -, -, -, -, -, ⟨e0, e1, e2⟩, -⟩ := idx_in t
  show (cfg0.win 8).cut (grid0.coords t) ((dats m 0 c).after 8 t) = _
  rw [after0_8, out8]
  funext y
  have hy : (y 0).val < 1 := (y 0).isLt
  have i0 : (((cfg0.win 8).blk t).view.emb y 0).val = t.val / 3 := by show win0_8.index t 0 * 1 + 1 * (y 0).val = _; rw [e0]; omega
  have i1 : (((cfg0.win 8).blk t).view.emb y 1).val = (y 1).val := by show win0_8.index t 1 * 1024 + 1 * (y 1).val = _; rw [e1]; omega
  have i2 : (((cfg0.win 8).blk t).view.emb y 2).val = 512 * (t.val % 3) + (y 2).val := by show win0_8.index t 2 * 512 + 1 * (y 2).val = _; rw [e2]; omega
  show (k0_pay3 (F := Ideal) (k0_pay7 (F := Ideal) (k0_pay4 (F := Ideal) (b0 m c t) (b1 m c t)) (b4 m c t)) : S1x1024x512.Idx → EReal) y = val_main_v16 (F := Ideal) (a0 m c) (a1 m c) (a4 m c) (((cfg0.win 8).blk t).view.emb y)
  refine (cast_add _ shapeCasts_S1024x512_S1x1024x512 y).trans ((pay7_apply _ _ (y 1) (y 2)).trans ?_)
  rw [ref_square]
  exact congrArg₂ newV (total_blk m c t y _ i0 i1 i2) (blk4 m c t (ix3 (0 : Fin 1) (y 1) (y 2)) _ i0 i1 i2)

theorem result8 (c : Dev nD) : (dats m 0 c).arrAt 8 cfg0.N = val_main_v16 (F := Ideal) (a0 m c) (a1 m c) (a4 m c) :=
  (dats m 0 c).arrAt_eq_of_cover 8 (val_main_v16 (F := Ideal) (a0 m c) (a1 m c) (a4 m c)) (fun t _ => flushed8_eq m c t) fun (i : S2x1024x1536.Idx) => by
    have h0 : (i 0).val < 2 := (i 0).isLt
    have h1 : (i 1).val < 1024 := (i 1).isLt
    have h2 : (i 2).val < 1536 := (i 2).isLt
    have ht : 3 * (i 0).val + (i 2).val / 512 < cfg0.N := lt_of_lt_of_eq (by omega) N_0.symm
    obtain ⟨-, -, -, -, -, -, -, -, -, ⟨e0, e1, e2⟩, -, -, -, hf⟩ := idx_in ⟨3 * (i 0).val + (i 2).val / 512, ht⟩
    refine ⟨⟨3 * (i 0).val + (i 2).val / 512, ht⟩, hf, ?_⟩
    show i ∈ ((View.whole main_v1_3).slice (win0_8.rect ⟨3 * (i 0).val + (i 2).val / 512, ht⟩)).set
    rw [View.set_slice_whole, Rect.mem_set_unit]
    exact within i h0 h1 h2 (win0_8.index _) e0 e1 e2

end Cert.AdaGradIdeal.Sum

end
-- ==== Proof.GradFfn.lean ====
/-
  The two products of the feed-forward gradients (`actᵀ @ df` and `dgateᵀ @ h`, summed over the tokens in four blocks) are one
  kernel. What it leaves is the product over all 4096 tokens at once.
-/
module

public import proofs.«01_k».proof.Proof.Common
public import proofs.«01_k».proof.Proof.Gen.GradFfnIdeal.Value
public import proofs.«01_k».proof.Proof.Gen.GradWdRefIdeal.Read
public import proofs.«01_k».proof.Proof.Gen.GradWgRefIdeal.Read
public import Idealize.ShloMosaic.Lib.Tactic
public import Idealize.ShloMosaic.Lib.Claim

@[expose] public section

set_option maxRecDepth 16384

noncomputable section

namespace Cert.GradFfnIdeal.Sum

open Cert.Common Cert.GradFfnIdeal Cert.GradFfnIdeal.Gen Cert.GradFfnIdeal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords) (a2 : Memref sig .tc .vmem S1x1024x704 .bf16) (h2 : a2.IsWhole)
  (a3 : Memref sig .tc .vmem S1024x1024 .bf16) (h3 : a3.IsWhole) (a4 : Memref sig .tc .vmem S1x704x1024 .bf16) (h4 : a4.IsWhole)
  (a5 : Memref sig .tc .vmem S704x1024 .f32) (h5 : a5.IsWhole)
  (x0 : Vec F S1x1024x704 .bf16) (x1 : Vec F S1024x1024 .bf16) (xs : Vec F S704x1024 .f32)

/-- The first token block leaves its product over the zero it has just stored. -/
theorem sout_A (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S704x1024) zero2, View.readCov_unit_zero (S := S704x1024) _ zero2]
  simp only [View.readAt_eq_ld, h2.read_unread, h3.read_unread, View.ld_unit_zero (S := S1x1024x704) zero3,
    View.ld_unit_zero (S := S1024x1024) zero2]

/-- A middle block adds its product to what the block before left. -/
theorem sout_B (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S704x1024) zero2]
  simp only [View.readAt_eq_ld, h2.read_unread, h3.read_unread, h5.read_unread, View.ld_unit_zero (S := S1x1024x704) zero3,
    View.ld_unit_zero (S := S1024x1024) zero2, View.ld_unit_zero (S := S704x1024) zero2]

/-- The last block writes the whole sum out. -/
theorem out_C (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x704x1024) zero3, View.readCov_unit_zero (S := S704x1024) _ zero2]
  simp only [View.readAt_eq_ld, h2.read_unread, h3.read_unread, h5.read_unread, View.ld_unit_zero (S := S1x1024x704) zero3,
    View.ld_unit_zero (S := S1024x1024) zero2, View.ld_unit_zero (S := S704x1024) zero2]

end Cases

section Steps
variable {F : FTy → Type} [FloatOps F]
variable (m : (ℓ : Loc nD τ sig) → Buf (Elt F) ℓ)

theorem acc_A (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  rw [sout_A]

theorem acc_B (c : Dev nD) (t : Fin cfg0.N) (h0 : ¬t.val % 4 = 0) (h1 : ¬t.val % 4 = 3) (n : ℕ) (hn : n < cfg0.N) (e : t.val - 1 = n) :
    (outsAt0 m c t.val t.isLt).2 = k0_pay2 (outsAt0 m c n hn).2 (iblk m c 0 t) (iblk m c 1 t) := by
  subst e
  rw [outsAt0_B m c t h0 h1]
  dsimp only
  rw [sout_B]

theorem acc_C (c : Dev nD) (t : Fin cfg0.N) (h0 : ¬t.val % 4 = 0) (h1 : t.val % 4 = 3) (n : ℕ) (hn : n < cfg0.N) (e : t.val - 1 = n) :
    (outsAt0 m c t.val t.isLt).1 = k0_pay3 (k0_pay2 (outsAt0 m c n hn).2 (iblk m c 0 t) (iblk m c 1 t)) := by
  subst e
  rw [outsAt0_C m c t h0 h1]
  dsimp only
  rw [out_C]

theorem outs_congr (c : Dev nD) (n n' : ℕ) (h : n < cfg0.N) (h' : n' < cfg0.N) (e : n = n') : outsAt0 m c n h = outsAt0 m c n' h' := by
  subst e; rfl

end Steps

/-! ## The stored values at an index, over the extended reals -/

theorem dot_eq : dot_S1024x704_S1024x1024_S704x1024_0_0_1_1_n_n = rowsDims 1024 704 1024 := rfl

theorem pay2_apply (v : S704x1024.Idx → EReal) (x0 : S1x1024x704.Idx → EReal) (x1 : S1024x1024.Idx → EReal) (i : S704x1024.Idx) :
    (k0_pay2 (F := Ideal) v x0 x1 : S704x1024.Idx → EReal) i = v i + ∑ y : Fin 1024, x0 (ix3 (0 : Fin 1) y (i 0)) * x1 (ix2 y (i 1)) := by
  unfold k0_pay2
  simp only [shapeCast_self, dot_eq]
  refine congrArg (fun z : EReal => v i + z) ((rows_zero (φ₁ := .bf16) (φ₂ := .bf16) (shapeCast S1024x704 x0 shapeCasts_S1x1024x704_S1024x704) x1 i).trans
    (Finset.sum_congr rfl fun y _ => ?_))
  refine congrArg (fun z : EReal => z * x1 (ix2 y (i 1))) ?_
  exact shapeCast_apply x0 shapeCasts_S1x1024x704_S1024x704 (ix2 y (i 0)) (ix3 (0 : Fin 1) y (i 0)) (by
    rewrite [Shape.rowMajor_val_two, Shape.rowMajor_val_three]
    show ((0 : ℕ) * 1024 + y.val) * 704 + (i 0).val = y.val * 704 + (i 0).val
    omega)

theorem pay1_apply (i : S704x1024.Idx) : (k0_pay1 (F := Ideal) : S704x1024.Idx → EReal) i = 0 := by
  unfold k0_pay1
  simp only [shapeCast_self]
  exact Ideal.ofBits_zero_f32

theorem pay3_apply (v : S704x1024.Idx → EReal) (i : S1x704x1024.Idx) :
    (k0_pay3 (F := Ideal) v : S1x704x1024.Idx → EReal) i = v (ix2 (n0 := 704) (n1 := 1024) (i 1) (i 2)) := by
  unfold k0_pay3
  refine (shapeCast_apply _ _ i (ix2 (n0 := 704) (n1 := 1024) (i 1) (i 2)) (by
    rewrite [Shape.rowMajor_val_two, Shape.rowMajor_val_three]
    have h0 : (i 0).val < 1 := (i 0).isLt
    show (i 1).val * 1024 + (i 2).val = ((i 0).val * 704 + (i 1).val) * 1024 + (i 2).val
    omega)).trans rfl

/-! ## What each grid point reads -/

variable (m : (ℓ : Loc nD τ sig) → Buf (Elt Ideal) ℓ)

abbrev lhs (c : Dev nD) : S4096x2816.Idx → EReal := m ((c : Thread nD τ).loc main_arg0)
abbrev rhs (c : Dev nD) : S4096x1024.Idx → EReal := m ((c : Thread nD τ).loc main_arg1)

abbrev blkL (c : Dev nD) (t : Fin cfg0.N) : S1x1024x704.Idx → EReal := iblk m c 0 t
abbrev blkR (c : Dev nD) (t : Fin cfg0.N) : S1024x1024.Idx → EReal := iblk m c 1 t
abbrev accAfter (c : Dev nD) (n : ℕ) (h : n < cfg0.N) : S704x1024.Idx → EReal := (outsAt0 m c n h).2
abbrev outAfter (c : Dev nD) (n : ℕ) (h : n < cfg0.N) : S1x704x1024.Idx → EReal := (outsAt0 m c n h).1

theorem idx_in : ∀ t : Fin cfg0.N, win0_0.index t (0 : Fin 3) = t.val / 4 ∧ win0_0.index t (1 : Fin 3) = t.val % 4 ∧ win0_0.index t (2 : Fin 3) = 0
    ∧ win0_1.index t (0 : Fin 2) = t.val % 4 ∧ win0_1.index t (1 : Fin 2) = 0 :=
  (by decide +kernel : ∀ t : Fin grid0.N, _)

/-- Column `704 j + r` of the left operand at row `x`, and column `q` of the right one. -/
abbrev term (c : Dev nD) (j : ℕ) (r q : ℕ) (hj : j < 4) (hr : r < 704) (hq : q < 1024) (x : Fin 4096) : EReal :=
  lhs m c (ix2 (n0 := 4096) (n1 := 2816) x ⟨704 * j + r, by omega⟩) * rhs m c (ix2 (n0 := 4096) (n1 := 1024) x ⟨q, hq⟩)

theorem blk0 (c : Dev nD) (t : Fin cfg0.N) (y : Fin 1024) (r : Fin 704) (x : Fin 4096) (k : Fin 2816)
    (hx : x.val = 1024 * (t.val % 4) + y.val) (hk : k.val = 704 * (t.val / 4) + r.val) :
    blkL m c t (ix3 (0 : Fin 1) y r) = lhs m c (ix2 (n0 := 4096) (n1 := 2816) x k) := by
  obtain ⟨e0, e1, e2, -, -⟩ := idx_in t
  have hN : t.val < 16 := lt_of_lt_of_eq t.isLt N_0
  show V m c main_v2 (((cfg0.win 0).blk t).view.emb (ix3 (0 : Fin 1) y r)) = _
  have hb0 : (((cfg0.win 0).blk t).view.emb (ix3 (0 : Fin 1) y r) 0).val = win0_0.index t (0 : Fin 3) * 1 + 1 * 0 := rfl
  have hb1 : (((cfg0.win 0).blk t).view.emb (ix3 (0 : Fin 1) y r) 1).val = win0_0.index t (1 : Fin 3) * 1024 + 1 * y.val := rfl
  have hb2 : (((cfg0.win 0).blk t).view.emb (ix3 (0 : Fin 1) y r) 2).val = win0_0.index t (2 : Fin 3) * 704 + 1 * r.val := rfl
  have he : ((cfg0.win 0).blk t).view.emb (ix3 (0 : Fin 1) y r) = ix3 (n0 := 4) (n1 := 4096) (n2 := 704) ⟨t.val / 4, by omega⟩ x r := by
    funext a; apply Fin.ext
    match a with
    | ⟨0, _⟩ => refine hb0.trans ?_; show _ = t.val / 4; omega
    | ⟨1, _⟩ => refine hb1.trans ?_; show _ = x.val; omega
    | ⟨2, _⟩ => refine hb2.trans ?_; show _ = r.val; omega
  rw [he]
  entry_read
  show transpose S4x4096x704 [1, 0, 2] (shapeCast S4096x4x704 (lhs m c) shapeCasts_S4096x2816_S4096x4x704) _ _ = _
  refine (transpose_apply [1, 0, 2] (shapeCast S4096x4x704 (lhs m c) shapeCasts_S4096x2816_S4096x4x704) transposes_S4096x4x704_S4x4096x704_1_0_2 (ix3 (n0 := 4) (n1 := 4096) (n2 := 704) ⟨t.val / 4, by omega⟩ x r)
    (ix3 (n0 := 4096) (n1 := 4) (n2 := 704) x ⟨t.val / 4, by omega⟩ r) (fun b => match b with
    | ⟨0, _⟩ => rfl
    | ⟨1, _⟩ => rfl
    | ⟨2, _⟩ => rfl)).trans ?_
  exact shapeCast_apply (lhs m c) shapeCasts_S4096x2816_S4096x4x704 (ix3 (n0 := 4096) (n1 := 4) (n2 := 704) x ⟨t.val / 4, by omega⟩ r)
      (ix2 (n0 := 4096) (n1 := 2816) x k) (by
    rewrite [Shape.rowMajor_val_two, Shape.rowMajor_val_three]
    show x.val * 2816 + k.val = (x.val * 4 + t.val / 4) * 704 + r.val
    omega)

theorem blk1 (c : Dev nD) (t : Fin cfg0.N) (y : Fin 1024) (q : Fin 1024) (x : Fin 4096) (hx : x.val = 1024 * (t.val % 4) + y.val) :
    blkR m c t (ix2 y q) = rhs m c (ix2 (n0 := 4096) (n1 := 1024) x q) := by
  obtain ⟨-, -, -, e0, e1⟩ := idx_in t
  show V m c main_v3 (((cfg0.win 1).blk t).view.emb (ix2 y q)) = _
  have hb0 : (((cfg0.win 1).blk t).view.emb (ix2 y q) 0).val = win0_1.index t (0 : Fin 2) * 1024 + 1 * y.val := rfl
  have hb1 : (((cfg0.win 1).blk t).view.emb (ix2 y q) 1).val = win0_1.index t (1 : Fin 2) * 1024 + 1 * q.val := rfl
  have he : ((cfg0.win 1).blk t).view.emb (ix2 y q) = ix2 (n0 := 4096) (n1 := 1024) x q := by
    funext a; apply Fin.ext
    match a with
    | ⟨0, _⟩ => refine hb0.trans ?_; show _ = x.val; omega
    | ⟨1, _⟩ => refine hb1.trans ?_; show _ = q.val; omega
  rw [he]
  entry_read
  rfl

/-- The product of a point's two blocks is the next 1024 terms of the long sum. -/
theorem blk_sum (c : Dev nD) (t : Fin cfg0.N) (i : S704x1024.Idx) (j k : ℕ) (hj : j < 4) (hk : k < 4) (ht : t.val = 4 * j + k) :
    ∑ y : Fin 1024, blkL m c t (ix3 (0 : Fin 1) y (i 0)) * blkR m c t (ix2 y (i 1))
      = ∑ y : Fin 1024, ext0 (term m c j (i 0).val (i 1).val hj (i 0).isLt (i 1).isLt) (1024 * k + y.val) := by
  refine Finset.sum_congr rfl fun y _ => ?_
  have hy := y.isLt
  have hx : 1024 * k + y.val < 4096 := by omega
  rw [ext0_of_lt _ _ hx]
  have e1 := blk0 m c t y (i 0) ⟨1024 * k + y.val, hx⟩ ⟨704 * j + (i 0).val, by have : (i 0).val < 704 := (i 0).isLt; omega⟩
    (by show 1024 * k + y.val = _; omega) (by show 704 * j + (i 0).val = _; have : t.val / 4 = j := by omega
                                              rw [this])
  have e2 := blk1 m c t y (i 1) ⟨1024 * k + y.val, hx⟩ (by show 1024 * k + y.val = _; omega)
  exact congrArg₂ (fun a b : EReal => a * b) e1 e2

/-! ## The running sum -/

theorem partial_sum (c : Dev nD) (i : S704x1024.Idx) (j : ℕ) (hj : j < 4) : ∀ (k : ℕ) (hk : k < 3) (h : 4 * j + k < cfg0.N),
    accAfter m c (4 * j + k) h i
      = ∑ x ∈ Finset.range (1024 * (k + 1)), ext0 (term m c j (i 0).val (i 1).val hj (i 0).isLt (i 1).isLt) x := by
  intro k
  induction k with
  | zero =>
    intro _ h
    have e := acc_A m c ⟨4 * j + 0, h⟩ (by show (4 * j + 0) % 4 = 0; omega) (by show ¬(4 * j + 0) % 4 = 3; omega)
    refine (congrFun e i).trans ((pay2_apply _ _ _ i).trans ?_)
    rw [pay1_apply, zero_add]
    exact (blk_sum m c ⟨4 * j + 0, h⟩ i j 0 hj (by omega) rfl).trans (sum_block_first _ 1024)
  | succ k ih =>
    intro hk h
    have hp : 4 * j + k < cfg0.N := Nat.lt_of_succ_lt h
    have e := acc_B m c ⟨4 * j + (k + 1), h⟩ (by show ¬(4 * j + (k + 1)) % 4 = 0; omega) (by show ¬(4 * j + (k + 1)) % 4 = 3; omega)
      (4 * j + k) hp (by show 4 * j + (k + 1) - 1 = 4 * j + k; omega)
    refine (congrFun e i).trans ((pay2_apply (accAfter m c (4 * j + k) hp) _ _ i).trans ?_)
    rw [ih (by omega) hp]
    refine (congrArg (fun z : EReal => _ + z) (blk_sum m c ⟨4 * j + (k + 1), h⟩ i j (k + 1) hj (by omega) rfl)).trans ?_
    exact sum_block _ 1024 (k + 1)

theorem written (c : Dev nD) (j : ℕ) (hj : j < 4) (h : 4 * j + 3 < cfg0.N) (i : S1x704x1024.Idx) :
    outAfter m c (4 * j + 3) h i = ∑ x : Fin 4096, term m c j (i 1).val (i 2).val hj (i 1).isLt (i 2).isLt x := by
  have hp : 4 * j + 2 < cfg0.N := Nat.lt_of_succ_lt h
  have e := acc_C m c ⟨4 * j + 3, h⟩ (by show ¬(4 * j + 3) % 4 = 0; omega) (by show (4 * j + 3) % 4 = 3; omega)
    (4 * j + 2) hp (by show 4 * j + 3 - 1 = 4 * j + 2; omega)
  refine (congrFun e i).trans ((pay3_apply _ i).trans ((pay2_apply (accAfter m c (4 * j + 2) hp) _ _ _).trans ?_))
  rw [partial_sum m c (ix2 (n0 := 704) (n1 := 1024) (i 1) (i 2)) j hj 2 (by omega) hp]
  refine (congrArg (fun z : EReal => _ + z) (blk_sum m c ⟨4 * j + 3, h⟩ (ix2 (n0 := 704) (n1 := 1024) (i 1) (i 2)) j 3 hj (by omega) rfl)).trans ?_
  refine (sum_block _ 1024 3).trans ?_
  exact sum_ext0 (term m c j (i 1).val (i 2).val hj (i 1).isLt (i 2).isLt)

/-- The array the kernel leaves: entry `(j, r, q)` is column `704 j + r` of the left operand times column `q` of the right one. -/
theorem result (c : Dev nD) (i : S4x704x1024.Idx) :
    G2 m c i = ∑ x : Fin 4096, term m c (i 0).val (i 1).val (i 2).val (i 0).isLt (i 1).isLt (i 2).isLt x := by
  have h0 : (i 0).val < 4 := (i 0).isLt
  have h1 : (i 1).val < 704 := (i 1).isLt
  have h2 : (i 2).val < 1024 := (i 2).isLt
  have hp : pt2Of i = 4 * (i 0).val + 3 := by
    show 4 * (1 * ((i 0).val / 1 - 0) + 1 * ((i 1).val / 704 - 0) + 1 * ((i 2).val / 1024 - 0)) + 3 = _
    omega
  have hb : pt2Of i < cfg0.N := by rw [hp]; exact lt_of_lt_of_eq (by omega) N_0.symm
  have hl : loc2Of i = ix3 (n0 := 1) (n1 := 704) (n2 := 1024) 0 (i 1) (i 2) := by
    funext a; apply Fin.ext
    match a with
    | ⟨0, _⟩ => show (i 0).val % 1 = 0; omega
    | ⟨1, _⟩ => show (i 1).val % 704 = (i 1).val; omega
    | ⟨2, _⟩ => show (i 2).val % 1024 = (i 2).val; omega
  unfold G2
  rw [dif_pos hb, ← outsAt0_sweep m c (pt2Of i) hb, outs_congr m c _ _ hb (hp ▸ hb) hp, hl]
  exact written m c (i 0).val h0 (hp ▸ hb) _

/-! ## The references -/

/-- `actᵀ @ df`, its 2816 rows as four groups of 704. -/
theorem wd_eq (c : Dev nD) (x0 : S4096x2816.Idx → EReal) (x1 : S4096x1024.Idx → EReal) (e0 : x0 = lhs m c) (e1 : x1 = rhs m c) :
    GradWdRefIdeal.Read.val_main_v5 (F := Ideal) x0 x1 = G2 m c := by
  subst e0 e1
  funext i
  rw [result m c i, GradWdRefIdeal.Read.val_main_v5_apply]
  show GradWdRefIdeal.Read.val_main_v4 (F := Ideal) _ _ i = _
  rw [GradWdRefIdeal.Read.val_main_v4_apply, GradWdRefIdeal.Read.val_main_v3_apply, GradWdRefIdeal.Read.val_main_v2_apply]
  refine Finset.sum_congr rfl fun x _ => ?_
  rw [mul_comm]
  have h0 : (i 0).val < 4 := (i 0).isLt
  have h1 : (i 1).val < 704 := (i 1).isLt
  have h2 : (i 2).val < 1024 := (i 2).isLt
  refine congrArg₂ (fun a b : EReal => a * b) (congrArg (lhs m c) ?_) (congrArg (rhs m c) ?_)
  · funext a; apply Fin.ext
    match a with
    | ⟨0, _⟩ => rfl
    | ⟨1, _⟩ => show (((i 0).val * 704 + (i 1).val) * 1024 + (i 2).val) / 1024 = 704 * (i 0).val + (i 1).val; omega
  · funext a; apply Fin.ext
    match a with
    | ⟨0, _⟩ => rfl
    | ⟨1, _⟩ => show (((i 0).val * 704 + (i 1).val) * 1024 + (i 2).val) % 1024 = (i 2).val; omega

/-- `dgateᵀ @ h`, transposed twice: its 2816 rows as four groups of 704. -/
theorem wg_eq (c : Dev nD) (x0 : S4096x2816.Idx → EReal) (x1 : S4096x1024.Idx → EReal) (e0 : x0 = lhs m c) (e1 : x1 = rhs m c) :
    GradWgRefIdeal.Read.val_main_v6 (F := Ideal) x0 x1 = G2 m c := by
  subst e0 e1
  funext i
  rw [result m c i, GradWgRefIdeal.Read.val_main_v6_apply]
  show GradWgRefIdeal.Read.val_main_v5 (F := Ideal) _ _ i = _
  rw [GradWgRefIdeal.Read.val_main_v5_apply, GradWgRefIdeal.Read.val_main_v4_apply, GradWgRefIdeal.Read.val_main_v3_apply, GradWgRefIdeal.Read.val_main_v2_apply]
  refine Finset.sum_congr rfl fun x _ => ?_
  have h0 : (i 0).val < 4 := (i 0).isLt
  have h1 : (i 1).val < 704 := (i 1).isLt
  have h2 : (i 2).val < 1024 := (i 2).isLt
  refine congrArg₂ (fun a b : EReal => a * b) (congrArg (lhs m c) ?_) (congrArg (rhs m c) ?_)
  · funext a; apply Fin.ext
    match a with
    | ⟨0, _⟩ => rfl
    | ⟨1, _⟩ => show (((i 0).val * 704 + (i 1).val) * 1024 + (i 2).val) / 1024 = 704 * (i 0).val + (i 1).val; omega
  · funext a; apply Fin.ext
    match a with
    | ⟨0, _⟩ => rfl
    | ⟨1, _⟩ => show (((i 0).val * 704 + (i 1).val) * 1024 + (i 2).val) % 1024 = (i 2).val; omega

end Cert.GradFfnIdeal.Sum

end
-- ==== Proof.GradSquare.lean ====
/-
  The gradient of a square weight, `aᵀ @ dy`, is summed over the tokens in four blocks; the last one writes the sum out as four slabs of
  256 rows. What the kernel leaves is the product over all 4096 tokens at once.
-/
module

public import proofs.«01_k».proof.Proof.Common
public import proofs.«01_k».proof.Proof.Gen.GradSquareIdeal.Value
public import proofs.«01_k».proof.Proof.Gen.GradSquareRefIdeal.Read
public import Idealize.ShloMosaic.Lib.Pipeline.ReadBack
public import Idealize.ShloMosaic.Lib.Pipeline.ValueKit.Tiles
public import Idealize.ShloMosaic.Lib.Tactic
public import Idealize.ShloMosaic.Lib.Claim

@[expose] public section

set_option maxRecDepth 16384

noncomputable section

namespace Cert.GradSquareIdeal.Sum

open Cert.Common Cert.GradSquareIdeal Cert.GradSquareIdeal.Gen Cert.GradSquareIdeal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords) (a1 : Memref sig .tc .vmem S1024x1024 .bf16) (h1 : a1.IsWhole)
  (a2 : Memref sig .tc .vmem S1024x1024 .bf16) (h2 : a2.IsWhole) (a3 : Memref sig .tc .vmem S4x256x1024 .bf16) (h3 : a3.IsWhole)
  (a4 : Memref sig .tc .vmem S1024x1024 .f32) (h4 : a4.IsWhole)
  (x0 : Vec F S1024x1024 .bf16) (x1 : Vec F S1024x1024 .bf16) (xs : Vec F S1024x1024 .f32)

/-- The first token block leaves its product over the zero it has just stored. -/
theorem sout_A (hc0 : cond0_0 i) (hc1 : ¬cond0_1 i) :
    sout0_A_0 c i a1 h1 a2 h2 a3 h3 a4 h4 hc0 hc1 x0 x1 = k0_pay2 k0_pay1 x0 x1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1024x1024) zero2, View.readCov_unit_zero (S := S1024x1024) _ zero2]
  simp only [View.readAt_eq_ld, h1.read_unread, h2.read_unread, View.ld_unit_zero (S := S1024x1024) zero2,
    View.ld_unit_zero (S := S1024x1024) zero2]

/-- A middle block adds its product to what the block before left. -/
theorem sout_B (hc0 : ¬cond0_0 i) (hc1 : ¬cond0_1 i) :
    sout0_B_0 c i a1 h1 a2 h2 a3 h3 a4 h4 hc0 hc1 x0 x1 xs = k0_pay2 xs x0 x1 := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero (S := S1024x1024) zero2]
  simp only [View.readAt_eq_ld, h1.read_unread, h2.read_unread, h4.read_unread, View.ld_unit_zero (S := S1024x1024) zero2,
    View.ld_unit_zero (S := S1024x1024) zero2, View.ld_unit_zero (S := S1024x1024) zero2]

/-- The four slabs of an array of 1024 rows. -/
def slabs (v : Vec F S1024x1024 .f32) : Vec F S4x256x1024 .bf16 := fun i =>
  FloatOps.truncf .bf16 bitsLt_bf16_f32 (v (ix2 (n0 := 1024) (n1 := 1024) ⟨256 * (i 0).val + (i 1).val, by
    have h0 : (i 0).val < 4 := (i 0).isLt
    have h1 : (i 1).val < 256 := (i 1).isLt
    omega⟩ (i 2)))

theorem pay_apply (w : Vec F S256x1024 .f32) (x : S1x256x1024.Idx) :
    k0_pay3 w x = FloatOps.truncf .bf16 bitsLt_bf16_f32 (w (ix2 (n0 := 256) (n1 := 1024) (x 1) (x 2))) := by
  unfold k0_pay3
  exact shapeCast_apply (truncf .bf16 w bitsLt_bf16_f32) shapeCasts_S256x1024_S1x256x1024 x (ix2 (n0 := 256) (n1 := 1024) (x 1) (x 2)) (by
    rewrite [Shape.rowMajor_val_two, Shape.rowMajor_val_three]
    have h0 : (x 0).val < 1 := (x 0).isLt
    show (x 1).val * 1024 + (x 2).val = ((x 0).val * 256 + (x 1).val) * 1024 + (x 2).val
    omega)

/-- One slab, stored at its place. -/
theorem slab_at (v : Vec F S1024x1024 .f32) (n : ℕ) (hb : ∀ a, (![256 * n, 0] : Fin 2 → ℕ) a + S256x1024.size a ≤ S1024x1024.size a)
    (y : S4x256x1024.Idx) :
    View.TileAt y ![n, 0, 0] S1x256x1024.size (k0_pay3 (View.ld v (Rect.unit (s := S1024x1024) ![256 * n, 0] S256x1024.size hb))) (slabs v y) := by
  intro x hx
  have x0 : (x 0).val < 1 := (x 0).isLt
  have h0 : (y 0).val = n + (x 0).val := hx 0
  have h1 : (y 1).val = 0 + (x 1).val := hx 1
  have h2 : (y 2).val = 0 + (x 2).val := hx 2
  refine (pay_apply _ x).trans ?_
  unfold slabs
  refine congrArg (FloatOps.truncf .bf16 bitsLt_bf16_f32) ?_
  refine View.ld_unit_apply_of v _ _ hb _ _ fun a => ?_
  match a with
  | ⟨0, _⟩ => show 256 * (y 0).val + (y 1).val = 256 * n + (x 1).val; omega
  | ⟨1, _⟩ => show (y 2).val = 0 + (x 2).val; omega

/-- The last block writes the whole sum out, slab by slab. -/
theorem out_C (hc0 : ¬cond0_0 i) (hc1 : cond0_1 i) :
    out0_C_2 c i a1 h1 a2 h2 a3 h3 a4 h4 hc0 hc1 x0 x1 xs = slabs (k0_pay2 xs x0 x1) := by
  funext y
  have hcov := cover0_C_2 c i a1 h1 a2 h2 a3 h3 a4 h4 hc0 hc1 x0 x1 xs y
  unfold out0_C_2
  rw [View.read_writes_eq_canon _ _ _ (cover0_C_2 c i a1 h1 a2 h2 a3 h3 a4 h4 hc0 hc1 x0 x1 xs)]
  refine View.canon_eq_of_allAt _ y _ hcov ?_
  clear hcov
  unfold kernelRun0_C
  dsimp only
  sl_unfold_words
  simp only [View.readCov_fill (s := S1024x1024) _ _ _ _ _ (fun a => congrFun zero2 a), View.readAt_eq_ld, h1.read_unread, h2.read_unread, h4.read_unread,
    View.ld_unit_zero (S := S1024x1024) zero2]
  refine View.allAt_cons_unit _ _ _ _ _ (slab_at (k0_pay2 xs x0 x1) 3 _ y) ?_
  refine View.allAt_cons_unit _ _ _ _ _ (slab_at (k0_pay2 xs x0 x1) 2 _ y) ?_
  refine View.allAt_cons_unit _ _ _ _ _ (slab_at (k0_pay2 xs x0 x1) 1 _ y) ?_
  exact View.allAt_cons_unit _ _ _ _ _ (slab_at (k0_pay2 xs x0 x1) 0 _ y) (View.allAt_nil y _)

end Cases

section Steps
variable {F : FTy → Type} [FloatOps F]
variable (m : (ℓ : Loc nD τ sig) → Buf (Elt F) ℓ)

theorem acc_A (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  rw [sout_A]

theorem acc_B (c : Dev nD) (t : Fin cfg0.N) (h0 : ¬t.val % 4 = 0) (h1 : ¬t.val % 4 = 3) (n : ℕ) (hn : n < cfg0.N) (e : t.val - 1 = n) :
    (outsAt0 m c t.val t.isLt).2 = k0_pay2 (outsAt0 m c n hn).2 (iblk m c 0 t) (iblk m c 1 t) := by
  subst e
  rw [outsAt0_B m c t h0 h1]
  dsimp only
  rw [sout_B]

theorem acc_C (c : Dev nD) (t : Fin cfg0.N) (h0 : ¬t.val % 4 = 0) (h1 : t.val % 4 = 3) (n : ℕ) (hn : n < cfg0.N) (e : t.val - 1 = n) :
    (outsAt0 m c t.val t.isLt).1 = slabs (k0_pay2 (outsAt0 m c n hn).2 (iblk m c 0 t) (iblk m c 1 t)) := by
  subst e
  rw [outsAt0_C m c t h0 h1]
  dsimp only
  rw [out_C]

theorem outs_congr (c : Dev nD) (n n' : ℕ) (h : n < cfg0.N) (h' : n' < cfg0.N) (e : n = n') : outsAt0 m c n h = outsAt0 m c n' h' := by
  subst e; rfl

end Steps

/-! ## The stored values at an index, over the extended reals -/

theorem dot_eq : dot_S1024x1024_S1024x1024_S1024x1024_0_0_1_1_n_n = rowsDims 1024 1024 1024 := rfl

theorem pay2_apply (v : S1024x1024.Idx → EReal) (x0 : S1024x1024.Idx → EReal) (x1 : S1024x1024.Idx → EReal) (i : S1024x1024.Idx) :
    (k0_pay2 (F := Ideal) v x0 x1 : S1024x1024.Idx → EReal) i = v i + ∑ y : Fin 1024, x0 (ix2 y (i 0)) * x1 (ix2 y (i 1)) := by
  unfold k0_pay2
  simp only [shapeCast_self, dot_eq]
  exact congrArg (fun z : EReal => v i + z) (rows_zero (φ₁ := .bf16) (φ₂ := .bf16) x0 x1 i)

theorem pay1_apply (i : S1024x1024.Idx) : (k0_pay1 (F := Ideal) : S1024x1024.Idx → EReal) i = 0 := by
  unfold k0_pay1
  simp only [shapeCast_self]
  exact Ideal.ofBits_zero_f32

/-! ## What each grid point reads -/

variable (m : (ℓ : Loc nD τ sig) → Buf (Elt Ideal) ℓ)

abbrev lhs (c : Dev nD) : S4096x1024.Idx → EReal := m ((c : Thread nD τ).loc main_arg0)
abbrev rhs (c : Dev nD) : S4096x1024.Idx → EReal := m ((c : Thread nD τ).loc main_arg1)

abbrev blkL (c : Dev nD) (t : Fin cfg0.N) : S1024x1024.Idx → EReal := iblk m c 0 t
abbrev blkR (c : Dev nD) (t : Fin cfg0.N) : S1024x1024.Idx → EReal := iblk m c 1 t
abbrev accAfter (c : Dev nD) (n : ℕ) (h : n < cfg0.N) : S1024x1024.Idx → EReal := (outsAt0 m c n h).2
abbrev outAfter (c : Dev nD) (n : ℕ) (h : n < cfg0.N) : S4x256x1024.Idx → EReal := (outsAt0 m c n h).1

theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Column `r` of the left operand at row `x`, and column `q` of the right one. -/
abbrev term (c : Dev nD) (r q : ℕ) (hr : r < 1024) (hq : q < 1024) (x : Fin 4096) : EReal :=
  lhs m c (ix2 (n0 := 4096) (n1 := 1024) x ⟨r, hr⟩) * rhs m c (ix2 (n0 := 4096) (n1 := 1024) x ⟨q, hq⟩)

theorem blk0 (c : Dev nD) (t : Fin cfg0.N) (y : Fin 1024) (r : Fin 1024) (x : Fin 4096) (hx : x.val = 1024 * t.val + y.val) :
    blkL m c t (ix2 y r) = lhs m c (ix2 (n0 := 4096) (n1 := 1024) x r) := by
  obtain ⟨e0, e1, -, -⟩ := idx_in t
  show V m c main_v0 (((cfg0.win 0).blk t).view.emb (ix2 y r)) = _
  have hb0 : (((cfg0.win 0).blk t).view.emb (ix2 y r) 0).val = win0_0.index t (0 : Fin 2) * 1024 + 1 * y.val := rfl
  have hb1 : (((cfg0.win 0).blk t).view.emb (ix2 y r) 1).val = win0_0.index t (1 : Fin 2) * 1024 + 1 * r.val := rfl
  have he : ((cfg0.win 0).blk t).view.emb (ix2 y r) = ix2 (n0 := 4096) (n1 := 1024) x r := by
    funext a; apply Fin.ext
    match a with
    | ⟨0, _⟩ => refine hb0.trans ?_; show _ = x.val; omega
    | ⟨1, _⟩ => refine hb1.trans ?_; show _ = r.val; omega
  rw [he]
  entry_read
  rfl

theorem blk1 (c : Dev nD) (t : Fin cfg0.N) (y : Fin 1024) (q : Fin 1024) (x : Fin 4096) (hx : x.val = 1024 * t.val + y.val) :
    blkR m c t (ix2 y q) = rhs m c (ix2 (n0 := 4096) (n1 := 1024) x q) := by
  obtain ⟨-, -, e0, e1⟩ := idx_in t
  show V m c main_v1 (((cfg0.win 1).blk t).view.emb (ix2 y q)) = _
  have hb0 : (((cfg0.win 1).blk t).view.emb (ix2 y q) 0).val = win0_1.index t (0 : Fin 2) * 1024 + 1 * y.val := rfl
  have hb1 : (((cfg0.win 1).blk t).view.emb (ix2 y q) 1).val = win0_1.index t (1 : Fin 2) * 1024 + 1 * q.val := rfl
  have he : ((cfg0.win 1).blk t).view.emb (ix2 y q) = ix2 (n0 := 4096) (n1 := 1024) x q := by
    funext a; apply Fin.ext
    match a with
    | ⟨0, _⟩ => refine hb0.trans ?_; show _ = x.val; omega
    | ⟨1, _⟩ => refine hb1.trans ?_; show _ = q.val; omega
  rw [he]
  entry_read
  rfl

/-- The product of a point's two blocks is the next 1024 terms of the long sum. -/
theorem blk_sum (c : Dev nD) (t : Fin cfg0.N) (i : S1024x1024.Idx) (k : ℕ) (hk : k < 4) (ht : t.val = k) :
    ∑ y : Fin 1024, blkL m c t (ix2 y (i 0)) * blkR m c t (ix2 y (i 1))
      = ∑ y : Fin 1024, ext0 (term m c (i 0).val (i 1).val (i 0).isLt (i 1).isLt) (1024 * k + y.val) := by
  refine Finset.sum_congr rfl fun y _ => ?_
  have hy := y.isLt
  have hx : 1024 * k + y.val < 4096 := by omega
  rw [ext0_of_lt _ _ hx]
  have e1 := blk0 m c t y (i 0) ⟨1024 * k + y.val, hx⟩ (by show 1024 * k + y.val = _; rw [ht])
  have e2 := blk1 m c t y (i 1) ⟨1024 * k + y.val, hx⟩ (by show 1024 * k + y.val = _; rw [ht])
  exact congrArg₂ (fun a b : EReal => a * b) e1 e2

/-! ## The running sum -/

theorem partial_sum (c : Dev nD) (i : S1024x1024.Idx) : ∀ (k : ℕ) (hk : k < 3) (h : k < cfg0.N),
    accAfter m c k h i = ∑ x ∈ Finset.range (1024 * (k + 1)), ext0 (term m c (i 0).val (i 1).val (i 0).isLt (i 1).isLt) x := by
  intro k
  induction k with
  | zero =>
    intro _ h
    have e := acc_A m c ⟨0, h⟩ (by show 0 % 4 = 0; omega) (by show ¬0 % 4 = 3; omega)
    refine (congrFun e i).trans ((pay2_apply _ _ _ i).trans ?_)
    rw [pay1_apply, zero_add]
    exact (blk_sum m c ⟨0, h⟩ i 0 (by omega) rfl).trans (sum_block_first _ 1024)
  | succ k ih =>
    intro hk h
    have hp : k < cfg0.N := Nat.lt_of_succ_lt h
    have e := acc_B m c ⟨k + 1, h⟩ (by show ¬(k + 1) % 4 = 0; omega) (by show ¬(k + 1) % 4 = 3; omega)
      k hp (by show k + 1 - 1 = k; omega)
    refine (congrFun e i).trans ((pay2_apply (accAfter m c k hp) _ _ i).trans ?_)
    rw [ih (by omega) hp]
    refine (congrArg (fun z : EReal => _ + z) (blk_sum m c ⟨k + 1, h⟩ i (k + 1) (by omega) rfl)).trans ?_
    exact sum_block _ 1024 (k + 1)

theorem row_lt (i : S4x256x1024.Idx) : 256 * (i 0).val + (i 1).val < 1024 := by
  have h0 : (i 0).val < 4 := (i 0).isLt
  have h1 : (i 1).val < 256 := (i 1).isLt
  omega

theorem written (c : Dev nD) (h : 3 < cfg0.N) (i : S4x256x1024.Idx) :
    outAfter m c 3 h i = ∑ x : Fin 4096, term m c (256 * (i 0).val + (i 1).val) (i 2).val (row_lt i) (i 2).isLt x := by
  have hp : 2 < cfg0.N := Nat.lt_of_succ_lt h
  have e := acc_C m c ⟨3, h⟩ (by show ¬3 % 4 = 0; omega) (by show 3 % 4 = 3; omega) 2 hp (by show 3 - 1 = 2; omega)
  refine (congrFun e i).trans ?_
  show (k0_pay2 (F := Ideal) (accAfter m c 2 hp) (blkL m c ⟨3, h⟩) (blkR m c ⟨3, h⟩) : S1024x1024.Idx → EReal) (ix2 (n0 := 1024) (n1 := 1024) ⟨256 * (i 0).val + (i 1).val, row_lt i⟩ (i 2)) = _
  generalize hj : ix2 (n0 := 1024) (n1 := 1024) ⟨256 * (i 0).val + (i 1).val, row_lt i⟩ (i 2) = j
  refine (pay2_apply (accAfter m c 2 hp) _ _ j).trans ?_
  rw [partial_sum m c j 2 (by omega) hp]
  refine (congrArg (fun z : EReal => _ + z) (blk_sum m c ⟨3, h⟩ j 3 (by omega) rfl)).trans ?_
  refine (sum_block _ 1024 3).trans ?_
  refine (sum_ext0 (term m c (j 0).val (j 1).val (j 0).isLt (j 1).isLt)).trans ?_
  subst hj
  rfl

/-- The array the kernel leaves: entry `(s, r, q)` is column `256 s + r` of the left operand times column `q` of the right one. -/
theorem result (c : Dev nD) (i : S4x256x1024.Idx) :
    G2 m c i = ∑ x : Fin 4096, term m c (256 * (i 0).val + (i 1).val) (i 2).val (row_lt i) (i 2).isLt x := by
  have h0 : (i 0).val < 4 := (i 0).isLt
  have h1 : (i 1).val < 256 := (i 1).isLt
  have h2 : (i 2).val < 1024 := (i 2).isLt
  have hp : pt2Of i = 3 := by
    show 4 * (1 * ((i 0).val / 4 - 0) + 1 * ((i 1).val / 256 - 0) + 1 * ((i 2).val / 1024 - 0)) + 3 = _
    omega
  have hb : pt2Of i < cfg0.N := by rw [hp]; exact lt_of_lt_of_eq (by omega) N_0.symm
  have hl : loc2Of i = i := by
    funext a; apply Fin.ext
    match a with
    | ⟨0, _⟩ => show (i 0).val % 4 = (i 0).val; omega
    | ⟨1, _⟩ => show (i 1).val % 256 = (i 1).val; omega
    | ⟨2, _⟩ => show (i 2).val % 1024 = (i 2).val; omega
  unfold G2
  rw [dif_pos hb, ← outsAt0_sweep m c (pt2Of i) hb, outs_congr m c _ _ hb (hp ▸ hb) hp, hl]
  exact written m c (hp ▸ hb) i

/-! ## The reference -/

/-- `aᵀ @ dy`, its 1024 rows as four groups of 256. -/
theorem ref_eq (c : Dev nD) (x0 x1 : S4096x1024.Idx → EReal) (e0 : x0 = lhs m c) (e1 : x1 = rhs m c) :
    GradSquareRefIdeal.Read.val_main_v5 (F := Ideal) x0 x1 = G2 m c := by
  subst e0 e1
  funext i
  rw [result m c i, GradSquareRefIdeal.Read.val_main_v5_apply]
  show GradSquareRefIdeal.Read.val_main_v4 (F := Ideal) _ _ i = _
  rw [GradSquareRefIdeal.Read.val_main_v4_apply, GradSquareRefIdeal.Read.val_main_v3_apply, GradSquareRefIdeal.Read.val_main_v2_apply]
  refine Finset.sum_congr rfl fun x _ => ?_
  rw [mul_comm]
  have h0 : (i 0).val < 4 := (i 0).isLt
  have h1 : (i 1).val < 256 := (i 1).isLt
  have h2 : (i 2).val < 1024 := (i 2).isLt
  refine congrArg₂ (fun a b : EReal => a * b) (congrArg (lhs m c) ?_) (congrArg (rhs m c) ?_)
  · funext a; apply Fin.ext
    match a with
    | ⟨0, _⟩ => rfl
    | ⟨1, _⟩ => show (((i 0).val * 256 + (i 1).val) * 1024 + (i 2).val) / 1024 = 256 * (i 0).val + (i 1).val; omega
  · funext a; apply Fin.ext
    match a with
    | ⟨0, _⟩ => rfl
    | ⟨1, _⟩ => show (((i 0).val * 256 + (i 1).val) * 1024 + (i 2).val) % 1024 = (i 2).val; omega

end Cert.GradSquareIdeal.Sum
-- ==== Proof.GradWin.lean ====
/-
  The gradient of the mixer's input weights, `hᵀ @ dp`, is summed over the tokens in four blocks. What the kernel leaves is the product
  over all 4096 tokens at once.
-/
module

public import proofs.«01_k».proof.Proof.Common
public import proofs.«01_k».proof.Proof.Gen.GradWinIdeal.Value
public import proofs.«01_k».proof.Proof.Gen.GradWinRefIdeal.Read
public import Idealize.ShloMosaic.Lib.Tactic
public import Idealize.ShloMosaic.Lib.Claim

@[expose] public section

set_option maxRecDepth 16384

noncomputable section

namespace Cert.GradWinIdeal.Sum

open Cert.Common Cert.GradWinIdeal Cert.GradWinIdeal.Gen Cert.GradWinIdeal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords) (a2 : Memref sig .tc .vmem S1024x1024 .bf16) (h2 : a2.IsWhole)
  (a3 : Memref sig .tc .vmem S1024x2048 .bf16) (h3 : a3.IsWhole) (a4 : Memref sig .tc .vmem S1x1024x2048 .bf16) (h4 : a4.IsWhole)
  (a5 : Memref sig .tc .vmem S1024x2048 .f32) (h5 : a5.IsWhole)
  (x0 : Vec F S1024x1024 .bf16) (x1 : Vec F S1024x2048 .bf16) (xs : Vec F S1024x2048 .f32)

/-- The first token block leaves its product over the zero it has just stored. -/
theorem sout_A (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2048) zero2, View.readCov_unit_zero (S := S1024x2048) _ zero2]
  simp only [View.readAt_eq_ld, h2.read_unread, h3.read_unread, View.ld_unit_zero (S := S1024x1024) zero2,
    View.ld_unit_zero (S := S1024x2048) zero2]

/-- A middle block adds its product to what the block before left. -/
theorem sout_B (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1024x2048) zero2]
  simp only [View.readAt_eq_ld, h2.read_unread, h3.read_unread, h5.read_unread, View.ld_unit_zero (S := S1024x1024) zero2,
    View.ld_unit_zero (S := S1024x2048) zero2, View.ld_unit_zero (S := S1024x2048) zero2]

/-- The last block writes the whole sum out. -/
theorem out_C (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1024x2048) zero3, View.readCov_unit_zero (S := S1024x2048) _ zero2]
  simp only [View.readAt_eq_ld, h2.read_unread, h3.read_unread, h5.read_unread, View.ld_unit_zero (S := S1024x1024) zero2,
    View.ld_unit_zero (S := S1024x2048) zero2, View.ld_unit_zero (S := S1024x2048) zero2]

end Cases

section Steps
variable {F : FTy → Type} [FloatOps F]
variable (m : (ℓ : Loc nD τ sig) → Buf (Elt F) ℓ)

theorem acc_A (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  rw [sout_A]

theorem acc_B (c : Dev nD) (t : Fin cfg0.N) (h0 : ¬t.val % 4 = 0) (h1 : ¬t.val % 4 = 3) (n : ℕ) (hn : n < cfg0.N) (e : t.val - 1 = n) :
    (outsAt0 m c t.val t.isLt).2 = k0_pay2 (outsAt0 m c n hn).2 (iblk m c 0 t) (iblk m c 1 t) := by
  subst e
  rw [outsAt0_B m c t h0 h1]
  dsimp only
  rw [sout_B]

theorem acc_C (c : Dev nD) (t : Fin cfg0.N) (h0 : ¬t.val % 4 = 0) (h1 : t.val % 4 = 3) (n : ℕ) (hn : n < cfg0.N) (e : t.val - 1 = n) :
    (outsAt0 m c t.val t.isLt).1 = k0_pay3 (k0_pay2 (outsAt0 m c n hn).2 (iblk m c 0 t) (iblk m c 1 t)) := by
  subst e
  rw [outsAt0_C m c t h0 h1]
  dsimp only
  rw [out_C]

theorem outs_congr (c : Dev nD) (n n' : ℕ) (h : n < cfg0.N) (h' : n' < cfg0.N) (e : n = n') : outsAt0 m c n h = outsAt0 m c n' h' := by
  subst e; rfl

end Steps

/-! ## The stored values at an index, over the extended reals -/

theorem dot_eq : dot_S1024x1024_S1024x2048_S1024x2048_0_0_1_1_n_n = rowsDims 1024 1024 2048 := rfl

theorem pay2_apply (v : S1024x2048.Idx → EReal) (x0 : S1024x1024.Idx → EReal) (x1 : S1024x2048.Idx → EReal) (i : S1024x2048.Idx) :
    (k0_pay2 (F := Ideal) v x0 x1 : S1024x2048.Idx → EReal) i = v i + ∑ y : Fin 1024, x0 (ix2 y (i 0)) * x1 (ix2 y (i 1)) := by
  unfold k0_pay2
  simp only [shapeCast_self, dot_eq]
  exact congrArg (fun z : EReal => v i + z) (rows_zero (φ₁ := .bf16) (φ₂ := .bf16) x0 x1 i)

theorem pay1_apply (i : S1024x2048.Idx) : (k0_pay1 (F := Ideal) : S1024x2048.Idx → EReal) i = 0 := by
  unfold k0_pay1
  simp only [shapeCast_self]
  exact Ideal.ofBits_zero_f32

theorem pay3_apply (v : S1024x2048.Idx → EReal) (i : S1x1024x2048.Idx) :
    (k0_pay3 (F := Ideal) v : S1x1024x2048.Idx → EReal) i = v (ix2 (n0 := 1024) (n1 := 2048) (i 1) (i 2)) := by
  unfold k0_pay3
  refine (shapeCast_apply _ _ i (ix2 (n0 := 1024) (n1 := 2048) (i 1) (i 2)) (by
    rewrite [Shape.rowMajor_val_two, Shape.rowMajor_val_three]
    have h0 : (i 0).val < 1 := (i 0).isLt
    show (i 1).val * 2048 + (i 2).val = ((i 0).val * 1024 + (i 1).val) * 2048 + (i 2).val
    omega)).trans rfl

/-! ## What each grid point reads -/

variable (m : (ℓ : Loc nD τ sig) → Buf (Elt Ideal) ℓ)

abbrev lhs (c : Dev nD) : S4096x1024.Idx → EReal := m ((c : Thread nD τ).loc main_arg0)
abbrev rhs (c : Dev nD) : S4096x8192.Idx → EReal := m ((c : Thread nD τ).loc main_arg1)

abbrev blkL (c : Dev nD) (t : Fin cfg0.N) : S1024x1024.Idx → EReal := iblk m c 0 t
abbrev blkR (c : Dev nD) (t : Fin cfg0.N) : S1024x2048.Idx → EReal := iblk m c 1 t
abbrev accAfter (c : Dev nD) (n : ℕ) (h : n < cfg0.N) : S1024x2048.Idx → EReal := (outsAt0 m c n h).2
abbrev outAfter (c : Dev nD) (n : ℕ) (h : n < cfg0.N) : S1x1024x2048.Idx → EReal := (outsAt0 m c n h).1

theorem idx_in : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- Column `r` of the left operand at row `x`, and column `2048 j + q` of the right one. -/
abbrev term (c : Dev nD) (j : ℕ) (r q : ℕ) (hj : j < 4) (hr : r < 1024) (hq : q < 2048) (x : Fin 4096) : EReal :=
  lhs m c (ix2 (n0 := 4096) (n1 := 1024) x ⟨r, hr⟩) * rhs m c (ix2 (n0 := 4096) (n1 := 8192) x ⟨2048 * j + q, by omega⟩)

theorem blk0 (c : Dev nD) (t : Fin cfg0.N) (y : Fin 1024) (r : Fin 1024) (x : Fin 4096) (hx : x.val = 1024 * (t.val % 4) + y.val) :
    blkL m c t (ix2 y r) = lhs m c (ix2 (n0 := 4096) (n1 := 1024) x r) := by
  obtain ⟨e0, e1, -, -⟩ := idx_in t
  show V m c main_v0 (((cfg0.win 0).blk t).view.emb (ix2 y r)) = _
  have hb0 : (((cfg0.win 0).blk t).view.emb (ix2 y r) 0).val = win0_0.index t (0 : Fin 2) * 1024 + 1 * y.val := rfl
  have hb1 : (((cfg0.win 0).blk t).view.emb (ix2 y r) 1).val = win0_0.index t (1 : Fin 2) * 1024 + 1 * r.val := rfl
  have he : ((cfg0.win 0).blk t).view.emb (ix2 y r) = ix2 (n0 := 4096) (n1 := 1024) x r := by
    funext a; apply Fin.ext
    match a with
    | ⟨0, _⟩ => refine hb0.trans ?_; show _ = x.val; omega
    | ⟨1, _⟩ => refine hb1.trans ?_; show _ = r.val; omega
  rw [he]
  entry_read
  rfl

theorem blk1 (c : Dev nD) (t : Fin cfg0.N) (y : Fin 1024) (q : Fin 2048) (x : Fin 4096) (k : Fin 8192)
    (hx : x.val = 1024 * (t.val % 4) + y.val) (hk : k.val = 2048 * (t.val / 4) + q.val) :
    blkR m c t (ix2 y q) = rhs m c (ix2 (n0 := 4096) (n1 := 8192) x k) := by
  obtain ⟨-, -, e0, e1⟩ := idx_in t
  show V m c main_v1 (((cfg0.win 1).blk t).view.emb (ix2 y q)) = _
  have hb0 : (((cfg0.win 1).blk t).view.emb (ix2 y q) 0).val = win0_1.index t (0 : Fin 2) * 1024 + 1 * y.val := rfl
  have hb1 : (((cfg0.win 1).blk t).view.emb (ix2 y q) 1).val = win0_1.index t (1 : Fin 2) * 2048 + 1 * q.val := rfl
  have he : ((cfg0.win 1).blk t).view.emb (ix2 y q) = ix2 (n0 := 4096) (n1 := 8192) x k := by
    funext a; apply Fin.ext
    match a with
    | ⟨0, _⟩ => refine hb0.trans ?_; show _ = x.val; omega
    | ⟨1, _⟩ => refine hb1.trans ?_; show _ = k.val; omega
  rw [he]
  entry_read
  rfl

/-- The product of a point's two blocks is the next 1024 terms of the long sum. -/
theorem blk_sum (c : Dev nD) (t : Fin cfg0.N) (i : S1024x2048.Idx) (j k : ℕ) (hj : j < 4) (hk : k < 4) (ht : t.val = 4 * j + k) :
    ∑ y : Fin 1024, blkL m c t (ix2 y (i 0)) * blkR m c t (ix2 y (i 1))
      = ∑ y : Fin 1024, ext0 (term m c j (i 0).val (i 1).val hj (i 0).isLt (i 1).isLt) (1024 * k + y.val) := by
  refine Finset.sum_congr rfl fun y _ => ?_
  have hy := y.isLt
  have hx : 1024 * k + y.val < 4096 := by omega
  rw [ext0_of_lt _ _ hx]
  have e1 := blk0 m c t y (i 0) ⟨1024 * k + y.val, hx⟩ (by show 1024 * k + y.val = _; omega)
  have e2 := blk1 m c t y (i 1) ⟨1024 * k + y.val, hx⟩ ⟨2048 * j + (i 1).val, by have : (i 1).val < 2048 := (i 1).isLt; omega⟩
    (by show 1024 * k + y.val = _; omega) (by show 2048 * j + (i 1).val = _; have : t.val / 4 = j := by omega
                                              rw [this])
  exact congrArg₂ (fun a b : EReal => a * b) e1 e2

/-! ## The running sum -/

theorem partial_sum (c : Dev nD) (i : S1024x2048.Idx) (j : ℕ) (hj : j < 4) : ∀ (k : ℕ) (hk : k < 3) (h : 4 * j + k < cfg0.N),
    accAfter m c (4 * j + k) h i
      = ∑ x ∈ Finset.range (1024 * (k + 1)), ext0 (term m c j (i 0).val (i 1).val hj (i 0).isLt (i 1).isLt) x := by
  intro k
  induction k with
  | zero =>
    intro _ h
    have e := acc_A m c ⟨4 * j + 0, h⟩ (by show (4 * j + 0) % 4 = 0; omega) (by show ¬(4 * j + 0) % 4 = 3; omega)
    refine (congrFun e i).trans ((pay2_apply _ _ _ i).trans ?_)
    rw [pay1_apply, zero_add]
    exact (blk_sum m c ⟨4 * j + 0, h⟩ i j 0 hj (by omega) rfl).trans (sum_block_first _ 1024)
  | succ k ih =>
    intro hk h
    have hp : 4 * j + k < cfg0.N := Nat.lt_of_succ_lt h
    have e := acc_B m c ⟨4 * j + (k + 1), h⟩ (by show ¬(4 * j + (k + 1)) % 4 = 0; omega) (by show ¬(4 * j + (k + 1)) % 4 = 3; omega)
      (4 * j + k) hp (by show 4 * j + (k + 1) - 1 = 4 * j + k; omega)
    refine (congrFun e i).trans ((pay2_apply (accAfter m c (4 * j + k) hp) _ _ i).trans ?_)
    rw [ih (by omega) hp]
    refine (congrArg (fun z : EReal => _ + z) (blk_sum m c ⟨4 * j + (k + 1), h⟩ i j (k + 1) hj (by omega) rfl)).trans ?_
    exact sum_block _ 1024 (k + 1)

theorem written (c : Dev nD) (j : ℕ) (hj : j < 4) (h : 4 * j + 3 < cfg0.N) (i : S1x1024x2048.Idx) :
    outAfter m c (4 * j + 3) h i = ∑ x : Fin 4096, term m c j (i 1).val (i 2).val hj (i 1).isLt (i 2).isLt x := by
  have hp : 4 * j + 2 < cfg0.N := Nat.lt_of_succ_lt h
  have e := acc_C m c ⟨4 * j + 3, h⟩ (by show ¬(4 * j + 3) % 4 = 0; omega) (by show (4 * j + 3) % 4 = 3; omega)
    (4 * j + 2) hp (by show 4 * j + 3 - 1 = 4 * j + 2; omega)
  refine (congrFun e i).trans ((pay3_apply _ i).trans ((pay2_apply (accAfter m c (4 * j + 2) hp) _ _ _).trans ?_))
  rw [partial_sum m c (ix2 (n0 := 1024) (n1 := 2048) (i 1) (i 2)) j hj 2 (by omega) hp]
  refine (congrArg (fun z : EReal => _ + z) (blk_sum m c ⟨4 * j + 3, h⟩ (ix2 (n0 := 1024) (n1 := 2048) (i 1) (i 2)) j 3 hj (by omega) rfl)).trans ?_
  refine (sum_block _ 1024 3).trans ?_
  exact sum_ext0 (term m c j (i 1).val (i 2).val hj (i 1).isLt (i 2).isLt)

/-- The array the kernel leaves: entry `(j, r, q)` is column `r` of the left operand times column `2048 j + q` of the right one. -/
theorem result (c : Dev nD) (i : S4x1024x2048.Idx) :
    G2 m c i = ∑ x : Fin 4096, term m c (i 0).val (i 1).val (i 2).val (i 0).isLt (i 1).isLt (i 2).isLt x := by
  have h0 : (i 0).val < 4 := (i 0).isLt
  have h1 : (i 1).val < 1024 := (i 1).isLt
  have h2 : (i 2).val < 2048 := (i 2).isLt
  have hp : pt2Of i = 4 * (i 0).val + 3 := by
    show 4 * (1 * ((i 0).val / 1 - 0) + 1 * ((i 1).val / 1024 - 0) + 1 * ((i 2).val / 2048 - 0)) + 3 = _
    omega
  have hb : pt2Of i < cfg0.N := by rw [hp]; exact lt_of_lt_of_eq (by omega) N_0.symm
  have hl : loc2Of i = ix3 (n0 := 1) (n1 := 1024) (n2 := 2048) 0 (i 1) (i 2) := by
    funext a; apply Fin.ext
    match a with
    | ⟨0, _⟩ => show (i 0).val % 1 = 0; omega
    | ⟨1, _⟩ => show (i 1).val % 1024 = (i 1).val; omega
    | ⟨2, _⟩ => show (i 2).val % 2048 = (i 2).val; omega
  unfold G2
  rw [dif_pos hb, ← outsAt0_sweep m c (pt2Of i) hb, outs_congr m c _ _ hb (hp ▸ hb) hp, hl]
  exact written m c (i 0).val h0 (hp ▸ hb) _

/-! ## The reference -/

/-- `hᵀ @ dp`, its 8192 columns as four groups of 2048. -/
theorem ref_eq (c : Dev nD) (x0 : S4096x1024.Idx → EReal) (x1 : S4096x8192.Idx → EReal) (e0 : x0 = lhs m c) (e1 : x1 = rhs m c) :
    GradWinRefIdeal.Read.val_main_v6 (F := Ideal) x0 x1 = G2 m c := by
  subst e0 e1
  funext i
  rw [result m c i, GradWinRefIdeal.Read.val_main_v6_apply]
  show GradWinRefIdeal.Read.val_main_v5 (F := Ideal) _ _ i = _
  rw [GradWinRefIdeal.Read.val_main_v5_apply, GradWinRefIdeal.Read.val_main_v4_apply, GradWinRefIdeal.Read.val_main_v3_apply, GradWinRefIdeal.Read.val_main_v2_apply]
  refine Finset.sum_congr rfl fun x _ => ?_
  rw [mul_comm]
  have h0 : (i 0).val < 4 := (i 0).isLt
  have h1 : (i 1).val < 1024 := (i 1).isLt
  have h2 : (i 2).val < 2048 := (i 2).isLt
  refine congrArg₂ (fun a b : EReal => a * b) (congrArg (lhs m c) ?_) (congrArg (rhs m c) ?_)
  · funext a; apply Fin.ext
    match a with
    | ⟨0, _⟩ => rfl
    | ⟨1, _⟩ => show (((i 1).val * 4 + (i 0).val) * 2048 + (i 2).val) / 8192 = (i 1).val; omega
  · funext a; apply Fin.ext
    match a with
    | ⟨0, _⟩ => rfl
    | ⟨1, _⟩ => show (((i 1).val * 4 + (i 0).val) * 2048 + (i 2).val) % 8192 = 2048 * (i 0).val + (i 2).val; omega

end Cert.GradWinIdeal.Sum
-- ==== Proof.MmInBwd.lean ====
/-
  The gradient of the mixer's input, `dp @ w_inᵀ`, is summed over the 8192 columns in four blocks of 2048. What the kernel leaves is
  the product over all of them at once.
-/
module

public import proofs.«01_k».proof.Proof.Common
public import proofs.«01_k».proof.Proof.Gen.MmInBwdIdeal.Value
public import proofs.«01_k».proof.Proof.Gen.MmInBwdRefIdeal.Read
public import Idealize.ShloMosaic.Lib.Tactic
public import Idealize.ShloMosaic.Lib.Claim

@[expose] public section

set_option maxRecDepth 16384

noncomputable section

namespace Cert.MmInBwdIdeal.Sum

open Cert.Common Cert.MmInBwdIdeal Cert.MmInBwdIdeal.Gen Cert.MmInBwdIdeal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords) (a2 : Memref sig .tc .vmem S1024x2048 .bf16) (h2 : a2.IsWhole)
  (a3 : Memref sig .tc .vmem S1x1024x2048 .bf16) (h3 : a3.IsWhole) (a4 : Memref sig .tc .vmem S1024x1024 .f32) (h4 : a4.IsWhole)
  (a5 : Memref sig .tc .vmem S1024x1024 .f32) (h5 : a5.IsWhole)
  (x0 : Vec F S1024x2048 .bf16) (x1 : Vec F S1x1024x2048 .bf16) (xs : Vec F S1024x1024 .f32)

/-- The first column block leaves its product over the zero it has just stored. -/
theorem sout_A (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) zero2, View.readCov_unit_zero (S := S1024x1024) _ zero2]
  simp only [View.readAt_eq_ld, h2.read_unread, h3.read_unread, View.ld_unit_zero (S := S1024x2048) zero2,
    View.ld_unit_zero (S := S1x1024x2048) zero3]

/-- A middle block adds its product to what the block before left. -/
theorem sout_B (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1024x1024) zero2]
  simp only [View.readAt_eq_ld, h2.read_unread, h3.read_unread, h5.read_unread, View.ld_unit_zero (S := S1024x2048) zero2,
    View.ld_unit_zero (S := S1x1024x2048) zero3, View.ld_unit_zero (S := S1024x1024) zero2]

/-- The last block writes the whole sum out. -/
theorem out_C (hc0 : ¬cond0_0 i) (hc1 : cond0_1 i) :
    out0_C_2 c i a2 h2 a3 h3 a4 h4 a5 h5 hc0 hc1 x0 x1 xs = k0_pay2 xs x0 x1 := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1024x1024) zero2, View.readCov_unit_zero (S := S1024x1024) _ zero2]
  simp only [View.readAt_eq_ld, h2.read_unread, h3.read_unread, h5.read_unread, View.ld_unit_zero (S := S1024x2048) zero2,
    View.ld_unit_zero (S := S1x1024x2048) zero3, View.ld_unit_zero (S := S1024x1024) zero2]

end Cases

section Steps
variable {F : FTy → Type} [FloatOps F]
variable (m : (ℓ : Loc nD τ sig) → Buf (Elt F) ℓ)

theorem acc_A (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  rw [sout_A]

theorem acc_B (c : Dev nD) (t : Fin cfg0.N) (h0 : ¬t.val % 4 = 0) (h1 : ¬t.val % 4 = 3) (n : ℕ) (hn : n < cfg0.N) (e : t.val - 1 = n) :
    (outsAt0 m c t.val t.isLt).2 = k0_pay2 (outsAt0 m c n hn).2 (iblk m c 0 t) (iblk m c 1 t) := by
  subst e
  rw [outsAt0_B m c t h0 h1]
  dsimp only
  rw [sout_B]

theorem acc_C (c : Dev nD) (t : Fin cfg0.N) (h0 : ¬t.val % 4 = 0) (h1 : t.val % 4 = 3) (n : ℕ) (hn : n < cfg0.N) (e : t.val - 1 = n) :
    (outsAt0 m c t.val t.isLt).1 = k0_pay2 (outsAt0 m c n hn).2 (iblk m c 0 t) (iblk m c 1 t) := by
  subst e
  rw [outsAt0_C m c t h0 h1]
  dsimp only
  rw [out_C]

theorem outs_congr (c : Dev nD) (n n' : ℕ) (h : n < cfg0.N) (h' : n' < cfg0.N) (e : n = n') : outsAt0 m c n h = outsAt0 m c n' h' := by
  subst e; rfl

end Steps

/-! ## The stored values at an index, over the extended reals -/

theorem dot_eq : dot_S1024x2048_S1024x2048_S1024x1024_1_1_0_0_n_n = DotDims.transposedRhs 1024 2048 1024 := rfl

theorem pay2_apply (v : S1024x1024.Idx → EReal) (x0 : S1024x2048.Idx → EReal) (x1 : S1x1024x2048.Idx → EReal) (i : S1024x1024.Idx) :
    (k0_pay2 (F := Ideal) v x0 x1 : S1024x1024.Idx → EReal) i = v i + ∑ y : Fin 2048, x0 (ix2 (i 0) y) * x1 (ix3 (0 : Fin 1) (i 1) y) := by
  unfold k0_pay2
  simp only [shapeCast_self, dot_eq]
  refine congrArg (fun z : EReal => v i + z) ((cols_zero (φ₁ := .bf16) (φ₂ := .bf16) x0 (shapeCast S1024x2048 x1 shapeCasts_S1x1024x2048_S1024x2048) i).trans
    (Finset.sum_congr rfl fun y _ => ?_))
  refine congrArg (fun z : EReal => x0 (ix2 (i 0) y) * z) ?_
  exact shapeCast_apply x1 shapeCasts_S1x1024x2048_S1024x2048 (ix2 (i 1) y) (ix3 (0 : Fin 1) (i 1) y) (by
    rewrite [Shape.rowMajor_val_two, Shape.rowMajor_val_three]
    show ((0 : ℕ) * 1024 + (i 1).val) * 2048 + y.val = (i 1).val * 2048 + y.val
    omega)

theorem pay1_apply (i : S1024x1024.Idx) : (k0_pay1 (F := Ideal) : S1024x1024.Idx → EReal) i = 0 := by
  unfold k0_pay1
  simp only [shapeCast_self]
  exact Ideal.ofBits_zero_f32

/-! ## What each grid point reads -/

variable (m : (ℓ : Loc nD τ sig) → Buf (Elt Ideal) ℓ)

abbrev lhs (c : Dev nD) : S4096x8192.Idx → EReal := m ((c : Thread nD τ).loc main_arg0)
abbrev rhs (c : Dev nD) : S1024x8192.Idx → EReal := m ((c : Thread nD τ).loc main_arg1)

abbrev blkL (c : Dev nD) (t : Fin cfg0.N) : S1024x2048.Idx → EReal := iblk m c 0 t
abbrev blkR (c : Dev nD) (t : Fin cfg0.N) : S1x1024x2048.Idx → EReal := iblk m c 1 t
abbrev accAfter (c : Dev nD) (n : ℕ) (h : n < cfg0.N) : S1024x1024.Idx → EReal := (outsAt0 m c n h).2
abbrev outAfter (c : Dev nD) (n : ℕ) (h : n < cfg0.N) : S1024x1024.Idx → EReal := (outsAt0 m c n h).1

theorem idx_in : ∀ t : Fin cfg0.N, win0_0.index t (0 : Fin 2) = t.val / 4 ∧ win0_0.index t (1 : Fin 2) = t.val % 4
    ∧ win0_1.index t (0 : Fin 3) = t.val % 4 ∧ win0_1.index t (1 : Fin 3) = 0 ∧ win0_1.index t (2 : Fin 3) = 0 :=
  (by decide +kernel : ∀ t : Fin grid0.N, _)

/-- Row `1024 j + r` of the left operand at column `x`, and row `q` of the right one. -/
abbrev term (c : Dev nD) (j : ℕ) (r q : ℕ) (hj : j < 4) (hr : r < 1024) (hq : q < 1024) (x : Fin 8192) : EReal :=
  lhs m c (ix2 (n0 := 4096) (n1 := 8192) ⟨1024 * j + r, by omega⟩ x) * rhs m c (ix2 (n0 := 1024) (n1 := 8192) ⟨q, hq⟩ x)

theorem blk0 (c : Dev nD) (t : Fin cfg0.N) (r : Fin 1024) (y : Fin 2048) (k : Fin 4096) (x : Fin 8192)
    (hk : k.val = 1024 * (t.val / 4) + r.val) (hx : x.val = 2048 * (t.val % 4) + y.val) :
    blkL m c t (ix2 r y) = lhs m c (ix2 (n0 := 4096) (n1 := 8192) k x) := by
  obtain ⟨e0, e1, -, -, -⟩ := idx_in t
  show V m c main_v0 (((cfg0.win 0).blk t).view.emb (ix2 r y)) = _
  have hb0 : (((cfg0.win 0).blk t).view.emb (ix2 r y) 0).val = win0_0.index t (0 : Fin 2) * 1024 + 1 * r.val := rfl
  have hb1 : (((cfg0.win 0).blk t).view.emb (ix2 r y) 1).val = win0_0.index t (1 : Fin 2) * 2048 + 1 * y.val := rfl
  have he : ((cfg0.win 0).blk t).view.emb (ix2 r y) = ix2 (n0 := 4096) (n1 := 8192) k x := by
    funext a; apply Fin.ext
    match a with
    | ⟨0, _⟩ => refine hb0.trans ?_; show _ = k.val; omega
    | ⟨1, _⟩ => refine hb1.trans ?_; show _ = x.val; omega
  rw [he]
  entry_read
  rfl

theorem blk1 (c : Dev nD) (t : Fin cfg0.N) (q : Fin 1024) (y : Fin 2048) (x : Fin 8192) (hx : x.val = 2048 * (t.val % 4) + y.val) :
    blkR m c t (ix3 (0 : Fin 1) q y) = rhs m c (ix2 (n0 := 1024) (n1 := 8192) q x) := by
  obtain ⟨-, -, e0, e1, e2⟩ := idx_in t
  show V m c main_v3 (((cfg0.win 1).blk t).view.emb (ix3 (0 : Fin 1) q y)) = _
  have hb0 : (((cfg0.win 1).blk t).view.emb (ix3 (0 : Fin 1) q y) 0).val = win0_1.index t (0 : Fin 3) * 1 + 1 * 0 := rfl
  have hb1 : (((cfg0.win 1).blk t).view.emb (ix3 (0 : Fin 1) q y) 1).val = win0_1.index t (1 : Fin 3) * 1024 + 1 * q.val := rfl
  have hb2 : (((cfg0.win 1).blk t).view.emb (ix3 (0 : Fin 1) q y) 2).val = win0_1.index t (2 : Fin 3) * 2048 + 1 * y.val := rfl
  have he : ((cfg0.win 1).blk t).view.emb (ix3 (0 : Fin 1) q y) = ix3 (n0 := 4) (n1 := 1024) (n2 := 2048) ⟨t.val % 4, by omega⟩ q y := by
    funext a; apply Fin.ext
    match a with
    | ⟨0, _⟩ => refine hb0.trans ?_; show _ = t.val % 4; omega
    | ⟨1, _⟩ => refine hb1.trans ?_; show _ = q.val; omega
    | ⟨2, _⟩ => refine hb2.trans ?_; show _ = y.val; omega
  rw [he]
  entry_read
  show transpose S4x1024x2048 [1, 0, 2] (shapeCast S1024x4x2048 (rhs m c) shapeCasts_S1024x8192_S1024x4x2048) _ _ = _
  refine (transpose_apply [1, 0, 2] (shapeCast S1024x4x2048 (rhs m c) shapeCasts_S1024x8192_S1024x4x2048) transposes_S1024x4x2048_S4x1024x2048_1_0_2 (ix3 (n0 := 4) (n1 := 1024) (n2 := 2048) ⟨t.val % 4, by omega⟩ q y)
    (ix3 (n0 := 1024) (n1 := 4) (n2 := 2048) q ⟨t.val % 4, by omega⟩ y) (fun b => match b with
    | ⟨0, _⟩ => rfl
    | ⟨1, _⟩ => rfl
    | ⟨2, _⟩ => rfl)).trans ?_
  exact shapeCast_apply (rhs m c) shapeCasts_S1024x8192_S1024x4x2048 (ix3 (n0 := 1024) (n1 := 4) (n2 := 2048) q ⟨t.val % 4, by omega⟩ y)
      (ix2 (n0 := 1024) (n1 := 8192) q x) (by
    rewrite [Shape.rowMajor_val_two, Shape.rowMajor_val_three]
    show q.val * 8192 + x.val = (q.val * 4 + t.val % 4) * 2048 + y.val
    omega)

/-- The product of a point's two blocks is the next 2048 terms of the long sum. -/
theorem blk_sum (c : Dev nD) (t : Fin cfg0.N) (i : S1024x1024.Idx) (j k : ℕ) (hj : j < 4) (hk : k < 4) (ht : t.val = 4 * j + k) :
    ∑ y : Fin 2048, blkL m c t (ix2 (i 0) y) * blkR m c t (ix3 (0 : Fin 1) (i 1) y)
      = ∑ y : Fin 2048, ext0 (term m c j (i 0).val (i 1).val hj (i 0).isLt (i 1).isLt) (2048 * k + y.val) := by
  refine Finset.sum_congr rfl fun y _ => ?_
  have hy := y.isLt
  have hx : 2048 * k + y.val < 8192 := by omega
  rw [ext0_of_lt _ _ hx]
  have e1 := blk0 m c t (i 0) y ⟨1024 * j + (i 0).val, by have : (i 0).val < 1024 := (i 0).isLt; omega⟩ ⟨2048 * k + y.val, hx⟩
    (by show 1024 * j + (i 0).val = _; have : t.val / 4 = j := by omega
        rw [this]) (by show 2048 * k + y.val = _; omega)
  have e2 := blk1 m c t (i 1) y ⟨2048 * k + y.val, hx⟩ (by show 2048 * k + y.val = _; omega)
  exact congrArg₂ (fun a b : EReal => a * b) e1 e2

/-! ## The running sum -/

theorem partial_sum (c : Dev nD) (i : S1024x1024.Idx) (j : ℕ) (hj : j < 4) : ∀ (k : ℕ) (hk : k < 3) (h : 4 * j + k < cfg0.N),
    accAfter m c (4 * j + k) h i
      = ∑ x ∈ Finset.range (2048 * (k + 1)), ext0 (term m c j (i 0).val (i 1).val hj (i 0).isLt (i 1).isLt) x := by
  intro k
  induction k with
  | zero =>
    intro _ h
    have e := acc_A m c ⟨4 * j + 0, h⟩ (by show (4 * j + 0) % 4 = 0; omega) (by show ¬(4 * j + 0) % 4 = 3; omega)
    refine (congrFun e i).trans ((pay2_apply _ _ _ i).trans ?_)
    rw [pay1_apply, zero_add]
    exact (blk_sum m c ⟨4 * j + 0, h⟩ i j 0 hj (by omega) rfl).trans (sum_block_first _ 2048)
  | succ k ih =>
    intro hk h
    have hp : 4 * j + k < cfg0.N := Nat.lt_of_succ_lt h
    have e := acc_B m c ⟨4 * j + (k + 1), h⟩ (by show ¬(4 * j + (k + 1)) % 4 = 0; omega) (by show ¬(4 * j + (k + 1)) % 4 = 3; omega)
      (4 * j + k) hp (by show 4 * j + (k + 1) - 1 = 4 * j + k; omega)
    refine (congrFun e i).trans ((pay2_apply (accAfter m c (4 * j + k) hp) _ _ i).trans ?_)
    rw [ih (by omega) hp]
    refine (congrArg (fun z : EReal => _ + z) (blk_sum m c ⟨4 * j + (k + 1), h⟩ i j (k + 1) hj (by omega) rfl)).trans ?_
    exact sum_block _ 2048 (k + 1)

theorem written (c : Dev nD) (j : ℕ) (hj : j < 4) (h : 4 * j + 3 < cfg0.N) (i : S1024x1024.Idx) :
    outAfter m c (4 * j + 3) h i = ∑ x : Fin 8192, term m c j (i 0).val (i 1).val hj (i 0).isLt (i 1).isLt x := by
  have hp : 4 * j + 2 < cfg0.N := Nat.lt_of_succ_lt h
  have e := acc_C m c ⟨4 * j + 3, h⟩ (by show ¬(4 * j + 3) % 4 = 0; omega) (by show (4 * j + 3) % 4 = 3; omega)
    (4 * j + 2) hp (by show 4 * j + 3 - 1 = 4 * j + 2; omega)
  refine (congrFun e i).trans ((pay2_apply (accAfter m c (4 * j + 2) hp) _ _ i).trans ?_)
  rw [partial_sum m c i j hj 2 (by omega) hp]
  refine (congrArg (fun z : EReal => _ + z) (blk_sum m c ⟨4 * j + 3, h⟩ i j 3 hj (by omega) rfl)).trans ?_
  refine (sum_block _ 2048 3).trans ?_
  exact sum_ext0 (term m c j (i 0).val (i 1).val hj (i 0).isLt (i 1).isLt)

/-- The array the kernel leaves: entry `(r, q)` is row `r` of the left operand times row `q` of the right one. -/
theorem result (c : Dev nD) (i : S4096x1024.Idx) :
    G2 m c i = ∑ x : Fin 8192, lhs m c (ix2 (n0 := 4096) (n1 := 8192) (i 0) x) * rhs m c (ix2 (n0 := 1024) (n1 := 8192) (i 1) x) := by
  have h0 : (i 0).val < 4096 := (i 0).isLt
  have h1 : (i 1).val < 1024 := (i 1).isLt
  have hp : pt2Of i = 4 * ((i 0).val / 1024) + 3 := by
    show 4 * (1 * ((i 0).val / 1024 - 0) + 1 * ((i 1).val / 1024 - 0)) + 3 = _
    omega
  have hb : pt2Of i < cfg0.N := by rw [hp]; exact lt_of_lt_of_eq (by omega) N_0.symm
  have hl : loc2Of i = ix2 (n0 := 1024) (n1 := 1024) ⟨(i 0).val % 1024, by omega⟩ (i 1) := by
    funext a; apply Fin.ext
    match a with
    | ⟨0, _⟩ => rfl
    | ⟨1, _⟩ => show (i 1).val % 1024 = (i 1).val; omega
  unfold G2
  rw [dif_pos hb, ← outsAt0_sweep m c (pt2Of i) hb, outs_congr m c _ _ hb (hp ▸ hb) hp, hl]
  refine (written m c ((i 0).val / 1024) (by omega) (hp ▸ hb) (ix2 (n0 := 1024) (n1 := 1024) ⟨(i 0).val % 1024, by omega⟩ (i 1))).trans ?_
  refine Finset.sum_congr rfl fun x _ => ?_
  refine congrArg (fun z : EReal => z * rhs m c (ix2 (n0 := 1024) (n1 := 8192) (i 1) x)) (congrArg (lhs m c) ?_)
  funext a; apply Fin.ext
  match a with
  | ⟨0, _⟩ => show 1024 * ((i 0).val / 1024) + (i 0).val % 1024 = (i 0).val; omega
  | ⟨1, _⟩ => rfl

/-! ## The reference -/

theorem ref_eq (c : Dev nD) (x0 : S4096x8192.Idx → EReal) (x1 : S1024x8192.Idx → EReal) (e0 : x0 = lhs m c) (e1 : x1 = rhs m c) :
    MmInBwdRefIdeal.Read.val_main_v2 (F := Ideal) x0 x1 = G2 m c := by
  subst e0 e1
  funext i
  rw [result m c i, MmInBwdRefIdeal.Read.val_main_v2_apply]
  refine Finset.sum_congr rfl fun x _ => ?_
  refine congrArg₂ (fun a b : EReal => a * b) (congrArg (lhs m c) ?_) (congrArg (rhs m c) ?_)
  · funext a; apply Fin.ext
    match a with
    | ⟨0, _⟩ => rfl
    | ⟨1, _⟩ => rfl
  · funext a; apply Fin.ext
    match a with
    | ⟨0, _⟩ => rfl
    | ⟨1, _⟩ => rfl

end Cert.MmInBwdIdeal.Sum
-- ==== Proof.Lnmod.lean ====
/-
  The modulated norm: each block of 1024 rows is normed by its rows' mean squares, scaled and shifted.
-/
module

public import proofs.«01_k».proof.Proof.Common
public import proofs.«01_k».proof.Proof.Gen.LnmodIdeal.Value
public import proofs.«01_k».proof.Proof.Gen.LnmodRefIdeal.Read
public import Idealize.ShloMosaic.Lib.Tactic
public import Idealize.ShloMosaic.Lib.Claim
public import proofs.«01_k».proof.Proof.Rows
@[expose] public section

set_option maxRecDepth 16384

noncomputable section

namespace Cert.LnmodIdeal.Sum

open Cert.Common Cert.Rows Cert.LnmodIdeal Cert.LnmodIdeal.Gen Cert.LnmodIdeal.Value
open Idealize.ShloMosaic Idealize.ShloMosaic.TcCoe Idealize.ShloMosaic.ValueIdx Idealize.SL.Sem
open Idealize.ShloMosaic.Pipeline (Dat)

/-! ## What a grid point stores -/

theorem out4_eq (x0 : S1024x1024.Idx → EReal) (x1 x2 x3 : S1x1024.Idx → EReal) : out0_4 (F := Ideal) x0 x1 x2 x3 = k0_pay1 (F := Ideal) x0 x1 x2 x3 := by
  unfold out0_4
  rw [View.canon_unit_zero (S := S1024x1024) zero2]
  simp only [View.ld_unit_zero (S := S1024x1024) zero2, View.ld_unit_zero (S := S1x1024) zero2]

theorem pay1_apply (x0 : S1024x1024.Idx → EReal) (x1 x2 x3 : S1x1024.Idx → EReal) (r q : Fin 1024) :
    (k0_pay1 (F := Ideal) x0 x1 x2 x3 : S1024x1024.Idx → EReal) (ix2 r q) = modl (fun k => x0 (ix2 r k)) (x1 (ix2 (0 : Fin 1) q)) (x2 (ix2 (0 : Fin 1) q)) (x3 (ix2 (0 : Fin 1) q)) q := by
  unfold k0_pay1
  exact modl_apply (R := 1024) x0 x1 x2 x3 reduces_S1024x1024_S1024 (.inl rfl) rfl shapeCasts_S1024_S1024x1 broadcasts_S1024x1_S1024x1024 broadcasts_S1x1024_S1024x1024 r q

/-! ## What a grid point reads -/

variable (m : (ℓ : Loc nD τ sig) → Buf (Elt Ideal) ℓ)

abbrev a0 (c : Dev nD) : S4096x1024.Idx → EReal := m ((c : Thread nD τ).loc main_arg0)
abbrev a1 (c : Dev nD) : S1x1024.Idx → EReal := m ((c : Thread nD τ).loc main_arg1)
abbrev a2 (c : Dev nD) : S1x1024.Idx → EReal := m ((c : Thread nD τ).loc main_arg2)
abbrev a3 (c : Dev nD) : S1x1024.Idx → EReal := m ((c : Thread nD τ).loc main_arg3)

/-- Where each window stands at grid point `t`. -/
theorem idx_in : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_4.flush t = true :=
  (by decide +kernel : ∀ t : Fin grid0.N, _)

abbrev b0 (c : Dev nD) (t : Fin cfg0.N) : S1024x1024.Idx → EReal := iblk m c 0 t

theorem blk0 (c : Dev nD) (t : Fin cfg0.N) (y : S1024x1024.Idx) (k : S4096x1024.Idx) (h0 : (k 0).val = 1024 * (t.val) + (y 0).val) (h1 : (k 1).val = (y 1).val) :
    b0 m c t y = a0 m c k := by
  obtain ⟨e0, e1, -⟩ := idx_in t
  have hb0 : (((cfg0.win 0).blk t).view.emb y 0).val = win0_0.index t (0 : Fin 2) * 1024 + 1 * (y 0).val := rfl
  have hb1 : (((cfg0.win 0).blk t).view.emb y 1).val = win0_0.index t (1 : Fin 2) * 1024 + 1 * (y 1).val := rfl
  show V m c main_arg0 (((cfg0.win 0).blk t).view.emb y) = _
  entry_read
  refine congrArg (a0 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b1 (c : Dev nD) (t : Fin cfg0.N) : S1x1024.Idx → EReal := iblk m c 1 t

theorem blk1 (c : Dev nD) (t : Fin cfg0.N) (y : S1x1024.Idx) (k : S1x1024.Idx) (h0 : (k 0).val = (y 0).val) (h1 : (k 1).val = (y 1).val) :
    b1 m c t y = a1 m c k := by
  obtain ⟨-, -, e0, e1, -⟩ := idx_in t
  have hb0 : (((cfg0.win 1).blk t).view.emb y 0).val = win0_1.index t (0 : Fin 2) * 1 + 1 * (y 0).val := rfl
  have hb1 : (((cfg0.win 1).blk t).view.emb y 1).val = win0_1.index t (1 : Fin 2) * 1024 + 1 * (y 1).val := rfl
  show V m c main_arg1 (((cfg0.win 1).blk t).view.emb y) = _
  entry_read
  refine congrArg (a1 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b2 (c : Dev nD) (t : Fin cfg0.N) : S1x1024.Idx → EReal := iblk m c 2 t

theorem blk2 (c : Dev nD) (t : Fin cfg0.N) (y : S1x1024.Idx) (k : S1x1024.Idx) (h0 : (k 0).val = (y 0).val) (h1 : (k 1).val = (y 1).val) :
    b2 m c t y = a2 m c k := by
  obtain ⟨-, -, -, -, e0, e1, -⟩ := idx_in t
  have hb0 : (((cfg0.win 2).blk t).view.emb y 0).val = win0_2.index t (0 : Fin 2) * 1 + 1 * (y 0).val := rfl
  have hb1 : (((cfg0.win 2).blk t).view.emb y 1).val = win0_2.index t (1 : Fin 2) * 1024 + 1 * (y 1).val := rfl
  show V m c main_arg2 (((cfg0.win 2).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b3 (c : Dev nD) (t : Fin cfg0.N) : S1x1024.Idx → EReal := iblk m c 3 t

theorem blk3 (c : Dev nD) (t : Fin cfg0.N) (y : S1x1024.Idx) (k : S1x1024.Idx) (h0 : (k 0).val = (y 0).val) (h1 : (k 1).val = (y 1).val) :
    b3 m c t y = a3 m c k := by
  obtain ⟨-, -, -, -, -, -, e0, e1, -⟩ := idx_in t
  have hb0 : (((cfg0.win 3).blk t).view.emb y 0).val = win0_3.index t (0 : Fin 2) * 1 + 1 * (y 0).val := rfl
  have hb1 : (((cfg0.win 3).blk t).view.emb y 1).val = win0_3.index t (1 : Fin 2) * 1024 + 1 * (y 1).val := rfl
  show V m c main_arg3 (((cfg0.win 3).blk t).view.emb y) = _
  entry_read
  refine congrArg (a3 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

/-! ## The reference -/

theorem ref_apply (x0 : S4096x1024.Idx → EReal) (x1 x2 x3 : S1x1024.Idx → EReal) (p : Fin 4096) (q : Fin 1024) :
    LnmodRefIdeal.Read.val_main_v18 (F := Ideal) x0 x1 x2 x3 (ix2 (n0 := 4096) (n1 := 1024) p q)
      = modl (fun k => x0 (ix2 (n0 := 4096) (n1 := 1024) p k)) (x1 (ix2 (n0 := 1) (n1 := 1024) 0 q)) (x2 (ix2 (n0 := 1) (n1 := 1024) 0 q)) (x3 (ix2 (n0 := 1) (n1 := 1024) 0 q)) q := by
  show LnmodRefIdeal.Read.val_main_v17 (F := Ideal) x0 x1 x2 x3 (ix2 (n0 := 4096) (n1 := 1024) p q) = _
  rw [LnmodRefIdeal.Read.val_main_v17_apply, LnmodRefIdeal.Read.val_main_v15_apply, LnmodRefIdeal.Read.val_main_v11_apply, LnmodRefIdeal.Read.val_main_v9_apply, LnmodRefIdeal.Read.val_main_v8_apply, LnmodRefIdeal.Read.val_main_v7_apply, LnmodRefIdeal.Read.val_main_v6_apply, LnmodRefIdeal.Read.val_main_v4_apply, LnmodRefIdeal.Read.val_main_v2_apply, LnmodRefIdeal.Read.val_main_v1_apply, LnmodRefIdeal.Read.val_main_v3_apply, LnmodRefIdeal.Read.val_main_v5_apply, LnmodRefIdeal.Read.val_main_cst_0_apply, LnmodRefIdeal.Read.val_main_cst_1_apply, LnmodRefIdeal.Read.val_main_cst_apply, LnmodRefIdeal.Read.val_main_v10_apply, LnmodRefIdeal.Read.val_main_v14_apply, LnmodRefIdeal.Read.val_main_v13_apply, LnmodRefIdeal.Read.val_main_v12_apply, LnmodRefIdeal.Read.val_main_cst_2_apply, LnmodRefIdeal.Read.val_main_v16_apply]
  have hj : ∀ k : Fin 1024, LnmodRefIdeal.Read.idx_main_v1 (LnmodRefIdeal.Read.idx_main_v2 (LnmodRefIdeal.Read.idx_main_v8 (ix2 (n0 := 4096) (n1 := 1024) p q))) k = ix2 (n0 := 4096) (n1 := 1024) p k := fun k => funext fun a => Fin.ext (match a with
    | ⟨0, _⟩ => rfl
    | ⟨1, _⟩ => rfl)
  refine congrArg₂ (fun a b : EReal => a + b)
    (congrArg₂ (fun a b : EReal => a * b)
      (congrArg₂ (fun a b : EReal => a * b)
        (congrArg (fun z : EReal => x0 (ix2 (n0 := 4096) (n1 := 1024) p q) * Ideal.rsqrt (Ideal.div z n1024 + eps))
          ((congrArg (fun z : EReal => z + _) Ideal.ofBits_zero_f32).trans ((zero_add _).trans (Finset.sum_congr rfl fun k _ =>
            congrArg (fun j => x0 j * x0 j) (hj k)))))
        (congrArg x1 (funext fun a => Fin.ext ?_)))
      (congrArg (fun j => FloatOps.ofBits (F := Ideal) .f32 0x3F800000#32 + x2 j) (funext fun a => Fin.ext ?_)))
    (congrArg x3 (funext fun a => Fin.ext ?_))
  · match a with
    | ⟨0, _⟩ => rfl
    | ⟨1, _⟩ => rfl
  · match a with
    | ⟨0, _⟩ => rfl
    | ⟨1, _⟩ => rfl
  · match a with
    | ⟨0, _⟩ => rfl
    | ⟨1, _⟩ => rfl

/-! ## The result -/

theorem flushed4_eq (c : Dev nD) (t : Fin cfg0.N) :
    (dats m 0 c).flushed 4 t = ((cfg0.win 4).blk t).view.read (Elt Ideal) (LnmodRefIdeal.Read.val_main_v18 (F := Ideal) (a0 m c) (a1 m c) (a2 m c) (a3 m c)) := by
  have ht : t.val < 4 := lt_of_lt_of_eq t.isLt N_0
  rw [flushed4, out4_eq]
  refine on_ix2 (n0 := 1024) (n1 := 1024) fun r q => ?_
  obtain ⟨ew0, ew1⟩ : win0_4.index t (0 : Fin 2) = t.val ∧ win0_4.index t (1 : Fin 2) = 0 := by
    obtain ⟨-, -, -, -, -, -, -, -, e0, e1, -⟩ := idx_in t
    exact ⟨e0, e1⟩
  have he : ((cfg0.win 4).blk t).view.emb (ix2 r q) = ix2 (n0 := 4096) (n1 := 1024) ⟨1024 * t.val + r.val, by omega⟩ q := funext fun a => Fin.ext (match a with
    | ⟨0, _⟩ => by show win0_4.index t (0 : Fin 2) * 1024 + 1 * r.val = 1024 * t.val + r.val; rw [ew0]; omega
    | ⟨1, _⟩ => by show win0_4.index t (1 : Fin 2) * 1024 + 1 * q.val = q.val; rw [ew1]; omega)
  show (k0_pay1 (F := Ideal) (b0 m c t) (b1 m c t) (b2 m c t) (b3 m c t) : S1024x1024.Idx → EReal) (ix2 r q) = LnmodRefIdeal.Read.val_main_v18 (F := Ideal) (a0 m c) (a1 m c) (a2 m c) (a3 m c) (((cfg0.win 4).blk t).view.emb (ix2 r q))
  rw [he, ref_apply, pay1_apply, blk1 m c t (ix2 (0 : Fin 1) q) (ix2 (n0 := 1) (n1 := 1024) 0 q) rfl rfl, blk2 m c t (ix2 (0 : Fin 1) q) (ix2 (n0 := 1) (n1 := 1024) 0 q) rfl rfl,
    blk3 m c t (ix2 (0 : Fin 1) q) (ix2 (n0 := 1) (n1 := 1024) 0 q) rfl rfl]
  refine congrArg (fun f : Fin 1024 → EReal => modl f _ _ _ q) (funext fun k => ?_)
  exact blk0 m c t (ix2 r k) (ix2 (n0 := 4096) (n1 := 1024) ⟨1024 * t.val + r.val, by omega⟩ k) rfl rfl

theorem mem_blk4 (t : Fin cfg0.N) (i : S4096x1024.Idx) :
    i ∈ ((cfg0.win 4).blk t).view.set ↔ ∀ a, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]

theorem result4 (c : Dev nD) : (dats m 0 c).arrAt 4 cfg0.N = LnmodRefIdeal.Read.val_main_v18 (F := Ideal) (a0 m c) (a1 m c) (a2 m c) (a3 m c) :=
  (dats m 0 c).arrAt_eq_of_cover 4 (LnmodRefIdeal.Read.val_main_v18 (F := Ideal) (a0 m c) (a1 m c) (a2 m c) (a3 m c)) (fun t _ => flushed4_eq m c t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, e0, e1, hf⟩ := idx_in ⟨(i 0).val / 1024, ht⟩
    refine ⟨⟨(i 0).val / 1024, ht⟩, hf, (mem_blk4 _ i).2 fun a => ?_⟩
    match a with
    | ⟨0, _⟩ =>
      show win0_4.index _ (0 : Fin 2) * 1024 ≤ (i 0).val ∧ (i 0).val < win0_4.index _ (0 : Fin 2) * 1024 + 1024
      rw [e0]
      show (((i 0).val / 1024)) * 1024 ≤ (i 0).val ∧ (i 0).val < (((i 0).val / 1024)) * 1024 + 1024
      omega
    | ⟨1, _⟩ =>
      show win0_4.index _ (1 : Fin 2) * 1024 ≤ (i 1).val ∧ (i 1).val < win0_4.index _ (1 : Fin 2) * 1024 + 1024
      rw [e1]
      show (0) * 1024 ≤ (i 1).val ∧ (i 1).val < (0) * 1024 + 1024
      omega

end Cert.LnmodIdeal.Sum
-- ==== Proof.MmIn.lean ====
/-
  The mixer's input product `h @ w_in`, tile by tile: each tile of the result is finished at one grid point. What the kernel leaves is
  the whole product.
-/
module

public import proofs.«01_k».proof.Proof.Common
public import proofs.«01_k».proof.Proof.Gen.MmInIdeal.Value
public import proofs.«01_k».proof.Proof.Gen.MmInRefIdeal.Read
public import Idealize.ShloMosaic.Lib.Tactic
public import Idealize.ShloMosaic.Lib.Claim

@[expose] public section

set_option maxRecDepth 16384

noncomputable section

namespace Cert.MmInIdeal.Sum

open Cert.Common Cert.MmInIdeal Cert.MmInIdeal.Gen Cert.MmInIdeal.Value
open Idealize.ShloMosaic Idealize.ShloMosaic.TcCoe Idealize.ShloMosaic.ValueIdx Idealize.SL.Sem
open Idealize.ShloMosaic.Pipeline (Dat)

theorem out_eq {F : FTy → Type} [FloatOps F] (x0 : Vec F S1024x1024 .bf16) (x1 : Vec F S1x1024x2048 .bf16) : out0_2 x0 x1 = k0_pay1 x0 x1 := by
  unfold out0_2
  rw [View.canon_unit_zero (S := S1024x2048) zero2, View.ld_unit_zero (S := S1024x1024) zero2, View.ld_unit_zero (S := S1x1024x2048) zero3]

theorem dot_eq : dot_S1024x1024_S1024x2048_S1024x2048_1_0_0_1_n_n = DotDims.plain 1024 1024 2048 := rfl

theorem pay_apply (x0 : S1024x1024.Idx → EReal) (x1 : S1x1024x2048.Idx → EReal) (i : S1024x2048.Idx) :
    (k0_pay1 (F := Ideal) x0 x1 : S1024x2048.Idx → EReal) i = ∑ y : Fin 1024, x0 (ix2 (i 0) y) * x1 (ix3 (0 : Fin 1) y (i 1)) := by
  unfold k0_pay1
  simp only [shapeCast_self, dot_eq]
  refine (plain_zero (φ₁ := .bf16) (φ₂ := .bf16) x0 (shapeCast S1024x2048 x1 shapeCasts_S1x1024x2048_S1024x2048) i).trans
    (Finset.sum_congr rfl fun y _ => ?_)
  refine congrArg (fun z : EReal => x0 (ix2 (i 0) y) * z) ?_
  exact shapeCast_apply x1 shapeCasts_S1x1024x2048_S1024x2048 (ix2 y (i 1)) (ix3 (0 : Fin 1) y (i 1)) (by
    rewrite [Shape.rowMajor_val_two, Shape.rowMajor_val_three]
    show ((0 : ℕ) * 1024 + y.val) * 2048 + (i 1).val = y.val * 2048 + (i 1).val
    omega)

/-! ## What each grid point reads -/

variable (m : (ℓ : Loc nD τ sig) → Buf (Elt Ideal) ℓ)

abbrev lhs (c : Dev nD) : S4096x1024.Idx → EReal := m ((c : Thread nD τ).loc main_arg0)
abbrev rhs (c : Dev nD) : S1024x8192.Idx → EReal := m ((c : Thread nD τ).loc main_arg1)

abbrev blkL (c : Dev nD) (t : Fin cfg0.N) : S1024x1024.Idx → EReal := iblk m c 0 t
abbrev blkR (c : Dev nD) (t : Fin cfg0.N) : S1x1024x2048.Idx → EReal := iblk m c 1 t

theorem idx_in : ∀ t : Fin cfg0.N, win0_0.index t (0 : Fin 2) = t.val % 4 ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 2) = t.val % 4 ∧ win0_2.index t (1 : Fin 2) = t.val / 4 ∧ win0_2.flush t = true :=
  (by decide +kernel : ∀ t : Fin grid0.N, _)

theorem blk0 (c : Dev nD) (t : Fin cfg0.N) (r : Fin 1024) (x : Fin 1024) (k : Fin 4096) (hk : k.val = 1024 * (t.val % 4) + r.val) :
    blkL m c t (ix2 r x) = lhs m c (ix2 (n0 := 4096) (n1 := 1024) k x) := by
  obtain ⟨e0, e1, -⟩ := idx_in t
  show V m c main_v0 (((cfg0.win 0).blk t).view.emb (ix2 r x)) = _
  have hb0 : (((cfg0.win 0).blk t).view.emb (ix2 r x) 0).val = win0_0.index t (0 : Fin 2) * 1024 + 1 * r.val := rfl
  have hb1 : (((cfg0.win 0).blk t).view.emb (ix2 r x) 1).val = win0_0.index t (1 : Fin 2) * 1024 + 1 * x.val := rfl
  have he : ((cfg0.win 0).blk t).view.emb (ix2 r x) = ix2 (n0 := 4096) (n1 := 1024) k x := by
    funext a; apply Fin.ext
    match a with
    | ⟨0, _⟩ => refine hb0.trans ?_; show _ = k.val; omega
    | ⟨1, _⟩ => refine hb1.trans ?_; show _ = x.val; omega
  rw [he]
  entry_read
  rfl

theorem blk1 (c : Dev nD) (t : Fin cfg0.N) (x : Fin 1024) (q : Fin 2048) (k : Fin 8192) (hk : k.val = 2048 * (t.val / 4) + q.val) :
    blkR m c t (ix3 (0 : Fin 1) x q) = rhs m c (ix2 (n0 := 1024) (n1 := 8192) x k) := by
  obtain ⟨-, -, e0, e1, e2, -⟩ := idx_in t
  have hN : t.val < 16 := lt_of_lt_of_eq t.isLt N_0
  show V m c main_v3 (((cfg0.win 1).blk t).view.emb (ix3 (0 : Fin 1) x q)) = _
  have hb0 : (((cfg0.win 1).blk t).view.emb (ix3 (0 : Fin 1) x q) 0).val = win0_1.index t (0 : Fin 3) * 1 + 1 * 0 := rfl
  have hb1 : (((cfg0.win 1).blk t).view.emb (ix3 (0 : Fin 1) x q) 1).val = win0_1.index t (1 : Fin 3) * 1024 + 1 * x.val := rfl
  have hb2 : (((cfg0.win 1).blk t).view.emb (ix3 (0 : Fin 1) x q) 2).val = win0_1.index t (2 : Fin 3) * 2048 + 1 * q.val := rfl
  have he : ((cfg0.win 1).blk t).view.emb (ix3 (0 : Fin 1) x q) = ix3 (n0 := 4) (n1 := 1024) (n2 := 2048) ⟨t.val / 4, by omega⟩ x q := by
    funext a; apply Fin.ext
    match a with
    | ⟨0, _⟩ => refine hb0.trans ?_; show _ = t.val / 4; omega
    | ⟨1, _⟩ => refine hb1.trans ?_; show _ = x.val; omega
    | ⟨2, _⟩ => refine hb2.trans ?_; show _ = q.val; omega
  rw [he]
  entry_read
  show transpose S4x1024x2048 [1, 0, 2] (shapeCast S1024x4x2048 (rhs m c) shapeCasts_S1024x8192_S1024x4x2048) _ _ = _
  refine (transpose_apply [1, 0, 2] (shapeCast S1024x4x2048 (rhs m c) shapeCasts_S1024x8192_S1024x4x2048) transposes_S1024x4x2048_S4x1024x2048_1_0_2 (ix3 (n0 := 4) (n1 := 1024) (n2 := 2048) ⟨t.val / 4, by omega⟩ x q)
    (ix3 (n0 := 1024) (n1 := 4) (n2 := 2048) x ⟨t.val / 4, by omega⟩ q) (fun b => match b with
    | ⟨0, _⟩ => rfl
    | ⟨1, _⟩ => rfl
    | ⟨2, _⟩ => rfl)).trans ?_
  exact shapeCast_apply (rhs m c) shapeCasts_S1024x8192_S1024x4x2048 (ix3 (n0 := 1024) (n1 := 4) (n2 := 2048) x ⟨t.val / 4, by omega⟩ q)
      (ix2 (n0 := 1024) (n1 := 8192) x k) (by
    rewrite [Shape.rowMajor_val_two, Shape.rowMajor_val_three]
    show x.val * 8192 + k.val = (x.val * 4 + t.val / 4) * 2048 + q.val
    omega)

/-! ## The whole product -/

/-- Row `i 0` of the left operand times column `i 1` of the right one. -/
def G (c : Dev nD) : S4096x8192.Idx → EReal := fun i =>
  ∑ x : Fin 1024, lhs m c (ix2 (n0 := 4096) (n1 := 1024) (i 0) x) * rhs m c (ix2 (n0 := 1024) (n1 := 8192) x (i 1))

theorem flushed_eq (c : Dev nD) (t : Fin cfg0.N) : (dats m 0 c).flushed 2 t = ((cfg0.win 2).blk t).view.read (Elt Ideal) (G m c) := by
  obtain ⟨-, -, -, -, -, e0, e1, -⟩ := idx_in t
  rw [flushed2, out_eq]
  funext y
  show (k0_pay1 (F := Ideal) (blkL m c t) (blkR m c t) : S1024x2048.Idx → EReal) y = G m c (((cfg0.win 2).blk t).view.emb y)
  refine (pay_apply _ _ y).trans ?_
  have hb0 : (((cfg0.win 2).blk t).view.emb y 0).val = win0_2.index t (0 : Fin 2) * 1024 + 1 * (y 0).val := rfl
  have hb1 : (((cfg0.win 2).blk t).view.emb y 1).val = win0_2.index t (1 : Fin 2) * 2048 + 1 * (y 1).val := rfl
  refine Finset.sum_congr rfl fun x _ => ?_
  exact congrArg₂ (fun a b : EReal => a * b)
    (blk0 m c t (y 0) x (((cfg0.win 2).blk t).view.emb y 0) (by rw [hb0, e0]; omega))
    (blk1 m c t x (y 1) (((cfg0.win 2).blk t).view.emb y 1) (by rw [hb1, e1]; omega))

theorem mem_blk (t : Fin cfg0.N) (i : S4096x8192.Idx) :
    i ∈ ((cfg0.win 2).blk t).view.set ↔ ∀ a, win0_2.index t a * S1024x2048.size a ≤ (i a).val ∧ (i a).val < win0_2.index t a * S1024x2048.size a + S1024x2048.size a := by
  show i ∈ ((View.whole main_v4).slice (win0_2.rect t)).set ↔ _
  rw [View.set_slice_whole, Rect.mem_set_unit]

theorem result (c : Dev nD) : (dats m 0 c).arrAt 2 cfg0.N = G m c :=
  (dats m 0 c).arrAt_eq_of_cover 2 (G m c) (fun t _ => flushed_eq m c t) fun i => by
    have h0 : (i 0).val < 4096 := (i 0).isLt
    have h1 : (i 1).val < 8192 := (i 1).isLt
    have ht : 4 * ((i 1).val / 2048) + (i 0).val / 1024 < cfg0.N := lt_of_lt_of_eq (by omega) N_0.symm
    obtain ⟨-, -, -, -, -, e0, e1, hf⟩ := idx_in ⟨4 * ((i 1).val / 2048) + (i 0).val / 1024, ht⟩
    refine ⟨⟨4 * ((i 1).val / 2048) + (i 0).val / 1024, ht⟩, hf, (mem_blk _ i).2 fun a => ?_⟩
    match a with
    | ⟨0, _⟩ =>
      show win0_2.index _ (0 : Fin 2) * 1024 ≤ (i 0).val ∧ (i 0).val < win0_2.index _ (0 : Fin 2) * 1024 + 1024
      rw [e0]
      show (4 * ((i 1).val / 2048) + (i 0).val / 1024) % 4 * 1024 ≤ (i 0).val ∧ (i 0).val < (4 * ((i 1).val / 2048) + (i 0).val / 1024) % 4 * 1024 + 1024
      omega
    | ⟨1, _⟩ =>
      show win0_2.index _ (1 : Fin 2) * 2048 ≤ (i 1).val ∧ (i 1).val < win0_2.index _ (1 : Fin 2) * 2048 + 2048
      rw [e1]
      show (4 * ((i 1).val / 2048) + (i 0).val / 1024) / 4 * 2048 ≤ (i 1).val ∧ (i 1).val < (4 * ((i 1).val / 2048) + (i 0).val / 1024) / 4 * 2048 + 2048
      omega

/-! ## The reference -/

theorem ref_eq (c : Dev nD) (x0 : S4096x1024.Idx → EReal) (x1 : S1024x8192.Idx → EReal) (e0 : x0 = lhs m c) (e1 : x1 = rhs m c) :
    MmInRefIdeal.Read.val_main_v1 (F := Ideal) x0 x1 = G m c := by
  subst e0 e1
  funext i
  rw [MmInRefIdeal.Read.val_main_v1_apply]
  show MmInRefIdeal.Read.val_main_v0 (F := Ideal) _ _ i = _
  rw [MmInRefIdeal.Read.val_main_v0_apply]
  refine Finset.sum_congr rfl fun x _ => ?_
  refine congrArg₂ (fun a b : EReal => a * b) (congrArg (lhs m c) ?_) (congrArg (rhs m c) ?_)
  · funext a; apply Fin.ext
    match a with
    | ⟨0, _⟩ => rfl
    | ⟨1, _⟩ => rfl
  · funext a; apply Fin.ext
    match a with
    | ⟨0, _⟩ => rfl
    | ⟨1, _⟩ => rfl

end Cert.MmInIdeal.Sum
-- ==== Proof.Branch.lean ====
/-
  The merged branches: each block of 1024 rows takes both branches through their weights and adds them under their gates.
-/
module

public import proofs.«01_k».proof.Proof.Common
public import proofs.«01_k».proof.Proof.Gen.BranchIdeal.Value
public import proofs.«01_k».proof.Proof.Gen.BranchRefIdeal.Read
public import Idealize.ShloMosaic.Lib.Tactic
public import Idealize.ShloMosaic.Lib.Claim

@[expose] public section

set_option maxRecDepth 16384

noncomputable section

namespace Cert.BranchIdeal.Sum

open Cert.Common Cert.BranchIdeal Cert.BranchIdeal.Gen Cert.BranchIdeal.Value
open Idealize.ShloMosaic Idealize.ShloMosaic.TcCoe Idealize.ShloMosaic.ValueIdx Idealize.SL.Sem
open Idealize.ShloMosaic.Pipeline (Dat)

theorem dot_eq : dot_S1024x1024_S1024x1024_S1024x1024_1_0_0_1_n_n = DotDims.plain 1024 1024 1024 := rfl

/-! ## What a grid point stores -/

theorem out6_eq (x0 x1 x2 x3 x4 x5 : S1024x1024.Idx → EReal) : out0_6 (F := Ideal) x0 x1 x2 x3 x4 x5 = k0_pay3 (F := Ideal) x0 x4 x1 x5 x2 x3 := by
  unfold out0_6
  rw [View.canon_unit_zero (S := S1024x1024) zero2]
  simp only [View.ld_unit_zero (S := S1024x1024) zero2]
theorem out7_eq (x0 x1 x2 x3 x4 x5 : S1024x1024.Idx → EReal) : out0_7 (F := Ideal) x0 x1 x2 x3 x4 x5 = k0_pay4 (F := Ideal) x0 x4 := by
  unfold out0_7
  rw [View.canon_unit_zero (S := S1024x1024) zero2]
  simp only [View.ld_unit_zero (S := S1024x1024) zero2]
theorem out8_eq (x0 x1 x2 x3 x4 x5 : S1024x1024.Idx → EReal) : out0_8 (F := Ideal) x0 x1 x2 x3 x4 x5 = k0_pay5 (F := Ideal) x1 x5 := by
  unfold out0_8
  rw [View.canon_unit_zero (S := S1024x1024) zero2]
  simp only [View.ld_unit_zero (S := S1024x1024) zero2]

theorem dot_apply (x0 x1 : S1024x1024.Idx → EReal) (y : S1024x1024.Idx) :
    (k0_pay1 (F := Ideal) x0 x1 : S1024x1024.Idx → EReal) y = ∑ x : Fin 1024, x0 (ix2 (y 0) x) * x1 (ix2 x (y 1)) := by
  unfold k0_pay1
  simp only [shapeCast_self, dot_eq]
  exact plain_zero (φ₁ := .bf16) (φ₂ := .bf16) x0 x1 y

/-- Two values under their gates. -/
def merged (pa pb ga gb : EReal) : EReal := Ideal.logistic ga * pa + Ideal.logistic gb * pb

theorem merged_apply (x0 x4 x1 x5 x2 x3 : S1024x1024.Idx → EReal) (y : S1024x1024.Idx) :
    (k0_pay3 (F := Ideal) x0 x4 x1 x5 x2 x3 : S1024x1024.Idx → EReal) y
      = merged (∑ x : Fin 1024, x0 (ix2 (y 0) x) * x4 (ix2 x (y 1))) (∑ x : Fin 1024, x1 (ix2 (y 0) x) * x5 (ix2 x (y 1))) (x2 y) (x3 y) := by
  unfold k0_pay3
  simp only [shapeCast_self]
  exact congrArg₂ (fun a b : EReal => merged a b (x2 y) (x3 y)) (dot_apply x0 x4 y) (dot_apply x1 x5 y)

/-! ## What a grid point reads -/

variable (m : (ℓ : Loc nD τ sig) → Buf (Elt Ideal) ℓ)

abbrev a0 (c : Dev nD) : S4096x1024.Idx → EReal := m ((c : Thread nD τ).loc main_arg0)
abbrev a1 (c : Dev nD) : S4096x1024.Idx → EReal := m ((c : Thread nD τ).loc main_arg1)
abbrev a2 (c : Dev nD) : S4096x8192.Idx → EReal := m ((c : Thread nD τ).loc main_arg2)
abbrev a3 (c : Dev nD) : S1024x1024.Idx → EReal := m ((c : Thread nD τ).loc main_arg3)
abbrev a4 (c : Dev nD) : S1024x1024.Idx → EReal := m ((c : Thread nD τ).loc main_arg4)

/-- Where each window stands at grid point `t`. -/
theorem idx_in : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 6
    ∧ win0_3.index t (0 : Fin 2) = t.val
    ∧ win0_3.index t (1 : Fin 2) = 7
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_6.flush t = true
    ∧ win0_7.flush t = true
    ∧ win0_8.flush t = true :=
  (by decide +kernel : ∀ t : Fin grid0.N, _)

abbrev b0 (c : Dev nD) (t : Fin cfg0.N) : S1024x1024.Idx → EReal := iblk m c 0 t

theorem blk0 (c : Dev nD) (t : Fin cfg0.N) (y : S1024x1024.Idx) (k : S4096x1024.Idx) (h0 : (k 0).val = 1024 * (t.val) + (y 0).val) (h1 : (k 1).val = (y 1).val) :
    b0 m c t y = a0 m c k := by
  obtain ⟨e0, e1, -⟩ := idx_in t
  have hb0 : (((cfg0.win 0).blk t).view.emb y 0).val = win0_0.index t (0 : Fin 2) * 1024 + 1 * (y 0).val := rfl
  have hb1 : (((cfg0.win 0).blk t).view.emb y 1).val = win0_0.index t (1 : Fin 2) * 1024 + 1 * (y 1).val := rfl
  show V m c main_v0 (((cfg0.win 0).blk t).view.emb y) = _
  entry_read
  refine congrArg (a0 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b1 (c : Dev nD) (t : Fin cfg0.N) : S1024x1024.Idx → EReal := iblk m c 1 t

theorem blk1 (c : Dev nD) (t : Fin cfg0.N) (y : S1024x1024.Idx) (k : S4096x1024.Idx) (h0 : (k 0).val = 1024 * (t.val) + (y 0).val) (h1 : (k 1).val = (y 1).val) :
    b1 m c t y = a1 m c k := by
  obtain ⟨-, -, e0, e1, -⟩ := idx_in t
  have hb0 : (((cfg0.win 1).blk t).view.emb y 0).val = win0_1.index t (0 : Fin 2) * 1024 + 1 * (y 0).val := rfl
  have hb1 : (((cfg0.win 1).blk t).view.emb y 1).val = win0_1.index t (1 : Fin 2) * 1024 + 1 * (y 1).val := rfl
  show V m c main_v1 (((cfg0.win 1).blk t).view.emb y) = _
  entry_read
  refine congrArg (a1 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b2 (c : Dev nD) (t : Fin cfg0.N) : S1024x1024.Idx → EReal := iblk m c 2 t

theorem blk2 (c : Dev nD) (t : Fin cfg0.N) (y : S1024x1024.Idx) (k : S4096x8192.Idx) (h0 : (k 0).val = 1024 * (t.val) + (y 0).val) (h1 : (k 1).val = 1024 * (6) + (y 1).val) :
    b2 m c t y = a2 m c k := by
  obtain ⟨-, -, -, -, e0, e1, -⟩ := idx_in t
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  show V m c main_v2 (((cfg0.win 2).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b3 (c : Dev nD) (t : Fin cfg0.N) : S1024x1024.Idx → EReal := iblk m c 3 t

theorem blk3 (c : Dev nD) (t : Fin cfg0.N) (y : S1024x1024.Idx) (k : S4096x8192.Idx) (h0 : (k 0).val = 1024 * (t.val) + (y 0).val) (h1 : (k 1).val = 1024 * (7) + (y 1).val) :
    b3 m c t y = a2 m c k := by
  obtain ⟨-, -, -, -, -, -, e0, e1, -⟩ := idx_in t
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  show V m c main_v2 (((cfg0.win 3).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b4 (c : Dev nD) (t : Fin cfg0.N) : S1024x1024.Idx → EReal := iblk m c 4 t

theorem blk4 (c : Dev nD) (t : Fin cfg0.N) (y : S1024x1024.Idx) (k : S1024x1024.Idx) (h0 : (k 0).val = (y 0).val) (h1 : (k 1).val = (y 1).val) :
    b4 m c t y = a3 m c k := by
  obtain ⟨-, -, -, -, -, -, -, -, e0, e1, -⟩ := idx_in t
  have hb0 : (((cfg0.win 4).blk t).view.emb y 0).val = win0_4.index t (0 : Fin 2) * 1024 + 1 * (y 0).val := rfl
  have hb1 : (((cfg0.win 4).blk t).view.emb y 1).val = win0_4.index t (1 : Fin 2) * 1024 + 1 * (y 1).val := rfl
  show V m c main_v3 (((cfg0.win 4).blk t).view.emb y) = _
  entry_read
  refine congrArg (a3 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b5 (c : Dev nD) (t : Fin cfg0.N) : S1024x1024.Idx → EReal := iblk m c 5 t

theorem blk5 (c : Dev nD) (t : Fin cfg0.N) (y : S1024x1024.Idx) (k : S1024x1024.Idx) (h0 : (k 0).val = (y 0).val) (h1 : (k 1).val = (y 1).val) :
    b5 m c t y = a4 m c k := by
  obtain ⟨-, -, -, -, -, -, -, -, -, -, e0, e1, -⟩ := idx_in t
  have hb0 : (((cfg0.win 5).blk t).view.emb y 0).val = win0_5.index t (0 : Fin 2) * 1024 + 1 * (y 0).val := rfl
  have hb1 : (((cfg0.win 5).blk t).view.emb y 1).val = win0_5.index t (1 : Fin 2) * 1024 + 1 * (y 1).val := rfl
  show V m c main_v4 (((cfg0.win 5).blk t).view.emb y) = _
  entry_read
  refine congrArg (a4 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

/-! ## The reference -/

/-- Row `i 0` of `y` times column `i 1` of `w`. -/
def entry (y : S4096x1024.Idx → EReal) (w : S1024x1024.Idx → EReal) (i : S4096x1024.Idx) : EReal :=
  ∑ x : Fin 1024, y (ix2 (n0 := 4096) (n1 := 1024) (i 0) x) * w (ix2 (n0 := 1024) (n1 := 1024) x (i 1))

theorem prod_apply (y : S4096x1024.Idx → EReal) (w : S1024x1024.Idx → EReal) (i : S4096x1024.Idx) :
    BranchRefIdeal.Read.val_main_v0 (F := Ideal) y w i = entry y w i := by
  rw [BranchRefIdeal.Read.val_main_v0_apply]
  refine Finset.sum_congr rfl fun x _ => congrArg₂ (fun a b : EReal => a * b) (congrArg y (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

theorem first_apply (y : S4096x1024.Idx → EReal) (w : S1024x1024.Idx → EReal) (i : S4096x1024.Idx) :
    BranchRefIdeal.Read.val_main_v20 (F := Ideal) y w i = entry y w i := prod_apply y w i
theorem second_apply (y : S4096x1024.Idx → EReal) (w : S1024x1024.Idx → EReal) (i : S4096x1024.Idx) :
    BranchRefIdeal.Read.val_main_v21 (F := Ideal) y w i = entry y w i := prod_apply y w i

/-- Column `i 1` of the group of 1024 columns numbered `g`. -/
abbrev gateAt (g : ℕ) (hg : g < 8) (i : S4096x1024.Idx) : S4096x8192.Idx :=
  ix2 (n0 := 4096) (n1 := 8192) (i 0) ⟨1024 * g + (i 1).val, by have h : (i 1).val < 1024 := (i 1).isLt; omega⟩

theorem gates_apply (y y' : S4096x1024.Idx → EReal) (p : S4096x8192.Idx → EReal) (w w' : S1024x1024.Idx → EReal) (i : S4096x1024.Idx) :
    BranchRefIdeal.Read.val_main_v19 (F := Ideal) y y' p w w' i = merged (entry y w i) (entry y' w' i) (p (gateAt 6 (by decide) i)) (p (gateAt 7 (by decide) i)) := by
  show BranchRefIdeal.Read.val_main_v18 (F := Ideal) y y' p w w' i = _
  rw [BranchRefIdeal.Read.val_main_v18_apply, BranchRefIdeal.Read.val_main_v10_apply, BranchRefIdeal.Read.val_main_v17_apply, BranchRefIdeal.Read.val_main_v9_apply, BranchRefIdeal.Read.val_main_v16_apply, BranchRefIdeal.Read.val_main_v8_apply, BranchRefIdeal.Read.val_main_v15_apply, BranchRefIdeal.Read.val_main_cst_0_apply, BranchRefIdeal.Read.val_main_cst_2_apply,
    BranchRefIdeal.Read.val_main_v7_apply, BranchRefIdeal.Read.val_main_v14_apply, BranchRefIdeal.Read.val_main_v6_apply, BranchRefIdeal.Read.val_main_v13_apply, BranchRefIdeal.Read.val_main_cst_apply, BranchRefIdeal.Read.val_main_cst_1_apply, BranchRefIdeal.Read.val_main_v5_apply, BranchRefIdeal.Read.val_main_v12_apply, BranchRefIdeal.Read.val_main_v4_apply, BranchRefIdeal.Read.val_main_v11_apply,
    BranchRefIdeal.Read.val_main_v2_apply, BranchRefIdeal.Read.val_main_v3_apply, one_bits]
  have ea : BranchRefIdeal.Read.idx_main_v2 i = gateAt 6 (by decide) i := funext fun a => Fin.ext (match a with
    | ⟨0, _⟩ => rfl
    | ⟨1, _⟩ => by show 6144 + (i 1).val = 1024 * 6 + (i 1).val; omega)
  have eb : BranchRefIdeal.Read.idx_main_v3 i = gateAt 7 (by decide) i := funext fun a => Fin.ext (match a with
    | ⟨0, _⟩ => rfl
    | ⟨1, _⟩ => by show 7168 + (i 1).val = 1024 * 7 + (i 1).val; omega)
  rw [ea, eb]
  exact congrArg₂ (fun a b : EReal => merged a b (p (gateAt 6 (by decide) i)) (p (gateAt 7 (by decide) i))) (prod_apply y w i) (prod_apply y' w' i)

/-! ## The three results -/

theorem first_entry (c : Dev nD) (t : Fin cfg0.N) (y : S1024x1024.Idx) (i : S4096x1024.Idx) (h0 : (i 0).val = 1024 * t.val + (y 0).val) (h1 : (i 1).val = (y 1).val) :
    ∑ x : Fin 1024, b0 m c t (ix2 (y 0) x) * b4 m c t (ix2 x (y 1)) = entry (a0 m c) (a3 m c) i :=
  Finset.sum_congr rfl fun x _ => congrArg₂ (fun a b : EReal => a * b)
    (blk0 m c t (ix2 (y 0) x) (ix2 (n0 := 4096) (n1 := 1024) (i 0) x) h0 rfl)
    (blk4 m c t (ix2 x (y 1)) (ix2 (n0 := 1024) (n1 := 1024) x (i 1)) rfl h1)

theorem second_entry (c : Dev nD) (t : Fin cfg0.N) (y : S1024x1024.Idx) (i : S4096x1024.Idx) (h0 : (i 0).val = 1024 * t.val + (y 0).val) (h1 : (i 1).val = (y 1).val) :
    ∑ x : Fin 1024, b1 m c t (ix2 (y 0) x) * b5 m c t (ix2 x (y 1)) = entry (a1 m c) (a4 m c) i :=
  Finset.sum_congr rfl fun x _ => congrArg₂ (fun a b : EReal => a * b)
    (blk1 m c t (ix2 (y 0) x) (ix2 (n0 := 4096) (n1 := 1024) (i 0) x) h0 rfl)
    (blk5 m c t (ix2 x (y 1)) (ix2 (n0 := 1024) (n1 := 1024) x (i 1)) rfl h1)

theorem flushed6_eq (c : Dev nD) (t : Fin cfg0.N) :
    (dats m 0 c).flushed 6 t = ((cfg0.win 6).blk t).view.read (Elt Ideal) (BranchRefIdeal.Read.val_main_v19 (F := Ideal) (a0 m c) (a1 m c) (a2 m c) (a3 m c) (a4 m c)) := by
  rw [flushed6, out6_eq]
  funext y
  obtain ⟨-, -, -, -, -, -, -, -, -, -, -, -, e0, e1, -⟩ := idx_in t
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  have h0 : (((cfg0.win 6).blk t).view.emb y 0).val = 1024 * t.val + (y 0).val := by rw [hb0, e0]; omega
  have h1 : (((cfg0.win 6).blk t).view.emb y 1).val = (y 1).val := by rw [hb1, e1]; omega
  show (k0_pay3 (F := Ideal) (b0 m c t) (b4 m c t) (b1 m c t) (b5 m c t) (b2 m c t) (b3 m c t) : S1024x1024.Idx → EReal) y = BranchRefIdeal.Read.val_main_v19 (F := Ideal) (a0 m c) (a1 m c) (a2 m c) (a3 m c) (a4 m c) (((cfg0.win 6).blk t).view.emb y)
  refine (merged_apply _ _ _ _ _ _ y).trans (Eq.trans ?_ (gates_apply _ _ _ _ _ _).symm)
  exact (congrArg₂ (fun a b : EReal => merged a b (b2 m c t y) (b3 m c t y)) (first_entry m c t y _ h0 h1) (second_entry m c t y _ h0 h1)).trans
    (congrArg₂ (merged _ _) (blk2 m c t y (gateAt 6 (by decide) (((cfg0.win 6).blk t).view.emb y)) h0 (by show 1024 * 6 + (((cfg0.win 6).blk t).view.emb y 1).val = 1024 * 6 + (y 1).val; rw [h1]))
      (blk3 m c t y (gateAt 7 (by decide) (((cfg0.win 6).blk t).view.emb y)) h0 (by show 1024 * 7 + (((cfg0.win 6).blk t).view.emb y 1).val = 1024 * 7 + (y 1).val; rw [h1])))

theorem mem_blk6 (t : Fin cfg0.N) (i : S4096x1024.Idx) :
    i ∈ ((cfg0.win 6).blk t).view.set ↔ ∀ a, win0_6.index t a * S1024x1024.size a ≤ (i a).val ∧ (i a).val < win0_6.index t a * S1024x1024.size a + S1024x1024.size a := by
  show i ∈ ((View.whole main_v5_0).slice (win0_6.rect t)).set ↔ _
  rw [View.set_slice_whole, Rect.mem_set_unit]

theorem result6 (c : Dev nD) : (dats m 0 c).arrAt 6 cfg0.N = BranchRefIdeal.Read.val_main_v19 (F := Ideal) (a0 m c) (a1 m c) (a2 m c) (a3 m c) (a4 m c) :=
  (dats m 0 c).arrAt_eq_of_cover 6 (BranchRefIdeal.Read.val_main_v19 (F := Ideal) (a0 m c) (a1 m c) (a2 m c) (a3 m c) (a4 m c)) (fun t _ => flushed6_eq m c t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, -, -, -, -, e0, e1, -, -, -, -, hf, -⟩ := idx_in ⟨(i 0).val / 1024, ht⟩
    refine ⟨⟨(i 0).val / 1024, ht⟩, hf, (mem_blk6 _ i).2 fun a => ?_⟩
    match a with
    | ⟨0, _⟩ =>
      show win0_6.index _ (0 : Fin 2) * 1024 ≤ (i 0).val ∧ (i 0).val < win0_6.index _ (0 : Fin 2) * 1024 + 1024
      rw [e0]
      show (((i 0).val / 1024)) * 1024 ≤ (i 0).val ∧ (i 0).val < (((i 0).val / 1024)) * 1024 + 1024
      omega
    | ⟨1, _⟩ =>
      show win0_6.index _ (1 : Fin 2) * 1024 ≤ (i 1).val ∧ (i 1).val < win0_6.index _ (1 : Fin 2) * 1024 + 1024
      rw [e1]
      show (0) * 1024 ≤ (i 1).val ∧ (i 1).val < (0) * 1024 + 1024
      omega

theorem flushed7_eq (c : Dev nD) (t : Fin cfg0.N) :
    (dats m 0 c).flushed 7 t = ((cfg0.win 7).blk t).view.read (Elt Ideal) (BranchRefIdeal.Read.val_main_v20 (F := Ideal) (a0 m c) (a3 m c)) := by
  rw [flushed7, out7_eq]
  funext y
  obtain ⟨-, -, -, -, -, -, -, -, -, -, -, -, -, -, e0, e1, -⟩ := idx_in t
  have hb0 : (((cfg0.win 7).blk t).view.emb y 0).val = win0_7.index t (0 : Fin 2) * 1024 + 1 * (y 0).val := rfl
  have hb1 : (((cfg0.win 7).blk t).view.emb y 1).val = win0_7.index t (1 : Fin 2) * 1024 + 1 * (y 1).val := rfl
  have h0 : (((cfg0.win 7).blk t).view.emb y 0).val = 1024 * t.val + (y 0).val := by rw [hb0, e0]; omega
  have h1 : (((cfg0.win 7).blk t).view.emb y 1).val = (y 1).val := by rw [hb1, e1]; omega
  show (k0_pay4 (F := Ideal) (b0 m c t) (b4 m c t) : S1024x1024.Idx → EReal) y = BranchRefIdeal.Read.val_main_v20 (F := Ideal) (a0 m c) (a3 m c) (((cfg0.win 7).blk t).view.emb y)
  exact (dot_apply _ _ y).trans ((first_entry m c t y _ h0 h1).trans (first_apply _ _ _).symm)

theorem mem_blk7 (t : Fin cfg0.N) (i : S4096x1024.Idx) :
    i ∈ ((cfg0.win 7).blk t).view.set ↔ ∀ a, win0_7.index t a * S1024x1024.size a ≤ (i a).val ∧ (i a).val < win0_7.index t a * S1024x1024.size a + S1024x1024.size a := by
  show i ∈ ((View.whole main_v5_1).slice (win0_7.rect t)).set ↔ _
  rw [View.set_slice_whole, Rect.mem_set_unit]

theorem result7 (c : Dev nD) : (dats m 0 c).arrAt 7 cfg0.N = BranchRefIdeal.Read.val_main_v20 (F := Ideal) (a0 m c) (a3 m c) :=
  (dats m 0 c).arrAt_eq_of_cover 7 (BranchRefIdeal.Read.val_main_v20 (F := Ideal) (a0 m c) (a3 m c)) (fun t _ => flushed7_eq m c t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, -, -, -, -, -, -, e0, e1, -, -, -, hf, -⟩ := idx_in ⟨(i 0).val / 1024, ht⟩
    refine ⟨⟨(i 0).val / 1024, ht⟩, hf, (mem_blk7 _ i).2 fun a => ?_⟩
    match a with
    | ⟨0, _⟩ =>
      show win0_7.index _ (0 : Fin 2) * 1024 ≤ (i 0).val ∧ (i 0).val < win0_7.index _ (0 : Fin 2) * 1024 + 1024
      rw [e0]
      show (((i 0).val / 1024)) * 1024 ≤ (i 0).val ∧ (i 0).val < (((i 0).val / 1024)) * 1024 + 1024
      omega
    | ⟨1, _⟩ =>
      show win0_7.index _ (1 : Fin 2) * 1024 ≤ (i 1).val ∧ (i 1).val < win0_7.index _ (1 : Fin 2) * 1024 + 1024
      rw [e1]
      show (0) * 1024 ≤ (i 1).val ∧ (i 1).val < (0) * 1024 + 1024
      omega

theorem flushed8_eq (c : Dev nD) (t : Fin cfg0.N) :
    (dats m 0 c).flushed 8 t = ((cfg0.win 8).blk t).view.read (Elt Ideal) (BranchRefIdeal.Read.val_main_v21 (F := Ideal) (a1 m c) (a4 m c)) := by
  rw [flushed8, out8_eq]
  funext y
  obtain ⟨-, -, -, -, -, -, -, -, -, -, -, -, -, -, -, -, e0, e1, -⟩ := idx_in t
  have hb0 : (((cfg0.win 8).blk t).view.emb y 0).val = win0_8.index t (0 : Fin 2) * 1024 + 1 * (y 0).val := rfl
  have hb1 : (((cfg0.win 8).blk t).view.emb y 1).val = win0_8.index t (1 : Fin 2) * 1024 + 1 * (y 1).val := rfl
  have h0 : (((cfg0.win 8).blk t).view.emb y 0).val = 1024 * t.val + (y 0).val := by rw [hb0, e0]; omega
  have h1 : (((cfg0.win 8).blk t).view.emb y 1).val = (y 1).val := by rw [hb1, e1]; omega
  show (k0_pay5 (F := Ideal) (b1 m c t) (b5 m c t) : S1024x1024.Idx → EReal) y = BranchRefIdeal.Read.val_main_v21 (F := Ideal) (a1 m c) (a4 m c) (((cfg0.win 8).blk t).view.emb y)
  exact (dot_apply _ _ y).trans ((second_entry m c t y _ h0 h1).trans (second_apply _ _ _).symm)

theorem mem_blk8 (t : Fin cfg0.N) (i : S4096x1024.Idx) :
    i ∈ ((cfg0.win 8).blk t).view.set ↔ ∀ a, win0_8.index t a * S1024x1024.size a ≤ (i a).val ∧ (i a).val < win0_8.index t a * S1024x1024.size a + S1024x1024.size a := by
  show i ∈ ((View.whole main_v5_2).slice (win0_8.rect t)).set ↔ _
  rw [View.set_slice_whole, Rect.mem_set_unit]

theorem result8 (c : Dev nD) : (dats m 0 c).arrAt 8 cfg0.N = BranchRefIdeal.Read.val_main_v21 (F := Ideal) (a1 m c) (a4 m c) :=
  (dats m 0 c).arrAt_eq_of_cover 8 (BranchRefIdeal.Read.val_main_v21 (F := Ideal) (a1 m c) (a4 m c)) (fun t _ => flushed8_eq m c t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, -, -, -, -, -, -, -, -, e0, e1, -, -, hf⟩ := idx_in ⟨(i 0).val / 1024, ht⟩
    refine ⟨⟨(i 0).val / 1024, ht⟩, hf, (mem_blk8 _ i).2 fun a => ?_⟩
    match a with
    | ⟨0, _⟩ =>
      show win0_8.index _ (0 : Fin 2) * 1024 ≤ (i 0).val ∧ (i 0).val < win0_8.index _ (0 : Fin 2) * 1024 + 1024
      rw [e0]
      show (((i 0).val / 1024)) * 1024 ≤ (i 0).val ∧ (i 0).val < (((i 0).val / 1024)) * 1024 + 1024
      omega
    | ⟨1, _⟩ =>
      show win0_8.index _ (1 : Fin 2) * 1024 ≤ (i 1).val ∧ (i 1).val < win0_8.index _ (1 : Fin 2) * 1024 + 1024
      rw [e1]
      show (0) * 1024 ≤ (i 1).val ∧ (i 1).val < (0) * 1024 + 1024
      omega

end Cert.BranchIdeal.Sum
-- ==== Proof.OutProj.lean ====
/-
  The mixer's output product, the gated residual made from it and that residual's modulated norm: each block of 1024 rows is
  finished at one grid point.
-/
module

public import proofs.«01_k».proof.Proof.Common
public import proofs.«01_k».proof.Proof.Gen.OutProjIdeal.Value
public import proofs.«01_k».proof.Proof.Gen.OutProjRefIdeal.Read
public import Idealize.ShloMosaic.Lib.Tactic
public import Idealize.ShloMosaic.Lib.Claim
public import proofs.«01_k».proof.Proof.Rows
@[expose] public section

set_option maxRecDepth 16384

noncomputable section

namespace Cert.OutProjIdeal.Sum

open Cert.Common Cert.Rows Cert.OutProjIdeal Cert.OutProjIdeal.Gen Cert.OutProjIdeal.Value
open Idealize.ShloMosaic Idealize.ShloMosaic.TcCoe Idealize.ShloMosaic.ValueIdx Idealize.SL.Sem
open Idealize.ShloMosaic.Pipeline (Dat)

theorem dot_eq : dot_S1024x1024_S1024x1024_S1024x1024_1_0_0_1_n_n = DotDims.plain 1024 1024 1024 := rfl

/-! ## What a grid point stores -/

theorem out8_eq (x0 x1 x2 : S1024x1024.Idx → EReal) (x3 x4 x5 x6 : S1x1024.Idx → EReal) : out0_8 (F := Ideal) x0 x1 x2 x3 x4 x5 x6 = k0_pay1 (F := Ideal) x0 x1 := by
  unfold out0_8
  rw [View.canon_unit_zero (S := S1024x1024) zero2]
  simp only [View.ld_unit_zero (S := S1024x1024) zero2]
theorem out7_eq (x0 x1 x2 : S1024x1024.Idx → EReal) (x3 x4 x5 x6 : S1x1024.Idx → EReal) : out0_7 (F := Ideal) x0 x1 x2 x3 x4 x5 x6 = k0_pay2 (F := Ideal) x0 x1 x2 x3 := by
  unfold out0_7
  rw [View.canon_unit_zero (S := S1024x1024) zero2]
  simp only [View.ld_unit_zero (S := S1024x1024) zero2, View.ld_unit_zero (S := S1x1024) zero2]
theorem out9_eq (x0 x1 x2 : S1024x1024.Idx → EReal) (x3 x4 x5 x6 : S1x1024.Idx → EReal) : out0_9 (F := Ideal) x0 x1 x2 x3 x4 x5 x6 = k0_pay3 (F := Ideal) x0 x1 x2 x3 x4 x5 x6 := by
  unfold out0_9
  rw [View.canon_unit_zero (S := S1024x1024) zero2]
  simp only [View.ld_unit_zero (S := S1024x1024) zero2, View.ld_unit_zero (S := S1x1024) zero2]

theorem pay1_apply (x0 x1 : S1024x1024.Idx → EReal) (r q : Fin 1024) : (k0_pay1 (F := Ideal) x0 x1 : S1024x1024.Idx → EReal) (ix2 r q) = ∑ x : Fin 1024, x0 (ix2 r x) * x1 (ix2 x q) := by
  unfold k0_pay1
  simp only [shapeCast_self, dot_eq]
  exact plain_zero (φ₁ := .bf16) (φ₂ := .bf16) x0 x1 (ix2 r q)

theorem pay2_apply (x0 x1 x2 : S1024x1024.Idx → EReal) (x3 : S1x1024.Idx → EReal) (r q : Fin 1024) :
    (k0_pay2 (F := Ideal) x0 x1 x2 x3 : S1024x1024.Idx → EReal) (ix2 r q) = x2 (ix2 r q) + x3 (ix2 (0 : Fin 1) q) * ∑ x : Fin 1024, x0 (ix2 r x) * x1 (ix2 x q) := by
  unfold k0_pay2
  exact congrArg₂ (fun a b : EReal => x2 (ix2 r q) + a * b) (broadcastTo_1b_ab_apply x3 broadcasts_S1x1024_S1024x1024 r q) (pay1_apply x0 x1 r q)

theorem pay3_apply (x0 x1 x2 : S1024x1024.Idx → EReal) (x3 x4 x5 x6 : S1x1024.Idx → EReal) (r q : Fin 1024) :
    (k0_pay3 (F := Ideal) x0 x1 x2 x3 x4 x5 x6 : S1024x1024.Idx → EReal) (ix2 r q)
      = modl (fun k => (k0_pay2 (F := Ideal) x0 x1 x2 x3 : S1024x1024.Idx → EReal) (ix2 r k)) (x4 (ix2 (0 : Fin 1) q)) (x5 (ix2 (0 : Fin 1) q)) (x6 (ix2 (0 : Fin 1) q)) q := by
  unfold k0_pay3
  exact modl_apply (R := 1024) (k0_pay2 (F := Ideal) x0 x1 x2 x3) x4 x5 x6 reduces_S1024x1024_S1024 (.inl rfl) rfl shapeCasts_S1024_S1024x1 broadcasts_S1024x1_S1024x1024 broadcasts_S1x1024_S1024x1024 r q

/-! ## What a grid point reads -/

variable (m : (ℓ : Loc nD τ sig) → Buf (Elt Ideal) ℓ)

abbrev a0 (c : Dev nD) : S4096x1024.Idx → EReal := m ((c : Thread nD τ).loc main_arg0)
abbrev a1 (c : Dev nD) : S1024x1024.Idx → EReal := m ((c : Thread nD τ).loc main_arg1)
abbrev a2 (c : Dev nD) : S4096x1024.Idx → EReal := m ((c : Thread nD τ).loc main_arg2)
abbrev a3 (c : Dev nD) : S1x1024.Idx → EReal := m ((c : Thread nD τ).loc main_arg3)
abbrev a4 (c : Dev nD) : S1x1024.Idx → EReal := m ((c : Thread nD τ).loc main_arg4)
abbrev a5 (c : Dev nD) : S1x1024.Idx → EReal := m ((c : Thread nD τ).loc main_arg5)
abbrev a6 (c : Dev nD) : S1x1024.Idx → EReal := m ((c : Thread nD τ).loc main_arg6)

/-- Where each window stands at grid point `t`. -/
theorem idx_in : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0
    ∧ win0_7.flush t = true
    ∧ win0_8.flush t = true
    ∧ win0_9.flush t = true :=
  (by decide +kernel : ∀ t : Fin grid0.N, _)

abbrev b0 (c : Dev nD) (t : Fin cfg0.N) : S1024x1024.Idx → EReal := iblk m c 0 t

theorem blk0 (c : Dev nD) (t : Fin cfg0.N) (y : S1024x1024.Idx) (k : S4096x1024.Idx) (h0 : (k 0).val = 1024 * (t.val) + (y 0).val) (h1 : (k 1).val = (y 1).val) :
    b0 m c t y = a0 m c k := by
  obtain ⟨e0, e1, -⟩ := idx_in t
  have hb0 : (((cfg0.win 0).blk t).view.emb y 0).val = win0_0.index t (0 : Fin 2) * 1024 + 1 * (y 0).val := rfl
  have hb1 : (((cfg0.win 0).blk t).view.emb y 1).val = win0_0.index t (1 : Fin 2) * 1024 + 1 * (y 1).val := rfl
  show V m c main_v0 (((cfg0.win 0).blk t).view.emb y) = _
  entry_read
  refine congrArg (a0 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b1 (c : Dev nD) (t : Fin cfg0.N) : S1024x1024.Idx → EReal := iblk m c 1 t

theorem blk1 (c : Dev nD) (t : Fin cfg0.N) (y : S1024x1024.Idx) (k : S1024x1024.Idx) (h0 : (k 0).val = (y 0).val) (h1 : (k 1).val = (y 1).val) :
    b1 m c t y = a1 m c k := by
  obtain ⟨-, -, e0, e1, -⟩ := idx_in t
  have hb0 : (((cfg0.win 1).blk t).view.emb y 0).val = win0_1.index t (0 : Fin 2) * 1024 + 1 * (y 0).val := rfl
  have hb1 : (((cfg0.win 1).blk t).view.emb y 1).val = win0_1.index t (1 : Fin 2) * 1024 + 1 * (y 1).val := rfl
  show V m c main_v1 (((cfg0.win 1).blk t).view.emb y) = _
  entry_read
  refine congrArg (a1 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b2 (c : Dev nD) (t : Fin cfg0.N) : S1024x1024.Idx → EReal := iblk m c 2 t

theorem blk2 (c : Dev nD) (t : Fin cfg0.N) (y : S1024x1024.Idx) (k : S4096x1024.Idx) (h0 : (k 0).val = 1024 * (t.val) + (y 0).val) (h1 : (k 1).val = (y 1).val) :
    b2 m c t y = a2 m c k := by
  obtain ⟨-, -, -, -, e0, e1, -⟩ := idx_in t
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  show V m c main_arg2 (((cfg0.win 2).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b3 (c : Dev nD) (t : Fin cfg0.N) : S1x1024.Idx → EReal := iblk m c 3 t

theorem blk3 (c : Dev nD) (t : Fin cfg0.N) (y : S1x1024.Idx) (k : S1x1024.Idx) (h0 : (k 0).val = (y 0).val) (h1 : (k 1).val = (y 1).val) :
    b3 m c t y = a3 m c k := by
  obtain ⟨-, -, -, -, -, -, e0, e1, -⟩ := idx_in t
  have hb0 : (((cfg0.win 3).blk t).view.emb y 0).val = win0_3.index t (0 : Fin 2) * 1 + 1 * (y 0).val := rfl
  have hb1 : (((cfg0.win 3).blk t).view.emb y 1).val = win0_3.index t (1 : Fin 2) * 1024 + 1 * (y 1).val := rfl
  show V m c main_arg3 (((cfg0.win 3).blk t).view.emb y) = _
  entry_read
  refine congrArg (a3 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b4 (c : Dev nD) (t : Fin cfg0.N) : S1x1024.Idx → EReal := iblk m c 4 t

theorem blk4 (c : Dev nD) (t : Fin cfg0.N) (y : S1x1024.Idx) (k : S1x1024.Idx) (h0 : (k 0).val = (y 0).val) (h1 : (k 1).val = (y 1).val) :
    b4 m c t y = a4 m c k := by
  obtain ⟨-, -, -, -, -, -, -, -, e0, e1, -⟩ := idx_in t
  have hb0 : (((cfg0.win 4).blk t).view.emb y 0).val = win0_4.index t (0 : Fin 2) * 1 + 1 * (y 0).val := rfl
  have hb1 : (((cfg0.win 4).blk t).view.emb y 1).val = win0_4.index t (1 : Fin 2) * 1024 + 1 * (y 1).val := rfl
  show V m c main_arg4 (((cfg0.win 4).blk t).view.emb y) = _
  entry_read
  refine congrArg (a4 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b5 (c : Dev nD) (t : Fin cfg0.N) : S1x1024.Idx → EReal := iblk m c 5 t

theorem blk5 (c : Dev nD) (t : Fin cfg0.N) (y : S1x1024.Idx) (k : S1x1024.Idx) (h0 : (k 0).val = (y 0).val) (h1 : (k 1).val = (y 1).val) :
    b5 m c t y = a5 m c k := by
  obtain ⟨-, -, -, -, -, -, -, -, -, -, e0, e1, -⟩ := idx_in t
  have hb0 : (((cfg0.win 5).blk t).view.emb y 0).val = win0_5.index t (0 : Fin 2) * 1 + 1 * (y 0).val := rfl
  have hb1 : (((cfg0.win 5).blk t).view.emb y 1).val = win0_5.index t (1 : Fin 2) * 1024 + 1 * (y 1).val := rfl
  show V m c main_arg5 (((cfg0.win 5).blk t).view.emb y) = _
  entry_read
  refine congrArg (a5 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b6 (c : Dev nD) (t : Fin cfg0.N) : S1x1024.Idx → EReal := iblk m c 6 t

theorem blk6 (c : Dev nD) (t : Fin cfg0.N) (y : S1x1024.Idx) (k : S1x1024.Idx) (h0 : (k 0).val = (y 0).val) (h1 : (k 1).val = (y 1).val) :
    b6 m c t y = a6 m c k := by
  obtain ⟨-, -, -, -, -, -, -, -, -, -, -, -, e0, e1, -⟩ := idx_in t
  have hb0 : (((cfg0.win 6).blk t).view.emb y 0).val = win0_6.index t (0 : Fin 2) * 1 + 1 * (y 0).val := rfl
  have hb1 : (((cfg0.win 6).blk t).view.emb y 1).val = win0_6.index t (1 : Fin 2) * 1024 + 1 * (y 1).val := rfl
  show V m c main_arg6 (((cfg0.win 6).blk t).view.emb y) = _
  entry_read
  refine congrArg (a6 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

/-! ## The reference -/

theorem prod_apply (x0 : S4096x1024.Idx → EReal) (x1 : S1024x1024.Idx → EReal) (p : Fin 4096) (q : Fin 1024) :
    OutProjRefIdeal.Read.val_main_v0 (F := Ideal) x0 x1 (ix2 (n0 := 4096) (n1 := 1024) p q) = ∑ x : Fin 1024, x0 (ix2 (n0 := 4096) (n1 := 1024) p x) * x1 (ix2 (n0 := 1024) (n1 := 1024) x q) := by
  rw [OutProjRefIdeal.Read.val_main_v0_apply]
  refine Finset.sum_congr rfl fun x _ => congrArg₂ (fun a b : EReal => a * b) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

theorem res_apply (x0 : S4096x1024.Idx → EReal) (x1 : S1024x1024.Idx → EReal) (x2 : S4096x1024.Idx → EReal) (x3 : S1x1024.Idx → EReal) (p : Fin 4096) (q : Fin 1024) :
    OutProjRefIdeal.Read.val_main_v3 (F := Ideal) x0 x1 x2 x3 (ix2 (n0 := 4096) (n1 := 1024) p q)
      = x2 (ix2 (n0 := 4096) (n1 := 1024) p q) + x3 (ix2 (n0 := 1) (n1 := 1024) 0 q)
        * ∑ x : Fin 1024, x0 (ix2 (n0 := 4096) (n1 := 1024) p x) * x1 (ix2 (n0 := 1024) (n1 := 1024) x q) := by
  rw [OutProjRefIdeal.Read.val_main_v3_apply, OutProjRefIdeal.Read.val_main_v2_apply, OutProjRefIdeal.Read.val_main_v1_apply]
  refine congrArg₂ (fun a b : EReal => x2 (ix2 (n0 := 4096) (n1 := 1024) p q) + a * b) (congrArg x3 (funext fun a => Fin.ext ?_)) (prod_apply x0 x1 p q)
  match a with
  | ⟨0, _⟩ => rfl
  | ⟨1, _⟩ => rfl

theorem norm_apply (x0 : S4096x1024.Idx → EReal) (x1 : S1024x1024.Idx → EReal) (x2 : S4096x1024.Idx → EReal) (x3 x4 x5 x6 : S1x1024.Idx → EReal) (p : Fin 4096) (q : Fin 1024) :
    OutProjRefIdeal.Read.val_main_v22 (F := Ideal) x0 x1 x2 x3 x4 x5 x6 (ix2 (n0 := 4096) (n1 := 1024) p q)
      = modl (fun k => OutProjRefIdeal.Read.val_main_v3 (F := Ideal) x0 x1 x2 x3 (ix2 (n0 := 4096) (n1 := 1024) p k)) (x4 (ix2 (n0 := 1) (n1 := 1024) 0 q)) (x5 (ix2 (n0 := 1) (n1 := 1024) 0 q)) (x6 (ix2 (n0 := 1) (n1 := 1024) 0 q)) q := by
  show OutProjRefIdeal.Read.val_main_v21 (F := Ideal) x0 x1 x2 x3 x4 x5 x6 (ix2 (n0 := 4096) (n1 := 1024) p q) = _
  rw [OutProjRefIdeal.Read.val_main_v21_apply, OutProjRefIdeal.Read.val_main_v19_apply, OutProjRefIdeal.Read.val_main_v15_apply, OutProjRefIdeal.Read.val_main_v13_apply, OutProjRefIdeal.Read.val_main_v12_apply, OutProjRefIdeal.Read.val_main_v11_apply, OutProjRefIdeal.Read.val_main_v10_apply, OutProjRefIdeal.Read.val_main_v8_apply, OutProjRefIdeal.Read.val_main_v6_apply, OutProjRefIdeal.Read.val_main_v5_apply, OutProjRefIdeal.Read.val_main_v7_apply, OutProjRefIdeal.Read.val_main_v9_apply, OutProjRefIdeal.Read.val_main_cst_0_apply, OutProjRefIdeal.Read.val_main_cst_1_apply, OutProjRefIdeal.Read.val_main_cst_apply, OutProjRefIdeal.Read.val_main_v14_apply, OutProjRefIdeal.Read.val_main_v18_apply, OutProjRefIdeal.Read.val_main_v17_apply, OutProjRefIdeal.Read.val_main_v16_apply, OutProjRefIdeal.Read.val_main_cst_2_apply, OutProjRefIdeal.Read.val_main_v20_apply]
  have hj : ∀ k : Fin 1024, OutProjRefIdeal.Read.idx_main_v5 (OutProjRefIdeal.Read.idx_main_v6 (OutProjRefIdeal.Read.idx_main_v12 (ix2 (n0 := 4096) (n1 := 1024) p q))) k = ix2 (n0 := 4096) (n1 := 1024) p k := fun k => funext fun a => Fin.ext (match a with
    | ⟨0, _⟩ => rfl
    | ⟨1, _⟩ => rfl)
  refine congrArg₂ (fun a b : EReal => a + b)
    (congrArg₂ (fun a b : EReal => a * b)
      (congrArg₂ (fun a b : EReal => a * b)
        (congrArg (fun z : EReal => OutProjRefIdeal.Read.val_main_v3 (F := Ideal) x0 x1 x2 x3 (ix2 (n0 := 4096) (n1 := 1024) p q) * Ideal.rsqrt (Ideal.div z n1024 + eps))
          ((congrArg (fun z : EReal => z + _) Ideal.ofBits_zero_f32).trans ((zero_add _).trans (Finset.sum_congr rfl fun k _ =>
            congrArg (fun j => OutProjRefIdeal.Read.val_main_v3 (F := Ideal) x0 x1 x2 x3 j * OutProjRefIdeal.Read.val_main_v3 (F := Ideal) x0 x1 x2 x3 j) (hj k)))))
        (congrArg x4 (funext fun a => Fin.ext ?_)))
      (congrArg (fun j => FloatOps.ofBits (F := Ideal) .f32 0x3F800000#32 + x5 j) (funext fun a => Fin.ext ?_)))
    (congrArg x6 (funext fun a => Fin.ext ?_))
  · match a with
    | ⟨0, _⟩ => rfl
    | ⟨1, _⟩ => rfl
  · match a with
    | ⟨0, _⟩ => rfl
    | ⟨1, _⟩ => rfl
  · match a with
    | ⟨0, _⟩ => rfl
    | ⟨1, _⟩ => rfl

/-! ## The three results -/

theorem prod_entry (c : Dev nD) (t : Fin cfg0.N) (r q : Fin 1024) (p : Fin 4096) (hp : p.val = 1024 * t.val + r.val) :
    ∑ x : Fin 1024, b0 m c t (ix2 r x) * b1 m c t (ix2 x q) = ∑ x : Fin 1024, a0 m c (ix2 (n0 := 4096) (n1 := 1024) p x) * a1 m c (ix2 (n0 := 1024) (n1 := 1024) x q) :=
  Finset.sum_congr rfl fun x _ => congrArg₂ (fun a b : EReal => a * b)
    (blk0 m c t (ix2 r x) (ix2 (n0 := 4096) (n1 := 1024) p x) hp rfl) (blk1 m c t (ix2 x q) (ix2 (n0 := 1024) (n1 := 1024) x q) rfl rfl)

theorem res_entry (c : Dev nD) (t : Fin cfg0.N) (r q : Fin 1024) (p : Fin 4096) (hp : p.val = 1024 * t.val + r.val) :
    (k0_pay2 (F := Ideal) (b0 m c t) (b1 m c t) (b2 m c t) (b3 m c t) : S1024x1024.Idx → EReal) (ix2 r q)
      = OutProjRefIdeal.Read.val_main_v3 (F := Ideal) (a0 m c) (a1 m c) (a2 m c) (a3 m c) (ix2 (n0 := 4096) (n1 := 1024) p q) := by
  rw [res_apply, pay2_apply, prod_entry m c t r q p hp, blk2 m c t (ix2 r q) (ix2 (n0 := 4096) (n1 := 1024) p q) hp rfl,
    blk3 m c t (ix2 (0 : Fin 1) q) (ix2 (n0 := 1) (n1 := 1024) 0 q) rfl rfl]

theorem flushed7_eq (c : Dev nD) (t : Fin cfg0.N) :
    (dats m 0 c).flushed 7 t = ((cfg0.win 7).blk t).view.read (Elt Ideal) (OutProjRefIdeal.Read.val_main_v3 (F := Ideal) (a0 m c) (a1 m c) (a2 m c) (a3 m c)) := by
  have ht : t.val < 4 := lt_of_lt_of_eq t.isLt N_0
  rw [flushed7, out7_eq]
  refine on_ix2 (n0 := 1024) (n1 := 1024) fun r q => ?_
  obtain ⟨ew0, ew1⟩ : win0_7.index t (0 : Fin 2) = t.val ∧ win0_7.index t (1 : Fin 2) = 0 := by
    obtain ⟨-, -, -, -, -, -, -, -, -, -, -, -, -, -, e0, e1, -⟩ := idx_in t
    exact ⟨e0, e1⟩
  have he : ((cfg0.win 7).blk t).view.emb (ix2 r q) = ix2 (n0 := 4096) (n1 := 1024) ⟨1024 * t.val + r.val, by omega⟩ q := funext fun a => Fin.ext (match a with
    | ⟨0, _⟩ => by show win0_7.index t (0 : Fin 2) * 1024 + 1 * r.val = 1024 * t.val + r.val; rw [ew0]; omega
    | ⟨1, _⟩ => by show win0_7.index t (1 : Fin 2) * 1024 + 1 * q.val = q.val; rw [ew1]; omega)
  show (k0_pay2 (F := Ideal) (b0 m c t) (b1 m c t) (b2 m c t) (b3 m c t) : S1024x1024.Idx → EReal) (ix2 r q) = OutProjRefIdeal.Read.val_main_v3 (F := Ideal) (a0 m c) (a1 m c) (a2 m c) (a3 m c) (((cfg0.win 7).blk t).view.emb (ix2 r q))
  rw [he]
  exact res_entry m c t r q _ rfl

theorem mem_blk7 (t : Fin cfg0.N) (i : S4096x1024.Idx) :
    i ∈ ((cfg0.win 7).blk t).view.set ↔ ∀ a, win0_7.index t a * S1024x1024.size a ≤ (i a).val ∧ (i a).val < win0_7.index t a * S1024x1024.size a + S1024x1024.size a := by
  show i ∈ ((View.whole main_v2_0).slice (win0_7.rect t)).set ↔ _
  rw [View.set_slice_whole, Rect.mem_set_unit]

theorem result7 (c : Dev nD) : (dats m 0 c).arrAt 7 cfg0.N = OutProjRefIdeal.Read.val_main_v3 (F := Ideal) (a0 m c) (a1 m c) (a2 m c) (a3 m c) :=
  (dats m 0 c).arrAt_eq_of_cover 7 (OutProjRefIdeal.Read.val_main_v3 (F := Ideal) (a0 m c) (a1 m c) (a2 m c) (a3 m c)) (fun t _ => flushed7_eq m c t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, -, -, -, -, -, -, e0, e1, -, -, -, -, hf, -⟩ := idx_in ⟨(i 0).val / 1024, ht⟩
    refine ⟨⟨(i 0).val / 1024, ht⟩, hf, (mem_blk7 _ i).2 fun a => ?_⟩
    match a with
    | ⟨0, _⟩ =>
      show win0_7.index _ (0 : Fin 2) * 1024 ≤ (i 0).val ∧ (i 0).val < win0_7.index _ (0 : Fin 2) * 1024 + 1024
      rw [e0]
      show (((i 0).val / 1024)) * 1024 ≤ (i 0).val ∧ (i 0).val < (((i 0).val / 1024)) * 1024 + 1024
      omega
    | ⟨1, _⟩ =>
      show win0_7.index _ (1 : Fin 2) * 1024 ≤ (i 1).val ∧ (i 1).val < win0_7.index _ (1 : Fin 2) * 1024 + 1024
      rw [e1]
      show (0) * 1024 ≤ (i 1).val ∧ (i 1).val < (0) * 1024 + 1024
      omega

theorem flushed8_eq (c : Dev nD) (t : Fin cfg0.N) :
    (dats m 0 c).flushed 8 t = ((cfg0.win 8).blk t).view.read (Elt Ideal) (OutProjRefIdeal.Read.val_main_v0 (F := Ideal) (a0 m c) (a1 m c)) := by
  have ht : t.val < 4 := lt_of_lt_of_eq t.isLt N_0
  rw [flushed8, out8_eq]
  refine on_ix2 (n0 := 1024) (n1 := 1024) fun r q => ?_
  obtain ⟨ew0, ew1⟩ : win0_8.index t (0 : Fin 2) = t.val ∧ win0_8.index t (1 : Fin 2) = 0 := by
    obtain ⟨-, -, -, -, -, -, -, -, -, -, -, -, -, -, -, -, e0, e1, -⟩ := idx_in t
    exact ⟨e0, e1⟩
  have he : ((cfg0.win 8).blk t).view.emb (ix2 r q) = ix2 (n0 := 4096) (n1 := 1024) ⟨1024 * t.val + r.val, by omega⟩ q := funext fun a => Fin.ext (match a with
    | ⟨0, _⟩ => by show win0_8.index t (0 : Fin 2) * 1024 + 1 * r.val = 1024 * t.val + r.val; rw [ew0]; omega
    | ⟨1, _⟩ => by show win0_8.index t (1 : Fin 2) * 1024 + 1 * q.val = q.val; rw [ew1]; omega)
  show (k0_pay1 (F := Ideal) (b0 m c t) (b1 m c t) : S1024x1024.Idx → EReal) (ix2 r q) = OutProjRefIdeal.Read.val_main_v0 (F := Ideal) (a0 m c) (a1 m c) (((cfg0.win 8).blk t).view.emb (ix2 r q))
  rw [he, prod_apply, pay1_apply]
  exact prod_entry m c t r q _ rfl

theorem mem_blk8 (t : Fin cfg0.N) (i : S4096x1024.Idx) :
    i ∈ ((cfg0.win 8).blk t).view.set ↔ ∀ a, win0_8.index t a * S1024x1024.size a ≤ (i a).val ∧ (i a).val < win0_8.index t a * S1024x1024.size a + S1024x1024.size a := by
  show i ∈ ((View.whole main_v2_1).slice (win0_8.rect t)).set ↔ _
  rw [View.set_slice_whole, Rect.mem_set_unit]

theorem result8 (c : Dev nD) : (dats m 0 c).arrAt 8 cfg0.N = OutProjRefIdeal.Read.val_main_v0 (F := Ideal) (a0 m c) (a1 m c) :=
  (dats m 0 c).arrAt_eq_of_cover 8 (OutProjRefIdeal.Read.val_main_v0 (F := Ideal) (a0 m c) (a1 m c)) (fun t _ => flushed8_eq m c t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, -, -, -, -, -, -, -, -, e0, e1, -, -, -, hf, -⟩ := idx_in ⟨(i 0).val / 1024, ht⟩
    refine ⟨⟨(i 0).val / 1024, ht⟩, hf, (mem_blk8 _ i).2 fun a => ?_⟩
    match a with
    | ⟨0, _⟩ =>
      show win0_8.index _ (0 : Fin 2) * 1024 ≤ (i 0).val ∧ (i 0).val < win0_8.index _ (0 : Fin 2) * 1024 + 1024
      rw [e0]
      show (((i 0).val / 1024)) * 1024 ≤ (i 0).val ∧ (i 0).val < (((i 0).val / 1024)) * 1024 + 1024
      omega
    | ⟨1, _⟩ =>
      show win0_8.index _ (1 : Fin 2) * 1024 ≤ (i 1).val ∧ (i 1).val < win0_8.index _ (1 : Fin 2) * 1024 + 1024
      rw [e1]
      show (0) * 1024 ≤ (i 1).val ∧ (i 1).val < (0) * 1024 + 1024
      omega

theorem flushed9_eq (c : Dev nD) (t : Fin cfg0.N) :
    (dats m 0 c).flushed 9 t = ((cfg0.win 9).blk t).view.read (Elt Ideal) (OutProjRefIdeal.Read.val_main_v22 (F := Ideal) (a0 m c) (a1 m c) (a2 m c) (a3 m c) (a4 m c) (a5 m c) (a6 m c)) := by
  have ht : t.val < 4 := lt_of_lt_of_eq t.isLt N_0
  rw [flushed9, out9_eq]
  refine on_ix2 (n0 := 1024) (n1 := 1024) fun r q => ?_
  obtain ⟨ew0, ew1⟩ : win0_9.index t (0 : Fin 2) = t.val ∧ win0_9.index t (1 : Fin 2) = 0 := by
    obtain ⟨-, -, -, -, -, -, -, -, -, -, -, -, -, -, -, -, -, -, e0, e1, -⟩ := idx_in t
    exact ⟨e0, e1⟩
  have he : ((cfg0.win 9).blk t).view.emb (ix2 r q) = ix2 (n0 := 4096) (n1 := 1024) ⟨1024 * t.val + r.val, by omega⟩ q := funext fun a => Fin.ext (match a with
    | ⟨0, _⟩ => by show win0_9.index t (0 : Fin 2) * 1024 + 1 * r.val = 1024 * t.val + r.val; rw [ew0]; omega
    | ⟨1, _⟩ => by show win0_9.index t (1 : Fin 2) * 1024 + 1 * q.val = q.val; rw [ew1]; omega)
  show (k0_pay3 (F := Ideal) (b0 m c t) (b1 m c t) (b2 m c t) (b3 m c t) (b4 m c t) (b5 m c t) (b6 m c t) : S1024x1024.Idx → EReal) (ix2 r q) = OutProjRefIdeal.Read.val_main_v22 (F := Ideal) (a0 m c) (a1 m c) (a2 m c) (a3 m c) (a4 m c) (a5 m c) (a6 m c) (((cfg0.win 9).blk t).view.emb (ix2 r q))
  rw [he, norm_apply, pay3_apply, blk4 m c t (ix2 (0 : Fin 1) q) (ix2 (n0 := 1) (n1 := 1024) 0 q) rfl rfl, blk5 m c t (ix2 (0 : Fin 1) q) (ix2 (n0 := 1) (n1 := 1024) 0 q) rfl rfl, blk6 m c t (ix2 (0 : Fin 1) q) (ix2 (n0 := 1) (n1 := 1024) 0 q) rfl rfl]
  exact congrArg (fun f : Fin 1024 → EReal => modl f _ _ _ q) (funext fun k => res_entry m c t r k _ rfl)

theorem mem_blk9 (t : Fin cfg0.N) (i : S4096x1024.Idx) :
    i ∈ ((cfg0.win 9).blk t).view.set ↔ ∀ a, win0_9.index t a * S1024x1024.size a ≤ (i a).val ∧ (i a).val < win0_9.index t a * S1024x1024.size a + S1024x1024.size a := by
  show i ∈ ((View.whole main_v2_2).slice (win0_9.rect t)).set ↔ _
  rw [View.set_slice_whole, Rect.mem_set_unit]

theorem result9 (c : Dev nD) : (dats m 0 c).arrAt 9 cfg0.N = OutProjRefIdeal.Read.val_main_v22 (F := Ideal) (a0 m c) (a1 m c) (a2 m c) (a3 m c) (a4 m c) (a5 m c) (a6 m c) :=
  (dats m 0 c).arrAt_eq_of_cover 9 (OutProjRefIdeal.Read.val_main_v22 (F := Ideal) (a0 m c) (a1 m c) (a2 m c) (a3 m c) (a4 m c) (a5 m c) (a6 m c)) (fun t _ => flushed9_eq m c t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, -, -, -, -, -, -, -, -, -, -, e0, e1, -, -, hf⟩ := idx_in ⟨(i 0).val / 1024, ht⟩
    refine ⟨⟨(i 0).val / 1024, ht⟩, hf, (mem_blk9 _ i).2 fun a => ?_⟩
    match a with
    | ⟨0, _⟩ =>
      show win0_9.index _ (0 : Fin 2) * 1024 ≤ (i 0).val ∧ (i 0).val < win0_9.index _ (0 : Fin 2) * 1024 + 1024
      rw [e0]
      show (((i 0).val / 1024)) * 1024 ≤ (i 0).val ∧ (i 0).val < (((i 0).val / 1024)) * 1024 + 1024
      omega
    | ⟨1, _⟩ =>
      show win0_9.index _ (1 : Fin 2) * 1024 ≤ (i 1).val ∧ (i 1).val < win0_9.index _ (1 : Fin 2) * 1024 + 1024
      rw [e1]
      show (0) * 1024 ≤ (i 1).val ∧ (i 1).val < (0) * 1024 + 1024
      omega

end Cert.OutProjIdeal.Sum
-- ==== Proof.FfnUp.lean ====
/-
  The two first products of the feed-forward block and its gated activation: each tile of `h @ wg`, of `h @ wu` and of
  `silu (h @ wg) * (h @ wu)` is finished at one grid point.
-/
module

public import proofs.«01_k».proof.Proof.Common
public import proofs.«01_k».proof.Proof.Gen.FfnUpIdeal.Value
public import proofs.«01_k».proof.Proof.Gen.FfnUpRefIdeal.Read
public import Idealize.ShloMosaic.Lib.Tactic
public import Idealize.ShloMosaic.Lib.Claim

@[expose] public section

set_option maxRecDepth 16384

noncomputable section

namespace Cert.FfnUpIdeal.Sum

open Cert.Common Cert.FfnUpIdeal Cert.FfnUpIdeal.Gen Cert.FfnUpIdeal.Value
open Idealize.ShloMosaic Idealize.ShloMosaic.TcCoe Idealize.ShloMosaic.ValueIdx Idealize.SL.Sem
open Idealize.ShloMosaic.Pipeline (Dat)

theorem dot_eq : dot_S1024x1024_S1024x704_S1024x704_1_0_0_1_n_n = DotDims.plain 1024 1024 704 := rfl

/-! ## What a grid point stores -/

theorem out3_eq (x0 : S1024x1024.Idx → EReal) (x1 x2 : S1x1024x704.Idx → EReal) : out0_3 (F := Ideal) x0 x1 x2 = k0_pay4 (F := Ideal) x0 x1 := by
  unfold out0_3
  rw [View.canon_unit_zero (S := S1x1024x704) zero3, View.ld_unit_zero (S := S1024x1024) zero2, View.ld_unit_zero (S := S1x1024x704) zero3]
theorem out4_eq (x0 : S1024x1024.Idx → EReal) (x1 x2 : S1x1024x704.Idx → EReal) : out0_4 (F := Ideal) x0 x1 x2 = k0_pay5 (F := Ideal) x0 x2 := by
  unfold out0_4
  rw [View.canon_unit_zero (S := S1x1024x704) zero3, View.ld_unit_zero (S := S1024x1024) zero2, View.ld_unit_zero (S := S1x1024x704) zero3]
theorem out5_eq (x0 : S1024x1024.Idx → EReal) (x1 x2 : S1x1024x704.Idx → EReal) : out0_5 (F := Ideal) x0 x1 x2 = k0_pay6 (F := Ideal) x0 x1 x2 := by
  unfold out0_5
  rw [View.canon_unit_zero (S := S1x1024x704) zero3, View.ld_unit_zero (S := S1024x1024) zero2, View.ld_unit_zero (S := S1x1024x704) zero3, View.ld_unit_zero (S := S1x1024x704) zero3]

theorem dot_apply (x0 : S1024x1024.Idx → EReal) (x1 : S1x1024x704.Idx → EReal) (r : Fin 1024) (q : Fin 704) :
    (k0_pay2 (F := Ideal) x0 x1 : S1024x704.Idx → EReal) (ix2 r q) = ∑ y : Fin 1024, x0 (ix2 r y) * x1 (ix3 (0 : Fin 1) y q) := by
  unfold k0_pay2 k0_pay1
  simp only [shapeCast_self, dot_eq]
  refine (plain_zero (φ₁ := .bf16) (φ₂ := .bf16) x0 (shapeCast S1024x704 x1 shapeCasts_S1x1024x704_S1024x704) (ix2 r q)).trans
    (Finset.sum_congr rfl fun y _ => ?_)
  exact congrArg (fun z : EReal => x0 (ix2 r y) * z) (cast_drop x1 shapeCasts_S1x1024x704_S1024x704 y q)

theorem pay4_apply (x0 : S1024x1024.Idx → EReal) (x1 : S1x1024x704.Idx → EReal) (y : S1x1024x704.Idx) :
    (k0_pay4 (F := Ideal) x0 x1 : S1x1024x704.Idx → EReal) y = ∑ x : Fin 1024, x0 (ix2 (y 1) x) * x1 (ix3 (0 : Fin 1) x (y 2)) :=
  (cast_add (k0_pay2 (F := Ideal) x0 x1 : S1024x704.Idx → EReal) shapeCasts_S1024x704_S1x1024x704 y).trans (dot_apply x0 x1 (y 1) (y 2))
theorem pay5_apply (x0 : S1024x1024.Idx → EReal) (x2 : S1x1024x704.Idx → EReal) (y : S1x1024x704.Idx) :
    (k0_pay5 (F := Ideal) x0 x2 : S1x1024x704.Idx → EReal) y = ∑ x : Fin 1024, x0 (ix2 (y 1) x) * x2 (ix3 (0 : Fin 1) x (y 2)) :=
  (cast_add (k0_pay3 (F := Ideal) x0 x2 : S1024x704.Idx → EReal) shapeCasts_S1024x704_S1x1024x704 y).trans (dot_apply x0 x2 (y 1) (y 2))

/-- `silu gate * up`. -/
def gated (gate up : EReal) : EReal := gate * Ideal.logistic gate * up

theorem pay6_apply (x0 : S1024x1024.Idx → EReal) (x1 x2 : S1x1024x704.Idx → EReal) (y : S1x1024x704.Idx) :
    (k0_pay6 (F := Ideal) x0 x1 x2 : S1x1024x704.Idx → EReal) y
      = gated (∑ x : Fin 1024, x0 (ix2 (y 1) x) * x1 (ix3 (0 : Fin 1) x (y 2))) (∑ x : Fin 1024, x0 (ix2 (y 1) x) * x2 (ix3 (0 : Fin 1) x (y 2))) :=
  (cast_add (fun i => gated ((k0_pay2 (F := Ideal) x0 x1 : S1024x704.Idx → EReal) i) ((k0_pay3 (F := Ideal) x0 x2 : S1024x704.Idx → EReal) i))
    shapeCasts_S1024x704_S1x1024x704 y).trans (congrArg₂ gated (dot_apply x0 x1 (y 1) (y 2)) (dot_apply x0 x2 (y 1) (y 2)))

/-! ## What a grid point reads -/

variable (m : (ℓ : Loc nD τ sig) → Buf (Elt Ideal) ℓ)

abbrev a0 (c : Dev nD) : S4096x1024.Idx → EReal := m ((c : Thread nD τ).loc main_arg0)
abbrev a1 (c : Dev nD) : S1024x2816.Idx → EReal := m ((c : Thread nD τ).loc main_arg1)
abbrev a2 (c : Dev nD) : S1024x2816.Idx → EReal := m ((c : Thread nD τ).loc main_arg2)

/-- Where each window stands at grid point `t`. -/
theorem idx_in : ∀ t : Fin cfg0.N, win0_0.index t (0 : Fin 2) = t.val % 4
    ∧ win0_0.index t (1 : Fin 2) = 0
    ∧ win0_1.index t (0 : Fin 3) = t.val / 4
    ∧ win0_1.index t (1 : Fin 3) = 0
    ∧ win0_1.index t (2 : Fin 3) = 0
    ∧ win0_2.index t (0 : Fin 3) = t.val / 4
    ∧ win0_2.index t (1 : Fin 3) = 0
    ∧ win0_2.index t (2 : Fin 3) = 0
    ∧ win0_3.index t (0 : Fin 3) = t.val / 4
    ∧ win0_3.index t (1 : Fin 3) = t.val % 4
    ∧ win0_3.index t (2 : Fin 3) = 0
    ∧ win0_4.index t (0 : Fin 3) = t.val / 4
    ∧ win0_4.index t (1 : Fin 3) = t.val % 4
    ∧ win0_4.index t (2 : Fin 3) = 0
    ∧ win0_5.index t (0 : Fin 3) = t.val / 4
    ∧ win0_5.index t (1 : Fin 3) = t.val % 4
    ∧ win0_5.index t (2 : Fin 3) = 0
    ∧ win0_3.flush t = true
    ∧ win0_4.flush t = true
    ∧ win0_5.flush t = true :=
  (by decide +kernel : ∀ t : Fin grid0.N, _)

abbrev b0 (c : Dev nD) (t : Fin cfg0.N) : S1024x1024.Idx → EReal := iblk m c 0 t

theorem blk0 (c : Dev nD) (t : Fin cfg0.N) (y : S1024x1024.Idx) (k : S4096x1024.Idx) (h0 : (k 0).val = 1024 * (t.val % 4) + (y 0).val) (h1 : (k 1).val = (y 1).val) :
    b0 m c t y = a0 m c k := by
  obtain ⟨e0, e1, -⟩ := idx_in t
  have hb0 : (((cfg0.win 0).blk t).view.emb y 0).val = win0_0.index t (0 : Fin 2) * 1024 + 1 * (y 0).val := rfl
  have hb1 : (((cfg0.win 0).blk t).view.emb y 1).val = win0_0.index t (1 : Fin 2) * 1024 + 1 * (y 1).val := rfl
  show V m c main_v0 (((cfg0.win 0).blk t).view.emb y) = _
  entry_read
  refine congrArg (a0 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b1 (c : Dev nD) (t : Fin cfg0.N) : S1x1024x704.Idx → EReal := iblk m c 1 t

theorem blk1 (c : Dev nD) (t : Fin cfg0.N) (y : S1x1024x704.Idx) (k : S1024x2816.Idx) (h0 : (k 0).val = (y 1).val) (h1 : (k 1).val = 704 * (t.val / 4) + (y 2).val) :
    b1 m c t y = a1 m c k := by
  obtain ⟨-, -, e0, e1, e2, -⟩ := idx_in t
  have hb0 : (((cfg0.win 1).blk t).view.emb y 0).val = win0_1.index t (0 : Fin 3) * 1 + 1 * (y 0).val := rfl
  have hb1 : (((cfg0.win 1).blk t).view.emb y 1).val = win0_1.index t (1 : Fin 3) * 1024 + 1 * (y 1).val := rfl
  have hb2 : (((cfg0.win 1).blk t).view.emb y 2).val = win0_1.index t (2 : Fin 3) * 704 + 1 * (y 2).val := rfl
  have hy : (y 0).val < 1 := (y 0).isLt
  show V m c main_v3 (((cfg0.win 1).blk t).view.emb y) = _
  entry_read
  exact stack_cols (R := 1024) (C := 704) (N := 2816) (by decide) (a1 m c) _ _ _ k (by rw [hb1, h0, e1]; omega) (by rw [hb0, hb2, h1, e0, e2]; omega)

abbrev b2 (c : Dev nD) (t : Fin cfg0.N) : S1x1024x704.Idx → EReal := iblk m c 2 t

theorem blk2 (c : Dev nD) (t : Fin cfg0.N) (y : S1x1024x704.Idx) (k : S1024x2816.Idx) (h0 : (k 0).val = (y 1).val) (h1 : (k 1).val = 704 * (t.val / 4) + (y 2).val) :
    b2 m c t y = a2 m c k := by
  obtain ⟨-, -, -, -, -, e0, e1, e2, -⟩ := idx_in t
  have hb0 : (((cfg0.win 2).blk t).view.emb y 0).val = win0_2.index t (0 : Fin 3) * 1 + 1 * (y 0).val := rfl
  have hb1 : (((cfg0.win 2).blk t).view.emb y 1).val = win0_2.index t (1 : Fin 3) * 1024 + 1 * (y 1).val := rfl
  have hb2 : (((cfg0.win 2).blk t).view.emb y 2).val = win0_2.index t (2 : Fin 3) * 704 + 1 * (y 2).val := rfl
  have hy : (y 0).val < 1 := (y 0).isLt
  show V m c main_v6 (((cfg0.win 2).blk t).view.emb y) = _
  entry_read
  exact stack_cols (R := 1024) (C := 704) (N := 2816) (by decide) (a2 m c) _ _ _ k (by rw [hb1, h0, e1]; omega) (by rw [hb0, hb2, h1, e0, e2]; omega)

/-! ## The reference -/

/-- Column `i 2` of quarter `i 0`, counted over the whole matrix. -/
abbrev col (i : S4x4096x704.Idx) : Fin 2816 := ⟨704 * (i 0).val + (i 2).val, by
  have h0 : (i 0).val < 4 := (i 0).isLt
  have h2 : (i 2).val < 704 := (i 2).isLt
  omega⟩

/-- Row `i 1` of `h` times column `col i` of `w`. -/
def entry (h : S4096x1024.Idx → EReal) (w : S1024x2816.Idx → EReal) (i : S4x4096x704.Idx) : EReal :=
  ∑ x : Fin 1024, h (ix2 (n0 := 4096) (n1 := 1024) (i 1) x) * w (ix2 (n0 := 1024) (n1 := 2816) x (col i))

theorem gate_apply (h : S4096x1024.Idx → EReal) (w : S1024x2816.Idx → EReal) (i : S4x4096x704.Idx) :
    FfnUpRefIdeal.Read.val_main_v4 (F := Ideal) h w i = entry h w i := by
  have h0 : (i 0).val < 4 := (i 0).isLt
  have h1 : (i 1).val < 4096 := (i 1).isLt
  have h2 : (i 2).val < 704 := (i 2).isLt
  show FfnUpRefIdeal.Read.val_main_v3 (F := Ideal) h w i = _
  rw [FfnUpRefIdeal.Read.val_main_v3_apply, FfnUpRefIdeal.Read.val_main_v2_apply, FfnUpRefIdeal.Read.val_main_v0_apply]
  refine Finset.sum_congr rfl fun x _ => congrArg₂ (fun a b : EReal => a * b) (congrArg h (funext fun a => Fin.ext ?_)) (congrArg w (funext fun a => Fin.ext ?_))
  · match a with
    | ⟨0, _⟩ => show (((i 1).val * 4 + (i 0).val) * 704 + (i 2).val) / 2816 = (i 1).val; omega
    | ⟨1, _⟩ => rfl
  · match a with
    | ⟨0, _⟩ => rfl
    | ⟨1, _⟩ => show (((i 1).val * 4 + (i 0).val) * 704 + (i 2).val) % 2816 = 704 * (i 0).val + (i 2).val; omega

theorem up_apply (h : S4096x1024.Idx → EReal) (w : S1024x2816.Idx → EReal) (i : S4x4096x704.Idx) :
    FfnUpRefIdeal.Read.val_main_v7 (F := Ideal) h w i = entry h w i := gate_apply h w i

theorem silu_apply (h : S4096x1024.Idx → EReal) (w w' : S1024x2816.Idx → EReal) (i : FfnUpRefIdeal.S4096x2816.Idx) :
    FfnUpRefIdeal.Read.val_main_v9 (F := Ideal) h w w' i
      = gated (FfnUpRefIdeal.Read.val_main_v0 (F := Ideal) h w i) (FfnUpRefIdeal.Read.val_main_v1 (F := Ideal) h w' i) := by
  rw [FfnUpRefIdeal.Read.val_main_v9_apply, FfnUpRefIdeal.Read.val_main_v8_apply, FfnUpRefIdeal.Read.val_main_call0_v5_apply, FfnUpRefIdeal.Read.val_main_call0_v4_apply,
    FfnUpRefIdeal.Read.val_main_call0_cst_0_apply, FfnUpRefIdeal.Read.val_main_call0_v3_apply, FfnUpRefIdeal.Read.val_main_call0_v2_apply,
    FfnUpRefIdeal.Read.val_main_call0_cst_apply, FfnUpRefIdeal.Read.val_main_call0_v1_apply, FfnUpRefIdeal.Read.val_main_call0_v0_apply, one_bits]
  rfl

theorem act_apply (h : S4096x1024.Idx → EReal) (w w' : S1024x2816.Idx → EReal) (i : S4x4096x704.Idx) :
    FfnUpRefIdeal.Read.val_main_v12 (F := Ideal) h w w' i = gated (entry h w i) (entry h w' i) := by
  show FfnUpRefIdeal.Read.val_main_v11 (F := Ideal) h w w' i = _
  rw [FfnUpRefIdeal.Read.val_main_v11_apply, FfnUpRefIdeal.Read.val_main_v10_apply, silu_apply]
  refine congrArg₂ gated ?_ ?_
  · rw [← gate_apply]
    show _ = FfnUpRefIdeal.Read.val_main_v3 (F := Ideal) h w i
    rw [FfnUpRefIdeal.Read.val_main_v3_apply, FfnUpRefIdeal.Read.val_main_v2_apply]
  · rw [← up_apply]
    show _ = FfnUpRefIdeal.Read.val_main_v6 (F := Ideal) h w' i
    rw [FfnUpRefIdeal.Read.val_main_v6_apply, FfnUpRefIdeal.Read.val_main_v5_apply]

/-! ## The three results -/

theorem gate_entry (c : Dev nD) (t : Fin cfg0.N) (y : S1x1024x704.Idx) (i : S4x4096x704.Idx) (h0 : (i 0).val = t.val / 4)
    (h1 : (i 1).val = 1024 * (t.val % 4) + (y 1).val) (h2 : (i 2).val = (y 2).val) :
    ∑ x : Fin 1024, b0 m c t (ix2 (y 1) x) * b1 m c t (ix3 (0 : Fin 1) x (y 2)) = entry (a0 m c) (a1 m c) i :=
  Finset.sum_congr rfl fun x _ => congrArg₂ (fun a b : EReal => a * b)
    (blk0 m c t (ix2 (y 1) x) (ix2 (n0 := 4096) (n1 := 1024) (i 1) x) h1 rfl)
    (blk1 m c t (ix3 (0 : Fin 1) x (y 2)) (ix2 (n0 := 1024) (n1 := 2816) x (col i)) rfl
      (by show 704 * (i 0).val + (i 2).val = 704 * (t.val / 4) + (y 2).val; rw [h0, h2]))

theorem up_entry (c : Dev nD) (t : Fin cfg0.N) (y : S1x1024x704.Idx) (i : S4x4096x704.Idx) (h0 : (i 0).val = t.val / 4)
    (h1 : (i 1).val = 1024 * (t.val % 4) + (y 1).val) (h2 : (i 2).val = (y 2).val) :
    ∑ x : Fin 1024, b0 m c t (ix2 (y 1) x) * b2 m c t (ix3 (0 : Fin 1) x (y 2)) = entry (a0 m c) (a2 m c) i :=
  Finset.sum_congr rfl fun x _ => congrArg₂ (fun a b : EReal => a * b)
    (blk0 m c t (ix2 (y 1) x) (ix2 (n0 := 4096) (n1 := 1024) (i 1) x) h1 rfl)
    (blk2 m c t (ix3 (0 : Fin 1) x (y 2)) (ix2 (n0 := 1024) (n1 := 2816) x (col i)) rfl
      (by show 704 * (i 0).val + (i 2).val = 704 * (t.val / 4) + (y 2).val; rw [h0, h2]))

theorem flushed3_eq (c : Dev nD) (t : Fin cfg0.N) :
    (dats m 0 c).flushed 3 t = ((cfg0.win 3).blk t).view.read (Elt Ideal) (FfnUpRefIdeal.Read.val_main_v4 (F := Ideal) (a0 m c) (a1 m c)) := by
  rw [flushed3, out3_eq]
  funext y
  obtain ⟨-, -, -, -, -, -, -, -, e0, e1, e2, -⟩ := idx_in t
  have hb0 : (((cfg0.win 3).blk t).view.emb y 0).val = win0_3.index t (0 : Fin 3) * 1 + 1 * (y 0).val := rfl
  have hb1 : (((cfg0.win 3).blk t).view.emb y 1).val = win0_3.index t (1 : Fin 3) * 1024 + 1 * (y 1).val := rfl
  have hb2 : (((cfg0.win 3).blk t).view.emb y 2).val = win0_3.index t (2 : Fin 3) * 704 + 1 * (y 2).val := rfl
  have hy : (y 0).val < 1 := (y 0).isLt
  have h0 : (((cfg0.win 3).blk t).view.emb y 0).val = t.val / 4 := by rw [hb0, e0]; omega
  have h1 : (((cfg0.win 3).blk t).view.emb y 1).val = 1024 * (t.val % 4) + (y 1).val := by rw [hb1, e1]; omega
  have h2 : (((cfg0.win 3).blk t).view.emb y 2).val = (y 2).val := by rw [hb2, e2]; omega
  show (k0_pay4 (F := Ideal) (b0 m c t) (b1 m c t) : S1x1024x704.Idx → EReal) y = FfnUpRefIdeal.Read.val_main_v4 (F := Ideal) (a0 m c) (a1 m c) (((cfg0.win 3).blk t).view.emb y)
  exact (pay4_apply _ _ y).trans ((gate_entry m c t y _ h0 h1 h2).trans (gate_apply _ _ _).symm)

theorem mem_blk3 (t : Fin cfg0.N) (i : S4x4096x704.Idx) :
    i ∈ ((cfg0.win 3).blk t).view.set ↔ ∀ a, win0_3.index t a * S1x1024x704.size a ≤ (i a).val ∧ (i a).val < win0_3.index t a * S1x1024x704.size a + S1x1024x704.size a := by
  show i ∈ ((View.whole main_v7_0).slice (win0_3.rect t)).set ↔ _
  rw [View.set_slice_whole, Rect.mem_set_unit]

theorem result3 (c : Dev nD) : (dats m 0 c).arrAt 3 cfg0.N = FfnUpRefIdeal.Read.val_main_v4 (F := Ideal) (a0 m c) (a1 m c) :=
  (dats m 0 c).arrAt_eq_of_cover 3 (FfnUpRefIdeal.Read.val_main_v4 (F := Ideal) (a0 m c) (a1 m c)) (fun t _ => flushed3_eq m c t) fun i => by
    have h0 : (i 0).val < 4 := (i 0).isLt
    have h1 : (i 1).val < 4096 := (i 1).isLt
    have h2 : (i 2).val < 704 := (i 2).isLt
    have ht : 4 * (i 0).val + (i 1).val / 1024 < cfg0.N := lt_of_lt_of_eq (by omega) N_0.symm
    obtain ⟨-, -, -, -, -, -, -, -, e0, e1, e2, -, -, -, -, -, -, hf, -⟩ := idx_in ⟨4 * (i 0).val + (i 1).val / 1024, ht⟩
    refine ⟨⟨4 * (i 0).val + (i 1).val / 1024, ht⟩, hf, (mem_blk3 _ i).2 fun a => ?_⟩
    match a with
    | ⟨0, _⟩ =>
      show win0_3.index _ (0 : Fin 3) * 1 ≤ (i 0).val ∧ (i 0).val < win0_3.index _ (0 : Fin 3) * 1 + 1
      rw [e0]
      show ((4 * (i 0).val + (i 1).val / 1024) / 4) * 1 ≤ (i 0).val ∧ (i 0).val < ((4 * (i 0).val + (i 1).val / 1024) / 4) * 1 + 1
      omega
    | ⟨1, _⟩ =>
      show win0_3.index _ (1 : Fin 3) * 1024 ≤ (i 1).val ∧ (i 1).val < win0_3.index _ (1 : Fin 3) * 1024 + 1024
      rw [e1]
      show ((4 * (i 0).val + (i 1).val / 1024) % 4) * 1024 ≤ (i 1).val ∧ (i 1).val < ((4 * (i 0).val + (i 1).val / 1024) % 4) * 1024 + 1024
      omega
    | ⟨2, _⟩ =>
      show win0_3.index _ (2 : Fin 3) * 704 ≤ (i 2).val ∧ (i 2).val < win0_3.index _ (2 : Fin 3) * 704 + 704
      rw [e2]
      show (0) * 704 ≤ (i 2).val ∧ (i 2).val < (0) * 704 + 704
      omega

theorem flushed4_eq (c : Dev nD) (t : Fin cfg0.N) :
    (dats m 0 c).flushed 4 t = ((cfg0.win 4).blk t).view.read (Elt Ideal) (FfnUpRefIdeal.Read.val_main_v7 (F := Ideal) (a0 m c) (a2 m c)) := by
  rw [flushed4, out4_eq]
  funext y
  obtain ⟨-, -, -, -, -, -, -, -, -, -, -, e0, e1, e2, -⟩ := idx_in t
  have hb0 : (((cfg0.win 4).blk t).view.emb y 0).val = win0_4.index t (0 : Fin 3) * 1 + 1 * (y 0).val := rfl
  have hb1 : (((cfg0.win 4).blk t).view.emb y 1).val = win0_4.index t (1 : Fin 3) * 1024 + 1 * (y 1).val := rfl
  have hb2 : (((cfg0.win 4).blk t).view.emb y 2).val = win0_4.index t (2 : Fin 3) * 704 + 1 * (y 2).val := rfl
  have hy : (y 0).val < 1 := (y 0).isLt
  have h0 : (((cfg0.win 4).blk t).view.emb y 0).val = t.val / 4 := by rw [hb0, e0]; omega
  have h1 : (((cfg0.win 4).blk t).view.emb y 1).val = 1024 * (t.val % 4) + (y 1).val := by rw [hb1, e1]; omega
  have h2 : (((cfg0.win 4).blk t).view.emb y 2).val = (y 2).val := by rw [hb2, e2]; omega
  show (k0_pay5 (F := Ideal) (b0 m c t) (b2 m c t) : S1x1024x704.Idx → EReal) y = FfnUpRefIdeal.Read.val_main_v7 (F := Ideal) (a0 m c) (a2 m c) (((cfg0.win 4).blk t).view.emb y)
  exact (pay5_apply _ _ y).trans ((up_entry m c t y _ h0 h1 h2).trans (up_apply _ _ _).symm)

theorem mem_blk4 (t : Fin cfg0.N) (i : S4x4096x704.Idx) :
    i ∈ ((cfg0.win 4).blk t).view.set ↔ ∀ a, win0_4.index t a * S1x1024x704.size a ≤ (i a).val ∧ (i a).val < win0_4.index t a * S1x1024x704.size a + S1x1024x704.size a := by
  show i ∈ ((View.whole main_v7_1).slice (win0_4.rect t)).set ↔ _
  rw [View.set_slice_whole, Rect.mem_set_unit]

theorem result4 (c : Dev nD) : (dats m 0 c).arrAt 4 cfg0.N = FfnUpRefIdeal.Read.val_main_v7 (F := Ideal) (a0 m c) (a2 m c) :=
  (dats m 0 c).arrAt_eq_of_cover 4 (FfnUpRefIdeal.Read.val_main_v7 (F := Ideal) (a0 m c) (a2 m c)) (fun t _ => flushed4_eq m c t) fun i => by
    have h0 : (i 0).val < 4 := (i 0).isLt
    have h1 : (i 1).val < 4096 := (i 1).isLt
    have h2 : (i 2).val < 704 := (i 2).isLt
    have ht : 4 * (i 0).val + (i 1).val / 1024 < cfg0.N := lt_of_lt_of_eq (by omega) N_0.symm
    obtain ⟨-, -, -, -, -, -, -, -, -, -, -, e0, e1, e2, -, -, -, -, hf, -⟩ := idx_in ⟨4 * (i 0).val + (i 1).val / 1024, ht⟩
    refine ⟨⟨4 * (i 0).val + (i 1).val / 1024, ht⟩, hf, (mem_blk4 _ i).2 fun a => ?_⟩
    match a with
    | ⟨0, _⟩ =>
      show win0_4.index _ (0 : Fin 3) * 1 ≤ (i 0).val ∧ (i 0).val < win0_4.index _ (0 : Fin 3) * 1 + 1
      rw [e0]
      show ((4 * (i 0).val + (i 1).val / 1024) / 4) * 1 ≤ (i 0).val ∧ (i 0).val < ((4 * (i 0).val + (i 1).val / 1024) / 4) * 1 + 1
      omega
    | ⟨1, _⟩ =>
      show win0_4.index _ (1 : Fin 3) * 1024 ≤ (i 1).val ∧ (i 1).val < win0_4.index _ (1 : Fin 3) * 1024 + 1024
      rw [e1]
      show ((4 * (i 0).val + (i 1).val / 1024) % 4) * 1024 ≤ (i 1).val ∧ (i 1).val < ((4 * (i 0).val + (i 1).val / 1024) % 4) * 1024 + 1024
      omega
    | ⟨2, _⟩ =>
      show win0_4.index _ (2 : Fin 3) * 704 ≤ (i 2).val ∧ (i 2).val < win0_4.index _ (2 : Fin 3) * 704 + 704
      rw [e2]
      show (0) * 704 ≤ (i 2).val ∧ (i 2).val < (0) * 704 + 704
      omega

theorem flushed5_eq (c : Dev nD) (t : Fin cfg0.N) :
    (dats m 0 c).flushed 5 t = ((cfg0.win 5).blk t).view.read (Elt Ideal) (FfnUpRefIdeal.Read.val_main_v12 (F := Ideal) (a0 m c) (a1 m c) (a2 m c)) := by
  rw [flushed5, out5_eq]
  funext y
  obtain ⟨-, -, -, -, -, -, -, -, -, -, -, -, -, -, e0, e1, e2, -⟩ := idx_in t
  have hb0 : (((cfg0.win 5).blk t).view.emb y 0).val = win0_5.index t (0 : Fin 3) * 1 + 1 * (y 0).val := rfl
  have hb1 : (((cfg0.win 5).blk t).view.emb y 1).val = win0_5.index t (1 : Fin 3) * 1024 + 1 * (y 1).val := rfl
  have hb2 : (((cfg0.win 5).blk t).view.emb y 2).val = win0_5.index t (2 : Fin 3) * 704 + 1 * (y 2).val := rfl
  have hy : (y 0).val < 1 := (y 0).isLt
  have h0 : (((cfg0.win 5).blk t).view.emb y 0).val = t.val / 4 := by rw [hb0, e0]; omega
  have h1 : (((cfg0.win 5).blk t).view.emb y 1).val = 1024 * (t.val % 4) + (y 1).val := by rw [hb1, e1]; omega
  have h2 : (((cfg0.win 5).blk t).view.emb y 2).val = (y 2).val := by rw [hb2, e2]; omega
  show (k0_pay6 (F := Ideal) (b0 m c t) (b1 m c t) (b2 m c t) : S1x1024x704.Idx → EReal) y = FfnUpRefIdeal.Read.val_main_v12 (F := Ideal) (a0 m c) (a1 m c) (a2 m c) (((cfg0.win 5).blk t).view.emb y)
  exact (pay6_apply _ _ _ y).trans ((congrArg₂ gated (gate_entry m c t y _ h0 h1 h2) (up_entry m c t y _ h0 h1 h2)).trans (act_apply _ _ _ _).symm)

theorem mem_blk5 (t : Fin cfg0.N) (i : S4x4096x704.Idx) :
    i ∈ ((cfg0.win 5).blk t).view.set ↔ ∀ a, win0_5.index t a * S1x1024x704.size a ≤ (i a).val ∧ (i a).val < win0_5.index t a * S1x1024x704.size a + S1x1024x704.size a := by
  show i ∈ ((View.whole main_v7_2).slice (win0_5.rect t)).set ↔ _
  rw [View.set_slice_whole, Rect.mem_set_unit]

theorem result5 (c : Dev nD) : (dats m 0 c).arrAt 5 cfg0.N = FfnUpRefIdeal.Read.val_main_v12 (F := Ideal) (a0 m c) (a1 m c) (a2 m c) :=
  (dats m 0 c).arrAt_eq_of_cover 5 (FfnUpRefIdeal.Read.val_main_v12 (F := Ideal) (a0 m c) (a1 m c) (a2 m c)) (fun t _ => flushed5_eq m c t) fun i => by
    have h0 : (i 0).val < 4 := (i 0).isLt
    have h1 : (i 1).val < 4096 := (i 1).isLt
    have h2 : (i 2).val < 704 := (i 2).isLt
    have ht : 4 * (i 0).val + (i 1).val / 1024 < cfg0.N := lt_of_lt_of_eq (by omega) N_0.symm
    obtain ⟨-, -, -, -, -, -, -, -, -, -, -, -, -, -, e0, e1, e2, -, -, hf⟩ := idx_in ⟨4 * (i 0).val + (i 1).val / 1024, ht⟩
    refine ⟨⟨4 * (i 0).val + (i 1).val / 1024, ht⟩, hf, (mem_blk5 _ i).2 fun a => ?_⟩
    match a with
    | ⟨0, _⟩ =>
      show win0_5.index _ (0 : Fin 3) * 1 ≤ (i 0).val ∧ (i 0).val < win0_5.index _ (0 : Fin 3) * 1 + 1
      rw [e0]
      show ((4 * (i 0).val + (i 1).val / 1024) / 4) * 1 ≤ (i 0).val ∧ (i 0).val < ((4 * (i 0).val + (i 1).val / 1024) / 4) * 1 + 1
      omega
    | ⟨1, _⟩ =>
      show win0_5.index _ (1 : Fin 3) * 1024 ≤ (i 1).val ∧ (i 1).val < win0_5.index _ (1 : Fin 3) * 1024 + 1024
      rw [e1]
      show ((4 * (i 0).val + (i 1).val / 1024) % 4) * 1024 ≤ (i 1).val ∧ (i 1).val < ((4 * (i 0).val + (i 1).val / 1024) % 4) * 1024 + 1024
      omega
    | ⟨2, _⟩ =>
      show win0_5.index _ (2 : Fin 3) * 704 ≤ (i 2).val ∧ (i 2).val < win0_5.index _ (2 : Fin 3) * 704 + 704
      rw [e2]
      show (0) * 704 ≤ (i 2).val ∧ (i 2).val < (0) * 704 + 704
      omega

end Cert.FfnUpIdeal.Sum
-- ==== Proof.FfnDown.lean ====
/-
  The last product of the feed-forward block, `f = act @ wd`, is summed over the 2816 hidden columns in four blocks of 704. The
  last block stores `f` and the gated residual `x1 + g2 * f`.
-/
module

public import proofs.«01_k».proof.Proof.Common
public import proofs.«01_k».proof.Proof.Gen.FfnDownIdeal.Value
public import proofs.«01_k».proof.Proof.Gen.FfnDownRefIdeal.Read
public import Idealize.ShloMosaic.Lib.Tactic
public import Idealize.ShloMosaic.Lib.Claim
public import proofs.«01_k».proof.Proof.Rows
@[expose] public section

set_option maxRecDepth 16384

noncomputable section

namespace Cert.FfnDownIdeal.Sum

open Cert.Common Cert.FfnDownIdeal Cert.FfnDownIdeal.Gen Cert.FfnDownIdeal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords) (a2 : Memref sig .tc .vmem S1x1024x704 .bf16) (h2 : a2.IsWhole)
  (a3 : Memref sig .tc .vmem S1x704x1024 .bf16) (h3 : a3.IsWhole) (a4 : Memref sig .tc .vmem S1024x1024 .f32) (h4 : a4.IsWhole)
  (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole) (a8 : Memref sig .tc .vmem S1024x1024 .f32) (h8 : a8.IsWhole)
  (x0 : Vec F S1x1024x704 .bf16) (x1 : Vec F S1x704x1024 .bf16) (x2 : Vec F S1024x1024 .f32) (x3 : Vec F S1x1024 .f32) (xs : Vec F S1024x1024 .f32)

/-- The first block leaves its product over the zero it has just stored. -/
theorem sout_A (hc0 : cond0_0 i) (hc1 : ¬cond0_1 i) :
    sout0_A_0 c i a2 h2 a3 h3 a4 h4 a5 h5 a6 h6 a7 h7 a8 h8 hc0 hc1 x0 x1 x2 x3 = k0_pay2 k0_pay1 x0 x1 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S1024x1024) zero2, View.readCov_unit_zero (S := S1024x1024) _ zero2]
  simp only [View.readAt_eq_ld, h2.read_unread, h3.read_unread, View.ld_unit_zero (S := S1x1024x704) zero3, View.ld_unit_zero (S := S1x704x1024) zero3]

/-- A middle block adds its product to what the block before left. -/
theorem sout_B (hc0 : ¬cond0_0 i) (hc1 : ¬cond0_1 i) :
    sout0_B_0 c i a2 h2 a3 h3 a4 h4 a5 h5 a6 h6 a7 h7 a8 h8 hc0 hc1 x0 x1 x2 x3 xs = k0_pay2 xs x0 x1 := by
  unfold sout0_B_0
  rw [View.read_writes_eq_canon _ _ _ (scover0_B_0 c i a2 h2 a3 h3 a4 h4 a5 h5 a6 h6 a7 h7 a8 h8 hc0 hc1 x0 x1 x2 x3 xs)]
  unfold kernelRun0_B
  dsimp only
  sl_unfold_words
  rw [View.canon_unit_zero (S := S1024x1024) zero2]
  simp only [View.readAt_eq_ld, h2.read_unread, h3.read_unread, h8.read_unread, View.ld_unit_zero (S := S1x1024x704) zero3, View.ld_unit_zero (S := S1x704x1024) zero3,
    View.ld_unit_zero (S := S1024x1024) zero2]

/-- The last block writes the whole sum out as the second result. -/
theorem out5_C (hc0 : ¬cond0_0 i) (hc1 : cond0_1 i) :
    out0_C_5 c i a2 h2 a3 h3 a4 h4 a5 h5 a6 h6 a7 h7 a8 h8 hc0 hc1 x0 x1 x2 x3 xs = k0_pay2 xs x0 x1 := by
  unfold out0_C_5
  rw [View.read_writes_eq_canon _ _ _ (cover0_C_5 c i a2 h2 a3 h3 a4 h4 a5 h5 a6 h6 a7 h7 a8 h8 hc0 hc1 x0 x1 x2 x3 xs)]
  unfold kernelRun0_C
  dsimp only
  sl_unfold_words
  rw [View.canon_unit_zero (S := S1024x1024) zero2, View.readCov_unit_zero (S := S1024x1024) _ zero2]
  simp only [View.readAt_eq_ld, h2.read_unread, h3.read_unread, h8.read_unread, View.ld_unit_zero (S := S1x1024x704) zero3, View.ld_unit_zero (S := S1x704x1024) zero3,
    View.ld_unit_zero (S := S1024x1024) zero2]

/-- The first result is the gated residual made from that sum. -/
theorem out4_C (hc0 : ¬cond0_0 i) (hc1 : cond0_1 i) :
    out0_C_4 c i a2 h2 a3 h3 a4 h4 a5 h5 a6 h6 a7 h7 a8 h8 hc0 hc1 x0 x1 x2 x3 xs = k0_pay3 (k0_pay2 xs x0 x1) x2 x3 := by
  unfold out0_C_4
  rw [View.read_writes_eq_canon _ _ _ (cover0_C_4 c i a2 h2 a3 h3 a4 h4 a5 h5 a6 h6 a7 h7 a8 h8 hc0 hc1 x0 x1 x2 x3 xs)]
  unfold kernelRun0_C
  dsimp only
  sl_unfold_words
  rw [View.canon_unit_zero (S := S1024x1024) zero2, View.readCov_unit_zero (S := S1024x1024) _ zero2]
  simp only [View.readAt_eq_ld, h2.read_unread, h3.read_unread, h4.read_unread, h5.read_unread, h8.read_unread, View.ld_unit_zero (S := S1x1024x704) zero3, View.ld_unit_zero (S := S1x704x1024) zero3,
    View.ld_unit_zero (S := S1024x1024) zero2, View.ld_unit_zero (S := S1x1024) zero2]

end Cases

section Steps
variable {F : FTy → Type} [FloatOps F]
variable (m : (ℓ : Loc nD τ sig) → Buf (Elt F) ℓ)

theorem acc_A (c : Dev nD) (t : Fin cfg0.N) (h0 : t.val % 4 = 0) (h1 : ¬t.val % 4 = 3) :
    (outsAt0 m c t.val t.isLt).2.2 = k0_pay2 k0_pay1 (iblk m c 0 t) (iblk m c 1 t) := by
  rw [outsAt0_A m c t h0 h1]
  dsimp only
  rw [sout_A]

theorem acc_B (c : Dev nD) (t : Fin cfg0.N) (h0 : ¬t.val % 4 = 0) (h1 : ¬t.val % 4 = 3) (n : ℕ) (hn : n < cfg0.N) (e : t.val - 1 = n) :
    (outsAt0 m c t.val t.isLt).2.2 = k0_pay2 (outsAt0 m c n hn).2.2 (iblk m c 0 t) (iblk m c 1 t) := by
  subst e
  rw [outsAt0_B m c t h0 h1]
  dsimp only
  rw [sout_B]

theorem acc_C5 (c : Dev nD) (t : Fin cfg0.N) (h0 : ¬t.val % 4 = 0) (h1 : t.val % 4 = 3) (n : ℕ) (hn : n < cfg0.N) (e : t.val - 1 = n) :
    (outsAt0 m c t.val t.isLt).2.1 = k0_pay2 (outsAt0 m c n hn).2.2 (iblk m c 0 t) (iblk m c 1 t) := by
  subst e
  rw [outsAt0_C m c t h0 h1]
  dsimp only
  rw [out5_C]

theorem acc_C4 (c : Dev nD) (t : Fin cfg0.N) (h0 : ¬t.val % 4 = 0) (h1 : t.val % 4 = 3) (n : ℕ) (hn : n < cfg0.N) (e : t.val - 1 = n) :
    (outsAt0 m c t.val t.isLt).1 = k0_pay3 (k0_pay2 (outsAt0 m c n hn).2.2 (iblk m c 0 t) (iblk m c 1 t)) (iblk m c 2 t) (iblk m c 3 t) := by
  subst e
  rw [outsAt0_C m c t h0 h1]
  dsimp only
  rw [out4_C]

theorem outs_congr (c : Dev nD) (n n' : ℕ) (h : n < cfg0.N) (h' : n' < cfg0.N) (e : n = n') : outsAt0 m c n h = outsAt0 m c n' h' := by
  subst e; rfl

end Steps

/-! ## The stored values at an index, over the extended reals -/

theorem dot_eq : dot_S1024x704_S704x1024_S1024x1024_1_0_0_1_n_n = DotDims.plain 1024 704 1024 := rfl

theorem pay2_apply (v : S1024x1024.Idx → EReal) (x0 : S1x1024x704.Idx → EReal) (x1 : S1x704x1024.Idx → EReal) (i : S1024x1024.Idx) :
    (k0_pay2 (F := Ideal) v x0 x1 : S1024x1024.Idx → EReal) i = v i + ∑ y : Fin 704, x0 (ix3 (0 : Fin 1) (i 0) y) * x1 (ix3 (0 : Fin 1) y (i 1)) := by
  unfold k0_pay2
  simp only [shapeCast_self, dot_eq]
  refine congrArg (fun z : EReal => v i + z) ((plain_zero (φ₁ := .bf16) (φ₂ := .bf16) (shapeCast S1024x704 x0 shapeCasts_S1x1024x704_S1024x704)
    (shapeCast S704x1024 x1 shapeCasts_S1x704x1024_S704x1024) i).trans (Finset.sum_congr rfl fun y _ => ?_))
  exact congrArg₂ (fun a b : EReal => a * b) (cast_drop x0 shapeCasts_S1x1024x704_S1024x704 (i 0) y) (cast_drop x1 shapeCasts_S1x704x1024_S704x1024 y (i 1))

theorem pay1_apply (i : S1024x1024.Idx) : (k0_pay1 (F := Ideal) : S1024x1024.Idx → EReal) i = 0 := by
  unfold k0_pay1
  simp only [shapeCast_self]
  exact Ideal.ofBits_zero_f32

theorem pay3_apply (f x : S1024x1024.Idx → EReal) (g : S1x1024.Idx → EReal) (r q : Fin 1024) :
    (k0_pay3 (F := Ideal) f x g : S1024x1024.Idx → EReal) (ix2 r q) = x (ix2 r q) + g (ix2 (0 : Fin 1) q) * f (ix2 r q) := by
  unfold k0_pay3
  exact congrArg (fun z : EReal => x (ix2 r q) + z * f (ix2 r q)) (broadcastTo_1b_ab_apply g broadcasts_S1x1024_S1024x1024 r q)

/-! ## What each grid point reads -/

variable (m : (ℓ : Loc nD τ sig) → Buf (Elt Ideal) ℓ)

abbrev a0 (c : Dev nD) : S4096x2816.Idx → EReal := m ((c : Thread nD τ).loc main_arg0)
abbrev a1 (c : Dev nD) : S2816x1024.Idx → EReal := m ((c : Thread nD τ).loc main_arg1)
abbrev a2 (c : Dev nD) : S4096x1024.Idx → EReal := m ((c : Thread nD τ).loc main_arg2)
abbrev a3 (c : Dev nD) : S1x1024.Idx → EReal := m ((c : Thread nD τ).loc main_arg3)

/-- Where each window stands at grid point `t`. -/
theorem idx_in : ∀ t : Fin cfg0.N, win0_0.index t (0 : Fin 3) = t.val % 4
    ∧ win0_0.index t (1 : Fin 3) = t.val / 4
    ∧ win0_0.index t (2 : Fin 3) = 0
    ∧ win0_1.index t (0 : Fin 3) = t.val % 4
    ∧ win0_1.index t (1 : Fin 3) = 0
    ∧ win0_1.index t (2 : Fin 3) = 0
    ∧ win0_2.index t (0 : Fin 2) = t.val / 4
    ∧ win0_2.index t (1 : Fin 2) = 0
    ∧ win0_3.index t (0 : Fin 2) = 0
    ∧ win0_3.index t (1 : Fin 2) = 0 :=
  (by decide +kernel : ∀ t : Fin grid0.N, _)

abbrev b0 (c : Dev nD) (t : Fin cfg0.N) : S1x1024x704.Idx → EReal := iblk m c 0 t

theorem blk0 (c : Dev nD) (t : Fin cfg0.N) (y : S1x1024x704.Idx) (k : S4096x2816.Idx) (h0 : (k 0).val = 1024 * (t.val / 4) + (y 1).val) (h1 : (k 1).val = 704 * (t.val % 4) + (y 2).val) :
    b0 m c t y = a0 m c k := by
  obtain ⟨e0, e1, e2, -⟩ := idx_in t
  have hb0 : (((cfg0.win 0).blk t).view.emb y 0).val = win0_0.index t (0 : Fin 3) * 1 + 1 * (y 0).val := rfl
  have hb1 : (((cfg0.win 0).blk t).view.emb y 1).val = win0_0.index t (1 : Fin 3) * 1024 + 1 * (y 1).val := rfl
  have hb2 : (((cfg0.win 0).blk t).view.emb y 2).val = win0_0.index t (2 : Fin 3) * 704 + 1 * (y 2).val := rfl
  have hy : (y 0).val < 1 := (y 0).isLt
  show V m c main_v2 (((cfg0.win 0).blk t).view.emb y) = _
  entry_read
  exact stack_cols (R := 4096) (C := 704) (N := 2816) (by decide) (a0 m c) _ _ _ k (by rw [hb1, h0, e1]; omega) (by rw [hb0, hb2, h1, e0, e2]; omega)

abbrev b1 (c : Dev nD) (t : Fin cfg0.N) : S1x704x1024.Idx → EReal := iblk m c 1 t

theorem blk1 (c : Dev nD) (t : Fin cfg0.N) (y : S1x704x1024.Idx) (k : S2816x1024.Idx) (h0 : (k 0).val = 704 * (t.val % 4) + (y 1).val) (h1 : (k 1).val = (y 2).val) :
    b1 m c t y = a1 m c k := by
  obtain ⟨-, -, -, e0, e1, e2, -⟩ := idx_in t
  have hb0 : (((cfg0.win 1).blk t).view.emb y 0).val = win0_1.index t (0 : Fin 3) * 1 + 1 * (y 0).val := rfl
  have hb1 : (((cfg0.win 1).blk t).view.emb y 1).val = win0_1.index t (1 : Fin 3) * 704 + 1 * (y 1).val := rfl
  have hb2 : (((cfg0.win 1).blk t).view.emb y 2).val = win0_1.index t (2 : Fin 3) * 1024 + 1 * (y 2).val := rfl
  have hy : (y 0).val < 1 := (y 0).isLt
  show V m c main_v4 (((cfg0.win 1).blk t).view.emb y) = _
  entry_read
  exact stack_rows (R := 704) (C := 1024) (N := 2816) (by decide) (a1 m c) _ _ k (by rw [hb0, hb1, h0, e0, e1]; omega) (by rw [hb2, h1, e2]; omega)

abbrev b2 (c : Dev nD) (t : Fin cfg0.N) : S1024x1024.Idx → EReal := iblk m c 2 t

theorem blk2 (c : Dev nD) (t : Fin cfg0.N) (y : S1024x1024.Idx) (k : S4096x1024.Idx) (h0 : (k 0).val = 1024 * (t.val / 4) + (y 0).val) (h1 : (k 1).val = (y 1).val) :
    b2 m c t y = a2 m c k := by
  obtain ⟨-, -, -, -, -, -, e0, e1, -⟩ := idx_in t
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  show V m c main_arg2 (((cfg0.win 2).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b3 (c : Dev nD) (t : Fin cfg0.N) : S1x1024.Idx → EReal := iblk m c 3 t

theorem blk3 (c : Dev nD) (t : Fin cfg0.N) (y : S1x1024.Idx) (k : S1x1024.Idx) (h0 : (k 0).val = (y 0).val) (h1 : (k 1).val = (y 1).val) :
    b3 m c t y = a3 m c k := by
  obtain ⟨-, -, -, -, -, -, -, -, e0, e1⟩ := idx_in t
  have hb0 : (((cfg0.win 3).blk t).view.emb y 0).val = win0_3.index t (0 : Fin 2) * 1 + 1 * (y 0).val := rfl
  have hb1 : (((cfg0.win 3).blk t).view.emb y 1).val = win0_3.index t (1 : Fin 2) * 1024 + 1 * (y 1).val := rfl
  show V m c main_arg3 (((cfg0.win 3).blk t).view.emb y) = _
  entry_read
  refine congrArg (a3 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev accAfter (c : Dev nD) (n : ℕ) (h : n < cfg0.N) : S1024x1024.Idx → EReal := (outsAt0 m c n h).2.2

/-- Row `1024 j + r` of the left operand at column `x`, times column `q` of the right one. -/
abbrev term (c : Dev nD) (j : ℕ) (r q : ℕ) (hj : j < 4) (hr : r < 1024) (hq : q < 1024) (x : Fin 2816) : EReal :=
  a0 m c (ix2 (n0 := 4096) (n1 := 2816) ⟨1024 * j + r, by omega⟩ x) * a1 m c (ix2 (n0 := 2816) (n1 := 1024) x ⟨q, hq⟩)

/-- The product of a point's two blocks is the next 704 terms of the long sum. -/
theorem blk_sum (c : Dev nD) (t : Fin cfg0.N) (i : S1024x1024.Idx) (j k : ℕ) (hj : j < 4) (hk : k < 4) (ht : t.val = 4 * j + k) :
    ∑ y : Fin 704, b0 m c t (ix3 (0 : Fin 1) (i 0) y) * b1 m c t (ix3 (0 : Fin 1) y (i 1))
      = ∑ y : Fin 704, ext0 (term m c j (i 0).val (i 1).val hj (i 0).isLt (i 1).isLt) (704 * k + y.val) := by
  refine Finset.sum_congr rfl fun y _ => ?_
  have hy := y.isLt
  have hx : 704 * k + y.val < 2816 := by omega
  have hi : (i 0).val < 1024 := (i 0).isLt
  have ed : t.val / 4 = j := by omega
  have em : t.val % 4 = k := by omega
  rw [ext0_of_lt _ _ hx]
  exact congrArg₂ (fun a b : EReal => a * b)
    (blk0 m c t (ix3 (0 : Fin 1) (i 0) y) (ix2 (n0 := 4096) (n1 := 2816) ⟨1024 * j + (i 0).val, by omega⟩ ⟨704 * k + y.val, hx⟩)
      (by rw [ed]) (by rw [em]))
    (blk1 m c t (ix3 (0 : Fin 1) y (i 1)) (ix2 (n0 := 2816) (n1 := 1024) ⟨704 * k + y.val, hx⟩ ⟨(i 1).val, (i 1).isLt⟩)
      (by rw [em]) rfl)

/-! ## The running sum -/

theorem partial_sum (c : Dev nD) (i : S1024x1024.Idx) (j : ℕ) (hj : j < 4) : ∀ (k : ℕ) (hk : k < 3) (h : 4 * j + k < cfg0.N),
    accAfter m c (4 * j + k) h i
      = ∑ x ∈ Finset.range (704 * (k + 1)), ext0 (term m c j (i 0).val (i 1).val hj (i 0).isLt (i 1).isLt) x := by
  intro k
  induction k with
  | zero =>
    intro _ h
    have e := acc_A m c ⟨4 * j + 0, h⟩ (by show (4 * j + 0) % 4 = 0; omega) (by show ¬(4 * j + 0) % 4 = 3; omega)
    refine (congrFun e i).trans ((pay2_apply _ _ _ i).trans ?_)
    rw [pay1_apply, zero_add]
    exact (blk_sum m c ⟨4 * j + 0, h⟩ i j 0 hj (by omega) rfl).trans (sum_block_first _ 704)
  | succ k ih =>
    intro hk h
    have hp : 4 * j + k < cfg0.N := Nat.lt_of_succ_lt h
    have e := acc_B m c ⟨4 * j + (k + 1), h⟩ (by show ¬(4 * j + (k + 1)) % 4 = 0; omega) (by show ¬(4 * j + (k + 1)) % 4 = 3; omega)
      (4 * j + k) hp (by show 4 * j + (k + 1) - 1 = 4 * j + k; omega)
    refine (congrFun e i).trans ((pay2_apply (accAfter m c (4 * j + k) hp) _ _ i).trans ?_)
    rw [ih (by omega) hp]
    refine (congrArg (fun z : EReal => _ + z) (blk_sum m c ⟨4 * j + (k + 1), h⟩ i j (k + 1) hj (by omega) rfl)).trans ?_
    exact sum_block _ 704 (k + 1)

/-- The last point's sum is over all 2816 columns. -/
theorem whole_sum (c : Dev nD) (j : ℕ) (hj : j < 4) (h : 4 * j + 3 < cfg0.N) (hp : 4 * j + 2 < cfg0.N) (i : S1024x1024.Idx) :
    (k0_pay2 (F := Ideal) (accAfter m c (4 * j + 2) hp) (b0 m c ⟨4 * j + 3, h⟩) (b1 m c ⟨4 * j + 3, h⟩) : S1024x1024.Idx → EReal) i
      = ∑ x : Fin 2816, term m c j (i 0).val (i 1).val hj (i 0).isLt (i 1).isLt x := by
  refine (pay2_apply (accAfter m c (4 * j + 2) hp) _ _ i).trans ?_
  rw [partial_sum m c i j hj 2 (by omega) hp]
  refine (congrArg (fun z : EReal => _ + z) (blk_sum m c ⟨4 * j + 3, h⟩ i j 3 hj (by omega) rfl)).trans ?_
  refine (sum_block _ 704 3).trans ?_
  exact sum_ext0 (term m c j (i 0).val (i 1).val hj (i 0).isLt (i 1).isLt)

theorem written5 (c : Dev nD) (j : ℕ) (hj : j < 4) (h : 4 * j + 3 < cfg0.N) (i : S1024x1024.Idx) :
    ((outsAt0 m c (4 * j + 3) h).2.1 : S1024x1024.Idx → EReal) i = ∑ x : Fin 2816, term m c j (i 0).val (i 1).val hj (i 0).isLt (i 1).isLt x := by
  have hp : 4 * j + 2 < cfg0.N := Nat.lt_of_succ_lt h
  have e := acc_C5 m c ⟨4 * j + 3, h⟩ (by show ¬(4 * j + 3) % 4 = 0; omega) (by show (4 * j + 3) % 4 = 3; omega)
    (4 * j + 2) hp (by show 4 * j + 3 - 1 = 4 * j + 2; omega)
  exact (congrFun e i).trans (whole_sum m c j hj h hp i)

theorem written4 (c : Dev nD) (j : ℕ) (hj : j < 4) (h : 4 * j + 3 < cfg0.N) (r q : Fin 1024) :
    ((outsAt0 m c (4 * j + 3) h).1 : S1024x1024.Idx → EReal) (ix2 r q)
      = a2 m c (ix2 (n0 := 4096) (n1 := 1024) ⟨1024 * j + r.val, by omega⟩ q)
        + a3 m c (ix2 (n0 := 1) (n1 := 1024) 0 q) * ∑ x : Fin 2816, term m c j r.val q.val hj r.isLt q.isLt x := by
  have hp : 4 * j + 2 < cfg0.N := Nat.lt_of_succ_lt h
  have ed : (4 * j + 3) / 4 = j := by omega
  have e := acc_C4 m c ⟨4 * j + 3, h⟩ (by show ¬(4 * j + 3) % 4 = 0; omega) (by show (4 * j + 3) % 4 = 3; omega)
    (4 * j + 2) hp (by show 4 * j + 3 - 1 = 4 * j + 2; omega)
  refine (congrFun e (ix2 r q)).trans ((pay3_apply _ (b2 m c ⟨4 * j + 3, h⟩) (b3 m c ⟨4 * j + 3, h⟩) r q).trans ?_)
  have s := whole_sum m c j hj h hp (ix2 r q)
  have e2 := blk2 m c ⟨4 * j + 3, h⟩ (ix2 r q) (ix2 (n0 := 4096) (n1 := 1024) ⟨1024 * j + r.val, by omega⟩ q)
    (by show 1024 * j + r.val = 1024 * ((4 * j + 3) / 4) + r.val; rw [ed]) rfl
  have e3 := blk3 m c ⟨4 * j + 3, h⟩ (ix2 (0 : Fin 1) q) (ix2 (n0 := 1) (n1 := 1024) 0 q) rfl rfl
  exact congrArg₂ (fun a b : EReal => a + b) e2 (congrArg₂ (fun a b : EReal => a * b) e3 s)

/-! ## The reference -/

theorem f_apply (c : Dev nD) (i : S4096x1024.Idx) (j r : ℕ) (hj : j < 4) (hr : r < 1024) (e : (i 0).val = 1024 * j + r) :
    FfnDownRefIdeal.Read.val_main_v0 (F := Ideal) (a0 m c) (a1 m c) i = ∑ x : Fin 2816, term m c j r (i 1).val hj hr (i 1).isLt x := by
  rw [FfnDownRefIdeal.Read.val_main_v0_apply]
  refine Finset.sum_congr rfl fun x _ => congrArg₂ (fun a b : EReal => a * b) (congrArg (a0 m c) (funext fun a => Fin.ext ?_)) (congrArg (a1 m c) (funext fun a => Fin.ext ?_))
  · match a with
    | ⟨0, _⟩ => exact e
    | ⟨1, _⟩ => rfl
  · match a with
    | ⟨0, _⟩ => rfl
    | ⟨1, _⟩ => rfl

theorem x_apply (c : Dev nD) (i : S4096x1024.Idx) :
    FfnDownRefIdeal.Read.val_main_v3 (F := Ideal) (a0 m c) (a1 m c) (a2 m c) (a3 m c) i
      = a2 m c i + a3 m c (ix2 (n0 := 1) (n1 := 1024) 0 (i 1)) * FfnDownRefIdeal.Read.val_main_v0 (F := Ideal) (a0 m c) (a1 m c) i := by
  rw [FfnDownRefIdeal.Read.val_main_v3_apply, FfnDownRefIdeal.Read.val_main_v2_apply, FfnDownRefIdeal.Read.val_main_v1_apply]
  refine congrArg (fun z : EReal => a2 m c i + z * FfnDownRefIdeal.Read.val_main_v0 (F := Ideal) (a0 m c) (a1 m c) i) (congrArg (a3 m c) (funext fun a => Fin.ext ?_))
  match a with
  | ⟨0, _⟩ => rfl
  | ⟨1, _⟩ => rfl

/-! ## The two results -/

theorem result4 (c : Dev nD) : G4 m c = FfnDownRefIdeal.Read.val_main_v3 (F := Ideal) (a0 m c) (a1 m c) (a2 m c) (a3 m c) := by
  funext i
  have h0 : (i 0).val < 4096 := (i 0).isLt
  have h1 : (i 1).val < 1024 := (i 1).isLt
  have hp : pt4Of i = 4 * ((i 0).val / 1024) + 3 := by
    show 4 * (1 * ((i 0).val / 1024 - 0) + 1 * ((i 1).val / 1024 - 0)) + 3 = _
    omega
  have hb : pt4Of i < cfg0.N := by rw [hp]; exact lt_of_lt_of_eq (by omega) N_0.symm
  have hl : loc4Of i = ix2 (n0 := 1024) (n1 := 1024) ⟨(i 0).val % 1024, by omega⟩ (i 1) := by
    funext a; apply Fin.ext
    match a with
    | ⟨0, _⟩ => rfl
    | ⟨1, _⟩ => show (i 1).val % 1024 = (i 1).val; omega
  unfold G4
  rw [dif_pos hb, ← outsAt0_sweep m c (pt4Of i) hb, outs_congr m c _ _ hb (hp ▸ hb) hp, hl]
  refine (written4 m c ((i 0).val / 1024) (by omega) (hp ▸ hb) ⟨(i 0).val % 1024, by omega⟩ (i 1)).trans ?_
  rw [x_apply m c i, f_apply m c i ((i 0).val / 1024) ((i 0).val % 1024) (by omega) (by omega) (by omega)]
  refine congrArg (fun z : EReal => z + _) (congrArg (a2 m c) (funext fun a => Fin.ext ?_))
  match a with
  | ⟨0, _⟩ => show 1024 * ((i 0).val / 1024) + (i 0).val % 1024 = (i 0).val; omega
  | ⟨1, _⟩ => rfl

theorem result5 (c : Dev nD) : G5 m c = FfnDownRefIdeal.Read.val_main_v0 (F := Ideal) (a0 m c) (a1 m c) := by
  funext i
  have h0 : (i 0).val < 4096 := (i 0).isLt
  have h1 : (i 1).val < 1024 := (i 1).isLt
  have hp : pt5Of i = 4 * ((i 0).val / 1024) + 3 := by
    show 4 * (1 * ((i 0).val / 1024 - 0) + 1 * ((i 1).val / 1024 - 0)) + 3 = _
    omega
  have hb : pt5Of i < cfg0.N := by rw [hp]; exact lt_of_lt_of_eq (by omega) N_0.symm
  have hl : loc5Of i = ix2 (n0 := 1024) (n1 := 1024) ⟨(i 0).val % 1024, by omega⟩ (i 1) := by
    funext a; apply Fin.ext
    match a with
    | ⟨0, _⟩ => rfl
    | ⟨1, _⟩ => show (i 1).val % 1024 = (i 1).val; omega
  unfold G5
  rw [dif_pos hb, ← outsAt0_sweep m c (pt5Of i) hb, outs_congr m c _ _ hb (hp ▸ hb) hp, hl]
  refine (written5 m c ((i 0).val / 1024) (by omega) (hp ▸ hb) (ix2 (n0 := 1024) (n1 := 1024) ⟨(i 0).val % 1024, by omega⟩ (i 1))).trans ?_
  exact (f_apply m c i ((i 0).val / 1024) ((i 0).val % 1024) (by omega) (by omega) (by omega)).symm

end Cert.FfnDownIdeal.Sum
-- ==== Proof.NormBack.lean ====
/-
  The gradient of the root-mean-square norm of a row: the kernels' closed form is what the chain rule, taken step by
  step, gives. Both are sums and products of reals when the row and the gradient at the normed row are finite.
-/
module

public import proofs.«01_k».proof.Proof.Rows

@[expose] public section

noncomputable section

namespace Cert.NormBack

open Cert.Common Cert.Rows Idealize.ShloMosaic Idealize.ShloMosaic.ValueIdx

/-- The number is neither infinity. -/
def Fin' (x : EReal) : Prop := x ≠ ⊤ ∧ x ≠ ⊥

theorem fin_coe (x : ℝ) : Fin' (x : EReal) := ⟨EReal.coe_ne_top x, EReal.coe_ne_bot x⟩

theorem fin_lift {x : EReal} (h : Fin' x) : ∃ y : ℝ, x = (y : EReal) := ⟨x.toReal, (EReal.coe_toReal h.1 h.2).symm⟩

theorem fin_mul {x y : EReal} (hx : Fin' x) (hy : Fin' y) : Fin' (x * y) := by
  obtain ⟨a, rfl⟩ := fin_lift hx
  obtain ⟨b, rfl⟩ := fin_lift hy
  rw [← EReal.coe_mul]
  exact fin_coe _

theorem fin_add {x y : EReal} (hx : Fin' x) (hy : Fin' y) : Fin' (x + y) := by
  obtain ⟨a, rfl⟩ := fin_lift hx
  obtain ⟨b, rfl⟩ := fin_lift hy
  rw [← EReal.coe_add]
  exact fin_coe _

theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, EReal.coe_add, ih]

theorem fin_sum {n : ℕ} {f : Fin n → EReal} (h : ∀ k, Fin' (f k)) : Fin' (∑ k, f k) := by
  choose g hg using fun k => fin_lift (h k)
  rw [show f = fun k => ((g k : ℝ) : EReal) from funext hg]
  exact (coe_sum g).symm ▸ fin_coe _

theorem fin_one : Fin' (1 : EReal) := fin_coe 1

/-- A number whose absolute value is below +∞ is neither infinity. -/
theorem fin_of_lt (x : EReal) (h : FloatOps.cmpf (F := Ideal) (φ := .f32) .olt (FloatOps.hostAbsf (F := Ideal) (φ := .f32) x) (FloatOps.ofBits (F := Ideal) .f32 0x7F800000#32) = 1#1) : Fin' x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  constructor
  · rintro rfl
    simp [Ideal.cmp] at h'
  · rintro rfl
    simp [Ideal.cmp] at h'

theorem n1024_eq : n1024 = ((1024 : ℝ) : EReal) := by
  show Ideal.ofBits .f32 0x44800000#32 = _
  simp [Ideal.ofBits, Ideal.ieee, -EReal.coe_mul]; norm_num

/-- The float minus one half. -/
abbrev mhalf : EReal := FloatOps.ofBits (F := Ideal) .f32 0xBF000000#32

theorem mhalf_eq : mhalf = ((-(1 / 2) : ℝ) : EReal) := by
  show Ideal.ofBits .f32 0xBF000000#32 = _
  simp [Ideal.ofBits, Ideal.ieee, -EReal.coe_mul, -EReal.coe_neg]; norm_num

theorem eps_pos : ∃ e : ℝ, 0 < e ∧ eps = (e : EReal) := by
  refine ⟨(1 + 407485 / 8388608) / 1048576, by norm_num, ?_⟩
  show Ideal.ofBits .f32 0x358637BD#32 = _
  simp [Ideal.ofBits, Ideal.ieee, -EReal.coe_mul]; norm_num

/-- A row's mean square and the small number. -/
def ms (x : Fin 1024 → EReal) : EReal := Ideal.div (∑ k, x k * x k) n1024 + eps

theorem rms_eq (x : Fin 1024 → EReal) : rms x = Ideal.rsqrt (ms x) := rfl

/-- What the mean square passes back to each entry, before the entry's own factor. -/
def spread (x d : Fin 1024 → EReal) : EReal :=
  Ideal.div ((∑ k, x k * d k) * (mhalf * Ideal.div (rms x) (ms x))) n1024

/-- The mean square of a finite row is a positive real. -/
theorem ms_real (X : Fin 1024 → ℝ) : ∃ M : ℝ, 0 < M ∧ ms (fun k => ((X k : ℝ) : EReal)) = (M : EReal) := by
  obtain ⟨e, he, hee⟩ := eps_pos
  refine ⟨(∑ k, X k * X k) * (1 / 1024) + e, add_pos_of_nonneg_of_pos (mul_nonneg (Finset.sum_nonneg fun k _ => mul_self_nonneg _) (by norm_num)) he, ?_⟩
  unfold ms
  simp only [← EReal.coe_mul]
  rw [coe_sum, n1024_eq, Ideal.div_coe (by norm_num), hee, ← EReal.coe_mul, ← EReal.coe_add]

/-- The closed form of the gradient of a row's norm is the chain rule's. -/
theorem row_back (x d : Fin 1024 → EReal) (hx : ∀ k, Fin' (x k)) (hd : ∀ k, Fin' (d k)) (t : EReal) (q : Fin 1024) :
    t + rms x * (d q - x q * rms x * Ideal.div (∑ k, d k * (x k * rms x)) n1024)
      = t + d q * rms x + x q * spread x d + spread x d * x q := by
  choose X hX using fun k => fin_lift (hx k)
  choose D hD using fun k => fin_lift (hd k)
  obtain rfl : x = fun k => ((X k : ℝ) : EReal) := funext hX
  obtain rfl : d = fun k => ((D k : ℝ) : EReal) := funext hD
  obtain ⟨M, hM, hm⟩ := ms_real X
  have hr : rms (fun k => ((X k : ℝ) : EReal)) = (((Real.sqrt M)⁻¹ : ℝ) : EReal) := by
    rw [rms_eq, hm, Ideal.rsqrt_coe, if_neg (not_lt.mpr hM.le), if_neg hM.ne']
  have hs : Real.sqrt M * Real.sqrt M = M := Real.mul_self_sqrt hM.le
  have hs0 : Real.sqrt M ≠ 0 := (Real.sqrt_pos.mpr hM).ne'
  unfold spread
  rw [hr, hm, n1024_eq, mhalf_eq]
  simp only [← EReal.coe_mul]
  rw [coe_sum, coe_sum, Ideal.div_coe hM.ne']
  rw [Ideal.div_coe (by norm_num), Ideal.div_coe (by norm_num)]
  simp only [← EReal.coe_mul]
  rw [add_assoc, add_assoc]
  congr 1
  simp only [← EReal.coe_add, ← EReal.coe_sub, ← EReal.coe_mul]
  refine congrArg _ ?_
  have e1 : (∑ k, D k * (X k * (Real.sqrt M)⁻¹)) = (∑ k, X k * D k) * (Real.sqrt M)⁻¹ := by
    rw [Finset.sum_mul]
    exact Finset.sum_congr rfl fun k _ => by ring
  have e2 : (Real.sqrt M)⁻¹ * (1 / M) = (Real.sqrt M)⁻¹ * (Real.sqrt M)⁻¹ * (Real.sqrt M)⁻¹ := by
    rw [one_div, show M⁻¹ = (Real.sqrt M * Real.sqrt M)⁻¹ by rw [hs], mul_inv]; ring
  rw [e1, e2]
  ring

/-- What a row adds to a column of the three sums: `d` is the gradient of the modulated norm there, `n` the normed entry, `g` the
    norm's weight and `s` one plus the scale. -/
def share (d n g s : EReal) : ℕ → EReal
  | 0 => d
  | 1 => d * (n * g)
  | 2 => d * s * n
  | _ => 0

end Cert.NormBack
-- ==== Proof.RowStores.lean ====
/-
  A block of rows in which a kernel rewrites one row at a time: what it holds after a row is stored, and what a row of it reads.
-/
module

public import proofs.«01_k».proof.Proof.Rows
public import Idealize.ShloMosaic.Lib.VecWindow
public import Idealize.ShloMosaic.Lib.WritesUnit
public import Idealize.ShloMosaic.Lib.Pipeline.ReadBack
public import Idealize.ShloMosaic.Lib.Pipeline.ValueKit.Tiles

@[expose] public section

noncomputable section

namespace Cert.RowStores

open Cert.Rows Idealize.ShloMosaic Idealize.ShloMosaic.ValueIdx

/-- Two places of a matrix with the same row and the same column are one. -/
theorem idx_ext {n0 n1 : ℕ} {x y : (Mat n0 n1).Idx} (h0 : (x 0).val = (y 0).val) (h1 : (x 1).val = (y 1).val) : x = y :=
  funext fun a => Fin.ext (match a with
    | ⟨0, _⟩ => h0
    | ⟨1, _⟩ => h1)

/-- The block `old` with row `k` replaced. -/
def setRow {α : Type} {R C : ℕ} (k : ℕ) (w : (Mat 1 C).Idx → α) (old : (Mat R C).Idx → α) : (Mat R C).Idx → α :=
  fun y => if (y 0).val = k then w (ix2 (0 : Fin 1) (y 1)) else old y

/-- Row `k` of a block. -/
def rowOf {α : Type} {R C : ℕ} (k : Fin R) (x : (Mat R C).Idx → α) : (Mat 1 C).Idx → α := fun y => x (ix2 k (y 1))

theorem setRow_apply {α : Type} {R C : ℕ} (k : ℕ) (w : (Mat 1 C).Idx → α) (old : (Mat R C).Idx → α) (r : Fin R) (q : Fin C) :
    setRow k w old (ix2 r q) = if r.val = k then w (ix2 (0 : Fin 1) q) else old (ix2 r q) := rfl

theorem rowOf_apply {α : Type} {R C : ℕ} (k : Fin R) (x : (Mat R C).Idx → α) (u : Fin 1) (q : Fin C) : rowOf k x (ix2 u q) = x (ix2 k q) := rfl

theorem setRow_of_ne {α : Type} {R C : ℕ} (k : ℕ) (w : (Mat 1 C).Idx → α) (old : (Mat R C).Idx → α) (j : Fin R) (h : j.val ≠ k) :
    rowOf j (setRow k w old) = rowOf j old := funext fun y => if_neg h

variable {sig : RefSig} {κ : Kind} {sp : Space} {e : EltTy} {Val : EltTy → Type}

/-- Storing row `k` leaves the rest as it was. -/
theorem read_row {R C : ℕ} (v : View sig κ sp (Mat R C) e) (f : v.ty.Contents Val) (k : ℕ)
    (inb : ∀ a : Fin 2, (![k, 0] : Fin 2 → ℕ) a + (![1, C] : Fin 2 → ℕ) a ≤ (![R, C] : Fin 2 → ℕ) a)
    (w : (Mat 1 C).Idx → Val e) (L : List (View.Piece Val (Mat R C) e)) :
    v.read Val (v.writes Val f ((⟨Rect.unit (s := Mat R C) ![k, 0] ![1, C] inb, w⟩ : View.Piece Val (Mat R C) e) :: L))
      = setRow k w (v.read Val (v.writes Val f L)) := by
  funext y
  unfold setRow
  split
  · rename_i h
    exact View.read_writes_cons_rows_of_mem v f inb w L y (ix2 (0 : Fin 1) (y 1)) rfl (by show (y 0).val = k + 0; omega) rfl
  · rename_i h
    exact View.read_writes_cons_rows_of_not_mem v f inb w L y (W := 1) rfl rfl (by omega)

/-- A load of row `k`. -/
theorem ld_row {R C : ℕ} (x : (Mat R C).Idx → Val e) (k : ℕ) (hk : k < R)
    (inb : ∀ a : Fin 2, (![k, 0] : Fin 2 → ℕ) a + (![1, C] : Fin 2 → ℕ) a ≤ (![R, C] : Fin 2 → ℕ) a) :
    View.ld x (Rect.unit (s := Mat R C) ![k, 0] ![1, C] inb) = rowOf ⟨k, hk⟩ x :=
  funext fun y => View.ld_unit_apply_of (S := Mat R C) x ![k, 0] ![1, C] inb y (ix2 ⟨k, hk⟩ (y 1)) fun a => match a with
    | ⟨0, _⟩ => by
      have h : (y 0).val < 1 := (y 0).isLt
      show k = k + (y 0).val
      omega
    | ⟨1, _⟩ => by show (y 1).val = 0 + (y 1).val; omega

/-- A load of row `j` doesn't see what was stored into another row. -/
theorem readCov_skip_row [∀ e, Nonempty (Val e)] {R C : ℕ} (v : View sig κ sp (Mat R C) e) (k j : ℕ) (h : j ≠ k) (hj : j < R)
    (inb : ∀ a : Fin 2, (![k, 0] : Fin 2 → ℕ) a + (![1, C] : Fin 2 → ℕ) a ≤ (![R, C] : Fin 2 → ℕ) a)
    (inb' : ∀ a : Fin 2, (![j, 0] : Fin 2 → ℕ) a + (![1, C] : Fin 2 → ℕ) a ≤ (![R, C] : Fin 2 → ℕ) a)
    (w : (Mat 1 C).Idx → Val e) (L : List (View.Piece Val (Mat R C) e)) :
    v.readCov ((⟨Rect.unit (s := Mat R C) ![k, 0] ![1, C] inb, w⟩ : View.Piece Val (Mat R C) e) :: L) (Rect.unit (s := Mat R C) ![j, 0] ![1, C] inb').toLoadRect
      = v.readCov L (Rect.unit (s := Mat R C) ![j, 0] ![1, C] inb').toLoadRect := by
  show View.ld (v.read Val (v.writes Val v.junk _)) _ = View.ld (v.read Val (v.writes Val v.junk L)) _
  rw [read_row, ld_row _ j hj, ld_row _ j hj]
  exact setRow_of_ne k w _ ⟨j, hj⟩ h

end Cert.RowStores
-- ==== Proof.FfnBwd2.lean ====
/-
  The input gradient of the feed-forward block's first products, carried back through the modulated norm. The gradient of the norm's
  output is summed over the 2816 hidden columns in four blocks of 704; the last block finishes the gradient of the norm's input and
  adds this block's rows to three column sums: the gradients of the shift, of the scale and of the norm's weight.
-/
module

public import proofs.«01_k».proof.Proof.Common
public import proofs.«01_k».proof.Proof.Gen.FfnBwd2Ideal.Value
public import proofs.«01_k».proof.Proof.Gen.FfnBwd2RefIdeal.Read
public import Idealize.ShloMosaic.Lib.Tactic
public import Idealize.ShloMosaic.Lib.Claim
public import proofs.«01_k».proof.Proof.NormBack
public import proofs.«01_k».proof.Proof.RowStores
@[expose] public section

set_option maxRecDepth 16384

noncomputable section

namespace Cert.FfnBwd2Ideal.Sum

open Cert.Common Cert.Rows Cert.RowStores Cert.NormBack Cert.FfnBwd2Ideal Cert.FfnBwd2Ideal.Gen Cert.FfnBwd2Ideal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords)
  (g2 : Memref sig .tc .vmem S1x1024x704 .bf16) (h2 : g2.IsWhole)
  (g3 : Memref sig .tc .vmem S1x1024x704 .bf16) (h3 : g3.IsWhole)
  (g4 : Memref sig .tc .vmem S1x1024x704 .bf16) (h4 : g4.IsWhole)
  (g5 : Memref sig .tc .vmem S1x1024x704 .bf16) (h5 : g5.IsWhole)
  (g6 : Memref sig .tc .vmem S1024x1024 .f32) (h6 : g6.IsWhole)
  (g7 : Memref sig .tc .vmem S1x1024 .f32) (h7 : g7.IsWhole)
  (g8 : Memref sig .tc .vmem S1x1024 .f32) (h8 : g8.IsWhole)
  (g9 : Memref sig .tc .vmem S1024x1024 .f32) (h9 : g9.IsWhole)
  (g10 : Memref sig .tc .vmem S1024x1024 .f32) (h10 : g10.IsWhole)
  (g11 : Memref sig .tc .vmem S8x1024 .f32) (h11 : g11.IsWhole)
  (g12 : Memref sig .tc .vmem S1024x1024 .f32) (h12 : g12.IsWhole)
  (x0 : Vec F S1x1024x704 .bf16) (x1 : Vec F S1x1024x704 .bf16) (x2 : Vec F S1x1024x704 .bf16) (x3 : Vec F S1x1024x704 .bf16) (x4 : Vec F S1024x1024 .f32) (x5 : Vec F S1x1024 .f32) (x6 : Vec F S1x1024 .f32) (x7 : Vec F S1024x1024 .f32) (xo : Vec F S8x1024 .f32) (xs : Vec F S1024x1024 .f32)

/-- The first block of all leaves its products over the zero it has just stored. -/
theorem sout_A (hc0 : cond0_0 i) (hc1 : cond0_1 i) (hc2 : ¬cond0_2 i) : sout0_A_0 c i g2 h2 g3 h3 g4 h4 g5 h5 g6 h6 g7 h7 g8 h8 g9 h9 g10 h10 g11 h11 g12 h12 hc0 hc1 hc2 x0 x1 x2 x3 x4 x5 x6 x7 = k0_pay3 k0_pay2 x0 x2 x1 x3 := by
  unfold sout0_A_0
  rw [View.read_writes_eq_canon _ _ _ (scover0_A_0 c i g2 h2 g3 h3 g4 h4 g5 h5 g6 h6 g7 h7 g8 h8 g9 h9 g10 h10 g11 h11 g12 h12 hc0 hc1 hc2 x0 x1 x2 x3 x4 x5 x6 x7)]
  unfold kernelRun0_A
  dsimp only
  sl_unfold_words
  rw [View.canon_cons_unit_zero (S := S1024x1024) zero2, View.readCov_unit_zero (S := S1024x1024) _ zero2]
  simp only [View.readAt_eq_ld, h2.read_unread, h3.read_unread, h4.read_unread, h5.read_unread, h6.read_unread, h7.read_unread, h8.read_unread, h9.read_unread,
    View.ld_unit_zero (S := S1x1024x704) zero3, View.ld_unit_zero (S := S1x1024) zero2, View.ld_unit_zero (S := S1024x1024) zero2]

/-- So does the first block of a later group of rows. -/
theorem sout_D (hc0 : ¬cond0_0 i) (hc1 : cond0_1 i) (hc2 : ¬cond0_2 i) : sout0_D_0 c i g2 h2 g3 h3 g4 h4 g5 h5 g6 h6 g7 h7 g8 h8 g9 h9 g10 h10 g11 h11 g12 h12 hc0 hc1 hc2 x0 x1 x2 x3 x4 x5 x6 x7 = k0_pay3 k0_pay2 x0 x2 x1 x3 := by
  unfold sout0_D_0
  rw [View.read_writes_eq_canon _ _ _ (scover0_D_0 c i g2 h2 g3 h3 g4 h4 g5 h5 g6 h6 g7 h7 g8 h8 g9 h9 g10 h10 g11 h11 g12 h12 hc0 hc1 hc2 x0 x1 x2 x3 x4 x5 x6 x7)]
  unfold kernelRun0_D
  dsimp only
  sl_unfold_words
  rw [View.canon_cons_unit_zero (S := S1024x1024) zero2, View.readCov_unit_zero (S := S1024x1024) _ zero2]
  simp only [View.readAt_eq_ld, h2.read_unread, h3.read_unread, h4.read_unread, h5.read_unread, h6.read_unread, h7.read_unread, h8.read_unread, h9.read_unread,
    View.ld_unit_zero (S := S1x1024x704) zero3, View.ld_unit_zero (S := S1x1024) zero2, View.ld_unit_zero (S := S1024x1024) zero2]

/-- A middle block adds its products to what the block before left. -/
theorem sout_B (hc0 : ¬cond0_0 i) (hc1 : ¬cond0_1 i) (hc2 : ¬cond0_2 i) : sout0_B_0 c i g2 h2 g3 h3 g4 h4 g5 h5 g6 h6 g7 h7 g8 h8 g9 h9 g10 h10 g11 h11 g12 h12 hc0 hc1 hc2 x0 x1 x2 x3 x4 x5 x6 x7 xs = k0_pay3 xs x0 x2 x1 x3 := by
  unfold sout0_B_0
  rw [View.read_writes_eq_canon _ _ _ (scover0_B_0 c i g2 h2 g3 h3 g4 h4 g5 h5 g6 h6 g7 h7 g8 h8 g9 h9 g10 h10 g11 h11 g12 h12 hc0 hc1 hc2 x0 x1 x2 x3 x4 x5 x6 x7 xs)]
  unfold kernelRun0_B
  dsimp only
  sl_unfold_words
  rw [View.canon_unit_zero (S := S1024x1024) zero2]
  simp only [View.readAt_eq_ld, h12.read_unread, h2.read_unread, h3.read_unread, h4.read_unread, h5.read_unread, h6.read_unread, h7.read_unread, h8.read_unread, h9.read_unread,
    View.ld_unit_zero (S := S1x1024x704) zero3, View.ld_unit_zero (S := S1x1024) zero2, View.ld_unit_zero (S := S1024x1024) zero2]

/-- It also clears the column sums. -/
theorem out9_A (hc0 : cond0_0 i) (hc1 : cond0_1 i) (hc2 : ¬cond0_2 i) : out0_A_9 c i g2 h2 g3 h3 g4 h4 g5 h5 g6 h6 g7 h7 g8 h8 g9 h9 g10 h10 g11 h11 g12 h12 hc0 hc1 hc2 x0 x1 x2 x3 x4 x5 x6 x7 = k0_pay1 := by
  unfold out0_A_9
  rw [View.read_writes_eq_canon _ _ _ (cover0_A_9 c i g2 h2 g3 h3 g4 h4 g5 h5 g6 h6 g7 h7 g8 h8 g9 h9 g10 h10 g11 h11 g12 h12 hc0 hc1 hc2 x0 x1 x2 x3 x4 x5 x6 x7)]
  unfold kernelRun0_A
  dsimp only
  sl_unfold_words
  rw [View.canon_unit_zero (S := S8x1024) zero2]

/-- The last block of a group of rows finishes the gradient of the norm's input from the whole sum. -/
theorem out8_C (hc0 : ¬cond0_0 i) (hc1 : ¬cond0_1 i) (hc2 : cond0_2 i) :
    out0_C_8 c i g2 h2 g3 h3 g4 h4 g5 h5 g6 h6 g7 h7 g8 h8 g9 h9 g10 h10 g11 h11 g12 h12 hc0 hc1 hc2 x0 x1 x2 x3 x4 x5 x6 x7 xo xs = k0_pay5 x5 x7 (k0_pay6 x4) (k0_pay7 x4) (k0_pay8 x6 (k0_pay3 xs x0 x2 x1 x3)) := by
  unfold out0_C_8
  rw [View.read_writes_eq_canon _ _ _ (cover0_C_8 c i g2 h2 g3 h3 g4 h4 g5 h5 g6 h6 g7 h7 g8 h8 g9 h9 g10 h10 g11 h11 g12 h12 hc0 hc1 hc2 x0 x1 x2 x3 x4 x5 x6 x7 xo xs)]
  unfold kernelRun0_C
  dsimp only
  sl_unfold_words
  rw [View.canon_unit_zero (S := S1024x1024) zero2, View.readCov_unit_zero (S := S1024x1024) _ zero2]
  simp only [View.readAt_eq_ld, h12.read_unread, h2.read_unread, h3.read_unread, h4.read_unread, h5.read_unread, h6.read_unread, h7.read_unread, h8.read_unread, h9.read_unread,
    View.ld_unit_zero (S := S1x1024x704) zero3, View.ld_unit_zero (S := S1x1024) zero2, View.ld_unit_zero (S := S1024x1024) zero2]

/-- It adds the group's rows to the first three rows of the sums. -/
theorem out9_C (hc0 : ¬cond0_0 i) (hc1 : ¬cond0_1 i) (hc2 : cond0_2 i) :
    out0_C_9 c i g2 h2 g3 h3 g4 h4 g5 h5 g6 h6 g7 h7 g8 h8 g9 h9 g10 h10 g11 h11 g12 h12 hc0 hc1 hc2 x0 x1 x2 x3 x4 x5 x6 x7 xo xs
      = setRow 2 (k0_pay4 (k0_pay7 x4) (k0_pay8 x6 (k0_pay3 xs x0 x2 x1 x3)) (rowOf 2 xo))
        (setRow 1 (k0_pay10 x4 x5 (k0_pay3 xs x0 x2 x1 x3) (rowOf 1 xo)) (setRow 0 (k0_pay9 (k0_pay3 xs x0 x2 x1 x3) (rowOf 0 xo)) xo)) := by
  unfold out0_C_9
  unfold kernelRun0_C
  dsimp only
  sl_unfold_words
  refine (read_row (R := 8) (C := 1024) _ _ 2 _ _ _).trans ?_
  refine congrArg₂ (setRow 2) ?_ ((read_row (R := 8) (C := 1024) _ _ 1 _ _ _).trans (congrArg₂ (setRow 1) ?_ ((read_row (R := 8) (C := 1024) _ _ 0 _ _ _).trans (congrArg₂ (setRow 0) ?_ (h11.read_unread xo)))))
  · simp only [h11.read_unread, View.readCov_unit_zero (S := S1024x1024) _ zero2, View.readAt_eq_ld, h12.read_unread, h2.read_unread, h3.read_unread, h4.read_unread, h5.read_unread, h6.read_unread, h7.read_unread, h8.read_unread, h9.read_unread,
    View.ld_unit_zero (S := S1x1024x704) zero3, View.ld_unit_zero (S := S1x1024) zero2, View.ld_unit_zero (S := S1024x1024) zero2]
    exact congrArg (fun z => k0_pay4 (k0_pay7 x4) (k0_pay8 x6 (k0_pay3 xs x0 x2 x1 x3)) z) (ld_row (R := 8) (C := 1024) xo 2 (by decide) _)
  · simp only [h11.read_unread, View.readCov_unit_zero (S := S1024x1024) _ zero2, View.readAt_eq_ld, h12.read_unread, h2.read_unread, h3.read_unread, h4.read_unread, h5.read_unread, h6.read_unread, h7.read_unread, h8.read_unread, h9.read_unread,
    View.ld_unit_zero (S := S1x1024x704) zero3, View.ld_unit_zero (S := S1x1024) zero2, View.ld_unit_zero (S := S1024x1024) zero2]
    exact congrArg (fun z => k0_pay10 x4 x5 (k0_pay3 xs x0 x2 x1 x3) z) (ld_row (R := 8) (C := 1024) xo 1 (by decide) _)
  · simp only [h11.read_unread, View.readCov_unit_zero (S := S1024x1024) _ zero2, View.readAt_eq_ld, h12.read_unread, h2.read_unread, h3.read_unread, h4.read_unread, h5.read_unread, h6.read_unread, h7.read_unread, h8.read_unread, h9.read_unread,
    View.ld_unit_zero (S := S1x1024x704) zero3, View.ld_unit_zero (S := S1x1024) zero2, View.ld_unit_zero (S := S1024x1024) zero2]
    exact congrArg (fun z => k0_pay9 (k0_pay3 xs x0 x2 x1 x3) z) (ld_row (R := 8) (C := 1024) xo 0 (by decide) _)

end Cases

section Steps
variable {F : FTy → Type} [FloatOps F]
variable (m : (ℓ : Loc nD τ sig) → Buf (Elt F) ℓ)

theorem acc_A (c : Dev nD) (t : Fin cfg0.N) (h0 : t.val % 16 = 0) (h1 : t.val % 4 = 0) (h2 : ¬t.val % 4 = 3) :
    (outsAt0 m c t.val t.isLt).2.2 = k0_pay3 k0_pay2 (iblk m c 0 t) (iblk m c 2 t) (iblk m c 1 t) (iblk m c 3 t) := by
  rw [outsAt0_A m c t h0 h1 h2]
  dsimp only
  rw [sout_A]

theorem acc_D (c : Dev nD) (t : Fin cfg0.N) (h0 : ¬t.val % 16 = 0) (h1 : t.val % 4 = 0) (h2 : ¬t.val % 4 = 3) :
    (outsAt0 m c t.val t.isLt).2.2 = k0_pay3 k0_pay2 (iblk m c 0 t) (iblk m c 2 t) (iblk m c 1 t) (iblk m c 3 t) := by
  rw [outsAt0_D m c t h0 h1 h2]
  dsimp only
  rw [sout_D]

theorem acc_B (c : Dev nD) (t : Fin cfg0.N) (h0 : ¬t.val % 16 = 0) (h1 : ¬t.val % 4 = 0) (h2 : ¬t.val % 4 = 3) (n : ℕ) (hn : n < cfg0.N) (e : t.val - 1 = n) :
    (outsAt0 m c t.val t.isLt).2.2 = k0_pay3 (outsAt0 m c n hn).2.2 (iblk m c 0 t) (iblk m c 2 t) (iblk m c 1 t) (iblk m c 3 t) := by
  subst e
  rw [outsAt0_B m c t h0 h1 h2]
  dsimp only
  rw [sout_B]

theorem sums_A (c : Dev nD) (t : Fin cfg0.N) (h0 : t.val % 16 = 0) (h1 : t.val % 4 = 0) (h2 : ¬t.val % 4 = 3) :
    (outsAt0 m c t.val t.isLt).2.1 = k0_pay1 := by
  rw [outsAt0_A m c t h0 h1 h2]
  dsimp only
  rw [out9_A]

theorem sums_D (c : Dev nD) (t : Fin cfg0.N) (h0 : ¬t.val % 16 = 0) (h1 : t.val % 4 = 0) (h2 : ¬t.val % 4 = 3) (n : ℕ) (hn : n < cfg0.N) (e : t.val - 1 = n) :
    (outsAt0 m c t.val t.isLt).2.1 = (outsAt0 m c n hn).2.1 := by
  subst e
  rw [outsAt0_D m c t h0 h1 h2]
  dsimp only
  unfold out0_D_9
  rfl

theorem sums_B (c : Dev nD) (t : Fin cfg0.N) (h0 : ¬t.val % 16 = 0) (h1 : ¬t.val % 4 = 0) (h2 : ¬t.val % 4 = 3) (n : ℕ) (hn : n < cfg0.N) (e : t.val - 1 = n) :
    (outsAt0 m c t.val t.isLt).2.1 = (outsAt0 m c n hn).2.1 := by
  subst e
  rw [outsAt0_B m c t h0 h1 h2]
  dsimp only
  unfold out0_B_9
  rfl

theorem dx_C (c : Dev nD) (t : Fin cfg0.N) (h0 : ¬t.val % 16 = 0) (h1 : ¬t.val % 4 = 0) (h2 : t.val % 4 = 3) (n : ℕ) (hn : n < cfg0.N) (e : t.val - 1 = n) :
    (outsAt0 m c t.val t.isLt).1 = k0_pay5 (iblk m c 5 t) (iblk m c 7 t) (k0_pay6 (iblk m c 4 t)) (k0_pay7 (iblk m c 4 t)) (k0_pay8 (iblk m c 6 t) (k0_pay3 (outsAt0 m c n hn).2.2 (iblk m c 0 t) (iblk m c 2 t) (iblk m c 1 t) (iblk m c 3 t))) := by
  subst e
  rw [outsAt0_C m c t h0 h1 h2]
  dsimp only
  rw [out8_C]

theorem sums_C (c : Dev nD) (t : Fin cfg0.N) (h0 : ¬t.val % 16 = 0) (h1 : ¬t.val % 4 = 0) (h2 : t.val % 4 = 3) (n : ℕ) (hn : n < cfg0.N) (e : t.val - 1 = n) :
    (outsAt0 m c t.val t.isLt).2.1 = setRow 2 (k0_pay4 (k0_pay7 (iblk m c 4 t)) (k0_pay8 (iblk m c 6 t) (k0_pay3 (outsAt0 m c n hn).2.2 (iblk m c 0 t) (iblk m c 2 t) (iblk m c 1 t) (iblk m c 3 t))) (rowOf 2 (outsAt0 m c n hn).2.1))
      (setRow 1 (k0_pay10 (iblk m c 4 t) (iblk m c 5 t) (k0_pay3 (outsAt0 m c n hn).2.2 (iblk m c 0 t) (iblk m c 2 t) (iblk m c 1 t) (iblk m c 3 t)) (rowOf 1 (outsAt0 m c n hn).2.1)) (setRow 0 (k0_pay9 (k0_pay3 (outsAt0 m c n hn).2.2 (iblk m c 0 t) (iblk m c 2 t) (iblk m c 1 t) (iblk m c 3 t)) (rowOf 0 (outsAt0 m c n hn).2.1)) (outsAt0 m c n hn).2.1)) := by
  subst e
  rw [outsAt0_C m c t h0 h1 h2]
  dsimp only
  rw [out9_C]

theorem outs_congr (c : Dev nD) (n n' : ℕ) (h : n < cfg0.N) (h' : n' < cfg0.N) (e : n = n') : outsAt0 m c n h = outsAt0 m c n' h' := by
  subst e; rfl

/-- Between the last blocks of two groups of rows the sums stand still. -/
theorem sums_keep (c : Dev nD) (j : ℕ) (h0 : 4 * (j + 1) + 2 < cfg0.N) (hp : 4 * j + 3 < cfg0.N) (hj : j < 3) :
    (outsAt0 m c (4 * (j + 1) + 2) h0).2.1 = (outsAt0 m c (4 * j + 3) hp).2.1 := by
  have hb : 4 * (j + 1) + 1 < cfg0.N := Nat.lt_of_succ_lt h0
  have ha : 4 * (j + 1) + 0 < cfg0.N := Nat.lt_of_succ_lt hb
  have e2 := sums_B m c ⟨4 * (j + 1) + 2, h0⟩ (by show ¬(4 * (j + 1) + 2) % 16 = 0; omega) (by show ¬(4 * (j + 1) + 2) % 4 = 0; omega) (by show ¬(4 * (j + 1) + 2) % 4 = 3; omega) (4 * (j + 1) + 1) hb rfl
  have e1 := sums_B m c ⟨4 * (j + 1) + 1, hb⟩ (by show ¬(4 * (j + 1) + 1) % 16 = 0; omega) (by show ¬(4 * (j + 1) + 1) % 4 = 0; omega) (by show ¬(4 * (j + 1) + 1) % 4 = 3; omega) (4 * (j + 1) + 0) ha rfl
  have e0 := sums_D m c ⟨4 * (j + 1) + 0, ha⟩ (by show ¬(4 * (j + 1) + 0) % 16 = 0; omega) (by show (4 * (j + 1) + 0) % 4 = 0; omega) (by show ¬(4 * (j + 1) + 0) % 4 = 3; omega) (4 * j + 3) hp (by show 4 * (j + 1) + 0 - 1 = 4 * j + 3; omega)
  exact e2.trans (e1.trans e0)

theorem sums_start (c : Dev nD) (h0 : 2 < cfg0.N) : (outsAt0 m c 2 h0).2.1 = k0_pay1 := by
  have hb : 1 < cfg0.N := Nat.lt_of_succ_lt h0
  have ha : 0 < cfg0.N := Nat.lt_of_succ_lt hb
  have e2 := sums_B m c ⟨2, h0⟩ (by show ¬2 % 16 = 0; omega) (by show ¬2 % 4 = 0; omega) (by show ¬2 % 4 = 3; omega) 1 hb rfl
  have e1 := sums_B m c ⟨1, hb⟩ (by show ¬1 % 16 = 0; omega) (by show ¬1 % 4 = 0; omega) (by show ¬1 % 4 = 3; omega) 0 ha rfl
  exact e2.trans (e1.trans (sums_A m c ⟨0, ha⟩ rfl rfl (by show ¬0 % 4 = 3; omega)))

theorem acc_first (c : Dev nD) (t : Fin cfg0.N) (h1 : t.val % 4 = 0) :
    (outsAt0 m c t.val t.isLt).2.2 = k0_pay3 k0_pay2 (iblk m c 0 t) (iblk m c 2 t) (iblk m c 1 t) (iblk m c 3 t) := by
  by_cases h0 : t.val % 16 = 0
  · exact acc_A m c t h0 h1 (by omega)
  · exact acc_D m c t h0 h1 (by omega)

end Steps

/-! ## The stored values at an index, over the extended reals -/

theorem dot_eq : dot_S1024x704_S1024x704_S1024x1024_1_1_0_0_n_n = DotDims.transposedRhs 1024 704 1024 := rfl

theorem pay2_apply (i : S1024x1024.Idx) : (k0_pay2 (F := Ideal) : S1024x1024.Idx → EReal) i = 0 := by
  unfold k0_pay2
  simp only [shapeCast_self]
  exact Ideal.ofBits_zero_f32

theorem pay3_apply (v : S1024x1024.Idx → EReal) (x0 x2 x1 x3 : S1x1024x704.Idx → EReal) (i : S1024x1024.Idx) :
    (k0_pay3 (F := Ideal) v x0 x2 x1 x3 : S1024x1024.Idx → EReal) i
      = v i + ∑ y : Fin 704, (x0 (ix3 (0 : Fin 1) (i 0) y) * x2 (ix3 (0 : Fin 1) (i 1) y) + x1 (ix3 (0 : Fin 1) (i 0) y) * x3 (ix3 (0 : Fin 1) (i 1) y)) := by
  rw [Finset.sum_add_distrib]
  unfold k0_pay3
  simp only [shapeCast_self, dot_eq]
  refine congrArg (fun z : EReal => v i + z) (congrArg₂ (fun a b : EReal => a + b) ?_ ?_)
  · refine (cols_zero (φ₁ := .bf16) (φ₂ := .bf16) (shapeCast S1024x704 x0 shapeCasts_S1x1024x704_S1024x704) (shapeCast S1024x704 x2 shapeCasts_S1x1024x704_S1024x704) i).trans (Finset.sum_congr rfl fun y _ => ?_)
    exact congrArg₂ (fun a b : EReal => a * b) (cast_drop x0 shapeCasts_S1x1024x704_S1024x704 (i 0) y) (cast_drop x2 shapeCasts_S1x1024x704_S1024x704 (i 1) y)
  · refine (cols_zero (φ₁ := .bf16) (φ₂ := .bf16) (shapeCast S1024x704 x1 shapeCasts_S1x1024x704_S1024x704) (shapeCast S1024x704 x3 shapeCasts_S1x1024x704_S1024x704) i).trans (Finset.sum_congr rfl fun y _ => ?_)
    exact congrArg₂ (fun a b : EReal => a * b) (cast_drop x1 shapeCasts_S1x1024x704_S1024x704 (i 0) y) (cast_drop x3 shapeCasts_S1x1024x704_S1024x704 (i 1) y)

theorem zero_apply (i : S8x1024.Idx) : (k0_pay1 (F := Ideal) : S8x1024.Idx → EReal) i = 0 := by
  unfold k0_pay1
  exact Ideal.ofBits_zero_f32

theorem r_apply (x : S1024x1024.Idx → EReal) (r : Fin 1024) : (k0_pay6 (F := Ideal) x : S1024x1.Idx → EReal) (ix2 r (0 : Fin 1)) = rms (fun k => x (ix2 r k)) := by
  unfold k0_pay6
  exact rms_apply (R := 1024) x reduces_S1024x1024_S1024 (.inl rfl) rfl shapeCasts_S1024_S1024x1 r

theorem n_apply (x : S1024x1024.Idx → EReal) (r q : Fin 1024) : (k0_pay7 (F := Ideal) x : S1024x1024.Idx → EReal) (ix2 r q) = x (ix2 r q) * rms (fun k => x (ix2 r k)) := by
  unfold k0_pay7
  exact congrArg (fun z : EReal => x (ix2 r q) * z) ((col_spread (k0_pay6 (F := Ideal) x : S1024x1.Idx → EReal) broadcasts_S1024x1_S1024x1024 r q).trans (r_apply x r))

theorem t_apply (s : S1x1024.Idx → EReal) (d : S1024x1024.Idx → EReal) (r q : Fin 1024) : (k0_pay8 (F := Ideal) s d : S1024x1024.Idx → EReal) (ix2 r q) = d (ix2 r q) * (FloatOps.ofBits (F := Ideal) .f32 0x3F800000#32 + s (ix2 (0 : Fin 1) q)) := by
  unfold k0_pay8
  exact congrArg (fun z : EReal => d (ix2 r q) * z) (broadcastTo_1b_ab_apply (addf (F := Ideal) (φ := .f32) (broadcast S1x1024 (Scalar.ofBits (F := Ideal) .f32 0x3F800000#32)) s) broadcasts_S1x1024_S1024x1024 r q)

theorem row0_apply (d : S1024x1024.Idx → EReal) (w : S1x1024.Idx → EReal) (u : Fin 1) (q : Fin 1024) : (k0_pay9 (F := Ideal) d w : S1x1024.Idx → EReal) (ix2 u q) = w (ix2 u q) + ∑ k : Fin 1024, d (ix2 k q) := by
  unfold k0_pay9
  simp only [shapeCast_self]
  exact congrArg (fun z : EReal => w (ix2 u q) + z) (col_total (R := 1024) (C := 1024) d reduces_S1024x1024_S1024_2 (.inl rfl) rfl shapeCasts_S1024_S1x1024 u q)

theorem row2_apply (n d : S1024x1024.Idx → EReal) (w : S1x1024.Idx → EReal) (u : Fin 1) (q : Fin 1024) : (k0_pay4 (F := Ideal) n d w : S1x1024.Idx → EReal) (ix2 u q) = w (ix2 u q) + ∑ k : Fin 1024, d (ix2 k q) * n (ix2 k q) := by
  unfold k0_pay4
  simp only [shapeCast_self]
  exact congrArg (fun z : EReal => w (ix2 u q) + z) (col_total (R := 1024) (C := 1024) (mulf (F := Ideal) (φ := .f32) d n) reduces_S1024x1024_S1024_2 (.inl rfl) rfl shapeCasts_S1024_S1x1024 u q)

theorem row1_apply (x d : S1024x1024.Idx → EReal) (g w : S1x1024.Idx → EReal) (u : Fin 1) (q : Fin 1024) :
    (k0_pay10 (F := Ideal) x g d w : S1x1024.Idx → EReal) (ix2 u q) = w (ix2 u q) + ∑ k : Fin 1024, d (ix2 k q) * (x (ix2 k q) * rms (fun l => x (ix2 k l)) * g (ix2 (0 : Fin 1) q)) := by
  unfold k0_pay10
  simp only [shapeCast_self]
  exact congrArg (fun z : EReal => w (ix2 u q) + z) ((col_total (R := 1024) (C := 1024) (mulf (F := Ideal) (φ := .f32) d (mulf (F := Ideal) (φ := .f32) (k0_pay7 (F := Ideal) x) (broadcastTo S1024x1024 g broadcasts_S1x1024_S1024x1024)))
    reduces_S1024x1024_S1024_2 (.inl rfl) rfl shapeCasts_S1024_S1x1024 u q).trans (Finset.sum_congr rfl fun k _ =>
      congrArg (fun z : EReal => d (ix2 k q) * z) (congrArg₂ (fun a b : EReal => a * b) (n_apply x k q) (broadcastTo_1b_ab_apply g broadcasts_S1x1024_S1024x1024 k q))))

theorem dx_apply (g s : S1x1024.Idx → EReal) (t x h : S1024x1024.Idx → EReal) (r q : Fin 1024) (X D : Fin 1024 → EReal) (hx : ∀ k, x (ix2 r k) = X k)
    (hd : ∀ k, h (ix2 r k) * (FloatOps.ofBits (F := Ideal) .f32 0x3F800000#32 + s (ix2 (0 : Fin 1) k)) * g (ix2 (0 : Fin 1) k) = D k) :
    (k0_pay5 (F := Ideal) g t (k0_pay6 (F := Ideal) x) (k0_pay7 (F := Ideal) x) (k0_pay8 (F := Ideal) s h) : S1024x1024.Idx → EReal) (ix2 r q)
      = t (ix2 r q) + rms X * (D q - X q * rms X * Ideal.div (∑ k, D k * (X k * rms X)) n1024) := by
  obtain rfl : (fun k => x (ix2 r k)) = X := funext hx
  have hn := n_apply x r
  have ht : ∀ k : Fin 1024, (k0_pay8 (F := Ideal) s h : S1024x1024.Idx → EReal) (ix2 r k) * (broadcastTo S1024x1024 g broadcasts_S1x1024_S1024x1024 : S1024x1024.Idx → EReal) (ix2 r k) = D k := fun k =>
    (congrArg₂ (fun a b : EReal => a * b) (t_apply s h r k) (broadcastTo_1b_ab_apply g broadcasts_S1x1024_S1024x1024 r k)).trans (hd k)
  unfold k0_pay5
  refine congrArg (fun z : EReal => t (ix2 r q) + z) (congrArg₂ (fun a b : EReal => a * b)
    ((col_spread (k0_pay6 (F := Ideal) x : S1024x1.Idx → EReal) broadcasts_S1024x1_S1024x1024 r q).trans (r_apply x r))
    (congrArg₂ (fun a b : EReal => a - b) (ht q) (congrArg₂ (fun a b : EReal => a * b) (hn q) ((col_spread _ broadcasts_S1024x1_S1024x1024 r q).trans
      (congrArg (fun z : EReal => Ideal.div z n1024) ((row_total (R := 1024) (C := 1024) _ reduces_S1024x1024_S1024 (.inl rfl) rfl shapeCasts_S1024_S1024x1 r).trans
        (Finset.sum_congr rfl fun k _ => congrArg₂ (fun a b : EReal => a * b) (ht k) (hn k))))))))

/-- One block of rows added to the three column sums. -/
theorem rows_apply (x d : S1024x1024.Idx → EReal) (g s : S1x1024.Idx → EReal) (w : S8x1024.Idx → EReal) (r : Fin 8) (q : Fin 1024) :
    (setRow 2 (k0_pay4 (F := Ideal) (k0_pay7 (F := Ideal) x) (k0_pay8 (F := Ideal) s d) (rowOf 2 w)) (setRow 1 (k0_pay10 (F := Ideal) x g d (rowOf 1 w)) (setRow 0 (k0_pay9 (F := Ideal) d (rowOf 0 w)) w)) : S8x1024.Idx → EReal) (ix2 r q)
      = w (ix2 r q) + ∑ k : Fin 1024, share (d (ix2 k q)) (x (ix2 k q) * rms (fun l => x (ix2 k l))) (g (ix2 (0 : Fin 1) q)) (FloatOps.ofBits (F := Ideal) .f32 0x3F800000#32 + s (ix2 (0 : Fin 1) q)) r.val := by
  refine (setRow_apply 2 _ _ r q).trans ?_
  by_cases h2 : r = 2
  · subst h2
    refine (if_pos rfl).trans ((row2_apply _ _ _ 0 q).trans ?_)
    exact congrArg (fun z : EReal => w (ix2 (2 : Fin 8) q) + z) (Finset.sum_congr rfl fun k _ => congrArg₂ (fun a b : EReal => a * b) (t_apply s d k q) (n_apply x k q))
  refine (if_neg fun h => h2 (Fin.ext h)).trans ((setRow_apply 1 _ _ r q).trans ?_)
  by_cases h1 : r = 1
  · subst h1
    exact (if_pos rfl).trans (row1_apply x d g _ 0 q)
  refine (if_neg fun h => h1 (Fin.ext h)).trans ((setRow_apply 0 _ _ r q).trans ?_)
  by_cases h0 : r = 0
  · subst h0
    exact (if_pos rfl).trans (row0_apply d _ 0 q)
  refine (if_neg fun h => h0 (Fin.ext h)).trans ?_
  have e0 : r.val ≠ 0 := fun h => h0 (Fin.ext h)
  have e1 : r.val ≠ 1 := fun h => h1 (Fin.ext h)
  have e2 : r.val ≠ 2 := fun h => h2 (Fin.ext h)
  rw [show r.val = (r.val - 3) + 3 by omega]
  exact ((congrArg (fun z : EReal => w (ix2 r q) + z) Finset.sum_const_zero).trans (add_zero _)).symm

/-! ## What a grid point reads -/

variable (m : (ℓ : Loc nD τ sig) → Buf (Elt Ideal) ℓ)

abbrev a0 (c : Dev nD) : S4096x1024.Idx → EReal := m ((c : Thread nD τ).loc main_arg0)
abbrev a1 (c : Dev nD) : S1x1024.Idx → EReal := m ((c : Thread nD τ).loc main_arg1)
abbrev a2 (c : Dev nD) : S1x1024.Idx → EReal := m ((c : Thread nD τ).loc main_arg2)
abbrev a3 (c : Dev nD) : S1x1024.Idx → EReal := m ((c : Thread nD τ).loc main_arg3)
abbrev a4 (c : Dev nD) : S1024x2816.Idx → EReal := m ((c : Thread nD τ).loc main_arg4)
abbrev a5 (c : Dev nD) : S1024x2816.Idx → EReal := m ((c : Thread nD τ).loc main_arg5)
abbrev a6 (c : Dev nD) : S4096x2816.Idx → EReal := m ((c : Thread nD τ).loc main_arg6)
abbrev a7 (c : Dev nD) : S4096x2816.Idx → EReal := m ((c : Thread nD τ).loc main_arg7)
abbrev a8 (c : Dev nD) : S4096x1024.Idx → EReal := m ((c : Thread nD τ).loc main_arg8)

/-- Where each window stands at grid point `t`. -/
theorem idx_in : ∀ t : Fin cfg0.N, win0_0.index t (0 : Fin 3) = t.val % 4
    ∧ win0_0.index t (1 : Fin 3) = t.val / 4
    ∧ win0_0.index t (2 : Fin 3) = 0
    ∧ win0_1.index t (0 : Fin 3) = t.val % 4
    ∧ win0_1.index t (1 : Fin 3) = t.val / 4
    ∧ win0_1.index t (2 : Fin 3) = 0
    ∧ win0_2.index t (0 : Fin 3) = t.val % 4
    ∧ win0_2.index t (1 : Fin 3) = 0
    ∧ win0_2.index t (2 : Fin 3) = 0
    ∧ win0_3.index t (0 : Fin 3) = t.val % 4
    ∧ win0_3.index t (1 : Fin 3) = 0
    ∧ win0_3.index t (2 : Fin 3) = 0
    ∧ win0_4.index t (0 : Fin 2) = t.val / 4
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val / 4
    ∧ win0_7.index t (1 : Fin 2) = 0
    ∧ win0_9.index t (0 : Fin 2) = 0
    ∧ win0_9.index t (1 : Fin 2) = 0 :=
  (by decide +kernel : ∀ t : Fin grid0.N, _)

/-- The sums are written back at the last point alone. -/
theorem flush_last : ∀ t : Fin cfg0.N, ((cfg0.win 9).flush t = true → t.val = 15) ∧ (t.val = 15 → (cfg0.win 9).flush t = true) :=
  (by decide +kernel : ∀ t : Fin grid0.N, _)

abbrev b0 (c : Dev nD) (t : Fin cfg0.N) : S1x1024x704.Idx → EReal := iblk m c 0 t

theorem blk0 (c : Dev nD) (t : Fin cfg0.N) (y : S1x1024x704.Idx) (k : S4096x2816.Idx) (h0 : (k 0).val = 1024 * (t.val / 4) + (y 1).val) (h1 : (k 1).val = 704 * (t.val % 4) + (y 2).val) :
    b0 m c t y = a6 m c k := by
  obtain ⟨e0, e1, e2, -⟩ := idx_in t
  have hb0 : (((cfg0.win 0).blk t).view.emb y 0).val = win0_0.index t (0 : Fin 3) * 1 + 1 * (y 0).val := rfl
  have hb1 : (((cfg0.win 0).blk t).view.emb y 1).val = win0_0.index t (1 : Fin 3) * 1024 + 1 * (y 1).val := rfl
  have hb2 : (((cfg0.win 0).blk t).view.emb y 2).val = win0_0.index t (2 : Fin 3) * 704 + 1 * (y 2).val := rfl
  have hy : (y 0).val < 1 := (y 0).isLt
  show V m c main_v2 (((cfg0.win 0).blk t).view.emb y) = _
  entry_read
  exact stack_cols (R := 4096) (C := 704) (N := 2816) (by decide) (a6 m c) _ _ _ k (by rw [hb1, h0, e1]; omega) (by rw [hb0, hb2, h1, e0, e2]; omega)

abbrev b1 (c : Dev nD) (t : Fin cfg0.N) : S1x1024x704.Idx → EReal := iblk m c 1 t

theorem blk1 (c : Dev nD) (t : Fin cfg0.N) (y : S1x1024x704.Idx) (k : S4096x2816.Idx) (h0 : (k 0).val = 1024 * (t.val / 4) + (y 1).val) (h1 : (k 1).val = 704 * (t.val % 4) + (y 2).val) :
    b1 m c t y = a7 m c k := by
  obtain ⟨-, -, -, e0, e1, e2, -⟩ := idx_in t
  have hb0 : (((cfg0.win 1).blk t).view.emb y 0).val = win0_1.index t (0 : Fin 3) * 1 + 1 * (y 0).val := rfl
  have hb1 : (((cfg0.win 1).blk t).view.emb y 1).val = win0_1.index t (1 : Fin 3) * 1024 + 1 * (y 1).val := rfl
  have hb2 : (((cfg0.win 1).blk t).view.emb y 2).val = win0_1.index t (2 : Fin 3) * 704 + 1 * (y 2).val := rfl
  have hy : (y 0).val < 1 := (y 0).isLt
  show V m c main_v5 (((cfg0.win 1).blk t).view.emb y) = _
  entry_read
  exact stack_cols (R := 4096) (C := 704) (N := 2816) (by decide) (a7 m c) _ _ _ k (by rw [hb1, h0, e1]; omega) (by rw [hb0, hb2, h1, e0, e2]; omega)

abbrev b2 (c : Dev nD) (t : Fin cfg0.N) : S1x1024x704.Idx → EReal := iblk m c 2 t

theorem blk2 (c : Dev nD) (t : Fin cfg0.N) (y : S1x1024x704.Idx) (k : S1024x2816.Idx) (h0 : (k 0).val = (y 1).val) (h1 : (k 1).val = 704 * (t.val % 4) + (y 2).val) :
    b2 m c t y = a4 m c k := by
  obtain ⟨-, -, -, -, -, -, e0, e1, e2, -⟩ := idx_in t
  have hb0 : (((cfg0.win 2).blk t).view.emb y 0).val = win0_2.index t (0 : Fin 3) * 1 + 1 * (y 0).val := rfl
  have hb1 : (((cfg0.win 2).blk t).view.emb y 1).val = win0_2.index t (1 : Fin 3) * 1024 + 1 * (y 1).val := rfl
  have hb2 : (((cfg0.win 2).blk t).view.emb y 2).val = win0_2.index t (2 : Fin 3) * 704 + 1 * (y 2).val := rfl
  have hy : (y 0).val < 1 := (y 0).isLt
  show V m c main_v8 (((cfg0.win 2).blk t).view.emb y) = _
  entry_read
  exact stack_cols (R := 1024) (C := 704) (N := 2816) (by decide) (a4 m c) _ _ _ k (by rw [hb1, h0, e1]; omega) (by rw [hb0, hb2, h1, e0, e2]; omega)

abbrev b3 (c : Dev nD) (t : Fin cfg0.N) : S1x1024x704.Idx → EReal := iblk m c 3 t

theorem blk3 (c : Dev nD) (t : Fin cfg0.N) (y : S1x1024x704.Idx) (k : S1024x2816.Idx) (h0 : (k 0).val = (y 1).val) (h1 : (k 1).val = 704 * (t.val % 4) + (y 2).val) :
    b3 m c t y = a5 m c k := by
  obtain ⟨-, -, -, -, -, -, -, -, -, e0, e1, e2, -⟩ := idx_in t
  have hb0 : (((cfg0.win 3).blk t).view.emb y 0).val = win0_3.index t (0 : Fin 3) * 1 + 1 * (y 0).val := rfl
  have hb1 : (((cfg0.win 3).blk t).view.emb y 1).val = win0_3.index t (1 : Fin 3) * 1024 + 1 * (y 1).val := rfl
  have hb2 : (((cfg0.win 3).blk t).view.emb y 2).val = win0_3.index t (2 : Fin 3) * 704 + 1 * (y 2).val := rfl
  have hy : (y 0).val < 1 := (y 0).isLt
  show V m c main_v11 (((cfg0.win 3).blk t).view.emb y) = _
  entry_read
  exact stack_cols (R := 1024) (C := 704) (N := 2816) (by decide) (a5 m c) _ _ _ k (by rw [hb1, h0, e1]; omega) (by rw [hb0, hb2, h1, e0, e2]; omega)

abbrev b4 (c : Dev nD) (t : Fin cfg0.N) : S1024x1024.Idx → EReal := iblk m c 4 t

theorem blk4 (c : Dev nD) (t : Fin cfg0.N) (y : S1024x1024.Idx) (k : S4096x1024.Idx) (h0 : (k 0).val = 1024 * (t.val / 4) + (y 0).val) (h1 : (k 1).val = (y 1).val) :
    b4 m c t y = a0 m c k := by
  obtain ⟨-, -, -, -, -, -, -, -, -, -, -, -, e0, e1, -⟩ := idx_in t
  have hb0 : (((cfg0.win 4).blk t).view.emb y 0).val = win0_4.index t (0 : Fin 2) * 1024 + 1 * (y 0).val := rfl
  have hb1 : (((cfg0.win 4).blk t).view.emb y 1).val = win0_4.index t (1 : Fin 2) * 1024 + 1 * (y 1).val := rfl
  show V m c main_arg0 (((cfg0.win 4).blk t).view.emb y) = _
  entry_read
  refine congrArg (a0 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b5 (c : Dev nD) (t : Fin cfg0.N) : S1x1024.Idx → EReal := iblk m c 5 t

theorem blk5 (c : Dev nD) (t : Fin cfg0.N) (y : S1x1024.Idx) (k : S1x1024.Idx) (h0 : (k 0).val = (y 0).val) (h1 : (k 1).val = (y 1).val) :
    b5 m c t y = a1 m c k := by
  obtain ⟨-, -, -, -, -, -, -, -, -, -, -, -, -, -, e0, e1, -⟩ := idx_in t
  have hb0 : (((cfg0.win 5).blk t).view.emb y 0).val = win0_5.index t (0 : Fin 2) * 1 + 1 * (y 0).val := rfl
  have hb1 : (((cfg0.win 5).blk t).view.emb y 1).val = win0_5.index t (1 : Fin 2) * 1024 + 1 * (y 1).val := rfl
  show V m c main_arg1 (((cfg0.win 5).blk t).view.emb y) = _
  entry_read
  refine congrArg (a1 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b6 (c : Dev nD) (t : Fin cfg0.N) : S1x1024.Idx → EReal := iblk m c 6 t

theorem blk6 (c : Dev nD) (t : Fin cfg0.N) (y : S1x1024.Idx) (k : S1x1024.Idx) (h0 : (k 0).val = (y 0).val) (h1 : (k 1).val = (y 1).val) :
    b6 m c t y = a2 m c k := by
  obtain ⟨-, -, -, -, -, -, -, -, -, -, -, -, -, -, -, -, e0, e1, -⟩ := idx_in t
  have hb0 : (((cfg0.win 6).blk t).view.emb y 0).val = win0_6.index t (0 : Fin 2) * 1 + 1 * (y 0).val := rfl
  have hb1 : (((cfg0.win 6).blk t).view.emb y 1).val = win0_6.index t (1 : Fin 2) * 1024 + 1 * (y 1).val := rfl
  show V m c main_arg2 (((cfg0.win 6).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b7 (c : Dev nD) (t : Fin cfg0.N) : S1024x1024.Idx → EReal := iblk m c 7 t

theorem blk7 (c : Dev nD) (t : Fin cfg0.N) (y : S1024x1024.Idx) (k : S4096x1024.Idx) (h0 : (k 0).val = 1024 * (t.val / 4) + (y 0).val) (h1 : (k 1).val = (y 1).val) :
    b7 m c t y = a8 m c k := by
  obtain ⟨-, -, -, -, -, -, -, -, -, -, -, -, -, -, -, -, -, -, e0, e1, -⟩ := idx_in t
  have hb0 : (((cfg0.win 7).blk t).view.emb y 0).val = win0_7.index t (0 : Fin 2) * 1024 + 1 * (y 0).val := rfl
  have hb1 : (((cfg0.win 7).blk t).view.emb y 1).val = win0_7.index t (1 : Fin 2) * 1024 + 1 * (y 1).val := rfl
  show V m c main_arg8 (((cfg0.win 7).blk t).view.emb y) = _
  entry_read
  refine congrArg (a8 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

/-! ## The reference, entry by entry -/

theorem ms_ref (x0 : S4096x1024.Idx → EReal) (p : Fin 4096) (i : FfnBwd2RefIdeal.S4096x1.Idx) (hi : (i 0).val = p.val) :
    FfnBwd2RefIdeal.Read.val_main_v6 (F := Ideal) x0 i = ms (fun k => x0 (ix2 (n0 := 4096) (n1 := 1024) p k)) := by
  rw [FfnBwd2RefIdeal.Read.val_main_v6_apply, FfnBwd2RefIdeal.Read.val_main_v4_apply, FfnBwd2RefIdeal.Read.val_main_v2_apply, FfnBwd2RefIdeal.Read.val_main_v1_apply, FfnBwd2RefIdeal.Read.val_main_v3_apply, FfnBwd2RefIdeal.Read.val_main_v5_apply, FfnBwd2RefIdeal.Read.val_main_cst_0_apply, FfnBwd2RefIdeal.Read.val_main_cst_1_apply, FfnBwd2RefIdeal.Read.val_main_cst_apply]
  have hj : ∀ k : Fin 1024, FfnBwd2RefIdeal.Read.idx_main_v1 (FfnBwd2RefIdeal.Read.idx_main_v2 i) k = ix2 (n0 := 4096) (n1 := 1024) p k := fun k => idx_ext hi rfl
  exact congrArg (fun z : EReal => Ideal.div z n1024 + eps) ((congrArg (fun z : EReal => z + _) Ideal.ofBits_zero_f32).trans ((zero_add _).trans
    (Finset.sum_congr rfl fun k _ => congrArg (fun j => x0 j * x0 j) (hj k))))

theorem rms_ref (x0 : S4096x1024.Idx → EReal) (p : Fin 4096) (i : FfnBwd2RefIdeal.S4096x1.Idx) (hi : (i 0).val = p.val) :
    FfnBwd2RefIdeal.Read.val_main_v7 (F := Ideal) x0 i = rms (fun k => x0 (ix2 (n0 := 4096) (n1 := 1024) p k)) := by
  rw [FfnBwd2RefIdeal.Read.val_main_v7_apply, rms_eq]
  exact congrArg Ideal.rsqrt (ms_ref x0 p i hi)

theorem slope_ref (x0 : S4096x1024.Idx → EReal) (p : Fin 4096) (i : FfnBwd2RefIdeal.S4096x1.Idx) (hi : (i 0).val = p.val) :
    FfnBwd2RefIdeal.Read.val_main_v10 (F := Ideal) x0 i = mhalf * Ideal.div (rms (fun k => x0 (ix2 (n0 := 4096) (n1 := 1024) p k))) (ms (fun k => x0 (ix2 (n0 := 4096) (n1 := 1024) p k))) := by
  rw [FfnBwd2RefIdeal.Read.val_main_v10_apply, FfnBwd2RefIdeal.Read.val_main_v9_apply, FfnBwd2RefIdeal.Read.val_main_cst_2_apply, FfnBwd2RefIdeal.Read.val_main_v8_apply]
  exact congrArg₂ (fun a b : EReal => mhalf * Ideal.div a b) (rms_ref x0 p i hi) (ms_ref x0 p i hi)

theorem n_ref (x0 : S4096x1024.Idx → EReal) (p : Fin 4096) (q : Fin 1024) : FfnBwd2RefIdeal.Read.val_main_v12 (F := Ideal) x0 (ix2 (n0 := 4096) (n1 := 1024) p q) = x0 (ix2 (n0 := 4096) (n1 := 1024) p q) * rms (fun k => x0 (ix2 (n0 := 4096) (n1 := 1024) p k)) := by
  rw [FfnBwd2RefIdeal.Read.val_main_v12_apply, FfnBwd2RefIdeal.Read.val_main_v11_apply]
  exact congrArg (fun z : EReal => x0 (ix2 (n0 := 4096) (n1 := 1024) p q) * z) (rms_ref x0 p _ rfl)

theorem w_ref (x0 : S4096x1024.Idx → EReal) (x1 : S1x1024.Idx → EReal) (p : Fin 4096) (q : Fin 1024) :
    FfnBwd2RefIdeal.Read.val_main_v14 (F := Ideal) x0 x1 (ix2 (n0 := 4096) (n1 := 1024) p q) = x0 (ix2 (n0 := 4096) (n1 := 1024) p q) * rms (fun k => x0 (ix2 (n0 := 4096) (n1 := 1024) p k)) * x1 (ix2 (n0 := 1) (n1 := 1024) 0 q) := by
  rw [FfnBwd2RefIdeal.Read.val_main_v14_apply, FfnBwd2RefIdeal.Read.val_main_v13_apply]
  exact congrArg₂ (fun a b : EReal => a * b) (n_ref x0 p q) (congrArg x1 (idx_ext rfl rfl))

theorem t_ref (x2 : S1x1024.Idx → EReal) (x4 x5 : S1024x2816.Idx → EReal) (x6 x7 : S4096x2816.Idx → EReal) (p : Fin 4096) (q : Fin 1024) :
    FfnBwd2RefIdeal.Read.val_main_v32 (F := Ideal) x2 x4 x5 x6 x7 (ix2 (n0 := 4096) (n1 := 1024) p q) = FfnBwd2RefIdeal.Read.val_main_v25 (F := Ideal) x4 x5 x6 x7 (ix2 (n0 := 4096) (n1 := 1024) p q) * (FloatOps.ofBits (F := Ideal) .f32 0x3F800000#32 + x2 (ix2 (n0 := 1) (n1 := 1024) 0 q)) := by
  rw [FfnBwd2RefIdeal.Read.val_main_v32_apply, FfnBwd2RefIdeal.Read.val_main_v31_apply, FfnBwd2RefIdeal.Read.val_main_v16_apply, FfnBwd2RefIdeal.Read.val_main_v15_apply, FfnBwd2RefIdeal.Read.val_main_cst_3_apply]
  exact congrArg (fun z : EReal => FfnBwd2RefIdeal.Read.val_main_v25 (F := Ideal) x4 x5 x6 x7 (ix2 (n0 := 4096) (n1 := 1024) p q) * (FloatOps.ofBits (F := Ideal) .f32 0x3F800000#32 + z)) (congrArg x2 (idx_ext rfl rfl))

theorem dn_ref (x1 x2 : S1x1024.Idx → EReal) (x4 x5 : S1024x2816.Idx → EReal) (x6 x7 : S4096x2816.Idx → EReal) (p : Fin 4096) (q : Fin 1024) :
    FfnBwd2RefIdeal.Read.val_main_v37 (F := Ideal) x1 x2 x4 x5 x6 x7 (ix2 (n0 := 4096) (n1 := 1024) p q) = FfnBwd2RefIdeal.Read.val_main_v25 (F := Ideal) x4 x5 x6 x7 (ix2 (n0 := 4096) (n1 := 1024) p q) * (FloatOps.ofBits (F := Ideal) .f32 0x3F800000#32 + x2 (ix2 (n0 := 1) (n1 := 1024) 0 q)) * x1 (ix2 (n0 := 1) (n1 := 1024) 0 q) := by
  rw [FfnBwd2RefIdeal.Read.val_main_v37_apply, FfnBwd2RefIdeal.Read.val_main_v36_apply]
  exact congrArg₂ (fun a b : EReal => a * b) (t_ref x2 x4 x5 x6 x7 p q) (congrArg x1 (idx_ext rfl rfl))

theorem spread_ref (x0 : S4096x1024.Idx → EReal) (x1 x2 : S1x1024.Idx → EReal) (x4 x5 : S1024x2816.Idx → EReal) (x6 x7 : S4096x2816.Idx → EReal) (p : Fin 4096) (q : Fin 1024) :
    FfnBwd2RefIdeal.Read.val_main_v48 (F := Ideal) x0 x1 x2 x4 x5 x6 x7 (ix2 (n0 := 4096) (n1 := 1024) p q) = spread (fun k => x0 (ix2 (n0 := 4096) (n1 := 1024) p k)) (fun k => FfnBwd2RefIdeal.Read.val_main_v37 (F := Ideal) x1 x2 x4 x5 x6 x7 (ix2 (n0 := 4096) (n1 := 1024) p k)) := by
  rw [FfnBwd2RefIdeal.Read.val_main_v48_apply, FfnBwd2RefIdeal.Read.val_main_v47_apply, Fin.sum_univ_one, FfnBwd2RefIdeal.Read.val_main_v46_apply, FfnBwd2RefIdeal.Read.val_main_v44_apply, FfnBwd2RefIdeal.Read.val_main_v40_apply, FfnBwd2RefIdeal.Read.val_main_v39_apply, FfnBwd2RefIdeal.Read.val_main_v45_apply, FfnBwd2RefIdeal.Read.val_main_cst_7_apply, FfnBwd2RefIdeal.Read.val_main_cst_8_apply, FfnBwd2RefIdeal.Read.val_main_cst_9_apply]
  have hj : ∀ k : Fin 1024, FfnBwd2RefIdeal.Read.idx_main_v39 (FfnBwd2RefIdeal.Read.idx_main_v40 (FfnBwd2RefIdeal.Read.idx_main_v47 (FfnBwd2RefIdeal.Read.idx_main_v48 (ix2 (n0 := 4096) (n1 := 1024) p q)) 0)) k = ix2 (n0 := 4096) (n1 := 1024) p k := fun k => idx_ext (by show p.val * 1 + 0 = p.val; omega) rfl
  exact (congrArg (fun z : EReal => z + _) Ideal.ofBits_zero_f32).trans ((zero_add _).trans
    (congrArg₂ (fun a b : EReal => Ideal.div (a * b) n1024)
      ((congrArg (fun z : EReal => z + _) Ideal.ofBits_zero_f32).trans ((zero_add _).trans (Finset.sum_congr rfl fun k _ =>
        congrArg (fun j => x0 j * FfnBwd2RefIdeal.Read.val_main_v37 (F := Ideal) x1 x2 x4 x5 x6 x7 j) (hj k))))
      (slope_ref x0 p _ rfl)))

theorem dx_ref (x0 : S4096x1024.Idx → EReal) (x1 x2 : S1x1024.Idx → EReal) (x4 x5 : S1024x2816.Idx → EReal) (x6 x7 : S4096x2816.Idx → EReal) (x8 : S4096x1024.Idx → EReal) (p : Fin 4096) (q : Fin 1024) :
    FfnBwd2RefIdeal.Read.val_main_v52 (F := Ideal) x0 x1 x2 x4 x5 x6 x7 x8 (ix2 (n0 := 4096) (n1 := 1024) p q)
      = x8 (ix2 (n0 := 4096) (n1 := 1024) p q) + FfnBwd2RefIdeal.Read.val_main_v37 (F := Ideal) x1 x2 x4 x5 x6 x7 (ix2 (n0 := 4096) (n1 := 1024) p q) * rms (fun k => x0 (ix2 (n0 := 4096) (n1 := 1024) p k))
        + x0 (ix2 (n0 := 4096) (n1 := 1024) p q) * spread (fun k => x0 (ix2 (n0 := 4096) (n1 := 1024) p k)) (fun k => FfnBwd2RefIdeal.Read.val_main_v37 (F := Ideal) x1 x2 x4 x5 x6 x7 (ix2 (n0 := 4096) (n1 := 1024) p k)) + spread (fun k => x0 (ix2 (n0 := 4096) (n1 := 1024) p k)) (fun k => FfnBwd2RefIdeal.Read.val_main_v37 (F := Ideal) x1 x2 x4 x5 x6 x7 (ix2 (n0 := 4096) (n1 := 1024) p k)) * x0 (ix2 (n0 := 4096) (n1 := 1024) p q) := by
  rw [FfnBwd2RefIdeal.Read.val_main_v52_apply, FfnBwd2RefIdeal.Read.val_main_v51_apply, FfnBwd2RefIdeal.Read.val_main_v50_apply, FfnBwd2RefIdeal.Read.val_main_v49_apply, FfnBwd2RefIdeal.Read.val_main_v43_apply, FfnBwd2RefIdeal.Read.val_main_v42_apply, FfnBwd2RefIdeal.Read.val_main_v41_apply, spread_ref x0 x1 x2 x4 x5 x6 x7 p q]
  exact congrArg (fun z : EReal => x8 (ix2 (n0 := 4096) (n1 := 1024) p q) + FfnBwd2RefIdeal.Read.val_main_v37 (F := Ideal) x1 x2 x4 x5 x6 x7 (ix2 (n0 := 4096) (n1 := 1024) p q) * z + x0 (ix2 (n0 := 4096) (n1 := 1024) p q) * spread (fun k => x0 (ix2 (n0 := 4096) (n1 := 1024) p k)) (fun k => FfnBwd2RefIdeal.Read.val_main_v37 (F := Ideal) x1 x2 x4 x5 x6 x7 (ix2 (n0 := 4096) (n1 := 1024) p k)) + spread (fun k => x0 (ix2 (n0 := 4096) (n1 := 1024) p k)) (fun k => FfnBwd2RefIdeal.Read.val_main_v37 (F := Ideal) x1 x2 x4 x5 x6 x7 (ix2 (n0 := 4096) (n1 := 1024) p k)) * x0 (ix2 (n0 := 4096) (n1 := 1024) p q))
    (rms_ref x0 p _ rfl)

/-- What row `x` adds to entry `(r, q)` of the sums. -/
abbrev part (x0 : S4096x1024.Idx → EReal) (x1 x2 : S1x1024.Idx → EReal) (x4 x5 : S1024x2816.Idx → EReal) (x6 x7 : S4096x2816.Idx → EReal) (r : ℕ) (q : Fin 1024) (x : Fin 4096) : EReal :=
  share (FfnBwd2RefIdeal.Read.val_main_v25 (F := Ideal) x4 x5 x6 x7 (ix2 (n0 := 4096) (n1 := 1024) x q)) (x0 (ix2 (n0 := 4096) (n1 := 1024) x q) * rms (fun k => x0 (ix2 (n0 := 4096) (n1 := 1024) x k))) (x1 (ix2 (n0 := 1) (n1 := 1024) 0 q)) (FloatOps.ofBits (F := Ideal) .f32 0x3F800000#32 + x2 (ix2 (n0 := 1) (n1 := 1024) 0 q)) r

theorem sums_ref (x0 : S4096x1024.Idx → EReal) (x1 x2 : S1x1024.Idx → EReal) (x4 x5 : S1024x2816.Idx → EReal) (x6 x7 : S4096x2816.Idx → EReal) (r : Fin 8) (q : Fin 1024) :
    FfnBwd2RefIdeal.Read.val_main_v54 (F := Ideal) x0 x1 x2 x4 x5 x6 x7 (ix2 (n0 := 8) (n1 := 1024) r q) = ∑ x : Fin 4096, part x0 x1 x2 x4 x5 x6 x7 r.val q x := by
  unfold FfnBwd2RefIdeal.Read.val_main_v54
  by_cases h0 : r = 0
  · subst h0
    refine (concatenate_apply_piece (t := FfnBwd2RefIdeal.S8x1024) 0 _ _ (ix2 (n0 := 8) (n1 := 1024) (0 : Fin 8) q) 0 (by show 0 < 4; decide) FfnBwd2RefIdeal.S1x1024 (FfnBwd2RefIdeal.Read.val_main_v27 (F := Ideal) x4 x5 x6 x7) rfl rfl 0 rfl
      (ix2 (n0 := 1) (n1 := 1024) 0 q) (fun b hb => match b with
        | ⟨0, _⟩ => absurd rfl hb
        | ⟨1, _⟩ => rfl) rfl).trans ?_
    rw [FfnBwd2RefIdeal.Read.val_main_v27_apply, FfnBwd2RefIdeal.Read.val_main_v26_apply, FfnBwd2RefIdeal.Read.val_main_cst_4_apply]
    exact (congrArg (fun z : EReal => z + _) Ideal.ofBits_zero_f32).trans ((zero_add _).trans (Finset.sum_congr rfl fun x _ => by
      have hj : FfnBwd2RefIdeal.Read.idx_main_v26 (FfnBwd2RefIdeal.Read.idx_main_v27 (ix2 (n0 := 1) (n1 := 1024) 0 q)) x = ix2 (n0 := 4096) (n1 := 1024) x q := idx_ext rfl (by show 0 * 1024 + q.val = q.val; omega)
      rw [hj]
      rfl))
  by_cases h1 : r = 1
  · subst h1
    refine (concatenate_apply_piece (t := FfnBwd2RefIdeal.S8x1024) 0 _ _ (ix2 (n0 := 8) (n1 := 1024) (1 : Fin 8) q) 1 (by show 1 < 4; decide) FfnBwd2RefIdeal.S1x1024 (FfnBwd2RefIdeal.Read.val_main_v30 (F := Ideal) x0 x1 x4 x5 x6 x7) rfl rfl 1 rfl
      (ix2 (n0 := 1) (n1 := 1024) 0 q) (fun b hb => match b with
        | ⟨0, _⟩ => absurd rfl hb
        | ⟨1, _⟩ => rfl) rfl).trans ?_
    rw [FfnBwd2RefIdeal.Read.val_main_v30_apply, FfnBwd2RefIdeal.Read.val_main_v29_apply, FfnBwd2RefIdeal.Read.val_main_cst_5_apply]
    exact (congrArg (fun z : EReal => z + _) Ideal.ofBits_zero_f32).trans ((zero_add _).trans (Finset.sum_congr rfl fun x _ => by
      have hj : FfnBwd2RefIdeal.Read.idx_main_v29 (FfnBwd2RefIdeal.Read.idx_main_v30 (ix2 (n0 := 1) (n1 := 1024) 0 q)) x = ix2 (n0 := 4096) (n1 := 1024) x q := idx_ext rfl (by show 0 * 1024 + q.val = q.val; omega)
      rw [hj, FfnBwd2RefIdeal.Read.val_main_v28_apply, w_ref x0 x1 x q]
      exact mul_comm _ _))
  by_cases h2 : r = 2
  · subst h2
    refine (concatenate_apply_piece (t := FfnBwd2RefIdeal.S8x1024) 0 _ _ (ix2 (n0 := 8) (n1 := 1024) (2 : Fin 8) q) 2 (by show 2 < 4; decide) FfnBwd2RefIdeal.S1x1024 (FfnBwd2RefIdeal.Read.val_main_v35 (F := Ideal) x0 x2 x4 x5 x6 x7) rfl rfl 2 rfl
      (ix2 (n0 := 1) (n1 := 1024) 0 q) (fun b hb => match b with
        | ⟨0, _⟩ => absurd rfl hb
        | ⟨1, _⟩ => rfl) rfl).trans ?_
    rw [FfnBwd2RefIdeal.Read.val_main_v35_apply, FfnBwd2RefIdeal.Read.val_main_v34_apply, FfnBwd2RefIdeal.Read.val_main_cst_6_apply]
    exact (congrArg (fun z : EReal => z + _) Ideal.ofBits_zero_f32).trans ((zero_add _).trans (Finset.sum_congr rfl fun x _ => by
      have hj : FfnBwd2RefIdeal.Read.idx_main_v34 (FfnBwd2RefIdeal.Read.idx_main_v35 (ix2 (n0 := 1) (n1 := 1024) 0 q)) x = ix2 (n0 := 4096) (n1 := 1024) x q := idx_ext rfl (by show 0 * 1024 + q.val = q.val; omega)
      rw [hj, FfnBwd2RefIdeal.Read.val_main_v33_apply, n_ref x0 x q, t_ref x2 x4 x5 x6 x7 x q]
      exact mul_comm _ _))
  have e0 : r.val ≠ 0 := fun h => h0 (Fin.ext h)
  have e1 : r.val ≠ 1 := fun h => h1 (Fin.ext h)
  have e2 : r.val ≠ 2 := fun h => h2 (Fin.ext h)
  refine (concatenate_apply_piece (t := FfnBwd2RefIdeal.S8x1024) 0 _ _ (ix2 (n0 := 8) (n1 := 1024) r q) 3 (by show 3 < 4; decide) FfnBwd2RefIdeal.S5x1024 (FfnBwd2RefIdeal.Read.val_main_v53 (F := Ideal)) rfl rfl 3 rfl
      (ix2 (n0 := 5) (n1 := 1024) ⟨r.val - 3, by omega⟩ q) (fun b hb => match b with
        | ⟨0, _⟩ => absurd rfl hb
        | ⟨1, _⟩ => rfl) (by show 3 + (r.val - 3) = r.val; omega)).trans ?_
  rw [FfnBwd2RefIdeal.Read.val_main_v53_apply, FfnBwd2RefIdeal.Read.val_main_cst_10_apply]
  have e : r.val = (r.val - 3) + 3 := by omega
  rw [e]
  exact Ideal.ofBits_zero_f32.trans Finset.sum_const_zero.symm

/-- Hidden column `x`'s share of the norm's output gradient at `(p, q)`. -/
abbrev term (x4 x5 : S1024x2816.Idx → EReal) (x6 x7 : S4096x2816.Idx → EReal) (p : Fin 4096) (q : Fin 1024) (x : Fin 2816) : EReal :=
  x6 (ix2 (n0 := 4096) (n1 := 2816) p x) * x4 (ix2 (n0 := 1024) (n1 := 2816) q x) + x7 (ix2 (n0 := 4096) (n1 := 2816) p x) * x5 (ix2 (n0 := 1024) (n1 := 2816) q x)

theorem d_ref (x4 x5 : S1024x2816.Idx → EReal) (x6 x7 : S4096x2816.Idx → EReal) (p : Fin 4096) (q : Fin 1024) :
    FfnBwd2RefIdeal.Read.val_main_v25 (F := Ideal) x4 x5 x6 x7 (ix2 (n0 := 4096) (n1 := 1024) p q) = ∑ x : Fin 2816, term x4 x5 x6 x7 p q x := by
  rw [FfnBwd2RefIdeal.Read.val_main_v25_apply, FfnBwd2RefIdeal.Read.val_main_v23_apply, FfnBwd2RefIdeal.Read.val_main_v24_apply, Finset.sum_add_distrib]
  refine (add_comm _ _).trans (congrArg₂ (fun a b : EReal => a + b) (Finset.sum_congr rfl fun x _ => congrArg₂ (fun a b : EReal => a * b) (congrArg x6 (idx_ext rfl rfl)) (congrArg x4 (idx_ext rfl rfl)))
    (Finset.sum_congr rfl fun x _ => congrArg₂ (fun a b : EReal => a * b) (congrArg x7 (idx_ext rfl rfl)) (congrArg x5 (idx_ext rfl rfl))))

/-! ## The running sum of products -/

abbrev acc (c : Dev nD) (n : ℕ) (h : n < cfg0.N) : S1024x1024.Idx → EReal := (outsAt0 m c n h).2.2
abbrev sums (c : Dev nD) (n : ℕ) (h : n < cfg0.N) : S8x1024.Idx → EReal := (outsAt0 m c n h).2.1
abbrev dterm (c : Dev nD) (j : ℕ) (hj : j < 4) (r q : Fin 1024) : Fin 2816 → EReal := term (a4 m c) (a5 m c) (a6 m c) (a7 m c) ⟨1024 * j + r.val, by omega⟩ q

theorem blk_sum (c : Dev nD) (t : Fin cfg0.N) (r q : Fin 1024) (j k : ℕ) (hj : j < 4) (hk : k < 4) (ht : t.val = 4 * j + k) :
    ∑ y : Fin 704, (b0 m c t (ix3 (0 : Fin 1) r y) * b2 m c t (ix3 (0 : Fin 1) q y) + b1 m c t (ix3 (0 : Fin 1) r y) * b3 m c t (ix3 (0 : Fin 1) q y))
      = ∑ y : Fin 704, ext0 (dterm m c j hj r q) (704 * k + y.val) := by
  refine Finset.sum_congr rfl fun y _ => ?_
  have hx : 704 * k + y.val < 2816 := by omega
  have ed : t.val / 4 = j := by omega
  have em : t.val % 4 = k := by omega
  rw [ext0_of_lt _ _ hx]
  exact congrArg₂ (fun a b : EReal => a + b)
    (congrArg₂ (fun a b : EReal => a * b)
      (blk0 m c t (ix3 (0 : Fin 1) r y) (ix2 (n0 := 4096) (n1 := 2816) ⟨1024 * j + r.val, by omega⟩ ⟨704 * k + y.val, hx⟩) (by rw [ed]) (by rw [em]))
      (blk2 m c t (ix3 (0 : Fin 1) q y) (ix2 (n0 := 1024) (n1 := 2816) q ⟨704 * k + y.val, hx⟩) rfl (by rw [em])))
    (congrArg₂ (fun a b : EReal => a * b)
      (blk1 m c t (ix3 (0 : Fin 1) r y) (ix2 (n0 := 4096) (n1 := 2816) ⟨1024 * j + r.val, by omega⟩ ⟨704 * k + y.val, hx⟩) (by rw [ed]) (by rw [em]))
      (blk3 m c t (ix3 (0 : Fin 1) q y) (ix2 (n0 := 1024) (n1 := 2816) q ⟨704 * k + y.val, hx⟩) rfl (by rw [em])))

theorem partial_sum (c : Dev nD) (r q : Fin 1024) (j : ℕ) (hj : j < 4) : ∀ (k : ℕ) (hk : k < 3) (h : 4 * j + k < cfg0.N),
    acc m c (4 * j + k) h (ix2 r q) = ∑ x ∈ Finset.range (704 * (k + 1)), ext0 (dterm m c j hj r q) x := by
  intro k
  induction k with
  | zero =>
    intro _ h
    have e := acc_first m c ⟨4 * j + 0, h⟩ (by show (4 * j + 0) % 4 = 0; omega)
    refine (congrFun e (ix2 r q)).trans ((pay3_apply _ _ _ _ _ (ix2 r q)).trans ?_)
    rw [pay2_apply, zero_add]
    exact (blk_sum m c ⟨4 * j + 0, h⟩ r q j 0 hj (by omega) rfl).trans (sum_block_first _ 704)
  | succ k ih =>
    intro hk h
    have hp : 4 * j + k < cfg0.N := Nat.lt_of_succ_lt h
    have e := acc_B m c ⟨4 * j + (k + 1), h⟩ (by show ¬(4 * j + (k + 1)) % 16 = 0; omega) (by show ¬(4 * j + (k + 1)) % 4 = 0; omega) (by show ¬(4 * j + (k + 1)) % 4 = 3; omega)
      (4 * j + k) hp (by show 4 * j + (k + 1) - 1 = 4 * j + k; omega)
    refine (congrFun e (ix2 r q)).trans ((pay3_apply (acc m c (4 * j + k) hp) _ _ _ _ (ix2 r q)).trans ?_)
    rw [ih (by omega) hp]
    refine (congrArg (fun z : EReal => _ + z) (blk_sum m c ⟨4 * j + (k + 1), h⟩ r q j (k + 1) hj (by omega) rfl)).trans ?_
    exact sum_block _ 704 (k + 1)

abbrev dh (c : Dev nD) : S4096x1024.Idx → EReal := FfnBwd2RefIdeal.Read.val_main_v25 (F := Ideal) (a4 m c) (a5 m c) (a6 m c) (a7 m c)
/-- The whole sum, as the last block of a group of rows has it. -/
abbrev full (c : Dev nD) (j : ℕ) (h : 4 * j + 3 < cfg0.N) : S1024x1024.Idx → EReal :=
  k0_pay3 (F := Ideal) (acc m c (4 * j + 2) (Nat.lt_of_succ_lt h)) (b0 m c ⟨4 * j + 3, h⟩) (b2 m c ⟨4 * j + 3, h⟩) (b1 m c ⟨4 * j + 3, h⟩) (b3 m c ⟨4 * j + 3, h⟩)

theorem whole_sum (c : Dev nD) (j : ℕ) (hj : j < 4) (h : 4 * j + 3 < cfg0.N) (r q : Fin 1024) :
    full m c j h (ix2 r q) = dh m c (ix2 (n0 := 4096) (n1 := 1024) ⟨1024 * j + r.val, by omega⟩ q) := by
  refine (pay3_apply (acc m c (4 * j + 2) (Nat.lt_of_succ_lt h)) _ _ _ _ (ix2 r q)).trans ?_
  rw [partial_sum m c r q j hj 2 (by omega) (Nat.lt_of_succ_lt h)]
  refine (congrArg (fun z : EReal => _ + z) (blk_sum m c ⟨4 * j + 3, h⟩ r q j 3 hj (by omega) rfl)).trans ?_
  refine (sum_block _ 704 3).trans ?_
  exact (sum_ext0 (dterm m c j hj r q)).trans (d_ref (a4 m c) (a5 m c) (a6 m c) (a7 m c) ⟨1024 * j + r.val, by omega⟩ q).symm

theorem x_entry (c : Dev nD) (j : ℕ) (hj : j < 4) (h : 4 * j + 3 < cfg0.N) (r q : Fin 1024) :
    b4 m c ⟨4 * j + 3, h⟩ (ix2 r q) = a0 m c (ix2 (n0 := 4096) (n1 := 1024) ⟨1024 * j + r.val, by omega⟩ q) :=
  blk4 m c ⟨4 * j + 3, h⟩ (ix2 r q) (ix2 (n0 := 4096) (n1 := 1024) ⟨1024 * j + r.val, by omega⟩ q) (by show 1024 * j + r.val = 1024 * ((4 * j + 3) / 4) + r.val; rw [show (4 * j + 3) / 4 = j by omega]) rfl

theorem g_entry (c : Dev nD) (t : Fin cfg0.N) (q : Fin 1024) : b5 m c t (ix2 (0 : Fin 1) q) = a1 m c (ix2 (n0 := 1) (n1 := 1024) 0 q) :=
  blk5 m c t (ix2 (0 : Fin 1) q) (ix2 (n0 := 1) (n1 := 1024) 0 q) rfl rfl

theorem s_entry (c : Dev nD) (t : Fin cfg0.N) (q : Fin 1024) : b6 m c t (ix2 (0 : Fin 1) q) = a2 m c (ix2 (n0 := 1) (n1 := 1024) 0 q) :=
  blk6 m c t (ix2 (0 : Fin 1) q) (ix2 (n0 := 1) (n1 := 1024) 0 q) rfl rfl

/-! ## The three column sums -/

abbrev share_of (c : Dev nD) (r : ℕ) (q : Fin 1024) : Fin 4096 → EReal := part (a0 m c) (a1 m c) (a2 m c) (a4 m c) (a5 m c) (a6 m c) (a7 m c) r q

theorem rows_sum (c : Dev nD) (j : ℕ) (hj : j < 4) (h : 4 * j + 3 < cfg0.N) (r : Fin 8) (q : Fin 1024) :
    ∑ k : Fin 1024, share (full m c j h (ix2 k q)) (b4 m c ⟨4 * j + 3, h⟩ (ix2 k q) * rms (fun l => b4 m c ⟨4 * j + 3, h⟩ (ix2 k l)))
        (b5 m c ⟨4 * j + 3, h⟩ (ix2 (0 : Fin 1) q)) (FloatOps.ofBits (F := Ideal) .f32 0x3F800000#32 + b6 m c ⟨4 * j + 3, h⟩ (ix2 (0 : Fin 1) q)) r.val
      = ∑ k : Fin 1024, ext0 (share_of m c r.val q) (1024 * j + k.val) := by
  refine Finset.sum_congr rfl fun k _ => ?_
  have hx : 1024 * j + k.val < 4096 := by omega
  rw [ext0_of_lt _ _ hx, whole_sum m c j hj h k q, g_entry, s_entry, show (fun l => b4 m c ⟨4 * j + 3, h⟩ (ix2 k l)) = fun l => a0 m c (ix2 (n0 := 4096) (n1 := 1024) ⟨1024 * j + k.val, hx⟩ l) from funext fun l => x_entry m c j hj h k l,
    x_entry m c j hj h k q]

theorem sums_step (c : Dev nD) (j : ℕ) (hj : j < 4) (h : 4 * j + 3 < cfg0.N) (r : Fin 8) (q : Fin 1024) :
    sums m c (4 * j + 3) h (ix2 r q) = sums m c (4 * j + 2) (Nat.lt_of_succ_lt h) (ix2 r q) + ∑ k : Fin 1024, ext0 (share_of m c r.val q) (1024 * j + k.val) := by
  have e := sums_C m c ⟨4 * j + 3, h⟩ (by show ¬(4 * j + 3) % 16 = 0; omega) (by show ¬(4 * j + 3) % 4 = 0; omega) (by show (4 * j + 3) % 4 = 3; omega)
    (4 * j + 2) (Nat.lt_of_succ_lt h) rfl
  refine (congrFun e (ix2 r q)).trans ((rows_apply (b4 m c ⟨4 * j + 3, h⟩) (full m c j h) (b5 m c ⟨4 * j + 3, h⟩) (b6 m c ⟨4 * j + 3, h⟩) (sums m c (4 * j + 2) (Nat.lt_of_succ_lt h)) r q).trans ?_)
  exact congrArg (fun z : EReal => sums m c (4 * j + 2) (Nat.lt_of_succ_lt h) (ix2 r q) + z) (rows_sum m c j hj h r q)

theorem sums_at (c : Dev nD) (r : Fin 8) (q : Fin 1024) : ∀ (j : ℕ) (h : 4 * j + 3 < cfg0.N), j < 4 →
    sums m c (4 * j + 3) h (ix2 r q) = ∑ x ∈ Finset.range (1024 * (j + 1)), ext0 (share_of m c r.val q) x := by
  intro j
  induction j with
  | zero =>
    intro h _
    refine (sums_step m c 0 (by omega) h r q).trans ?_
    rw [show sums m c (4 * 0 + 2) (Nat.lt_of_succ_lt h) (ix2 r q) = 0 from (congrFun (sums_start m c (Nat.lt_of_succ_lt h)) (ix2 r q)).trans (zero_apply _), zero_add]
    exact sum_block_first _ 1024
  | succ j ih =>
    intro h hj
    have hp : 4 * j + 3 < cfg0.N := by omega
    refine (sums_step m c (j + 1) hj h r q).trans ?_
    rw [show sums m c (4 * (j + 1) + 2) (Nat.lt_of_succ_lt h) (ix2 r q) = _ from congrFun (sums_keep m c j (Nat.lt_of_succ_lt h) hp (by omega)) (ix2 r q)]
    exact (congrArg (fun z : EReal => z + _) (ih hp (by omega))).trans (sum_block _ 1024 (j + 1))

theorem flushed9_eq (c : Dev nD) (t : Fin cfg0.N) (hf : (cfg0.win 9).flush t = true) :
    (dats m 0 c).flushed 9 t = ((cfg0.win 9).blk t).view.read (Elt Ideal) (FfnBwd2RefIdeal.Read.val_main_v54 (F := Ideal) (a0 m c) (a1 m c) (a2 m c) (a4 m c) (a5 m c) (a6 m c) (a7 m c)) := by
  have h15 : t.val = 15 := (flush_last t).1 hf
  rw [flushed9]
  refine on_ix2 (n0 := 8) (n1 := 1024) fun r q => ?_
  obtain ⟨-, -, -, -, -, -, -, -, -, -, -, -, -, -, -, -, -, -, -, -, e0, e1⟩ := idx_in t
  have hb0 : (((cfg0.win 9).blk t).view.emb (ix2 r q) 0).val = win0_9.index t (0 : Fin 2) * 8 + 1 * r.val := rfl
  have hb1 : (((cfg0.win 9).blk t).view.emb (ix2 r q) 1).val = win0_9.index t (1 : Fin 2) * 1024 + 1 * q.val := rfl
  have ha0 := hb0.trans (show _ = r.val by rw [e0]; omega)
  have ha1 := hb1.trans (show _ = q.val by rw [e1]; omega)
  have he : ((cfg0.win 9).blk t).view.emb (ix2 r q) = ix2 (n0 := 8) (n1 := 1024) r q := idx_ext ha0 ha1
  show sums m c t.val t.isLt (ix2 r q) = FfnBwd2RefIdeal.Read.val_main_v54 (F := Ideal) (a0 m c) (a1 m c) (a2 m c) (a4 m c) (a5 m c) (a6 m c) (a7 m c) (((cfg0.win 9).blk t).view.emb (ix2 r q))
  rw [he, sums_ref]
  have hl : 4 * 3 + 3 < cfg0.N := lt_of_lt_of_eq (by omega) N_0.symm
  rw [show sums m c t.val t.isLt = sums m c (4 * 3 + 3) hl from congrArg (fun z => z.2.1) (outs_congr m c t.val (4 * 3 + 3) t.isLt hl h15)]
  exact (sums_at m c r q 3 hl (by omega)).trans (sum_ext0 (share_of m c r.val q))

theorem mem_blk9 (t : Fin cfg0.N) (i : S8x1024.Idx) :
    i ∈ ((cfg0.win 9).blk t).view.set ↔ ∀ a, win0_9.index t a * S8x1024.size a ≤ (i a).val ∧ (i a).val < win0_9.index t a * S8x1024.size a + S8x1024.size a := by
  show i ∈ ((View.whole main_v12_1).slice (win0_9.rect t)).set ↔ _
  rw [View.set_slice_whole, Rect.mem_set_unit]

theorem result9 (c : Dev nD) : (dats m 0 c).arrAt 9 cfg0.N = FfnBwd2RefIdeal.Read.val_main_v54 (F := Ideal) (a0 m c) (a1 m c) (a2 m c) (a4 m c) (a5 m c) (a6 m c) (a7 m c) :=
  (dats m 0 c).arrAt_eq_of_cover 9 (FfnBwd2RefIdeal.Read.val_main_v54 (F := Ideal) (a0 m c) (a1 m c) (a2 m c) (a4 m c) (a5 m c) (a6 m c) (a7 m c)) (fun t hf => flushed9_eq m c t hf) fun i => by
    have h0 : (i 0).val < 8 := (i 0).isLt
    have h1 : (i 1).val < 1024 := (i 1).isLt
    have ht : 15 < cfg0.N := lt_of_lt_of_eq (by omega) N_0.symm
    obtain ⟨-, -, -, -, -, -, -, -, -, -, -, -, -, -, -, -, -, -, -, -, e0, e1⟩ := idx_in ⟨15, ht⟩
    refine ⟨⟨15, ht⟩, (flush_last ⟨15, ht⟩).2 rfl, (mem_blk9 _ i).2 fun a => ?_⟩
    match a with
    | ⟨0, _⟩ =>
      show win0_9.index _ (0 : Fin 2) * 8 ≤ (i 0).val ∧ (i 0).val < win0_9.index _ (0 : Fin 2) * 8 + 8
      rw [e0]
      show (0) * 8 ≤ (i 0).val ∧ (i 0).val < (0) * 8 + 8
      omega
    | ⟨1, _⟩ =>
      show win0_9.index _ (1 : Fin 2) * 1024 ≤ (i 1).val ∧ (i 1).val < win0_9.index _ (1 : Fin 2) * 1024 + 1024
      rw [e1]
      show (0) * 1024 ≤ (i 1).val ∧ (i 1).val < (0) * 1024 + 1024
      omega

/-! ## The gradient of the norm's input -/

theorem written8 (c : Dev nD) (f0 : ∀ i, Fin' (a0 m c i)) (f1 : ∀ i, Fin' (a1 m c i)) (f2 : ∀ i, Fin' (a2 m c i)) (f4 : ∀ i, Fin' (a4 m c i)) (f5 : ∀ i, Fin' (a5 m c i)) (f6 : ∀ i, Fin' (a6 m c i)) (f7 : ∀ i, Fin' (a7 m c i))
    (j : ℕ) (hj : j < 4) (h : 4 * j + 3 < cfg0.N) (r q : Fin 1024) :
    ((outsAt0 m c (4 * j + 3) h).1 : S1024x1024.Idx → EReal) (ix2 r q) = FfnBwd2RefIdeal.Read.val_main_v52 (F := Ideal) (a0 m c) (a1 m c) (a2 m c) (a4 m c) (a5 m c) (a6 m c) (a7 m c) (a8 m c) (ix2 (n0 := 4096) (n1 := 1024) ⟨1024 * j + r.val, by omega⟩ q) := by
  have e := dx_C m c ⟨4 * j + 3, h⟩ (by show ¬(4 * j + 3) % 16 = 0; omega) (by show ¬(4 * j + 3) % 4 = 0; omega) (by show (4 * j + 3) % 4 = 3; omega)
    (4 * j + 2) (Nat.lt_of_succ_lt h) rfl
  have hd : ∀ k : Fin 1024, full m c j h (ix2 r k) * (FloatOps.ofBits (F := Ideal) .f32 0x3F800000#32 + b6 m c ⟨4 * j + 3, h⟩ (ix2 (0 : Fin 1) k)) * b5 m c ⟨4 * j + 3, h⟩ (ix2 (0 : Fin 1) k)
      = FfnBwd2RefIdeal.Read.val_main_v37 (F := Ideal) (a1 m c) (a2 m c) (a4 m c) (a5 m c) (a6 m c) (a7 m c) (ix2 (n0 := 4096) (n1 := 1024) ⟨1024 * j + r.val, by omega⟩ k) := fun k => by
    rw [dn_ref, whole_sum m c j hj h r k, g_entry, s_entry]
  refine (congrFun e (ix2 r q)).trans ((dx_apply (b5 m c ⟨4 * j + 3, h⟩) (b6 m c ⟨4 * j + 3, h⟩) (b7 m c ⟨4 * j + 3, h⟩) (b4 m c ⟨4 * j + 3, h⟩) (full m c j h) r q _ _
    (fun k => x_entry m c j hj h r k) hd).trans ?_)
  have e7 := blk7 m c ⟨4 * j + 3, h⟩ (ix2 r q) (ix2 (n0 := 4096) (n1 := 1024) ⟨1024 * j + r.val, by omega⟩ q) (by show 1024 * j + r.val = 1024 * ((4 * j + 3) / 4) + r.val; rw [show (4 * j + 3) / 4 = j by omega]) rfl
  rw [e7]
  refine (row_back (fun k => a0 m c (ix2 (n0 := 4096) (n1 := 1024) ⟨1024 * j + r.val, by omega⟩ k)) (fun k => FfnBwd2RefIdeal.Read.val_main_v37 (F := Ideal) (a1 m c) (a2 m c) (a4 m c) (a5 m c) (a6 m c) (a7 m c) (ix2 (n0 := 4096) (n1 := 1024) ⟨1024 * j + r.val, by omega⟩ k)) (fun k => f0 _) (fun k => ?_)
    (a8 m c (ix2 (n0 := 4096) (n1 := 1024) ⟨1024 * j + r.val, by omega⟩ q)) q).trans (dx_ref (a0 m c) (a1 m c) (a2 m c) (a4 m c) (a5 m c) (a6 m c) (a7 m c) (a8 m c) ⟨1024 * j + r.val, by omega⟩ q).symm
  rw [dn_ref, d_ref, one_bits]
  exact fin_mul (fin_mul (fin_sum fun x => fin_add (fin_mul (f6 _) (f4 _)) (fin_mul (f7 _) (f5 _))) (fin_add fin_one (f2 _))) (f1 _)

theorem result8 (c : Dev nD) (f0 : ∀ i, Fin' (a0 m c i)) (f1 : ∀ i, Fin' (a1 m c i)) (f2 : ∀ i, Fin' (a2 m c i)) (f4 : ∀ i, Fin' (a4 m c i)) (f5 : ∀ i, Fin' (a5 m c i)) (f6 : ∀ i, Fin' (a6 m c i)) (f7 : ∀ i, Fin' (a7 m c i)) : G8 m c = FfnBwd2RefIdeal.Read.val_main_v52 (F := Ideal) (a0 m c) (a1 m c) (a2 m c) (a4 m c) (a5 m c) (a6 m c) (a7 m c) (a8 m c) := by
  funext i
  have h0 : (i 0).val < 4096 := (i 0).isLt
  have h1 : (i 1).val < 1024 := (i 1).isLt
  have hp : pt8Of i = 4 * ((i 0).val / 1024) + 3 := by
    show 4 * (1 * ((i 0).val / 1024 - 0) + 1 * ((i 1).val / 1024 - 0)) + 3 = _
    omega
  have hb : pt8Of i < cfg0.N := by rw [hp]; exact lt_of_lt_of_eq (by omega) N_0.symm
  have hl : loc8Of i = ix2 (n0 := 1024) (n1 := 1024) ⟨(i 0).val % 1024, by omega⟩ (i 1) := by
    refine idx_ext rfl ?_
    show (i 1).val % 1024 = (i 1).val
    omega
  unfold G8
  rw [dif_pos hb, ← outsAt0_sweep m c (pt8Of i) hb, outs_congr m c _ _ hb (hp ▸ hb) hp, hl]
  refine (written8 m c f0 f1 f2 f4 f5 f6 f7 ((i 0).val / 1024) (by omega) (hp ▸ hb) ⟨(i 0).val % 1024, by omega⟩ (i 1)).trans ?_
  refine congrArg (FfnBwd2RefIdeal.Read.val_main_v52 (F := Ideal) (a0 m c) (a1 m c) (a2 m c) (a4 m c) (a5 m c) (a6 m c) (a7 m c) (a8 m c)) (idx_ext ?_ rfl)
  show 1024 * ((i 0).val / 1024) + (i 0).val % 1024 = (i 0).val
  omega

end Cert.FfnBwd2Ideal.Sum
-- ==== Proof.LnmodBwd.lean ====
/-
  The gradient of the first modulated norm. A grid point finishes 1024 rows of the gradient of the norm's input, and adds these rows
  to three column sums: the gradients of the shift, of the scale and of the norm's weight.
-/
module

public import proofs.«01_k».proof.Proof.Common
public import proofs.«01_k».proof.Proof.Gen.LnmodBwdIdeal.Value
public import proofs.«01_k».proof.Proof.Gen.LnmodBwdRefIdeal.Read
public import Idealize.ShloMosaic.Lib.Tactic
public import Idealize.ShloMosaic.Lib.Claim
public import proofs.«01_k».proof.Proof.NormBack
public import proofs.«01_k».proof.Proof.RowStores
@[expose] public section

set_option maxRecDepth 16384

noncomputable section

namespace Cert.LnmodBwdIdeal.Sum

open Cert.Common Cert.Rows Cert.RowStores Cert.NormBack Cert.LnmodBwdIdeal Cert.LnmodBwdIdeal.Gen Cert.LnmodBwdIdeal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords)
  (g1 : Memref sig .tc .vmem S1024x1024 .f32) (h1 : g1.IsWhole)
  (g2 : Memref sig .tc .vmem S1x1024 .f32) (h2 : g2.IsWhole)
  (g3 : Memref sig .tc .vmem S1x1024 .f32) (h3 : g3.IsWhole)
  (g4 : Memref sig .tc .vmem S1024x1024 .f32) (h4 : g4.IsWhole)
  (g5 : Memref sig .tc .vmem S1024x1024 .f32) (h5 : g5.IsWhole)
  (g6 : Memref sig .tc .vmem S1024x1024 .f32) (h6 : g6.IsWhole)
  (g7 : Memref sig .tc .vmem S8x1024 .f32) (h7 : g7.IsWhole)
  (x0 : Vec F S1024x1024 .f32) (x1 : Vec F S1x1024 .f32) (x2 : Vec F S1x1024 .f32) (x3 : Vec F S1024x1024 .f32) (x4 : Vec F S1024x1024 .f32) (xo : Vec F S8x1024 .f32)

theorem out5_A (hc0 : cond0_0 i) : out0_A_5 c i g1 h1 g2 h2 g3 h3 g4 h4 g5 h5 g6 h6 g7 h7 hc0 x0 x1 x2 x3 x4 = k0_pay3 x1 x4 (k0_pay5 x0) (k0_pay6 x0) (k0_pay7 x2 x3) := by
  unfold out0_A_5
  rw [View.read_writes_eq_canon _ _ _ (cover0_A_5 c i g1 h1 g2 h2 g3 h3 g4 h4 g5 h5 g6 h6 g7 h7 hc0 x0 x1 x2 x3 x4)]
  unfold kernelRun0_A
  dsimp only
  sl_unfold_words
  rw [View.canon_unit_zero (S := S1024x1024) zero2]
  simp only [View.readAt_eq_ld, h1.read_unread, h2.read_unread, h3.read_unread, h4.read_unread, h5.read_unread,
    View.ld_unit_zero (S := S1x1024) zero2, View.ld_unit_zero (S := S1024x1024) zero2]

theorem out5_B (hc0 : ¬cond0_0 i) : out0_B_5 c i g1 h1 g2 h2 g3 h3 g4 h4 g5 h5 g6 h6 g7 h7 hc0 x0 x1 x2 x3 x4 xo = k0_pay3 x1 x4 (k0_pay5 x0) (k0_pay6 x0) (k0_pay7 x2 x3) := by
  unfold out0_B_5
  rw [View.read_writes_eq_canon _ _ _ (cover0_B_5 c i g1 h1 g2 h2 g3 h3 g4 h4 g5 h5 g6 h6 g7 h7 hc0 x0 x1 x2 x3 x4 xo)]
  unfold kernelRun0_B
  dsimp only
  sl_unfold_words
  rw [View.canon_unit_zero (S := S1024x1024) zero2]
  simp only [View.readAt_eq_ld, h1.read_unread, h2.read_unread, h3.read_unread, h4.read_unread, h5.read_unread,
    View.ld_unit_zero (S := S1x1024) zero2, View.ld_unit_zero (S := S1024x1024) zero2]

theorem out6_A (hc0 : cond0_0 i) :
    out0_A_6 c i g1 h1 g2 h2 g3 h3 g4 h4 g5 h5 g6 h6 g7 h7 hc0 x0 x1 x2 x3 x4
      = setRow 2 (k0_pay2 (k0_pay6 x0) (k0_pay7 x2 x3) (rowOf 2 (k0_pay4 (F := F)))) (setRow 1 (k0_pay1 (k0_pay9 (rowOf 1 (k0_pay4 (F := F)))) (k0_pay10 x0 x1 x3)) (setRow 0 (k0_pay8 x3 (rowOf 0 (k0_pay4 (F := F)))) (k0_pay4 (F := F)))) := by
  unfold out0_A_6
  unfold kernelRun0_A
  dsimp only
  sl_unfold_words
  refine (read_row (R := 8) (C := 1024) _ _ 2 _ _ _).trans ?_
  refine congrArg₂ (setRow 2) ?_ ((read_row (R := 8) (C := 1024) _ _ 1 _ _ _).trans (congrArg₂ (setRow 1) ?_ ((read_row (R := 8) (C := 1024) _ _ 0 _ _ _).trans (congrArg₂ (setRow 0) ?_ (View.read_writes_full _ _ _ _ _)))))
  · simp only [View.readAt_eq_ld, h1.read_unread, h2.read_unread, h3.read_unread, h4.read_unread, h5.read_unread,
    View.ld_unit_zero (S := S1x1024) zero2, View.ld_unit_zero (S := S1024x1024) zero2]
    exact congrArg (fun z => k0_pay2 (k0_pay6 x0) (k0_pay7 x2 x3) z) ((readCov_skip_row (Val := Elt F) (e := .f32) (R := 8) (C := 1024) g7.view 1 2 (by decide) (by decide) _ _ _ _).trans ((readCov_skip_row (Val := Elt F) (e := .f32) (R := 8) (C := 1024) g7.view 0 2 (by decide) (by decide) _ _ _ _).trans ((View.readCov_fill (s := S8x1024) _ _ _ _ _ (fun a => congrFun zero2 a)).trans (ld_row (Val := Elt F) (e := .f32) (R := 8) (C := 1024) (k0_pay4 (F := F)) 2 (by decide) _))))
  · simp only [View.readAt_eq_ld, h1.read_unread, h2.read_unread, h3.read_unread, h4.read_unread, h5.read_unread,
    View.ld_unit_zero (S := S1x1024) zero2, View.ld_unit_zero (S := S1024x1024) zero2]
    exact congrArg (fun z => k0_pay1 (k0_pay9 z) (k0_pay10 x0 x1 x3)) ((readCov_skip_row (Val := Elt F) (e := .f32) (R := 8) (C := 1024) g7.view 0 1 (by decide) (by decide) _ _ _ _).trans ((View.readCov_fill (s := S8x1024) _ _ _ _ _ (fun a => congrFun zero2 a)).trans (ld_row (Val := Elt F) (e := .f32) (R := 8) (C := 1024) (k0_pay4 (F := F)) 1 (by decide) _)))
  · simp only [View.readCov_fill (s := S8x1024) _ _ _ _ _ (fun a => congrFun zero2 a), View.readAt_eq_ld, h1.read_unread, h2.read_unread, h3.read_unread, h4.read_unread, h5.read_unread,
    View.ld_unit_zero (S := S1x1024) zero2, View.ld_unit_zero (S := S1024x1024) zero2]
    exact congrArg (fun z => k0_pay8 x3 z) (ld_row (Val := Elt F) (e := .f32) (R := 8) (C := 1024) (k0_pay4 (F := F)) 0 (by decide) _)

theorem out6_B (hc0 : ¬cond0_0 i) :
    out0_B_6 c i g1 h1 g2 h2 g3 h3 g4 h4 g5 h5 g6 h6 g7 h7 hc0 x0 x1 x2 x3 x4 xo
      = setRow 2 (k0_pay2 (k0_pay6 x0) (k0_pay7 x2 x3) (rowOf 2 xo)) (setRow 1 (k0_pay1 (k0_pay9 (rowOf 1 xo)) (k0_pay10 x0 x1 x3)) (setRow 0 (k0_pay8 x3 (rowOf 0 xo)) xo)) := by
  unfold out0_B_6
  unfold kernelRun0_B
  dsimp only
  sl_unfold_words
  refine (read_row (R := 8) (C := 1024) _ _ 2 _ _ _).trans ?_
  refine congrArg₂ (setRow 2) ?_ ((read_row (R := 8) (C := 1024) _ _ 1 _ _ _).trans (congrArg₂ (setRow 1) ?_ ((read_row (R := 8) (C := 1024) _ _ 0 _ _ _).trans (congrArg₂ (setRow 0) ?_ (h7.read_unread xo)))))
  · simp only [h7.read_unread, View.readAt_eq_ld, h1.read_unread, h2.read_unread, h3.read_unread, h4.read_unread, h5.read_unread,
    View.ld_unit_zero (S := S1x1024) zero2, View.ld_unit_zero (S := S1024x1024) zero2]
    exact congrArg (fun z => k0_pay2 (k0_pay6 x0) (k0_pay7 x2 x3) z) (ld_row (R := 8) (C := 1024) xo 2 (by decide) _)
  · simp only [h7.read_unread, View.readAt_eq_ld, h1.read_unread, h2.read_unread, h3.read_unread, h4.read_unread, h5.read_unread,
    View.ld_unit_zero (S := S1x1024) zero2, View.ld_unit_zero (S := S1024x1024) zero2]
    exact congrArg (fun z => k0_pay1 (k0_pay9 z) (k0_pay10 x0 x1 x3)) (ld_row (R := 8) (C := 1024) xo 1 (by decide) _)
  · simp only [h7.read_unread, View.readAt_eq_ld, h1.read_unread, h2.read_unread, h3.read_unread, h4.read_unread, h5.read_unread,
    View.ld_unit_zero (S := S1x1024) zero2, View.ld_unit_zero (S := S1024x1024) zero2]
    exact congrArg (fun z => k0_pay8 x3 z) (ld_row (R := 8) (C := 1024) xo 0 (by decide) _)

end Cases

section Steps
variable {F : FTy → Type} [FloatOps F]
variable (m : (ℓ : Loc nD τ sig) → Buf (Elt F) ℓ)

theorem dx_step (c : Dev nD) (t : Fin cfg0.N) : (outsAt0 m c t.val t.isLt).1 = (k0_pay3 (iblk m c 1 t) (iblk m c 4 t) (k0_pay5 (iblk m c 0 t)) (k0_pay6 (iblk m c 0 t)) (k0_pay7 (iblk m c 2 t) (iblk m c 3 t))) := by
  by_cases h0 : t.val % 4 = 0
  · rw [outsAt0_A m c t h0]
    dsimp only
    rw [out5_A]
  · rw [outsAt0_B m c t h0]
    dsimp only
    rw [out5_B]

theorem sums_A (c : Dev nD) (t : Fin cfg0.N) (h0 : t.val % 4 = 0) : (outsAt0 m c t.val t.isLt).2 = setRow 2 (k0_pay2 (k0_pay6 (iblk m c 0 t)) (k0_pay7 (iblk m c 2 t) (iblk m c 3 t)) (rowOf 2 (k0_pay4 (F := F))))
      (setRow 1 (k0_pay1 (k0_pay9 (rowOf 1 (k0_pay4 (F := F)))) (k0_pay10 (iblk m c 0 t) (iblk m c 1 t) (iblk m c 3 t))) (setRow 0 (k0_pay8 (iblk m c 3 t) (rowOf 0 (k0_pay4 (F := F)))) (k0_pay4 (F := F)))) := by
  rw [outsAt0_A m c t h0]
  dsimp only
  rw [out6_A]

theorem sums_B (c : Dev nD) (t : Fin cfg0.N) (h0 : ¬t.val % 4 = 0) (n : ℕ) (hn : n < cfg0.N) (e : t.val - 1 = n) : (outsAt0 m c t.val t.isLt).2 = setRow 2 (k0_pay2 (k0_pay6 (iblk m c 0 t)) (k0_pay7 (iblk m c 2 t) (iblk m c 3 t)) (rowOf 2 (outsAt0 m c n hn).2))
      (setRow 1 (k0_pay1 (k0_pay9 (rowOf 1 (outsAt0 m c n hn).2)) (k0_pay10 (iblk m c 0 t) (iblk m c 1 t) (iblk m c 3 t))) (setRow 0 (k0_pay8 (iblk m c 3 t) (rowOf 0 (outsAt0 m c n hn).2)) (outsAt0 m c n hn).2)) := by
  subst e
  rw [outsAt0_B m c t h0]
  dsimp only
  rw [out6_B]

theorem outs_congr (c : Dev nD) (n n' : ℕ) (h : n < cfg0.N) (h' : n' < cfg0.N) (e : n = n') : outsAt0 m c n h = outsAt0 m c n' h' := by
  subst e; rfl

end Steps

/-! ## The stored values at an index, over the extended reals -/

theorem zero_apply (i : S8x1024.Idx) : (k0_pay4 (F := Ideal) : S8x1024.Idx → EReal) i = 0 := by
  unfold k0_pay4
  exact Ideal.ofBits_zero_f32

theorem r_apply (x : S1024x1024.Idx → EReal) (r : Fin 1024) : (k0_pay5 (F := Ideal) x : S1024x1.Idx → EReal) (ix2 r (0 : Fin 1)) = rms (fun k => x (ix2 r k)) := by
  unfold k0_pay5
  exact rms_apply (R := 1024) x reduces_S1024x1024_S1024 (.inl rfl) rfl shapeCasts_S1024_S1024x1 r

theorem n_apply (x : S1024x1024.Idx → EReal) (r q : Fin 1024) : (k0_pay6 (F := Ideal) x : S1024x1024.Idx → EReal) (ix2 r q) = x (ix2 r q) * rms (fun k => x (ix2 r k)) := by
  unfold k0_pay6
  exact congrArg (fun z : EReal => x (ix2 r q) * z) ((col_spread (k0_pay5 (F := Ideal) x : S1024x1.Idx → EReal) broadcasts_S1024x1_S1024x1024 r q).trans (r_apply x r))

theorem t_apply (s : S1x1024.Idx → EReal) (d : S1024x1024.Idx → EReal) (r q : Fin 1024) : (k0_pay7 (F := Ideal) s d : S1024x1024.Idx → EReal) (ix2 r q) = d (ix2 r q) * (FloatOps.ofBits (F := Ideal) .f32 0x3F800000#32 + s (ix2 (0 : Fin 1) q)) := by
  unfold k0_pay7
  exact congrArg (fun z : EReal => d (ix2 r q) * z) (broadcastTo_1b_ab_apply (addf (F := Ideal) (φ := .f32) (broadcast S1x1024 (Scalar.ofBits (F := Ideal) .f32 0x3F800000#32)) s) broadcasts_S1x1024_S1024x1024 r q)

theorem row0_apply (d : S1024x1024.Idx → EReal) (w : S1x1024.Idx → EReal) (u : Fin 1) (q : Fin 1024) : (k0_pay8 (F := Ideal) d w : S1x1024.Idx → EReal) (ix2 u q) = w (ix2 u q) + ∑ k : Fin 1024, d (ix2 k q) := by
  unfold k0_pay8
  simp only [shapeCast_self]
  exact congrArg (fun z : EReal => w (ix2 u q) + z) (col_total (R := 1024) (C := 1024) d reduces_S1024x1024_S1024_2 (.inl rfl) rfl shapeCasts_S1024_S1x1024 u q)

theorem row2_apply (n d : S1024x1024.Idx → EReal) (w : S1x1024.Idx → EReal) (u : Fin 1) (q : Fin 1024) : (k0_pay2 (F := Ideal) n d w : S1x1024.Idx → EReal) (ix2 u q) = w (ix2 u q) + ∑ k : Fin 1024, d (ix2 k q) * n (ix2 k q) := by
  unfold k0_pay2
  simp only [shapeCast_self]
  exact congrArg (fun z : EReal => w (ix2 u q) + z) (col_total (R := 1024) (C := 1024) (mulf (F := Ideal) (φ := .f32) d n) reduces_S1024x1024_S1024_2 (.inl rfl) rfl shapeCasts_S1024_S1x1024 u q)

theorem row1_apply (x d : S1024x1024.Idx → EReal) (g w : S1x1024.Idx → EReal) (u : Fin 1) (q : Fin 1024) :
    (k0_pay1 (F := Ideal) (k0_pay9 (F := Ideal) w) (k0_pay10 (F := Ideal) x g d) : S1x1024.Idx → EReal) (ix2 u q) = w (ix2 u q) + ∑ k : Fin 1024, d (ix2 k q) * (x (ix2 k q) * rms (fun l => x (ix2 k l)) * g (ix2 (0 : Fin 1) q)) := by
  unfold k0_pay1 k0_pay9 k0_pay10
  simp only [shapeCast_self]
  exact congrArg (fun z : EReal => w (ix2 u q) + z) ((col_total (R := 1024) (C := 1024) (mulf (F := Ideal) (φ := .f32) d (mulf (F := Ideal) (φ := .f32) (k0_pay6 (F := Ideal) x) (broadcastTo S1024x1024 g broadcasts_S1x1024_S1024x1024)))
    reduces_S1024x1024_S1024_2 (.inl rfl) rfl shapeCasts_S1024_S1x1024 u q).trans (Finset.sum_congr rfl fun k _ =>
      congrArg (fun z : EReal => d (ix2 k q) * z) (congrArg₂ (fun a b : EReal => a * b) (n_apply x k q) (broadcastTo_1b_ab_apply g broadcasts_S1x1024_S1024x1024 k q))))

theorem dx_apply (g s : S1x1024.Idx → EReal) (t x h : S1024x1024.Idx → EReal) (r q : Fin 1024) (X D : Fin 1024 → EReal) (hx : ∀ k, x (ix2 r k) = X k)
    (hd : ∀ k, h (ix2 r k) * (FloatOps.ofBits (F := Ideal) .f32 0x3F800000#32 + s (ix2 (0 : Fin 1) k)) * g (ix2 (0 : Fin 1) k) = D k) :
    (k0_pay3 (F := Ideal) g t (k0_pay5 (F := Ideal) x) (k0_pay6 (F := Ideal) x) (k0_pay7 (F := Ideal) s h) : S1024x1024.Idx → EReal) (ix2 r q)
      = t (ix2 r q) + rms X * (D q - X q * rms X * Ideal.div (∑ k, D k * (X k * rms X)) n1024) := by
  obtain rfl : (fun k => x (ix2 r k)) = X := funext hx
  have hn := n_apply x r
  have ht : ∀ k : Fin 1024, (k0_pay7 (F := Ideal) s h : S1024x1024.Idx → EReal) (ix2 r k) * (broadcastTo S1024x1024 g broadcasts_S1x1024_S1024x1024 : S1024x1024.Idx → EReal) (ix2 r k) = D k := fun k =>
    (congrArg₂ (fun a b : EReal => a * b) (t_apply s h r k) (broadcastTo_1b_ab_apply g broadcasts_S1x1024_S1024x1024 r k)).trans (hd k)
  unfold k0_pay3
  refine congrArg (fun z : EReal => t (ix2 r q) + z) (congrArg₂ (fun a b : EReal => a * b)
    ((col_spread (k0_pay5 (F := Ideal) x : S1024x1.Idx → EReal) broadcasts_S1024x1_S1024x1024 r q).trans (r_apply x r))
    (congrArg₂ (fun a b : EReal => a - b) (ht q) (congrArg₂ (fun a b : EReal => a * b) (hn q) ((col_spread _ broadcasts_S1024x1_S1024x1024 r q).trans
      (congrArg (fun z : EReal => Ideal.div z n1024) ((row_total (R := 1024) (C := 1024) _ reduces_S1024x1024_S1024 (.inl rfl) rfl shapeCasts_S1024_S1024x1 r).trans
        (Finset.sum_congr rfl fun k _ => congrArg₂ (fun a b : EReal => a * b) (ht k) (hn k))))))))

/-- One block of rows added to the three column sums. -/
theorem rows_apply (x d : S1024x1024.Idx → EReal) (g s : S1x1024.Idx → EReal) (w : S8x1024.Idx → EReal) (r : Fin 8) (q : Fin 1024) :
    (setRow 2 (k0_pay2 (F := Ideal) (k0_pay6 (F := Ideal) x) (k0_pay7 (F := Ideal) s d) (rowOf 2 w)) (setRow 1 (k0_pay1 (F := Ideal) (k0_pay9 (F := Ideal) (rowOf 1 w)) (k0_pay10 (F := Ideal) x g d)) (setRow 0 (k0_pay8 (F := Ideal) d (rowOf 0 w)) w)) : S8x1024.Idx → EReal) (ix2 r q)
      = w (ix2 r q) + ∑ k : Fin 1024, share (d (ix2 k q)) (x (ix2 k q) * rms (fun l => x (ix2 k l))) (g (ix2 (0 : Fin 1) q)) (FloatOps.ofBits (F := Ideal) .f32 0x3F800000#32 + s (ix2 (0 : Fin 1) q)) r.val := by
  refine (setRow_apply 2 _ _ r q).trans ?_
  by_cases h2 : r = 2
  · subst h2
    refine (if_pos rfl).trans ((row2_apply _ _ _ 0 q).trans ?_)
    exact congrArg (fun z : EReal => w (ix2 (2 : Fin 8) q) + z) (Finset.sum_congr rfl fun k _ => congrArg₂ (fun a b : EReal => a * b) (t_apply s d k q) (n_apply x k q))
  refine (if_neg fun h => h2 (Fin.ext h)).trans ((setRow_apply 1 _ _ r q).trans ?_)
  by_cases h1 : r = 1
  · subst h1
    exact (if_pos rfl).trans (row1_apply x d g _ 0 q)
  refine (if_neg fun h => h1 (Fin.ext h)).trans ((setRow_apply 0 _ _ r q).trans ?_)
  by_cases h0 : r = 0
  · subst h0
    exact (if_pos rfl).trans (row0_apply d _ 0 q)
  refine (if_neg fun h => h0 (Fin.ext h)).trans ?_
  have e0 : r.val ≠ 0 := fun h => h0 (Fin.ext h)
  have e1 : r.val ≠ 1 := fun h => h1 (Fin.ext h)
  have e2 : r.val ≠ 2 := fun h => h2 (Fin.ext h)
  rw [show r.val = (r.val - 3) + 3 by omega]
  exact ((congrArg (fun z : EReal => w (ix2 r q) + z) Finset.sum_const_zero).trans (add_zero _)).symm

/-! ## What a grid point reads -/

variable (m : (ℓ : Loc nD τ sig) → Buf (Elt Ideal) ℓ)

abbrev a0 (c : Dev nD) : S4096x1024.Idx → EReal := m ((c : Thread nD τ).loc main_arg0)
abbrev a1 (c : Dev nD) : S1x1024.Idx → EReal := m ((c : Thread nD τ).loc main_arg1)
abbrev a2 (c : Dev nD) : S1x1024.Idx → EReal := m ((c : Thread nD τ).loc main_arg2)
abbrev a3 (c : Dev nD) : S1x1024.Idx → EReal := m ((c : Thread nD τ).loc main_arg3)
abbrev a4 (c : Dev nD) : S4096x1024.Idx → EReal := m ((c : Thread nD τ).loc main_arg4)
abbrev a5 (c : Dev nD) : S4096x1024.Idx → EReal := m ((c : Thread nD τ).loc main_arg5)

/-- Where each window stands at grid point `t`. -/
theorem idx_in : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0
    ∧ win0_5.flush t = true :=
  (by decide +kernel : ∀ t : Fin grid0.N, _)

/-- The sums are written back at the last point alone. -/
theorem flush_last : ∀ t : Fin cfg0.N, ((cfg0.win 6).flush t = true → t.val = 3) ∧ (t.val = 3 → (cfg0.win 6).flush t = true) :=
  (by decide +kernel : ∀ t : Fin grid0.N, _)

abbrev b0 (c : Dev nD) (t : Fin cfg0.N) : S1024x1024.Idx → EReal := iblk m c 0 t

theorem blk0 (c : Dev nD) (t : Fin cfg0.N) (y : S1024x1024.Idx) (k : S4096x1024.Idx) (h0 : (k 0).val = 1024 * (t.val) + (y 0).val) (h1 : (k 1).val = (y 1).val) :
    b0 m c t y = a0 m c k := by
  obtain ⟨e0, e1, -⟩ := idx_in t
  have hb0 : (((cfg0.win 0).blk t).view.emb y 0).val = win0_0.index t (0 : Fin 2) * 1024 + 1 * (y 0).val := rfl
  have hb1 : (((cfg0.win 0).blk t).view.emb y 1).val = win0_0.index t (1 : Fin 2) * 1024 + 1 * (y 1).val := rfl
  show V m c main_arg0 (((cfg0.win 0).blk t).view.emb y) = _
  entry_read
  refine congrArg (a0 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b1 (c : Dev nD) (t : Fin cfg0.N) : S1x1024.Idx → EReal := iblk m c 1 t

theorem blk1 (c : Dev nD) (t : Fin cfg0.N) (y : S1x1024.Idx) (k : S1x1024.Idx) (h0 : (k 0).val = (y 0).val) (h1 : (k 1).val = (y 1).val) :
    b1 m c t y = a1 m c k := by
  obtain ⟨-, -, e0, e1, -⟩ := idx_in t
  have hb0 : (((cfg0.win 1).blk t).view.emb y 0).val = win0_1.index t (0 : Fin 2) * 1 + 1 * (y 0).val := rfl
  have hb1 : (((cfg0.win 1).blk t).view.emb y 1).val = win0_1.index t (1 : Fin 2) * 1024 + 1 * (y 1).val := rfl
  show V m c main_arg1 (((cfg0.win 1).blk t).view.emb y) = _
  entry_read
  refine congrArg (a1 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b2 (c : Dev nD) (t : Fin cfg0.N) : S1x1024.Idx → EReal := iblk m c 2 t

theorem blk2 (c : Dev nD) (t : Fin cfg0.N) (y : S1x1024.Idx) (k : S1x1024.Idx) (h0 : (k 0).val = (y 0).val) (h1 : (k 1).val = (y 1).val) :
    b2 m c t y = a2 m c k := by
  obtain ⟨-, -, -, -, e0, e1, -⟩ := idx_in t
  have hb0 : (((cfg0.win 2).blk t).view.emb y 0).val = win0_2.index t (0 : Fin 2) * 1 + 1 * (y 0).val := rfl
  have hb1 : (((cfg0.win 2).blk t).view.emb y 1).val = win0_2.index t (1 : Fin 2) * 1024 + 1 * (y 1).val := rfl
  show V m c main_arg2 (((cfg0.win 2).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b3 (c : Dev nD) (t : Fin cfg0.N) : S1024x1024.Idx → EReal := iblk m c 3 t

theorem blk3 (c : Dev nD) (t : Fin cfg0.N) (y : S1024x1024.Idx) (k : S4096x1024.Idx) (h0 : (k 0).val = 1024 * (t.val) + (y 0).val) (h1 : (k 1).val = (y 1).val) :
    b3 m c t y = a4 m c k := by
  obtain ⟨-, -, -, -, -, -, e0, e1, -⟩ := idx_in t
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  show V m c main_arg4 (((cfg0.win 3).blk t).view.emb y) = _
  entry_read
  refine congrArg (a4 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b4 (c : Dev nD) (t : Fin cfg0.N) : S1024x1024.Idx → EReal := iblk m c 4 t

theorem blk4 (c : Dev nD) (t : Fin cfg0.N) (y : S1024x1024.Idx) (k : S4096x1024.Idx) (h0 : (k 0).val = 1024 * (t.val) + (y 0).val) (h1 : (k 1).val = (y 1).val) :
    b4 m c t y = a5 m c k := by
  obtain ⟨-, -, -, -, -, -, -, -, e0, e1, -⟩ := idx_in t
  have hb0 : (((cfg0.win 4).blk t).view.emb y 0).val = win0_4.index t (0 : Fin 2) * 1024 + 1 * (y 0).val := rfl
  have hb1 : (((cfg0.win 4).blk t).view.emb y 1).val = win0_4.index t (1 : Fin 2) * 1024 + 1 * (y 1).val := rfl
  show V m c main_arg5 (((cfg0.win 4).blk t).view.emb y) = _
  entry_read
  refine congrArg (a5 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

/-! ## The reference, entry by entry -/

theorem d_ref (x4 : S4096x1024.Idx → EReal) (p : Fin 4096) (q : Fin 1024) : LnmodBwdRefIdeal.Read.val_main_v21 (F := Ideal) x4 (ix2 (n0 := 4096) (n1 := 1024) p q) = x4 (ix2 (n0 := 4096) (n1 := 1024) p q) := by
  rw [LnmodBwdRefIdeal.Read.val_main_v21_apply]
  exact congrArg x4 (idx_ext (by show (p.val * 1024 + q.val) / 1024 = p.val; omega) (by show (p.val * 1024 + q.val) % 1024 = q.val; omega))

theorem ms_ref (x0 : S4096x1024.Idx → EReal) (p : Fin 4096) (i : LnmodBwdRefIdeal.S4096x1.Idx) (hi : (i 0).val = p.val) :
    LnmodBwdRefIdeal.Read.val_main_v6 (F := Ideal) x0 i = ms (fun k => x0 (ix2 (n0 := 4096) (n1 := 1024) p k)) := by
  rw [LnmodBwdRefIdeal.Read.val_main_v6_apply, LnmodBwdRefIdeal.Read.val_main_v4_apply, LnmodBwdRefIdeal.Read.val_main_v2_apply, LnmodBwdRefIdeal.Read.val_main_v1_apply, LnmodBwdRefIdeal.Read.val_main_v3_apply, LnmodBwdRefIdeal.Read.val_main_v5_apply, LnmodBwdRefIdeal.Read.val_main_cst_0_apply, LnmodBwdRefIdeal.Read.val_main_cst_1_apply, LnmodBwdRefIdeal.Read.val_main_cst_apply]
  have hj : ∀ k : Fin 1024, LnmodBwdRefIdeal.Read.idx_main_v1 (LnmodBwdRefIdeal.Read.idx_main_v2 i) k = ix2 (n0 := 4096) (n1 := 1024) p k := fun k => idx_ext hi rfl
  exact congrArg (fun z : EReal => Ideal.div z n1024 + eps) ((congrArg (fun z : EReal => z + _) Ideal.ofBits_zero_f32).trans ((zero_add _).trans
    (Finset.sum_congr rfl fun k _ => congrArg (fun j => x0 j * x0 j) (hj k))))

theorem rms_ref (x0 : S4096x1024.Idx → EReal) (p : Fin 4096) (i : LnmodBwdRefIdeal.S4096x1.Idx) (hi : (i 0).val = p.val) :
    LnmodBwdRefIdeal.Read.val_main_v7 (F := Ideal) x0 i = rms (fun k => x0 (ix2 (n0 := 4096) (n1 := 1024) p k)) := by
  rw [LnmodBwdRefIdeal.Read.val_main_v7_apply, rms_eq]
  exact congrArg Ideal.rsqrt (ms_ref x0 p i hi)

theorem slope_ref (x0 : S4096x1024.Idx → EReal) (p : Fin 4096) (i : LnmodBwdRefIdeal.S4096x1.Idx) (hi : (i 0).val = p.val) :
    LnmodBwdRefIdeal.Read.val_main_v10 (F := Ideal) x0 i = mhalf * Ideal.div (rms (fun k => x0 (ix2 (n0 := 4096) (n1 := 1024) p k))) (ms (fun k => x0 (ix2 (n0 := 4096) (n1 := 1024) p k))) := by
  rw [LnmodBwdRefIdeal.Read.val_main_v10_apply, LnmodBwdRefIdeal.Read.val_main_v9_apply, LnmodBwdRefIdeal.Read.val_main_cst_2_apply, LnmodBwdRefIdeal.Read.val_main_v8_apply]
  exact congrArg₂ (fun a b : EReal => mhalf * Ideal.div a b) (rms_ref x0 p i hi) (ms_ref x0 p i hi)

theorem n_ref (x0 : S4096x1024.Idx → EReal) (p : Fin 4096) (q : Fin 1024) : LnmodBwdRefIdeal.Read.val_main_v12 (F := Ideal) x0 (ix2 (n0 := 4096) (n1 := 1024) p q) = x0 (ix2 (n0 := 4096) (n1 := 1024) p q) * rms (fun k => x0 (ix2 (n0 := 4096) (n1 := 1024) p k)) := by
  rw [LnmodBwdRefIdeal.Read.val_main_v12_apply, LnmodBwdRefIdeal.Read.val_main_v11_apply]
  exact congrArg (fun z : EReal => x0 (ix2 (n0 := 4096) (n1 := 1024) p q) * z) (rms_ref x0 p _ rfl)

theorem w_ref (x0 : S4096x1024.Idx → EReal) (x1 : S1x1024.Idx → EReal) (p : Fin 4096) (q : Fin 1024) :
    LnmodBwdRefIdeal.Read.val_main_v14 (F := Ideal) x0 x1 (ix2 (n0 := 4096) (n1 := 1024) p q) = x0 (ix2 (n0 := 4096) (n1 := 1024) p q) * rms (fun k => x0 (ix2 (n0 := 4096) (n1 := 1024) p k)) * x1 (ix2 (n0 := 1) (n1 := 1024) 0 q) := by
  rw [LnmodBwdRefIdeal.Read.val_main_v14_apply, LnmodBwdRefIdeal.Read.val_main_v13_apply]
  exact congrArg₂ (fun a b : EReal => a * b) (n_ref x0 p q) (congrArg x1 (idx_ext rfl rfl))

theorem t_ref (x2 : S1x1024.Idx → EReal) (x4 : S4096x1024.Idx → EReal) (p : Fin 4096) (q : Fin 1024) :
    LnmodBwdRefIdeal.Read.val_main_v28 (F := Ideal) x2 x4 (ix2 (n0 := 4096) (n1 := 1024) p q) = LnmodBwdRefIdeal.Read.val_main_v21 (F := Ideal) x4 (ix2 (n0 := 4096) (n1 := 1024) p q) * (FloatOps.ofBits (F := Ideal) .f32 0x3F800000#32 + x2 (ix2 (n0 := 1) (n1 := 1024) 0 q)) := by
  rw [LnmodBwdRefIdeal.Read.val_main_v28_apply, LnmodBwdRefIdeal.Read.val_main_v27_apply, LnmodBwdRefIdeal.Read.val_main_v16_apply, LnmodBwdRefIdeal.Read.val_main_v15_apply, LnmodBwdRefIdeal.Read.val_main_cst_3_apply]
  exact congrArg (fun z : EReal => LnmodBwdRefIdeal.Read.val_main_v21 (F := Ideal) x4 (ix2 (n0 := 4096) (n1 := 1024) p q) * (FloatOps.ofBits (F := Ideal) .f32 0x3F800000#32 + z)) (congrArg x2 (idx_ext rfl rfl))

theorem dn_ref (x1 x2 : S1x1024.Idx → EReal) (x4 : S4096x1024.Idx → EReal) (p : Fin 4096) (q : Fin 1024) :
    LnmodBwdRefIdeal.Read.val_main_v33 (F := Ideal) x1 x2 x4 (ix2 (n0 := 4096) (n1 := 1024) p q) = LnmodBwdRefIdeal.Read.val_main_v21 (F := Ideal) x4 (ix2 (n0 := 4096) (n1 := 1024) p q) * (FloatOps.ofBits (F := Ideal) .f32 0x3F800000#32 + x2 (ix2 (n0 := 1) (n1 := 1024) 0 q)) * x1 (ix2 (n0 := 1) (n1 := 1024) 0 q) := by
  rw [LnmodBwdRefIdeal.Read.val_main_v33_apply, LnmodBwdRefIdeal.Read.val_main_v32_apply]
  exact congrArg₂ (fun a b : EReal => a * b) (t_ref x2 x4 p q) (congrArg x1 (idx_ext rfl rfl))

theorem spread_ref (x0 : S4096x1024.Idx → EReal) (x1 x2 : S1x1024.Idx → EReal) (x4 : S4096x1024.Idx → EReal) (p : Fin 4096) (q : Fin 1024) :
    LnmodBwdRefIdeal.Read.val_main_v44 (F := Ideal) x0 x1 x2 x4 (ix2 (n0 := 4096) (n1 := 1024) p q) = spread (fun k => x0 (ix2 (n0 := 4096) (n1 := 1024) p k)) (fun k => LnmodBwdRefIdeal.Read.val_main_v33 (F := Ideal) x1 x2 x4 (ix2 (n0 := 4096) (n1 := 1024) p k)) := by
  rw [LnmodBwdRefIdeal.Read.val_main_v44_apply, LnmodBwdRefIdeal.Read.val_main_v43_apply, Fin.sum_univ_one, LnmodBwdRefIdeal.Read.val_main_v42_apply, LnmodBwdRefIdeal.Read.val_main_v40_apply, LnmodBwdRefIdeal.Read.val_main_v36_apply, LnmodBwdRefIdeal.Read.val_main_v35_apply, LnmodBwdRefIdeal.Read.val_main_v41_apply, LnmodBwdRefIdeal.Read.val_main_cst_7_apply, LnmodBwdRefIdeal.Read.val_main_cst_8_apply, LnmodBwdRefIdeal.Read.val_main_cst_9_apply]
  have hj : ∀ k : Fin 1024, LnmodBwdRefIdeal.Read.idx_main_v35 (LnmodBwdRefIdeal.Read.idx_main_v36 (LnmodBwdRefIdeal.Read.idx_main_v43 (LnmodBwdRefIdeal.Read.idx_main_v44 (ix2 (n0 := 4096) (n1 := 1024) p q)) 0)) k = ix2 (n0 := 4096) (n1 := 1024) p k := fun k => idx_ext (by show p.val * 1 + 0 = p.val; omega) rfl
  exact (congrArg (fun z : EReal => z + _) Ideal.ofBits_zero_f32).trans ((zero_add _).trans
    (congrArg₂ (fun a b : EReal => Ideal.div (a * b) n1024)
      ((congrArg (fun z : EReal => z + _) Ideal.ofBits_zero_f32).trans ((zero_add _).trans (Finset.sum_congr rfl fun k _ =>
        congrArg (fun j => x0 j * LnmodBwdRefIdeal.Read.val_main_v33 (F := Ideal) x1 x2 x4 j) (hj k))))
      (slope_ref x0 p _ rfl)))

theorem dx_ref (x0 : S4096x1024.Idx → EReal) (x1 x2 : S1x1024.Idx → EReal) (x4 : S4096x1024.Idx → EReal) (x5 : S4096x1024.Idx → EReal) (p : Fin 4096) (q : Fin 1024) :
    LnmodBwdRefIdeal.Read.val_main_v48 (F := Ideal) x0 x1 x2 x4 x5 (ix2 (n0 := 4096) (n1 := 1024) p q)
      = x5 (ix2 (n0 := 4096) (n1 := 1024) p q) + LnmodBwdRefIdeal.Read.val_main_v33 (F := Ideal) x1 x2 x4 (ix2 (n0 := 4096) (n1 := 1024) p q) * rms (fun k => x0 (ix2 (n0 := 4096) (n1 := 1024) p k))
        + x0 (ix2 (n0 := 4096) (n1 := 1024) p q) * spread (fun k => x0 (ix2 (n0 := 4096) (n1 := 1024) p k)) (fun k => LnmodBwdRefIdeal.Read.val_main_v33 (F := Ideal) x1 x2 x4 (ix2 (n0 := 4096) (n1 := 1024) p k)) + spread (fun k => x0 (ix2 (n0 := 4096) (n1 := 1024) p k)) (fun k => LnmodBwdRefIdeal.Read.val_main_v33 (F := Ideal) x1 x2 x4 (ix2 (n0 := 4096) (n1 := 1024) p k)) * x0 (ix2 (n0 := 4096) (n1 := 1024) p q) := by
  rw [LnmodBwdRefIdeal.Read.val_main_v48_apply, LnmodBwdRefIdeal.Read.val_main_v47_apply, LnmodBwdRefIdeal.Read.val_main_v46_apply, LnmodBwdRefIdeal.Read.val_main_v45_apply, LnmodBwdRefIdeal.Read.val_main_v39_apply, LnmodBwdRefIdeal.Read.val_main_v38_apply, LnmodBwdRefIdeal.Read.val_main_v37_apply, spread_ref x0 x1 x2 x4 p q]
  exact congrArg (fun z : EReal => x5 (ix2 (n0 := 4096) (n1 := 1024) p q) + LnmodBwdRefIdeal.Read.val_main_v33 (F := Ideal) x1 x2 x4 (ix2 (n0 := 4096) (n1 := 1024) p q) * z + x0 (ix2 (n0 := 4096) (n1 := 1024) p q) * spread (fun k => x0 (ix2 (n0 := 4096) (n1 := 1024) p k)) (fun k => LnmodBwdRefIdeal.Read.val_main_v33 (F := Ideal) x1 x2 x4 (ix2 (n0 := 4096) (n1 := 1024) p k)) + spread (fun k => x0 (ix2 (n0 := 4096) (n1 := 1024) p k)) (fun k => LnmodBwdRefIdeal.Read.val_main_v33 (F := Ideal) x1 x2 x4 (ix2 (n0 := 4096) (n1 := 1024) p k)) * x0 (ix2 (n0 := 4096) (n1 := 1024) p q))
    (rms_ref x0 p _ rfl)

/-- What row `x` adds to entry `(r, q)` of the sums. -/
abbrev part (x0 : S4096x1024.Idx → EReal) (x1 x2 : S1x1024.Idx → EReal) (x4 : S4096x1024.Idx → EReal) (r : ℕ) (q : Fin 1024) (x : Fin 4096) : EReal :=
  share (LnmodBwdRefIdeal.Read.val_main_v21 (F := Ideal) x4 (ix2 (n0 := 4096) (n1 := 1024) x q)) (x0 (ix2 (n0 := 4096) (n1 := 1024) x q) * rms (fun k => x0 (ix2 (n0 := 4096) (n1 := 1024) x k))) (x1 (ix2 (n0 := 1) (n1 := 1024) 0 q)) (FloatOps.ofBits (F := Ideal) .f32 0x3F800000#32 + x2 (ix2 (n0 := 1) (n1 := 1024) 0 q)) r

theorem sums_ref (x0 : S4096x1024.Idx → EReal) (x1 x2 : S1x1024.Idx → EReal) (x4 : S4096x1024.Idx → EReal) (r : Fin 8) (q : Fin 1024) :
    LnmodBwdRefIdeal.Read.val_main_v50 (F := Ideal) x0 x1 x2 x4 (ix2 (n0 := 8) (n1 := 1024) r q) = ∑ x : Fin 4096, part x0 x1 x2 x4 r.val q x := by
  unfold LnmodBwdRefIdeal.Read.val_main_v50
  by_cases h0 : r = 0
  · subst h0
    refine (concatenate_apply_piece (t := LnmodBwdRefIdeal.S8x1024) 0 _ _ (ix2 (n0 := 8) (n1 := 1024) (0 : Fin 8) q) 0 (by show 0 < 4; decide) LnmodBwdRefIdeal.S1x1024 (LnmodBwdRefIdeal.Read.val_main_v23 (F := Ideal) x4) rfl rfl 0 rfl
      (ix2 (n0 := 1) (n1 := 1024) 0 q) (fun b hb => match b with
        | ⟨0, _⟩ => absurd rfl hb
        | ⟨1, _⟩ => rfl) rfl).trans ?_
    rw [LnmodBwdRefIdeal.Read.val_main_v23_apply, LnmodBwdRefIdeal.Read.val_main_v22_apply, LnmodBwdRefIdeal.Read.val_main_cst_4_apply]
    exact (congrArg (fun z : EReal => z + _) Ideal.ofBits_zero_f32).trans ((zero_add _).trans (Finset.sum_congr rfl fun x _ => by
      have hj : LnmodBwdRefIdeal.Read.idx_main_v22 (LnmodBwdRefIdeal.Read.idx_main_v23 (ix2 (n0 := 1) (n1 := 1024) 0 q)) x = ix2 (n0 := 4096) (n1 := 1024) x q := idx_ext rfl (by show 0 * 1024 + q.val = q.val; omega)
      rw [hj]
      exact (d_ref x4 x q).symm))
  by_cases h1 : r = 1
  · subst h1
    refine (concatenate_apply_piece (t := LnmodBwdRefIdeal.S8x1024) 0 _ _ (ix2 (n0 := 8) (n1 := 1024) (1 : Fin 8) q) 1 (by show 1 < 4; decide) LnmodBwdRefIdeal.S1x1024 (LnmodBwdRefIdeal.Read.val_main_v26 (F := Ideal) x0 x1 x4) rfl rfl 1 rfl
      (ix2 (n0 := 1) (n1 := 1024) 0 q) (fun b hb => match b with
        | ⟨0, _⟩ => absurd rfl hb
        | ⟨1, _⟩ => rfl) rfl).trans ?_
    rw [LnmodBwdRefIdeal.Read.val_main_v26_apply, LnmodBwdRefIdeal.Read.val_main_v25_apply, LnmodBwdRefIdeal.Read.val_main_cst_5_apply]
    exact (congrArg (fun z : EReal => z + _) Ideal.ofBits_zero_f32).trans ((zero_add _).trans (Finset.sum_congr rfl fun x _ => by
      have hj : LnmodBwdRefIdeal.Read.idx_main_v25 (LnmodBwdRefIdeal.Read.idx_main_v26 (ix2 (n0 := 1) (n1 := 1024) 0 q)) x = ix2 (n0 := 4096) (n1 := 1024) x q := idx_ext rfl (by show 0 * 1024 + q.val = q.val; omega)
      rw [hj, LnmodBwdRefIdeal.Read.val_main_v24_apply, w_ref x0 x1 x q]
      exact mul_comm _ _))
  by_cases h2 : r = 2
  · subst h2
    refine (concatenate_apply_piece (t := LnmodBwdRefIdeal.S8x1024) 0 _ _ (ix2 (n0 := 8) (n1 := 1024) (2 : Fin 8) q) 2 (by show 2 < 4; decide) LnmodBwdRefIdeal.S1x1024 (LnmodBwdRefIdeal.Read.val_main_v31 (F := Ideal) x0 x2 x4) rfl rfl 2 rfl
      (ix2 (n0 := 1) (n1 := 1024) 0 q) (fun b hb => match b with
        | ⟨0, _⟩ => absurd rfl hb
        | ⟨1, _⟩ => rfl) rfl).trans ?_
    rw [LnmodBwdRefIdeal.Read.val_main_v31_apply, LnmodBwdRefIdeal.Read.val_main_v30_apply, LnmodBwdRefIdeal.Read.val_main_cst_6_apply]
    exact (congrArg (fun z : EReal => z + _) Ideal.ofBits_zero_f32).trans ((zero_add _).trans (Finset.sum_congr rfl fun x _ => by
      have hj : LnmodBwdRefIdeal.Read.idx_main_v30 (LnmodBwdRefIdeal.Read.idx_main_v31 (ix2 (n0 := 1) (n1 := 1024) 0 q)) x = ix2 (n0 := 4096) (n1 := 1024) x q := idx_ext rfl (by show 0 * 1024 + q.val = q.val; omega)
      rw [hj, LnmodBwdRefIdeal.Read.val_main_v29_apply, n_ref x0 x q, t_ref x2 x4 x q]
      exact mul_comm _ _))
  have e0 : r.val ≠ 0 := fun h => h0 (Fin.ext h)
  have e1 : r.val ≠ 1 := fun h => h1 (Fin.ext h)
  have e2 : r.val ≠ 2 := fun h => h2 (Fin.ext h)
  refine (concatenate_apply_piece (t := LnmodBwdRefIdeal.S8x1024) 0 _ _ (ix2 (n0 := 8) (n1 := 1024) r q) 3 (by show 3 < 4; decide) LnmodBwdRefIdeal.S5x1024 (LnmodBwdRefIdeal.Read.val_main_v49 (F := Ideal)) rfl rfl 3 rfl
      (ix2 (n0 := 5) (n1 := 1024) ⟨r.val - 3, by omega⟩ q) (fun b hb => match b with
        | ⟨0, _⟩ => absurd rfl hb
        | ⟨1, _⟩ => rfl) (by show 3 + (r.val - 3) = r.val; omega)).trans ?_
  rw [LnmodBwdRefIdeal.Read.val_main_v49_apply, LnmodBwdRefIdeal.Read.val_main_cst_10_apply]
  have e : r.val = (r.val - 3) + 3 := by omega
  rw [e]
  exact Ideal.ofBits_zero_f32.trans Finset.sum_const_zero.symm

theorem x_entry (c : Dev nD) (t : Fin cfg0.N) (n : ℕ) (h4 : n < 4) (ht : t.val = n) (r q : Fin 1024) :
    b0 m c t (ix2 r q) = a0 m c (ix2 (n0 := 4096) (n1 := 1024) ⟨1024 * n + r.val, by omega⟩ q) :=
  blk0 m c t (ix2 r q) (ix2 (n0 := 4096) (n1 := 1024) ⟨1024 * n + r.val, by omega⟩ q) (by show 1024 * n + r.val = 1024 * t.val + r.val; rw [ht]) rfl

theorem d_entry (c : Dev nD) (t : Fin cfg0.N) (n : ℕ) (h4 : n < 4) (ht : t.val = n) (r q : Fin 1024) :
    b3 m c t (ix2 r q) = LnmodBwdRefIdeal.Read.val_main_v21 (F := Ideal) (a4 m c) (ix2 (n0 := 4096) (n1 := 1024) ⟨1024 * n + r.val, by omega⟩ q) :=
  (blk3 m c t (ix2 r q) (ix2 (n0 := 4096) (n1 := 1024) ⟨1024 * n + r.val, by omega⟩ q) (by show 1024 * n + r.val = 1024 * t.val + r.val; rw [ht]) rfl).trans (d_ref (a4 m c) ⟨1024 * n + r.val, by omega⟩ q).symm

theorem g_entry (c : Dev nD) (t : Fin cfg0.N) (q : Fin 1024) : b1 m c t (ix2 (0 : Fin 1) q) = a1 m c (ix2 (n0 := 1) (n1 := 1024) 0 q) :=
  blk1 m c t (ix2 (0 : Fin 1) q) (ix2 (n0 := 1) (n1 := 1024) 0 q) rfl rfl

theorem s_entry (c : Dev nD) (t : Fin cfg0.N) (q : Fin 1024) : b2 m c t (ix2 (0 : Fin 1) q) = a2 m c (ix2 (n0 := 1) (n1 := 1024) 0 q) :=
  blk2 m c t (ix2 (0 : Fin 1) q) (ix2 (n0 := 1) (n1 := 1024) 0 q) rfl rfl

/-! ## The three column sums -/

abbrev sums (c : Dev nD) (n : ℕ) (h : n < cfg0.N) : S8x1024.Idx → EReal := (outsAt0 m c n h).2
abbrev share_of (c : Dev nD) (r : ℕ) (q : Fin 1024) : Fin 4096 → EReal := part (a0 m c) (a1 m c) (a2 m c) (a4 m c) r q

theorem rows_sum (c : Dev nD) (t : Fin cfg0.N) (n : ℕ) (h4 : n < 4) (ht : t.val = n) (r : Fin 8) (q : Fin 1024) :
    ∑ k : Fin 1024, share (b3 m c t (ix2 k q)) (b0 m c t (ix2 k q) * rms (fun l => b0 m c t (ix2 k l)))
        (b1 m c t (ix2 (0 : Fin 1) q)) (FloatOps.ofBits (F := Ideal) .f32 0x3F800000#32 + b2 m c t (ix2 (0 : Fin 1) q)) r.val
      = ∑ k : Fin 1024, ext0 (share_of m c r.val q) (1024 * n + k.val) := by
  refine Finset.sum_congr rfl fun k _ => ?_
  have hx : 1024 * n + k.val < 4096 := by omega
  rw [ext0_of_lt _ _ hx, d_entry m c t n h4 ht k q, g_entry, s_entry, show (fun l => b0 m c t (ix2 k l)) = fun l => a0 m c (ix2 (n0 := 4096) (n1 := 1024) ⟨1024 * n + k.val, hx⟩ l) from funext fun l => x_entry m c t n h4 ht k l,
    x_entry m c t n h4 ht k q]

theorem sums_at (c : Dev nD) (r : Fin 8) (q : Fin 1024) : ∀ (n : ℕ) (h : n < cfg0.N), n < 4 →
    sums m c n h (ix2 r q) = ∑ x ∈ Finset.range (1024 * (n + 1)), ext0 (share_of m c r.val q) x := by
  intro n
  induction n with
  | zero =>
    intro h h4
    have e := sums_A m c ⟨0, h⟩ rfl
    refine (congrFun e (ix2 r q)).trans ((rows_apply (b0 m c ⟨0, h⟩) (b3 m c ⟨0, h⟩) (b1 m c ⟨0, h⟩) (b2 m c ⟨0, h⟩) (k0_pay4 (F := Ideal)) r q).trans ?_)
    rw [zero_apply, zero_add]
    exact (rows_sum m c ⟨0, h⟩ 0 h4 rfl r q).trans (sum_block_first _ 1024)
  | succ n ih =>
    intro h h4
    have hp : n < cfg0.N := Nat.lt_of_succ_lt h
    have e := sums_B m c ⟨n + 1, h⟩ (by show ¬(n + 1) % 4 = 0; omega) n hp rfl
    refine (congrFun e (ix2 r q)).trans ((rows_apply (b0 m c ⟨n + 1, h⟩) (b3 m c ⟨n + 1, h⟩) (b1 m c ⟨n + 1, h⟩) (b2 m c ⟨n + 1, h⟩) (sums m c n hp) r q).trans ?_)
    exact (congrArg₂ (fun a b : EReal => a + b) (ih hp (by omega)) (rows_sum m c ⟨n + 1, h⟩ (n + 1) h4 rfl r q)).trans (sum_block _ 1024 (n + 1))

theorem flushed6_eq (c : Dev nD) (t : Fin cfg0.N) (hf : (cfg0.win 6).flush t = true) :
    (dats m 0 c).flushed 6 t = ((cfg0.win 6).blk t).view.read (Elt Ideal) (LnmodBwdRefIdeal.Read.val_main_v50 (F := Ideal) (a0 m c) (a1 m c) (a2 m c) (a4 m c)) := by
  have h3 : t.val = 3 := (flush_last t).1 hf
  rw [flushed6]
  refine on_ix2 (n0 := 8) (n1 := 1024) fun r q => ?_
  obtain ⟨-, -, -, -, -, -, -, -, -, -, -, -, e0, e1, -⟩ := idx_in t
  have hb0 : (((cfg0.win 6).blk t).view.emb (ix2 r q) 0).val = win0_6.index t (0 : Fin 2) * 8 + 1 * r.val := rfl
  have hb1 : (((cfg0.win 6).blk t).view.emb (ix2 r q) 1).val = win0_6.index t (1 : Fin 2) * 1024 + 1 * q.val := rfl
  have ha0 := hb0.trans (show _ = r.val by rw [e0]; omega)
  have ha1 := hb1.trans (show _ = q.val by rw [e1]; omega)
  have he : ((cfg0.win 6).blk t).view.emb (ix2 r q) = ix2 (n0 := 8) (n1 := 1024) r q := idx_ext ha0 ha1
  show sums m c t.val t.isLt (ix2 r q) = LnmodBwdRefIdeal.Read.val_main_v50 (F := Ideal) (a0 m c) (a1 m c) (a2 m c) (a4 m c) (((cfg0.win 6).blk t).view.emb (ix2 r q))
  rw [he, sums_ref]
  have hl : 3 < cfg0.N := lt_of_lt_of_eq (by omega) N_0.symm
  rw [show sums m c t.val t.isLt = sums m c 3 hl from congrArg (fun z => z.2) (outs_congr m c t.val 3 t.isLt hl h3)]
  exact (sums_at m c r q 3 hl (by omega)).trans (sum_ext0 (share_of m c r.val q))

theorem mem_blk6 (t : Fin cfg0.N) (i : S8x1024.Idx) :
    i ∈ ((cfg0.win 6).blk t).view.set ↔ ∀ a, win0_6.index t a * S8x1024.size a ≤ (i a).val ∧ (i a).val < win0_6.index t a * S8x1024.size a + S8x1024.size a := by
  show i ∈ ((View.whole main_v0_1).slice (win0_6.rect t)).set ↔ _
  rw [View.set_slice_whole, Rect.mem_set_unit]

theorem result6 (c : Dev nD) : (dats m 0 c).arrAt 6 cfg0.N = LnmodBwdRefIdeal.Read.val_main_v50 (F := Ideal) (a0 m c) (a1 m c) (a2 m c) (a4 m c) :=
  (dats m 0 c).arrAt_eq_of_cover 6 (LnmodBwdRefIdeal.Read.val_main_v50 (F := Ideal) (a0 m c) (a1 m c) (a2 m c) (a4 m c)) (fun t hf => flushed6_eq m c t hf) fun i => by
    have h0 : (i 0).val < 8 := (i 0).isLt
    have h1 : (i 1).val < 1024 := (i 1).isLt
    have ht : 3 < cfg0.N := lt_of_lt_of_eq (by omega) N_0.symm
    obtain ⟨-, -, -, -, -, -, -, -, -, -, -, -, e0, e1, hf⟩ := idx_in ⟨3, ht⟩
    refine ⟨⟨3, ht⟩, (flush_last ⟨3, ht⟩).2 rfl, (mem_blk6 _ i).2 fun a => ?_⟩
    match a with
    | ⟨0, _⟩ =>
      show win0_6.index _ (0 : Fin 2) * 8 ≤ (i 0).val ∧ (i 0).val < win0_6.index _ (0 : Fin 2) * 8 + 8
      rw [e0]
      show (0) * 8 ≤ (i 0).val ∧ (i 0).val < (0) * 8 + 8
      omega
    | ⟨1, _⟩ =>
      show win0_6.index _ (1 : Fin 2) * 1024 ≤ (i 1).val ∧ (i 1).val < win0_6.index _ (1 : Fin 2) * 1024 + 1024
      rw [e1]
      show (0) * 1024 ≤ (i 1).val ∧ (i 1).val < (0) * 1024 + 1024
      omega

/-! ## The gradient of the norm's input -/

theorem written5 (c : Dev nD) (f0 : ∀ i, Fin' (a0 m c i)) (f1 : ∀ i, Fin' (a1 m c i)) (f2 : ∀ i, Fin' (a2 m c i)) (f4 : ∀ i, Fin' (a4 m c i)) (t : Fin cfg0.N) (n : ℕ) (h4 : n < 4) (ht : t.val = n) (r q : Fin 1024) :
    ((outsAt0 m c t.val t.isLt).1 : S1024x1024.Idx → EReal) (ix2 r q) = LnmodBwdRefIdeal.Read.val_main_v48 (F := Ideal) (a0 m c) (a1 m c) (a2 m c) (a4 m c) (a5 m c) (ix2 (n0 := 4096) (n1 := 1024) ⟨1024 * n + r.val, by omega⟩ q) := by
  have e := dx_step m c t
  have hd : ∀ k : Fin 1024, b3 m c t (ix2 r k) * (FloatOps.ofBits (F := Ideal) .f32 0x3F800000#32 + b2 m c t (ix2 (0 : Fin 1) k)) * b1 m c t (ix2 (0 : Fin 1) k) = LnmodBwdRefIdeal.Read.val_main_v33 (F := Ideal) (a1 m c) (a2 m c) (a4 m c) (ix2 (n0 := 4096) (n1 := 1024) ⟨1024 * n + r.val, by omega⟩ k) := fun k => by
    rw [dn_ref, d_entry m c t n h4 ht r k, g_entry, s_entry]
  refine (congrFun e (ix2 r q)).trans ((dx_apply (b1 m c t) (b2 m c t) (b4 m c t) (b0 m c t) (b3 m c t) r q _ _ (fun k => x_entry m c t n h4 ht r k) hd).trans ?_)
  have e7 := blk4 m c t (ix2 r q) (ix2 (n0 := 4096) (n1 := 1024) ⟨1024 * n + r.val, by omega⟩ q) (by show 1024 * n + r.val = 1024 * t.val + r.val; rw [ht]) rfl
  rw [e7]
  refine (row_back (fun k => a0 m c (ix2 (n0 := 4096) (n1 := 1024) ⟨1024 * n + r.val, by omega⟩ k)) (fun k => LnmodBwdRefIdeal.Read.val_main_v33 (F := Ideal) (a1 m c) (a2 m c) (a4 m c) (ix2 (n0 := 4096) (n1 := 1024) ⟨1024 * n + r.val, by omega⟩ k)) (fun k => f0 _) (fun k => ?_) (a5 m c (ix2 (n0 := 4096) (n1 := 1024) ⟨1024 * n + r.val, by omega⟩ q)) q).trans
    (dx_ref (a0 m c) (a1 m c) (a2 m c) (a4 m c) (a5 m c) ⟨1024 * n + r.val, by omega⟩ q).symm
  rw [dn_ref, d_ref, one_bits]
  exact fin_mul (fin_mul (f4 _) (fin_add fin_one (f2 _))) (f1 _)

theorem flushed5_eq (c : Dev nD) (f0 : ∀ i, Fin' (a0 m c i)) (f1 : ∀ i, Fin' (a1 m c i)) (f2 : ∀ i, Fin' (a2 m c i)) (f4 : ∀ i, Fin' (a4 m c i)) (t : Fin cfg0.N) :
    (dats m 0 c).flushed 5 t = ((cfg0.win 5).blk t).view.read (Elt Ideal) (LnmodBwdRefIdeal.Read.val_main_v48 (F := Ideal) (a0 m c) (a1 m c) (a2 m c) (a4 m c) (a5 m c)) := by
  have hN : t.val < 4 := lt_of_lt_of_eq t.isLt N_0
  rw [flushed5]
  refine on_ix2 (n0 := 1024) (n1 := 1024) fun r q => ?_
  obtain ⟨-, -, -, -, -, -, -, -, -, -, e0, e1, -⟩ := idx_in t
  have hb0 : (((cfg0.win 5).blk t).view.emb (ix2 r q) 0).val = win0_5.index t (0 : Fin 2) * 1024 + 1 * r.val := rfl
  have hb1 : (((cfg0.win 5).blk t).view.emb (ix2 r q) 1).val = win0_5.index t (1 : Fin 2) * 1024 + 1 * q.val := rfl
  have ha0 := hb0.trans (show _ = 1024 * t.val + r.val by rw [e0]; omega)
  have ha1 := hb1.trans (show _ = q.val by rw [e1]; omega)
  have he : ((cfg0.win 5).blk t).view.emb (ix2 r q) = ix2 (n0 := 4096) (n1 := 1024) ⟨1024 * t.val + r.val, by omega⟩ q := idx_ext ha0 ha1
  show ((outsAt0 m c t.val t.isLt).1 : S1024x1024.Idx → EReal) (ix2 r q) = LnmodBwdRefIdeal.Read.val_main_v48 (F := Ideal) (a0 m c) (a1 m c) (a2 m c) (a4 m c) (a5 m c) (((cfg0.win 5).blk t).view.emb (ix2 r q))
  rw [he]
  exact written5 m c f0 f1 f2 f4 t t.val hN rfl r q

theorem mem_blk5 (t : Fin cfg0.N) (i : S4096x1024.Idx) :
    i ∈ ((cfg0.win 5).blk t).view.set ↔ ∀ a, win0_5.index t a * S1024x1024.size a ≤ (i a).val ∧ (i a).val < win0_5.index t a * S1024x1024.size a + S1024x1024.size a := by
  show i ∈ ((View.whole main_v0_0).slice (win0_5.rect t)).set ↔ _
  rw [View.set_slice_whole, Rect.mem_set_unit]

theorem result5 (c : Dev nD) (f0 : ∀ i, Fin' (a0 m c i)) (f1 : ∀ i, Fin' (a1 m c i)) (f2 : ∀ i, Fin' (a2 m c i)) (f4 : ∀ i, Fin' (a4 m c i)) : (dats m 0 c).arrAt 5 cfg0.N = LnmodBwdRefIdeal.Read.val_main_v48 (F := Ideal) (a0 m c) (a1 m c) (a2 m c) (a4 m c) (a5 m c) :=
  (dats m 0 c).arrAt_eq_of_cover 5 (LnmodBwdRefIdeal.Read.val_main_v48 (F := Ideal) (a0 m c) (a1 m c) (a2 m c) (a4 m c) (a5 m c)) (fun t _ => flushed5_eq m c f0 f1 f2 f4 t) fun i => by
    have h0 : (i 0).val < 4096 := (i 0).isLt
    have h1 : (i 1).val < 1024 := (i 1).isLt
    have ht : (i 0).val / 1024 < cfg0.N := lt_of_lt_of_eq (by omega) N_0.symm
    obtain ⟨-, -, -, -, -, -, -, -, -, -, e0, e1, -, -, hf⟩ := idx_in ⟨(i 0).val / 1024, ht⟩
    refine ⟨⟨(i 0).val / 1024, ht⟩, hf, (mem_blk5 _ i).2 fun a => ?_⟩
    match a with
    | ⟨0, _⟩ =>
      show win0_5.index _ (0 : Fin 2) * 1024 ≤ (i 0).val ∧ (i 0).val < win0_5.index _ (0 : Fin 2) * 1024 + 1024
      rw [e0]
      show (((i 0).val / 1024)) * 1024 ≤ (i 0).val ∧ (i 0).val < (((i 0).val / 1024)) * 1024 + 1024
      omega
    | ⟨1, _⟩ =>
      show win0_5.index _ (1 : Fin 2) * 1024 ≤ (i 1).val ∧ (i 1).val < win0_5.index _ (1 : Fin 2) * 1024 + 1024
      rw [e1]
      show (0) * 1024 ≤ (i 1).val ∧ (i 1).val < (0) * 1024 + 1024
      omega

end Cert.LnmodBwdIdeal.Sum
-- ==== Proof.OutBwd.lean ====
/-
  Backward through the mixer's output product, its two gated branches and their products: five arrays and the two gate columns of the
  gradient of the projections are finished block by block, 512 rows at a time, and the gradient of the residual's gate is summed over
  the eight blocks.
-/
module

public import proofs.«01_k».proof.Proof.Common
public import proofs.«01_k».proof.Proof.Gen.OutBwdIdeal.Value
public import proofs.«01_k».proof.Proof.Gen.OutBwdRefIdeal.Read
public import Idealize.ShloMosaic.Lib.Tactic
public import Idealize.ShloMosaic.Lib.Claim
public import proofs.«01_k».proof.Proof.RowStores
@[expose] public section

set_option maxRecDepth 16384

noncomputable section

namespace Cert.OutBwdIdeal.Sum

open Cert.Common Cert.Rows Cert.RowStores Cert.OutBwdIdeal Cert.OutBwdIdeal.Gen Cert.OutBwdIdeal.Value
open Idealize.ShloMosaic Idealize.ShloMosaic.TcCoe Idealize.ShloMosaic.ValueIdx Idealize.SL.Sem
open Idealize.ShloMosaic.Pipeline (Dat)

section Cases
variable {F : FTy → Type} [FloatOps F]
variable (c : Dev nD) (i : grid0.Coords)
  (g1 : Memref sig .tc .vmem S512x1024 .f32) (h1 : g1.IsWhole)
  (g2 : Memref sig .tc .vmem S512x1024 .f32) (h2 : g2.IsWhole)
  (g3 : Memref sig .tc .vmem S1x1024 .f32) (h3 : g3.IsWhole)
  (g4 : Memref sig .tc .vmem S1024x1024 .bf16) (h4 : g4.IsWhole)
  (g5 : Memref sig .tc .vmem S512x1024 .bf16) (h5 : g5.IsWhole)
  (g6 : Memref sig .tc .vmem S512x1024 .bf16) (h6 : g6.IsWhole)
  (g7 : Memref sig .tc .vmem S512x1024 .bf16) (h7 : g7.IsWhole)
  (g8 : Memref sig .tc .vmem S512x1024 .bf16) (h8 : g8.IsWhole)
  (g9 : Memref sig .tc .vmem S1024x1024 .bf16) (h9 : g9.IsWhole)
  (g10 : Memref sig .tc .vmem S1024x1024 .bf16) (h10 : g10.IsWhole)
  (g11 : Memref sig .tc .vmem S512x1024 .bf16) (h11 : g11.IsWhole)
  (g12 : Memref sig .tc .vmem S512x1024 .bf16) (h12 : g12.IsWhole)
  (g13 : Memref sig .tc .vmem S512x1024 .bf16) (h13 : g13.IsWhole)
  (g14 : Memref sig .tc .vmem S512x1024 .bf16) (h14 : g14.IsWhole)
  (g15 : Memref sig .tc .vmem S512x1024 .bf16) (h15 : g15.IsWhole)
  (g16 : Memref sig .tc .vmem S512x2048 .bf16) (h16 : g16.IsWhole)
  (g17 : Memref sig .tc .vmem S8x1024 .f32) (h17 : g17.IsWhole)
  (x0 : Vec F S512x1024 .f32) (x1 : Vec F S512x1024 .f32) (x2 : Vec F S1x1024 .f32) (x3 : Vec F S1024x1024 .bf16) (x4 : Vec F S512x1024 .bf16) (x5 : Vec F S512x1024 .bf16) (x6 : Vec F S512x1024 .bf16) (x7 : Vec F S512x1024 .bf16) (x8 : Vec F S1024x1024 .bf16) (x9 : Vec F S1024x1024 .bf16) (xs : Vec F S8x1024 .f32)

/-- The two gate blocks, side by side. -/
def gates : Vec F S512x2048 .bf16 := fun y =>
  if h : (y 1).val < 1024 then k0_pay9 (k0_pay4 x0 x2 x3) (k0_pay5 x6) x4 (ix2 (n0 := 512) (n1 := 1024) (y 0) ⟨(y 1).val, h⟩)
  else k0_pay10 (k0_pay4 x0 x2 x3) (k0_pay6 x7) x5 (ix2 (n0 := 512) (n1 := 1024) (y 0) ⟨(y 1).val - 1024, by
    have h1 : (y 1).val < 2048 := (y 1).isLt
    omega⟩)

theorem left_at (y : S512x2048.Idx) :
    View.TileAt y ![0, 0] S512x1024.size (k0_pay9 (k0_pay4 x0 x2 x3) (k0_pay5 x6) x4) (gates x0 x2 x3 x4 x5 x6 x7 y) := by
  intro x hx
  have h0 : (y 0).val = 0 + (x 0).val := hx 0
  have h1 : (y 1).val = 0 + (x 1).val := hx 1
  have hb : (x 1).val < 1024 := (x 1).isLt
  have hy : (y 1).val < 1024 := by omega
  refine Eq.trans ?_ (dif_pos hy).symm
  refine congrArg (k0_pay9 (k0_pay4 x0 x2 x3) (k0_pay5 x6) x4) (funext fun a => Fin.ext ?_)
  match a with
  | ⟨0, _⟩ => show (x 0).val = (y 0).val; omega
  | ⟨1, _⟩ => show (x 1).val = (y 1).val; omega

theorem right_at (y : S512x2048.Idx) :
    View.TileAt y ![0, 1024] S512x1024.size (k0_pay10 (k0_pay4 x0 x2 x3) (k0_pay6 x7) x5) (gates x0 x2 x3 x4 x5 x6 x7 y) := by
  intro x hx
  have h0 : (y 0).val = 0 + (x 0).val := hx 0
  have h1 : (y 1).val = 1024 + (x 1).val := hx 1
  have hy : ¬(y 1).val < 1024 := by omega
  refine Eq.trans ?_ (dif_neg hy).symm
  refine congrArg (k0_pay10 (k0_pay4 x0 x2 x3) (k0_pay6 x7) x5) (funext fun a => Fin.ext ?_)
  match a with
  | ⟨0, _⟩ => show (x 0).val = (y 0).val; omega
  | ⟨1, _⟩ => show (x 1).val = (y 1).val - 1024; omega

theorem outA_10 (hc0 : cond0_0 i) : out0_A_10 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 = k0_pay3 x0 x2 := by
  unfold out0_A_10
  rw [View.read_writes_eq_canon _ _ _ (cover0_A_10 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9)]
  unfold kernelRun0_A
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outA_11 (hc0 : cond0_0 i) : out0_A_11 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 = k0_pay7 x0 x2 x3 x6 := by
  unfold out0_A_11
  rw [View.read_writes_eq_canon _ _ _ (cover0_A_11 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9)]
  unfold kernelRun0_A
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outA_12 (hc0 : cond0_0 i) : out0_A_12 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 = k0_pay8 x0 x2 x3 x7 := by
  unfold out0_A_12
  rw [View.read_writes_eq_canon _ _ _ (cover0_A_12 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9)]
  unfold kernelRun0_A
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outA_13 (hc0 : cond0_0 i) : out0_A_13 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 = k0_pay11 (k0_pay7 x0 x2 x3 x6) x8 := by
  unfold out0_A_13
  rw [View.read_writes_eq_canon _ _ _ (cover0_A_13 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9)]
  unfold kernelRun0_A
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outA_14 (hc0 : cond0_0 i) : out0_A_14 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 = k0_pay12 (k0_pay8 x0 x2 x3 x7) x9 := by
  unfold out0_A_14
  rw [View.read_writes_eq_canon _ _ _ (cover0_A_14 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9)]
  unfold kernelRun0_A
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outA_15 (hc0 : cond0_0 i) : out0_A_15 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 = gates x0 x2 x3 x4 x5 x6 x7 := by
  funext y
  have hcov := cover0_A_15 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 y
  unfold out0_A_15
  rw [View.read_writes_eq_canon _ _ _ (cover0_A_15 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9)]
  refine View.canon_eq_of_allAt _ y _ hcov ?_
  clear hcov
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]
  refine View.allAt_cons_unit _ _ _ _ _ (right_at x0 x2 x3 x4 x5 x6 x7 y) ?_
  exact View.allAt_cons_unit _ _ _ _ _ (left_at x0 x2 x3 x4 x5 x6 x7 y) (View.allAt_nil y _)

theorem outB_10 (hc0 : ¬cond0_0 i) : out0_B_10 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs = k0_pay3 x0 x2 := by
  unfold out0_B_10
  rw [View.read_writes_eq_canon _ _ _ (cover0_B_10 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs)]
  unfold kernelRun0_B
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outB_11 (hc0 : ¬cond0_0 i) : out0_B_11 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs = k0_pay7 x0 x2 x3 x6 := by
  unfold out0_B_11
  rw [View.read_writes_eq_canon _ _ _ (cover0_B_11 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs)]
  unfold kernelRun0_B
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outB_12 (hc0 : ¬cond0_0 i) : out0_B_12 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs = k0_pay8 x0 x2 x3 x7 := by
  unfold out0_B_12
  rw [View.read_writes_eq_canon _ _ _ (cover0_B_12 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs)]
  unfold kernelRun0_B
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outB_13 (hc0 : ¬cond0_0 i) : out0_B_13 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs = k0_pay11 (k0_pay7 x0 x2 x3 x6) x8 := by
  unfold out0_B_13
  rw [View.read_writes_eq_canon _ _ _ (cover0_B_13 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs)]
  unfold kernelRun0_B
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outB_14 (hc0 : ¬cond0_0 i) : out0_B_14 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs = k0_pay12 (k0_pay8 x0 x2 x3 x7) x9 := by
  unfold out0_B_14
  rw [View.read_writes_eq_canon _ _ _ (cover0_B_14 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs)]
  unfold kernelRun0_B
  dsimp only
  sl_unfold_words
  rw [View.canon_unit_zero (S := S512x1024) zero2]
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]

theorem outB_15 (hc0 : ¬cond0_0 i) : out0_B_15 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs = gates x0 x2 x3 x4 x5 x6 x7 := by
  funext y
  have hcov := cover0_B_15 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs y
  unfold out0_B_15
  rw [View.read_writes_eq_canon _ _ _ (cover0_B_15 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs)]
  refine View.canon_eq_of_allAt _ y _ hcov ?_
  clear hcov
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]
  refine View.allAt_cons_unit _ _ _ _ _ (right_at x0 x2 x3 x4 x5 x6 x7 y) ?_
  exact View.allAt_cons_unit _ _ _ _ _ (left_at x0 x2 x3 x4 x5 x6 x7 y) (View.allAt_nil y _)

/-- The first block starts the sums from zero. -/
theorem outA_16 (hc0 : cond0_0 i) : out0_A_16 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 = setRow 0 (k0_pay2 x0 (rowOf 0 (k0_pay1 : Vec F S8x1024 .f32)) x1) (k0_pay1 : Vec F S8x1024 .f32) := by
  unfold out0_A_16
  unfold kernelRun0_A
  dsimp only
  sl_unfold_words
  refine (read_row (R := 8) (C := 1024) _ _ 0 _ _ _).trans ?_
  refine congrArg₂ (setRow 0) ?_ (View.read_writes_full _ _ _ _ _)
  simp only [View.readCov_fill (s := S8x1024) _ _ _ _ _ (fun a => congrFun zero2 a), View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]
  exact congrArg (fun z => k0_pay2 x0 z x1) (ld_row (Val := Elt F) (e := .f32) (R := 8) (C := 1024) k0_pay1 0 (by decide) _)

/-- A later block adds to what the block before left. -/
theorem outB_16 (hc0 : ¬cond0_0 i) : out0_B_16 c i g1 h1 g2 h2 g3 h3 g4 h4 g5 h5 g6 h6 g7 h7 g8 h8 g9 h9 g10 h10 g11 h11 g12 h12 g13 h13 g14 h14 g15 h15 g16 h16 g17 h17 hc0 x0 x1 x2 x3 x4 x5 x6 x7 x8 x9 xs = setRow 0 (k0_pay2 x0 (rowOf 0 xs) x1) xs := by
  unfold out0_B_16
  unfold kernelRun0_B
  dsimp only
  sl_unfold_words
  refine (read_row (R := 8) (C := 1024) _ _ 0 _ _ _).trans ?_
  refine congrArg₂ (setRow 0) ?_ ?_
  · simp only [h17.read_unread, View.readAt_eq_ld, h1.read_unread, h2.read_unread, h3.read_unread, h4.read_unread, h5.read_unread, h6.read_unread, h7.read_unread, h8.read_unread, h9.read_unread, h10.read_unread,
    View.ld_unit_zero (S := S512x1024) zero2, View.ld_unit_zero (S := S1x1024) zero2, View.ld_unit_zero (S := S1024x1024) zero2]
    exact congrArg (fun z => k0_pay2 x0 z x1) (ld_row (R := 8) (C := 1024) xs 0 (by decide) _)
  · exact h17.read_unread xs

end Cases

section Steps
variable {F : FTy → Type} [FloatOps F]
variable (m : (ℓ : Loc nD τ sig) → Buf (Elt F) ℓ)

theorem step_10 (c : Dev nD) (t : Fin cfg0.N) : (outsAt0 m c t.val t.isLt).1 = k0_pay3 (iblk m c 0 t) (iblk m c 2 t) := by
  by_cases h0 : t.val % 8 = 0
  · rw [outsAt0_A m c t h0]
    dsimp only
    rw [outA_10]
  · rw [outsAt0_B m c t h0]
    dsimp only
    rw [outB_10]

theorem step_11 (c : Dev nD) (t : Fin cfg0.N) : (outsAt0 m c t.val t.isLt).2.1 = k0_pay7 (iblk m c 0 t) (iblk m c 2 t) (iblk m c 3 t) (iblk m c 6 t) := by
  by_cases h0 : t.val % 8 = 0
  · rw [outsAt0_A m c t h0]
    dsimp only
    rw [outA_11]
  · rw [outsAt0_B m c t h0]
    dsimp only
    rw [outB_11]

theorem step_12 (c : Dev nD) (t : Fin cfg0.N) : (outsAt0 m c t.val t.isLt).2.2.1 = k0_pay8 (iblk m c 0 t) (iblk m c 2 t) (iblk m c 3 t) (iblk m c 7 t) := by
  by_cases h0 : t.val % 8 = 0
  · rw [outsAt0_A m c t h0]
    dsimp only
    rw [outA_12]
  · rw [outsAt0_B m c t h0]
    dsimp only
    rw [outB_12]

theorem step_13 (c : Dev nD) (t : Fin cfg0.N) : (outsAt0 m c t.val t.isLt).2.2.2.1 = k0_pay11 (k0_pay7 (iblk m c 0 t) (iblk m c 2 t) (iblk m c 3 t) (iblk m c 6 t)) (iblk m c 8 t) := by
  by_cases h0 : t.val % 8 = 0
  · rw [outsAt0_A m c t h0]
    dsimp only
    rw [outA_13]
  · rw [outsAt0_B m c t h0]
    dsimp only
    rw [outB_13]

theorem step_14 (c : Dev nD) (t : Fin cfg0.N) : (outsAt0 m c t.val t.isLt).2.2.2.2.1 = k0_pay12 (k0_pay8 (iblk m c 0 t) (iblk m c 2 t) (iblk m c 3 t) (iblk m c 7 t)) (iblk m c 9 t) := by
  by_cases h0 : t.val % 8 = 0
  · rw [outsAt0_A m c t h0]
    dsimp only
    rw [outA_14]
  · rw [outsAt0_B m c t h0]
    dsimp only
    rw [outB_14]

theorem step_15 (c : Dev nD) (t : Fin cfg0.N) : (outsAt0 m c t.val t.isLt).2.2.2.2.2.1 = gates (iblk m c 0 t) (iblk m c 2 t) (iblk m c 3 t) (iblk m c 4 t) (iblk m c 5 t) (iblk m c 6 t) (iblk m c 7 t) := by
  by_cases h0 : t.val % 8 = 0
  · rw [outsAt0_A m c t h0]
    dsimp only
    rw [outA_15]
  · rw [outsAt0_B m c t h0]
    dsimp only
    rw [outB_15]

theorem acc_A (c : Dev nD) (t : Fin cfg0.N) (h0 : t.val % 8 = 0) :
    (outsAt0 m c t.val t.isLt).2.2.2.2.2.2 = setRow 0 (k0_pay2 (iblk m c 0 t) (rowOf 0 (k0_pay1 : Vec F S8x1024 .f32)) (iblk m c 1 t)) (k0_pay1 : Vec F S8x1024 .f32) := by
  rw [outsAt0_A m c t h0]
  dsimp only
  rw [outA_16]

theorem acc_B (c : Dev nD) (t : Fin cfg0.N) (h0 : ¬t.val % 8 = 0) (n : ℕ) (hn : n < cfg0.N) (e : t.val - 1 = n) :
    (outsAt0 m c t.val t.isLt).2.2.2.2.2.2
      = setRow 0 (k0_pay2 (iblk m c 0 t) (rowOf 0 (outsAt0 m c n hn).2.2.2.2.2.2) (iblk m c 1 t)) (outsAt0 m c n hn).2.2.2.2.2.2 := by
  subst e
  rw [outsAt0_B m c t h0]
  dsimp only
  rw [outB_16]

theorem outs_congr (c : Dev nD) (n n' : ℕ) (h : n < cfg0.N) (h' : n' < cfg0.N) (e : n = n') : outsAt0 m c n h = outsAt0 m c n' h' := by
  subst e; rfl

end Steps

/-! ## The stored values at an index, over the extended reals -/

theorem dot_eq : dot_S512x1024_S1024x1024_S512x1024_1_1_0_0_n_n = DotDims.transposedRhs 512 1024 1024 := rfl

theorem pay1_apply (i : S8x1024.Idx) : (k0_pay1 (F := Ideal) : S8x1024.Idx → EReal) i = 0 := by
  unfold k0_pay1
  exact Ideal.ofBits_zero_f32

theorem pay2_apply (v : S512x1024.Idx → EReal) (x : S1x1024.Idx → EReal) (w : S512x1024.Idx → EReal) (u : Fin 1) (q : Fin 1024) :
    (k0_pay2 (F := Ideal) v x w : S1x1024.Idx → EReal) (ix2 u q) = x (ix2 u q) + ∑ k : Fin 512, v (ix2 k q) * w (ix2 k q) := by
  unfold k0_pay2
  simp only [shapeCast_self]
  exact congrArg (fun z : EReal => x (ix2 u q) + z) (col_total (R := 512) (C := 1024) (mulf (F := Ideal) (φ := .f32) v w) reduces_S512x1024_S1024 (.inl rfl) rfl shapeCasts_S1024_S1x1024 u q)

theorem pay3_apply (v : S512x1024.Idx → EReal) (x : S1x1024.Idx → EReal) (r : Fin 512) (q : Fin 1024) : (k0_pay3 (F := Ideal) v x : S512x1024.Idx → EReal) (ix2 r q) = x (ix2 (0 : Fin 1) q) * v (ix2 r q) := by
  unfold k0_pay3
  exact congrArg (fun z : EReal => z * v (ix2 r q)) (broadcastTo_1b_ab_apply x broadcasts_S1x1024_S512x1024 r q)

theorem pay4_apply (v : S512x1024.Idx → EReal) (x : S1x1024.Idx → EReal) (w : S1024x1024.Idx → EReal) (r : Fin 512) (q : Fin 1024) :
    (k0_pay4 (F := Ideal) v x w : S512x1024.Idx → EReal) (ix2 r q) = ∑ k : Fin 1024, (k0_pay3 (F := Ideal) v x : S512x1024.Idx → EReal) (ix2 r k) * w (ix2 q k) := by
  unfold k0_pay4
  simp only [shapeCast_self, dot_eq]
  exact cols_zero (φ₁ := .bf16) (φ₂ := .bf16) (k0_pay3 (F := Ideal) v x) w (ix2 r q)

theorem pay5_apply (v : S512x1024.Idx → EReal) (i : S512x1024.Idx) : (k0_pay5 (F := Ideal) v : S512x1024.Idx → EReal) i = Ideal.logistic (v i) := by
  unfold k0_pay5
  simp only [shapeCast_self]
  rfl

theorem pay6_apply (v : S512x1024.Idx → EReal) (i : S512x1024.Idx) : (k0_pay6 (F := Ideal) v : S512x1024.Idx → EReal) i = Ideal.logistic (v i) := by
  unfold k0_pay6
  simp only [shapeCast_self]
  rfl

theorem pay9_apply (d s w : S512x1024.Idx → EReal) (i : S512x1024.Idx) :
    (k0_pay9 (F := Ideal) d s w : S512x1024.Idx → EReal) i = (d i * w i) * (s i * (FloatOps.ofBits (F := Ideal) .f32 0x3F800000#32 - s i)) := by
  unfold k0_pay9
  simp only [shapeCast_self]
  rfl

theorem pay10_apply (d s w : S512x1024.Idx → EReal) (i : S512x1024.Idx) :
    (k0_pay10 (F := Ideal) d s w : S512x1024.Idx → EReal) i = (d i * w i) * (s i * (FloatOps.ofBits (F := Ideal) .f32 0x3F800000#32 - s i)) := by
  unfold k0_pay10
  simp only [shapeCast_self]
  rfl

theorem pay11_apply (v : S512x1024.Idx → EReal) (w : S1024x1024.Idx → EReal) (r : Fin 512) (q : Fin 1024) : (k0_pay11 (F := Ideal) v w : S512x1024.Idx → EReal) (ix2 r q) = ∑ k : Fin 1024, v (ix2 r k) * w (ix2 q k) := by
  unfold k0_pay11
  simp only [shapeCast_self, dot_eq]
  exact cols_zero (φ₁ := .bf16) (φ₂ := .bf16) v w (ix2 r q)

theorem pay12_apply (v : S512x1024.Idx → EReal) (w : S1024x1024.Idx → EReal) (r : Fin 512) (q : Fin 1024) : (k0_pay12 (F := Ideal) v w : S512x1024.Idx → EReal) (ix2 r q) = ∑ k : Fin 1024, v (ix2 r k) * w (ix2 q k) := by
  unfold k0_pay12
  simp only [shapeCast_self, dot_eq]
  exact cols_zero (φ₁ := .bf16) (φ₂ := .bf16) v w (ix2 r q)

/-! ## What a grid point reads -/

variable (m : (ℓ : Loc nD τ sig) → Buf (Elt Ideal) ℓ)

abbrev a0 (c : Dev nD) : S4096x1024.Idx → EReal := m ((c : Thread nD τ).loc main_arg0)
abbrev a1 (c : Dev nD) : S4096x1024.Idx → EReal := m ((c : Thread nD τ).loc main_arg1)
abbrev a2 (c : Dev nD) : S1024x1024.Idx → EReal := m ((c : Thread nD τ).loc main_arg2)
abbrev a3 (c : Dev nD) : S1024x1024.Idx → EReal := m ((c : Thread nD τ).loc main_arg3)
abbrev a4 (c : Dev nD) : S1024x1024.Idx → EReal := m ((c : Thread nD τ).loc main_arg4)
abbrev a5 (c : Dev nD) : S4096x8192.Idx → EReal := m ((c : Thread nD τ).loc main_arg5)
abbrev a6 (c : Dev nD) : S1x1024.Idx → EReal := m ((c : Thread nD τ).loc main_arg6)
abbrev a7 (c : Dev nD) : S4096x1024.Idx → EReal := m ((c : Thread nD τ).loc main_arg7)

/-- Where each window stands at grid point `t`. -/
theorem idx_in : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 6
    ∧ win0_7.index t (0 : Fin 2) = t.val
    ∧ win0_7.index t (1 : Fin 2) = 7
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_15.index t (0 : Fin 2) = t.val
    ∧ win0_15.index t (1 : Fin 2) = 3
    ∧ win0_16.index t (0 : Fin 2) = 0
    ∧ win0_16.index t (1 : Fin 2) = 0
    ∧ win0_10.flush t = true
    ∧ win0_11.flush t = true
    ∧ win0_12.flush t = true
    ∧ win0_13.flush t = true
    ∧ win0_14.flush t = true
    ∧ win0_15.flush t = true :=
  (by decide +kernel : ∀ t : Fin grid0.N, _)

/-- The sums are written back at the last point alone. -/
theorem flush_last : ∀ t : Fin cfg0.N, ((cfg0.win 16).flush t = true → t.val = 7) ∧ (t.val = 7 → (cfg0.win 16).flush t = true) :=
  (by decide +kernel : ∀ t : Fin grid0.N, _)

abbrev b0 (c : Dev nD) (t : Fin cfg0.N) : S512x1024.Idx → EReal := iblk m c 0 t

theorem blk0 (c : Dev nD) (t : Fin cfg0.N) (y : S512x1024.Idx) (k : S4096x1024.Idx) (h0 : (k 0).val = 512 * (t.val) + (y 0).val) (h1 : (k 1).val = (y 1).val) :
    b0 m c t y = a7 m c k := by
  obtain ⟨e0, e1, -⟩ := idx_in t
  have hb0 : (((cfg0.win 0).blk t).view.emb y 0).val = win0_0.index t (0 : Fin 2) * 512 + 1 * (y 0).val := rfl
  have hb1 : (((cfg0.win 0).blk t).view.emb y 1).val = win0_0.index t (1 : Fin 2) * 1024 + 1 * (y 1).val := rfl
  show V m c main_arg7 (((cfg0.win 0).blk t).view.emb y) = _
  entry_read
  refine congrArg (a7 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b1 (c : Dev nD) (t : Fin cfg0.N) : S512x1024.Idx → EReal := iblk m c 1 t

theorem blk1 (c : Dev nD) (t : Fin cfg0.N) (y : S512x1024.Idx) (k : S4096x1024.Idx) (h0 : (k 0).val = 512 * (t.val) + (y 0).val) (h1 : (k 1).val = (y 1).val) :
    b1 m c t y = OutBwdRefIdeal.Read.val_main_v25 (F := Ideal) (a0 m c) (a1 m c) (a2 m c) (a3 m c) (a4 m c) (a5 m c) k := by
  obtain ⟨-, -, e0, e1, -⟩ := idx_in t
  have hb0 : (((cfg0.win 1).blk t).view.emb y 0).val = win0_1.index t (0 : Fin 2) * 512 + 1 * (y 0).val := rfl
  have hb1 : (((cfg0.win 1).blk t).view.emb y 1).val = win0_1.index t (1 : Fin 2) * 1024 + 1 * (y 1).val := rfl
  show V m c main_v19 (((cfg0.win 1).blk t).view.emb y) = _
  entry_read
  refine congrArg (OutBwdRefIdeal.Read.val_main_v25 (F := Ideal) (a0 m c) (a1 m c) (a2 m c) (a3 m c) (a4 m c) (a5 m c)) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b2 (c : Dev nD) (t : Fin cfg0.N) : S1x1024.Idx → EReal := iblk m c 2 t

theorem blk2 (c : Dev nD) (t : Fin cfg0.N) (y : S1x1024.Idx) (k : S1x1024.Idx) (h0 : (k 0).val = (y 0).val) (h1 : (k 1).val = (y 1).val) :
    b2 m c t y = a6 m c k := by
  obtain ⟨-, -, -, -, e0, e1, -⟩ := idx_in t
  have hb0 : (((cfg0.win 2).blk t).view.emb y 0).val = win0_2.index t (0 : Fin 2) * 1 + 1 * (y 0).val := rfl
  have hb1 : (((cfg0.win 2).blk t).view.emb y 1).val = win0_2.index t (1 : Fin 2) * 1024 + 1 * (y 1).val := rfl
  show V m c main_arg6 (((cfg0.win 2).blk t).view.emb y) = _
  entry_read
  refine congrArg (a6 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b3 (c : Dev nD) (t : Fin cfg0.N) : S1024x1024.Idx → EReal := iblk m c 3 t

theorem blk3 (c : Dev nD) (t : Fin cfg0.N) (y : S1024x1024.Idx) (k : S1024x1024.Idx) (h0 : (k 0).val = (y 0).val) (h1 : (k 1).val = (y 1).val) :
    b3 m c t y = a4 m c k := by
  obtain ⟨-, -, -, -, -, -, e0, e1, -⟩ := idx_in t
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  show V m c main_v20 (((cfg0.win 3).blk t).view.emb y) = _
  entry_read
  refine congrArg (a4 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b4 (c : Dev nD) (t : Fin cfg0.N) : S512x1024.Idx → EReal := iblk m c 4 t

theorem blk4 (c : Dev nD) (t : Fin cfg0.N) (y : S512x1024.Idx) (k : S4096x1024.Idx) (h0 : (k 0).val = 512 * (t.val) + (y 0).val) (h1 : (k 1).val = (y 1).val) :
    b4 m c t y = OutBwdRefIdeal.Read.val_main_v2 (F := Ideal) (a0 m c) (a2 m c) k := by
  obtain ⟨-, -, -, -, -, -, -, -, e0, e1, -⟩ := idx_in t
  have hb0 : (((cfg0.win 4).blk t).view.emb y 0).val = win0_4.index t (0 : Fin 2) * 512 + 1 * (y 0).val := rfl
  have hb1 : (((cfg0.win 4).blk t).view.emb y 1).val = win0_4.index t (1 : Fin 2) * 1024 + 1 * (y 1).val := rfl
  show V m c main_v21 (((cfg0.win 4).blk t).view.emb y) = _
  entry_read
  refine congrArg (OutBwdRefIdeal.Read.val_main_v2 (F := Ideal) (a0 m c) (a2 m c)) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b5 (c : Dev nD) (t : Fin cfg0.N) : S512x1024.Idx → EReal := iblk m c 5 t

theorem blk5 (c : Dev nD) (t : Fin cfg0.N) (y : S512x1024.Idx) (k : S4096x1024.Idx) (h0 : (k 0).val = 512 * (t.val) + (y 0).val) (h1 : (k 1).val = (y 1).val) :
    b5 m c t y = OutBwdRefIdeal.Read.val_main_v3 (F := Ideal) (a1 m c) (a3 m c) k := by
  obtain ⟨-, -, -, -, -, -, -, -, -, -, e0, e1, -⟩ := idx_in t
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  show V m c main_v22 (((cfg0.win 5).blk t).view.emb y) = _
  entry_read
  refine congrArg (OutBwdRefIdeal.Read.val_main_v3 (F := Ideal) (a1 m c) (a3 m c)) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b6 (c : Dev nD) (t : Fin cfg0.N) : S512x1024.Idx → EReal := iblk m c 6 t

theorem blk6 (c : Dev nD) (t : Fin cfg0.N) (y : S512x1024.Idx) (k : S4096x8192.Idx) (h0 : (k 0).val = 512 * (t.val) + (y 0).val) (h1 : (k 1).val = 1024 * (6) + (y 1).val) :
    b6 m c t y = a5 m c k := by
  obtain ⟨-, -, -, -, -, -, -, -, -, -, -, -, e0, e1, -⟩ := idx_in t
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  show V m c main_v23 (((cfg0.win 6).blk t).view.emb y) = _
  entry_read
  refine congrArg (a5 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b7 (c : Dev nD) (t : Fin cfg0.N) : S512x1024.Idx → EReal := iblk m c 7 t

theorem blk7 (c : Dev nD) (t : Fin cfg0.N) (y : S512x1024.Idx) (k : S4096x8192.Idx) (h0 : (k 0).val = 512 * (t.val) + (y 0).val) (h1 : (k 1).val = 1024 * (7) + (y 1).val) :
    b7 m c t y = a5 m c k := by
  obtain ⟨-, -, -, -, -, -, -, -, -, -, -, -, -, -, e0, e1, -⟩ := idx_in t
  have hb0 : (((cfg0.win 7).blk t).view.emb y 0).val = win0_7.index t (0 : Fin 2) * 512 + 1 * (y 0).val := rfl
  have hb1 : (((cfg0.win 7).blk t).view.emb y 1).val = win0_7.index t (1 : Fin 2) * 1024 + 1 * (y 1).val := rfl
  show V m c main_v23 (((cfg0.win 7).blk t).view.emb y) = _
  entry_read
  refine congrArg (a5 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b8 (c : Dev nD) (t : Fin cfg0.N) : S1024x1024.Idx → EReal := iblk m c 8 t

theorem blk8 (c : Dev nD) (t : Fin cfg0.N) (y : S1024x1024.Idx) (k : S1024x1024.Idx) (h0 : (k 0).val = (y 0).val) (h1 : (k 1).val = (y 1).val) :
    b8 m c t y = a2 m c k := by
  obtain ⟨-, -, -, -, -, -, -, -, -, -, -, -, -, -, -, -, e0, e1, -⟩ := idx_in t
  have hb0 : (((cfg0.win 8).blk t).view.emb y 0).val = win0_8.index t (0 : Fin 2) * 1024 + 1 * (y 0).val := rfl
  have hb1 : (((cfg0.win 8).blk t).view.emb y 1).val = win0_8.index t (1 : Fin 2) * 1024 + 1 * (y 1).val := rfl
  show V m c main_v24 (((cfg0.win 8).blk t).view.emb y) = _
  entry_read
  refine congrArg (a2 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

abbrev b9 (c : Dev nD) (t : Fin cfg0.N) : S1024x1024.Idx → EReal := iblk m c 9 t

theorem blk9 (c : Dev nD) (t : Fin cfg0.N) (y : S1024x1024.Idx) (k : S1024x1024.Idx) (h0 : (k 0).val = (y 0).val) (h1 : (k 1).val = (y 1).val) :
    b9 m c t y = a3 m c k := by
  obtain ⟨-, -, -, -, -, -, -, -, -, -, -, -, -, -, -, -, -, -, e0, e1, -⟩ := idx_in t
  have hb0 : (((cfg0.win 9).blk t).view.emb y 0).val = win0_9.index t (0 : Fin 2) * 1024 + 1 * (y 0).val := rfl
  have hb1 : (((cfg0.win 9).blk t).view.emb y 1).val = win0_9.index t (1 : Fin 2) * 1024 + 1 * (y 1).val := rfl
  show V m c main_v25 (((cfg0.win 9).blk t).view.emb y) = _
  entry_read
  refine congrArg (a3 m c) (funext fun a => Fin.ext ?_)
  match a with
  | ⟨0, _⟩ => refine hb0.trans ?_; show _ = (k 0).val; rw [h0, e0]; omega
  | ⟨1, _⟩ => refine hb1.trans ?_; show _ = (k 1).val; rw [h1, e1]; omega

/-! ## The reference, entry by entry -/

theorem ct_ref (x6 : S1x1024.Idx → EReal) (x7 : S4096x1024.Idx → EReal) (p : Fin 4096) (q : Fin 1024) :
    OutBwdRefIdeal.Read.val_main_v29 (F := Ideal) x6 x7 (ix2 (n0 := 4096) (n1 := 1024) p q) = x6 (ix2 (n0 := 1) (n1 := 1024) 0 q) * x7 (ix2 (n0 := 4096) (n1 := 1024) p q) := by
  rw [OutBwdRefIdeal.Read.val_main_v29_apply, OutBwdRefIdeal.Read.val_main_v28_apply]
  refine congrArg (fun z : EReal => z * x7 (ix2 (n0 := 4096) (n1 := 1024) p q)) (congrArg x6 (funext fun a => Fin.ext ?_))
  match a with
  | ⟨0, _⟩ => rfl
  | ⟨1, _⟩ => rfl

theorem dm_ref (x4 : S1024x1024.Idx → EReal) (x6 : S1x1024.Idx → EReal) (x7 : S4096x1024.Idx → EReal) (p : Fin 4096) (q : Fin 1024) :
    OutBwdRefIdeal.Read.val_main_v33 (F := Ideal) x4 x6 x7 (ix2 (n0 := 4096) (n1 := 1024) p q) = ∑ k : Fin 1024, OutBwdRefIdeal.Read.val_main_v29 (F := Ideal) x6 x7 (ix2 (n0 := 4096) (n1 := 1024) p k) * x4 (ix2 (n0 := 1024) (n1 := 1024) q k) := by
  rw [OutBwdRefIdeal.Read.val_main_v33_apply]
  refine Finset.sum_congr rfl fun k _ => congrArg₂ (fun a b : EReal => a * b) (congrArg (OutBwdRefIdeal.Read.val_main_v29 (F := Ideal) x6 x7) (funext fun a => Fin.ext ?_)) (congrArg x4 (funext fun a => Fin.ext ?_))
  · match a with
    | ⟨0, _⟩ => rfl
    | ⟨1, _⟩ => rfl
  · match a with
    | ⟨0, _⟩ => rfl
    | ⟨1, _⟩ => rfl

theorem dya_ref (x2 : S1024x1024.Idx → EReal) (x4 : S1024x1024.Idx → EReal) (x5 : S4096x8192.Idx → EReal) (x6 : S1x1024.Idx → EReal) (x7 : S4096x1024.Idx → EReal) (p : Fin 4096) (q : Fin 1024) :
    OutBwdRefIdeal.Read.val_main_v40 (F := Ideal) x2 x4 x5 x6 x7 (ix2 (n0 := 4096) (n1 := 1024) p q) = ∑ k : Fin 1024, OutBwdRefIdeal.Read.val_main_v37 (F := Ideal) x4 x5 x6 x7 (ix2 (n0 := 4096) (n1 := 1024) p k) * x2 (ix2 (n0 := 1024) (n1 := 1024) q k) := by
  rw [OutBwdRefIdeal.Read.val_main_v40_apply]
  refine Finset.sum_congr rfl fun k _ => congrArg₂ (fun a b : EReal => a * b) (congrArg (OutBwdRefIdeal.Read.val_main_v37 (F := Ideal) x4 x5 x6 x7) (funext fun a => Fin.ext ?_)) (congrArg x2 (funext fun a => Fin.ext ?_))
  · match a with
    | ⟨0, _⟩ => rfl
    | ⟨1, _⟩ => rfl
  · match a with
    | ⟨0, _⟩ => rfl
    | ⟨1, _⟩ => rfl

theorem dyb_ref (x3 : S1024x1024.Idx → EReal) (x4 : S1024x1024.Idx → EReal) (x5 : S4096x8192.Idx → EReal) (x6 : S1x1024.Idx → EReal) (x7 : S4096x1024.Idx → EReal) (p : Fin 4096) (q : Fin 1024) :
    OutBwdRefIdeal.Read.val_main_v41 (F := Ideal) x3 x4 x5 x6 x7 (ix2 (n0 := 4096) (n1 := 1024) p q) = ∑ k : Fin 1024, OutBwdRefIdeal.Read.val_main_v34 (F := Ideal) x4 x5 x6 x7 (ix2 (n0 := 4096) (n1 := 1024) p k) * x3 (ix2 (n0 := 1024) (n1 := 1024) q k) := by
  rw [OutBwdRefIdeal.Read.val_main_v41_apply]
  refine Finset.sum_congr rfl fun k _ => congrArg₂ (fun a b : EReal => a * b) (congrArg (OutBwdRefIdeal.Read.val_main_v34 (F := Ideal) x4 x5 x6 x7) (funext fun a => Fin.ext ?_)) (congrArg x3 (funext fun a => Fin.ext ?_))
  · match a with
    | ⟨0, _⟩ => rfl
    | ⟨1, _⟩ => rfl
  · match a with
    | ⟨0, _⟩ => rfl
    | ⟨1, _⟩ => rfl

theorem sa_ref (x5 : S4096x8192.Idx → EReal) (p : Fin 4096) (q : Fin 1024) :
    OutBwdRefIdeal.Read.val_main_v9 (F := Ideal) x5 (ix2 (n0 := 4096) (n1 := 1024) p q) = Ideal.logistic (x5 (ix2 (n0 := 4096) (n1 := 8192) p ⟨6144 + q.val, by omega⟩)) := by
  have e : OutBwdRefIdeal.Read.idx_main_v0 (ix2 (n0 := 4096) (n1 := 1024) p q) = ix2 (n0 := 4096) (n1 := 8192) p ⟨6144 + q.val, by omega⟩ := funext fun a => Fin.ext (match a with
    | ⟨0, _⟩ => rfl
    | ⟨1, _⟩ => rfl)
  rw [OutBwdRefIdeal.Read.val_main_v9_apply, OutBwdRefIdeal.Read.val_main_v8_apply, OutBwdRefIdeal.Read.val_main_cst_0_apply, OutBwdRefIdeal.Read.val_main_v7_apply, OutBwdRefIdeal.Read.val_main_v6_apply, OutBwdRefIdeal.Read.val_main_cst_apply, OutBwdRefIdeal.Read.val_main_v5_apply, OutBwdRefIdeal.Read.val_main_v4_apply, OutBwdRefIdeal.Read.val_main_v0_apply, one_bits, e]
  rfl

theorem sb_ref (x5 : S4096x8192.Idx → EReal) (p : Fin 4096) (q : Fin 1024) :
    OutBwdRefIdeal.Read.val_main_v19 (F := Ideal) x5 (ix2 (n0 := 4096) (n1 := 1024) p q) = Ideal.logistic (x5 (ix2 (n0 := 4096) (n1 := 8192) p ⟨7168 + q.val, by omega⟩)) := by
  have e : OutBwdRefIdeal.Read.idx_main_v1 (ix2 (n0 := 4096) (n1 := 1024) p q) = ix2 (n0 := 4096) (n1 := 8192) p ⟨7168 + q.val, by omega⟩ := funext fun a => Fin.ext (match a with
    | ⟨0, _⟩ => rfl
    | ⟨1, _⟩ => rfl)
  rw [OutBwdRefIdeal.Read.val_main_v19_apply, OutBwdRefIdeal.Read.val_main_v18_apply, OutBwdRefIdeal.Read.val_main_cst_3_apply, OutBwdRefIdeal.Read.val_main_v17_apply, OutBwdRefIdeal.Read.val_main_v16_apply, OutBwdRefIdeal.Read.val_main_cst_2_apply, OutBwdRefIdeal.Read.val_main_v15_apply, OutBwdRefIdeal.Read.val_main_v14_apply, OutBwdRefIdeal.Read.val_main_v1_apply, one_bits, e]
  rfl

/-! ## Each grid point's entries are the reference's -/

theorem ct_entry (c : Dev nD) (t : Fin cfg0.N) (r : Fin 512) (q : Fin 1024) (p : Fin 4096) (hp : p.val = 512 * t.val + r.val) :
    (k0_pay3 (F := Ideal) (b0 m c t) (b2 m c t) : S512x1024.Idx → EReal) (ix2 r q) = OutBwdRefIdeal.Read.val_main_v29 (F := Ideal) (a6 m c) (a7 m c) (ix2 (n0 := 4096) (n1 := 1024) p q) := by
  rw [ct_ref, pay3_apply, blk2 m c t (ix2 (0 : Fin 1) q) (ix2 (n0 := 1) (n1 := 1024) 0 q) rfl rfl, blk0 m c t (ix2 r q) (ix2 (n0 := 4096) (n1 := 1024) p q) hp rfl]

theorem dm_entry (c : Dev nD) (t : Fin cfg0.N) (r : Fin 512) (q : Fin 1024) (p : Fin 4096) (hp : p.val = 512 * t.val + r.val) : ((k0_pay4 (F := Ideal) (b0 m c t) (b2 m c t) (b3 m c t)) : S512x1024.Idx → EReal) (ix2 r q) = OutBwdRefIdeal.Read.val_main_v33 (F := Ideal) (a4 m c) (a6 m c) (a7 m c) (ix2 (n0 := 4096) (n1 := 1024) p q) := by
  rw [dm_ref, pay4_apply]
  exact Finset.sum_congr rfl fun k _ => congrArg₂ (fun a b : EReal => a * b) (ct_entry m c t r k p hp)
    (blk3 m c t (ix2 q k) (ix2 (n0 := 1024) (n1 := 1024) q k) rfl rfl)

theorem sa_entry (c : Dev nD) (t : Fin cfg0.N) (r : Fin 512) (q : Fin 1024) (p : Fin 4096) (hp : p.val = 512 * t.val + r.val) : (k0_pay5 (F := Ideal) (b6 m c t) : S512x1024.Idx → EReal) (ix2 r q) = OutBwdRefIdeal.Read.val_main_v9 (F := Ideal) (a5 m c) (ix2 (n0 := 4096) (n1 := 1024) p q) := by
  rw [sa_ref, pay5_apply, blk6 m c t (ix2 r q) (ix2 (n0 := 4096) (n1 := 8192) p ⟨6144 + q.val, by omega⟩) hp rfl]

theorem sb_entry (c : Dev nD) (t : Fin cfg0.N) (r : Fin 512) (q : Fin 1024) (p : Fin 4096) (hp : p.val = 512 * t.val + r.val) : (k0_pay6 (F := Ideal) (b7 m c t) : S512x1024.Idx → EReal) (ix2 r q) = OutBwdRefIdeal.Read.val_main_v19 (F := Ideal) (a5 m c) (ix2 (n0 := 4096) (n1 := 1024) p q) := by
  rw [sb_ref, pay6_apply, blk7 m c t (ix2 r q) (ix2 (n0 := 4096) (n1 := 8192) p ⟨7168 + q.val, by omega⟩) hp rfl]

theorem da_entry (c : Dev nD) (t : Fin cfg0.N) (r : Fin 512) (q : Fin 1024) (p : Fin 4096) (hp : p.val = 512 * t.val + r.val) : ((k0_pay7 (F := Ideal) (b0 m c t) (b2 m c t) (b3 m c t) (b6 m c t)) : S512x1024.Idx → EReal) (ix2 r q) = OutBwdRefIdeal.Read.val_main_v37 (F := Ideal) (a4 m c) (a5 m c) (a6 m c) (a7 m c) (ix2 (n0 := 4096) (n1 := 1024) p q) := by
  unfold k0_pay7
  rw [OutBwdRefIdeal.Read.val_main_v37_apply]
  exact (congrArg₂ (fun a b : EReal => a * b) (dm_entry m c t r q p hp) (sa_entry m c t r q p hp)).trans (mul_comm _ _)

theorem db_entry (c : Dev nD) (t : Fin cfg0.N) (r : Fin 512) (q : Fin 1024) (p : Fin 4096) (hp : p.val = 512 * t.val + r.val) : ((k0_pay8 (F := Ideal) (b0 m c t) (b2 m c t) (b3 m c t) (b7 m c t)) : S512x1024.Idx → EReal) (ix2 r q) = OutBwdRefIdeal.Read.val_main_v34 (F := Ideal) (a4 m c) (a5 m c) (a6 m c) (a7 m c) (ix2 (n0 := 4096) (n1 := 1024) p q) := by
  unfold k0_pay8
  rw [OutBwdRefIdeal.Read.val_main_v34_apply]
  exact (congrArg₂ (fun a b : EReal => a * b) (dm_entry m c t r q p hp) (sb_entry m c t r q p hp)).trans (mul_comm _ _)

theorem dya_entry (c : Dev nD) (t : Fin cfg0.N) (r : Fin 512) (q : Fin 1024) (p : Fin 4096) (hp : p.val = 512 * t.val + r.val) : (k0_pay11 (F := Ideal) (k0_pay7 (F := Ideal) (b0 m c t) (b2 m c t) (b3 m c t) (b6 m c t)) (b8 m c t) : S512x1024.Idx → EReal) (ix2 r q) = OutBwdRefIdeal.Read.val_main_v40 (F := Ideal) (a2 m c) (a4 m c) (a5 m c) (a6 m c) (a7 m c) (ix2 (n0 := 4096) (n1 := 1024) p q) := by
  rw [dya_ref, pay11_apply]
  exact Finset.sum_congr rfl fun k _ => congrArg₂ (fun a b : EReal => a * b) (da_entry m c t r k p hp)
    (blk8 m c t (ix2 q k) (ix2 (n0 := 1024) (n1 := 1024) q k) rfl rfl)

theorem dyb_entry (c : Dev nD) (t : Fin cfg0.N) (r : Fin 512) (q : Fin 1024) (p : Fin 4096) (hp : p.val = 512 * t.val + r.val) : (k0_pay12 (F := Ideal) (k0_pay8 (F := Ideal) (b0 m c t) (b2 m c t) (b3 m c t) (b7 m c t)) (b9 m c t) : S512x1024.Idx → EReal) (ix2 r q) = OutBwdRefIdeal.Read.val_main_v41 (F := Ideal) (a3 m c) (a4 m c) (a5 m c) (a6 m c) (a7 m c) (ix2 (n0 := 4096) (n1 := 1024) p q) := by
  rw [dyb_ref, pay12_apply]
  exact Finset.sum_congr rfl fun k _ => congrArg₂ (fun a b : EReal => a * b) (db_entry m c t r k p hp)
    (blk9 m c t (ix2 q k) (ix2 (n0 := 1024) (n1 := 1024) q k) rfl rfl)

theorem ga_entry (c : Dev nD) (t : Fin cfg0.N) (r : Fin 512) (q : Fin 1024) (p : Fin 4096) (hp : p.val = 512 * t.val + r.val) : (k0_pay9 (F := Ideal) (k0_pay4 (F := Ideal) (b0 m c t) (b2 m c t) (b3 m c t)) (k0_pay5 (F := Ideal) (b6 m c t)) (b4 m c t) : S512x1024.Idx → EReal) (ix2 r q) = OutBwdRefIdeal.Read.val_main_v39 (F := Ideal) (a0 m c) (a2 m c) (a4 m c) (a5 m c) (a6 m c) (a7 m c) (ix2 (n0 := 4096) (n1 := 1024) p q) := by
  rw [OutBwdRefIdeal.Read.val_main_v39_apply, OutBwdRefIdeal.Read.val_main_v38_apply, OutBwdRefIdeal.Read.val_main_v12_apply, OutBwdRefIdeal.Read.val_main_v11_apply, OutBwdRefIdeal.Read.val_main_v10_apply, OutBwdRefIdeal.Read.val_main_cst_1_apply, pay9_apply]
  exact congrArg₂ (fun a b : EReal => a * b) (congrArg₂ (fun a b : EReal => a * b) (dm_entry m c t r q p hp) (blk4 m c t (ix2 r q) (ix2 (n0 := 4096) (n1 := 1024) p q) hp rfl))
    (congrArg (fun z : EReal => z * (FloatOps.ofBits (F := Ideal) .f32 0x3F800000#32 - z)) (sa_entry m c t r q p hp))

theorem gb_entry (c : Dev nD) (t : Fin cfg0.N) (r : Fin 512) (q : Fin 1024) (p : Fin 4096) (hp : p.val = 512 * t.val + r.val) : (k0_pay10 (F := Ideal) (k0_pay4 (F := Ideal) (b0 m c t) (b2 m c t) (b3 m c t)) (k0_pay6 (F := Ideal) (b7 m c t)) (b5 m c t) : S512x1024.Idx → EReal) (ix2 r q) = OutBwdRefIdeal.Read.val_main_v36 (F := Ideal) (a1 m c) (a3 m c) (a4 m c) (a5 m c) (a6 m c) (a7 m c) (ix2 (n0 := 4096) (n1 := 1024) p q) := by
  rw [OutBwdRefIdeal.Read.val_main_v36_apply, OutBwdRefIdeal.Read.val_main_v35_apply, OutBwdRefIdeal.Read.val_main_v22_apply, OutBwdRefIdeal.Read.val_main_v21_apply, OutBwdRefIdeal.Read.val_main_v20_apply, OutBwdRefIdeal.Read.val_main_cst_4_apply, pay10_apply]
  exact congrArg₂ (fun a b : EReal => a * b) (congrArg₂ (fun a b : EReal => a * b) (dm_entry m c t r q p hp) (blk5 m c t (ix2 r q) (ix2 (n0 := 4096) (n1 := 1024) p q) hp rfl))
    (congrArg (fun z : EReal => z * (FloatOps.ofBits (F := Ideal) .f32 0x3F800000#32 - z)) (sb_entry m c t r q p hp))

/-! ## The five arrays finished block by block -/

theorem flushed10_eq (c : Dev nD) (t : Fin cfg0.N) :
    (dats m 0 c).flushed 10 t = ((cfg0.win 10).blk t).view.read (Elt Ideal) (OutBwdRefIdeal.Read.val_main_v44 (F := Ideal) (a6 m c) (a7 m c)) := by
  have ht : t.val < 8 := lt_of_lt_of_eq t.isLt N_0
  rw [flushed10, step_10]
  refine on_ix2 (n0 := 512) (n1 := 1024) fun r q => ?_
  obtain ⟨-, -, -, -, -, -, -, -, -, -, -, -, -, -, -, -, -, -, -, -, e0, e1, -⟩ := idx_in t
  have hb0 : (((cfg0.win 10).blk t).view.emb (ix2 r q) 0).val = win0_10.index t (0 : Fin 2) * 512 + 1 * r.val := rfl
  have hb1 : (((cfg0.win 10).blk t).view.emb (ix2 r q) 1).val = win0_10.index t (1 : Fin 2) * 1024 + 1 * q.val := rfl
  have he : ((cfg0.win 10).blk t).view.emb (ix2 r q) = ix2 (n0 := 4096) (n1 := 1024) ⟨512 * t.val + r.val, by omega⟩ q := by
    funext a; apply Fin.ext
    match a with
    | ⟨0, _⟩ => refine hb0.trans ?_; show _ = 512 * t.val + r.val; rw [e0]; omega
    | ⟨1, _⟩ => refine hb1.trans ?_; show _ = q.val; rw [e1]; omega
  show (k0_pay3 (F := Ideal) (b0 m c t) (b2 m c t) : S512x1024.Idx → EReal) (ix2 r q) = OutBwdRefIdeal.Read.val_main_v44 (F := Ideal) (a6 m c) (a7 m c) (((cfg0.win 10).blk t).view.emb (ix2 r q))
  rw [he]
  exact ct_entry m c t r q _ rfl

theorem mem_blk10 (t : Fin cfg0.N) (i : S4096x1024.Idx) :
    i ∈ ((cfg0.win 10).blk t).view.set ↔ ∀ a, win0_10.index t a * S512x1024.size a ≤ (i a).val ∧ (i a).val < win0_10.index t a * S512x1024.size a + S512x1024.size a := by
  show i ∈ ((View.whole main_v26_0).slice (win0_10.rect t)).set ↔ _
  rw [View.set_slice_whole, Rect.mem_set_unit]

theorem result10 (c : Dev nD) : (dats m 0 c).arrAt 10 cfg0.N = OutBwdRefIdeal.Read.val_main_v44 (F := Ideal) (a6 m c) (a7 m c) :=
  (dats m 0 c).arrAt_eq_of_cover 10 (OutBwdRefIdeal.Read.val_main_v44 (F := Ideal) (a6 m c) (a7 m c)) (fun t _ => flushed10_eq m c t) fun i => by
    have h0 : (i 0).val < 4096 := (i 0).isLt
    have h1 : (i 1).val < 1024 := (i 1).isLt
    have ht : (i 0).val / 512 < cfg0.N := lt_of_lt_of_eq (by omega) N_0.symm
    obtain ⟨-, -, -, -, -, -, -, -, -, -, -, -, -, -, -, -, -, -, -, -, e0, e1, -, -, -, -, -, -, -, -, -, -, -, -, hf, -⟩ := idx_in ⟨(i 0).val / 512, ht⟩
    refine ⟨⟨(i 0).val / 512, ht⟩, hf, (mem_blk10 _ i).2 fun a => ?_⟩
    match a with
    | ⟨0, _⟩ =>
      show win0_10.index _ (0 : Fin 2) * 512 ≤ (i 0).val ∧ (i 0).val < win0_10.index _ (0 : Fin 2) * 512 + 512
      rw [e0]
      show (((i 0).val / 512)) * 512 ≤ (i 0).val ∧ (i 0).val < (((i 0).val / 512)) * 512 + 512
      omega
    | ⟨1, _⟩ =>
      show win0_10.index _ (1 : Fin 2) * 1024 ≤ (i 1).val ∧ (i 1).val < win0_10.index _ (1 : Fin 2) * 1024 + 1024
      rw [e1]
      show (0) * 1024 ≤ (i 1).val ∧ (i 1).val < (0) * 1024 + 1024
      omega

theorem flushed11_eq (c : Dev nD) (t : Fin cfg0.N) :
    (dats m 0 c).flushed 11 t = ((cfg0.win 11).blk t).view.read (Elt Ideal) (OutBwdRefIdeal.Read.val_main_v45 (F := Ideal) (a4 m c) (a5 m c) (a6 m c) (a7 m c)) := by
  have ht : t.val < 8 := lt_of_lt_of_eq t.isLt N_0
  rw [flushed11, step_11]
  refine on_ix2 (n0 := 512) (n1 := 1024) fun r q => ?_
  obtain ⟨-, -, -, -, -, -, -, -, -, -, -, -, -, -, -, -, -, -, -, -, -, -, e0, e1, -⟩ := idx_in t
  have hb0 : (((cfg0.win 11).blk t).view.emb (ix2 r q) 0).val = win0_11.index t (0 : Fin 2) * 512 + 1 * r.val := rfl
  have hb1 : (((cfg0.win 11).blk t).view.emb (ix2 r q) 1).val = win0_11.index t (1 : Fin 2) * 1024 + 1 * q.val := rfl
  have he : ((cfg0.win 11).blk t).view.emb (ix2 r q) = ix2 (n0 := 4096) (n1 := 1024) ⟨512 * t.val + r.val, by omega⟩ q := by
    funext a; apply Fin.ext
    match a with
    | ⟨0, _⟩ => refine hb0.trans ?_; show _ = 512 * t.val + r.val; rw [e0]; omega
    | ⟨1, _⟩ => refine hb1.trans ?_; show _ = q.val; rw [e1]; omega
  show (k0_pay7 (F := Ideal) (b0 m c t) (b2 m c t) (b3 m c t) (b6 m c t) : S512x1024.Idx → EReal) (ix2 r q) = OutBwdRefIdeal.Read.val_main_v45 (F := Ideal) (a4 m c) (a5 m c) (a6 m c) (a7 m c) (((cfg0.win 11).blk t).view.emb (ix2 r q))
  rw [he]
  exact da_entry m c t r q _ rfl

theorem mem_blk11 (t : Fin cfg0.N) (i : S4096x1024.Idx) :
    i ∈ ((cfg0.win 11).blk t).view.set ↔ ∀ a, win0_11.index t a * S512x1024.size a ≤ (i a).val ∧ (i a).val < win0_11.index t a * S512x1024.size a + S512x1024.size a := by
  show i ∈ ((View.whole main_v26_1).slice (win0_11.rect t)).set ↔ _
  rw [View.set_slice_whole, Rect.mem_set_unit]

theorem result11 (c : Dev nD) : (dats m 0 c).arrAt 11 cfg0.N = OutBwdRefIdeal.Read.val_main_v45 (F := Ideal) (a4 m c) (a5 m c) (a6 m c) (a7 m c) :=
  (dats m 0 c).arrAt_eq_of_cover 11 (OutBwdRefIdeal.Read.val_main_v45 (F := Ideal) (a4 m c) (a5 m c) (a6 m c) (a7 m c)) (fun t _ => flushed11_eq m c t) fun i => by
    have h0 : (i 0).val < 4096 := (i 0).isLt
    have h1 : (i 1).val < 1024 := (i 1).isLt
    have ht : (i 0).val / 512 < cfg0.N := lt_of_lt_of_eq (by omega) N_0.symm
    obtain ⟨-, -, -, -, -, -, -, -, -, -, -, -, -, -, -, -, -, -, -, -, -, -, e0, e1, -, -, -, -, -, -, -, -, -, -, -, hf, -⟩ := idx_in ⟨(i 0).val / 512, ht⟩
    refine ⟨⟨(i 0).val / 512, ht⟩, hf, (mem_blk11 _ i).2 fun a => ?_⟩
    match a with
    | ⟨0, _⟩ =>
      show win0_11.index _ (0 : Fin 2) * 512 ≤ (i 0).val ∧ (i 0).val < win0_11.index _ (0 : Fin 2) * 512 + 512
      rw [e0]
      show (((i 0).val / 512)) * 512 ≤ (i 0).val ∧ (i 0).val < (((i 0).val / 512)) * 512 + 512
      omega
    | ⟨1, _⟩ =>
      show win0_11.index _ (1 : Fin 2) * 1024 ≤ (i 1).val ∧ (i 1).val < win0_11.index _ (1 : Fin 2) * 1024 + 1024
      rw [e1]
      show (0) * 1024 ≤ (i 1).val ∧ (i 1).val < (0) * 1024 + 1024
      omega

theorem flushed12_eq (c : Dev nD) (t : Fin cfg0.N) :
    (dats m 0 c).flushed 12 t = ((cfg0.win 12).blk t).view.read (Elt Ideal) (OutBwdRefIdeal.Read.val_main_v46 (F := Ideal) (a4 m c) (a5 m c) (a6 m c) (a7 m c)) := by
  have ht : t.val < 8 := lt_of_lt_of_eq t.isLt N_0
  rw [flushed12, step_12]
  refine on_ix2 (n0 := 512) (n1 := 1024) fun r q => ?_
  obtain ⟨-, -, -, -, -, -, -, -, -, -, -, -, -, -, -, -, -, -, -, -, -, -, -, -, e0, e1, -⟩ := idx_in t
  have hb0 : (((cfg0.win 12).blk t).view.emb (ix2 r q) 0).val = win0_12.index t (0 : Fin 2) * 512 + 1 * r.val := rfl
  have hb1 : (((cfg0.win 12).blk t).view.emb (ix2 r q) 1).val = win0_12.index t (1 : Fin 2) * 1024 + 1 * q.val := rfl
  have he : ((cfg0.win 12).blk t).view.emb (ix2 r q) = ix2 (n0 := 4096) (n1 := 1024) ⟨512 * t.val + r.val, by omega⟩ q := by
    funext a; apply Fin.ext
    match a with
    | ⟨0, _⟩ => refine hb0.trans ?_; show _ = 512 * t.val + r.val; rw [e0]; omega
    | ⟨1, _⟩ => refine hb1.trans ?_; show _ = q.val; rw [e1]; omega
  show (k0_pay8 (F := Ideal) (b0 m c t) (b2 m c t) (b3 m c t) (b7 m c t) : S512x1024.Idx → EReal) (ix2 r q) = OutBwdRefIdeal.Read.val_main_v46 (F := Ideal) (a4 m c) (a5 m c) (a6 m c) (a7 m c) (((cfg0.win 12).blk t).view.emb (ix2 r q))
  rw [he]
  exact db_entry m c t r q _ rfl

theorem mem_blk12 (t : Fin cfg0.N) (i : S4096x1024.Idx) :
    i ∈ ((cfg0.win 12).blk t).view.set ↔ ∀ a, win0_12.index t a * S512x1024.size a ≤ (i a).val ∧ (i a).val < win0_12.index t a * S512x1024.size a + S512x1024.size a := by
  show i ∈ ((View.whole main_v26_2).slice (win0_12.rect t)).set ↔ _
  rw [View.set_slice_whole, Rect.mem_set_unit]

theorem result12 (c : Dev nD) : (dats m 0 c).arrAt 12 cfg0.N = OutBwdRefIdeal.Read.val_main_v46 (F := Ideal) (a4 m c) (a5 m c) (a6 m c) (a7 m c) :=
  (dats m 0 c).arrAt_eq_of_cover 12 (OutBwdRefIdeal.Read.val_main_v46 (F := Ideal) (a4 m c) (a5 m c) (a6 m c) (a7 m c)) (fun t _ => flushed12_eq m c t) fun i => by
    have h0 : (i 0).val < 4096 := (i 0).isLt
    have h1 : (i 1).val < 1024 := (i 1).isLt
    have ht : (i 0).val / 512 < cfg0.N := lt_of_lt_of_eq (by omega) N_0.symm
    obtain ⟨-, -, -, -, -, -, -, -, -, -, -, -, -, -, -, -, -, -, -, -, -, -, -, -, e0, e1, -, -, -, -, -, -, -, -, -, -, hf, -⟩ := idx_in ⟨(i 0).val / 512, ht⟩
    refine ⟨⟨(i 0).val / 512, ht⟩, hf, (mem_blk12 _ i).2 fun a => ?_⟩
    match a with
    | ⟨0, _⟩ =>
      show win0_12.index _ (0 : Fin 2) * 512 ≤ (i 0).val ∧ (i 0).val < win0_12.index _ (0 : Fin 2) * 512 + 512
      rw [e0]
      show (((i 0).val / 512)) * 512 ≤ (i 0).val ∧ (i 0).val < (((i 0).val / 512)) * 512 + 512
      omega
    | ⟨1, _⟩ =>
      show win0_12.index _ (1 : Fin 2) * 1024 ≤ (i 1).val ∧ (i 1).val < win0_12.index _ (1 : Fin 2) * 1024 + 1024
      rw [e1]
      show (0) * 1024 ≤ (i 1).val ∧ (i 1).val < (0) * 1024 + 1024
      omega

theorem flushed13_eq (c : Dev nD) (t : Fin cfg0.N) :
    (dats m 0 c).flushed 13 t = ((cfg0.win 13).blk t).view.read (Elt Ideal) (OutBwdRefIdeal.Read.val_main_v47 (F := Ideal) (a2 m c) (a4 m c) (a5 m c) (a6 m c) (a7 m c)) := by
  have ht : t.val < 8 := lt_of_lt_of_eq t.isLt N_0
  rw [flushed13, step_13]
  refine on_ix2 (n0 := 512) (n1 := 1024) fun r q => ?_
  obtain ⟨-, -, -, -, -, -, -, -, -, -, -, -, -, -, -, -, -, -, -, -, -, -, -, -, -, -, e0, e1, -⟩ := idx_in t
  have hb0 : (((cfg0.win 13).blk t).view.emb (ix2 r q) 0).val = win0_13.index t (0 : Fin 2) * 512 + 1 * r.val := rfl
  have hb1 : (((cfg0.win 13).blk t).view.emb (ix2 r q) 1).val = win0_13.index t (1 : Fin 2) * 1024 + 1 * q.val := rfl
  have he : ((cfg0.win 13).blk t).view.emb (ix2 r q) = ix2 (n0 := 4096) (n1 := 1024) ⟨512 * t.val + r.val, by omega⟩ q := by
    funext a; apply Fin.ext
    match a with
    | ⟨0, _⟩ => refine hb0.trans ?_; show _ = 512 * t.val + r.val; rw [e0]; omega
    | ⟨1, _⟩ => refine hb1.trans ?_; show _ = q.val; rw [e1]; omega
  show (k0_pay11 (F := Ideal) (k0_pay7 (F := Ideal) (b0 m c t) (b2 m c t) (b3 m c t) (b6 m c t)) (b8 m c t) : S512x1024.Idx → EReal) (ix2 r q) = OutBwdRefIdeal.Read.val_main_v47 (F := Ideal) (a2 m c) (a4 m c) (a5 m c) (a6 m c) (a7 m c) (((cfg0.win 13).blk t).view.emb (ix2 r q))
  rw [he]
  exact dya_entry m c t r q _ rfl

theorem mem_blk13 (t : Fin cfg0.N) (i : S4096x1024.Idx) :
    i ∈ ((cfg0.win 13).blk t).view.set ↔ ∀ a, win0_13.index t a * S512x1024.size a ≤ (i a).val ∧ (i a).val < win0_13.index t a * S512x1024.size a + S512x1024.size a := by
  show i ∈ ((View.whole main_v26_3).slice (win0_13.rect t)).set ↔ _
  rw [View.set_slice_whole, Rect.mem_set_unit]

theorem result13 (c : Dev nD) : (dats m 0 c).arrAt 13 cfg0.N = OutBwdRefIdeal.Read.val_main_v47 (F := Ideal) (a2 m c) (a4 m c) (a5 m c) (a6 m c) (a7 m c) :=
  (dats m 0 c).arrAt_eq_of_cover 13 (OutBwdRefIdeal.Read.val_main_v47 (F := Ideal) (a2 m c) (a4 m c) (a5 m c) (a6 m c) (a7 m c)) (fun t _ => flushed13_eq m c t) fun i => by
    have h0 : (i 0).val < 4096 := (i 0).isLt
    have h1 : (i 1).val < 1024 := (i 1).isLt
    have ht : (i 0).val / 512 < cfg0.N := lt_of_lt_of_eq (by omega) N_0.symm
    obtain ⟨-, -, -, -, -, -, -, -, -, -, -, -, -, -, -, -, -, -, -, -, -, -, -, -, -, -, e0, e1, -, -, -, -, -, -, -, -, -, hf, -⟩ := idx_in ⟨(i 0).val / 512, ht⟩
    refine ⟨⟨(i 0).val / 512, ht⟩, hf, (mem_blk13 _ i).2 fun a => ?_⟩
    match a with
    | ⟨0, _⟩ =>
      show win0_13.index _ (0 : Fin 2) * 512 ≤ (i 0).val ∧ (i 0).val < win0_13.index _ (0 : Fin 2) * 512 + 512
      rw [e0]
      show (((i 0).val / 512)) * 512 ≤ (i 0).val ∧ (i 0).val < (((i 0).val / 512)) * 512 + 512
      omega
    | ⟨1, _⟩ =>
      show win0_13.index _ (1 : Fin 2) * 1024 ≤ (i 1).val ∧ (i 1).val < win0_13.index _ (1 : Fin 2) * 1024 + 1024
      rw [e1]
      show (0) * 1024 ≤ (i 1).val ∧ (i 1).val < (0) * 1024 + 1024
      omega

theorem flushed14_eq (c : Dev nD) (t : Fin cfg0.N) :
    (dats m 0 c).flushed 14 t = ((cfg0.win 14).blk t).view.read (Elt Ideal) (OutBwdRefIdeal.Read.val_main_v48 (F := Ideal) (a3 m c) (a4 m c) (a5 m c) (a6 m c) (a7 m c)) := by
  have ht : t.val < 8 := lt_of_lt_of_eq t.isLt N_0
  rw [flushed14, step_14]
  refine on_ix2 (n0 := 512) (n1 := 1024) fun r q => ?_
  obtain ⟨-, -, -, -, -, -, -, -, -, -, -, -, -, -, -, -, -, -, -, -, -, -, -, -, -, -, -, -, e0, e1, -⟩ := idx_in t
  have hb0 : (((cfg0.win 14).blk t).view.emb (ix2 r q) 0).val = win0_14.index t (0 : Fin 2) * 512 + 1 * r.val := rfl
  have hb1 : (((cfg0.win 14).blk t).view.emb (ix2 r q) 1).val = win0_14.index t (1 : Fin 2) * 1024 + 1 * q.val := rfl
  have he : ((cfg0.win 14).blk t).view.emb (ix2 r q) = ix2 (n0 := 4096) (n1 := 1024) ⟨512 * t.val + r.val, by omega⟩ q := by
    funext a; apply Fin.ext
    match a with
    | ⟨0, _⟩ => refine hb0.trans ?_; show _ = 512 * t.val + r.val; rw [e0]; omega
    | ⟨1, _⟩ => refine hb1.trans ?_; show _ = q.val; rw [e1]; omega
  show (k0_pay12 (F := Ideal) (k0_pay8 (F := Ideal) (b0 m c t) (b2 m c t) (b3 m c t) (b7 m c t)) (b9 m c t) : S512x1024.Idx → EReal) (ix2 r q) = OutBwdRefIdeal.Read.val_main_v48 (F := Ideal) (a3 m c) (a4 m c) (a5 m c) (a6 m c) (a7 m c) (((cfg0.win 14).blk t).view.emb (ix2 r q))
  rw [he]
  exact dyb_entry m c t r q _ rfl

theorem mem_blk14 (t : Fin cfg0.N) (i : S4096x1024.Idx) :
    i ∈ ((cfg0.win 14).blk t).view.set ↔ ∀ a, win0_14.index t a * S512x1024.size a ≤ (i a).val ∧ (i a).val < win0_14.index t a * S512x1024.size a + S512x1024.size a := by
  show i ∈ ((View.whole main_v26_4).slice (win0_14.rect t)).set ↔ _
  rw [View.set_slice_whole, Rect.mem_set_unit]

theorem result14 (c : Dev nD) : (dats m 0 c).arrAt 14 cfg0.N = OutBwdRefIdeal.Read.val_main_v48 (F := Ideal) (a3 m c) (a4 m c) (a5 m c) (a6 m c) (a7 m c) :=
  (dats m 0 c).arrAt_eq_of_cover 14 (OutBwdRefIdeal.Read.val_main_v48 (F := Ideal) (a3 m c) (a4 m c) (a5 m c) (a6 m c) (a7 m c)) (fun t _ => flushed14_eq m c t) fun i => by
    have h0 : (i 0).val < 4096 := (i 0).isLt
    have h1 : (i 1).val < 1024 := (i 1).isLt
    have ht : (i 0).val / 512 < cfg0.N := lt_of_lt_of_eq (by omega) N_0.symm
    obtain ⟨-, -, -, -, -, -, -, -, -, -, -, -, -, -, -, -, -, -, -, -, -, -, -, -, -, -, -, -, e0, e1, -, -, -, -, -, -, -, -, hf, -⟩ := idx_in ⟨(i 0).val / 512, ht⟩
    refine ⟨⟨(i 0).val / 512, ht⟩, hf, (mem_blk14 _ i).2 fun a => ?_⟩
    match a with
    | ⟨0, _⟩ =>
      show win0_14.index _ (0 : Fin 2) * 512 ≤ (i 0).val ∧ (i 0).val < win0_14.index _ (0 : Fin 2) * 512 + 512
      rw [e0]
      show (((i 0).val / 512)) * 512 ≤ (i 0).val ∧ (i 0).val < (((i 0).val / 512)) * 512 + 512
      omega
    | ⟨1, _⟩ =>
      show win0_14.index _ (1 : Fin 2) * 1024 ≤ (i 1).val ∧ (i 1).val < win0_14.index _ (1 : Fin 2) * 1024 + 1024
      rw [e1]
      show (0) * 1024 ≤ (i 1).val ∧ (i 1).val < (0) * 1024 + 1024
      omega

/-! ## The two gate columns -/

theorem cat_a (c : Dev nD) (p : Fin 4096) (s : Fin 8192) (q : Fin 1024) (hq : s.val = 6144 + q.val) :
    OutBwdRefIdeal.Read.val_main_v43 (F := Ideal) (a0 m c) (a1 m c) (a2 m c) (a3 m c) (a4 m c) (a5 m c) (a6 m c) (a7 m c) (ix2 (n0 := 4096) (n1 := 8192) p s) = OutBwdRefIdeal.Read.val_main_v39 (F := Ideal) (a0 m c) (a2 m c) (a4 m c) (a5 m c) (a6 m c) (a7 m c) (ix2 (n0 := 4096) (n1 := 1024) p q) := by
  unfold OutBwdRefIdeal.Read.val_main_v43
  exact concatenate_apply_piece (t := OutBwdRefIdeal.S4096x8192) 1 _ _ (ix2 (n0 := 4096) (n1 := 8192) p s) 1 (by show 1 < 3; decide) OutBwdRefIdeal.S4096x1024 (OutBwdRefIdeal.Read.val_main_v39 (F := Ideal) (a0 m c) (a2 m c) (a4 m c) (a5 m c) (a6 m c) (a7 m c)) rfl rfl 6144 rfl
    (ix2 (n0 := 4096) (n1 := 1024) p q) (fun b hb => match b with
      | ⟨0, _⟩ => rfl
      | ⟨1, _⟩ => absurd rfl hb) hq.symm

theorem cat_b (c : Dev nD) (p : Fin 4096) (s : Fin 8192) (q : Fin 1024) (hq : s.val = 7168 + q.val) :
    OutBwdRefIdeal.Read.val_main_v43 (F := Ideal) (a0 m c) (a1 m c) (a2 m c) (a3 m c) (a4 m c) (a5 m c) (a6 m c) (a7 m c) (ix2 (n0 := 4096) (n1 := 8192) p s) = OutBwdRefIdeal.Read.val_main_v36 (F := Ideal) (a1 m c) (a3 m c) (a4 m c) (a5 m c) (a6 m c) (a7 m c) (ix2 (n0 := 4096) (n1 := 1024) p q) := by
  unfold OutBwdRefIdeal.Read.val_main_v43
  exact concatenate_apply_piece (t := OutBwdRefIdeal.S4096x8192) 1 _ _ (ix2 (n0 := 4096) (n1 := 8192) p s) 2 (by show 2 < 3; decide) OutBwdRefIdeal.S4096x1024 (OutBwdRefIdeal.Read.val_main_v36 (F := Ideal) (a1 m c) (a3 m c) (a4 m c) (a5 m c) (a6 m c) (a7 m c)) rfl rfl 7168 rfl
    (ix2 (n0 := 4096) (n1 := 1024) p q) (fun b hb => match b with
      | ⟨0, _⟩ => rfl
      | ⟨1, _⟩ => absurd rfl hb) hq.symm

theorem gates_entry (c : Dev nD) (t : Fin cfg0.N) (r : Fin 512) (s : Fin 2048) (p : Fin 4096) (k : Fin 8192) (hp : p.val = 512 * t.val + r.val) (hk : k.val = 6144 + s.val) :
    (gates (F := Ideal) (b0 m c t) (b2 m c t) (b3 m c t) (b4 m c t) (b5 m c t) (b6 m c t) (b7 m c t) : S512x2048.Idx → EReal) (ix2 (n0 := 512) (n1 := 2048) r s)
      = OutBwdRefIdeal.Read.val_main_v49 (F := Ideal) (a0 m c) (a1 m c) (a2 m c) (a3 m c) (a4 m c) (a5 m c) (a6 m c) (a7 m c) (ix2 (n0 := 4096) (n1 := 8192) p k) := by
  rw [OutBwdRefIdeal.Read.val_main_v49_apply]
  by_cases h : s.val < 1024
  · refine (dif_pos h).trans ?_
    exact (ga_entry m c t r ⟨s.val, h⟩ p hp).trans (cat_a m c p k ⟨s.val, h⟩ hk).symm
  · refine (dif_neg h).trans ?_
    exact (gb_entry m c t r ⟨s.val - 1024, by omega⟩ p hp).trans (cat_b m c p k ⟨s.val - 1024, by omega⟩ (by show k.val = 7168 + (s.val - 1024); omega)).symm

theorem result15 (c : Dev nD) (i : S4096x8192.Idx) (hi : 6144 ≤ (i 1).val) :
    ((dats m 0 c).arrAt 15 cfg0.N : S4096x8192.Idx → EReal) i = OutBwdRefIdeal.Read.val_main_v49 (F := Ideal) (a0 m c) (a1 m c) (a2 m c) (a3 m c) (a4 m c) (a5 m c) (a6 m c) (a7 m c) i := by
  have h0 : (i 0).val < 4096 := (i 0).isLt
  have h1 : (i 1).val < 8192 := (i 1).isLt
  have ht : (i 0).val / 512 < cfg0.N := lt_of_lt_of_eq (by omega) N_0.symm
  obtain ⟨-, -, -, -, -, -, -, -, -, -, -, -, -, -, -, -, -, -, -, -, -, -, -, -, -, -, -, -, -, -, e0, e1, -, -, -, -, -, -, -, hf⟩ := idx_in ⟨(i 0).val / 512, ht⟩
  have hr : (i 0).val % 512 < 512 := Nat.mod_lt _ (by decide)
  have hs : (i 1).val - 6144 < 2048 := by omega
  have hb0 : (((cfg0.win 15).blk ⟨(i 0).val / 512, ht⟩).view.emb (ix2 (n0 := 512) (n1 := 2048) ⟨(i 0).val % 512, hr⟩ ⟨(i 1).val - 6144, hs⟩) 0).val
    = win0_15.index ⟨(i 0).val / 512, ht⟩ (0 : Fin 2) * 512 + 1 * ((i 0).val % 512) := rfl
  have hb1 : (((cfg0.win 15).blk ⟨(i 0).val / 512, ht⟩).view.emb (ix2 (n0 := 512) (n1 := 2048) ⟨(i 0).val % 512, hr⟩ ⟨(i 1).val - 6144, hs⟩) 1).val
    = win0_15.index ⟨(i 0).val / 512, ht⟩ (1 : Fin 2) * 2048 + 1 * ((i 1).val - 6144) := rfl
  have ha0 := hb0.trans (show _ = (i 0).val by rw [e0]; show (i 0).val / 512 * 512 + 1 * ((i 0).val % 512) = _; omega)
  have ha1 := hb1.trans (show _ = (i 1).val by rw [e1]; omega)
  have he : ((cfg0.win 15).blk ⟨(i 0).val / 512, ht⟩).view.emb (ix2 (n0 := 512) (n1 := 2048) ⟨(i 0).val % 512, hr⟩ ⟨(i 1).val - 6144, hs⟩) = i := by
    exact idx_ext ha0 ha1
  have h := congrFun (blocks15 m c ⟨(i 0).val / 512, ht⟩ hf) (ix2 (n0 := 512) (n1 := 2048) ⟨(i 0).val % 512, hr⟩ ⟨(i 1).val - 6144, hs⟩)
  rw [flushed15, step_15] at h
  refine (congrArg ((dats m 0 c).arrAt 15 cfg0.N : S4096x8192.Idx → EReal) he).symm.trans (h.trans ?_)
  have hij : i = ix2 (n0 := 4096) (n1 := 8192) (i 0) (i 1) := funext fun a => Fin.ext (match a with
    | ⟨0, _⟩ => rfl
    | ⟨1, _⟩ => rfl)
  refine Eq.trans ?_ (congrArg (OutBwdRefIdeal.Read.val_main_v49 (F := Ideal) (a0 m c) (a1 m c) (a2 m c) (a3 m c) (a4 m c) (a5 m c) (a6 m c) (a7 m c)) hij).symm
  exact gates_entry m c ⟨(i 0).val / 512, ht⟩ ⟨(i 0).val % 512, hr⟩ ⟨(i 1).val - 6144, hs⟩ (i 0) (i 1) (by show (i 0).val = 512 * ((i 0).val / 512) + (i 0).val % 512; omega)
    (by show (i 1).val = 6144 + ((i 1).val - 6144); omega)

/-! ## The gradient of the residual's gate -/

abbrev mo (c : Dev nD) : S4096x1024.Idx → EReal := OutBwdRefIdeal.Read.val_main_v25 (F := Ideal) (a0 m c) (a1 m c) (a2 m c) (a3 m c) (a4 m c) (a5 m c)
abbrev sums (c : Dev nD) (n : ℕ) (h : n < cfg0.N) : S8x1024.Idx → EReal := (outsAt0 m c n h).2.2.2.2.2.2

/-- Row `x`'s share of the sum at column `q`. -/
abbrev term (c : Dev nD) (q : Fin 1024) (x : Fin 4096) : EReal := a7 m c (ix2 (n0 := 4096) (n1 := 1024) x q) * mo m c (ix2 (n0 := 4096) (n1 := 1024) x q)

theorem blk_sum (c : Dev nD) (t : Fin cfg0.N) (q : Fin 1024) (n : ℕ) (hn : n < 8) (ht : t.val = n) :
    ∑ k : Fin 512, b0 m c t (ix2 k q) * b1 m c t (ix2 k q) = ∑ k : Fin 512, ext0 (term m c q) (512 * n + k.val) := by
  refine Finset.sum_congr rfl fun k _ => ?_
  have hx : 512 * n + k.val < 4096 := by omega
  rw [ext0_of_lt _ _ hx]
  exact congrArg₂ (fun a b : EReal => a * b) (blk0 m c t (ix2 k q) (ix2 (n0 := 4096) (n1 := 1024) ⟨512 * n + k.val, hx⟩ q) (by show 512 * n + k.val = 512 * t.val + k.val; rw [ht]) rfl)
    (blk1 m c t (ix2 k q) (ix2 (n0 := 4096) (n1 := 1024) ⟨512 * n + k.val, hx⟩ q) (by show 512 * n + k.val = 512 * t.val + k.val; rw [ht]) rfl)

theorem partial_sum (c : Dev nD) (q : Fin 1024) : ∀ (n : ℕ) (h : n < cfg0.N) (r : Fin 8), n < 8 →
    sums m c n h (ix2 r q) = if r.val = 0 then ∑ x ∈ Finset.range (512 * (n + 1)), ext0 (term m c q) x else 0 := by
  intro n
  induction n with
  | zero =>
    intro h r _
    have e := acc_A m c ⟨0, h⟩ rfl
    refine (congrFun e (ix2 r q)).trans ((setRow_apply 0 _ _ r q).trans ?_)
    split
    · refine (pay2_apply _ _ _ 0 q).trans ?_
      rw [rowOf_apply, pay1_apply, zero_add]
      exact (blk_sum m c ⟨0, h⟩ q 0 (by omega) rfl).trans (sum_block_first _ 512)
    · exact pay1_apply _
  | succ n ih =>
    intro h r h8
    have hp : n < cfg0.N := Nat.lt_of_succ_lt h
    have e := acc_B m c ⟨n + 1, h⟩ (by show ¬(n + 1) % 8 = 0; omega) n hp rfl
    refine (congrFun e (ix2 r q)).trans ((setRow_apply 0 _ _ r q).trans ?_)
    split
    · refine (pay2_apply _ _ _ 0 q).trans ?_
      rw [rowOf_apply]
      have ih0 := (ih hp 0 (by omega)).trans (if_pos rfl)
      refine (congrArg₂ (fun a b : EReal => a + b) ih0 (blk_sum m c ⟨n + 1, h⟩ q (n + 1) h8 rfl)).trans ?_
      exact sum_block _ 512 (n + 1)
    · rename_i hr
      exact (ih hp r (by omega)).trans (if_neg hr)

theorem sums_ref (c : Dev nD) (r : Fin 8) (q : Fin 1024) :
    OutBwdRefIdeal.Read.val_main_v51 (F := Ideal) (a0 m c) (a1 m c) (a2 m c) (a3 m c) (a4 m c) (a5 m c) (a7 m c) (ix2 (n0 := 8) (n1 := 1024) r q) = if r.val = 0 then ∑ x : Fin 4096, term m c q x else 0 := by
  unfold OutBwdRefIdeal.Read.val_main_v51
  by_cases h : r.val = 0
  · rw [if_pos h]
    refine (concatenate_pair_apply_left (t := OutBwdRefIdeal.S8x1024) (s₁ := OutBwdRefIdeal.S1x1024) (s₂ := OutBwdRefIdeal.S7x1024) 0 _ _ _ (ix2 (n0 := 8) (n1 := 1024) r q) rfl (ix2 (n0 := 1) (n1 := 1024) 0 q) (fun b => match b with
      | ⟨0, _⟩ => h.symm
      | ⟨1, _⟩ => rfl)).trans ?_
    rw [OutBwdRefIdeal.Read.val_main_v32_apply, OutBwdRefIdeal.Read.val_main_v31_apply, OutBwdRefIdeal.Read.val_main_cst_5_apply]
    refine (congrArg (fun z : EReal => z + _) Ideal.ofBits_zero_f32).trans ((zero_add _).trans (Finset.sum_congr rfl fun x _ => ?_))
    have hj : OutBwdRefIdeal.Read.idx_main_v31 (OutBwdRefIdeal.Read.idx_main_v32 (ix2 (n0 := 1) (n1 := 1024) 0 q)) x = ix2 (n0 := 4096) (n1 := 1024) x q := funext fun a => Fin.ext (match a with
      | ⟨0, _⟩ => rfl
      | ⟨1, _⟩ => by show 0 * 1024 + q.val = q.val; omega)
    rw [hj, OutBwdRefIdeal.Read.val_main_v30_apply]
    rfl
  · rw [if_neg h]
    refine (concatenate_pair_apply_right (t := OutBwdRefIdeal.S8x1024) (s₁ := OutBwdRefIdeal.S1x1024) (s₂ := OutBwdRefIdeal.S7x1024) 0 _ _ _ (ix2 (n0 := 8) (n1 := 1024) r q) rfl rfl (ix2 (n0 := 7) (n1 := 1024) ⟨r.val - 1, by omega⟩ q) (fun b hb => match b with
      | ⟨0, _⟩ => absurd rfl hb
      | ⟨1, _⟩ => rfl) (by show r.val - 1 + 1 = r.val; omega)).trans ?_
    rw [OutBwdRefIdeal.Read.val_main_v50_apply, OutBwdRefIdeal.Read.val_main_cst_7_apply]
    exact Ideal.ofBits_zero_f32

theorem flushed16_eq (c : Dev nD) (t : Fin cfg0.N) (hf : (cfg0.win 16).flush t = true) :
    (dats m 0 c).flushed 16 t = ((cfg0.win 16).blk t).view.read (Elt Ideal) (OutBwdRefIdeal.Read.val_main_v51 (F := Ideal) (a0 m c) (a1 m c) (a2 m c) (a3 m c) (a4 m c) (a5 m c) (a7 m c)) := by
  have h7 : t.val = 7 := (flush_last t).1 hf
  rw [flushed16]
  refine on_ix2 (n0 := 8) (n1 := 1024) fun r q => ?_
  obtain ⟨-, -, -, -, -, -, -, -, -, -, -, -, -, -, -, -, -, -, -, -, -, -, -, -, -, -, -, -, -, -, -, -, e0, e1, -⟩ := idx_in t
  have hb0 : (((cfg0.win 16).blk t).view.emb (ix2 r q) 0).val = win0_16.index t (0 : Fin 2) * 8 + 1 * r.val := rfl
  have hb1 : (((cfg0.win 16).blk t).view.emb (ix2 r q) 1).val = win0_16.index t (1 : Fin 2) * 1024 + 1 * q.val := rfl
  have he : ((cfg0.win 16).blk t).view.emb (ix2 r q) = ix2 (n0 := 8) (n1 := 1024) r q := by
    funext a; apply Fin.ext
    match a with
    | ⟨0, _⟩ => refine hb0.trans ?_; show _ = r.val; rw [e0]; omega
    | ⟨1, _⟩ => refine hb1.trans ?_; show _ = q.val; rw [e1]; omega
  show sums m c t.val t.isLt (ix2 r q) = OutBwdRefIdeal.Read.val_main_v51 (F := Ideal) (a0 m c) (a1 m c) (a2 m c) (a3 m c) (a4 m c) (a5 m c) (a7 m c) (((cfg0.win 16).blk t).view.emb (ix2 r q))
  rw [he, sums_ref, partial_sum m c q t.val t.isLt r (by omega), h7]
  refine congrArg (fun z : EReal => if r.val = 0 then z else 0) ?_
  exact sum_ext0 (term m c q)

theorem mem_blk16 (t : Fin cfg0.N) (i : S8x1024.Idx) :
    i ∈ ((cfg0.win 16).blk t).view.set ↔ ∀ a, win0_16.index t a * S8x1024.size a ≤ (i a).val ∧ (i a).val < win0_16.index t a * S8x1024.size a + S8x1024.size a := by
  show i ∈ ((View.whole main_v26_6).slice (win0_16.rect t)).set ↔ _
  rw [View.set_slice_whole, Rect.mem_set_unit]

theorem result16 (c : Dev nD) : (dats m 0 c).arrAt 16 cfg0.N = OutBwdRefIdeal.Read.val_main_v51 (F := Ideal) (a0 m c) (a1 m c) (a2 m c) (a3 m c) (a4 m c) (a5 m c) (a7 m c) :=
  (dats m 0 c).arrAt_eq_of_cover 16 (OutBwdRefIdeal.Read.val_main_v51 (F := Ideal) (a0 m c) (a1 m c) (a2 m c) (a3 m c) (a4 m c) (a5 m c) (a7 m c)) (fun t hf => flushed16_eq m c t hf) fun i => by
    have h0 : (i 0).val < 8 := (i 0).isLt
    have h1 : (i 1).val < 1024 := (i 1).isLt
    have ht : 7 < cfg0.N := lt_of_lt_of_eq (by omega) N_0.symm
    obtain ⟨-, -, -, -, -, -, -, -, -, -, -, -, -, -, -, -, -, -, -, -, -, -, -, -, -, -, -, -, -, -, -, -, e0, e1, -, -, -, -, -, hf⟩ := idx_in ⟨7, ht⟩
    refine ⟨⟨7, ht⟩, (flush_last ⟨7, ht⟩).2 rfl, (mem_blk16 _ i).2 fun a => ?_⟩
    match a with
    | ⟨0, _⟩ =>
      show win0_16.index _ (0 : Fin 2) * 8 ≤ (i 0).val ∧ (i 0).val < win0_16.index _ (0 : Fin 2) * 8 + 8
      rw [e0]
      show (0) * 8 ≤ (i 0).val ∧ (i 0).val < (0) * 8 + 8
      omega
    | ⟨1, _⟩ =>
      show win0_16.index _ (1 : Fin 2) * 1024 ≤ (i 1).val ∧ (i 1).val < win0_16.index _ (1 : Fin 2) * 1024 + 1024
      rw [e1]
      show (0) * 1024 ≤ (i 1).val ∧ (i 1).val < (0) * 1024 + 1024
      omega

end Cert.OutBwdIdeal.Sum
-- ==== Proof.GateColumns.lean ====
/-
  The columns of the gate's gradient that the backward output kernel writes: 6144 and above.
-/
module

public import proofs.«01_k».proof.On_gate_columns
public import Idealize.ShloMosaic.Lib.Claim
public import Idealize.ShloMosaic.PureOps.Ideal

@[expose] public section

set_option maxRecDepth 16384

noncomputable section

namespace Cert.GateColumns

open Idealize.ShloMosaic Cert.On_gate_columns

theorem of_bool_one (b : Bool) (e : BitVec.ofBool b = 1#1) : b = true := by
  cases b
  · exact absurd e (by decide)
  · rfl

theorem sge_bits (n : ℕ) (h : n < 8192) (e : IntOp.cmpi .sge (BitVec.ofNat 32 n) 6144#32 = 1#1) : 6144 ≤ n := by
  have e' : (6144#32 : BitVec 32).sle (BitVec.ofNat 32 n) = true := of_bool_one _ e
  have hs : (BitVec.ofNat 32 n).toInt = (n : ℤ) := by
    have hn : (BitVec.ofNat 32 n).toNat = n := by rw [BitVec.toNat_ofNat]; omega
    rw [BitVec.toInt_eq_toNat_of_lt (by rw [hn]; omega), hn]
  have h6 : (6144#32 : BitVec 32).toInt = 6144 := by decide
  rw [BitVec.sle, decide_eq_true_eq, hs, h6] at e'
  omega

/-- Where the mask is one, the column is at least 6144. -/
theorem col_of_mask [Facts] (x0 x1 : FVec Ideal S4096x1024 .f32) (x2 x3 x4 : FVec Ideal S1024x1024 .f32) (x5 : FVec Ideal S4096x8192 .f32) (x6 : FVec Ideal S1x1024 .f32)
    (x7 : FVec Ideal S4096x1024 .f32) (i : S4096x8192.Idx) (h : (fn (F := Ideal) x0 x1 x2 x3 x4 x5 x6 x7).2.2.2.2.2.1 i = 1#1) : 6144 ≤ (i 1).val :=
  sge_bits (i 1).val (i 1).isLt h

end Cert.GateColumns
-- ==== Proof.lean ====
/-
  The claims of this certificate, put together: each kernel's two frames, each reference's, and that the two compute the same values.
  The values themselves are in the module named after the kernel.
-/
module

public import proofs.«01_k».proof.Defs
public import proofs.«01_k».proof.Proof.Gen.SumAdamFfn
public import proofs.«01_k».proof.Proof.Gen.SumAdamFfn.Frame
public import proofs.«01_k».proof.Proof.Gen.SumAdamFfnIdeal.Frame
public import proofs.«01_k».proof.Proof.Gen.SumAdamFfnIdeal
public import proofs.«01_k».proof.Proof.Gen.SumAdamFfnRefIdeal
public import proofs.«01_k».proof.Proof.Gen.SumAdamFfnRefIdeal.Run
public import proofs.«01_k».proof.Proof.SumAdamFfn
public import proofs.«01_k».proof.Proof.Gen.SumAdamSquare
public import proofs.«01_k».proof.Proof.Gen.SumAdamSquare.Frame
public import proofs.«01_k».proof.Proof.Gen.SumAdamSquareIdeal.Frame
public import proofs.«01_k».proof.Proof.Gen.SumAdamSquareIdeal
public import proofs.«01_k».proof.Proof.Gen.SumAdamSquareRefIdeal
public import proofs.«01_k».proof.Proof.Gen.SumAdamSquareRefIdeal.Run
public import proofs.«01_k».proof.Proof.SumAdamSquare
public import proofs.«01_k».proof.Proof.Gen.SumAdamWin
public import proofs.«01_k».proof.Proof.Gen.SumAdamWin.Frame
public import proofs.«01_k».proof.Proof.Gen.SumAdamWinIdeal.Frame
public import proofs.«01_k».proof.Proof.Gen.SumAdamWinIdeal
public import proofs.«01_k».proof.Proof.Gen.SumAdamWinRefIdeal
public import proofs.«01_k».proof.Proof.Gen.SumAdamWinRefIdeal.Run
public import proofs.«01_k».proof.Proof.SumAdamWin
public import proofs.«01_k».proof.Proof.Gen.SmallAdam
public import proofs.«01_k».proof.Proof.Gen.SmallAdam.Frame
public import proofs.«01_k».proof.Proof.Gen.SmallAdamIdeal.Frame
public import proofs.«01_k».proof.Proof.Gen.SmallAdamIdeal
public import proofs.«01_k».proof.Proof.Gen.SmallAdamRefIdeal
public import proofs.«01_k».proof.Proof.Gen.SmallAdamRefIdeal.Run
public import proofs.«01_k».proof.Proof.SmallAdam
public import proofs.«01_k».proof.Proof.Gen.AdaGrad
public import proofs.«01_k».proof.Proof.Gen.AdaGrad.Frame
public import proofs.«01_k».proof.Proof.Gen.AdaGradIdeal.Frame
public import proofs.«01_k».proof.Proof.Gen.AdaGradIdeal
public import proofs.«01_k».proof.Proof.Gen.AdaGradRefIdeal
public import proofs.«01_k».proof.Proof.Gen.AdaGradRefIdeal.Run
public import proofs.«01_k».proof.Proof.AdaGrad
public import proofs.«01_k».proof.Proof.Gen.GradFfn
public import proofs.«01_k».proof.Proof.Gen.GradFfn.Frame
public import proofs.«01_k».proof.Proof.Gen.GradFfnIdeal.Frame
public import proofs.«01_k».proof.Proof.Gen.GradFfnIdeal
public import proofs.«01_k».proof.Proof.Gen.GradWdRefIdeal
public import proofs.«01_k».proof.Proof.Gen.GradWdRefIdeal.Run
public import proofs.«01_k».proof.Proof.GradFfn
public import proofs.«01_k».proof.Proof.Gen.GradWgRefIdeal
public import proofs.«01_k».proof.Proof.Gen.GradWgRefIdeal.Run
public import proofs.«01_k».proof.Proof.Gen.GradSquare
public import proofs.«01_k».proof.Proof.Gen.GradSquare.Frame
public import proofs.«01_k».proof.Proof.Gen.GradSquareIdeal.Frame
public import proofs.«01_k».proof.Proof.Gen.GradSquareIdeal
public import proofs.«01_k».proof.Proof.Gen.GradSquareRefIdeal
public import proofs.«01_k».proof.Proof.Gen.GradSquareRefIdeal.Run
public import proofs.«01_k».proof.Proof.GradSquare
public import proofs.«01_k».proof.Proof.Gen.GradWin
public import proofs.«01_k».proof.Proof.Gen.GradWin.Frame
public import proofs.«01_k».proof.Proof.Gen.GradWinIdeal.Frame
public import proofs.«01_k».proof.Proof.Gen.GradWinIdeal
public import proofs.«01_k».proof.Proof.Gen.GradWinRefIdeal
public import proofs.«01_k».proof.Proof.Gen.GradWinRefIdeal.Run
public import proofs.«01_k».proof.Proof.GradWin
public import proofs.«01_k».proof.Proof.Gen.MmInBwd
public import proofs.«01_k».proof.Proof.Gen.MmInBwd.Frame
public import proofs.«01_k».proof.Proof.Gen.MmInBwdIdeal.Frame
public import proofs.«01_k».proof.Proof.Gen.MmInBwdIdeal
public import proofs.«01_k».proof.Proof.Gen.MmInBwdRefIdeal
public import proofs.«01_k».proof.Proof.Gen.MmInBwdRefIdeal.Run
public import proofs.«01_k».proof.Proof.MmInBwd
public import proofs.«01_k».proof.Proof.Gen.Lnmod
public import proofs.«01_k».proof.Proof.Gen.Lnmod.Frame
public import proofs.«01_k».proof.Proof.Gen.LnmodIdeal.Frame
public import proofs.«01_k».proof.Proof.Gen.LnmodIdeal
public import proofs.«01_k».proof.Proof.Gen.LnmodRefIdeal
public import proofs.«01_k».proof.Proof.Gen.LnmodRefIdeal.Run
public import proofs.«01_k».proof.Proof.Lnmod
public import proofs.«01_k».proof.Proof.Gen.MmIn
public import proofs.«01_k».proof.Proof.Gen.MmIn.Frame
public import proofs.«01_k».proof.Proof.Gen.MmInIdeal.Frame
public import proofs.«01_k».proof.Proof.Gen.MmInIdeal
public import proofs.«01_k».proof.Proof.Gen.MmInRefIdeal
public import proofs.«01_k».proof.Proof.Gen.MmInRefIdeal.Run
public import proofs.«01_k».proof.Proof.MmIn
public import proofs.«01_k».proof.Proof.Gen.Branch
public import proofs.«01_k».proof.Proof.Gen.Branch.Frame
public import proofs.«01_k».proof.Proof.Gen.BranchIdeal.Frame
public import proofs.«01_k».proof.Proof.Gen.BranchIdeal
public import proofs.«01_k».proof.Proof.Gen.BranchRefIdeal
public import proofs.«01_k».proof.Proof.Gen.BranchRefIdeal.Run
public import proofs.«01_k».proof.Proof.Branch
public import proofs.«01_k».proof.Proof.Gen.OutProj
public import proofs.«01_k».proof.Proof.Gen.OutProj.Frame
public import proofs.«01_k».proof.Proof.Gen.OutProjIdeal.Frame
public import proofs.«01_k».proof.Proof.Gen.OutProjIdeal
public import proofs.«01_k».proof.Proof.Gen.OutProjRefIdeal
public import proofs.«01_k».proof.Proof.Gen.OutProjRefIdeal.Run
public import proofs.«01_k».proof.Proof.OutProj
public import proofs.«01_k».proof.Proof.Gen.FfnUp
public import proofs.«01_k».proof.Proof.Gen.FfnUp.Frame
public import proofs.«01_k».proof.Proof.Gen.FfnUpIdeal.Frame
public import proofs.«01_k».proof.Proof.Gen.FfnUpIdeal
public import proofs.«01_k».proof.Proof.Gen.FfnUpRefIdeal
public import proofs.«01_k».proof.Proof.Gen.FfnUpRefIdeal.Run
public import proofs.«01_k».proof.Proof.FfnUp
public import proofs.«01_k».proof.Proof.Gen.FfnDown
public import proofs.«01_k».proof.Proof.Gen.FfnDown.Frame
public import proofs.«01_k».proof.Proof.Gen.FfnDownIdeal.Frame
public import proofs.«01_k».proof.Proof.Gen.FfnDownIdeal
public import proofs.«01_k».proof.Proof.Gen.FfnDownRefIdeal
public import proofs.«01_k».proof.Proof.Gen.FfnDownRefIdeal.Run
public import proofs.«01_k».proof.Proof.FfnDown
public import proofs.«01_k».proof.Proof.Gen.FfnBwd2
public import proofs.«01_k».proof.Proof.Gen.FfnBwd2.Frame
public import proofs.«01_k».proof.Proof.Gen.FfnBwd2Ideal.Frame
public import proofs.«01_k».proof.Proof.Gen.FfnBwd2Ideal
public import proofs.«01_k».proof.Proof.Gen.FfnBwd2RefIdeal
public import proofs.«01_k».proof.Proof.Gen.FfnBwd2RefIdeal.Run
public import proofs.«01_k».proof.Proof.FfnBwd2
public import proofs.«01_k».proof.Proof.Gen.LnmodBwd
public import proofs.«01_k».proof.Proof.Gen.LnmodBwd.Frame
public import proofs.«01_k».proof.Proof.Gen.LnmodBwdIdeal.Frame
public import proofs.«01_k».proof.Proof.Gen.LnmodBwdIdeal
public import proofs.«01_k».proof.Proof.Gen.LnmodBwdRefIdeal
public import proofs.«01_k».proof.Proof.Gen.LnmodBwdRefIdeal.Run
public import proofs.«01_k».proof.Proof.LnmodBwd
public import proofs.«01_k».proof.Proof.Gen.OutBwd
public import proofs.«01_k».proof.Proof.Gen.OutBwd.Frame
public import proofs.«01_k».proof.Proof.Gen.OutBwdIdeal.Frame
public import proofs.«01_k».proof.Proof.Gen.OutBwdIdeal
public import proofs.«01_k».proof.Proof.Gen.OutBwdRefIdeal
public import proofs.«01_k».proof.Proof.Gen.OutBwdRefIdeal.Run
public import proofs.«01_k».proof.Proof.OutBwd
public import proofs.«01_k».proof.Proof.GateColumns
public import proofs.«01_k».proof.Proof.Gen.Pre_finite_ffn
public import proofs.«01_k».proof.Proof.Gen.Pre_finite_norm
public import proofs.«01_k».proof.Proof.Gen.On_gate_columns
public import Idealize.ShloMosaic.Lib.Claim

@[expose] public section

set_option maxRecDepth 16384

noncomputable section

namespace Cert.Proof

open Idealize.ShloMosaic Idealize.SL.Sem

theorem frame_SumAdamFfn : Cert.quiescent_SumAdamFfn := fun m ρ _ => Cert.SumAdamFfn.Gen.frame m ρ

theorem frame_SumAdamFfnIdeal : Cert.quiescent_SumAdamFfnIdeal := fun m ρ _ => Cert.SumAdamFfnIdeal.Gen.frame m ρ

/-- The reference runs; it has no semaphores. -/
theorem frame_SumAdamFfnRefIdeal : Cert.quiescent_SumAdamFfnRefIdeal := fun m ρ _ =>
  (θ_run Cert.SumAdamFfnRefIdeal.defs _ _).mono (fun r h => ⟨fun c => (h c).2.2.2.2, sem_eq_zero_of_no_sems (by decide) r.2⟩)
    (Cert.SumAdamFfnRefIdeal.Value.run (F := Ideal) m ρ)

theorem value_SumAdamFfnRef : Cert.algebraic_SumAdamFfnIdeal_SumAdamFfnRefIdeal := fun m ρ m' ρ' _ hag =>
  ⟨fun c => Cert.SumAdamFfnRefIdeal.Read.val_main_v6 (F := Ideal) (Cert.SumAdamFfnIdeal.Sum.a0 m c) (Cert.SumAdamFfnIdeal.Sum.a1 m c),
    fun c => Cert.SumAdamFfnRefIdeal.Read.val_main_v30 (F := Ideal) (Cert.SumAdamFfnIdeal.Sum.a0 m c) (Cert.SumAdamFfnIdeal.Sum.a1 m c) (Cert.SumAdamFfnIdeal.Sum.a2 m c) (Cert.SumAdamFfnIdeal.Sum.a3 m c) (Cert.SumAdamFfnIdeal.Sum.a4 m c),
    fun c => Cert.SumAdamFfnRefIdeal.Read.val_main_v11 (F := Ideal) (Cert.SumAdamFfnIdeal.Sum.a0 m c) (Cert.SumAdamFfnIdeal.Sum.a1 m c) (Cert.SumAdamFfnIdeal.Sum.a3 m c),
    fun c => Cert.SumAdamFfnRefIdeal.Read.val_main_v17 (F := Ideal) (Cert.SumAdamFfnIdeal.Sum.a0 m c) (Cert.SumAdamFfnIdeal.Sum.a1 m c) (Cert.SumAdamFfnIdeal.Sum.a4 m c),
    (θ_run Cert.SumAdamFfnIdeal.defs _ _).mono (fun _ h c => ⟨(h c).1.trans (Cert.SumAdamFfnIdeal.Sum.result5 m c),
      (h c).2.1.trans (Cert.SumAdamFfnIdeal.Sum.result6 m c),
      (h c).2.2.1.trans (Cert.SumAdamFfnIdeal.Sum.result7 m c),
      (h c).2.2.2.1.trans (Cert.SumAdamFfnIdeal.Sum.result8 m c), (h c).2.2.2.2⟩) (Cert.SumAdamFfnIdeal.Value.run_blocks m ρ),
    (θ_run Cert.SumAdamFfnRefIdeal.defs _ _).mono (fun _ h c => ⟨(h c).1.trans ((Cert.SumAdamFfnRefIdeal.Read.val_main_v6_eq _ _).trans (congr (congrArg (Cert.SumAdamFfnRefIdeal.Read.val_main_v6 (F := Ideal)) (hag c).1) (hag c).2.1)),
      (h c).2.1.trans ((Cert.SumAdamFfnRefIdeal.Read.val_main_v30_eq _ _ _ _ _).trans (congr (congr (congr (congr (congrArg (Cert.SumAdamFfnRefIdeal.Read.val_main_v30 (F := Ideal)) (hag c).1) (hag c).2.1) (hag c).2.2.1) (hag c).2.2.2.1) (hag c).2.2.2.2)),
      (h c).2.2.1.trans ((Cert.SumAdamFfnRefIdeal.Read.val_main_v11_eq _ _ _).trans (congr (congr (congrArg (Cert.SumAdamFfnRefIdeal.Read.val_main_v11 (F := Ideal)) (hag c).1) (hag c).2.1) (hag c).2.2.2.1)),
      (h c).2.2.2.1.trans ((Cert.SumAdamFfnRefIdeal.Read.val_main_v17_eq _ _ _).trans (congr (congr (congrArg (Cert.SumAdamFfnRefIdeal.Read.val_main_v17 (F := Ideal)) (hag c).1) (hag c).2.1) (hag c).2.2.2.2)), (h c).2.2.2.2⟩)
      (Cert.SumAdamFfnRefIdeal.Value.run (F := Ideal) m' ρ')⟩

theorem frame_SumAdamSquare : Cert.quiescent_SumAdamSquare := fun m ρ _ => Cert.SumAdamSquare.Gen.frame m ρ

theorem frame_SumAdamSquareIdeal : Cert.quiescent_SumAdamSquareIdeal := fun m ρ _ => Cert.SumAdamSquareIdeal.Gen.frame m ρ

/-- The reference runs; it has no semaphores. -/
theorem frame_SumAdamSquareRefIdeal : Cert.quiescent_SumAdamSquareRefIdeal := fun m ρ _ =>
  (θ_run Cert.SumAdamSquareRefIdeal.defs _ _).mono (fun r h => ⟨fun c => (h c).2.2.2.2, sem_eq_zero_of_no_sems (by decide) r.2⟩)
    (Cert.SumAdamSquareRefIdeal.Value.run (F := Ideal) m ρ)

theorem value_SumAdamSquareRef : Cert.algebraic_SumAdamSquareIdeal_SumAdamSquareRefIdeal := fun m ρ m' ρ' _ hag =>
  ⟨fun c => Cert.SumAdamSquareRefIdeal.Read.val_main_v6 (F := Ideal) (Cert.SumAdamSquareIdeal.Sum.a0 m c) (Cert.SumAdamSquareIdeal.Sum.a1 m c),
    fun c => Cert.SumAdamSquareRefIdeal.Read.val_main_v30 (F := Ideal) (Cert.SumAdamSquareIdeal.Sum.a0 m c) (Cert.SumAdamSquareIdeal.Sum.a1 m c) (Cert.SumAdamSquareIdeal.Sum.a2 m c) (Cert.SumAdamSquareIdeal.Sum.a3 m c) (Cert.SumAdamSquareIdeal.Sum.a4 m c),
    fun c => Cert.SumAdamSquareRefIdeal.Read.val_main_v11 (F := Ideal) (Cert.SumAdamSquareIdeal.Sum.a0 m c) (Cert.SumAdamSquareIdeal.Sum.a1 m c) (Cert.SumAdamSquareIdeal.Sum.a3 m c),
    fun c => Cert.SumAdamSquareRefIdeal.Read.val_main_v17 (F := Ideal) (Cert.SumAdamSquareIdeal.Sum.a0 m c) (Cert.SumAdamSquareIdeal.Sum.a1 m c) (Cert.SumAdamSquareIdeal.Sum.a4 m c),
    (θ_run Cert.SumAdamSquareIdeal.defs _ _).mono (fun _ h c => ⟨(h c).1.trans (Cert.SumAdamSquareIdeal.Sum.result5 m c),
      (h c).2.1.trans (Cert.SumAdamSquareIdeal.Sum.result6 m c),
      (h c).2.2.1.trans (Cert.SumAdamSquareIdeal.Sum.result7 m c),
      (h c).2.2.2.1.trans (Cert.SumAdamSquareIdeal.Sum.result8 m c), (h c).2.2.2.2⟩) (Cert.SumAdamSquareIdeal.Value.run_blocks m ρ),
    (θ_run Cert.SumAdamSquareRefIdeal.defs _ _).mono (fun _ h c => ⟨(h c).1.trans ((Cert.SumAdamSquareRefIdeal.Read.val_main_v6_eq _ _).trans (congr (congrArg (Cert.SumAdamSquareRefIdeal.Read.val_main_v6 (F := Ideal)) (hag c).1) (hag c).2.1)),
      (h c).2.1.trans ((Cert.SumAdamSquareRefIdeal.Read.val_main_v30_eq _ _ _ _ _).trans (congr (congr (congr (congr (congrArg (Cert.SumAdamSquareRefIdeal.Read.val_main_v30 (F := Ideal)) (hag c).1) (hag c).2.1) (hag c).2.2.1) (hag c).2.2.2.1) (hag c).2.2.2.2)),
      (h c).2.2.1.trans ((Cert.SumAdamSquareRefIdeal.Read.val_main_v11_eq _ _ _).trans (congr (congr (congrArg (Cert.SumAdamSquareRefIdeal.Read.val_main_v11 (F := Ideal)) (hag c).1) (hag c).2.1) (hag c).2.2.2.1)),
      (h c).2.2.2.1.trans ((Cert.SumAdamSquareRefIdeal.Read.val_main_v17_eq _ _ _).trans (congr (congr (congrArg (Cert.SumAdamSquareRefIdeal.Read.val_main_v17 (F := Ideal)) (hag c).1) (hag c).2.1) (hag c).2.2.2.2)), (h c).2.2.2.2⟩)
      (Cert.SumAdamSquareRefIdeal.Value.run (F := Ideal) m' ρ')⟩

theorem frame_SumAdamWin : Cert.quiescent_SumAdamWin := fun m ρ _ => Cert.SumAdamWin.Gen.frame m ρ

theorem frame_SumAdamWinIdeal : Cert.quiescent_SumAdamWinIdeal := fun m ρ _ => Cert.SumAdamWinIdeal.Gen.frame m ρ

/-- The reference runs; it has no semaphores. -/
theorem frame_SumAdamWinRefIdeal : Cert.quiescent_SumAdamWinRefIdeal := fun m ρ _ =>
  (θ_run Cert.SumAdamWinRefIdeal.defs _ _).mono (fun r h => ⟨fun c => (h c).2.2.2.2, sem_eq_zero_of_no_sems (by decide) r.2⟩)
    (Cert.SumAdamWinRefIdeal.Value.run (F := Ideal) m ρ)

theorem value_SumAdamWinRef : Cert.algebraic_SumAdamWinIdeal_SumAdamWinRefIdeal := fun m ρ m' ρ' _ hag =>
  ⟨fun c => Cert.SumAdamWinRefIdeal.Read.val_main_v6 (F := Ideal) (Cert.SumAdamWinIdeal.Sum.a0 m c) (Cert.SumAdamWinIdeal.Sum.a1 m c),
    fun c => Cert.SumAdamWinRefIdeal.Read.val_main_v30 (F := Ideal) (Cert.SumAdamWinIdeal.Sum.a0 m c) (Cert.SumAdamWinIdeal.Sum.a1 m c) (Cert.SumAdamWinIdeal.Sum.a2 m c) (Cert.SumAdamWinIdeal.Sum.a3 m c) (Cert.SumAdamWinIdeal.Sum.a4 m c),
    fun c => Cert.SumAdamWinRefIdeal.Read.val_main_v11 (F := Ideal) (Cert.SumAdamWinIdeal.Sum.a0 m c) (Cert.SumAdamWinIdeal.Sum.a1 m c) (Cert.SumAdamWinIdeal.Sum.a3 m c),
    fun c => Cert.SumAdamWinRefIdeal.Read.val_main_v17 (F := Ideal) (Cert.SumAdamWinIdeal.Sum.a0 m c) (Cert.SumAdamWinIdeal.Sum.a1 m c) (Cert.SumAdamWinIdeal.Sum.a4 m c),
    (θ_run Cert.SumAdamWinIdeal.defs _ _).mono (fun _ h c => ⟨(h c).1.trans (Cert.SumAdamWinIdeal.Sum.result5 m c),
      (h c).2.1.trans (Cert.SumAdamWinIdeal.Sum.result6 m c),
      (h c).2.2.1.trans (Cert.SumAdamWinIdeal.Sum.result7 m c),
      (h c).2.2.2.1.trans (Cert.SumAdamWinIdeal.Sum.result8 m c), (h c).2.2.2.2⟩) (Cert.SumAdamWinIdeal.Value.run_blocks m ρ),
    (θ_run Cert.SumAdamWinRefIdeal.defs _ _).mono (fun _ h c => ⟨(h c).1.trans ((Cert.SumAdamWinRefIdeal.Read.val_main_v6_eq _ _).trans (congr (congrArg (Cert.SumAdamWinRefIdeal.Read.val_main_v6 (F := Ideal)) (hag c).1) (hag c).2.1)),
      (h c).2.1.trans ((Cert.SumAdamWinRefIdeal.Read.val_main_v30_eq _ _ _ _ _).trans (congr (congr (congr (congr (congrArg (Cert.SumAdamWinRefIdeal.Read.val_main_v30 (F := Ideal)) (hag c).1) (hag c).2.1) (hag c).2.2.1) (hag c).2.2.2.1) (hag c).2.2.2.2)),
      (h c).2.2.1.trans ((Cert.SumAdamWinRefIdeal.Read.val_main_v11_eq _ _ _).trans (congr (congr (congrArg (Cert.SumAdamWinRefIdeal.Read.val_main_v11 (F := Ideal)) (hag c).1) (hag c).2.1) (hag c).2.2.2.1)),
      (h c).2.2.2.1.trans ((Cert.SumAdamWinRefIdeal.Read.val_main_v17_eq _ _ _).trans (congr (congr (congrArg (Cert.SumAdamWinRefIdeal.Read.val_main_v17 (F := Ideal)) (hag c).1) (hag c).2.1) (hag c).2.2.2.2)), (h c).2.2.2.2⟩)
      (Cert.SumAdamWinRefIdeal.Value.run (F := Ideal) m' ρ')⟩

theorem frame_SmallAdam : Cert.quiescent_SmallAdam := fun m ρ _ => Cert.SmallAdam.Gen.frame m ρ

theorem frame_SmallAdamIdeal : Cert.quiescent_SmallAdamIdeal := fun m ρ _ => Cert.SmallAdamIdeal.Gen.frame m ρ

/-- The reference runs; it has no semaphores. -/
theorem frame_SmallAdamRefIdeal : Cert.quiescent_SmallAdamRefIdeal := fun m ρ _ =>
  (θ_run Cert.SmallAdamRefIdeal.defs _ _).mono (fun r h => ⟨fun c => (h c).2.2.2.2.2, sem_eq_zero_of_no_sems (by decide) r.2⟩)
    (Cert.SmallAdamRefIdeal.Value.run (F := Ideal) m ρ)

theorem value_SmallAdamRef : Cert.algebraic_SmallAdamIdeal_SmallAdamRefIdeal := fun m ρ m' ρ' _ hag =>
  ⟨fun c => Cert.SmallAdamRefIdeal.Read.val_main_v5 (F := Ideal) (Cert.SmallAdamIdeal.Sum.a0 m c),
    fun c => Cert.SmallAdamRefIdeal.Read.val_main_v6 (F := Ideal) (Cert.SmallAdamIdeal.Sum.a0 m c),
    fun c => Cert.SmallAdamRefIdeal.Read.val_main_v30 (F := Ideal) (Cert.SmallAdamIdeal.Sum.a0 m c) (Cert.SmallAdamIdeal.Sum.a1 m c) (Cert.SmallAdamIdeal.Sum.a2 m c) (Cert.SmallAdamIdeal.Sum.a3 m c),
    fun c => Cert.SmallAdamRefIdeal.Read.val_main_v11 (F := Ideal) (Cert.SmallAdamIdeal.Sum.a0 m c) (Cert.SmallAdamIdeal.Sum.a2 m c),
    fun c => Cert.SmallAdamRefIdeal.Read.val_main_v17 (F := Ideal) (Cert.SmallAdamIdeal.Sum.a0 m c) (Cert.SmallAdamIdeal.Sum.a3 m c),
    Cert.SmallAdamIdeal.Sum.run m ρ,
    (θ_run Cert.SmallAdamRefIdeal.defs _ _).mono (fun _ h c => ⟨(h c).1.trans ((Cert.SmallAdamRefIdeal.Read.val_main_v5_eq _).trans (congrArg (Cert.SmallAdamRefIdeal.Read.val_main_v5 (F := Ideal)) (hag c).1)),
      (h c).2.1.trans ((Cert.SmallAdamRefIdeal.Read.val_main_v6_eq _).trans (congrArg (Cert.SmallAdamRefIdeal.Read.val_main_v6 (F := Ideal)) (hag c).1)),
      (h c).2.2.1.trans ((Cert.SmallAdamRefIdeal.Read.val_main_v30_eq _ _ _ _).trans (congr (congr (congr (congrArg (Cert.SmallAdamRefIdeal.Read.val_main_v30 (F := Ideal)) (hag c).1) (hag c).2.1) (hag c).2.2.1) (hag c).2.2.2)),
      (h c).2.2.2.1.trans ((Cert.SmallAdamRefIdeal.Read.val_main_v11_eq _ _).trans (congr (congrArg (Cert.SmallAdamRefIdeal.Read.val_main_v11 (F := Ideal)) (hag c).1) (hag c).2.2.1)),
      (h c).2.2.2.2.1.trans ((Cert.SmallAdamRefIdeal.Read.val_main_v17_eq _ _).trans (congr (congrArg (Cert.SmallAdamRefIdeal.Read.val_main_v17 (F := Ideal)) (hag c).1) (hag c).2.2.2)), (h c).2.2.2.2.2⟩)
      (Cert.SmallAdamRefIdeal.Value.run (F := Ideal) m' ρ')⟩

theorem frame_AdaGrad : Cert.quiescent_AdaGrad := fun m ρ _ => Cert.AdaGrad.Gen.frame m ρ

theorem frame_AdaGradIdeal : Cert.quiescent_AdaGradIdeal := fun m ρ _ => Cert.AdaGradIdeal.Gen.frame m ρ

/-- The reference runs; it has no semaphores. -/
theorem frame_AdaGradRefIdeal : Cert.quiescent_AdaGradRefIdeal := fun m ρ _ =>
  (θ_run Cert.AdaGradRefIdeal.defs _ _).mono (fun r h => ⟨fun c => (h c).2.2.2.2, sem_eq_zero_of_no_sems (by decide) r.2⟩)
    (Cert.AdaGradRefIdeal.Value.run (F := Ideal) m ρ)

theorem value_AdaGradRef : Cert.algebraic_AdaGradIdeal_AdaGradRefIdeal := fun m ρ m' ρ' _ hag =>
  ⟨fun c => Cert.AdaGradRefIdeal.Read.val_main_v5 (F := Ideal) (Cert.AdaGradIdeal.Sum.a0 m c) (Cert.AdaGradIdeal.Sum.a1 m c),
    fun c => Cert.AdaGradRefIdeal.Read.val_main_v29 (F := Ideal) (Cert.AdaGradIdeal.Sum.a0 m c) (Cert.AdaGradIdeal.Sum.a1 m c) (Cert.AdaGradIdeal.Sum.a2 m c) (Cert.AdaGradIdeal.Sum.a3 m c) (Cert.AdaGradIdeal.Sum.a4 m c),
    fun c => Cert.AdaGradRefIdeal.Read.val_main_v10 (F := Ideal) (Cert.AdaGradIdeal.Sum.a0 m c) (Cert.AdaGradIdeal.Sum.a1 m c) (Cert.AdaGradIdeal.Sum.a3 m c),
    fun c => Cert.AdaGradRefIdeal.Read.val_main_v16 (F := Ideal) (Cert.AdaGradIdeal.Sum.a0 m c) (Cert.AdaGradIdeal.Sum.a1 m c) (Cert.AdaGradIdeal.Sum.a4 m c),
    (θ_run Cert.AdaGradIdeal.defs _ _).mono (fun _ h c => ⟨(h c).1.trans (Cert.AdaGradIdeal.Sum.result5 m c),
      (h c).2.1.trans (Cert.AdaGradIdeal.Sum.result6 m c),
      (h c).2.2.1.trans (Cert.AdaGradIdeal.Sum.result7 m c),
      (h c).2.2.2.1.trans (Cert.AdaGradIdeal.Sum.result8 m c), (h c).2.2.2.2⟩) (Cert.AdaGradIdeal.Sum.run_blocks m ρ),
    (θ_run Cert.AdaGradRefIdeal.defs _ _).mono (fun _ h c => ⟨(h c).1.trans ((Cert.AdaGradRefIdeal.Read.val_main_v5_eq _ _).trans (congr (congrArg (Cert.AdaGradRefIdeal.Read.val_main_v5 (F := Ideal)) (hag c).1) (hag c).2.1)),
      (h c).2.1.trans ((Cert.AdaGradRefIdeal.Read.val_main_v29_eq _ _ _ _ _).trans (congr (congr (congr (congr (congrArg (Cert.AdaGradRefIdeal.Read.val_main_v29 (F := Ideal)) (hag c).1) (hag c).2.1) (hag c).2.2.1) (hag c).2.2.2.1) (hag c).2.2.2.2)),
      (h c).2.2.1.trans ((Cert.AdaGradRefIdeal.Read.val_main_v10_eq _ _ _).trans (congr (congr (congrArg (Cert.AdaGradRefIdeal.Read.val_main_v10 (F := Ideal)) (hag c).1) (hag c).2.1) (hag c).2.2.2.1)),
      (h c).2.2.2.1.trans ((Cert.AdaGradRefIdeal.Read.val_main_v16_eq _ _ _).trans (congr (congr (congrArg (Cert.AdaGradRefIdeal.Read.val_main_v16 (F := Ideal)) (hag c).1) (hag c).2.1) (hag c).2.2.2.2)), (h c).2.2.2.2⟩)
      (Cert.AdaGradRefIdeal.Value.run (F := Ideal) m' ρ')⟩

theorem frame_GradFfn : Cert.quiescent_GradFfn := fun m ρ _ => Cert.GradFfn.Gen.frame m ρ

theorem frame_GradFfnIdeal : Cert.quiescent_GradFfnIdeal := fun m ρ _ => Cert.GradFfnIdeal.Gen.frame m ρ

/-- The reference runs; it has no semaphores. -/
theorem frame_GradWdRefIdeal : Cert.quiescent_GradWdRefIdeal := fun m ρ _ =>
  (θ_run Cert.GradWdRefIdeal.defs _ _).mono (fun r h => ⟨fun c => (h c).2, sem_eq_zero_of_no_sems (by decide) r.2⟩)
    (Cert.GradWdRefIdeal.Value.run (F := Ideal) m ρ)

theorem value_GradWdRef : Cert.algebraic_GradFfnIdeal_GradWdRefIdeal := fun m ρ m' ρ' _ hag =>
  ⟨fun c => Cert.GradFfnIdeal.Value.G2 m c, Cert.GradFfnIdeal.Value.run m ρ,
    (θ_run Cert.GradWdRefIdeal.defs _ _).mono (fun _ h c => ⟨(h c).1.trans ((Cert.GradWdRefIdeal.Read.val_main_v5_eq _ _).trans (Cert.GradFfnIdeal.Sum.wd_eq m c _ _ (hag c).1 (hag c).2)), (h c).2⟩)
      (Cert.GradWdRefIdeal.Value.run (F := Ideal) m' ρ')⟩

/-- The reference runs; it has no semaphores. -/
theorem frame_GradWgRefIdeal : Cert.quiescent_GradWgRefIdeal := fun m ρ _ =>
  (θ_run Cert.GradWgRefIdeal.defs _ _).mono (fun r h => ⟨fun c => (h c).2, sem_eq_zero_of_no_sems (by decide) r.2⟩)
    (Cert.GradWgRefIdeal.Value.run (F := Ideal) m ρ)

theorem value_GradWgRef : Cert.algebraic_GradFfnIdeal_GradWgRefIdeal := fun m ρ m' ρ' _ hag =>
  ⟨fun c => Cert.GradFfnIdeal.Value.G2 m c, Cert.GradFfnIdeal.Value.run m ρ,
    (θ_run Cert.GradWgRefIdeal.defs _ _).mono (fun _ h c => ⟨(h c).1.trans ((Cert.GradWgRefIdeal.Read.val_main_v6_eq _ _).trans (Cert.GradFfnIdeal.Sum.wg_eq m c _ _ (hag c).1 (hag c).2)), (h c).2⟩)
      (Cert.GradWgRefIdeal.Value.run (F := Ideal) m' ρ')⟩

theorem frame_GradSquare : Cert.quiescent_GradSquare := fun m ρ _ => Cert.GradSquare.Gen.frame m ρ

theorem frame_GradSquareIdeal : Cert.quiescent_GradSquareIdeal := fun m ρ _ => Cert.GradSquareIdeal.Gen.frame m ρ

/-- The reference runs; it has no semaphores. -/
theorem frame_GradSquareRefIdeal : Cert.quiescent_GradSquareRefIdeal := fun m ρ _ =>
  (θ_run Cert.GradSquareRefIdeal.defs _ _).mono (fun r h => ⟨fun c => (h c).2, sem_eq_zero_of_no_sems (by decide) r.2⟩)
    (Cert.GradSquareRefIdeal.Value.run (F := Ideal) m ρ)

theorem value_GradSquareRef : Cert.algebraic_GradSquareIdeal_GradSquareRefIdeal := fun m ρ m' ρ' _ hag =>
  ⟨fun c => Cert.GradSquareIdeal.Value.G2 m c, Cert.GradSquareIdeal.Value.run m ρ,
    (θ_run Cert.GradSquareRefIdeal.defs _ _).mono (fun _ h c => ⟨(h c).1.trans ((Cert.GradSquareRefIdeal.Read.val_main_v5_eq _ _).trans (Cert.GradSquareIdeal.Sum.ref_eq m c _ _ (hag c).1 (hag c).2)), (h c).2⟩)
      (Cert.GradSquareRefIdeal.Value.run (F := Ideal) m' ρ')⟩

theorem frame_GradWin : Cert.quiescent_GradWin := fun m ρ _ => Cert.GradWin.Gen.frame m ρ

theorem frame_GradWinIdeal : Cert.quiescent_GradWinIdeal := fun m ρ _ => Cert.GradWinIdeal.Gen.frame m ρ

/-- The reference runs; it has no semaphores. -/
theorem frame_GradWinRefIdeal : Cert.quiescent_GradWinRefIdeal := fun m ρ _ =>
  (θ_run Cert.GradWinRefIdeal.defs _ _).mono (fun r h => ⟨fun c => (h c).2, sem_eq_zero_of_no_sems (by decide) r.2⟩)
    (Cert.GradWinRefIdeal.Value.run (F := Ideal) m ρ)

theorem value_GradWinRef : Cert.algebraic_GradWinIdeal_GradWinRefIdeal := fun m ρ m' ρ' _ hag =>
  ⟨fun c => Cert.GradWinIdeal.Value.G2 m c, Cert.GradWinIdeal.Value.run m ρ,
    (θ_run Cert.GradWinRefIdeal.defs _ _).mono (fun _ h c => ⟨(h c).1.trans ((Cert.GradWinRefIdeal.Read.val_main_v6_eq _ _).trans (Cert.GradWinIdeal.Sum.ref_eq m c _ _ (hag c).1 (hag c).2)), (h c).2⟩)
      (Cert.GradWinRefIdeal.Value.run (F := Ideal) m' ρ')⟩

theorem frame_MmInBwd : Cert.quiescent_MmInBwd := fun m ρ _ => Cert.MmInBwd.Gen.frame m ρ

theorem frame_MmInBwdIdeal : Cert.quiescent_MmInBwdIdeal := fun m ρ _ => Cert.MmInBwdIdeal.Gen.frame m ρ

/-- The reference runs; it has no semaphores. -/
theorem frame_MmInBwdRefIdeal : Cert.quiescent_MmInBwdRefIdeal := fun m ρ _ =>
  (θ_run Cert.MmInBwdRefIdeal.defs _ _).mono (fun r h => ⟨fun c => (h c).2, sem_eq_zero_of_no_sems (by decide) r.2⟩)
    (Cert.MmInBwdRefIdeal.Value.run (F := Ideal) m ρ)

theorem value_MmInBwdRef : Cert.algebraic_MmInBwdIdeal_MmInBwdRefIdeal := fun m ρ m' ρ' _ hag =>
  ⟨fun c => Cert.MmInBwdIdeal.Value.G2 m c, Cert.MmInBwdIdeal.Value.run m ρ,
    (θ_run Cert.MmInBwdRefIdeal.defs _ _).mono (fun _ h c => ⟨(h c).1.trans ((Cert.MmInBwdRefIdeal.Read.val_main_v2_eq _ _).trans (Cert.MmInBwdIdeal.Sum.ref_eq m c _ _ (hag c).1 (hag c).2)), (h c).2⟩)
      (Cert.MmInBwdRefIdeal.Value.run (F := Ideal) m' ρ')⟩

theorem frame_Lnmod : Cert.quiescent_Lnmod := fun m ρ _ => Cert.Lnmod.Gen.frame m ρ

theorem frame_LnmodIdeal : Cert.quiescent_LnmodIdeal := fun m ρ _ => Cert.LnmodIdeal.Gen.frame m ρ

/-- The reference runs; it has no semaphores. -/
theorem frame_LnmodRefIdeal : Cert.quiescent_LnmodRefIdeal := fun m ρ _ =>
  (θ_run Cert.LnmodRefIdeal.defs _ _).mono (fun r h => ⟨fun c => (h c).2, sem_eq_zero_of_no_sems (by decide) r.2⟩)
    (Cert.LnmodRefIdeal.Value.run (F := Ideal) m ρ)

theorem value_LnmodRef : Cert.algebraic_LnmodIdeal_LnmodRefIdeal := fun m ρ m' ρ' _ hag =>
  ⟨fun c => Cert.LnmodRefIdeal.Read.val_main_v18 (F := Ideal) (Cert.LnmodIdeal.Sum.a0 m c) (Cert.LnmodIdeal.Sum.a1 m c) (Cert.LnmodIdeal.Sum.a2 m c) (Cert.LnmodIdeal.Sum.a3 m c),
    (θ_run Cert.LnmodIdeal.defs _ _).mono (fun _ h c => ⟨(h c).1.trans (Cert.LnmodIdeal.Sum.result4 m c), (h c).2⟩) (Cert.LnmodIdeal.Value.run_blocks m ρ),
    (θ_run Cert.LnmodRefIdeal.defs _ _).mono (fun _ h c => ⟨(h c).1.trans ((Cert.LnmodRefIdeal.Read.val_main_v18_eq _ _ _ _).trans (congr (congr (congr (congrArg (Cert.LnmodRefIdeal.Read.val_main_v18 (F := Ideal)) (hag c).1) (hag c).2.1) (hag c).2.2.1) (hag c).2.2.2)), (h c).2⟩)
      (Cert.LnmodRefIdeal.Value.run (F := Ideal) m' ρ')⟩

theorem frame_MmIn : Cert.quiescent_MmIn := fun m ρ _ => Cert.MmIn.Gen.frame m ρ

theorem frame_MmInIdeal : Cert.quiescent_MmInIdeal := fun m ρ _ => Cert.MmInIdeal.Gen.frame m ρ

/-- The reference runs; it has no semaphores. -/
theorem frame_MmInRefIdeal : Cert.quiescent_MmInRefIdeal := fun m ρ _ =>
  (θ_run Cert.MmInRefIdeal.defs _ _).mono (fun r h => ⟨fun c => (h c).2, sem_eq_zero_of_no_sems (by decide) r.2⟩)
    (Cert.MmInRefIdeal.Value.run (F := Ideal) m ρ)

theorem value_MmInRef : Cert.algebraic_MmInIdeal_MmInRefIdeal := fun m ρ m' ρ' _ hag =>
  ⟨fun c => Cert.MmInIdeal.Sum.G m c,
    (θ_run Cert.MmInIdeal.defs _ _).mono (fun _ h c => ⟨(h c).1.trans (Cert.MmInIdeal.Sum.result m c), (h c).2⟩) (Cert.MmInIdeal.Value.run_blocks m ρ),
    (θ_run Cert.MmInRefIdeal.defs _ _).mono (fun _ h c => ⟨(h c).1.trans ((Cert.MmInRefIdeal.Read.val_main_v1_eq _ _).trans (Cert.MmInIdeal.Sum.ref_eq m c _ _ (hag c).1 (hag c).2)), (h c).2⟩)
      (Cert.MmInRefIdeal.Value.run (F := Ideal) m' ρ')⟩

theorem frame_Branch : Cert.quiescent_Branch := fun m ρ _ => Cert.Branch.Gen.frame m ρ

theorem frame_BranchIdeal : Cert.quiescent_BranchIdeal := fun m ρ _ => Cert.BranchIdeal.Gen.frame m ρ

/-- The reference runs; it has no semaphores. -/
theorem frame_BranchRefIdeal : Cert.quiescent_BranchRefIdeal := fun m ρ _ =>
  (θ_run Cert.BranchRefIdeal.defs _ _).mono (fun r h => ⟨fun c => (h c).2.2.2, sem_eq_zero_of_no_sems (by decide) r.2⟩)
    (Cert.BranchRefIdeal.Value.run (F := Ideal) m ρ)

theorem value_BranchRef : Cert.algebraic_BranchIdeal_BranchRefIdeal := fun m ρ m' ρ' _ hag =>
  ⟨fun c => Cert.BranchRefIdeal.Read.val_main_v19 (F := Ideal) (Cert.BranchIdeal.Sum.a0 m c) (Cert.BranchIdeal.Sum.a1 m c) (Cert.BranchIdeal.Sum.a2 m c) (Cert.BranchIdeal.Sum.a3 m c) (Cert.BranchIdeal.Sum.a4 m c),
    fun c => Cert.BranchRefIdeal.Read.val_main_v20 (F := Ideal) (Cert.BranchIdeal.Sum.a0 m c) (Cert.BranchIdeal.Sum.a3 m c),
    fun c => Cert.BranchRefIdeal.Read.val_main_v21 (F := Ideal) (Cert.BranchIdeal.Sum.a1 m c) (Cert.BranchIdeal.Sum.a4 m c),
    (θ_run Cert.BranchIdeal.defs _ _).mono (fun _ h c => ⟨(h c).1.trans (Cert.BranchIdeal.Sum.result6 m c),
      (h c).2.1.trans (Cert.BranchIdeal.Sum.result7 m c),
      (h c).2.2.1.trans (Cert.BranchIdeal.Sum.result8 m c), (h c).2.2.2⟩) (Cert.BranchIdeal.Value.run_blocks m ρ),
    (θ_run Cert.BranchRefIdeal.defs _ _).mono (fun _ h c => ⟨(h c).1.trans ((Cert.BranchRefIdeal.Read.val_main_v19_eq _ _ _ _ _).trans (congr (congr (congr (congr (congrArg (Cert.BranchRefIdeal.Read.val_main_v19 (F := Ideal)) (hag c).1) (hag c).2.1) (hag c).2.2.1) (hag c).2.2.2.1) (hag c).2.2.2.2)),
      (h c).2.1.trans ((Cert.BranchRefIdeal.Read.val_main_v20_eq _ _).trans (congr (congrArg (Cert.BranchRefIdeal.Read.val_main_v20 (F := Ideal)) (hag c).1) (hag c).2.2.2.1)),
      (h c).2.2.1.trans ((Cert.BranchRefIdeal.Read.val_main_v21_eq _ _).trans (congr (congrArg (Cert.BranchRefIdeal.Read.val_main_v21 (F := Ideal)) (hag c).2.1) (hag c).2.2.2.2)), (h c).2.2.2⟩)
      (Cert.BranchRefIdeal.Value.run (F := Ideal) m' ρ')⟩

theorem frame_OutProj : Cert.quiescent_OutProj := fun m ρ _ => Cert.OutProj.Gen.frame m ρ

theorem frame_OutProjIdeal : Cert.quiescent_OutProjIdeal := fun m ρ _ => Cert.OutProjIdeal.Gen.frame m ρ

/-- The reference runs; it has no semaphores. -/
theorem frame_OutProjRefIdeal : Cert.quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

theorem value_OutProjRef : Cert.algebraic_OutProjIdeal_OutProjRefIdeal := fun m ρ m' ρ' _ hag =>
  ⟨fun c => Cert.OutProjRefIdeal.Read.val_main_v3 (F := Ideal) (Cert.OutProjIdeal.Sum.a0 m c) (Cert.OutProjIdeal.Sum.a1 m c) (Cert.OutProjIdeal.Sum.a2 m c) (Cert.OutProjIdeal.Sum.a3 m c),
    fun c => Cert.OutProjRefIdeal.Read.val_main_v0 (F := Ideal) (Cert.OutProjIdeal.Sum.a0 m c) (Cert.OutProjIdeal.Sum.a1 m c),
    fun c => Cert.OutProjRefIdeal.Read.val_main_v22 (F := Ideal) (Cert.OutProjIdeal.Sum.a0 m c) (Cert.OutProjIdeal.Sum.a1 m c) (Cert.OutProjIdeal.Sum.a2 m c) (Cert.OutProjIdeal.Sum.a3 m c) (Cert.OutProjIdeal.Sum.a4 m c) (Cert.OutProjIdeal.Sum.a5 m c) (Cert.OutProjIdeal.Sum.a6 m c),
    (θ_run Cert.OutProjIdeal.defs _ _).mono (fun _ h c => ⟨(h c).1.trans (Cert.OutProjIdeal.Sum.result7 m c),
      (h c).2.1.trans (Cert.OutProjIdeal.Sum.result8 m c),
      (h c).2.2.1.trans (Cert.OutProjIdeal.Sum.result9 m c), (h c).2.2.2⟩) (Cert.OutProjIdeal.Value.run_blocks m ρ),
    (θ_run Cert.OutProjRefIdeal.defs _ _).mono (fun _ h c => ⟨(h c).1.trans ((Cert.OutProjRefIdeal.Read.val_main_v3_eq _ _ _ _).trans (congr (congr (congr (congrArg (Cert.OutProjRefIdeal.Read.val_main_v3 (F := Ideal)) (hag c).1) (hag c).2.1) (hag c).2.2.1) (hag c).2.2.2.1)),
      (h c).2.1.trans ((Cert.OutProjRefIdeal.Read.val_main_v0_eq _ _).trans (congr (congrArg (Cert.OutProjRefIdeal.Read.val_main_v0 (F := Ideal)) (hag c).1) (hag c).2.1)),
      (h c).2.2.1.trans ((Cert.OutProjRefIdeal.Read.val_main_v22_eq _ _ _ _ _ _ _).trans (congr (congr (congr (congr (congr (congr (congrArg (Cert.OutProjRefIdeal.Read.val_main_v22 (F := Ideal)) (hag c).1) (hag c).2.1) (hag c).2.2.1) (hag c).2.2.2.1) (hag c).2.2.2.2.1) (hag c).2.2.2.2.2.1) (hag c).2.2.2.2.2.2)), (h c).2.2.2⟩)
      (Cert.OutProjRefIdeal.Value.run (F := Ideal) m' ρ')⟩

theorem frame_FfnUp : Cert.quiescent_FfnUp := fun m ρ _ => Cert.FfnUp.Gen.frame m ρ

theorem frame_FfnUpIdeal : Cert.quiescent_FfnUpIdeal := fun m ρ _ => Cert.FfnUpIdeal.Gen.frame m ρ

/-- The reference runs; it has no semaphores. -/
theorem frame_FfnUpRefIdeal : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem value_FfnUpRef : Cert.algebraic_FfnUpIdeal_FfnUpRefIdeal := fun m ρ m' ρ' _ hag =>
  ⟨fun c => Cert.FfnUpRefIdeal.Read.val_main_v4 (F := Ideal) (Cert.FfnUpIdeal.Sum.a0 m c) (Cert.FfnUpIdeal.Sum.a1 m c),
    fun c => Cert.FfnUpRefIdeal.Read.val_main_v7 (F := Ideal) (Cert.FfnUpIdeal.Sum.a0 m c) (Cert.FfnUpIdeal.Sum.a2 m c),
    fun c => Cert.FfnUpRefIdeal.Read.val_main_v12 (F := Ideal) (Cert.FfnUpIdeal.Sum.a0 m c) (Cert.FfnUpIdeal.Sum.a1 m c) (Cert.FfnUpIdeal.Sum.a2 m c),
    (θ_run Cert.FfnUpIdeal.defs _ _).mono (fun _ h c => ⟨(h c).1.trans (Cert.FfnUpIdeal.Sum.result3 m c),
      (h c).2.1.trans (Cert.FfnUpIdeal.Sum.result4 m c),
      (h c).2.2.1.trans (Cert.FfnUpIdeal.Sum.result5 m c), (h c).2.2.2⟩) (Cert.FfnUpIdeal.Value.run_blocks m ρ),
    (θ_run Cert.FfnUpRefIdeal.defs _ _).mono (fun _ h c => ⟨(h c).1.trans ((Cert.FfnUpRefIdeal.Read.val_main_v4_eq _ _).trans (congr (congrArg (Cert.FfnUpRefIdeal.Read.val_main_v4 (F := Ideal)) (hag c).1) (hag c).2.1)),
      (h c).2.1.trans ((Cert.FfnUpRefIdeal.Read.val_main_v7_eq _ _).trans (congr (congrArg (Cert.FfnUpRefIdeal.Read.val_main_v7 (F := Ideal)) (hag c).1) (hag c).2.2)),
      (h c).2.2.1.trans ((Cert.FfnUpRefIdeal.Read.val_main_v12_eq _ _ _).trans (congr (congr (congrArg (Cert.FfnUpRefIdeal.Read.val_main_v12 (F := Ideal)) (hag c).1) (hag c).2.1) (hag c).2.2)), (h c).2.2.2⟩)
      (Cert.FfnUpRefIdeal.Value.run (F := Ideal) m' ρ')⟩

theorem frame_FfnDown : Cert.quiescent_FfnDown := fun m ρ _ => Cert.FfnDown.Gen.frame m ρ

theorem frame_FfnDownIdeal : Cert.quiescent_FfnDownIdeal := fun m ρ _ => Cert.FfnDownIdeal.Gen.frame m ρ

/-- The reference runs; it has no semaphores. -/
theorem frame_FfnDownRefIdeal : Cert.quiescent_FfnDownRefIdeal := fun m ρ _ =>
  (θ_run Cert.FfnDownRefIdeal.defs _ _).mono (fun r h => ⟨fun c => (h c).2.2, sem_eq_zero_of_no_sems (by decide) r.2⟩)
    (Cert.FfnDownRefIdeal.Value.run (F := Ideal) m ρ)

theorem value_FfnDownRef : Cert.algebraic_FfnDownIdeal_FfnDownRefIdeal := fun m ρ m' ρ' _ hag =>
  ⟨fun c => Cert.FfnDownRefIdeal.Read.val_main_v3 (F := Ideal) (Cert.FfnDownIdeal.Sum.a0 m c) (Cert.FfnDownIdeal.Sum.a1 m c) (Cert.FfnDownIdeal.Sum.a2 m c) (Cert.FfnDownIdeal.Sum.a3 m c),
    fun c => Cert.FfnDownRefIdeal.Read.val_main_v0 (F := Ideal) (Cert.FfnDownIdeal.Sum.a0 m c) (Cert.FfnDownIdeal.Sum.a1 m c),
    (θ_run Cert.FfnDownIdeal.defs _ _).mono (fun _ h c => ⟨(h c).1.trans (Cert.FfnDownIdeal.Sum.result4 m c),
      (h c).2.1.trans (Cert.FfnDownIdeal.Sum.result5 m c), (h c).2.2⟩) (Cert.FfnDownIdeal.Value.run m ρ),
    (θ_run Cert.FfnDownRefIdeal.defs _ _).mono (fun _ h c => ⟨(h c).1.trans ((Cert.FfnDownRefIdeal.Read.val_main_v3_eq _ _ _ _).trans (congr (congr (congr (congrArg (Cert.FfnDownRefIdeal.Read.val_main_v3 (F := Ideal)) (hag c).1) (hag c).2.1) (hag c).2.2.1) (hag c).2.2.2)),
      (h c).2.1.trans ((Cert.FfnDownRefIdeal.Read.val_main_v0_eq _ _).trans (congr (congrArg (Cert.FfnDownRefIdeal.Read.val_main_v0 (F := Ideal)) (hag c).1) (hag c).2.1)), (h c).2.2⟩)
      (Cert.FfnDownRefIdeal.Value.run (F := Ideal) m' ρ')⟩

theorem frame_FfnBwd2 : Cert.quiescent_FfnBwd2 := fun m ρ _ => Cert.FfnBwd2.Gen.frame m ρ

theorem frame_FfnBwd2Ideal : Cert.quiescent_FfnBwd2Ideal := fun m ρ _ => Cert.FfnBwd2Ideal.Gen.frame m ρ

/-- The reference runs; it has no semaphores. -/
theorem frame_FfnBwd2RefIdeal : Cert.quiescent_FfnBwd2RefIdeal := fun m ρ _ =>
  (θ_run Cert.FfnBwd2RefIdeal.defs _ _).mono (fun r h => ⟨fun c => (h c).2.2, sem_eq_zero_of_no_sems (by decide) r.2⟩)
    (Cert.FfnBwd2RefIdeal.Value.run (F := Ideal) m ρ)

theorem value_FfnBwd2Ref : Cert.algebraic_FfnBwd2Ideal_FfnBwd2RefIdeal_pre_finite_ffn := fun m ρ m' ρ' hpre hag =>
  ⟨fun c => Cert.FfnBwd2RefIdeal.Read.val_main_v52 (F := Ideal) (Cert.FfnBwd2Ideal.Sum.a0 m c) (Cert.FfnBwd2Ideal.Sum.a1 m c) (Cert.FfnBwd2Ideal.Sum.a2 m c) (Cert.FfnBwd2Ideal.Sum.a4 m c) (Cert.FfnBwd2Ideal.Sum.a5 m c) (Cert.FfnBwd2Ideal.Sum.a6 m c) (Cert.FfnBwd2Ideal.Sum.a7 m c) (Cert.FfnBwd2Ideal.Sum.a8 m c),
    fun c => Cert.FfnBwd2RefIdeal.Read.val_main_v54 (F := Ideal) (Cert.FfnBwd2Ideal.Sum.a0 m c) (Cert.FfnBwd2Ideal.Sum.a1 m c) (Cert.FfnBwd2Ideal.Sum.a2 m c) (Cert.FfnBwd2Ideal.Sum.a4 m c) (Cert.FfnBwd2Ideal.Sum.a5 m c) (Cert.FfnBwd2Ideal.Sum.a6 m c) (Cert.FfnBwd2Ideal.Sum.a7 m c),
    (θ_run Cert.FfnBwd2Ideal.defs _ _).mono (fun _ h c => ⟨(h c).1.trans ((Cert.FfnBwd2Ideal.Value.final8 m c).trans (Cert.FfnBwd2Ideal.Sum.result8 m c (fun i => Cert.NormBack.fin_of_lt _ (congrFun (hpre c).1 i)) (fun i => Cert.NormBack.fin_of_lt _ (congrFun (hpre c).2.1 i)) (fun i => Cert.NormBack.fin_of_lt _ (congrFun (hpre c).2.2.1 i)) (fun i => Cert.NormBack.fin_of_lt _ (congrFun (hpre c).2.2.2.1 i)) (fun i => Cert.NormBack.fin_of_lt _ (congrFun (hpre c).2.2.2.2.1 i)) (fun i => Cert.NormBack.fin_of_lt _ (congrFun (hpre c).2.2.2.2.2.1 i)) (fun i => Cert.NormBack.fin_of_lt _ (congrFun (hpre c).2.2.2.2.2.2 i)))),
      (h c).2.1.trans (Cert.FfnBwd2Ideal.Sum.result9 m c), (h c).2.2⟩) (Cert.FfnBwd2Ideal.Value.run_blocks m ρ),
    (θ_run Cert.FfnBwd2RefIdeal.defs _ _).mono (fun _ h c => ⟨(h c).1.trans ((Cert.FfnBwd2RefIdeal.Read.val_main_v52_eq _ _).trans (congr (congr (congr (congr (congr (congr (congr (congrArg (Cert.FfnBwd2RefIdeal.Read.val_main_v52 (F := Ideal)) (hag c).1) (hag c).2.1) (hag c).2.2.1) (hag c).2.2.2.2.1) (hag c).2.2.2.2.2.1) (hag c).2.2.2.2.2.2.1) (hag c).2.2.2.2.2.2.2.1) (hag c).2.2.2.2.2.2.2.2)),
      (h c).2.1.trans ((Cert.FfnBwd2RefIdeal.Read.val_main_v54_eq _ _ _ _ _ _ _).trans (congr (congr (congr (congr (congr (congr (congrArg (Cert.FfnBwd2RefIdeal.Read.val_main_v54 (F := Ideal)) (hag c).1) (hag c).2.1) (hag c).2.2.1) (hag c).2.2.2.2.1) (hag c).2.2.2.2.2.1) (hag c).2.2.2.2.2.2.1) (hag c).2.2.2.2.2.2.2.1)), (h c).2.2⟩)
      (Cert.FfnBwd2RefIdeal.Value.run (F := Ideal) m' ρ')⟩

theorem frame_LnmodBwd : Cert.quiescent_LnmodBwd := fun m ρ _ => Cert.LnmodBwd.Gen.frame m ρ

theorem frame_LnmodBwdIdeal : Cert.quiescent_LnmodBwdIdeal := fun m ρ _ => Cert.LnmodBwdIdeal.Gen.frame m ρ

/-- The reference runs; it has no semaphores. -/
theorem frame_LnmodBwdRefIdeal : Cert.quiescent_LnmodBwdRefIdeal := fun m ρ _ =>
  (θ_run Cert.LnmodBwdRefIdeal.defs _ _).mono (fun r h => ⟨fun c => (h c).2.2, sem_eq_zero_of_no_sems (by decide) r.2⟩)
    (Cert.LnmodBwdRefIdeal.Value.run (F := Ideal) m ρ)

theorem value_LnmodBwdRef : Cert.algebraic_LnmodBwdIdeal_LnmodBwdRefIdeal_pre_finite_norm := fun m ρ m' ρ' hpre hag =>
  ⟨fun c => Cert.LnmodBwdRefIdeal.Read.val_main_v48 (F := Ideal) (Cert.LnmodBwdIdeal.Sum.a0 m c) (Cert.LnmodBwdIdeal.Sum.a1 m c) (Cert.LnmodBwdIdeal.Sum.a2 m c) (Cert.LnmodBwdIdeal.Sum.a4 m c) (Cert.LnmodBwdIdeal.Sum.a5 m c),
    fun c => Cert.LnmodBwdRefIdeal.Read.val_main_v50 (F := Ideal) (Cert.LnmodBwdIdeal.Sum.a0 m c) (Cert.LnmodBwdIdeal.Sum.a1 m c) (Cert.LnmodBwdIdeal.Sum.a2 m c) (Cert.LnmodBwdIdeal.Sum.a4 m c),
    (θ_run Cert.LnmodBwdIdeal.defs _ _).mono (fun _ h c => ⟨(h c).1.trans ((Cert.LnmodBwdIdeal.Sum.result5 m c (fun i => Cert.NormBack.fin_of_lt _ (congrFun (hpre c).1 i)) (fun i => Cert.NormBack.fin_of_lt _ (congrFun (hpre c).2.1 i)) (fun i => Cert.NormBack.fin_of_lt _ (congrFun (hpre c).2.2.1 i)) (fun i => Cert.NormBack.fin_of_lt _ (congrFun (hpre c).2.2.2 i)))),
      (h c).2.1.trans (Cert.LnmodBwdIdeal.Sum.result6 m c), (h c).2.2⟩) (Cert.LnmodBwdIdeal.Value.run_blocks m ρ),
    (θ_run Cert.LnmodBwdRefIdeal.defs _ _).mono (fun _ h c => ⟨(h c).1.trans ((Cert.LnmodBwdRefIdeal.Read.val_main_v48_eq _ _).trans (congr (congr (congr (congr (congrArg (Cert.LnmodBwdRefIdeal.Read.val_main_v48 (F := Ideal)) (hag c).1) (hag c).2.1) (hag c).2.2.1) (hag c).2.2.2.2.1) (hag c).2.2.2.2.2)),
      (h c).2.1.trans ((Cert.LnmodBwdRefIdeal.Read.val_main_v50_eq _ _ _ _).trans (congr (congr (congr (congrArg (Cert.LnmodBwdRefIdeal.Read.val_main_v50 (F := Ideal)) (hag c).1) (hag c).2.1) (hag c).2.2.1) (hag c).2.2.2.2.1)), (h c).2.2⟩)
      (Cert.LnmodBwdRefIdeal.Value.run (F := Ideal) m' ρ')⟩

theorem frame_OutBwd : Cert.quiescent_OutBwd := fun m ρ _ => Cert.OutBwd.Gen.frame m ρ

theorem frame_OutBwdIdeal : Cert.quiescent_OutBwdIdeal := fun m ρ _ => Cert.OutBwdIdeal.Gen.frame m ρ

/-- The reference runs; it has no semaphores. -/
theorem frame_OutBwdRefIdeal : Cert.quiescent_OutBwdRefIdeal := fun m ρ _ =>
  (θ_run Cert.OutBwdRefIdeal.defs _ _).mono (fun r h => ⟨fun c => (h c).2.2.2.2.2.2.2, sem_eq_zero_of_no_sems (by decide) r.2⟩)
    (Cert.OutBwdRefIdeal.Value.run (F := Ideal) m ρ)

theorem value_OutBwdRef : Cert.algebraic_OutBwdIdeal_OutBwdRefIdeal_on_gate_columns := fun m ρ m' ρ' _ hag =>
  ⟨fun c => Cert.OutBwdRefIdeal.Read.val_main_v44 (F := Ideal) (Cert.OutBwdIdeal.Sum.a6 m c) (Cert.OutBwdIdeal.Sum.a7 m c),
    fun c => Cert.OutBwdRefIdeal.Read.val_main_v45 (F := Ideal) (Cert.OutBwdIdeal.Sum.a4 m c) (Cert.OutBwdIdeal.Sum.a5 m c) (Cert.OutBwdIdeal.Sum.a6 m c) (Cert.OutBwdIdeal.Sum.a7 m c),
    fun c => Cert.OutBwdRefIdeal.Read.val_main_v46 (F := Ideal) (Cert.OutBwdIdeal.Sum.a4 m c) (Cert.OutBwdIdeal.Sum.a5 m c) (Cert.OutBwdIdeal.Sum.a6 m c) (Cert.OutBwdIdeal.Sum.a7 m c),
    fun c => Cert.OutBwdRefIdeal.Read.val_main_v47 (F := Ideal) (Cert.OutBwdIdeal.Sum.a2 m c) (Cert.OutBwdIdeal.Sum.a4 m c) (Cert.OutBwdIdeal.Sum.a5 m c) (Cert.OutBwdIdeal.Sum.a6 m c) (Cert.OutBwdIdeal.Sum.a7 m c),
    fun c => Cert.OutBwdRefIdeal.Read.val_main_v48 (F := Ideal) (Cert.OutBwdIdeal.Sum.a3 m c) (Cert.OutBwdIdeal.Sum.a4 m c) (Cert.OutBwdIdeal.Sum.a5 m c) (Cert.OutBwdIdeal.Sum.a6 m c) (Cert.OutBwdIdeal.Sum.a7 m c),
    fun c => Cert.OutBwdRefIdeal.Read.val_main_v49 (F := Ideal) (Cert.OutBwdIdeal.Sum.a0 m c) (Cert.OutBwdIdeal.Sum.a1 m c) (Cert.OutBwdIdeal.Sum.a2 m c) (Cert.OutBwdIdeal.Sum.a3 m c) (Cert.OutBwdIdeal.Sum.a4 m c) (Cert.OutBwdIdeal.Sum.a5 m c) (Cert.OutBwdIdeal.Sum.a6 m c) (Cert.OutBwdIdeal.Sum.a7 m c),
    fun c => Cert.OutBwdRefIdeal.Read.val_main_v51 (F := Ideal) (Cert.OutBwdIdeal.Sum.a0 m c) (Cert.OutBwdIdeal.Sum.a1 m c) (Cert.OutBwdIdeal.Sum.a2 m c) (Cert.OutBwdIdeal.Sum.a3 m c) (Cert.OutBwdIdeal.Sum.a4 m c) (Cert.OutBwdIdeal.Sum.a5 m c) (Cert.OutBwdIdeal.Sum.a7 m c),
    (θ_run Cert.OutBwdIdeal.defs _ _).mono (fun _ h c => ⟨fun i _ => congrFun ((h c).1.trans (Cert.OutBwdIdeal.Sum.result10 m c)) i,
      fun i _ => congrFun ((h c).2.1.trans (Cert.OutBwdIdeal.Sum.result11 m c)) i,
      fun i _ => congrFun ((h c).2.2.1.trans (Cert.OutBwdIdeal.Sum.result12 m c)) i,
      fun i _ => congrFun ((h c).2.2.2.1.trans (Cert.OutBwdIdeal.Sum.result13 m c)) i,
      fun i _ => congrFun ((h c).2.2.2.2.1.trans (Cert.OutBwdIdeal.Sum.result14 m c)) i,
      fun i hi => (congrFun ((h c).2.2.2.2.2.1) i).trans (Cert.OutBwdIdeal.Sum.result15 m c i (Cert.GateColumns.col_of_mask _ _ _ _ _ _ _ _ i hi)),
      fun i _ => congrFun ((h c).2.2.2.2.2.2.1.trans (Cert.OutBwdIdeal.Sum.result16 m c)) i, (h c).2.2.2.2.2.2.2⟩) (Cert.OutBwdIdeal.Value.run_blocks m ρ),
    (θ_run Cert.OutBwdRefIdeal.defs _ _).mono (fun _ h c => ⟨fun i _ => congrFun ((h c).1.trans ((Cert.OutBwdRefIdeal.Read.val_main_v44_eq _ _).trans (congr (congrArg (Cert.OutBwdRefIdeal.Read.val_main_v44 (F := Ideal)) (hag c).2.2.2.2.2.2.1) (hag c).2.2.2.2.2.2.2))) i,
      fun i _ => congrFun ((h c).2.1.trans ((Cert.OutBwdRefIdeal.Read.val_main_v45_eq _ _ _ _).trans (congr (congr (congr (congrArg (Cert.OutBwdRefIdeal.Read.val_main_v45 (F := Ideal)) (hag c).2.2.2.2.1) (hag c).2.2.2.2.2.1) (hag c).2.2.2.2.2.2.1) (hag c).2.2.2.2.2.2.2))) i,
      fun i _ => congrFun ((h c).2.2.1.trans ((Cert.OutBwdRefIdeal.Read.val_main_v46_eq _ _ _ _).trans (congr (congr (congr (congrArg (Cert.OutBwdRefIdeal.Read.val_main_v46 (F := Ideal)) (hag c).2.2.2.2.1) (hag c).2.2.2.2.2.1) (hag c).2.2.2.2.2.2.1) (hag c).2.2.2.2.2.2.2))) i,
      fun i _ => congrFun ((h c).2.2.2.1.trans ((Cert.OutBwdRefIdeal.Read.val_main_v47_eq _ _ _ _ _).trans (congr (congr (congr (congr (congrArg (Cert.OutBwdRefIdeal.Read.val_main_v47 (F := Ideal)) (hag c).2.2.1) (hag c).2.2.2.2.1) (hag c).2.2.2.2.2.1) (hag c).2.2.2.2.2.2.1) (hag c).2.2.2.2.2.2.2))) i,
      fun i _ => congrFun ((h c).2.2.2.2.1.trans ((Cert.OutBwdRefIdeal.Read.val_main_v48_eq _ _ _ _ _).trans (congr (congr (congr (congr (congrArg (Cert.OutBwdRefIdeal.Read.val_main_v48 (F := Ideal)) (hag c).2.2.2.1) (hag c).2.2.2.2.1) (hag c).2.2.2.2.2.1) (hag c).2.2.2.2.2.2.1) (hag c).2.2.2.2.2.2.2))) i,
      fun i _ => congrFun ((h c).2.2.2.2.2.1.trans ((Cert.OutBwdRefIdeal.Read.val_main_v49_eq _ _ _ _ _ _ _ _).trans (congr (congr (congr (congr (congr (congr (congr (congrArg (Cert.OutBwdRefIdeal.Read.val_main_v49 (F := Ideal)) (hag c).1) (hag c).2.1) (hag c).2.2.1) (hag c).2.2.2.1) (hag c).2.2.2.2.1) (hag c).2.2.2.2.2.1) (hag c).2.2.2.2.2.2.1) (hag c).2.2.2.2.2.2.2))) i,
      fun i _ => congrFun ((h c).2.2.2.2.2.2.1.trans ((Cert.OutBwdRefIdeal.Read.val_main_v51_eq _ _ _ _ _ _ _).trans (congr (congr (congr (congr (congr (congr (congrArg (Cert.OutBwdRefIdeal.Read.val_main_v51 (F := Ideal)) (hag c).1) (hag c).2.1) (hag c).2.2.1) (hag c).2.2.2.1) (hag c).2.2.2.2.1) (hag c).2.2.2.2.2.1) (hag c).2.2.2.2.2.2.2))) i, (h c).2.2.2.2.2.2.2⟩)
      (Cert.OutBwdRefIdeal.Value.run (F := Ideal) m' ρ')⟩

theorem claim : Cert.Claim := ⟨Cert.SumAdamFfn.Gen.facts, Cert.SumAdamFfnIdeal.Gen.facts, Cert.SumAdamFfnRefIdeal.Gen.facts, Cert.SumAdamSquare.Gen.facts, Cert.SumAdamSquareIdeal.Gen.facts, Cert.SumAdamSquareRefIdeal.Gen.facts, Cert.SumAdamWin.Gen.facts, Cert.SumAdamWinIdeal.Gen.facts, Cert.SumAdamWinRefIdeal.Gen.facts, Cert.SmallAdam.Gen.facts, Cert.SmallAdamIdeal.Gen.facts, Cert.SmallAdamRefIdeal.Gen.facts, Cert.AdaGrad.Gen.facts, Cert.AdaGradIdeal.Gen.facts, Cert.AdaGradRefIdeal.Gen.facts, Cert.GradFfn.Gen.facts, Cert.GradFfnIdeal.Gen.facts, Cert.GradWdRefIdeal.Gen.facts, Cert.GradWgRefIdeal.Gen.facts, Cert.GradSquare.Gen.facts, Cert.GradSquareIdeal.Gen.facts, Cert.GradSquareRefIdeal.Gen.facts, Cert.GradWin.Gen.facts, Cert.GradWinIdeal.Gen.facts, Cert.GradWinRefIdeal.Gen.facts, Cert.MmInBwd.Gen.facts, Cert.MmInBwdIdeal.Gen.facts, Cert.MmInBwdRefIdeal.Gen.facts, Cert.Lnmod.Gen.facts, Cert.LnmodIdeal.Gen.facts, Cert.LnmodRefIdeal.Gen.facts, Cert.MmIn.Gen.facts, Cert.MmInIdeal.Gen.facts, Cert.MmInRefIdeal.Gen.facts, Cert.Branch.Gen.facts, Cert.BranchIdeal.Gen.facts, Cert.BranchRefIdeal.Gen.facts, Cert.OutProj.Gen.facts, Cert.OutProjIdeal.Gen.facts, Cert.OutProjRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.FfnBwd2.Gen.facts, Cert.FfnBwd2Ideal.Gen.facts, Cert.FfnBwd2RefIdeal.Gen.facts, Cert.LnmodBwd.Gen.facts, Cert.LnmodBwdIdeal.Gen.facts, Cert.LnmodBwdRefIdeal.Gen.facts, Cert.OutBwd.Gen.facts, Cert.OutBwdIdeal.Gen.facts, Cert.OutBwdRefIdeal.Gen.facts, Cert.Pre_finite_ffn.Gen.facts, Cert.Pre_finite_norm.Gen.facts, Cert.On_gate_columns.Gen.facts,
  frame_SumAdamFfn, frame_SumAdamFfnIdeal, frame_SumAdamFfnRefIdeal, frame_SumAdamSquare, frame_SumAdamSquareIdeal, frame_SumAdamSquareRefIdeal, frame_SumAdamWin, frame_SumAdamWinIdeal, frame_SumAdamWinRefIdeal, frame_SmallAdam, frame_SmallAdamIdeal, frame_SmallAdamRefIdeal, frame_AdaGrad, frame_AdaGradIdeal, frame_AdaGradRefIdeal, frame_GradFfn, frame_GradFfnIdeal, frame_GradWdRefIdeal, frame_GradWgRefIdeal, frame_GradSquare, frame_GradSquareIdeal, frame_GradSquareRefIdeal, frame_GradWin, frame_GradWinIdeal, frame_GradWinRefIdeal, frame_MmInBwd, frame_MmInBwdIdeal, frame_MmInBwdRefIdeal, frame_Lnmod, frame_LnmodIdeal, frame_LnmodRefIdeal, frame_MmIn, frame_MmInIdeal, frame_MmInRefIdeal, frame_Branch, frame_BranchIdeal, frame_BranchRefIdeal, frame_OutProj, frame_OutProjIdeal, frame_OutProjRefIdeal, frame_FfnUp, frame_FfnUpIdeal, frame_FfnUpRefIdeal, frame_FfnDown, frame_FfnDownIdeal, frame_FfnDownRefIdeal, frame_FfnBwd2, frame_FfnBwd2Ideal, (fun m ρ _ => frame_FfnBwd2Ideal m ρ trivial), frame_FfnBwd2RefIdeal, (fun m ρ _ => frame_FfnBwd2RefIdeal m ρ trivial), frame_LnmodBwd, frame_LnmodBwdIdeal, (fun m ρ _ => frame_LnmodBwdIdeal m ρ trivial), frame_LnmodBwdRefIdeal, (fun m ρ _ => frame_LnmodBwdRefIdeal m ρ trivial), frame_OutBwd, frame_OutBwdIdeal, frame_OutBwdRefIdeal,
  trivial, value_SumAdamFfnRef, trivial, value_SumAdamSquareRef, trivial, value_SumAdamWinRef, trivial, value_SmallAdamRef, trivial, value_AdaGradRef, trivial, value_GradWdRef, value_GradWgRef, trivial, value_GradSquareRef, trivial, value_GradWinRef, trivial, value_MmInBwdRef, trivial, value_LnmodRef, trivial, value_MmInRef, trivial, value_BranchRef, trivial, value_OutProjRef, trivial, value_FfnUpRef, trivial, value_FfnDownRef, trivial, value_FfnBwd2Ref, trivial, value_LnmodBwdRef, trivial, value_OutBwdRef⟩

end Cert.Proof

end
